-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_MlpDh (m : (ℓ : Loc Cert.MlpDh.nD Cert.MlpDh.τ Cert.MlpDh.sig) → Buf (Elt Bits) ℓ) : Prop :=
  True

def Pre_MlpDhIdeal (m : (ℓ : Loc Cert.MlpDhIdeal.nD Cert.MlpDhIdeal.τ Cert.MlpDhIdeal.sig) → Buf (Elt Ideal) ℓ) : Prop :=
  True

def Pre_MlpDhReferenceIdeal (m : (ℓ : Loc Cert.MlpDhReferenceIdeal.nD Cert.MlpDhReferenceIdeal.τ Cert.MlpDhReferenceIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutReferenceIdeal (m : (ℓ : Loc Cert.MlpOutReferenceIdeal.nD Cert.MlpOutReferenceIdeal.τ Cert.MlpOutReferenceIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbReferenceIdeal (m : (ℓ : Loc Cert.SbReferenceIdeal.nD Cert.SbReferenceIdeal.τ Cert.SbReferenceIdeal.sig) → Buf (Elt Ideal) ℓ) : Prop :=
  True

def Pre_SbDh (m : (ℓ : Loc Cert.SbDh.nD Cert.SbDh.τ Cert.SbDh.sig) → Buf (Elt Bits) ℓ) : Prop :=
  True

def Pre_SbDhIdeal (m : (ℓ : Loc Cert.SbDhIdeal.nD Cert.SbDhIdeal.τ Cert.SbDhIdeal.sig) → Buf (Elt Ideal) ℓ) : Prop :=
  True

def Pre_SbDhReferenceIdeal (m : (ℓ : Loc Cert.SbDhReferenceIdeal.nD Cert.SbDhReferenceIdeal.τ Cert.SbDhReferenceIdeal.sig) → Buf (Elt Ideal) ℓ) : Prop :=
  True

def Pre_Ca (m : (ℓ : Loc Cert.Ca.nD Cert.Ca.τ Cert.Ca.sig) → Buf (Elt Bits) ℓ) : Prop :=
  True

def Pre_CaIdeal (m : (ℓ : Loc Cert.CaIdeal.nD Cert.CaIdeal.τ Cert.CaIdeal.sig) → Buf (Elt Ideal) ℓ) : Prop :=
  True

def Pre_CaReferenceIdeal (m : (ℓ : Loc Cert.CaReferenceIdeal.nD Cert.CaReferenceIdeal.τ Cert.CaReferenceIdeal.sig) → Buf (Elt Ideal) ℓ) : Prop :=
  True

def Pre_CaDh (m : (ℓ : Loc Cert.CaDh.nD Cert.CaDh.τ Cert.CaDh.sig) → Buf (Elt Bits) ℓ) : Prop :=
  True

def Pre_CaDhIdeal (m : (ℓ : Loc Cert.CaDhIdeal.nD Cert.CaDhIdeal.τ Cert.CaDhIdeal.sig) → Buf (Elt Ideal) ℓ) : Prop :=
  True

def Pre_CaDhReferenceIdeal (m : (ℓ : Loc Cert.CaDhReferenceIdeal.nD Cert.CaDhReferenceIdeal.τ Cert.CaDhReferenceIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaReferenceIdeal (m : (ℓ : Loc Cert.MlaReferenceIdeal.nD Cert.MlaReferenceIdeal.τ Cert.MlaReferenceIdeal.sig) → Buf (Elt Ideal) ℓ) : Prop :=
  True

def Pre_MlaDcq (m : (ℓ : Loc Cert.MlaDcq.nD Cert.MlaDcq.τ Cert.MlaDcq.sig) → Buf (Elt Bits) ℓ) : Prop :=
  True

def Pre_MlaDcqIdeal (m : (ℓ : Loc Cert.MlaDcqIdeal.nD Cert.MlaDcqIdeal.τ Cert.MlaDcqIdeal.sig) → Buf (Elt Ideal) ℓ) : Prop :=
  True

def Pre_MlaDcqReferenceIdeal (m : (ℓ : Loc Cert.MlaDcqReferenceIdeal.nD Cert.MlaDcqReferenceIdeal.τ Cert.MlaDcqReferenceIdeal.sig) → Buf (Elt Ideal) ℓ) : Prop :=
  True

def Pre_MlaDckv (m : (ℓ : Loc Cert.MlaDckv.nD Cert.MlaDckv.τ Cert.MlaDckv.sig) → Buf (Elt Bits) ℓ) : Prop :=
  True

def Pre_MlaDckvIdeal (m : (ℓ : Loc Cert.MlaDckvIdeal.nD Cert.MlaDckvIdeal.τ Cert.MlaDckvIdeal.sig) → Buf (Elt Ideal) ℓ) : Prop :=
  True

def Pre_MlaDckvReferenceIdeal (m : (ℓ : Loc Cert.MlaDckvReferenceIdeal.nD Cert.MlaDckvReferenceIdeal.τ Cert.MlaDckvReferenceIdeal.sig) → Buf (Elt Ideal) ℓ) : Prop :=
  True

def Pre_MlaAttn (m : (ℓ : Loc Cert.MlaAttn.nD Cert.MlaAttn.τ Cert.MlaAttn.sig) → Buf (Elt Bits) ℓ) : Prop :=
  True

def Pre_MlaAttnIdeal (m : (ℓ : Loc Cert.MlaAttnIdeal.nD Cert.MlaAttnIdeal.τ Cert.MlaAttnIdeal.sig) → Buf (Elt Ideal) ℓ) : Prop :=
  True

def Pre_MlaAttnIdeal_finite_heads [hPre_finite_heads : Cert.Pre_finite_heads.Facts] (m : (ℓ : Loc Cert.MlaAttnIdeal.nD Cert.MlaAttnIdeal.τ Cert.MlaAttnIdeal.sig) → Buf (Elt Ideal) ℓ) : Prop :=
  ∀ c : Dev Cert.MlaAttnIdeal.nD,
    (Cert.Pre_finite_heads.fn (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3))).1 = (fun _ => 1#1)
    ∧ (Cert.Pre_finite_heads.fn (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3))).2.1 = (fun _ => 1#1)
    ∧ (Cert.Pre_finite_heads.fn (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3))).2.2.1 = (fun _ => 1#1)
    ∧ (Cert.Pre_finite_heads.fn (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3))).2.2.2 = (fun _ => 1#1)

def Pre_MlaAttnReferenceIdeal (m : (ℓ : Loc Cert.MlaAttnReferenceIdeal.nD Cert.MlaAttnReferenceIdeal.τ Cert.MlaAttnReferenceIdeal.sig) → Buf (Elt Ideal) ℓ) : Prop :=
  True

def Pre_MlaAttnReferenceIdeal_finite_heads [hPre_finite_heads : Cert.Pre_finite_heads.Facts] (m : (ℓ : Loc Cert.MlaAttnReferenceIdeal.nD Cert.MlaAttnReferenceIdeal.τ Cert.MlaAttnReferenceIdeal.sig) → Buf (Elt Ideal) ℓ) : Prop :=
  ∀ c : Dev Cert.MlaAttnReferenceIdeal.nD,
    (Cert.Pre_finite_heads.fn (F := Ideal) (m ((c.tc : Thread Cert.MlaAttnReferenceIdeal.nD Cert.MlaAttnReferenceIdeal.τ).loc Cert.MlaAttnReferenceIdeal.main_arg0)) (m ((c.tc : Thread Cert.MlaAttnReferenceIdeal.nD Cert.MlaAttnReferenceIdeal.τ).loc Cert.MlaAttnReferenceIdeal.main_arg1)) (m ((c.tc : Thread Cert.MlaAttnReferenceIdeal.nD Cert.MlaAttnReferenceIdeal.τ).loc Cert.MlaAttnReferenceIdeal.main_arg2)) (m ((c.tc : Thread Cert.MlaAttnReferenceIdeal.nD Cert.MlaAttnReferenceIdeal.τ).loc Cert.MlaAttnReferenceIdeal.main_arg3))).1 = (fun _ => 1#1)
    ∧ (Cert.Pre_finite_heads.fn (F := Ideal) (m ((c.tc : Thread Cert.MlaAttnReferenceIdeal.nD Cert.MlaAttnReferenceIdeal.τ).loc Cert.MlaAttnReferenceIdeal.main_arg0)) (m ((c.tc : Thread Cert.MlaAttnReferenceIdeal.nD Cert.MlaAttnReferenceIdeal.τ).loc Cert.MlaAttnReferenceIdeal.main_arg1)) (m ((c.tc : Thread Cert.MlaAttnReferenceIdeal.nD Cert.MlaAttnReferenceIdeal.τ).loc Cert.MlaAttnReferenceIdeal.main_arg2)) (m ((c.tc : Thread Cert.MlaAttnReferenceIdeal.nD Cert.MlaAttnReferenceIdeal.τ).loc Cert.MlaAttnReferenceIdeal.main_arg3))).2.1 = (fun _ => 1#1)
    ∧ (Cert.Pre_finite_heads.fn (F := Ideal) (m ((c.tc : Thread Cert.MlaAttnReferenceIdeal.nD Cert.MlaAttnReferenceIdeal.τ).loc Cert.MlaAttnReferenceIdeal.main_arg0)) (m ((c.tc : Thread Cert.MlaAttnReferenceIdeal.nD Cert.MlaAttnReferenceIdeal.τ).loc Cert.MlaAttnReferenceIdeal.main_arg1)) (m ((c.tc : Thread Cert.MlaAttnReferenceIdeal.nD Cert.MlaAttnReferenceIdeal.τ).loc Cert.MlaAttnReferenceIdeal.main_arg2)) (m ((c.tc : Thread Cert.MlaAttnReferenceIdeal.nD Cert.MlaAttnReferenceIdeal.τ).loc Cert.MlaAttnReferenceIdeal.main_arg3))).2.2.1 = (fun _ => 1#1)
    ∧ (Cert.Pre_finite_heads.fn (F := Ideal) (m ((c.tc : Thread Cert.MlaAttnReferenceIdeal.nD Cert.MlaAttnReferenceIdeal.τ).loc Cert.MlaAttnReferenceIdeal.main_arg0)) (m ((c.tc : Thread Cert.MlaAttnReferenceIdeal.nD Cert.MlaAttnReferenceIdeal.τ).loc Cert.MlaAttnReferenceIdeal.main_arg1)) (m ((c.tc : Thread Cert.MlaAttnReferenceIdeal.nD Cert.MlaAttnReferenceIdeal.τ).loc Cert.MlaAttnReferenceIdeal.main_arg2)) (m ((c.tc : Thread Cert.MlaAttnReferenceIdeal.nD Cert.MlaAttnReferenceIdeal.τ).loc Cert.MlaAttnReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_MlpDh [hMlpDh : Cert.MlpDh.Facts] : Prop :=
  ∀ (m : (ℓ : Loc Cert.MlpDh.nD Cert.MlpDh.τ Cert.MlpDh.sig) → Buf (Elt Bits) ℓ) (g : Dev Cert.MlpDh.nD → PrngReg), Pre_MlpDh m →
    θ_run (Cert.MlpDh.defs (F := Bits)) (onTc (τ := Cert.MlpDh.τ) (Cert.MlpDh.main (F := Bits))) ⟨m, fun _ => 0, g⟩ (fun r => (∀ c : Dev Cert.MlpDh.nD,
      r.2.mem ((c.tc : Thread Cert.MlpDh.nD Cert.MlpDh.τ).loc Cert.MlpDh.main_arg0) = m ((c.tc : Thread Cert.MlpDh.nD Cert.MlpDh.τ).loc Cert.MlpDh.main_arg0)
      ∧ r.2.mem ((c.tc : Thread Cert.MlpDh.nD Cert.MlpDh.τ).loc Cert.MlpDh.main_arg1) = m ((c.tc : Thread Cert.MlpDh.nD Cert.MlpDh.τ).loc Cert.MlpDh.main_arg1))
      ∧ r.2.sem = fun _ => 0)

def quiescent_MlpDhIdeal [hMlpDhIdeal : Cert.MlpDhIdeal.Facts] : Prop :=
  ∀ (m : (ℓ : Loc Cert.MlpDhIdeal.nD Cert.MlpDhIdeal.τ Cert.MlpDhIdeal.sig) → Buf (Elt Ideal) ℓ) (g : Dev Cert.MlpDhIdeal.nD → PrngReg), Pre_MlpDhIdeal m →
    θ_run (Cert.MlpDhIdeal.defs (F := Ideal)) (onTc (τ := Cert.MlpDhIdeal.τ) (Cert.MlpDhIdeal.main (F := Ideal))) ⟨m, fun _ => 0, g⟩ (fun r => (∀ c : Dev Cert.MlpDhIdeal.nD,
      r.2.mem ((c.tc : Thread Cert.MlpDhIdeal.nD Cert.MlpDhIdeal.τ).loc Cert.MlpDhIdeal.main_arg0) = m ((c.tc : Thread Cert.MlpDhIdeal.nD Cert.MlpDhIdeal.τ).loc Cert.MlpDhIdeal.main_arg0)
      ∧ r.2.mem ((c.tc : Thread Cert.MlpDhIdeal.nD Cert.MlpDhIdeal.τ).loc Cert.MlpDhIdeal.main_arg1) = m ((c.tc : Thread Cert.MlpDhIdeal.nD Cert.MlpDhIdeal.τ).loc Cert.MlpDhIdeal.main_arg1))
      ∧ r.2.sem = fun _ => 0)

def quiescent_MlpDhReferenceIdeal [hMlpDhReferenceIdeal : Cert.MlpDhReferenceIdeal.Facts] : Prop :=
  ∀ (m : (ℓ : Loc Cert.MlpDhReferenceIdeal.nD Cert.MlpDhReferenceIdeal.τ Cert.MlpDhReferenceIdeal.sig) → Buf (Elt Ideal) ℓ) (g : Dev Cert.MlpDhReferenceIdeal.nD → PrngReg), Pre_MlpDhReferenceIdeal m →
    θ_run (Cert.MlpDhReferenceIdeal.defs (F := Ideal)) (onTc (τ := Cert.MlpDhReferenceIdeal.τ) (Cert.MlpDhReferenceIdeal.main (F := Ideal))) ⟨m, fun _ => 0, g⟩ (fun r => (∀ c : Dev Cert.MlpDhReferenceIdeal.nD,
      r.2.mem ((c.tc : Thread Cert.MlpDhReferenceIdeal.nD Cert.MlpDhReferenceIdeal.τ).loc Cert.MlpDhReferenceIdeal.main_arg0) = m ((c.tc : Thread Cert.MlpDhReferenceIdeal.nD Cert.MlpDhReferenceIdeal.τ).loc Cert.MlpDhReferenceIdeal.main_arg0)
      ∧ r.2.mem ((c.tc : Thread Cert.MlpDhReferenceIdeal.nD Cert.MlpDhReferenceIdeal.τ).loc Cert.MlpDhReferenceIdeal.main_arg1) = m ((c.tc : Thread Cert.MlpDhReferenceIdeal.nD Cert.MlpDhReferenceIdeal.τ).loc Cert.MlpDhReferenceIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ r.2.sem = fun _ => 0)

def quiescent_MlpOutReferenceIdeal [hMlpOutReferenceIdeal : Cert.MlpOutReferenceIdeal.Facts] : Prop :=
  ∀ (m : (ℓ : Loc Cert.MlpOutReferenceIdeal.nD Cert.MlpOutReferenceIdeal.τ Cert.MlpOutReferenceIdeal.sig) → Buf (Elt Ideal) ℓ) (g : Dev Cert.MlpOutReferenceIdeal.nD → PrngReg), Pre_MlpOutReferenceIdeal m →
    θ_run (Cert.MlpOutReferenceIdeal.defs (F := Ideal)) (onTc (τ := Cert.MlpOutReferenceIdeal.τ) (Cert.MlpOutReferenceIdeal.main (F := Ideal))) ⟨m, fun _ => 0, g⟩ (fun r => (∀ c : Dev Cert.MlpOutReferenceIdeal.nD,
      r.2.mem ((c.tc : Thread Cert.MlpOutReferenceIdeal.nD Cert.MlpOutReferenceIdeal.τ).loc Cert.MlpOutReferenceIdeal.main_arg0) = m ((c.tc : Thread Cert.MlpOutReferenceIdeal.nD Cert.MlpOutReferenceIdeal.τ).loc Cert.MlpOutReferenceIdeal.main_arg0)
      ∧ r.2.mem ((c.tc : Thread Cert.MlpOutReferenceIdeal.nD Cert.MlpOutReferenceIdeal.τ).loc Cert.MlpOutReferenceIdeal.main_arg1) = m ((c.tc : Thread Cert.MlpOutReferenceIdeal.nD Cert.MlpOutReferenceIdeal.τ).loc Cert.MlpOutReferenceIdeal.main_arg1))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2)
      ∧ r.2.mem ((c.tc : Thread Cert.Sb.nD Cert.Sb.τ).loc Cert.Sb.main_arg3) = m ((c.tc : Thread Cert.Sb.nD Cert.Sb.τ).loc Cert.Sb.main_arg3)
      ∧ r.2.mem ((c.tc : Thread Cert.Sb.nD Cert.Sb.τ).loc Cert.Sb.main_arg4) = m ((c.tc : Thread Cert.Sb.nD Cert.Sb.τ).loc Cert.Sb.main_arg4)
      ∧ r.2.mem ((c.tc : Thread Cert.Sb.nD Cert.Sb.τ).loc Cert.Sb.main_arg5) = m ((c.tc : Thread Cert.Sb.nD Cert.Sb.τ).loc Cert.Sb.main_arg5))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
      ∧ r.2.mem ((c.tc : Thread Cert.SbIdeal.nD Cert.SbIdeal.τ).loc Cert.SbIdeal.main_arg4) = m ((c.tc : Thread Cert.SbIdeal.nD Cert.SbIdeal.τ).loc Cert.SbIdeal.main_arg4)
      ∧ r.2.mem ((c.tc : Thread Cert.SbIdeal.nD Cert.SbIdeal.τ).loc Cert.SbIdeal.main_arg5) = m ((c.tc : Thread Cert.SbIdeal.nD Cert.SbIdeal.τ).loc Cert.SbIdeal.main_arg5))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3)
      ∧ r.2.mem ((c.tc : Thread Cert.SbReferenceIdeal.nD Cert.SbReferenceIdeal.τ).loc Cert.SbReferenceIdeal.main_arg4) = m ((c.tc : Thread Cert.SbReferenceIdeal.nD Cert.SbReferenceIdeal.τ).loc Cert.SbReferenceIdeal.main_arg4)
      ∧ r.2.mem ((c.tc : Thread Cert.SbReferenceIdeal.nD Cert.SbReferenceIdeal.τ).loc Cert.SbReferenceIdeal.main_arg5) = m ((c.tc : Thread Cert.SbReferenceIdeal.nD Cert.SbReferenceIdeal.τ).loc Cert.SbReferenceIdeal.main_arg5))
      ∧ r.2.sem = fun _ => 0)

def quiescent_SbDh [hSbDh : Cert.SbDh.Facts] : Prop :=
  ∀ (m : (ℓ : Loc Cert.SbDh.nD Cert.SbDh.τ Cert.SbDh.sig) → Buf (Elt Bits) ℓ) (g : Dev Cert.SbDh.nD → PrngReg), Pre_SbDh m →
    θ_run (Cert.SbDh.defs (F := Bits)) (onTc (τ := Cert.SbDh.τ) (Cert.SbDh.main (F := Bits))) ⟨m, fun _ => 0, g⟩ (fun r => (∀ c : Dev Cert.SbDh.nD,
      r.2.mem ((c.tc : Thread Cert.SbDh.nD Cert.SbDh.τ).loc Cert.SbDh.main_arg0) = m ((c.tc : Thread Cert.SbDh.nD Cert.SbDh.τ).loc Cert.SbDh.main_arg0)
      ∧ r.2.mem ((c.tc : Thread Cert.SbDh.nD Cert.SbDh.τ).loc Cert.SbDh.main_arg1) = m ((c.tc : Thread Cert.SbDh.nD Cert.SbDh.τ).loc Cert.SbDh.main_arg1))
      ∧ r.2.sem = fun _ => 0)

def quiescent_SbDhIdeal [hSbDhIdeal : Cert.SbDhIdeal.Facts] : Prop :=
  ∀ (m : (ℓ : Loc Cert.SbDhIdeal.nD Cert.SbDhIdeal.τ Cert.SbDhIdeal.sig) → Buf (Elt Ideal) ℓ) (g : Dev Cert.SbDhIdeal.nD → PrngReg), Pre_SbDhIdeal m →
    θ_run (Cert.SbDhIdeal.defs (F := Ideal)) (onTc (τ := Cert.SbDhIdeal.τ) (Cert.SbDhIdeal.main (F := Ideal))) ⟨m, fun _ => 0, g⟩ (fun r => (∀ c : Dev Cert.SbDhIdeal.nD,
      r.2.mem ((c.tc : Thread Cert.SbDhIdeal.nD Cert.SbDhIdeal.τ).loc Cert.SbDhIdeal.main_arg0) = m ((c.tc : Thread Cert.SbDhIdeal.nD Cert.SbDhIdeal.τ).loc Cert.SbDhIdeal.main_arg0)
      ∧ r.2.mem ((c.tc : Thread Cert.SbDhIdeal.nD Cert.SbDhIdeal.τ).loc Cert.SbDhIdeal.main_arg1) = m ((c.tc : Thread Cert.SbDhIdeal.nD Cert.SbDhIdeal.τ).loc Cert.SbDhIdeal.main_arg1))
      ∧ r.2.sem = fun _ => 0)

def quiescent_SbDhReferenceIdeal [hSbDhReferenceIdeal : Cert.SbDhReferenceIdeal.Facts] : Prop :=
  ∀ (m : (ℓ : Loc Cert.SbDhReferenceIdeal.nD Cert.SbDhReferenceIdeal.τ Cert.SbDhReferenceIdeal.sig) → Buf (Elt Ideal) ℓ) (g : Dev Cert.SbDhReferenceIdeal.nD → PrngReg), Pre_SbDhReferenceIdeal m →
    θ_run (Cert.SbDhReferenceIdeal.defs (F := Ideal)) (onTc (τ := Cert.SbDhReferenceIdeal.τ) (Cert.SbDhReferenceIdeal.main (F := Ideal))) ⟨m, fun _ => 0, g⟩ (fun r => (∀ c : Dev Cert.SbDhReferenceIdeal.nD,
      r.2.mem ((c.tc : Thread Cert.SbDhReferenceIdeal.nD Cert.SbDhReferenceIdeal.τ).loc Cert.SbDhReferenceIdeal.main_arg0) = m ((c.tc : Thread Cert.SbDhReferenceIdeal.nD Cert.SbDhReferenceIdeal.τ).loc Cert.SbDhReferenceIdeal.main_arg0)
      ∧ r.2.mem ((c.tc : Thread Cert.SbDhReferenceIdeal.nD Cert.SbDhReferenceIdeal.τ).loc Cert.SbDhReferenceIdeal.main_arg1) = m ((c.tc : Thread Cert.SbDhReferenceIdeal.nD Cert.SbDhReferenceIdeal.τ).loc Cert.SbDhReferenceIdeal.main_arg1))
      ∧ r.2.sem = fun _ => 0)

def quiescent_Ca [hCa : Cert.Ca.Facts] : Prop :=
  ∀ (m : (ℓ : Loc Cert.Ca.nD Cert.Ca.τ Cert.Ca.sig) → Buf (Elt Bits) ℓ) (g : Dev Cert.Ca.nD → PrngReg), Pre_Ca m →
    θ_run (Cert.Ca.defs (F := Bits)) (onTc (τ := Cert.Ca.τ) (Cert.Ca.main (F := Bits))) ⟨m, fun _ => 0, g⟩ (fun r => (∀ c : Dev Cert.Ca.nD,
      r.2.mem ((c.tc : Thread Cert.Ca.nD Cert.Ca.τ).loc Cert.Ca.main_arg0) = m ((c.tc : Thread Cert.Ca.nD Cert.Ca.τ).loc Cert.Ca.main_arg0)
      ∧ r.2.mem ((c.tc : Thread Cert.Ca.nD Cert.Ca.τ).loc Cert.Ca.main_arg1) = m ((c.tc : Thread Cert.Ca.nD Cert.Ca.τ).loc Cert.Ca.main_arg1)
      ∧ r.2.mem ((c.tc : Thread Cert.Ca.nD Cert.Ca.τ).loc Cert.Ca.main_arg2) = m ((c.tc : Thread Cert.Ca.nD Cert.Ca.τ).loc Cert.Ca.main_arg2)
      ∧ r.2.mem ((c.tc : Thread Cert.Ca.nD Cert.Ca.τ).loc Cert.Ca.main_arg3) = m ((c.tc : Thread Cert.Ca.nD Cert.Ca.τ).loc Cert.Ca.main_arg3)
      ∧ r.2.mem ((c.tc : Thread Cert.Ca.nD Cert.Ca.τ).loc Cert.Ca.main_arg4) = m ((c.tc : Thread Cert.Ca.nD Cert.Ca.τ).loc Cert.Ca.main_arg4)
      ∧ r.2.mem ((c.tc : Thread Cert.Ca.nD Cert.Ca.τ).loc Cert.Ca.main_arg5) = m ((c.tc : Thread Cert.Ca.nD Cert.Ca.τ).loc Cert.Ca.main_arg5))
      ∧ r.2.sem = fun _ => 0)

def quiescent_CaIdeal [hCaIdeal : Cert.CaIdeal.Facts] : Prop :=
  ∀ (m : (ℓ : Loc Cert.CaIdeal.nD Cert.CaIdeal.τ Cert.CaIdeal.sig) → Buf (Elt Ideal) ℓ) (g : Dev Cert.CaIdeal.nD → PrngReg), Pre_CaIdeal m →
    θ_run (Cert.CaIdeal.defs (F := Ideal)) (onTc (τ := Cert.CaIdeal.τ) (Cert.CaIdeal.main (F := Ideal))) ⟨m, fun _ => 0, g⟩ (fun r => (∀ c : Dev Cert.CaIdeal.nD,
      r.2.mem ((c.tc : Thread Cert.CaIdeal.nD Cert.CaIdeal.τ).loc Cert.CaIdeal.main_arg0) = m ((c.tc : Thread Cert.CaIdeal.nD Cert.CaIdeal.τ).loc Cert.CaIdeal.main_arg0)
      ∧ r.2.mem ((c.tc : Thread Cert.CaIdeal.nD Cert.CaIdeal.τ).loc Cert.CaIdeal.main_arg1) = m ((c.tc : Thread Cert.CaIdeal.nD Cert.CaIdeal.τ).loc Cert.CaIdeal.main_arg1)
      ∧ r.2.mem ((c.tc : Thread Cert.CaIdeal.nD Cert.CaIdeal.τ).loc Cert.CaIdeal.main_arg2) = m ((c.tc : Thread Cert.CaIdeal.nD Cert.CaIdeal.τ).loc Cert.CaIdeal.main_arg2)
      ∧ r.2.mem ((c.tc : Thread Cert.CaIdeal.nD Cert.CaIdeal.τ).loc Cert.CaIdeal.main_arg3) = m ((c.tc : Thread Cert.CaIdeal.nD Cert.CaIdeal.τ).loc Cert.CaIdeal.main_arg3)
      ∧ r.2.mem ((c.tc : Thread Cert.CaIdeal.nD Cert.CaIdeal.τ).loc Cert.CaIdeal.main_arg4) = m ((c.tc : Thread Cert.CaIdeal.nD Cert.CaIdeal.τ).loc Cert.CaIdeal.main_arg4)
      ∧ r.2.mem ((c.tc : Thread Cert.CaIdeal.nD Cert.CaIdeal.τ).loc Cert.CaIdeal.main_arg5) = m ((c.tc : Thread Cert.CaIdeal.nD Cert.CaIdeal.τ).loc Cert.CaIdeal.main_arg5))
      ∧ r.2.sem = fun _ => 0)

def quiescent_CaReferenceIdeal [hCaReferenceIdeal : Cert.CaReferenceIdeal.Facts] : Prop :=
  ∀ (m : (ℓ : Loc Cert.CaReferenceIdeal.nD Cert.CaReferenceIdeal.τ Cert.CaReferenceIdeal.sig) → Buf (Elt Ideal) ℓ) (g : Dev Cert.CaReferenceIdeal.nD → PrngReg), Pre_CaReferenceIdeal m →
    θ_run (Cert.CaReferenceIdeal.defs (F := Ideal)) (onTc (τ := Cert.CaReferenceIdeal.τ) (Cert.CaReferenceIdeal.main (F := Ideal))) ⟨m, fun _ => 0, g⟩ (fun r => (∀ c : Dev Cert.CaReferenceIdeal.nD,
      r.2.mem ((c.tc : Thread Cert.CaReferenceIdeal.nD Cert.CaReferenceIdeal.τ).loc Cert.CaReferenceIdeal.main_arg0) = m ((c.tc : Thread Cert.CaReferenceIdeal.nD Cert.CaReferenceIdeal.τ).loc Cert.CaReferenceIdeal.main_arg0)
      ∧ r.2.mem ((c.tc : Thread Cert.CaReferenceIdeal.nD Cert.CaReferenceIdeal.τ).loc Cert.CaReferenceIdeal.main_arg1) = m ((c.tc : Thread Cert.CaReferenceIdeal.nD Cert.CaReferenceIdeal.τ).loc Cert.CaReferenceIdeal.main_arg1)
      ∧ r.2.mem ((c.tc : Thread Cert.CaReferenceIdeal.nD Cert.CaReferenceIdeal.τ).loc Cert.CaReferenceIdeal.main_arg2) = m ((c.tc : Thread Cert.CaReferenceIdeal.nD Cert.CaReferenceIdeal.τ).loc Cert.CaReferenceIdeal.main_arg2)
      ∧ r.2.mem ((c.tc : Thread Cert.CaReferenceIdeal.nD Cert.CaReferenceIdeal.τ).loc Cert.CaReferenceIdeal.main_arg3) = m ((c.tc : Thread Cert.CaReferenceIdeal.nD Cert.CaReferenceIdeal.τ).loc Cert.CaReferenceIdeal.main_arg3)
      ∧ r.2.mem ((c.tc : Thread Cert.CaReferenceIdeal.nD Cert.CaReferenceIdeal.τ).loc Cert.CaReferenceIdeal.main_arg4) = m ((c.tc : Thread Cert.CaReferenceIdeal.nD Cert.CaReferenceIdeal.τ).loc Cert.CaReferenceIdeal.main_arg4)
      ∧ r.2.mem ((c.tc : Thread Cert.CaReferenceIdeal.nD Cert.CaReferenceIdeal.τ).loc Cert.CaReferenceIdeal.main_arg5) = m ((c.tc : Thread Cert.CaReferenceIdeal.nD Cert.CaReferenceIdeal.τ).loc Cert.CaReferenceIdeal.main_arg5))
      ∧ r.2.sem = fun _ => 0)

def quiescent_CaDh [hCaDh : Cert.CaDh.Facts] : Prop :=
  ∀ (m : (ℓ : Loc Cert.CaDh.nD Cert.CaDh.τ Cert.CaDh.sig) → Buf (Elt Bits) ℓ) (g : Dev Cert.CaDh.nD → PrngReg), Pre_CaDh m →
    θ_run (Cert.CaDh.defs (F := Bits)) (onTc (τ := Cert.CaDh.τ) (Cert.CaDh.main (F := Bits))) ⟨m, fun _ => 0, g⟩ (fun r => (∀ c : Dev Cert.CaDh.nD,
      r.2.mem ((c.tc : Thread Cert.CaDh.nD Cert.CaDh.τ).loc Cert.CaDh.main_arg0) = m ((c.tc : Thread Cert.CaDh.nD Cert.CaDh.τ).loc Cert.CaDh.main_arg0)
      ∧ r.2.mem ((c.tc : Thread Cert.CaDh.nD Cert.CaDh.τ).loc Cert.CaDh.main_arg1) = m ((c.tc : Thread Cert.CaDh.nD Cert.CaDh.τ).loc Cert.CaDh.main_arg1))
      ∧ r.2.sem = fun _ => 0)

def quiescent_CaDhIdeal [hCaDhIdeal : Cert.CaDhIdeal.Facts] : Prop :=
  ∀ (m : (ℓ : Loc Cert.CaDhIdeal.nD Cert.CaDhIdeal.τ Cert.CaDhIdeal.sig) → Buf (Elt Ideal) ℓ) (g : Dev Cert.CaDhIdeal.nD → PrngReg), Pre_CaDhIdeal m →
    θ_run (Cert.CaDhIdeal.defs (F := Ideal)) (onTc (τ := Cert.CaDhIdeal.τ) (Cert.CaDhIdeal.main (F := Ideal))) ⟨m, fun _ => 0, g⟩ (fun r => (∀ c : Dev Cert.CaDhIdeal.nD,
      r.2.mem ((c.tc : Thread Cert.CaDhIdeal.nD Cert.CaDhIdeal.τ).loc Cert.CaDhIdeal.main_arg0) = m ((c.tc : Thread Cert.CaDhIdeal.nD Cert.CaDhIdeal.τ).loc Cert.CaDhIdeal.main_arg0)
      ∧ r.2.mem ((c.tc : Thread Cert.CaDhIdeal.nD Cert.CaDhIdeal.τ).loc Cert.CaDhIdeal.main_arg1) = m ((c.tc : Thread Cert.CaDhIdeal.nD Cert.CaDhIdeal.τ).loc Cert.CaDhIdeal.main_arg1))
      ∧ r.2.sem = fun _ => 0)

def quiescent_CaDhReferenceIdeal [hCaDhReferenceIdeal : Cert.CaDhReferenceIdeal.Facts] : Prop :=
  ∀ (m : (ℓ : Loc Cert.CaDhReferenceIdeal.nD Cert.CaDhReferenceIdeal.τ Cert.CaDhReferenceIdeal.sig) → Buf (Elt Ideal) ℓ) (g : Dev Cert.CaDhReferenceIdeal.nD → PrngReg), Pre_CaDhReferenceIdeal m →
    θ_run (Cert.CaDhReferenceIdeal.defs (F := Ideal)) (onTc (τ := Cert.CaDhReferenceIdeal.τ) (Cert.CaDhReferenceIdeal.main (F := Ideal))) ⟨m, fun _ => 0, g⟩ (fun r => (∀ c : Dev Cert.CaDhReferenceIdeal.nD,
      r.2.mem ((c.tc : Thread Cert.CaDhReferenceIdeal.nD Cert.CaDhReferenceIdeal.τ).loc Cert.CaDhReferenceIdeal.main_arg0) = m ((c.tc : Thread Cert.CaDhReferenceIdeal.nD Cert.CaDhReferenceIdeal.τ).loc Cert.CaDhReferenceIdeal.main_arg0)
      ∧ r.2.mem ((c.tc : Thread Cert.CaDhReferenceIdeal.nD Cert.CaDhReferenceIdeal.τ).loc Cert.CaDhReferenceIdeal.main_arg1) = m ((c.tc : Thread Cert.CaDhReferenceIdeal.nD Cert.CaDhReferenceIdeal.τ).loc Cert.CaDhReferenceIdeal.main_arg1))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7)
      ∧ r.2.mem ((c.tc : Thread Cert.Mla.nD Cert.Mla.τ).loc Cert.Mla.main_arg8) = m ((c.tc : Thread Cert.Mla.nD Cert.Mla.τ).loc Cert.Mla.main_arg8)
      ∧ r.2.mem ((c.tc : Thread Cert.Mla.nD Cert.Mla.τ).loc Cert.Mla.main_arg9) = m ((c.tc : Thread Cert.Mla.nD Cert.Mla.τ).loc Cert.Mla.main_arg9)
      ∧ r.2.mem ((c.tc : Thread Cert.Mla.nD Cert.Mla.τ).loc Cert.Mla.main_arg10) = m ((c.tc : Thread Cert.Mla.nD Cert.Mla.τ).loc Cert.Mla.main_arg10)
      ∧ r.2.mem ((c.tc : Thread Cert.Mla.nD Cert.Mla.τ).loc Cert.Mla.main_arg11) = m ((c.tc : Thread Cert.Mla.nD Cert.Mla.τ).loc Cert.Mla.main_arg11))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
      ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10)
      ∧ r.2.mem ((c.tc : Thread Cert.MlaIdeal.nD Cert.MlaIdeal.τ).loc Cert.MlaIdeal.main_arg11) = m ((c.tc : Thread Cert.MlaIdeal.nD Cert.MlaIdeal.τ).loc Cert.MlaIdeal.main_arg11))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7)
      ∧ r.2.mem ((c.tc : Thread Cert.MlaReferenceIdeal.nD Cert.MlaReferenceIdeal.τ).loc Cert.MlaReferenceIdeal.main_arg8) = m ((c.tc : Thread Cert.MlaReferenceIdeal.nD Cert.MlaReferenceIdeal.τ).loc Cert.MlaReferenceIdeal.main_arg8)
      ∧ r.2.mem ((c.tc : Thread Cert.MlaReferenceIdeal.nD Cert.MlaReferenceIdeal.τ).loc Cert.MlaReferenceIdeal.main_arg9) = m ((c.tc : Thread Cert.MlaReferenceIdeal.nD Cert.MlaReferenceIdeal.τ).loc Cert.MlaReferenceIdeal.main_arg9)
      ∧ r.2.mem ((c.tc : Thread Cert.MlaReferenceIdeal.nD Cert.MlaReferenceIdeal.τ).loc Cert.MlaReferenceIdeal.main_arg10) = m ((c.tc : Thread Cert.MlaReferenceIdeal.nD Cert.MlaReferenceIdeal.τ).loc Cert.MlaReferenceIdeal.main_arg10)
      ∧ r.2.mem ((c.tc : Thread Cert.MlaReferenceIdeal.nD Cert.MlaReferenceIdeal.τ).loc Cert.MlaReferenceIdeal.main_arg11) = m ((c.tc : Thread Cert.MlaReferenceIdeal.nD Cert.MlaReferenceIdeal.τ).loc Cert.MlaReferenceIdeal.main_arg11))
      ∧ r.2.sem = fun _ => 0)

def quiescent_MlaDcq [hMlaDcq : Cert.MlaDcq.Facts] : Prop :=
  ∀ (m : (ℓ : Loc Cert.MlaDcq.nD Cert.MlaDcq.τ Cert.MlaDcq.sig) → Buf (Elt Bits) ℓ) (g : Dev Cert.MlaDcq.nD → PrngReg), Pre_MlaDcq m →
    θ_run (Cert.MlaDcq.defs (F := Bits)) (onTc (τ := Cert.MlaDcq.τ) (Cert.MlaDcq.main (F := Bits))) ⟨m, fun _ => 0, g⟩ (fun r => (∀ c : Dev Cert.MlaDcq.nD,
      r.2.mem ((c.tc : Thread Cert.MlaDcq.nD Cert.MlaDcq.τ).loc Cert.MlaDcq.main_arg0) = m ((c.tc : Thread Cert.MlaDcq.nD Cert.MlaDcq.τ).loc Cert.MlaDcq.main_arg0)
      ∧ r.2.mem ((c.tc : Thread Cert.MlaDcq.nD Cert.MlaDcq.τ).loc Cert.MlaDcq.main_arg1) = m ((c.tc : Thread Cert.MlaDcq.nD Cert.MlaDcq.τ).loc Cert.MlaDcq.main_arg1))
      ∧ r.2.sem = fun _ => 0)

def quiescent_MlaDcqIdeal [hMlaDcqIdeal : Cert.MlaDcqIdeal.Facts] : Prop :=
  ∀ (m : (ℓ : Loc Cert.MlaDcqIdeal.nD Cert.MlaDcqIdeal.τ Cert.MlaDcqIdeal.sig) → Buf (Elt Ideal) ℓ) (g : Dev Cert.MlaDcqIdeal.nD → PrngReg), Pre_MlaDcqIdeal m →
    θ_run (Cert.MlaDcqIdeal.defs (F := Ideal)) (onTc (τ := Cert.MlaDcqIdeal.τ) (Cert.MlaDcqIdeal.main (F := Ideal))) ⟨m, fun _ => 0, g⟩ (fun r => (∀ c : Dev Cert.MlaDcqIdeal.nD,
      r.2.mem ((c.tc : Thread Cert.MlaDcqIdeal.nD Cert.MlaDcqIdeal.τ).loc Cert.MlaDcqIdeal.main_arg0) = m ((c.tc : Thread Cert.MlaDcqIdeal.nD Cert.MlaDcqIdeal.τ).loc Cert.MlaDcqIdeal.main_arg0)
      ∧ r.2.mem ((c.tc : Thread Cert.MlaDcqIdeal.nD Cert.MlaDcqIdeal.τ).loc Cert.MlaDcqIdeal.main_arg1) = m ((c.tc : Thread Cert.MlaDcqIdeal.nD Cert.MlaDcqIdeal.τ).loc Cert.MlaDcqIdeal.main_arg1))
      ∧ r.2.sem = fun _ => 0)

def quiescent_MlaDcqReferenceIdeal [hMlaDcqReferenceIdeal : Cert.MlaDcqReferenceIdeal.Facts] : Prop :=
  ∀ (m : (ℓ : Loc Cert.MlaDcqReferenceIdeal.nD Cert.MlaDcqReferenceIdeal.τ Cert.MlaDcqReferenceIdeal.sig) → Buf (Elt Ideal) ℓ) (g : Dev Cert.MlaDcqReferenceIdeal.nD → PrngReg), Pre_MlaDcqReferenceIdeal m →
    θ_run (Cert.MlaDcqReferenceIdeal.defs (F := Ideal)) (onTc (τ := Cert.MlaDcqReferenceIdeal.τ) (Cert.MlaDcqReferenceIdeal.main (F := Ideal))) ⟨m, fun _ => 0, g⟩ (fun r => (∀ c : Dev Cert.MlaDcqReferenceIdeal.nD,
      r.2.mem ((c.tc : Thread Cert.MlaDcqReferenceIdeal.nD Cert.MlaDcqReferenceIdeal.τ).loc Cert.MlaDcqReferenceIdeal.main_arg0) = m ((c.tc : Thread Cert.MlaDcqReferenceIdeal.nD Cert.MlaDcqReferenceIdeal.τ).loc Cert.MlaDcqReferenceIdeal.main_arg0)
      ∧ r.2.mem ((c.tc : Thread Cert.MlaDcqReferenceIdeal.nD Cert.MlaDcqReferenceIdeal.τ).loc Cert.MlaDcqReferenceIdeal.main_arg1) = m ((c.tc : Thread Cert.MlaDcqReferenceIdeal.nD Cert.MlaDcqReferenceIdeal.τ).loc Cert.MlaDcqReferenceIdeal.main_arg1))
      ∧ r.2.sem = fun _ => 0)

def quiescent_MlaDckv [hMlaDckv : Cert.MlaDckv.Facts] : Prop :=
  ∀ (m : (ℓ : Loc Cert.MlaDckv.nD Cert.MlaDckv.τ Cert.MlaDckv.sig) → Buf (Elt Bits) ℓ) (g : Dev Cert.MlaDckv.nD → PrngReg), Pre_MlaDckv m →
    θ_run (Cert.MlaDckv.defs (F := Bits)) (onTc (τ := Cert.MlaDckv.τ) (Cert.MlaDckv.main (F := Bits))) ⟨m, fun _ => 0, g⟩ (fun r => (∀ c : Dev Cert.MlaDckv.nD,
      r.2.mem ((c.tc : Thread Cert.MlaDckv.nD Cert.MlaDckv.τ).loc Cert.MlaDckv.main_arg0) = m ((c.tc : Thread Cert.MlaDckv.nD Cert.MlaDckv.τ).loc Cert.MlaDckv.main_arg0)
      ∧ r.2.mem ((c.tc : Thread Cert.MlaDckv.nD Cert.MlaDckv.τ).loc Cert.MlaDckv.main_arg1) = m ((c.tc : Thread Cert.MlaDckv.nD Cert.MlaDckv.τ).loc Cert.MlaDckv.main_arg1))
      ∧ r.2.sem = fun _ => 0)

def quiescent_MlaDckvIdeal [hMlaDckvIdeal : Cert.MlaDckvIdeal.Facts] : Prop :=
  ∀ (m : (ℓ : Loc Cert.MlaDckvIdeal.nD Cert.MlaDckvIdeal.τ Cert.MlaDckvIdeal.sig) → Buf (Elt Ideal) ℓ) (g : Dev Cert.MlaDckvIdeal.nD → PrngReg), Pre_MlaDckvIdeal m →
    θ_run (Cert.MlaDckvIdeal.defs (F := Ideal)) (onTc (τ := Cert.MlaDckvIdeal.τ) (Cert.MlaDckvIdeal.main (F := Ideal))) ⟨m, fun _ => 0, g⟩ (fun r => (∀ c : Dev Cert.MlaDckvIdeal.nD,
      r.2.mem ((c.tc : Thread Cert.MlaDckvIdeal.nD Cert.MlaDckvIdeal.τ).loc Cert.MlaDckvIdeal.main_arg0) = m ((c.tc : Thread Cert.MlaDckvIdeal.nD Cert.MlaDckvIdeal.τ).loc Cert.MlaDckvIdeal.main_arg0)
      ∧ r.2.mem ((c.tc : Thread Cert.MlaDckvIdeal.nD Cert.MlaDckvIdeal.τ).loc Cert.MlaDckvIdeal.main_arg1) = m ((c.tc : Thread Cert.MlaDckvIdeal.nD Cert.MlaDckvIdeal.τ).loc Cert.MlaDckvIdeal.main_arg1))
      ∧ r.2.sem = fun _ => 0)

def quiescent_MlaDckvReferenceIdeal [hMlaDckvReferenceIdeal : Cert.MlaDckvReferenceIdeal.Facts] : Prop :=
  ∀ (m : (ℓ : Loc Cert.MlaDckvReferenceIdeal.nD Cert.MlaDckvReferenceIdeal.τ Cert.MlaDckvReferenceIdeal.sig) → Buf (Elt Ideal) ℓ) (g : Dev Cert.MlaDckvReferenceIdeal.nD → PrngReg), Pre_MlaDckvReferenceIdeal m →
    θ_run (Cert.MlaDckvReferenceIdeal.defs (F := Ideal)) (onTc (τ := Cert.MlaDckvReferenceIdeal.τ) (Cert.MlaDckvReferenceIdeal.main (F := Ideal))) ⟨m, fun _ => 0, g⟩ (fun r => (∀ c : Dev Cert.MlaDckvReferenceIdeal.nD,
      r.2.mem ((c.tc : Thread Cert.MlaDckvReferenceIdeal.nD Cert.MlaDckvReferenceIdeal.τ).loc Cert.MlaDckvReferenceIdeal.main_arg0) = m ((c.tc : Thread Cert.MlaDckvReferenceIdeal.nD Cert.MlaDckvReferenceIdeal.τ).loc Cert.MlaDckvReferenceIdeal.main_arg0)
      ∧ r.2.mem ((c.tc : Thread Cert.MlaDckvReferenceIdeal.nD Cert.MlaDckvReferenceIdeal.τ).loc Cert.MlaDckvReferenceIdeal.main_arg1) = m ((c.tc : Thread Cert.MlaDckvReferenceIdeal.nD Cert.MlaDckvReferenceIdeal.τ).loc Cert.MlaDckvReferenceIdeal.main_arg1))
      ∧ r.2.sem = fun _ => 0)

def quiescent_MlaAttn [hMlaAttn : Cert.MlaAttn.Facts] : Prop :=
  ∀ (m : (ℓ : Loc Cert.MlaAttn.nD Cert.MlaAttn.τ Cert.MlaAttn.sig) → Buf (Elt Bits) ℓ) (g : Dev Cert.MlaAttn.nD → PrngReg), Pre_MlaAttn m →
    θ_run (Cert.MlaAttn.defs (F := Bits)) (onTc (τ := Cert.MlaAttn.τ) (Cert.MlaAttn.main (F := Bits))) ⟨m, fun _ => 0, g⟩ (fun r => (∀ c : Dev Cert.MlaAttn.nD,
      r.2.mem ((c.tc : Thread Cert.MlaAttn.nD Cert.MlaAttn.τ).loc Cert.MlaAttn.main_arg0) = m ((c.tc : Thread Cert.MlaAttn.nD Cert.MlaAttn.τ).loc Cert.MlaAttn.main_arg0)
      ∧ r.2.mem ((c.tc : Thread Cert.MlaAttn.nD Cert.MlaAttn.τ).loc Cert.MlaAttn.main_arg1) = m ((c.tc : Thread Cert.MlaAttn.nD Cert.MlaAttn.τ).loc Cert.MlaAttn.main_arg1)
      ∧ r.2.mem ((c.tc : Thread Cert.MlaAttn.nD Cert.MlaAttn.τ).loc Cert.MlaAttn.main_arg2) = m ((c.tc : Thread Cert.MlaAttn.nD Cert.MlaAttn.τ).loc Cert.MlaAttn.main_arg2)
      ∧ r.2.mem ((c.tc : Thread Cert.MlaAttn.nD Cert.MlaAttn.τ).loc Cert.MlaAttn.main_arg3) = m ((c.tc : Thread Cert.MlaAttn.nD Cert.MlaAttn.τ).loc Cert.MlaAttn.main_arg3))
      ∧ r.2.sem = fun _ => 0)

def quiescent_MlaAttnIdeal [hMlaAttnIdeal : Cert.MlaAttnIdeal.Facts] : Prop :=
  ∀ (m : (ℓ : Loc Cert.MlaAttnIdeal.nD Cert.MlaAttnIdeal.τ Cert.MlaAttnIdeal.sig) → Buf (Elt Ideal) ℓ) (g : Dev Cert.MlaAttnIdeal.nD → PrngReg), Pre_MlaAttnIdeal m →
    θ_run (Cert.MlaAttnIdeal.defs (F := Ideal)) (onTc (τ := Cert.MlaAttnIdeal.τ) (Cert.MlaAttnIdeal.main (F := Ideal))) ⟨m, fun _ => 0, g⟩ (fun r => (∀ c : Dev Cert.MlaAttnIdeal.nD,
      r.2.mem ((c.tc : Thread Cert.MlaAttnIdeal.nD Cert.MlaAttnIdeal.τ).loc Cert.MlaAttnIdeal.main_arg0) = m ((c.tc : Thread Cert.MlaAttnIdeal.nD Cert.MlaAttnIdeal.τ).loc Cert.MlaAttnIdeal.main_arg0)
      ∧ r.2.mem ((c.tc : Thread Cert.MlaAttnIdeal.nD Cert.MlaAttnIdeal.τ).loc Cert.MlaAttnIdeal.main_arg1) = m ((c.tc : Thread Cert.MlaAttnIdeal.nD Cert.MlaAttnIdeal.τ).loc Cert.MlaAttnIdeal.main_arg1)
      ∧ r.2.mem ((c.tc : Thread Cert.MlaAttnIdeal.nD Cert.MlaAttnIdeal.τ).loc Cert.MlaAttnIdeal.main_arg2) = m ((c.tc : Thread Cert.MlaAttnIdeal.nD Cert.MlaAttnIdeal.τ).loc Cert.MlaAttnIdeal.main_arg2)
      ∧ r.2.mem ((c.tc : Thread Cert.MlaAttnIdeal.nD Cert.MlaAttnIdeal.τ).loc Cert.MlaAttnIdeal.main_arg3) = m ((c.tc : Thread Cert.MlaAttnIdeal.nD Cert.MlaAttnIdeal.τ).loc Cert.MlaAttnIdeal.main_arg3))
      ∧ r.2.sem = fun _ => 0)

def quiescent_MlaAttnIdeal_pre_finite_heads [hMlaAttnIdeal : Cert.MlaAttnIdeal.Facts] [hPre_finite_heads : Cert.Pre_finite_heads.Facts] : Prop :=
  ∀ (m : (ℓ : Loc Cert.MlaAttnIdeal.nD Cert.MlaAttnIdeal.τ Cert.MlaAttnIdeal.sig) → Buf (Elt Ideal) ℓ) (g : Dev Cert.MlaAttnIdeal.nD → PrngReg), Pre_MlaAttnIdeal_finite_heads m →
    θ_run (Cert.MlaAttnIdeal.defs (F := Ideal)) (onTc (τ := Cert.MlaAttnIdeal.τ) (Cert.MlaAttnIdeal.main (F := Ideal))) ⟨m, fun _ => 0, g⟩ (fun r => (∀ c : Dev Cert.MlaAttnIdeal.nD,
      r.2.mem ((c.tc : Thread Cert.MlaAttnIdeal.nD Cert.MlaAttnIdeal.τ).loc Cert.MlaAttnIdeal.main_arg0) = m ((c.tc : Thread Cert.MlaAttnIdeal.nD Cert.MlaAttnIdeal.τ).loc Cert.MlaAttnIdeal.main_arg0)
      ∧ r.2.mem ((c.tc : Thread Cert.MlaAttnIdeal.nD Cert.MlaAttnIdeal.τ).loc Cert.MlaAttnIdeal.main_arg1) = m ((c.tc : Thread Cert.MlaAttnIdeal.nD Cert.MlaAttnIdeal.τ).loc Cert.MlaAttnIdeal.main_arg1)
      ∧ r.2.mem ((c.tc : Thread Cert.MlaAttnIdeal.nD Cert.MlaAttnIdeal.τ).loc Cert.MlaAttnIdeal.main_arg2) = m ((c.tc : Thread Cert.MlaAttnIdeal.nD Cert.MlaAttnIdeal.τ).loc Cert.MlaAttnIdeal.main_arg2)
      ∧ r.2.mem ((c.tc : Thread Cert.MlaAttnIdeal.nD Cert.MlaAttnIdeal.τ).loc Cert.MlaAttnIdeal.main_arg3) = m ((c.tc : Thread Cert.MlaAttnIdeal.nD Cert.MlaAttnIdeal.τ).loc Cert.MlaAttnIdeal.main_arg3))
      ∧ r.2.sem = fun _ => 0)

def quiescent_MlaAttnReferenceIdeal [hMlaAttnReferenceIdeal : Cert.MlaAttnReferenceIdeal.Facts] : Prop :=
  ∀ (m : (ℓ : Loc Cert.MlaAttnReferenceIdeal.nD Cert.MlaAttnReferenceIdeal.τ Cert.MlaAttnReferenceIdeal.sig) → Buf (Elt Ideal) ℓ) (g : Dev Cert.MlaAttnReferenceIdeal.nD → PrngReg), Pre_MlaAttnReferenceIdeal m →
    θ_run (Cert.MlaAttnReferenceIdeal.defs (F := Ideal)) (onTc (τ := Cert.MlaAttnReferenceIdeal.τ) (Cert.MlaAttnReferenceIdeal.main (F := Ideal))) ⟨m, fun _ => 0, g⟩ (fun r => (∀ c : Dev Cert.MlaAttnReferenceIdeal.nD,
      r.2.mem ((c.tc : Thread Cert.MlaAttnReferenceIdeal.nD Cert.MlaAttnReferenceIdeal.τ).loc Cert.MlaAttnReferenceIdeal.main_arg0) = m ((c.tc : Thread Cert.MlaAttnReferenceIdeal.nD Cert.MlaAttnReferenceIdeal.τ).loc Cert.MlaAttnReferenceIdeal.main_arg0)
      ∧ r.2.mem ((c.tc : Thread Cert.MlaAttnReferenceIdeal.nD Cert.MlaAttnReferenceIdeal.τ).loc Cert.MlaAttnReferenceIdeal.main_arg1) = m ((c.tc : Thread Cert.MlaAttnReferenceIdeal.nD Cert.MlaAttnReferenceIdeal.τ).loc Cert.MlaAttnReferenceIdeal.main_arg1)
      ∧ r.2.mem ((c.tc : Thread Cert.MlaAttnReferenceIdeal.nD Cert.MlaAttnReferenceIdeal.τ).loc Cert.MlaAttnReferenceIdeal.main_arg2) = m ((c.tc : Thread Cert.MlaAttnReferenceIdeal.nD Cert.MlaAttnReferenceIdeal.τ).loc Cert.MlaAttnReferenceIdeal.main_arg2)
      ∧ r.2.mem ((c.tc : Thread Cert.MlaAttnReferenceIdeal.nD Cert.MlaAttnReferenceIdeal.τ).loc Cert.MlaAttnReferenceIdeal.main_arg3) = m ((c.tc : Thread Cert.MlaAttnReferenceIdeal.nD Cert.MlaAttnReferenceIdeal.τ).loc Cert.MlaAttnReferenceIdeal.main_arg3))
      ∧ r.2.sem = fun _ => 0)

def quiescent_MlaAttnReferenceIdeal_pre_finite_heads [hMlaAttnReferenceIdeal : Cert.MlaAttnReferenceIdeal.Facts] [hPre_finite_heads : Cert.Pre_finite_heads.Facts] : Prop :=
  ∀ (m : (ℓ : Loc Cert.MlaAttnReferenceIdeal.nD Cert.MlaAttnReferenceIdeal.τ Cert.MlaAttnReferenceIdeal.sig) → Buf (Elt Ideal) ℓ) (g : Dev Cert.MlaAttnReferenceIdeal.nD → PrngReg), Pre_MlaAttnReferenceIdeal_finite_heads m →
    θ_run (Cert.MlaAttnReferenceIdeal.defs (F := Ideal)) (onTc (τ := Cert.MlaAttnReferenceIdeal.τ) (Cert.MlaAttnReferenceIdeal.main (F := Ideal))) ⟨m, fun _ => 0, g⟩ (fun r => (∀ c : Dev Cert.MlaAttnReferenceIdeal.nD,
      r.2.mem ((c.tc : Thread Cert.MlaAttnReferenceIdeal.nD Cert.MlaAttnReferenceIdeal.τ).loc Cert.MlaAttnReferenceIdeal.main_arg0) = m ((c.tc : Thread Cert.MlaAttnReferenceIdeal.nD Cert.MlaAttnReferenceIdeal.τ).loc Cert.MlaAttnReferenceIdeal.main_arg0)
      ∧ r.2.mem ((c.tc : Thread Cert.MlaAttnReferenceIdeal.nD Cert.MlaAttnReferenceIdeal.τ).loc Cert.MlaAttnReferenceIdeal.main_arg1) = m ((c.tc : Thread Cert.MlaAttnReferenceIdeal.nD Cert.MlaAttnReferenceIdeal.τ).loc Cert.MlaAttnReferenceIdeal.main_arg1)
      ∧ r.2.mem ((c.tc : Thread Cert.MlaAttnReferenceIdeal.nD Cert.MlaAttnReferenceIdeal.τ).loc Cert.MlaAttnReferenceIdeal.main_arg2) = m ((c.tc : Thread Cert.MlaAttnReferenceIdeal.nD Cert.MlaAttnReferenceIdeal.τ).loc Cert.MlaAttnReferenceIdeal.main_arg2)
      ∧ r.2.mem ((c.tc : Thread Cert.MlaAttnReferenceIdeal.nD Cert.MlaAttnReferenceIdeal.τ).loc Cert.MlaAttnReferenceIdeal.main_arg3) = m ((c.tc : Thread Cert.MlaAttnReferenceIdeal.nD Cert.MlaAttnReferenceIdeal.τ).loc Cert.MlaAttnReferenceIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v0_1)) (v1 : (c : Dev Cert.MlpIdeal.nD) → Buf (Elt Ideal) ((c.tc : Thread Cert.MlpIdeal.nD Cert.MlpIdeal.τ).loc Cert.MlpIdeal.main_v2)) (v2 : (c : Dev Cert.MlpIdeal.nD) → Buf (Elt Ideal) ((c.tc : Thread Cert.MlpIdeal.nD Cert.MlpIdeal.τ).loc Cert.MlpIdeal.main_v5)) (v3 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_1) = v0 c
          ∧ r.2.mem ((c.tc : Thread Cert.MlpIdeal.nD Cert.MlpIdeal.τ).loc Cert.MlpIdeal.main_v2) = v1 c
          ∧ r.2.mem ((c.tc : Thread Cert.MlpIdeal.nD Cert.MlpIdeal.τ).loc Cert.MlpIdeal.main_v5) = v2 c
          ∧ r.2.mem ((c.tc : Thread Cert.MlpIdeal.nD Cert.MlpIdeal.τ).loc Cert.MlpIdeal.main_v3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v24) = v0 c
          ∧ r.2.mem ((c.tc : Thread Cert.MlpReferenceIdeal.nD Cert.MlpReferenceIdeal.τ).loc Cert.MlpReferenceIdeal.main_v25) = v1 c
          ∧ r.2.mem ((c.tc : Thread Cert.MlpReferenceIdeal.nD Cert.MlpReferenceIdeal.τ).loc Cert.MlpReferenceIdeal.main_v28) = v2 c
          ∧ r.2.mem ((c.tc : Thread Cert.MlpReferenceIdeal.nD Cert.MlpReferenceIdeal.τ).loc Cert.MlpReferenceIdeal.main_v31) = v3 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_MlpDh_MlpDhIdeal : Prop :=
  True

def algebraic_MlpDhIdeal_MlpDhReferenceIdeal [hMlpDhIdeal : Cert.MlpDhIdeal.Facts] [hMlpDhReferenceIdeal : Cert.MlpDhReferenceIdeal.Facts] : Prop :=
  ∀ (m : (ℓ : Loc Cert.MlpDhIdeal.nD Cert.MlpDhIdeal.τ Cert.MlpDhIdeal.sig) → Buf (Elt Ideal) ℓ) (g : Dev Cert.MlpDhIdeal.nD → PrngReg)
    (m' : (ℓ : Loc Cert.MlpDhReferenceIdeal.nD Cert.MlpDhReferenceIdeal.τ Cert.MlpDhReferenceIdeal.sig) → Buf (Elt Ideal) ℓ) (g' : Dev Cert.MlpDhReferenceIdeal.nD → PrngReg), Pre_MlpDhIdeal m →
    (∀ c : Dev Cert.MlpDhIdeal.nD,
      m' ((c.tc : Thread Cert.MlpDhReferenceIdeal.nD Cert.MlpDhReferenceIdeal.τ).loc Cert.MlpDhReferenceIdeal.main_arg0) = m ((c.tc : Thread Cert.MlpDhIdeal.nD Cert.MlpDhIdeal.τ).loc Cert.MlpDhIdeal.main_arg0)
      ∧ m' ((c.tc : Thread Cert.MlpDhReferenceIdeal.nD Cert.MlpDhReferenceIdeal.τ).loc Cert.MlpDhReferenceIdeal.main_arg1) = m ((c.tc : Thread Cert.MlpDhIdeal.nD Cert.MlpDhIdeal.τ).loc Cert.MlpDhIdeal.main_arg1)) →
    ∃ (v0 : (c : Dev Cert.MlpDhIdeal.nD) → Buf (Elt Ideal) ((c.tc : Thread Cert.MlpDhIdeal.nD Cert.MlpDhIdeal.τ).loc Cert.MlpDhIdeal.main_v0)),
      θ_run (Cert.MlpDhIdeal.defs (F := Ideal)) (onTc (τ := Cert.MlpDhIdeal.τ) (Cert.MlpDhIdeal.main (F := Ideal))) ⟨m, fun _ => 0, g⟩ (fun r => ∀ c : Dev Cert.MlpDhIdeal.nD,
          r.2.mem ((c.tc : Thread Cert.MlpDhIdeal.nD Cert.MlpDhIdeal.τ).loc Cert.MlpDhIdeal.main_v0) = v0 c
          ∧ r.2.mem ((c.tc : Thread Cert.MlpDhIdeal.nD Cert.MlpDhIdeal.τ).loc Cert.MlpDhIdeal.main_arg0) = m ((c.tc : Thread Cert.MlpDhIdeal.nD Cert.MlpDhIdeal.τ).loc Cert.MlpDhIdeal.main_arg0)
          ∧ r.2.mem ((c.tc : Thread Cert.MlpDhIdeal.nD Cert.MlpDhIdeal.τ).loc Cert.MlpDhIdeal.main_arg1) = m ((c.tc : Thread Cert.MlpDhIdeal.nD Cert.MlpDhIdeal.τ).loc Cert.MlpDhIdeal.main_arg1))
      ∧ θ_run (Cert.MlpDhReferenceIdeal.defs (F := Ideal)) (onTc (τ := Cert.MlpDhReferenceIdeal.τ) (Cert.MlpDhReferenceIdeal.main (F := Ideal))) ⟨m', fun _ => 0, g'⟩ (fun r => ∀ c : Dev Cert.MlpDhReferenceIdeal.nD,
          r.2.mem ((c.tc : Thread Cert.MlpDhReferenceIdeal.nD Cert.MlpDhReferenceIdeal.τ).loc Cert.MlpDhReferenceIdeal.main_v6) = v0 c
          ∧ r.2.mem ((c.tc : Thread Cert.MlpDhReferenceIdeal.nD Cert.MlpDhReferenceIdeal.τ).loc Cert.MlpDhReferenceIdeal.main_arg0) = m' ((c.tc : Thread Cert.MlpDhReferenceIdeal.nD Cert.MlpDhReferenceIdeal.τ).loc Cert.MlpDhReferenceIdeal.main_arg0)
          ∧ r.2.mem ((c.tc : Thread Cert.MlpDhReferenceIdeal.nD Cert.MlpDhReferenceIdeal.τ).loc Cert.MlpDhReferenceIdeal.main_arg1) = m' ((c.tc : Thread Cert.MlpDhReferenceIdeal.nD Cert.MlpDhReferenceIdeal.τ).loc Cert.MlpDhReferenceIdeal.main_arg1))

def preserves_MlpOut_MlpOutIdeal : Prop :=
  True

def algebraic_MlpOutIdeal_MlpOutReferenceIdeal [hMlpOutIdeal : Cert.MlpOutIdeal.Facts] [hMlpOutReferenceIdeal : Cert.MlpOutReferenceIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutReferenceIdeal.nD Cert.MlpOutReferenceIdeal.τ Cert.MlpOutReferenceIdeal.sig) → Buf (Elt Ideal) ℓ) (g' : Dev Cert.MlpOutReferenceIdeal.nD → PrngReg), Pre_MlpOutIdeal m →
    (∀ c : Dev Cert.MlpOutIdeal.nD,
      m' ((c.tc : Thread Cert.MlpOutReferenceIdeal.nD Cert.MlpOutReferenceIdeal.τ).loc Cert.MlpOutReferenceIdeal.main_arg0) = m ((c.tc : Thread Cert.MlpOutIdeal.nD Cert.MlpOutIdeal.τ).loc Cert.MlpOutIdeal.main_arg0)
      ∧ m' ((c.tc : Thread Cert.MlpOutReferenceIdeal.nD Cert.MlpOutReferenceIdeal.τ).loc Cert.MlpOutReferenceIdeal.main_arg1) = m ((c.tc : Thread Cert.MlpOutIdeal.nD Cert.MlpOutIdeal.τ).loc Cert.MlpOutIdeal.main_arg1)) →
    ∃ (v0 : (c : Dev Cert.MlpOutIdeal.nD) → Buf (Elt Ideal) ((c.tc : Thread Cert.MlpOutIdeal.nD Cert.MlpOutIdeal.τ).loc Cert.MlpOutIdeal.main_v1)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v1) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ θ_run (Cert.MlpOutReferenceIdeal.defs (F := Ideal)) (onTc (τ := Cert.MlpOutReferenceIdeal.τ) (Cert.MlpOutReferenceIdeal.main (F := Ideal))) ⟨m', fun _ => 0, g'⟩ (fun r => ∀ c : Dev Cert.MlpOutReferenceIdeal.nD,
          r.2.mem ((c.tc : Thread Cert.MlpOutReferenceIdeal.nD Cert.MlpOutReferenceIdeal.τ).loc Cert.MlpOutReferenceIdeal.main_v3) = v0 c
          ∧ r.2.mem ((c.tc : Thread Cert.MlpOutReferenceIdeal.nD Cert.MlpOutReferenceIdeal.τ).loc Cert.MlpOutReferenceIdeal.main_arg0) = m' ((c.tc : Thread Cert.MlpOutReferenceIdeal.nD Cert.MlpOutReferenceIdeal.τ).loc Cert.MlpOutReferenceIdeal.main_arg0)
          ∧ r.2.mem ((c.tc : Thread Cert.MlpOutReferenceIdeal.nD Cert.MlpOutReferenceIdeal.τ).loc Cert.MlpOutReferenceIdeal.main_arg1) = m' ((c.tc : Thread Cert.MlpOutReferenceIdeal.nD Cert.MlpOutReferenceIdeal.τ).loc Cert.MlpOutReferenceIdeal.main_arg1))

def preserves_Sb_SbIdeal : Prop :=
  True

def algebraic_SbIdeal_SbReferenceIdeal [hSbIdeal : Cert.SbIdeal.Facts] [hSbReferenceIdeal : Cert.SbReferenceIdeal.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbIdeal m →
    (∀ c : Dev Cert.SbIdeal.nD,
      m' ((c.tc : Thread Cert.SbReferenceIdeal.nD Cert.SbReferenceIdeal.τ).loc Cert.SbReferenceIdeal.main_arg0) = m ((c.tc : Thread Cert.SbIdeal.nD Cert.SbIdeal.τ).loc Cert.SbIdeal.main_arg0)
      ∧ m' ((c.tc : Thread Cert.SbReferenceIdeal.nD Cert.SbReferenceIdeal.τ).loc Cert.SbReferenceIdeal.main_arg1) = m ((c.tc : Thread Cert.SbIdeal.nD Cert.SbIdeal.τ).loc Cert.SbIdeal.main_arg1)
      ∧ m' ((c.tc : Thread Cert.SbReferenceIdeal.nD Cert.SbReferenceIdeal.τ).loc Cert.SbReferenceIdeal.main_arg2) = m ((c.tc : Thread Cert.SbIdeal.nD Cert.SbIdeal.τ).loc Cert.SbIdeal.main_arg2)
      ∧ m' ((c.tc : Thread Cert.SbReferenceIdeal.nD Cert.SbReferenceIdeal.τ).loc Cert.SbReferenceIdeal.main_arg3) = m ((c.tc : Thread Cert.SbIdeal.nD Cert.SbIdeal.τ).loc Cert.SbIdeal.main_arg3)
      ∧ m' ((c.tc : Thread Cert.SbReferenceIdeal.nD Cert.SbReferenceIdeal.τ).loc Cert.SbReferenceIdeal.main_arg4) = m ((c.tc : Thread Cert.SbIdeal.nD Cert.SbIdeal.τ).loc Cert.SbIdeal.main_arg4)
      ∧ m' ((c.tc : Thread Cert.SbReferenceIdeal.nD Cert.SbReferenceIdeal.τ).loc Cert.SbReferenceIdeal.main_arg5) = m ((c.tc : Thread Cert.SbIdeal.nD Cert.SbIdeal.τ).loc Cert.SbIdeal.main_arg5)) →
    ∃ (v0 : (c : Dev Cert.SbIdeal.nD) → Buf (Elt Ideal) ((c.tc : Thread Cert.SbIdeal.nD Cert.SbIdeal.τ).loc Cert.SbIdeal.main_v0)) (v1 : (c : Dev Cert.SbIdeal.nD) → Buf (Elt Ideal) ((c.tc : Thread Cert.SbIdeal.nD Cert.SbIdeal.τ).loc Cert.SbIdeal.main_v2)) (v2 : (c : Dev Cert.SbIdeal.nD) → Buf (Elt Ideal) ((c.tc : Thread Cert.SbIdeal.nD Cert.SbIdeal.τ).loc Cert.SbIdeal.main_v4)) (v3 : (c : Dev Cert.SbIdeal.nD) → Buf (Elt Ideal) ((c.tc : Thread Cert.SbIdeal.nD Cert.SbIdeal.τ).loc Cert.SbIdeal.main_v6)) (v4 : (c : Dev Cert.SbIdeal.nD) → Buf (Elt Ideal) ((c.tc : Thread Cert.SbIdeal.nD Cert.SbIdeal.τ).loc Cert.SbIdeal.main_v8)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v0) = v0 c
          ∧ r.2.mem ((c.tc : Thread Cert.SbIdeal.nD Cert.SbIdeal.τ).loc Cert.SbIdeal.main_v2) = v1 c
          ∧ r.2.mem ((c.tc : Thread Cert.SbIdeal.nD Cert.SbIdeal.τ).loc Cert.SbIdeal.main_v4) = v2 c
          ∧ r.2.mem ((c.tc : Thread Cert.SbIdeal.nD Cert.SbIdeal.τ).loc Cert.SbIdeal.main_v6) = v3 c
          ∧ r.2.mem ((c.tc : Thread Cert.SbIdeal.nD Cert.SbIdeal.τ).loc Cert.SbIdeal.main_v8) = v4 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
          ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
          ∧ r.2.mem ((c.tc : Thread Cert.SbIdeal.nD Cert.SbIdeal.τ).loc Cert.SbIdeal.main_arg4) = m ((c.tc : Thread Cert.SbIdeal.nD Cert.SbIdeal.τ).loc Cert.SbIdeal.main_arg4)
          ∧ r.2.mem ((c.tc : Thread Cert.SbIdeal.nD Cert.SbIdeal.τ).loc Cert.SbIdeal.main_arg5) = m ((c.tc : Thread Cert.SbIdeal.nD Cert.SbIdeal.τ).loc Cert.SbIdeal.main_arg5))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v16) = v0 c
          ∧ r.2.mem ((c.tc : Thread Cert.SbReferenceIdeal.nD Cert.SbReferenceIdeal.τ).loc Cert.SbReferenceIdeal.main_v8) = v1 c
          ∧ r.2.mem ((c.tc : Thread Cert.SbReferenceIdeal.nD Cert.SbReferenceIdeal.τ).loc Cert.SbReferenceIdeal.main_v19) = v2 c
          ∧ r.2.mem ((c.tc : Thread Cert.SbReferenceIdeal.nD Cert.SbReferenceIdeal.τ).loc Cert.SbReferenceIdeal.main_v20) = v3 c
          ∧ r.2.mem ((c.tc : Thread Cert.SbReferenceIdeal.nD Cert.SbReferenceIdeal.τ).loc Cert.SbReferenceIdeal.main_v23) = v4 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1)
          ∧ r.2.mem ((c.tc : Thread Cert.SbReferenceIdeal.nD Cert.SbReferenceIdeal.τ).loc Cert.SbReferenceIdeal.main_arg2) = m' ((c.tc : Thread Cert.SbReferenceIdeal.nD Cert.SbReferenceIdeal.τ).loc Cert.SbReferenceIdeal.main_arg2)
          ∧ r.2.mem ((c.tc : Thread Cert.SbReferenceIdeal.nD Cert.SbReferenceIdeal.τ).loc Cert.SbReferenceIdeal.main_arg3) = m' ((c.tc : Thread Cert.SbReferenceIdeal.nD Cert.SbReferenceIdeal.τ).loc Cert.SbReferenceIdeal.main_arg3)
          ∧ r.2.mem ((c.tc : Thread Cert.SbReferenceIdeal.nD Cert.SbReferenceIdeal.τ).loc Cert.SbReferenceIdeal.main_arg4) = m' ((c.tc : Thread Cert.SbReferenceIdeal.nD Cert.SbReferenceIdeal.τ).loc Cert.SbReferenceIdeal.main_arg4)
          ∧ r.2.mem ((c.tc : Thread Cert.SbReferenceIdeal.nD Cert.SbReferenceIdeal.τ).loc Cert.SbReferenceIdeal.main_arg5) = m' ((c.tc : Thread Cert.SbReferenceIdeal.nD Cert.SbReferenceIdeal.τ).loc Cert.SbReferenceIdeal.main_arg5))

def preserves_SbDh_SbDhIdeal : Prop :=
  True

def algebraic_SbDhIdeal_SbDhReferenceIdeal [hSbDhIdeal : Cert.SbDhIdeal.Facts] [hSbDhReferenceIdeal : Cert.SbDhReferenceIdeal.Facts] : Prop :=
  ∀ (m : (ℓ : Loc Cert.SbDhIdeal.nD Cert.SbDhIdeal.τ Cert.SbDhIdeal.sig) → Buf (Elt Ideal) ℓ) (g : Dev Cert.SbDhIdeal.nD → PrngReg)
    (m' : (ℓ : Loc Cert.SbDhReferenceIdeal.nD Cert.SbDhReferenceIdeal.τ Cert.SbDhReferenceIdeal.sig) → Buf (Elt Ideal) ℓ) (g' : Dev Cert.SbDhReferenceIdeal.nD → PrngReg), Pre_SbDhIdeal m →
    (∀ c : Dev Cert.SbDhIdeal.nD,
      m' ((c.tc : Thread Cert.SbDhReferenceIdeal.nD Cert.SbDhReferenceIdeal.τ).loc Cert.SbDhReferenceIdeal.main_arg0) = m ((c.tc : Thread Cert.SbDhIdeal.nD Cert.SbDhIdeal.τ).loc Cert.SbDhIdeal.main_arg0)
      ∧ m' ((c.tc : Thread Cert.SbDhReferenceIdeal.nD Cert.SbDhReferenceIdeal.τ).loc Cert.SbDhReferenceIdeal.main_arg1) = m ((c.tc : Thread Cert.SbDhIdeal.nD Cert.SbDhIdeal.τ).loc Cert.SbDhIdeal.main_arg1)) →
    ∃ (v0 : (c : Dev Cert.SbDhIdeal.nD) → Buf (Elt Ideal) ((c.tc : Thread Cert.SbDhIdeal.nD Cert.SbDhIdeal.τ).loc Cert.SbDhIdeal.main_v0)),
      θ_run (Cert.SbDhIdeal.defs (F := Ideal)) (onTc (τ := Cert.SbDhIdeal.τ) (Cert.SbDhIdeal.main (F := Ideal))) ⟨m, fun _ => 0, g⟩ (fun r => ∀ c : Dev Cert.SbDhIdeal.nD,
          r.2.mem ((c.tc : Thread Cert.SbDhIdeal.nD Cert.SbDhIdeal.τ).loc Cert.SbDhIdeal.main_v0) = v0 c
          ∧ r.2.mem ((c.tc : Thread Cert.SbDhIdeal.nD Cert.SbDhIdeal.τ).loc Cert.SbDhIdeal.main_arg0) = m ((c.tc : Thread Cert.SbDhIdeal.nD Cert.SbDhIdeal.τ).loc Cert.SbDhIdeal.main_arg0)
          ∧ r.2.mem ((c.tc : Thread Cert.SbDhIdeal.nD Cert.SbDhIdeal.τ).loc Cert.SbDhIdeal.main_arg1) = m ((c.tc : Thread Cert.SbDhIdeal.nD Cert.SbDhIdeal.τ).loc Cert.SbDhIdeal.main_arg1))
      ∧ θ_run (Cert.SbDhReferenceIdeal.defs (F := Ideal)) (onTc (τ := Cert.SbDhReferenceIdeal.τ) (Cert.SbDhReferenceIdeal.main (F := Ideal))) ⟨m', fun _ => 0, g'⟩ (fun r => ∀ c : Dev Cert.SbDhReferenceIdeal.nD,
          r.2.mem ((c.tc : Thread Cert.SbDhReferenceIdeal.nD Cert.SbDhReferenceIdeal.τ).loc Cert.SbDhReferenceIdeal.main_v6) = v0 c
          ∧ r.2.mem ((c.tc : Thread Cert.SbDhReferenceIdeal.nD Cert.SbDhReferenceIdeal.τ).loc Cert.SbDhReferenceIdeal.main_arg0) = m' ((c.tc : Thread Cert.SbDhReferenceIdeal.nD Cert.SbDhReferenceIdeal.τ).loc Cert.SbDhReferenceIdeal.main_arg0)
          ∧ r.2.mem ((c.tc : Thread Cert.SbDhReferenceIdeal.nD Cert.SbDhReferenceIdeal.τ).loc Cert.SbDhReferenceIdeal.main_arg1) = m' ((c.tc : Thread Cert.SbDhReferenceIdeal.nD Cert.SbDhReferenceIdeal.τ).loc Cert.SbDhReferenceIdeal.main_arg1))

def preserves_Ca_CaIdeal : Prop :=
  True

def algebraic_CaIdeal_CaReferenceIdeal [hCaIdeal : Cert.CaIdeal.Facts] [hCaReferenceIdeal : Cert.CaReferenceIdeal.Facts] : Prop :=
  ∀ (m : (ℓ : Loc Cert.CaIdeal.nD Cert.CaIdeal.τ Cert.CaIdeal.sig) → Buf (Elt Ideal) ℓ) (g : Dev Cert.CaIdeal.nD → PrngReg)
    (m' : (ℓ : Loc Cert.CaReferenceIdeal.nD Cert.CaReferenceIdeal.τ Cert.CaReferenceIdeal.sig) → Buf (Elt Ideal) ℓ) (g' : Dev Cert.CaReferenceIdeal.nD → PrngReg), Pre_CaIdeal m →
    (∀ c : Dev Cert.CaIdeal.nD,
      m' ((c.tc : Thread Cert.CaReferenceIdeal.nD Cert.CaReferenceIdeal.τ).loc Cert.CaReferenceIdeal.main_arg0) = m ((c.tc : Thread Cert.CaIdeal.nD Cert.CaIdeal.τ).loc Cert.CaIdeal.main_arg0)
      ∧ m' ((c.tc : Thread Cert.CaReferenceIdeal.nD Cert.CaReferenceIdeal.τ).loc Cert.CaReferenceIdeal.main_arg1) = m ((c.tc : Thread Cert.CaIdeal.nD Cert.CaIdeal.τ).loc Cert.CaIdeal.main_arg1)
      ∧ m' ((c.tc : Thread Cert.CaReferenceIdeal.nD Cert.CaReferenceIdeal.τ).loc Cert.CaReferenceIdeal.main_arg2) = m ((c.tc : Thread Cert.CaIdeal.nD Cert.CaIdeal.τ).loc Cert.CaIdeal.main_arg2)
      ∧ m' ((c.tc : Thread Cert.CaReferenceIdeal.nD Cert.CaReferenceIdeal.τ).loc Cert.CaReferenceIdeal.main_arg3) = m ((c.tc : Thread Cert.CaIdeal.nD Cert.CaIdeal.τ).loc Cert.CaIdeal.main_arg3)
      ∧ m' ((c.tc : Thread Cert.CaReferenceIdeal.nD Cert.CaReferenceIdeal.τ).loc Cert.CaReferenceIdeal.main_arg4) = m ((c.tc : Thread Cert.CaIdeal.nD Cert.CaIdeal.τ).loc Cert.CaIdeal.main_arg4)
      ∧ m' ((c.tc : Thread Cert.CaReferenceIdeal.nD Cert.CaReferenceIdeal.τ).loc Cert.CaReferenceIdeal.main_arg5) = m ((c.tc : Thread Cert.CaIdeal.nD Cert.CaIdeal.τ).loc Cert.CaIdeal.main_arg5)) →
    ∃ (v0 : (c : Dev Cert.CaIdeal.nD) → Buf (Elt Ideal) ((c.tc : Thread Cert.CaIdeal.nD Cert.CaIdeal.τ).loc Cert.CaIdeal.main_v0)) (v1 : (c : Dev Cert.CaIdeal.nD) → Buf (Elt Ideal) ((c.tc : Thread Cert.CaIdeal.nD Cert.CaIdeal.τ).loc Cert.CaIdeal.main_v2)) (v2 : (c : Dev Cert.CaIdeal.nD) → Buf (Elt Ideal) ((c.tc : Thread Cert.CaIdeal.nD Cert.CaIdeal.τ).loc Cert.CaIdeal.main_v4)) (v3 : (c : Dev Cert.CaIdeal.nD) → Buf (Elt Ideal) ((c.tc : Thread Cert.CaIdeal.nD Cert.CaIdeal.τ).loc Cert.CaIdeal.main_v6)) (v4 : (c : Dev Cert.CaIdeal.nD) → Buf (Elt Ideal) ((c.tc : Thread Cert.CaIdeal.nD Cert.CaIdeal.τ).loc Cert.CaIdeal.main_v8)),
      θ_run (Cert.CaIdeal.defs (F := Ideal)) (onTc (τ := Cert.CaIdeal.τ) (Cert.CaIdeal.main (F := Ideal))) ⟨m, fun _ => 0, g⟩ (fun r => ∀ c : Dev Cert.CaIdeal.nD,
          r.2.mem ((c.tc : Thread Cert.CaIdeal.nD Cert.CaIdeal.τ).loc Cert.CaIdeal.main_v0) = v0 c
          ∧ r.2.mem ((c.tc : Thread Cert.CaIdeal.nD Cert.CaIdeal.τ).loc Cert.CaIdeal.main_v2) = v1 c
          ∧ r.2.mem ((c.tc : Thread Cert.CaIdeal.nD Cert.CaIdeal.τ).loc Cert.CaIdeal.main_v4) = v2 c
          ∧ r.2.mem ((c.tc : Thread Cert.CaIdeal.nD Cert.CaIdeal.τ).loc Cert.CaIdeal.main_v6) = v3 c
          ∧ r.2.mem ((c.tc : Thread Cert.CaIdeal.nD Cert.CaIdeal.τ).loc Cert.CaIdeal.main_v8) = v4 c
          ∧ r.2.mem ((c.tc : Thread Cert.CaIdeal.nD Cert.CaIdeal.τ).loc Cert.CaIdeal.main_arg0) = m ((c.tc : Thread Cert.CaIdeal.nD Cert.CaIdeal.τ).loc Cert.CaIdeal.main_arg0)
          ∧ r.2.mem ((c.tc : Thread Cert.CaIdeal.nD Cert.CaIdeal.τ).loc Cert.CaIdeal.main_arg1) = m ((c.tc : Thread Cert.CaIdeal.nD Cert.CaIdeal.τ).loc Cert.CaIdeal.main_arg1)
          ∧ r.2.mem ((c.tc : Thread Cert.CaIdeal.nD Cert.CaIdeal.τ).loc Cert.CaIdeal.main_arg2) = m ((c.tc : Thread Cert.CaIdeal.nD Cert.CaIdeal.τ).loc Cert.CaIdeal.main_arg2)
          ∧ r.2.mem ((c.tc : Thread Cert.CaIdeal.nD Cert.CaIdeal.τ).loc Cert.CaIdeal.main_arg3) = m ((c.tc : Thread Cert.CaIdeal.nD Cert.CaIdeal.τ).loc Cert.CaIdeal.main_arg3)
          ∧ r.2.mem ((c.tc : Thread Cert.CaIdeal.nD Cert.CaIdeal.τ).loc Cert.CaIdeal.main_arg4) = m ((c.tc : Thread Cert.CaIdeal.nD Cert.CaIdeal.τ).loc Cert.CaIdeal.main_arg4)
          ∧ r.2.mem ((c.tc : Thread Cert.CaIdeal.nD Cert.CaIdeal.τ).loc Cert.CaIdeal.main_arg5) = m ((c.tc : Thread Cert.CaIdeal.nD Cert.CaIdeal.τ).loc Cert.CaIdeal.main_arg5))
      ∧ θ_run (Cert.CaReferenceIdeal.defs (F := Ideal)) (onTc (τ := Cert.CaReferenceIdeal.τ) (Cert.CaReferenceIdeal.main (F := Ideal))) ⟨m', fun _ => 0, g'⟩ (fun r => ∀ c : Dev Cert.CaReferenceIdeal.nD,
          r.2.mem ((c.tc : Thread Cert.CaReferenceIdeal.nD Cert.CaReferenceIdeal.τ).loc Cert.CaReferenceIdeal.main_v16) = v0 c
          ∧ r.2.mem ((c.tc : Thread Cert.CaReferenceIdeal.nD Cert.CaReferenceIdeal.τ).loc Cert.CaReferenceIdeal.main_v8) = v1 c
          ∧ r.2.mem ((c.tc : Thread Cert.CaReferenceIdeal.nD Cert.CaReferenceIdeal.τ).loc Cert.CaReferenceIdeal.main_v19) = v2 c
          ∧ r.2.mem ((c.tc : Thread Cert.CaReferenceIdeal.nD Cert.CaReferenceIdeal.τ).loc Cert.CaReferenceIdeal.main_v20) = v3 c
          ∧ r.2.mem ((c.tc : Thread Cert.CaReferenceIdeal.nD Cert.CaReferenceIdeal.τ).loc Cert.CaReferenceIdeal.main_v23) = v4 c
          ∧ r.2.mem ((c.tc : Thread Cert.CaReferenceIdeal.nD Cert.CaReferenceIdeal.τ).loc Cert.CaReferenceIdeal.main_arg0) = m' ((c.tc : Thread Cert.CaReferenceIdeal.nD Cert.CaReferenceIdeal.τ).loc Cert.CaReferenceIdeal.main_arg0)
          ∧ r.2.mem ((c.tc : Thread Cert.CaReferenceIdeal.nD Cert.CaReferenceIdeal.τ).loc Cert.CaReferenceIdeal.main_arg1) = m' ((c.tc : Thread Cert.CaReferenceIdeal.nD Cert.CaReferenceIdeal.τ).loc Cert.CaReferenceIdeal.main_arg1)
          ∧ r.2.mem ((c.tc : Thread Cert.CaReferenceIdeal.nD Cert.CaReferenceIdeal.τ).loc Cert.CaReferenceIdeal.main_arg2) = m' ((c.tc : Thread Cert.CaReferenceIdeal.nD Cert.CaReferenceIdeal.τ).loc Cert.CaReferenceIdeal.main_arg2)
          ∧ r.2.mem ((c.tc : Thread Cert.CaReferenceIdeal.nD Cert.CaReferenceIdeal.τ).loc Cert.CaReferenceIdeal.main_arg3) = m' ((c.tc : Thread Cert.CaReferenceIdeal.nD Cert.CaReferenceIdeal.τ).loc Cert.CaReferenceIdeal.main_arg3)
          ∧ r.2.mem ((c.tc : Thread Cert.CaReferenceIdeal.nD Cert.CaReferenceIdeal.τ).loc Cert.CaReferenceIdeal.main_arg4) = m' ((c.tc : Thread Cert.CaReferenceIdeal.nD Cert.CaReferenceIdeal.τ).loc Cert.CaReferenceIdeal.main_arg4)
          ∧ r.2.mem ((c.tc : Thread Cert.CaReferenceIdeal.nD Cert.CaReferenceIdeal.τ).loc Cert.CaReferenceIdeal.main_arg5) = m' ((c.tc : Thread Cert.CaReferenceIdeal.nD Cert.CaReferenceIdeal.τ).loc Cert.CaReferenceIdeal.main_arg5))

def preserves_CaDh_CaDhIdeal : Prop :=
  True

def algebraic_CaDhIdeal_CaDhReferenceIdeal [hCaDhIdeal : Cert.CaDhIdeal.Facts] [hCaDhReferenceIdeal : Cert.CaDhReferenceIdeal.Facts] : Prop :=
  ∀ (m : (ℓ : Loc Cert.CaDhIdeal.nD Cert.CaDhIdeal.τ Cert.CaDhIdeal.sig) → Buf (Elt Ideal) ℓ) (g : Dev Cert.CaDhIdeal.nD → PrngReg)
    (m' : (ℓ : Loc Cert.CaDhReferenceIdeal.nD Cert.CaDhReferenceIdeal.τ Cert.CaDhReferenceIdeal.sig) → Buf (Elt Ideal) ℓ) (g' : Dev Cert.CaDhReferenceIdeal.nD → PrngReg), Pre_CaDhIdeal m →
    (∀ c : Dev Cert.CaDhIdeal.nD,
      m' ((c.tc : Thread Cert.CaDhReferenceIdeal.nD Cert.CaDhReferenceIdeal.τ).loc Cert.CaDhReferenceIdeal.main_arg0) = m ((c.tc : Thread Cert.CaDhIdeal.nD Cert.CaDhIdeal.τ).loc Cert.CaDhIdeal.main_arg0)
      ∧ m' ((c.tc : Thread Cert.CaDhReferenceIdeal.nD Cert.CaDhReferenceIdeal.τ).loc Cert.CaDhReferenceIdeal.main_arg1) = m ((c.tc : Thread Cert.CaDhIdeal.nD Cert.CaDhIdeal.τ).loc Cert.CaDhIdeal.main_arg1)) →
    ∃ (v0 : (c : Dev Cert.CaDhIdeal.nD) → Buf (Elt Ideal) ((c.tc : Thread Cert.CaDhIdeal.nD Cert.CaDhIdeal.τ).loc Cert.CaDhIdeal.main_v0)),
      θ_run (Cert.CaDhIdeal.defs (F := Ideal)) (onTc (τ := Cert.CaDhIdeal.τ) (Cert.CaDhIdeal.main (F := Ideal))) ⟨m, fun _ => 0, g⟩ (fun r => ∀ c : Dev Cert.CaDhIdeal.nD,
          r.2.mem ((c.tc : Thread Cert.CaDhIdeal.nD Cert.CaDhIdeal.τ).loc Cert.CaDhIdeal.main_v0) = v0 c
          ∧ r.2.mem ((c.tc : Thread Cert.CaDhIdeal.nD Cert.CaDhIdeal.τ).loc Cert.CaDhIdeal.main_arg0) = m ((c.tc : Thread Cert.CaDhIdeal.nD Cert.CaDhIdeal.τ).loc Cert.CaDhIdeal.main_arg0)
          ∧ r.2.mem ((c.tc : Thread Cert.CaDhIdeal.nD Cert.CaDhIdeal.τ).loc Cert.CaDhIdeal.main_arg1) = m ((c.tc : Thread Cert.CaDhIdeal.nD Cert.CaDhIdeal.τ).loc Cert.CaDhIdeal.main_arg1))
      ∧ θ_run (Cert.CaDhReferenceIdeal.defs (F := Ideal)) (onTc (τ := Cert.CaDhReferenceIdeal.τ) (Cert.CaDhReferenceIdeal.main (F := Ideal))) ⟨m', fun _ => 0, g'⟩ (fun r => ∀ c : Dev Cert.CaDhReferenceIdeal.nD,
          r.2.mem ((c.tc : Thread Cert.CaDhReferenceIdeal.nD Cert.CaDhReferenceIdeal.τ).loc Cert.CaDhReferenceIdeal.main_v6) = v0 c
          ∧ r.2.mem ((c.tc : Thread Cert.CaDhReferenceIdeal.nD Cert.CaDhReferenceIdeal.τ).loc Cert.CaDhReferenceIdeal.main_arg0) = m' ((c.tc : Thread Cert.CaDhReferenceIdeal.nD Cert.CaDhReferenceIdeal.τ).loc Cert.CaDhReferenceIdeal.main_arg0)
          ∧ r.2.mem ((c.tc : Thread Cert.CaDhReferenceIdeal.nD Cert.CaDhReferenceIdeal.τ).loc Cert.CaDhReferenceIdeal.main_arg1) = m' ((c.tc : Thread Cert.CaDhReferenceIdeal.nD Cert.CaDhReferenceIdeal.τ).loc Cert.CaDhReferenceIdeal.main_arg1))

def preserves_Mla_MlaIdeal : Prop :=
  True

def algebraic_MlaIdeal_MlaReferenceIdeal [hMlaIdeal : Cert.MlaIdeal.Facts] [hMlaReferenceIdeal : Cert.MlaReferenceIdeal.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)
      ∧ m' ((c.tc : Thread Cert.MlaReferenceIdeal.nD Cert.MlaReferenceIdeal.τ).loc Cert.MlaReferenceIdeal.main_arg3) = m ((c.tc : Thread Cert.MlaIdeal.nD Cert.MlaIdeal.τ).loc Cert.MlaIdeal.main_arg3)
      ∧ m' ((c.tc : Thread Cert.MlaReferenceIdeal.nD Cert.MlaReferenceIdeal.τ).loc Cert.MlaReferenceIdeal.main_arg4) = m ((c.tc : Thread Cert.MlaIdeal.nD Cert.MlaIdeal.τ).loc Cert.MlaIdeal.main_arg4)
      ∧ m' ((c.tc : Thread Cert.MlaReferenceIdeal.nD Cert.MlaReferenceIdeal.τ).loc Cert.MlaReferenceIdeal.main_arg5) = m ((c.tc : Thread Cert.MlaIdeal.nD Cert.MlaIdeal.τ).loc Cert.MlaIdeal.main_arg5)
      ∧ m' ((c.tc : Thread Cert.MlaReferenceIdeal.nD Cert.MlaReferenceIdeal.τ).loc Cert.MlaReferenceIdeal.main_arg6) = m ((c.tc : Thread Cert.MlaIdeal.nD Cert.MlaIdeal.τ).loc Cert.MlaIdeal.main_arg6)
      ∧ m' ((c.tc : Thread Cert.MlaReferenceIdeal.nD Cert.MlaReferenceIdeal.τ).loc Cert.MlaReferenceIdeal.main_arg7) = m ((c.tc : Thread Cert.MlaIdeal.nD Cert.MlaIdeal.τ).loc Cert.MlaIdeal.main_arg7)
      ∧ m' ((c.tc : Thread Cert.MlaReferenceIdeal.nD Cert.MlaReferenceIdeal.τ).loc Cert.MlaReferenceIdeal.main_arg8) = m ((c.tc : Thread Cert.MlaIdeal.nD Cert.MlaIdeal.τ).loc Cert.MlaIdeal.main_arg8)
      ∧ m' ((c.tc : Thread Cert.MlaReferenceIdeal.nD Cert.MlaReferenceIdeal.τ).loc Cert.MlaReferenceIdeal.main_arg9) = m ((c.tc : Thread Cert.MlaIdeal.nD Cert.MlaIdeal.τ).loc Cert.MlaIdeal.main_arg9)
      ∧ m' ((c.tc : Thread Cert.MlaReferenceIdeal.nD Cert.MlaReferenceIdeal.τ).loc Cert.MlaReferenceIdeal.main_arg10) = m ((c.tc : Thread Cert.MlaIdeal.nD Cert.MlaIdeal.τ).loc Cert.MlaIdeal.main_arg10)
      ∧ m' ((c.tc : Thread Cert.MlaReferenceIdeal.nD Cert.MlaReferenceIdeal.τ).loc Cert.MlaReferenceIdeal.main_arg11) = m ((c.tc : Thread Cert.MlaIdeal.nD Cert.MlaIdeal.τ).loc Cert.MlaIdeal.main_arg11)) →
    ∃ (v0 : (c : Dev Cert.MlaIdeal.nD) → Buf (Elt Ideal) ((c.tc : Thread Cert.MlaIdeal.nD Cert.MlaIdeal.τ).loc Cert.MlaIdeal.main_v1)) (v1 : (c : Dev Cert.MlaIdeal.nD) → Buf (Elt Ideal) ((c.tc : Thread Cert.MlaIdeal.nD Cert.MlaIdeal.τ).loc Cert.MlaIdeal.main_v2)) (v2 : (c : Dev Cert.MlaIdeal.nD) → Buf (Elt Ideal) ((c.tc : Thread Cert.MlaIdeal.nD Cert.MlaIdeal.τ).loc Cert.MlaIdeal.main_v3)) (v3 : (c : Dev Cert.MlaIdeal.nD) → Buf (Elt Ideal) ((c.tc : Thread Cert.MlaIdeal.nD Cert.MlaIdeal.τ).loc Cert.MlaIdeal.main_v5)) (v4 : (c : Dev Cert.MlaIdeal.nD) → Buf (Elt Ideal) ((c.tc : Thread Cert.MlaIdeal.nD Cert.MlaIdeal.τ).loc Cert.MlaIdeal.main_v7)) (v5 : (c : Dev Cert.MlaIdeal.nD) → Buf (Elt Ideal) ((c.tc : Thread Cert.MlaIdeal.nD Cert.MlaIdeal.τ).loc Cert.MlaIdeal.main_v9)) (v6 : (c : Dev Cert.MlaIdeal.nD) → Buf (Elt Ideal) ((c.tc : Thread Cert.MlaIdeal.nD Cert.MlaIdeal.τ).loc Cert.MlaIdeal.main_v11)) (v7 : (c : Dev Cert.MlaIdeal.nD) → Buf (Elt Ideal) ((c.tc : Thread Cert.MlaIdeal.nD Cert.MlaIdeal.τ).loc Cert.MlaIdeal.main_v13)) (v8 : (c : Dev Cert.MlaIdeal.nD) → Buf (Elt Ideal) ((c.tc : Thread Cert.MlaIdeal.nD Cert.MlaIdeal.τ).loc Cert.MlaIdeal.main_v15)) (v9 : (c : Dev Cert.MlaIdeal.nD) → Buf (Elt Ideal) ((c.tc : Thread Cert.MlaIdeal.nD Cert.MlaIdeal.τ).loc Cert.MlaIdeal.main_v17)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v1) = v0 c
          ∧ r.2.mem ((c.tc : Thread Cert.MlaIdeal.nD Cert.MlaIdeal.τ).loc Cert.MlaIdeal.main_v2) = v1 c
          ∧ r.2.mem ((c.tc : Thread Cert.MlaIdeal.nD Cert.MlaIdeal.τ).loc Cert.MlaIdeal.main_v3) = v2 c
          ∧ r.2.mem ((c.tc : Thread Cert.MlaIdeal.nD Cert.MlaIdeal.τ).loc Cert.MlaIdeal.main_v5) = v3 c
          ∧ r.2.mem ((c.tc : Thread Cert.MlaIdeal.nD Cert.MlaIdeal.τ).loc Cert.MlaIdeal.main_v7) = v4 c
          ∧ r.2.mem ((c.tc : Thread Cert.MlaIdeal.nD Cert.MlaIdeal.τ).loc Cert.MlaIdeal.main_v9) = v5 c
          ∧ r.2.mem ((c.tc : Thread Cert.MlaIdeal.nD Cert.MlaIdeal.τ).loc Cert.MlaIdeal.main_v11) = v6 c
          ∧ r.2.mem ((c.tc : Thread Cert.MlaIdeal.nD Cert.MlaIdeal.τ).loc Cert.MlaIdeal.main_v13) = v7 c
          ∧ r.2.mem ((c.tc : Thread Cert.MlaIdeal.nD Cert.MlaIdeal.τ).loc Cert.MlaIdeal.main_v15) = v8 c
          ∧ r.2.mem ((c.tc : Thread Cert.MlaIdeal.nD Cert.MlaIdeal.τ).loc Cert.MlaIdeal.main_v17) = v9 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
          ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
          ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9)
          ∧ r.2.mem ((c.tc : Thread Cert.MlaIdeal.nD Cert.MlaIdeal.τ).loc Cert.MlaIdeal.main_arg10) = m ((c.tc : Thread Cert.MlaIdeal.nD Cert.MlaIdeal.τ).loc Cert.MlaIdeal.main_arg10)
          ∧ r.2.mem ((c.tc : Thread Cert.MlaIdeal.nD Cert.MlaIdeal.τ).loc Cert.MlaIdeal.main_arg11) = m ((c.tc : Thread Cert.MlaIdeal.nD Cert.MlaIdeal.τ).loc Cert.MlaIdeal.main_arg11))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v3) = v0 c
          ∧ r.2.mem ((c.tc : Thread Cert.MlaReferenceIdeal.nD Cert.MlaReferenceIdeal.τ).loc Cert.MlaReferenceIdeal.main_v8) = v1 c
          ∧ r.2.mem ((c.tc : Thread Cert.MlaReferenceIdeal.nD Cert.MlaReferenceIdeal.τ).loc Cert.MlaReferenceIdeal.main_v32) = v2 c
          ∧ r.2.mem ((c.tc : Thread Cert.MlaReferenceIdeal.nD Cert.MlaReferenceIdeal.τ).loc Cert.MlaReferenceIdeal.main_v17) = v3 c
          ∧ r.2.mem ((c.tc : Thread Cert.MlaReferenceIdeal.nD Cert.MlaReferenceIdeal.τ).loc Cert.MlaReferenceIdeal.main_v35) = v4 c
          ∧ r.2.mem ((c.tc : Thread Cert.MlaReferenceIdeal.nD Cert.MlaReferenceIdeal.τ).loc Cert.MlaReferenceIdeal.main_v36) = v5 c
          ∧ r.2.mem ((c.tc : Thread Cert.MlaReferenceIdeal.nD Cert.MlaReferenceIdeal.τ).loc Cert.MlaReferenceIdeal.main_v39) = v6 c
          ∧ r.2.mem ((c.tc : Thread Cert.MlaReferenceIdeal.nD Cert.MlaReferenceIdeal.τ).loc Cert.MlaReferenceIdeal.main_v42) = v7 c
          ∧ r.2.mem ((c.tc : Thread Cert.MlaReferenceIdeal.nD Cert.MlaReferenceIdeal.τ).loc Cert.MlaReferenceIdeal.main_v45) = v8 c
          ∧ r.2.mem ((c.tc : Thread Cert.MlaReferenceIdeal.nD Cert.MlaReferenceIdeal.τ).loc Cert.MlaReferenceIdeal.main_v31) = v9 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4)
          ∧ r.2.mem ((c.tc : Thread Cert.MlaReferenceIdeal.nD Cert.MlaReferenceIdeal.τ).loc Cert.MlaReferenceIdeal.main_arg5) = m' ((c.tc : Thread Cert.MlaReferenceIdeal.nD Cert.MlaReferenceIdeal.τ).loc Cert.MlaReferenceIdeal.main_arg5)
          ∧ r.2.mem ((c.tc : Thread Cert.MlaReferenceIdeal.nD Cert.MlaReferenceIdeal.τ).loc Cert.MlaReferenceIdeal.main_arg6) = m' ((c.tc : Thread Cert.MlaReferenceIdeal.nD Cert.MlaReferenceIdeal.τ).loc Cert.MlaReferenceIdeal.main_arg6)
          ∧ r.2.mem ((c.tc : Thread Cert.MlaReferenceIdeal.nD Cert.MlaReferenceIdeal.τ).loc Cert.MlaReferenceIdeal.main_arg7) = m' ((c.tc : Thread Cert.MlaReferenceIdeal.nD Cert.MlaReferenceIdeal.τ).loc Cert.MlaReferenceIdeal.main_arg7)
          ∧ r.2.mem ((c.tc : Thread Cert.MlaReferenceIdeal.nD Cert.MlaReferenceIdeal.τ).loc Cert.MlaReferenceIdeal.main_arg8) = m' ((c.tc : Thread Cert.MlaReferenceIdeal.nD Cert.MlaReferenceIdeal.τ).loc Cert.MlaReferenceIdeal.main_arg8)
          ∧ r.2.mem ((c.tc : Thread Cert.MlaReferenceIdeal.nD Cert.MlaReferenceIdeal.τ).loc Cert.MlaReferenceIdeal.main_arg9) = m' ((c.tc : Thread Cert.MlaReferenceIdeal.nD Cert.MlaReferenceIdeal.τ).loc Cert.MlaReferenceIdeal.main_arg9)
          ∧ r.2.mem ((c.tc : Thread Cert.MlaReferenceIdeal.nD Cert.MlaReferenceIdeal.τ).loc Cert.MlaReferenceIdeal.main_arg10) = m' ((c.tc : Thread Cert.MlaReferenceIdeal.nD Cert.MlaReferenceIdeal.τ).loc Cert.MlaReferenceIdeal.main_arg10)
          ∧ r.2.mem ((c.tc : Thread Cert.MlaReferenceIdeal.nD Cert.MlaReferenceIdeal.τ).loc Cert.MlaReferenceIdeal.main_arg11) = m' ((c.tc : Thread Cert.MlaReferenceIdeal.nD Cert.MlaReferenceIdeal.τ).loc Cert.MlaReferenceIdeal.main_arg11))

def preserves_MlaDcq_MlaDcqIdeal : Prop :=
  True

def algebraic_MlaDcqIdeal_MlaDcqReferenceIdeal [hMlaDcqIdeal : Cert.MlaDcqIdeal.Facts] [hMlaDcqReferenceIdeal : Cert.MlaDcqReferenceIdeal.Facts] : Prop :=
  ∀ (m : (ℓ : Loc Cert.MlaDcqIdeal.nD Cert.MlaDcqIdeal.τ Cert.MlaDcqIdeal.sig) → Buf (Elt Ideal) ℓ) (g : Dev Cert.MlaDcqIdeal.nD → PrngReg)
    (m' : (ℓ : Loc Cert.MlaDcqReferenceIdeal.nD Cert.MlaDcqReferenceIdeal.τ Cert.MlaDcqReferenceIdeal.sig) → Buf (Elt Ideal) ℓ) (g' : Dev Cert.MlaDcqReferenceIdeal.nD → PrngReg), Pre_MlaDcqIdeal m →
    (∀ c : Dev Cert.MlaDcqIdeal.nD,
      m' ((c.tc : Thread Cert.MlaDcqReferenceIdeal.nD Cert.MlaDcqReferenceIdeal.τ).loc Cert.MlaDcqReferenceIdeal.main_arg0) = m ((c.tc : Thread Cert.MlaDcqIdeal.nD Cert.MlaDcqIdeal.τ).loc Cert.MlaDcqIdeal.main_arg0)
      ∧ m' ((c.tc : Thread Cert.MlaDcqReferenceIdeal.nD Cert.MlaDcqReferenceIdeal.τ).loc Cert.MlaDcqReferenceIdeal.main_arg1) = m ((c.tc : Thread Cert.MlaDcqIdeal.nD Cert.MlaDcqIdeal.τ).loc Cert.MlaDcqIdeal.main_arg1)) →
    ∃ (v0 : (c : Dev Cert.MlaDcqIdeal.nD) → Buf (Elt Ideal) ((c.tc : Thread Cert.MlaDcqIdeal.nD Cert.MlaDcqIdeal.τ).loc Cert.MlaDcqIdeal.main_v0)),
      θ_run (Cert.MlaDcqIdeal.defs (F := Ideal)) (onTc (τ := Cert.MlaDcqIdeal.τ) (Cert.MlaDcqIdeal.main (F := Ideal))) ⟨m, fun _ => 0, g⟩ (fun r => ∀ c : Dev Cert.MlaDcqIdeal.nD,
          r.2.mem ((c.tc : Thread Cert.MlaDcqIdeal.nD Cert.MlaDcqIdeal.τ).loc Cert.MlaDcqIdeal.main_v0) = v0 c
          ∧ r.2.mem ((c.tc : Thread Cert.MlaDcqIdeal.nD Cert.MlaDcqIdeal.τ).loc Cert.MlaDcqIdeal.main_arg0) = m ((c.tc : Thread Cert.MlaDcqIdeal.nD Cert.MlaDcqIdeal.τ).loc Cert.MlaDcqIdeal.main_arg0)
          ∧ r.2.mem ((c.tc : Thread Cert.MlaDcqIdeal.nD Cert.MlaDcqIdeal.τ).loc Cert.MlaDcqIdeal.main_arg1) = m ((c.tc : Thread Cert.MlaDcqIdeal.nD Cert.MlaDcqIdeal.τ).loc Cert.MlaDcqIdeal.main_arg1))
      ∧ θ_run (Cert.MlaDcqReferenceIdeal.defs (F := Ideal)) (onTc (τ := Cert.MlaDcqReferenceIdeal.τ) (Cert.MlaDcqReferenceIdeal.main (F := Ideal))) ⟨m', fun _ => 0, g'⟩ (fun r => ∀ c : Dev Cert.MlaDcqReferenceIdeal.nD,
          r.2.mem ((c.tc : Thread Cert.MlaDcqReferenceIdeal.nD Cert.MlaDcqReferenceIdeal.τ).loc Cert.MlaDcqReferenceIdeal.main_v6) = v0 c
          ∧ r.2.mem ((c.tc : Thread Cert.MlaDcqReferenceIdeal.nD Cert.MlaDcqReferenceIdeal.τ).loc Cert.MlaDcqReferenceIdeal.main_arg0) = m' ((c.tc : Thread Cert.MlaDcqReferenceIdeal.nD Cert.MlaDcqReferenceIdeal.τ).loc Cert.MlaDcqReferenceIdeal.main_arg0)
          ∧ r.2.mem ((c.tc : Thread Cert.MlaDcqReferenceIdeal.nD Cert.MlaDcqReferenceIdeal.τ).loc Cert.MlaDcqReferenceIdeal.main_arg1) = m' ((c.tc : Thread Cert.MlaDcqReferenceIdeal.nD Cert.MlaDcqReferenceIdeal.τ).loc Cert.MlaDcqReferenceIdeal.main_arg1))

def preserves_MlaDckv_MlaDckvIdeal : Prop :=
  True

def algebraic_MlaDckvIdeal_MlaDckvReferenceIdeal [hMlaDckvIdeal : Cert.MlaDckvIdeal.Facts] [hMlaDckvReferenceIdeal : Cert.MlaDckvReferenceIdeal.Facts] : Prop :=
  ∀ (m : (ℓ : Loc Cert.MlaDckvIdeal.nD Cert.MlaDckvIdeal.τ Cert.MlaDckvIdeal.sig) → Buf (Elt Ideal) ℓ) (g : Dev Cert.MlaDckvIdeal.nD → PrngReg)
    (m' : (ℓ : Loc Cert.MlaDckvReferenceIdeal.nD Cert.MlaDckvReferenceIdeal.τ Cert.MlaDckvReferenceIdeal.sig) → Buf (Elt Ideal) ℓ) (g' : Dev Cert.MlaDckvReferenceIdeal.nD → PrngReg), Pre_MlaDckvIdeal m →
    (∀ c : Dev Cert.MlaDckvIdeal.nD,
      m' ((c.tc : Thread Cert.MlaDckvReferenceIdeal.nD Cert.MlaDckvReferenceIdeal.τ).loc Cert.MlaDckvReferenceIdeal.main_arg0) = m ((c.tc : Thread Cert.MlaDckvIdeal.nD Cert.MlaDckvIdeal.τ).loc Cert.MlaDckvIdeal.main_arg0)
      ∧ m' ((c.tc : Thread Cert.MlaDckvReferenceIdeal.nD Cert.MlaDckvReferenceIdeal.τ).loc Cert.MlaDckvReferenceIdeal.main_arg1) = m ((c.tc : Thread Cert.MlaDckvIdeal.nD Cert.MlaDckvIdeal.τ).loc Cert.MlaDckvIdeal.main_arg1)) →
    ∃ (v0 : (c : Dev Cert.MlaDckvIdeal.nD) → Buf (Elt Ideal) ((c.tc : Thread Cert.MlaDckvIdeal.nD Cert.MlaDckvIdeal.τ).loc Cert.MlaDckvIdeal.main_v0)),
      θ_run (Cert.MlaDckvIdeal.defs (F := Ideal)) (onTc (τ := Cert.MlaDckvIdeal.τ) (Cert.MlaDckvIdeal.main (F := Ideal))) ⟨m, fun _ => 0, g⟩ (fun r => ∀ c : Dev Cert.MlaDckvIdeal.nD,
          r.2.mem ((c.tc : Thread Cert.MlaDckvIdeal.nD Cert.MlaDckvIdeal.τ).loc Cert.MlaDckvIdeal.main_v0) = v0 c
          ∧ r.2.mem ((c.tc : Thread Cert.MlaDckvIdeal.nD Cert.MlaDckvIdeal.τ).loc Cert.MlaDckvIdeal.main_arg0) = m ((c.tc : Thread Cert.MlaDckvIdeal.nD Cert.MlaDckvIdeal.τ).loc Cert.MlaDckvIdeal.main_arg0)
          ∧ r.2.mem ((c.tc : Thread Cert.MlaDckvIdeal.nD Cert.MlaDckvIdeal.τ).loc Cert.MlaDckvIdeal.main_arg1) = m ((c.tc : Thread Cert.MlaDckvIdeal.nD Cert.MlaDckvIdeal.τ).loc Cert.MlaDckvIdeal.main_arg1))
      ∧ θ_run (Cert.MlaDckvReferenceIdeal.defs (F := Ideal)) (onTc (τ := Cert.MlaDckvReferenceIdeal.τ) (Cert.MlaDckvReferenceIdeal.main (F := Ideal))) ⟨m', fun _ => 0, g'⟩ (fun r => ∀ c : Dev Cert.MlaDckvReferenceIdeal.nD,
          r.2.mem ((c.tc : Thread Cert.MlaDckvReferenceIdeal.nD Cert.MlaDckvReferenceIdeal.τ).loc Cert.MlaDckvReferenceIdeal.main_v6) = v0 c
          ∧ r.2.mem ((c.tc : Thread Cert.MlaDckvReferenceIdeal.nD Cert.MlaDckvReferenceIdeal.τ).loc Cert.MlaDckvReferenceIdeal.main_arg0) = m' ((c.tc : Thread Cert.MlaDckvReferenceIdeal.nD Cert.MlaDckvReferenceIdeal.τ).loc Cert.MlaDckvReferenceIdeal.main_arg0)
          ∧ r.2.mem ((c.tc : Thread Cert.MlaDckvReferenceIdeal.nD Cert.MlaDckvReferenceIdeal.τ).loc Cert.MlaDckvReferenceIdeal.main_arg1) = m' ((c.tc : Thread Cert.MlaDckvReferenceIdeal.nD Cert.MlaDckvReferenceIdeal.τ).loc Cert.MlaDckvReferenceIdeal.main_arg1))

def preserves_MlaAttn_MlaAttnIdeal : Prop :=
  True

def algebraic_MlaAttnIdeal_MlaAttnReferenceIdeal_pre_finite_heads [hMlaAttnIdeal : Cert.MlaAttnIdeal.Facts] [hMlaAttnReferenceIdeal : Cert.MlaAttnReferenceIdeal.Facts] [hPre_finite_heads : Cert.Pre_finite_heads.Facts] : Prop :=
  ∀ (m : (ℓ : Loc Cert.MlaAttnIdeal.nD Cert.MlaAttnIdeal.τ Cert.MlaAttnIdeal.sig) → Buf (Elt Ideal) ℓ) (g : Dev Cert.MlaAttnIdeal.nD → PrngReg)
    (m' : (ℓ : Loc Cert.MlaAttnReferenceIdeal.nD Cert.MlaAttnReferenceIdeal.τ Cert.MlaAttnReferenceIdeal.sig) → Buf (Elt Ideal) ℓ) (g' : Dev Cert.MlaAttnReferenceIdeal.nD → PrngReg), Pre_MlaAttnIdeal_finite_heads m →
    (∀ c : Dev Cert.MlaAttnIdeal.nD,
      m' ((c.tc : Thread Cert.MlaAttnReferenceIdeal.nD Cert.MlaAttnReferenceIdeal.τ).loc Cert.MlaAttnReferenceIdeal.main_arg0) = m ((c.tc : Thread Cert.MlaAttnIdeal.nD Cert.MlaAttnIdeal.τ).loc Cert.MlaAttnIdeal.main_arg0)
      ∧ m' ((c.tc : Thread Cert.MlaAttnReferenceIdeal.nD Cert.MlaAttnReferenceIdeal.τ).loc Cert.MlaAttnReferenceIdeal.main_arg1) = m ((c.tc : Thread Cert.MlaAttnIdeal.nD Cert.MlaAttnIdeal.τ).loc Cert.MlaAttnIdeal.main_arg1)
      ∧ m' ((c.tc : Thread Cert.MlaAttnReferenceIdeal.nD Cert.MlaAttnReferenceIdeal.τ).loc Cert.MlaAttnReferenceIdeal.main_arg2) = m ((c.tc : Thread Cert.MlaAttnIdeal.nD Cert.MlaAttnIdeal.τ).loc Cert.MlaAttnIdeal.main_arg2)
      ∧ m' ((c.tc : Thread Cert.MlaAttnReferenceIdeal.nD Cert.MlaAttnReferenceIdeal.τ).loc Cert.MlaAttnReferenceIdeal.main_arg3) = m ((c.tc : Thread Cert.MlaAttnIdeal.nD Cert.MlaAttnIdeal.τ).loc Cert.MlaAttnIdeal.main_arg3)) →
    ∃ (v0 : (c : Dev Cert.MlaAttnIdeal.nD) → Buf (Elt Ideal) ((c.tc : Thread Cert.MlaAttnIdeal.nD Cert.MlaAttnIdeal.τ).loc Cert.MlaAttnIdeal.main_v43_0)) (v1 : (c : Dev Cert.MlaAttnIdeal.nD) → Buf (Elt Ideal) ((c.tc : Thread Cert.MlaAttnIdeal.nD Cert.MlaAttnIdeal.τ).loc Cert.MlaAttnIdeal.main_v43_1)) (v2 : (c : Dev Cert.MlaAttnIdeal.nD) → Buf (Elt Ideal) ((c.tc : Thread Cert.MlaAttnIdeal.nD Cert.MlaAttnIdeal.τ).loc Cert.MlaAttnIdeal.main_v43_2)),
      θ_run (Cert.MlaAttnIdeal.defs (F := Ideal)) (onTc (τ := Cert.MlaAttnIdeal.τ) (Cert.MlaAttnIdeal.main (F := Ideal))) ⟨m, fun _ => 0, g⟩ (fun r => ∀ c : Dev Cert.MlaAttnIdeal.nD,
          r.2.mem ((c.tc : Thread Cert.MlaAttnIdeal.nD Cert.MlaAttnIdeal.τ).loc Cert.MlaAttnIdeal.main_v43_0) = v0 c
          ∧ r.2.mem ((c.tc : Thread Cert.MlaAttnIdeal.nD Cert.MlaAttnIdeal.τ).loc Cert.MlaAttnIdeal.main_v43_1) = v1 c
          ∧ r.2.mem ((c.tc : Thread Cert.MlaAttnIdeal.nD Cert.MlaAttnIdeal.τ).loc Cert.MlaAttnIdeal.main_v43_2) = v2 c
          ∧ r.2.mem ((c.tc : Thread Cert.MlaAttnIdeal.nD Cert.MlaAttnIdeal.τ).loc Cert.MlaAttnIdeal.main_arg0) = m ((c.tc : Thread Cert.MlaAttnIdeal.nD Cert.MlaAttnIdeal.τ).loc Cert.MlaAttnIdeal.main_arg0)
          ∧ r.2.mem ((c.tc : Thread Cert.MlaAttnIdeal.nD Cert.MlaAttnIdeal.τ).loc Cert.MlaAttnIdeal.main_arg1) = m ((c.tc : Thread Cert.MlaAttnIdeal.nD Cert.MlaAttnIdeal.τ).loc Cert.MlaAttnIdeal.main_arg1)
          ∧ r.2.mem ((c.tc : Thread Cert.MlaAttnIdeal.nD Cert.MlaAttnIdeal.τ).loc Cert.MlaAttnIdeal.main_arg2) = m ((c.tc : Thread Cert.MlaAttnIdeal.nD Cert.MlaAttnIdeal.τ).loc Cert.MlaAttnIdeal.main_arg2)
          ∧ r.2.mem ((c.tc : Thread Cert.MlaAttnIdeal.nD Cert.MlaAttnIdeal.τ).loc Cert.MlaAttnIdeal.main_arg3) = m ((c.tc : Thread Cert.MlaAttnIdeal.nD Cert.MlaAttnIdeal.τ).loc Cert.MlaAttnIdeal.main_arg3))
      ∧ θ_run (Cert.MlaAttnReferenceIdeal.defs (F := Ideal)) (onTc (τ := Cert.MlaAttnReferenceIdeal.τ) (Cert.MlaAttnReferenceIdeal.main (F := Ideal))) ⟨m', fun _ => 0, g'⟩ (fun r => ∀ c : Dev Cert.MlaAttnReferenceIdeal.nD,
          r.2.mem ((c.tc : Thread Cert.MlaAttnReferenceIdeal.nD Cert.MlaAttnReferenceIdeal.τ).loc Cert.MlaAttnReferenceIdeal.main_v109) = v0 c
          ∧ r.2.mem ((c.tc : Thread Cert.MlaAttnReferenceIdeal.nD Cert.MlaAttnReferenceIdeal.τ).loc Cert.MlaAttnReferenceIdeal.main_v110) = v1 c
          ∧ r.2.mem ((c.tc : Thread Cert.MlaAttnReferenceIdeal.nD Cert.MlaAttnReferenceIdeal.τ).loc Cert.MlaAttnReferenceIdeal.main_v111) = v2 c
          ∧ r.2.mem ((c.tc : Thread Cert.MlaAttnReferenceIdeal.nD Cert.MlaAttnReferenceIdeal.τ).loc Cert.MlaAttnReferenceIdeal.main_arg0) = m' ((c.tc : Thread Cert.MlaAttnReferenceIdeal.nD Cert.MlaAttnReferenceIdeal.τ).loc Cert.MlaAttnReferenceIdeal.main_arg0)
          ∧ r.2.mem ((c.tc : Thread Cert.MlaAttnReferenceIdeal.nD Cert.MlaAttnReferenceIdeal.τ).loc Cert.MlaAttnReferenceIdeal.main_arg1) = m' ((c.tc : Thread Cert.MlaAttnReferenceIdeal.nD Cert.MlaAttnReferenceIdeal.τ).loc Cert.MlaAttnReferenceIdeal.main_arg1)
          ∧ r.2.mem ((c.tc : Thread Cert.MlaAttnReferenceIdeal.nD Cert.MlaAttnReferenceIdeal.τ).loc Cert.MlaAttnReferenceIdeal.main_arg2) = m' ((c.tc : Thread Cert.MlaAttnReferenceIdeal.nD Cert.MlaAttnReferenceIdeal.τ).loc Cert.MlaAttnReferenceIdeal.main_arg2)
          ∧ r.2.mem ((c.tc : Thread Cert.MlaAttnReferenceIdeal.nD Cert.MlaAttnReferenceIdeal.τ).loc Cert.MlaAttnReferenceIdeal.main_arg3) = m' ((c.tc : Thread Cert.MlaAttnReferenceIdeal.nD Cert.MlaAttnReferenceIdeal.τ).loc Cert.MlaAttnReferenceIdeal.main_arg3))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMlpDh : Cert.MlpDh.Facts) (hMlpDhIdeal : Cert.MlpDhIdeal.Facts) (hMlpDhReferenceIdeal : Cert.MlpDhReferenceIdeal.Facts) (hMlpOut : Cert.MlpOut.Facts) (hMlpOutIdeal : Cert.MlpOutIdeal.Facts) (hMlpOutReferenceIdeal : Cert.MlpOutReferenceIdeal.Facts) (hSb : Cert.Sb.Facts) (hSbIdeal : Cert.SbIdeal.Facts) (hSbReferenceIdeal : Cert.SbReferenceIdeal.Facts) (hSbDh : Cert.SbDh.Facts) (hSbDhIdeal : Cert.SbDhIdeal.Facts) (hSbDhReferenceIdeal : Cert.SbDhReferenceIdeal.Facts) (hCa : Cert.Ca.Facts) (hCaIdeal : Cert.CaIdeal.Facts) (hCaReferenceIdeal : Cert.CaReferenceIdeal.Facts) (hCaDh : Cert.CaDh.Facts) (hCaDhIdeal : Cert.CaDhIdeal.Facts) (hCaDhReferenceIdeal : Cert.CaDhReferenceIdeal.Facts) (hMla : Cert.Mla.Facts) (hMlaIdeal : Cert.MlaIdeal.Facts) (hMlaReferenceIdeal : Cert.MlaReferenceIdeal.Facts) (hMlaDcq : Cert.MlaDcq.Facts) (hMlaDcqIdeal : Cert.MlaDcqIdeal.Facts) (hMlaDcqReferenceIdeal : Cert.MlaDcqReferenceIdeal.Facts) (hMlaDckv : Cert.MlaDckv.Facts) (hMlaDckvIdeal : Cert.MlaDckvIdeal.Facts) (hMlaDckvReferenceIdeal : Cert.MlaDckvReferenceIdeal.Facts) (hMlaAttn : Cert.MlaAttn.Facts) (hMlaAttnIdeal : Cert.MlaAttnIdeal.Facts) (hMlaAttnReferenceIdeal : Cert.MlaAttnReferenceIdeal.Facts) (hPre_finite_inputs : Cert.Pre_finite_inputs.Facts) (hPre_finite_heads : Cert.Pre_finite_heads.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Mlp (hMlp := hMlp)
    ∧ quiescent_MlpIdeal (hMlpIdeal := hMlpIdeal)
    ∧ quiescent_MlpReferenceIdeal (hMlpReferenceIdeal := hMlpReferenceIdeal)
    ∧ quiescent_MlpDh (hMlpDh := hMlpDh)
    ∧ quiescent_MlpDhIdeal (hMlpDhIdeal := hMlpDhIdeal)
    ∧ quiescent_MlpDhReferenceIdeal (hMlpDhReferenceIdeal := hMlpDhReferenceIdeal)
    ∧ quiescent_MlpOut (hMlpOut := hMlpOut)
    ∧ quiescent_MlpOutIdeal (hMlpOutIdeal := hMlpOutIdeal)
    ∧ quiescent_MlpOutReferenceIdeal (hMlpOutReferenceIdeal := hMlpOutReferenceIdeal)
    ∧ quiescent_Sb (hSb := hSb)
    ∧ quiescent_SbIdeal (hSbIdeal := hSbIdeal)
    ∧ quiescent_SbReferenceIdeal (hSbReferenceIdeal := hSbReferenceIdeal)
    ∧ quiescent_SbDh (hSbDh := hSbDh)
    ∧ quiescent_SbDhIdeal (hSbDhIdeal := hSbDhIdeal)
    ∧ quiescent_SbDhReferenceIdeal (hSbDhReferenceIdeal := hSbDhReferenceIdeal)
    ∧ quiescent_Ca (hCa := hCa)
    ∧ quiescent_CaIdeal (hCaIdeal := hCaIdeal)
    ∧ quiescent_CaReferenceIdeal (hCaReferenceIdeal := hCaReferenceIdeal)
    ∧ quiescent_CaDh (hCaDh := hCaDh)
    ∧ quiescent_CaDhIdeal (hCaDhIdeal := hCaDhIdeal)
    ∧ quiescent_CaDhReferenceIdeal (hCaDhReferenceIdeal := hCaDhReferenceIdeal)
    ∧ quiescent_Mla (hMla := hMla)
    ∧ quiescent_MlaIdeal (hMlaIdeal := hMlaIdeal)
    ∧ quiescent_MlaReferenceIdeal (hMlaReferenceIdeal := hMlaReferenceIdeal)
    ∧ quiescent_MlaDcq (hMlaDcq := hMlaDcq)
    ∧ quiescent_MlaDcqIdeal (hMlaDcqIdeal := hMlaDcqIdeal)
    ∧ quiescent_MlaDcqReferenceIdeal (hMlaDcqReferenceIdeal := hMlaDcqReferenceIdeal)
    ∧ quiescent_MlaDckv (hMlaDckv := hMlaDckv)
    ∧ quiescent_MlaDckvIdeal (hMlaDckvIdeal := hMlaDckvIdeal)
    ∧ quiescent_MlaDckvReferenceIdeal (hMlaDckvReferenceIdeal := hMlaDckvReferenceIdeal)
    ∧ quiescent_MlaAttn (hMlaAttn := hMlaAttn)
    ∧ quiescent_MlaAttnIdeal (hMlaAttnIdeal := hMlaAttnIdeal)
    ∧ quiescent_MlaAttnIdeal_pre_finite_heads (hMlaAttnIdeal := hMlaAttnIdeal) (hPre_finite_heads := hPre_finite_heads)
    ∧ quiescent_MlaAttnReferenceIdeal (hMlaAttnReferenceIdeal := hMlaAttnReferenceIdeal)
    ∧ quiescent_MlaAttnReferenceIdeal_pre_finite_heads (hMlaAttnReferenceIdeal := hMlaAttnReferenceIdeal) (hPre_finite_heads := hPre_finite_heads)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Mlp_MlpIdeal
    ∧ algebraic_MlpIdeal_MlpReferenceIdeal (hMlpIdeal := hMlpIdeal) (hMlpReferenceIdeal := hMlpReferenceIdeal)
    ∧ preserves_MlpDh_MlpDhIdeal
    ∧ algebraic_MlpDhIdeal_MlpDhReferenceIdeal (hMlpDhIdeal := hMlpDhIdeal) (hMlpDhReferenceIdeal := hMlpDhReferenceIdeal)
    ∧ preserves_MlpOut_MlpOutIdeal
    ∧ algebraic_MlpOutIdeal_MlpOutReferenceIdeal (hMlpOutIdeal := hMlpOutIdeal) (hMlpOutReferenceIdeal := hMlpOutReferenceIdeal)
    ∧ preserves_Sb_SbIdeal
    ∧ algebraic_SbIdeal_SbReferenceIdeal (hSbIdeal := hSbIdeal) (hSbReferenceIdeal := hSbReferenceIdeal)
    ∧ preserves_SbDh_SbDhIdeal
    ∧ algebraic_SbDhIdeal_SbDhReferenceIdeal (hSbDhIdeal := hSbDhIdeal) (hSbDhReferenceIdeal := hSbDhReferenceIdeal)
    ∧ preserves_Ca_CaIdeal
    ∧ algebraic_CaIdeal_CaReferenceIdeal (hCaIdeal := hCaIdeal) (hCaReferenceIdeal := hCaReferenceIdeal)
    ∧ preserves_CaDh_CaDhIdeal
    ∧ algebraic_CaDhIdeal_CaDhReferenceIdeal (hCaDhIdeal := hCaDhIdeal) (hCaDhReferenceIdeal := hCaDhReferenceIdeal)
    ∧ preserves_Mla_MlaIdeal
    ∧ algebraic_MlaIdeal_MlaReferenceIdeal (hMlaIdeal := hMlaIdeal) (hMlaReferenceIdeal := hMlaReferenceIdeal)
    ∧ preserves_MlaDcq_MlaDcqIdeal
    ∧ algebraic_MlaDcqIdeal_MlaDcqReferenceIdeal (hMlaDcqIdeal := hMlaDcqIdeal) (hMlaDcqReferenceIdeal := hMlaDcqReferenceIdeal)
    ∧ preserves_MlaDckv_MlaDckvIdeal
    ∧ algebraic_MlaDckvIdeal_MlaDckvReferenceIdeal (hMlaDckvIdeal := hMlaDckvIdeal) (hMlaDckvReferenceIdeal := hMlaDckvReferenceIdeal)
    ∧ preserves_MlaAttn_MlaAttnIdeal
    ∧ algebraic_MlaAttnIdeal_MlaAttnReferenceIdeal_pre_finite_heads (hMlaAttnIdeal := hMlaAttnIdeal) (hMlaAttnReferenceIdeal := hMlaAttnReferenceIdeal) (hPre_finite_heads := hPre_finite_heads)
-- ==== Pre_finite_heads.lean ====
abbrev S2048x4096 : Shape := ⟨2, ![2048, 4096]⟩
abbrev S2048x2048 : Shape := ⟨2, ![2048, 2048]⟩
abbrev S_ : Shape := ⟨0, ![]⟩

class Facts : Prop where
  bcast_S_S2048x4096 : S_.BroadcastsInDim S2048x4096 (![] : Fin 0 → Fin S2048x4096.rank)
  bcast_S_S2048x2048 : S_.BroadcastsInDim S2048x2048 (![] : Fin 0 → Fin S2048x2048.rank)

variable [Facts]

def fn {F : FTy → Type} [FloatOps F] (main_arg0 : FVec F S2048x4096 .bf16) (main_arg1 : FVec F S2048x4096 .bf16) (main_arg2 : FVec F S2048x4096 .bf16) (main_arg3 : FVec F S2048x2048 .bf16) : IVec S2048x4096 1 × IVec S2048x4096 1 × IVec S2048x4096 1 × IVec S2048x2048 1 :=
  let main_v0 : FVec F S2048x4096 .bf16 := Host.absf main_arg0
  let main_cst : FVec F S_ .bf16 := constant S_ .bf16 0x7F80#16
  let main_v1 : FVec F S2048x4096 .bf16 := broadcastInDim S2048x4096 ![] bcast_S_S2048x4096 main_cst
  let main_v2 : IVec S2048x4096 1 := cmpf .olt main_v0 main_v1
  let main_v3 : FVec F S2048x4096 .bf16 := Host.absf main_arg1
  let main_cst_0 : FVec F S_ .bf16 := constant S_ .bf16 0x7F80#16
  let main_v4 : FVec F S2048x4096 .bf16 := broadcastInDim S2048x4096 ![] bcast_S_S2048x4096 main_cst_0
  let main_v5 : IVec S2048x4096 1 := cmpf .olt main_v3 main_v4
  let main_v6 : FVec F S2048x4096 .bf16 := Host.absf main_arg2
  let main_cst_1 : FVec F S_ .bf16 := constant S_ .bf16 0x7F80#16
  let main_v7 : FVec F S2048x4096 .bf16 := broadcastInDim S2048x4096 ![] bcast_S_S2048x4096 main_cst_1
  let main_v8 : IVec S2048x4096 1 := cmpf .olt main_v6 main_v7
  let main_v9 : FVec F S2048x2048 .bf16 := Host.absf main_arg3
  let main_cst_2 : FVec F S_ .bf16 := constant S_ .bf16 0x7F80#16
  let main_v10 : FVec F S2048x2048 .bf16 := broadcastInDim S2048x2048 ![] bcast_S_S2048x2048 main_cst_2
  let main_v11 : IVec S2048x2048 1 := cmpf .olt main_v9 main_v10
  (main_v2, main_v5, main_v8, main_v11)
-- ==== Pre_finite_inputs.lean ====
abbrev S2048x6144 : Shape := ⟨2, ![2048, 6144]⟩
abbrev S2048x2048 : Shape := ⟨2, ![2048, 2048]⟩
abbrev S_ : Shape := ⟨0, ![]⟩

class Facts : Prop where
  bcast_S_S2048x6144 : S_.BroadcastsInDim S2048x6144 (![] : Fin 0 → Fin S2048x6144.rank)
  bcast_S_S2048x2048 : S_.BroadcastsInDim S2048x2048 (![] : Fin 0 → Fin S2048x2048.rank)

variable [Facts]

def fn {F : FTy → Type} [FloatOps F] (main_arg0 : FVec F S2048x6144 .bf16) (main_arg1 : FVec F S2048x2048 .bf16) : IVec S2048x6144 1 × IVec S2048x2048 1 :=
  let main_v0 : FVec F S2048x6144 .bf16 := Host.absf main_arg0
  let main_cst : FVec F S_ .bf16 := constant S_ .bf16 0x7F80#16
  let main_v1 : FVec F S2048x6144 .bf16 := broadcastInDim S2048x6144 ![] bcast_S_S2048x6144 main_cst
  let main_v2 : IVec S2048x6144 1 := cmpf .olt main_v0 main_v1
  let main_v3 : FVec F S2048x2048 .bf16 := Host.absf main_arg1
  let main_cst_0 : FVec F S_ .bf16 := constant S_ .bf16 0x7F80#16
  let main_v4 : FVec F S2048x2048 .bf16 := broadcastInDim S2048x2048 ![] bcast_S_S2048x2048 main_cst_0
  let main_v5 : IVec S2048x2048 1 := cmpf .olt main_v3 main_v4
  (main_v2, main_v5)
-- ==== Kernel.lean ====
abbrev S2048x6144 : Shape := ⟨2, ![2048, 6144]⟩
abbrev S2048x2048 : Shape := ⟨2, ![2048, 2048]⟩
abbrev S2048x16x128 : Shape := ⟨3, ![2048, 16, 128]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S16x2048 : Shape := ⟨2, ![16, 2048]⟩
abbrev S2048x16 : Shape := ⟨2, ![2048, 16]⟩
abbrev S2048x16x1 : Shape := ⟨3, ![2048, 16, 1]⟩
abbrev S512x256 : Shape := ⟨2, ![512, 256]⟩
abbrev S2048x256 : Shape := ⟨2, ![2048, 256]⟩
abbrev S512x128 : Shape := ⟨2, ![512, 128]⟩
abbrev S512x1 : Shape := ⟨2, ![512, 1]⟩
abbrev S256x256 : Shape := ⟨2, ![256, 256]⟩
abbrev S256x128 : Shape := ⟨2, ![256, 128]⟩
abbrev S512 : Shape := ⟨1, ![512]⟩

abbrev nBuf : Space → Nat
  | .hbm => 51
  | .vmem => 16
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S2048x2048, .bf16⟩
  | .hbm, ⟨3, _⟩ => ⟨S2048x16x128, .bf16⟩
  | .hbm, ⟨4, _⟩ => ⟨S2048x16x128, .f32⟩
  | .hbm, ⟨5, _⟩ => ⟨S2048x2048, .bf16⟩
  | .hbm, ⟨6, _⟩ => ⟨S2048x16x128, .bf16⟩
  | .hbm, ⟨7, _⟩ => ⟨S2048x16x128, .f32⟩
  | .hbm, ⟨8, _⟩ => ⟨S16x2048x2048, .f32⟩
  | .hbm, ⟨9, _⟩ => ⟨S16x2048x2048, .bf16⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x2048, .i1⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S_, .f32⟩
  | .hbm, ⟨39, _⟩ => ⟨S16x2048x2048, .i1⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048, .f32⟩
  | .hbm, ⟨44, _⟩ => ⟨S2048x16, .f32⟩
  | .hbm, ⟨45, _⟩ => ⟨S2048x16x1, .f32⟩
  | .hbm, ⟨46, _⟩ => ⟨S2048x16x128, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S512x256, .bf16⟩
  | .local _ .vmem, ⟨7, _⟩ => ⟨S512x256, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25_0 : Ref sig .tc := ⟨.hbm, 48, rfl⟩
abbrev main_v25_1 : Ref sig .tc := ⟨.hbm, 49, rfl⟩
abbrev main_v25_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_15 : BitVec 32 := 0#32
  let arg1 : BitVec 32 := BitVec.ofNat 32 (i 1).val
  let c2_i32 : BitVec 32 := 2#32
  let v24 : BitVec 32 := Scalar.muli arg1 c2_i32
  let v30 : BitVec 32 := Scalar.subi v24 c0_i32_15
  let c1_i32_16 : BitVec 32 := 1#32
  let v32 : BitVec 32 := Scalar.divsi v30 c1_i32_16
  let v33 : BitVec 32 := Scalar.muli v32 c1_i32_16
  let v34 : BitVec 32 := Scalar.addi c0_i32_15 v33
  let c1_i32_17 : BitVec 32 := 1#32
  ⟨c0_i32_15, v34, c1_i32_17⟩
def k0_mult1 (i : grid0.Coords) (k0_t1 : Fin (k0_t1_loop i).trips) : BitVec 32 :=
  let c0_i32_155 : BitVec 32 := 0#32
  let c0_i32_15 : BitVec 32 := 0#32
  let c1_i32_17 : BitVec 32 := 1#32
  let arg10 : BitVec 32 := Scf.iv c0_i32_15 c1_i32_17 k0_t1
  let v449 : BitVec 32 := Scalar.addi c0_i32_155 arg10
  let c256_i32_156 : BitVec 32 := 256#32
  let v450 : BitVec 32 := Scalar.muli v449 c256_i32_156
  v450
def k0_off1 (i : grid0.Coords) (k0_t1 : Fin (k0_t1_loop i).trips) : Fin 2 → Nat :=
  let c0_i32_155 : BitVec 32 := 0#32
  let c0_i32_15 : BitVec 32 := 0#32
  let c1_i32_17 : BitVec 32 := 1#32
  let arg10 : BitVec 32 := Scf.iv c0_i32_15 c1_i32_17 k0_t1
  let v449 : BitVec 32 := Scalar.addi c0_i32_155 arg10
  let c256_i32_156 : BitVec 32 := 256#32
  let v450 : BitVec 32 := Scalar.muli v449 c256_i32_156
  let v451 : BitVec 32 := v450
  let v452 : Index := Scalar.indexCast v451
  let c0_157 : Index := 0#32
  ![v452.toNat, 0]
def k0_off2 (i : grid0.Coords) (k0_t1 : Fin (k0_t1_loop i).trips) : Fin 2 → Nat :=
  let c0_i32_155 : BitVec 32 := 0#32
  let c0_i32_15 : BitVec 32 := 0#32
  let c1_i32_17 : BitVec 32 := 1#32
  let arg10 : BitVec 32 := Scf.iv c0_i32_15 c1_i32_17 k0_t1
  let v449 : BitVec 32 := Scalar.addi c0_i32_155 arg10
  let c256_i32_156 : BitVec 32 := 256#32
  let v450 : BitVec 32 := Scalar.muli v449 c256_i32_156
  let v451 : BitVec 32 := v450
  let v546 : Index := Scalar.indexCast v451
  let c128_187 : Index := 128#32
  ![v546.toNat, 128]
@[reducible] def k0_t2_loop (i : grid0.Coords) : Scf.Loop 32 :=
  let c0_i32_15 : BitVec 32 := 0#32
  let arg1 : BitVec 32 := BitVec.ofNat 32 (i 1).val
  let c2_i32 : BitVec 32 := 2#32
  let v24 : BitVec 32 := Scalar.muli arg1 c2_i32
  let v30 : BitVec 32 := Scalar.subi v24 c0_i32_15
  let c1_i32_16 : BitVec 32 := 1#32
  let v32 : BitVec 32 := Scalar.divsi v30 c1_i32_16
  let v33 : BitVec 32 := Scalar.muli v32 c1_i32_16
  let v34 : BitVec 32 := Scalar.addi c0_i32_15 v33
  let v31 : BitVec 32 := Scalar.addi c0_i32_15 v30
  let c1_i32_18 : BitVec 32 := 1#32
  ⟨v34, v31, c1_i32_18⟩
def k0_mult2 (i : grid0.Coords) (k0_t2 : Fin (k0_t2_loop i).trips) : BitVec 32 :=
  let c0_i32_155 : BitVec 32 := 0#32
  let c0_i32_15 : BitVec 32 := 0#32
  let arg1 : BitVec 32 := BitVec.ofNat 32 (i 1).val
  let c2_i32 : BitVec 32 := 2#32
  let v24 : BitVec 32 := Scalar.muli arg1 c2_i32
  let v30 : BitVec 32 := Scalar.subi v24 c0_i32_15
  let c1_i32_16 : BitVec 32 := 1#32
  let v32 : BitVec 32 := Scalar.divsi v30 c1_i32_16
  let v33 : BitVec 32 := Scalar.muli v32 c1_i32_16
  let v34 : BitVec 32 := Scalar.addi c0_i32_15 v33
  let c1_i32_18 : BitVec 32 := 1#32
  let arg10 : BitVec 32 := Scf.iv v34 c1_i32_18 k0_t2
  let v449 : BitVec 32 := Scalar.addi c0_i32_155 arg10
  let c256_i32_156 : BitVec 32 := 256#32
  let v450 : BitVec 32 := Scalar.muli v449 c256_i32_156
  v450
def k0_off3 (i : grid0.Coords) (k0_t2 : Fin (k0_t2_loop i).trips) : Fin 2 → Nat :=
  let c0_i32_155 : BitVec 32 := 0#32
  let c0_i32_15 : BitVec 32 := 0#32
  let arg1 : BitVec 32 := BitVec.ofNat 32 (i 1).val
  let c2_i32 : BitVec 32 := 2#32
  let v24 : BitVec 32 := Scalar.muli arg1 c2_i32
  let v30 : BitVec 32 := Scalar.subi v24 c0_i32_15
  let c1_i32_16 : BitVec 32 := 1#32
  let v32 : BitVec 32 := Scalar.divsi v30 c1_i32_16
  let v33 : BitVec 32 := Scalar.muli v32 c1_i32_16
  let v34 : BitVec 32 := Scalar.addi c0_i32_15 v33
  let c1_i32_18 : BitVec 32 := 1#32
  let arg10 : BitVec 32 := Scf.iv v34 c1_i32_18 k0_t2
  let v449 : BitVec 32 := Scalar.addi c0_i32_155 arg10
  let c256_i32_156 : BitVec 32 := 256#32
  let v450 : BitVec 32 := Scalar.muli v449 c256_i32_156
  let v451 : BitVec 32 := v450
  let v452 : Index := Scalar.indexCast v451
  let c0_157 : Index := 0#32
  ![v452.toNat, 0]
def k0_off4 (i : grid0.Coords) (k0_t2 : Fin (k0_t2_loop i).trips) : Fin 2 → Nat :=
  let c0_i32_155 : BitVec 32 := 0#32
  let c0_i32_15 : BitVec 32 := 0#32
  let arg1 : BitVec 32 := BitVec.ofNat 32 (i 1).val
  let c2_i32 : BitVec 32 := 2#32
  let v24 : BitVec 32 := Scalar.muli arg1 c2_i32
  let v30 : BitVec 32 := Scalar.subi v24 c0_i32_15
  let c1_i32_16 : BitVec 32 := 1#32
  let v32 : BitVec 32 := Scalar.divsi v30 c1_i32_16
  let v33 : BitVec 32 := Scalar.muli v32 c1_i32_16
  let v34 : BitVec 32 := Scalar.addi c0_i32_15 v33
  let c1_i32_18 : BitVec 32 := 1#32
  let arg10 : BitVec 32 := Scf.iv v34 c1_i32_18 k0_t2
  let v449 : BitVec 32 := Scalar.addi c0_i32_155 arg10
  let c256_i32_156 : BitVec 32 := 256#32
  let v450 : BitVec 32 := Scalar.muli v449 c256_i32_156
  let v451 : BitVec 32 := v450
  let v546 : Index := Scalar.indexCast v451
  let c128_187 : Index := 128#32
  ![v546.toNat, 128]
def k0_mult3 (i : grid0.Coords) : BitVec 32 :=
  let c0_i32_12 : BitVec 32 := 0#32
  let arg1 : BitVec 32 := BitVec.ofNat 32 (i 1).val
  let c2_i32 : BitVec 32 := 2#32
  let v24 : BitVec 32 := Scalar.muli arg1 c2_i32
  let v26 : BitVec 32 := Scalar.addi c0_i32_12 v24
  let c0_i32_13 : BitVec 32 := 0#32
  let v27 : BitVec 32 := Scalar.addi v26 c0_i32_13
  let c256_i32 : BitVec 32 := 256#32
  let v37 : BitVec 32 := Scalar.muli v27 c256_i32
  v37
def k0_off5 (i : grid0.Coords) (c0_i32_13 : BitVec 32) : Fin 2 → Nat :=
  let c0_i32_12 : BitVec 32 := 0#32
  let arg1 : BitVec 32 := BitVec.ofNat 32 (i 1).val
  let c2_i32 : BitVec 32 := 2#32
  let v24 : BitVec 32 := Scalar.muli arg1 c2_i32
  let v26 : BitVec 32 := Scalar.addi c0_i32_12 v24
  let v27 : BitVec 32 := Scalar.addi v26 c0_i32_13
  let c256_i32 : BitVec 32 := 256#32
  let v37 : BitVec 32 := Scalar.muli v27 c256_i32
  let v38 : BitVec 32 := v37
  let v48 : Index := Scalar.indexCast v38
  let c0_20 : Index := 0#32
  ![v48.toNat, 0]
def k0_off6 (i : grid0.Coords) (c0_i32_13 : BitVec 32) : Fin 2 → Nat :=
  let c0_i32_12 : BitVec 32 := 0#32
  let arg1 : BitVec 32 := BitVec.ofNat 32 (i 1).val
  let c2_i32 : BitVec 32 := 2#32
  let v24 : BitVec 32 := Scalar.muli arg1 c2_i32
  let v26 : BitVec 32 := Scalar.addi c0_i32_12 v24
  let v27 : BitVec 32 := Scalar.addi v26 c0_i32_13
  let c256_i32 : BitVec 32 := 256#32
  let v37 : BitVec 32 := Scalar.muli v27 c256_i32
  let v38 : BitVec 32 := v37
  let v148 : Index := Scalar.indexCast v38
  let c128_53 : Index := 128#32
  ![v148.toNat, 128]
def k0_mult4 (i : grid0.Coords) : BitVec 32 :=
  let c0_i32_14 : BitVec 32 := 0#32
  let arg1 : BitVec 32 := BitVec.ofNat 32 (i 1).val
  let c2_i32 : BitVec 32 := 2#32
  let v24 : BitVec 32 := Scalar.muli arg1 c2_i32
  let v28 : BitVec 32 := Scalar.addi c0_i32_14 v24
  let c1_i32 : BitVec 32 := 1#32
  let v29 : BitVec 32 := Scalar.addi v28 c1_i32
  let c256_i32_86 : BitVec 32 := 256#32
  let v248 : BitVec 32 := Scalar.muli v29 c256_i32_86
  v248
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x6144 : Shape := ⟨2, ![2048, 6144]⟩
abbrev S2048x2048 : Shape := ⟨2, ![2048, 2048]⟩
abbrev S2048x16x128 : Shape := ⟨3, ![2048, 16, 128]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S16x128x2048 : Shape := ⟨3, ![16, 128, 2048]⟩
abbrev S16x2048x128 : Shape := ⟨3, ![16, 2048, 128]⟩

abbrev nBuf : Space → Nat
  | .hbm => 192
  | .vmem => 0
  | .smem => 0
  | _ => 0

abbrev hbmTy0_0 (i : Nat) : BufTy := match i % 128 with
  | 0 => ⟨S2048x6144, .bf16⟩
  | 1 => ⟨S2048x2048, .bf16⟩
  | 2 => ⟨S2048x2048, .bf16⟩
  | 3 => ⟨S2048x2048, .bf16⟩
  | 4 => ⟨S2048x2048, .bf16⟩
  | 5 => ⟨S2048x16x128, .bf16⟩
  | 6 => ⟨S2048x16x128, .f32⟩
  | 7 => ⟨S2048x16x128, .bf16⟩
  | 8 => ⟨S2048x16x128, .f32⟩
  | 9 => ⟨S2048x16x128, .bf16⟩
  | 10 => ⟨S2048x16x128, .f32⟩
  | 11 => ⟨S16x2048x2048, .f32⟩
  | 12 => ⟨S16x2048x2048, .bf16⟩
  | 13 => ⟨S16x2048x2048, .f32⟩
  | 14 => ⟨S_, .f32⟩
  | 15 => ⟨S16x2048x2048, .f32⟩
  | 16 => ⟨S16x2048x2048, .f32⟩
  | 17 => ⟨S2048, .i32⟩
  | 18 => ⟨S1x2048, .i32⟩
  | 19 => ⟨S2048x1, .i32⟩
  | 20 => ⟨S2048x2048, .i32⟩
  | 21 => ⟨S2048x2048, .i32⟩
  | 22 => ⟨S2048x2048, .i1⟩
  | 23 => ⟨S16x2048x2048, .f32⟩
  | 24 => ⟨S_, .f32⟩
  | 25 => ⟨S16x2048x2048, .f32⟩
  | 26 => ⟨S16x2048x2048, .f32⟩
  | 27 => ⟨S16x2048x2048, .f32⟩
  | 28 => ⟨S16x2048x2048, .f32⟩
  | 29 => ⟨S16x2048x2048, .i1⟩
  | 30 => ⟨S16x2048x2048, .f32⟩
  | 31 => ⟨S16x2048x2048, .f32⟩
  | 32 => ⟨S16x2048x2048, .f32⟩
  | 33 => ⟨S16x2048x2048, .f32⟩
  | 34 => ⟨S16x2048x2048, .f32⟩
  | 35 => ⟨S16x2048x2048, .f32⟩
  | 36 => ⟨S16x2048x2048, .f32⟩
  | 37 => ⟨S16x2048x2048, .f32⟩
  | 38 => ⟨S_, .f32⟩
  | 39 => ⟨S16x2048x2048, .f32⟩
  | 40 => ⟨S16x2048x2048, .i1⟩
  | 41 => ⟨S_, .f32⟩
  | 42 => ⟨S16x2048x2048, .f32⟩
  | 43 => ⟨S16x2048x2048, .f32⟩
  | 44 => ⟨S_, .f32⟩
  | 45 => ⟨S16x2048x2048, .f32⟩
  | 46 => ⟨S16x2048x2048, .i1⟩
  | 47 => ⟨S_, .f32⟩
  | 48 => ⟨S16x2048x2048, .f32⟩
  | 49 => ⟨S16x2048x2048, .f32⟩
  | 50 => ⟨S16x2048x2048, .f32⟩
  | 51 => ⟨S16x2048x2048, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S16x2048x2048, .f32⟩
  | 60 => ⟨S16x2048x2048, .i1⟩
  | 61 => ⟨S_, .f32⟩
  | 62 => ⟨S16x2048x2048, .f32⟩
  | 63 => ⟨S16x2048x2048, .f32⟩
  | 64 => ⟨S16x2048x2048, .f32⟩
  | 65 => ⟨S16x2048x2048, .f32⟩
  | 66 => ⟨S16x2048x2048, .f32⟩
  | 67 => ⟨S_, .f32⟩
  | 68 => ⟨S16x2048x2048, .f32⟩
  | 69 => ⟨S16x2048x2048, .f32⟩
  | 70 => ⟨S16x2048x2048, .f32⟩
  | 71 => ⟨S16x2048x2048, .f32⟩
  | 72 => ⟨S16x2048x2048, .f32⟩
  | 73 => ⟨S_, .f32⟩
  | 74 => ⟨S16x2048x2048, .f32⟩
  | 75 => ⟨S16x2048x2048, .f32⟩
  | 76 => ⟨S16x2048x2048, .f32⟩
  | 77 => ⟨S16x2048x2048, .f32⟩
  | 78 => ⟨S16x2048x2048, .i1⟩
  | 79 => ⟨S16x2048x2048, .f32⟩
  | 80 => ⟨S16x2048x2048, .f32⟩
  | 81 => ⟨S16x2048x2048, .f32⟩
  | 82 => ⟨S16x2048x2048, .f32⟩
  | 83 => ⟨S16x2048x2048, .f32⟩
  | 84 => ⟨S16x2048x2048, .f32⟩
  | 85 => ⟨S16x2048x2048, .f32⟩
  | 86 => ⟨S16x2048x2048, .f32⟩
  | 87 => ⟨S_, .f32⟩
  | 88 => ⟨S16x2048x2048, .f32⟩
  | 89 => ⟨S16x2048x2048, .i1⟩
  | 90 => ⟨S_, .f32⟩
  | 91 => ⟨S16x2048x2048, .f32⟩
  | 92 => ⟨S16x2048x2048, .f32⟩
  | 93 => ⟨S_, .f32⟩
  | 94 => ⟨S16x2048x2048, .f32⟩
  | 95 => ⟨S16x2048x2048, .i1⟩
  | 96 => ⟨S_, .f32⟩
  | 97 => ⟨S16x2048x2048, .f32⟩
  | 98 => ⟨S16x2048x2048, .f32⟩
  | 99 => ⟨S16x2048x2048, .f32⟩
  | 100 => ⟨S16x2048x2048, .f32⟩
  | 101 => ⟨S_, .f32⟩
  | 102 => ⟨S_, .f32⟩
  | 103 => ⟨S_, .i1⟩
  | 104 => ⟨S_, .f32⟩
  | 105 => ⟨S_, .f32⟩
  | 106 => ⟨S_, .f32⟩
  | 107 => ⟨S_, .f32⟩
  | 108 => ⟨S16x2048x2048, .f32⟩
  | 109 => ⟨S16x2048x2048, .i1⟩
  | 110 => ⟨S_, .f32⟩
  | 111 => ⟨S16x2048x2048, .f32⟩
  | 112 => ⟨S16x2048x2048, .f32⟩
  | 113 => ⟨S16x2048x2048, .f32⟩
  | 114 => ⟨S16x2048x2048, .f32⟩
  | 115 => ⟨S16x2048x2048, .f32⟩
  | 116 => ⟨S_, .f32⟩
  | 117 => ⟨S16x2048x2048, .f32⟩
  | 118 => ⟨S16x2048x2048, .f32⟩
  | 119 => ⟨S16x2048x2048, .f32⟩
  | 120 => ⟨S_, .f32⟩
  | 121 => ⟨S_, .f32⟩
  | 122 => ⟨S16x2048x2048, .i1⟩
  | 123 => ⟨S16x2048x2048, .f32⟩
  | 124 => ⟨S16x2048x2048, .f32⟩
  | 125 => ⟨S_, .f32⟩
  | 126 => ⟨S16x2048x2048, .f32⟩
  | 127 => ⟨S_, .f32⟩
  | _ => ⟨S2048x6144, .bf16⟩

abbrev hbmTy0_1 (i : Nat) : BufTy := match i % 128 with
  | 0 => ⟨S_, .f32⟩
  | 1 => ⟨S16x2048x2048, .f32⟩
  | 2 => ⟨S16x2048x2048, .f32⟩
  | 3 => ⟨S16x2048x2048, .f32⟩
  | 4 => ⟨S16x2048x2048, .f32⟩
  | 5 => ⟨S_, .f32⟩
  | 6 => ⟨S_, .f32⟩
  | 7 => ⟨S16x2048x2048, .i1⟩
  | 8 => ⟨S16x2048x2048, .f32⟩
  | 9 => ⟨S16x2048x2048, .f32⟩
  | 10 => ⟨S_, .f32⟩
  | 11 => ⟨S16x2048x2048, .f32⟩
  | 12 => ⟨S16x2048x2048, .bf16⟩
  | 13 => ⟨S16x2048x2048, .f32⟩
  | 14 => ⟨S16x128x2048, .f32⟩
  | 15 => ⟨S2048x16x128, .f32⟩
  | 16 => ⟨S2048x16x128, .bf16⟩
  | 17 => ⟨S2048x2048, .bf16⟩
  | 18 => ⟨S2048x16x128, .bf16⟩
  | 19 => ⟨S2048x16x128, .f32⟩
  | 20 => ⟨S16x128x2048, .f32⟩
  | 21 => ⟨S16x2048x2048, .f32⟩
  | 22 => ⟨S16x128x2048, .f32⟩
  | 23 => ⟨S2048x16x128, .f32⟩
  | 24 => ⟨S16x2048x2048, .bf16⟩
  | 25 => ⟨S16x2048x2048, .f32⟩
  | 26 => ⟨S_, .f32⟩
  | 27 => ⟨S16x2048x2048, .f32⟩
  | 28 => ⟨S16x2048x2048, .f32⟩
  | 29 => ⟨S16x2048x2048, .f32⟩
  | 30 => ⟨S16x2048x2048, .f32⟩
  | 31 => ⟨S_, .f32⟩
  | 32 => ⟨S_, .f32⟩
  | 33 => ⟨S16x2048x2048, .f32⟩
  | 34 => ⟨S16x2048x2048, .f32⟩
  | 35 => ⟨S_, .f32⟩
  | 36 => ⟨S16x2048x2048, .f32⟩
  | 37 => ⟨S16x2048x2048, .f32⟩
  | 38 => ⟨S16x2048x2048, .f32⟩
  | 39 => ⟨S16x2048x2048, .f32⟩
  | 40 => ⟨S16x2048x2048, .f32⟩
  | 41 => ⟨S16x2048x2048, .f32⟩
  | 42 => ⟨S16x2048x2048, .f32⟩
  | 43 => ⟨S16x2048x2048, .f32⟩
  | 44 => ⟨S16x2048x2048, .f32⟩
  | 45 => ⟨S16x2048x2048, .f32⟩
  | 46 => ⟨S_, .f32⟩
  | 47 => ⟨S16x2048x2048, .f32⟩
  | 48 => ⟨S16x2048x2048, .f32⟩
  | 49 => ⟨S16x2048x2048, .bf16⟩
  | 50 => ⟨S16x2048x2048, .f32⟩
  | 51 => ⟨S16x2048x128, .f32⟩
  | 52 => ⟨S2048x16x128, .f32⟩
  | 53 => ⟨S16x2048x128, .f32⟩
  | 54 => ⟨S2048x16x128, .f32⟩
  | 55 => ⟨S2048x16x128, .bf16⟩
  | 56 => ⟨S2048x2048, .bf16⟩
  | 57 => ⟨S2048x16x128, .bf16⟩
  | 58 => ⟨S2048x2048, .bf16⟩
  | 59 => ⟨S2048x16x128, .bf16⟩
  | 60 => ⟨S2048x2048, .bf16⟩
  | 61 => ⟨S2048x2048, .f32⟩
  | 62 => ⟨S2048x2048, .f32⟩
  | 63 => ⟨S2048x2048, .f32⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_v21 : Ref sig .tc := ⟨.hbm, 71, rfl⟩
abbrev main_call1_v0 : Ref sig .tc := ⟨.hbm, 72, rfl⟩
abbrev main_call1_call0_cst : Ref sig .tc := ⟨.hbm, 73, rfl⟩
abbrev main_call1_call0_v0 : Ref sig .tc := ⟨.hbm, 74, rfl⟩
abbrev main_call1_call0_v1 : Ref sig .tc := ⟨.hbm, 75, rfl⟩
abbrev main_call1_call0_v2 : Ref sig .tc := ⟨.hbm, 76, rfl⟩
abbrev main_call1_call0_v3 : Ref sig .tc := ⟨.hbm, 77, rfl⟩
abbrev main_call1_call0_v4 : Ref sig .tc := ⟨.hbm, 78, rfl⟩
abbrev main_call1_call0_v5 : Ref sig .tc := ⟨.hbm, 79, rfl⟩
abbrev main_call1_call0_v6 : Ref sig .tc := ⟨.hbm, 80, rfl⟩
abbrev main_call1_call0_v7 : Ref sig .tc := ⟨.hbm, 81, rfl⟩
abbrev main_call1_call0_v8 : Ref sig .tc := ⟨.hbm, 82, rfl⟩
abbrev main_call1_call0_v9 : Ref sig .tc := ⟨.hbm, 83, rfl⟩
abbrev main_call1_call0_v10 : Ref sig .tc := ⟨.hbm, 84, rfl⟩
abbrev main_call1_call0_v11 : Ref sig .tc := ⟨.hbm, 85, rfl⟩
abbrev main_call1_v1_0 : Ref sig .tc := ⟨.hbm, 86, rfl⟩
abbrev main_call1_call0_cst_0 : Ref sig .tc := ⟨.hbm, 87, rfl⟩
abbrev main_call1_call0_v13 : Ref sig .tc := ⟨.hbm, 88, rfl⟩
abbrev main_call1_call0_v14 : Ref sig .tc := ⟨.hbm, 89, rfl⟩
abbrev main_call1_call0_cst_1 : Ref sig .tc := ⟨.hbm, 90, rfl⟩
abbrev main_call1_call0_v15 : Ref sig .tc := ⟨.hbm, 91, rfl⟩
abbrev main_call1_call0_v16 : Ref sig .tc := ⟨.hbm, 92, rfl⟩
abbrev main_call1_call0_cst_2 : Ref sig .tc := ⟨.hbm, 93, rfl⟩
abbrev main_call1_call0_v17 : Ref sig .tc := ⟨.hbm, 94, rfl⟩
abbrev main_call1_call0_v18 : Ref sig .tc := ⟨.hbm, 95, rfl⟩
abbrev main_call1_call0_cst_3 : Ref sig .tc := ⟨.hbm, 96, rfl⟩
abbrev main_call1_call0_v19 : Ref sig .tc := ⟨.hbm, 97, rfl⟩
abbrev main_call1_call0_v20 : Ref sig .tc := ⟨.hbm, 98, rfl⟩
abbrev main_call1_call0_v21 : Ref sig .tc := ⟨.hbm, 99, rfl⟩
abbrev main_v22_1 : Ref sig .tc := ⟨.hbm, 100, rfl⟩
abbrev main_call1_call0_cst_4 : Ref sig .tc := ⟨.hbm, 101, rfl⟩
abbrev main_call1_call0_cst_5 : Ref sig .tc := ⟨.hbm, 102, rfl⟩
abbrev main_call1_call0_v23 : Ref sig .tc := ⟨.hbm, 103, rfl⟩
abbrev main_call1_call0_cst_6 : Ref sig .tc := ⟨.hbm, 104, rfl⟩
abbrev main_call1_call0_cst_7 : Ref sig .tc := ⟨.hbm, 105, rfl⟩
abbrev main_call1_call0_v24 : Ref sig .tc := ⟨.hbm, 106, rfl⟩
abbrev main_call1_call0_cst_8 : Ref sig .tc := ⟨.hbm, 107, rfl⟩
abbrev main_call1_call0_v25 : Ref sig .tc := ⟨.hbm, 108, rfl⟩
abbrev main_call1_call0_v26 : Ref sig .tc := ⟨.hbm, 109, rfl⟩
abbrev main_call1_call0_cst_9 : Ref sig .tc := ⟨.hbm, 110, rfl⟩
abbrev main_call1_call0_v27 : Ref sig .tc := ⟨.hbm, 111, rfl⟩
abbrev main_call1_call0_v28 : Ref sig .tc := ⟨.hbm, 112, rfl⟩
abbrev main_call1_call0_v29 : Ref sig .tc := ⟨.hbm, 113, rfl⟩
abbrev main_call1_call0_v30 : Ref sig .tc := ⟨.hbm, 114, rfl⟩
abbrev main_call1_call0_v31 : Ref sig .tc := ⟨.hbm, 115, rfl⟩
abbrev main_call1_call0_cst_10 : Ref sig .tc := ⟨.hbm, 116, rfl⟩
abbrev main_call1_call0_v32 : Ref sig .tc := ⟨.hbm, 117, rfl⟩
abbrev main_v22_2 : Ref sig .tc := ⟨.hbm, 118, rfl⟩
abbrev main_v22_0 : Ref sig .tc := ⟨.hbm, 119, rfl⟩
abbrev main_cst_0 : Ref sig .tc := ⟨.hbm, 120, rfl⟩
abbrev main_call2_v0 : Ref sig .tc := ⟨.hbm, 121, rfl⟩
abbrev main_v23_1 : Ref sig .tc := ⟨.hbm, 122, rfl⟩
abbrev main_call2_v2 : Ref sig .tc := ⟨.hbm, 123, rfl⟩
abbrev main_v23_0 : Ref sig .tc := ⟨.hbm, 124, rfl⟩
abbrev main_call2_cst : Ref sig .tc := ⟨.hbm, 125, rfl⟩
abbrev main_v23_2 : Ref sig .tc := ⟨.hbm, 126, rfl⟩
abbrev main_call3_cst : Ref sig .tc := ⟨.hbm, 127, rfl⟩
abbrev main_call3_v0 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩
abbrev main_cst_1 : Ref sig .tc := ⟨.hbm, 133, rfl⟩
abbrev main_call4_v0 : Ref sig .tc := ⟨.hbm, 134, rfl⟩
abbrev main_v28_1 : Ref sig .tc := ⟨.hbm, 135, rfl⟩
abbrev main_call4_v2 : Ref sig .tc := ⟨.hbm, 136, rfl⟩
abbrev main_v28_0 : Ref sig .tc := ⟨.hbm, 137, rfl⟩
abbrev main_call4_cst : Ref sig .tc := ⟨.hbm, 138, rfl⟩
abbrev main_v28_2 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_v42 : Ref sig .tc := ⟨.hbm, 153, rfl⟩
abbrev main_call5_cst : Ref sig .tc := ⟨.hbm, 154, rfl⟩
abbrev main_call5_v0 : Ref sig .tc := ⟨.hbm, 155, rfl⟩
abbrev main_v43 : Ref sig .tc := ⟨.hbm, 156, rfl⟩
abbrev main_v44 : Ref sig .tc := ⟨.hbm, 157, rfl⟩
abbrev main_v45 : Ref sig .tc := ⟨.hbm, 158, rfl⟩
abbrev main_call6_cst : Ref sig .tc := ⟨.hbm, 159, rfl⟩
abbrev main_call6_v0 : Ref sig .tc := ⟨.hbm, 160, rfl⟩
abbrev main_v46 : Ref sig .tc := ⟨.hbm, 161, rfl⟩
abbrev main_v47 : Ref sig .tc := ⟨.hbm, 162, rfl⟩
abbrev main_call7_cst : Ref sig .tc := ⟨.hbm, 163, rfl⟩
abbrev main_call7_v0 : Ref sig .tc := ⟨.hbm, 164, rfl⟩
abbrev main_v48 : Ref sig .tc := ⟨.hbm, 165, rfl⟩
abbrev main_call8_v0 : Ref sig .tc := ⟨.hbm, 166, rfl⟩
abbrev main_call8_v1 : Ref sig .tc := ⟨.hbm, 167, rfl⟩
abbrev main_v49 : Ref sig .tc := ⟨.hbm, 168, rfl⟩
abbrev main_v50 : Ref sig .tc := ⟨.hbm, 169, rfl⟩
abbrev main_call9_v0 : Ref sig .tc := ⟨.hbm, 170, rfl⟩
abbrev main_call9_v1 : Ref sig .tc := ⟨.hbm, 171, rfl⟩
abbrev main_v51 : Ref sig .tc := ⟨.hbm, 172, rfl⟩
abbrev main_v52 : Ref sig .tc := ⟨.hbm, 173, rfl⟩
abbrev main_cst_2 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩
abbrev main_v63 : Ref sig .tc := ⟨.hbm, 185, rfl⟩
abbrev main_v64 : Ref sig .tc := ⟨.hbm, 186, rfl⟩
abbrev main_v65 : Ref sig .tc := ⟨.hbm, 187, rfl⟩
abbrev main_v66 : Ref sig .tc := ⟨.hbm, 188, rfl⟩
abbrev main_v67 : Ref sig .tc := ⟨.hbm, 189, rfl⟩
abbrev main_v68 : Ref sig .tc := ⟨.hbm, 190, rfl⟩
abbrev main_v69 : Ref sig .tc := ⟨.hbm, 191, rfl⟩

abbrev nD : Nat := 1
abbrev τ : Topo := Topo.v7x

variable {F : FTy → Type} [FloatOps F]
-- ==== Mlp.lean ====
abbrev S2048x2048 : Shape := ⟨2, ![2048, 2048]⟩
abbrev S8x2048x1024 : Shape := ⟨3, ![8, 2048, 1024]⟩
abbrev S8x1024x2048 : Shape := ⟨3, ![8, 1024, 2048]⟩
abbrev S2048x8192 : Shape := ⟨2, ![2048, 8192]⟩
abbrev S8192x2048 : Shape := ⟨2, ![8192, 2048]⟩
abbrev S1x2048x512 : Shape := ⟨3, ![1, 2048, 512]⟩
abbrev S2048x512 : Shape := ⟨2, ![2048, 512]⟩
abbrev S512x2048 : Shape := ⟨2, ![512, 2048]⟩
abbrev S2x4x1024x2048 : Shape := ⟨4, ![2, 4, 1024, 2048]⟩
abbrev S1024x2048 : Shape := ⟨2, ![1024, 2048]⟩
abbrev S1x1x1024x2048 : Shape := ⟨4, ![1, 1, 1024, 2048]⟩
abbrev S2x4x2048x1024 : Shape := ⟨4, ![2, 4, 2048, 1024]⟩
abbrev S2048x1024 : Shape := ⟨2, ![2048, 1024]⟩
abbrev S1x1x2048x1024 : Shape := ⟨4, ![1, 1, 2048, 1024]⟩

abbrev nBuf : Space → Nat
  | .hbm => 12
  | .vmem => 26
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S8x1024x2048, .bf16⟩
  | .hbm, ⟨3, _⟩ => ⟨S2048x2048, .bf16⟩
  | .hbm, ⟨4, _⟩ => ⟨S2048x8192, .f32⟩
  | .hbm, ⟨5, _⟩ => ⟨S2048x8192, .bf16⟩
  | .hbm, ⟨6, _⟩ => ⟨S8192x2048, .bf16⟩
  | .hbm, ⟨7, _⟩ => ⟨S8192x2048, .bf16⟩
  | .hbm, ⟨8, _⟩ => ⟨S2048x8192, .bf16⟩
  | .hbm, ⟨9, _⟩ => ⟨S2x4x1024x2048, .bf16⟩
  | .hbm, ⟨10, _⟩ => ⟨S2048x2048, .bf16⟩
  | .hbm, ⟨11, _⟩ => ⟨S2x4x2048x1024, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S2048x2048, .bf16⟩
  | .local _ .vmem, ⟨10, _⟩ => ⟨S512x2048, .bf16⟩
  | .local _ .vmem, ⟨11, _⟩ => ⟨S512x2048, .bf16⟩
  | .local _ .vmem, ⟨12, _⟩ => ⟨S2048x512, .f32⟩
  | .local _ .vmem, ⟨13, _⟩ => ⟨S2048x512, .f32⟩
  | .local _ .vmem, ⟨14, _⟩ => ⟨S2048x512, .bf16⟩
  | .local _ .vmem, ⟨15, _⟩ => ⟨S2048x512, .bf16⟩
  | .local _ .vmem, ⟨16, _⟩ => ⟨S1024x2048, .bf16⟩
  | .local _ .vmem, ⟨17, _⟩ => ⟨S1024x2048, .bf16⟩
  | .local _ .vmem, ⟨18, _⟩ => ⟨S2048x2048, .bf16⟩
  | .local _ .vmem, ⟨19, _⟩ => ⟨S1x1x1024x2048, .bf16⟩
  | .local _ .vmem, ⟨20, _⟩ => ⟨S1x1x1024x2048, .bf16⟩
  | .local _ .vmem, ⟨21, _⟩ => ⟨S2048x2048, .bf16⟩
  | .local _ .vmem, ⟨22, _⟩ => ⟨S2048x1024, .bf16⟩
  | .local _ .vmem, ⟨23, _⟩ => ⟨S2048x1024, .bf16⟩
  | .local _ .vmem, ⟨24, _⟩ => ⟨S1x1x2048x1024, .bf16⟩
  | .local _ .vmem, ⟨25, _⟩ => ⟨S1x1x2048x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![1, 16, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1x1x1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.divsi arg1 c1_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c1_i32_10 c0_i32_13
  let v34 : BitVec 32 := Scalar.extui v33
  let c0_i32_14 : BitVec 32 := 0#32
  let v35 : BitVec 1 := Scalar.cmpi .slt c1_i32_10 c0_i32_14
  let v36 : BitVec 32 := Scalar.extui v35
  let v37 : BitVec 32 := Scalar.subi v34 v36
  let v38 : BitVec 1 := Scalar.cmpi .ne v32 v37
  let v39 : BitVec 32 := Scalar.remsi arg1 c1_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.divsi v43 c2_i32_17
  let c0_i32_18 : BitVec 32 := 0#32
  let v45 : BitVec 1 := Scalar.cmpi .sgt v43 c0_i32_18
  let v46 : BitVec 32 := Scalar.extui v45
  let c0_i32_19 : BitVec 32 := 0#32
  let v47 : BitVec 1 := Scalar.cmpi .slt v43 c0_i32_19
  let v48 : BitVec 32 := Scalar.extui v47
  let v49 : BitVec 32 := Scalar.subi v46 v48
  let c0_i32_20 : BitVec 32 := 0#32
  let v50 : BitVec 1 := Scalar.cmpi .sgt c2_i32_17 c0_i32_20
  let v51 : BitVec 32 := Scalar.extui v50
  let c0_i32_21 : BitVec 32 := 0#32
  let v52 : BitVec 1 := Scalar.cmpi .slt c2_i32_17 c0_i32_21
  let v53 : BitVec 32 := Scalar.extui v52
  let v54 : BitVec 32 := Scalar.subi v51 v53
  let v55 : BitVec 1 := Scalar.cmpi .ne v49 v54
  let v56 : BitVec 32 := Scalar.remsi v43 c2_i32_17
  let c0_i32_22 : BitVec 32 := 0#32
  let v57 : BitVec 1 := Scalar.cmpi .ne v56 c0_i32_22
  let v58 : BitVec 1 := Scalar.andi v55 v57
  let c1_i32_23 : BitVec 32 := 1#32
  let v59 : BitVec 32 := Scalar.subi v44 c1_i32_23
  let v60 : BitVec 32 := Scalar.select v58 v59 v44
  let c1_i32_24 : BitVec 32 := 1#32
  let c0_i32_25 : BitVec 32 := 0#32
  let v61 : BitVec 1 := Scalar.cmpi .eq c1_i32_24 c0_i32_25
  let c1_i32_26 : BitVec 32 := 1#32
  let v62 : BitVec 32 := Scalar.select v61 c1_i32_26 c1_i32_24
  let v63 : BitVec 32 := Scalar.remsi arg1 v62
  let c0_i32_27 : BitVec 32 := 0#32
  let v64 : BitVec 1 := Scalar.cmpi .ne v63 c0_i32_27
  let c0_i32_28 : BitVec 32 := 0#32
  let v65 : BitVec 1 := Scalar.cmpi .slt v63 c0_i32_28
  let c0_i32_29 : BitVec 32 := 0#32
  let v66 : BitVec 1 := Scalar.cmpi .slt v62 c0_i32_29
  let v67 : BitVec 1 := Scalar.xori v65 v66
  let v68 : BitVec 1 := Scalar.andi v67 v64
  let v69 : BitVec 32 := Scalar.addi v63 v62
  let v70 : BitVec 32 := Scalar.select v68 v69 v63
  let c0_i32_30 : BitVec 32 := 0#32
  let c0_i32_31 : BitVec 32 := 0#32
  ![v26.toNat, v60.toNat, c0_i32_30.toNat, v70.toNat]

abbrev stage3_0 : Fin 1 → Memref sig .tc .vmem S2048x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]
-- ==== MlpReferenceIdeal.lean ====
abbrev S2048x2048 : Shape := ⟨2, ![2048, 2048]⟩
abbrev S8x2048x1024 : Shape := ⟨3, ![8, 2048, 1024]⟩
abbrev S8x1024x2048 : Shape := ⟨3, ![8, 1024, 2048]⟩
abbrev S2048x8x1024 : Shape := ⟨3, ![2048, 8, 1024]⟩
abbrev S2048x8192 : Shape := ⟨2, ![2048, 8192]⟩
abbrev S_ : Shape := ⟨0, ![]⟩
abbrev S8192x2048 : Shape := ⟨2, ![8192, 2048]⟩
abbrev S2048x4x2x1024 : Shape := ⟨4, ![2048, 4, 2, 1024]⟩
abbrev S2x4x2048x1024 : Shape := ⟨4, ![2, 4, 2048, 1024]⟩
abbrev S4x2x1024x2048 : Shape := ⟨4, ![4, 2, 1024, 2048]⟩
abbrev S2x4x1024x2048 : Shape := ⟨4, ![2, 4, 1024, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1024, .bf16⟩
  | .hbm, ⟨2, _⟩ => ⟨S8x1024x2048, .bf16⟩
  | .hbm, ⟨3, _⟩ => ⟨S2048x2048, .bf16⟩
  | .hbm, ⟨4, _⟩ => ⟨S2048x8x1024, .bf16⟩
  | .hbm, ⟨5, _⟩ => ⟨S2048x8192, .bf16⟩
  | .hbm, ⟨6, _⟩ => ⟨S2048x8192, .f32⟩
  | .hbm, ⟨7, _⟩ => ⟨S2048x2048, .f32⟩
  | .hbm, ⟨8, _⟩ => ⟨S2048x8192, .f32⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .i1⟩
  | .hbm, ⟨15, _⟩ => ⟨S_, .f32⟩
  | .hbm, ⟨16, _⟩ => ⟨S2048x8192, .f32⟩
  | .hbm, ⟨17, _⟩ => ⟨S2048x8192, .f32⟩
  | .hbm, ⟨18, _⟩ => ⟨S_, .f32⟩
  | .hbm, ⟨19, _⟩ => ⟨S2048x8192, .f32⟩
  | .hbm, ⟨20, _⟩ => ⟨S2048x8192, .f32⟩
  | .hbm, ⟨21, _⟩ => ⟨S8192x2048, .bf16⟩
  | .hbm, ⟨22, _⟩ => ⟨S8192x2048, .f32⟩
  | .hbm, ⟨23, _⟩ => ⟨S2048x2048, .f32⟩
  | .hbm, ⟨24, _⟩ => ⟨S2048x2048, .f32⟩
  | .hbm, ⟨25, _⟩ => ⟨S2048x8192, .f32⟩
  | .hbm, ⟨26, _⟩ => ⟨S8192x2048, .f32⟩
  | .hbm, ⟨27, _⟩ => ⟨S2048x8192, .f32⟩
  | .hbm, ⟨28, _⟩ => ⟨S2048x8192, .f32⟩
  | .hbm, ⟨29, _⟩ => ⟨S_, .f32⟩
  | .hbm, ⟨30, _⟩ => ⟨S2048x8192, .f32⟩
  | .hbm, ⟨31, _⟩ => ⟨S2048x8192, .f32⟩
  | .hbm, ⟨32, _⟩ => ⟨S8192x2048, .f32⟩
  | .hbm, ⟨33, _⟩ => ⟨S2048x8192, .f32⟩
  | .hbm, ⟨34, _⟩ => ⟨S2048x8192, .bf16⟩
  | .hbm, ⟨35, _⟩ => ⟨S2048x8192, .bf16⟩
  | .hbm, ⟨36, _⟩ => ⟨S2048x4x2x1024, .f32⟩
  | .hbm, ⟨37, _⟩ => ⟨S2x4x2048x1024, .f32⟩
  | .hbm, ⟨38, _⟩ => ⟨S2x4x2048x1024, .bf16⟩
  | .hbm, ⟨39, _⟩ => ⟨S4x2x1024x2048, .f32⟩
  | .hbm, ⟨40, _⟩ => ⟨S2x4x1024x2048, .f32⟩
  | .hbm, ⟨41, _⟩ => ⟨S2x4x1024x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== MlpDh.lean ====
abbrev S2048x8192 : Shape := ⟨2, ![2048, 8192]⟩
abbrev S8x2048x1024 : Shape := ⟨3, ![8, 2048, 1024]⟩
abbrev S2048x2048 : Shape := ⟨2, ![2048, 2048]⟩
abbrev S2048x512 : Shape := ⟨2, ![2048, 512]⟩
abbrev S1x1024x512 : Shape := ⟨3, ![1, 1024, 512]⟩
abbrev S2048x1024 : Shape := ⟨2, ![2048, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8x2048x1024, .bf16⟩
  | .hbm, ⟨2, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDhReferenceIdeal.lean ====
abbrev S2048x8192 : Shape := ⟨2, ![2048, 8192]⟩
abbrev S8x2048x1024 : Shape := ⟨3, ![8, 2048, 1024]⟩
abbrev S_ : Shape := ⟨0, ![]⟩
abbrev S2048x2048 : Shape := ⟨2, ![2048, 2048]⟩
abbrev S2048x8x1024 : Shape := ⟨3, ![2048, 8, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8x2048x1024, .bf16⟩
  | .hbm, ⟨2, _⟩ => ⟨S_, .f32⟩
  | .hbm, ⟨3, _⟩ => ⟨S2048x2048, .f32⟩
  | .hbm, ⟨4, _⟩ => ⟨S2048x8x1024, .bf16⟩
  | .hbm, ⟨5, _⟩ => ⟨S2048x8192, .bf16⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpOut.lean ====
abbrev S2048x8192 : Shape := ⟨2, ![2048, 8192]⟩
abbrev S8x1024x2048 : Shape := ⟨3, ![8, 1024, 2048]⟩
abbrev S8192x2048 : Shape := ⟨2, ![8192, 2048]⟩
abbrev S2048x2048 : Shape := ⟨2, ![2048, 2048]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8x1024x2048, .bf16⟩
  | .hbm, ⟨2, _⟩ => ⟨S8192x2048, .bf16⟩
  | .hbm, ⟨3, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutReferenceIdeal.lean ====
abbrev S2048x8192 : Shape := ⟨2, ![2048, 8192]⟩
abbrev S8x1024x2048 : Shape := ⟨3, ![8, 1024, 2048]⟩
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8x1024x2048, .bf16⟩
  | .hbm, ⟨2, _⟩ => ⟨S2048x8192, .f32⟩
  | .hbm, ⟨3, _⟩ => ⟨S8192x2048, .bf16⟩
  | .hbm, ⟨4, _⟩ => ⟨S8192x2048, .f32⟩
  | .hbm, ⟨5, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Sb.lean ====
abbrev S2048x2048 : Shape := ⟨2, ![2048, 2048]⟩
abbrev S8x2048x768 : Shape := ⟨3, ![8, 2048, 768]⟩
abbrev S8x256x2048 : Shape := ⟨3, ![8, 256, 2048]⟩
abbrev S2048x6144 : Shape := ⟨2, ![2048, 6144]⟩
abbrev S1x2048x768 : Shape := ⟨3, ![1, 2048, 768]⟩
abbrev S2048x768 : Shape := ⟨2, ![2048, 768]⟩
abbrev S2048x512 : Shape := ⟨2, ![2048, 512]⟩
abbrev S512x512 : Shape := ⟨2, ![512, 512]⟩
abbrev S2x4x256x2048 : Shape := ⟨4, ![2, 4, 256, 2048]⟩
abbrev S256x2048 : Shape := ⟨2, ![256, 2048]⟩
abbrev S1x1x256x2048 : Shape := ⟨4, ![1, 1, 256, 2048]⟩
abbrev S1024x2048 : Shape := ⟨2, ![1024, 2048]⟩
abbrev S2048x1024 : Shape := ⟨2, ![2048, 1024]⟩
abbrev S2x4x2048x768 : Shape := ⟨4, ![2, 4, 2048, 768]⟩
abbrev S1x1x2048x768 : Shape := ⟨4, ![1, 1, 2048, 768]⟩

abbrev nBuf : Space → Nat
  | .hbm => 15
  | .vmem => 29
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S8x256x2048, .bf16⟩
  | .hbm, ⟨3, _⟩ => ⟨S2048x2048, .bf16⟩
  | .hbm, ⟨4, _⟩ => ⟨S2048x2048, .bf16⟩
  | .hbm, ⟨5, _⟩ => ⟨S2048x6144, .bf16⟩
  | .hbm, ⟨6, _⟩ => ⟨S2048x6144, .bf16⟩
  | .hbm, ⟨7, _⟩ => ⟨S2048x2048, .bf16⟩
  | .hbm, ⟨8, _⟩ => ⟨S2048x2048, .f32⟩
  | .hbm, ⟨9, _⟩ => ⟨S2048x2048, .bf16⟩
  | .hbm, ⟨10, _⟩ => ⟨S2x4x256x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2x4x2048x768, .bf16⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .bf16⟩
  | .local _ .vmem, ⟨4, _⟩ => ⟨S2048x768, .bf16⟩
  | .local _ .vmem, ⟨5, _⟩ => ⟨S2048x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | .local _ .vmem, ⟨9, _⟩ => ⟨S2048x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S256x2048, .bf16⟩
  | .local _ .vmem, ⟨15, _⟩ => ⟨S256x2048, .bf16⟩
  | .local _ .vmem, ⟨16, _⟩ => ⟨S2048x2048, .bf16⟩
  | .local _ .vmem, ⟨17, _⟩ => ⟨S1x1x256x2048, .bf16⟩
  | .local _ .vmem, ⟨18, _⟩ => ⟨S1x1x256x2048, .bf16⟩
  | .local _ .vmem, ⟨19, _⟩ => ⟨S2048x2048, .bf16⟩
  | .local _ .vmem, ⟨20, _⟩ => ⟨S1024x2048, .bf16⟩
  | .local _ .vmem, ⟨21, _⟩ => ⟨S1024x2048, .bf16⟩
  | .local _ .vmem, ⟨22, _⟩ => ⟨S2048x1024, .bf16⟩
  | .local _ .vmem, ⟨23, _⟩ => ⟨S2048x1024, .bf16⟩
  | .local _ .vmem, ⟨24, _⟩ => ⟨S2048x2048, .bf16⟩
  | .local _ .vmem, ⟨25, _⟩ => ⟨S2048x768, .bf16⟩
  | .local _ .vmem, ⟨26, _⟩ => ⟨S2048x768, .bf16⟩
  | .local _ .vmem, ⟨27, _⟩ => ⟨S1x1x2048x768, .bf16⟩
  | .local _ .vmem, ⟨28, _⟩ => ⟨S1x1x2048x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg2_1 : Ref sig .tc := ⟨.vmem, 18, rfl⟩
abbrev cc4_stg0_0 : Ref sig .tc := ⟨.vmem, 19, rfl⟩
abbrev cc4_stg1_0 : Ref sig .tc := ⟨.vmem, 20, rfl⟩
abbrev cc4_stg1_1 : Ref sig .tc := ⟨.vmem, 21, rfl⟩
abbrev cc4_stg2_0 : Ref sig .tc := ⟨.vmem, 22, rfl⟩
abbrev cc4_stg2_1 : Ref sig .tc := ⟨.vmem, 23, rfl⟩
abbrev cc5_stg0_0 : Ref sig .tc := ⟨.vmem, 24, rfl⟩
abbrev cc5_stg1_0 : Ref sig .tc := ⟨.vmem, 25, rfl⟩
abbrev cc5_stg1_1 : Ref sig .tc := ⟨.vmem, 26, rfl⟩
abbrev cc5_stg2_0 : Ref sig .tc := ⟨.vmem, 27, rfl⟩
abbrev cc5_stg2_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem2_1 : DmaSem sig := 18
abbrev cc4_sem0_0 : DmaSem sig := 19
abbrev cc4_sem1_0 : DmaSem sig := 20
abbrev cc4_sem1_1 : DmaSem sig := 21
abbrev cc4_sem2_0 : DmaSem sig := 22
abbrev cc4_sem2_1 : DmaSem sig := 23
abbrev cc5_sem0_0 : DmaSem sig := 24
abbrev cc5_sem1_0 : DmaSem sig := 25
abbrev cc5_sem1_1 : DmaSem sig := 26
abbrev cc5_sem2_0 : DmaSem sig := 27
abbrev cc5_sem2_1 : DmaSem sig := 28

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage3_0 : Fin 2 → Memref sig .tc .vmem S256x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1x1x256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2048x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.divsi arg1 c1_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c1_i32_10 c0_i32_13
  let v34 : BitVec 32 := Scalar.extui v33
  let c0_i32_14 : BitVec 32 := 0#32
  let v35 : BitVec 1 := Scalar.cmpi .slt c1_i32_10 c0_i32_14
  let v36 : BitVec 32 := Scalar.extui v35
  let v37 : BitVec 32 := Scalar.subi v34 v36
  let v38 : BitVec 1 := Scalar.cmpi .ne v32 v37
  let v39 : BitVec 32 := Scalar.remsi arg1 c1_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.divsi v43 c2_i32_17
  let c0_i32_18 : BitVec 32 := 0#32
  let v45 : BitVec 1 := Scalar.cmpi .sgt v43 c0_i32_18
  let v46 : BitVec 32 := Scalar.extui v45
  let c0_i32_19 : BitVec 32 := 0#32
  let v47 : BitVec 1 := Scalar.cmpi .slt v43 c0_i32_19
  let v48 : BitVec 32 := Scalar.extui v47
  let v49 : BitVec 32 := Scalar.subi v46 v48
  let c0_i32_20 : BitVec 32 := 0#32
  let v50 : BitVec 1 := Scalar.cmpi .sgt c2_i32_17 c0_i32_20
  let v51 : BitVec 32 := Scalar.extui v50
  let c0_i32_21 : BitVec 32 := 0#32
  let v52 : BitVec 1 := Scalar.cmpi .slt c2_i32_17 c0_i32_21
  let v53 : BitVec 32 := Scalar.extui v52
  let v54 : BitVec 32 := Scalar.subi v51 v53
  let v55 : BitVec 1 := Scalar.cmpi .ne v49 v54
  let v56 : BitVec 32 := Scalar.remsi v43 c2_i32_17
  let c0_i32_22 : BitVec 32 := 0#32
  let v57 : BitVec 1 := Scalar.cmpi .ne v56 c0_i32_22
  let v58 : BitVec 1 := Scalar.andi v55 v57
  let c1_i32_23 : BitVec 32 := 1#32
  let v59 : BitVec 32 := Scalar.subi v44 c1_i32_23
  let v60 : BitVec 32 := Scalar.select v58 v59 v44
  let c1_i32_24 : BitVec 32 := 1#32
  let c0_i32_25 : BitVec 32 := 0#32
  let v61 : BitVec 1 := Scalar.cmpi .eq c1_i32_24 c0_i32_25
  let c1_i32_26 : BitVec 32 := 1#32
  let v62 : BitVec 32 := Scalar.select v61 c1_i32_26 c1_i32_24
  let v63 : BitVec 32 := Scalar.remsi arg1 v62
  let c0_i32_27 : BitVec 32 := 0#32
  let v64 : BitVec 1 := Scalar.cmpi .ne v63 c0_i32_27
  let c0_i32_28 : BitVec 32 := 0#32
  let v65 : BitVec 1 := Scalar.cmpi .slt v63 c0_i32_28
  let c0_i32_29 : BitVec 32 := 0#32
  let v66 : BitVec 1 := Scalar.cmpi .slt v62 c0_i32_29
  let v67 : BitVec 1 := Scalar.xori v65 v66
  let v68 : BitVec 1 := Scalar.andi v67 v64
  let v69 : BitVec 32 := Scalar.addi v63 v62
  let v70 : BitVec 32 := Scalar.select v68 v69 v63
  let c0_i32_30 : BitVec 32 := 0#32
  let c0_i32_31 : BitVec 32 := 0#32
  ![v26.toNat, v60.toNat, c0_i32_30.toNat, v70.toNat]

abbrev stage5_0 : Fin 1 → Memref sig .tc .vmem S2048x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2048x768 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1x2048x768 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, false]
-- ==== SbReferenceIdeal.lean ====
abbrev S2048x2048 : Shape := ⟨2, ![2048, 2048]⟩
abbrev S8x2048x768 : Shape := ⟨3, ![8, 2048, 768]⟩
abbrev S8x256x2048 : Shape := ⟨3, ![8, 256, 2048]⟩
abbrev S2048x6144 : Shape := ⟨2, ![2048, 6144]⟩
abbrev S2048x8x768 : Shape := ⟨3, ![2048, 8, 768]⟩
abbrev S6144x2048 : Shape := ⟨2, ![6144, 2048]⟩
abbrev S4x2x256x2048 : Shape := ⟨4, ![4, 2, 256, 2048]⟩
abbrev S2x4x256x2048 : Shape := ⟨4, ![2, 4, 256, 2048]⟩
abbrev S2048x4x2x768 : Shape := ⟨4, ![2048, 4, 2, 768]⟩
abbrev S2x4x2048x768 : Shape := ⟨4, ![2, 4, 2048, 768]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S8x256x2048, .bf16⟩
  | .hbm, ⟨3, _⟩ => ⟨S2048x2048, .bf16⟩
  | .hbm, ⟨4, _⟩ => ⟨S2048x2048, .bf16⟩
  | .hbm, ⟨5, _⟩ => ⟨S2048x6144, .bf16⟩
  | .hbm, ⟨6, _⟩ => ⟨S2048x8x768, .bf16⟩
  | .hbm, ⟨7, _⟩ => ⟨S2048x6144, .bf16⟩
  | .hbm, ⟨8, _⟩ => ⟨S2048x6144, .f32⟩
  | .hbm, ⟨9, _⟩ => ⟨S2048x2048, .f32⟩
  | .hbm, ⟨10, _⟩ => ⟨S2048x6144, .f32⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x6144, .f32⟩
  | .hbm, ⟨20, _⟩ => ⟨S6144x2048, .f32⟩
  | .hbm, ⟨21, _⟩ => ⟨S2048x6144, .f32⟩
  | .hbm, ⟨22, _⟩ => ⟨S2048x6144, .bf16⟩
  | .hbm, ⟨23, _⟩ => ⟨S4x2x256x2048, .f32⟩
  | .hbm, ⟨24, _⟩ => ⟨S2x4x256x2048, .f32⟩
  | .hbm, ⟨25, _⟩ => ⟨S2x4x256x2048, .bf16⟩
  | .hbm, ⟨26, _⟩ => ⟨S2048x2048, .bf16⟩
  | .hbm, ⟨27, _⟩ => ⟨S2048x4x2x768, .f32⟩
  | .hbm, ⟨28, _⟩ => ⟨S2x4x2048x768, .f32⟩
  | .hbm, ⟨29, _⟩ => ⟨S2x4x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== SbDh.lean ====
abbrev S2048x6144 : Shape := ⟨2, ![2048, 6144]⟩
abbrev S8x2048x768 : Shape := ⟨3, ![8, 2048, 768]⟩
abbrev S2048x2048 : Shape := ⟨2, ![2048, 2048]⟩
abbrev S2048x384 : Shape := ⟨2, ![2048, 384]⟩
abbrev S1x1024x384 : Shape := ⟨3, ![1, 1024, 384]⟩
abbrev S2048x1024 : Shape := ⟨2, ![2048, 1024]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S2048x2048, .f32⟩
  | .local _ .vmem, ⟨0, _⟩ => ⟨S2048x384, .bf16⟩
  | .local _ .vmem, ⟨1, _⟩ => ⟨S2048x384, .bf16⟩
  | .local _ .vmem, ⟨2, _⟩ => ⟨S1x1024x384, .bf16⟩
  | .local _ .vmem, ⟨3, _⟩ => ⟨S1x1024x384, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SbDhReferenceIdeal.lean ====
abbrev S2048x6144 : Shape := ⟨2, ![2048, 6144]⟩
abbrev S8x2048x768 : Shape := ⟨3, ![8, 2048, 768]⟩
abbrev S_ : Shape := ⟨0, ![]⟩
abbrev S2048x2048 : Shape := ⟨2, ![2048, 2048]⟩
abbrev S2048x8x768 : Shape := ⟨3, ![2048, 8, 768]⟩

abbrev nBuf : Space → Nat
  | .hbm => 10
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S_, .f32⟩
  | .hbm, ⟨3, _⟩ => ⟨S2048x2048, .f32⟩
  | .hbm, ⟨4, _⟩ => ⟨S2048x8x768, .bf16⟩
  | .hbm, ⟨5, _⟩ => ⟨S2048x6144, .bf16⟩
  | .hbm, ⟨6, _⟩ => ⟨S2048x6144, .f32⟩
  | .hbm, ⟨7, _⟩ => ⟨S2048x6144, .f32⟩
  | .hbm, ⟨8, _⟩ => ⟨S2048x6144, .f32⟩
  | .hbm, ⟨9, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ca.lean ====
abbrev S2048x2048 : Shape := ⟨2, ![2048, 2048]⟩
abbrev S8x2048x768 : Shape := ⟨3, ![8, 2048, 768]⟩
abbrev S8x256x2048 : Shape := ⟨3, ![8, 256, 2048]⟩
abbrev S2048x6144 : Shape := ⟨2, ![2048, 6144]⟩
abbrev S1x2048x768 : Shape := ⟨3, ![1, 2048, 768]⟩
abbrev S2048x768 : Shape := ⟨2, ![2048, 768]⟩
abbrev S2048x512 : Shape := ⟨2, ![2048, 512]⟩
abbrev S512x512 : Shape := ⟨2, ![512, 512]⟩
abbrev S2x4x256x2048 : Shape := ⟨4, ![2, 4, 256, 2048]⟩
abbrev S256x2048 : Shape := ⟨2, ![256, 2048]⟩
abbrev S1x1x256x2048 : Shape := ⟨4, ![1, 1, 256, 2048]⟩
abbrev S1024x2048 : Shape := ⟨2, ![1024, 2048]⟩
abbrev S2048x1024 : Shape := ⟨2, ![2048, 1024]⟩
abbrev S2x4x2048x768 : Shape := ⟨4, ![2, 4, 2048, 768]⟩
abbrev S1x1x2048x768 : Shape := ⟨4, ![1, 1, 2048, 768]⟩

abbrev nBuf : Space → Nat
  | .hbm => 15
  | .vmem => 29
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S8x256x2048, .bf16⟩
  | .hbm, ⟨3, _⟩ => ⟨S2048x2048, .bf16⟩
  | .hbm, ⟨4, _⟩ => ⟨S2048x2048, .bf16⟩
  | .hbm, ⟨5, _⟩ => ⟨S2048x6144, .bf16⟩
  | .hbm, ⟨6, _⟩ => ⟨S2048x6144, .bf16⟩
  | .hbm, ⟨7, _⟩ => ⟨S2048x2048, .bf16⟩
  | .hbm, ⟨8, _⟩ => ⟨S2048x2048, .f32⟩
  | .hbm, ⟨9, _⟩ => ⟨S2048x2048, .bf16⟩
  | .hbm, ⟨10, _⟩ => ⟨S2x4x256x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2x4x2048x768, .bf16⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .bf16⟩
  | .local _ .vmem, ⟨4, _⟩ => ⟨S2048x768, .bf16⟩
  | .local _ .vmem, ⟨5, _⟩ => ⟨S2048x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | .local _ .vmem, ⟨9, _⟩ => ⟨S2048x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S256x2048, .bf16⟩
  | .local _ .vmem, ⟨15, _⟩ => ⟨S256x2048, .bf16⟩
  | .local _ .vmem, ⟨16, _⟩ => ⟨S2048x2048, .bf16⟩
  | .local _ .vmem, ⟨17, _⟩ => ⟨S1x1x256x2048, .bf16⟩
  | .local _ .vmem, ⟨18, _⟩ => ⟨S1x1x256x2048, .bf16⟩
  | .local _ .vmem, ⟨19, _⟩ => ⟨S2048x2048, .bf16⟩
  | .local _ .vmem, ⟨20, _⟩ => ⟨S1024x2048, .bf16⟩
  | .local _ .vmem, ⟨21, _⟩ => ⟨S1024x2048, .bf16⟩
  | .local _ .vmem, ⟨22, _⟩ => ⟨S2048x1024, .bf16⟩
  | .local _ .vmem, ⟨23, _⟩ => ⟨S2048x1024, .bf16⟩
  | .local _ .vmem, ⟨24, _⟩ => ⟨S2048x2048, .bf16⟩
  | .local _ .vmem, ⟨25, _⟩ => ⟨S2048x768, .bf16⟩
  | .local _ .vmem, ⟨26, _⟩ => ⟨S2048x768, .bf16⟩
  | .local _ .vmem, ⟨27, _⟩ => ⟨S1x1x2048x768, .bf16⟩
  | .local _ .vmem, ⟨28, _⟩ => ⟨S1x1x2048x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg2_1 : Ref sig .tc := ⟨.vmem, 18, rfl⟩
abbrev cc4_stg0_0 : Ref sig .tc := ⟨.vmem, 19, rfl⟩
abbrev cc4_stg1_0 : Ref sig .tc := ⟨.vmem, 20, rfl⟩
abbrev cc4_stg1_1 : Ref sig .tc := ⟨.vmem, 21, rfl⟩
abbrev cc4_stg2_0 : Ref sig .tc := ⟨.vmem, 22, rfl⟩
abbrev cc4_stg2_1 : Ref sig .tc := ⟨.vmem, 23, rfl⟩
abbrev cc5_stg0_0 : Ref sig .tc := ⟨.vmem, 24, rfl⟩
abbrev cc5_stg1_0 : Ref sig .tc := ⟨.vmem, 25, rfl⟩
abbrev cc5_stg1_1 : Ref sig .tc := ⟨.vmem, 26, rfl⟩
abbrev cc5_stg2_0 : Ref sig .tc := ⟨.vmem, 27, rfl⟩
abbrev cc5_stg2_1 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem2_1 : DmaSem sig := 18
abbrev cc4_sem0_0 : DmaSem sig := 19
abbrev cc4_sem1_0 : DmaSem sig := 20
abbrev cc4_sem1_1 : DmaSem sig := 21
abbrev cc4_sem2_0 : DmaSem sig := 22
abbrev cc4_sem2_1 : DmaSem sig := 23
abbrev cc5_sem0_0 : DmaSem sig := 24
abbrev cc5_sem1_0 : DmaSem sig := 25
abbrev cc5_sem1_1 : DmaSem sig := 26
abbrev cc5_sem2_0 : DmaSem sig := 27
abbrev cc5_sem2_1 : DmaSem sig := 28

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨3, ![8, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage3_0 : Fin 2 → Memref sig .tc .vmem S256x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1x1x256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2048x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.divsi arg1 c1_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c1_i32_10 c0_i32_13
  let v34 : BitVec 32 := Scalar.extui v33
  let c0_i32_14 : BitVec 32 := 0#32
  let v35 : BitVec 1 := Scalar.cmpi .slt c1_i32_10 c0_i32_14
  let v36 : BitVec 32 := Scalar.extui v35
  let v37 : BitVec 32 := Scalar.subi v34 v36
  let v38 : BitVec 1 := Scalar.cmpi .ne v32 v37
  let v39 : BitVec 32 := Scalar.remsi arg1 c1_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.divsi v43 c2_i32_17
  let c0_i32_18 : BitVec 32 := 0#32
  let v45 : BitVec 1 := Scalar.cmpi .sgt v43 c0_i32_18
  let v46 : BitVec 32 := Scalar.extui v45
  let c0_i32_19 : BitVec 32 := 0#32
  let v47 : BitVec 1 := Scalar.cmpi .slt v43 c0_i32_19
  let v48 : BitVec 32 := Scalar.extui v47
  let v49 : BitVec 32 := Scalar.subi v46 v48
  let c0_i32_20 : BitVec 32 := 0#32
  let v50 : BitVec 1 := Scalar.cmpi .sgt c2_i32_17 c0_i32_20
  let v51 : BitVec 32 := Scalar.extui v50
  let c0_i32_21 : BitVec 32 := 0#32
  let v52 : BitVec 1 := Scalar.cmpi .slt c2_i32_17 c0_i32_21
  let v53 : BitVec 32 := Scalar.extui v52
  let v54 : BitVec 32 := Scalar.subi v51 v53
  let v55 : BitVec 1 := Scalar.cmpi .ne v49 v54
  let v56 : BitVec 32 := Scalar.remsi v43 c2_i32_17
  let c0_i32_22 : BitVec 32 := 0#32
  let v57 : BitVec 1 := Scalar.cmpi .ne v56 c0_i32_22
  let v58 : BitVec 1 := Scalar.andi v55 v57
  let c1_i32_23 : BitVec 32 := 1#32
  let v59 : BitVec 32 := Scalar.subi v44 c1_i32_23
  let v60 : BitVec 32 := Scalar.select v58 v59 v44
  let c1_i32_24 : BitVec 32 := 1#32
  let c0_i32_25 : BitVec 32 := 0#32
  let v61 : BitVec 1 := Scalar.cmpi .eq c1_i32_24 c0_i32_25
  let c1_i32_26 : BitVec 32 := 1#32
  let v62 : BitVec 32 := Scalar.select v61 c1_i32_26 c1_i32_24
  let v63 : BitVec 32 := Scalar.remsi arg1 v62
  let c0_i32_27 : BitVec 32 := 0#32
  let v64 : BitVec 1 := Scalar.cmpi .ne v63 c0_i32_27
  let c0_i32_28 : BitVec 32 := 0#32
  let v65 : BitVec 1 := Scalar.cmpi .slt v63 c0_i32_28
  let c0_i32_29 : BitVec 32 := 0#32
  let v66 : BitVec 1 := Scalar.cmpi .slt v62 c0_i32_29
  let v67 : BitVec 1 := Scalar.xori v65 v66
  let v68 : BitVec 1 := Scalar.andi v67 v64
  let v69 : BitVec 32 := Scalar.addi v63 v62
  let v70 : BitVec 32 := Scalar.select v68 v69 v63
  let c0_i32_30 : BitVec 32 := 0#32
  let c0_i32_31 : BitVec 32 := 0#32
  ![v26.toNat, v60.toNat, c0_i32_30.toNat, v70.toNat]

abbrev stage5_0 : Fin 1 → Memref sig .tc .vmem S2048x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2048x768 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1x2048x768 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, false]
-- ==== CaReferenceIdeal.lean ====
abbrev S2048x2048 : Shape := ⟨2, ![2048, 2048]⟩
abbrev S8x2048x768 : Shape := ⟨3, ![8, 2048, 768]⟩
abbrev S8x256x2048 : Shape := ⟨3, ![8, 256, 2048]⟩
abbrev S2048x6144 : Shape := ⟨2, ![2048, 6144]⟩
abbrev S2048x8x768 : Shape := ⟨3, ![2048, 8, 768]⟩
abbrev S6144x2048 : Shape := ⟨2, ![6144, 2048]⟩
abbrev S4x2x256x2048 : Shape := ⟨4, ![4, 2, 256, 2048]⟩
abbrev S2x4x256x2048 : Shape := ⟨4, ![2, 4, 256, 2048]⟩
abbrev S2048x4x2x768 : Shape := ⟨4, ![2048, 4, 2, 768]⟩
abbrev S2x4x2048x768 : Shape := ⟨4, ![2, 4, 2048, 768]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x768, .bf16⟩
  | .hbm, ⟨2, _⟩ => ⟨S8x256x2048, .bf16⟩
  | .hbm, ⟨3, _⟩ => ⟨S2048x2048, .bf16⟩
  | .hbm, ⟨4, _⟩ => ⟨S2048x2048, .bf16⟩
  | .hbm, ⟨5, _⟩ => ⟨S2048x6144, .bf16⟩
  | .hbm, ⟨6, _⟩ => ⟨S2048x8x768, .bf16⟩
  | .hbm, ⟨7, _⟩ => ⟨S2048x6144, .bf16⟩
  | .hbm, ⟨8, _⟩ => ⟨S2048x6144, .f32⟩
  | .hbm, ⟨9, _⟩ => ⟨S2048x2048, .f32⟩
  | .hbm, ⟨10, _⟩ => ⟨S2048x6144, .f32⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x6144, .f32⟩
  | .hbm, ⟨20, _⟩ => ⟨S6144x2048, .f32⟩
  | .hbm, ⟨21, _⟩ => ⟨S2048x6144, .f32⟩
  | .hbm, ⟨22, _⟩ => ⟨S2048x6144, .bf16⟩
  | .hbm, ⟨23, _⟩ => ⟨S4x2x256x2048, .f32⟩
  | .hbm, ⟨24, _⟩ => ⟨S2x4x256x2048, .f32⟩
  | .hbm, ⟨25, _⟩ => ⟨S2x4x256x2048, .bf16⟩
  | .hbm, ⟨26, _⟩ => ⟨S2048x2048, .bf16⟩
  | .hbm, ⟨27, _⟩ => ⟨S2048x4x2x768, .f32⟩
  | .hbm, ⟨28, _⟩ => ⟨S2x4x2048x768, .f32⟩
  | .hbm, ⟨29, _⟩ => ⟨S2x4x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== CaDh.lean ====
abbrev S2048x6144 : Shape := ⟨2, ![2048, 6144]⟩
abbrev S8x2048x768 : Shape := ⟨3, ![8, 2048, 768]⟩
abbrev S2048x2048 : Shape := ⟨2, ![2048, 2048]⟩
abbrev S2048x384 : Shape := ⟨2, ![2048, 384]⟩
abbrev S1x1024x384 : Shape := ⟨3, ![1, 1024, 384]⟩
abbrev S2048x1024 : Shape := ⟨2, ![2048, 1024]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S2048x2048, .f32⟩
  | .local _ .vmem, ⟨0, _⟩ => ⟨S2048x384, .bf16⟩
  | .local _ .vmem, ⟨1, _⟩ => ⟨S2048x384, .bf16⟩
  | .local _ .vmem, ⟨2, _⟩ => ⟨S1x1024x384, .bf16⟩
  | .local _ .vmem, ⟨3, _⟩ => ⟨S1x1024x384, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CaDhReferenceIdeal.lean ====
abbrev S2048x6144 : Shape := ⟨2, ![2048, 6144]⟩
abbrev S8x2048x768 : Shape := ⟨3, ![8, 2048, 768]⟩
abbrev S_ : Shape := ⟨0, ![]⟩
abbrev S2048x2048 : Shape := ⟨2, ![2048, 2048]⟩
abbrev S2048x8x768 : Shape := ⟨3, ![2048, 8, 768]⟩

abbrev nBuf : Space → Nat
  | .hbm => 10
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S8x2048x768, .bf16⟩
  | .hbm, ⟨2, _⟩ => ⟨S_, .f32⟩
  | .hbm, ⟨3, _⟩ => ⟨S2048x2048, .f32⟩
  | .hbm, ⟨4, _⟩ => ⟨S2048x8x768, .bf16⟩
  | .hbm, ⟨5, _⟩ => ⟨S2048x6144, .bf16⟩
  | .hbm, ⟨6, _⟩ => ⟨S2048x6144, .f32⟩
  | .hbm, ⟨7, _⟩ => ⟨S2048x6144, .f32⟩
  | .hbm, ⟨8, _⟩ => ⟨S2048x6144, .f32⟩
  | .hbm, ⟨9, _⟩ => ⟨S2048x2048, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mla.lean ====
abbrev S2048x2048 : Shape := ⟨2, ![2048, 2048]⟩
abbrev S2048x512 : Shape := ⟨2, ![2048, 512]⟩
abbrev S8x256x1152 : Shape := ⟨3, ![8, 256, 1152]⟩
abbrev S8x512x512 : Shape := ⟨3, ![8, 512, 512]⟩
abbrev S8x256x2048 : Shape := ⟨3, ![8, 256, 2048]⟩
abbrev S2048x4096 : Shape := ⟨2, ![2048, 4096]⟩
abbrev S2048x1152 : Shape := ⟨2, ![2048, 1152]⟩
abbrev S2048x384 : Shape := ⟨2, ![2048, 384]⟩
abbrev S1x512x512 : Shape := ⟨3, ![1, 512, 512]⟩
abbrev S512x512 : Shape := ⟨2, ![512, 512]⟩
abbrev S2x4x256x2048 : Shape := ⟨4, ![2, 4, 256, 2048]⟩
abbrev S256x2048 : Shape := ⟨2, ![256, 2048]⟩
abbrev S1x1x256x2048 : Shape := ⟨4, ![1, 1, 256, 2048]⟩
abbrev S1024x2048 : Shape := ⟨2, ![1024, 2048]⟩
abbrev S2048x1024 : Shape := ⟨2, ![2048, 1024]⟩
abbrev S512x2048 : Shape := ⟨2, ![512, 2048]⟩
abbrev S2x4x512x512 : Shape := ⟨4, ![2, 4, 512, 512]⟩
abbrev S1x1x512x512 : Shape := ⟨4, ![1, 1, 512, 512]⟩
abbrev S2x4x256x1152 : Shape := ⟨4, ![2, 4, 256, 1152]⟩
abbrev S1x1x256x1152 : Shape := ⟨4, ![1, 1, 256, 1152]⟩
abbrev S256x1152 : Shape := ⟨2, ![256, 1152]⟩
abbrev S1024x1152 : Shape := ⟨2, ![1024, 1152]⟩

abbrev nBuf : Space → Nat
  | .hbm => 30
  | .vmem => 62
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x512, .bf16⟩
  | .hbm, ⟨3, _⟩ => ⟨S2048x2048, .bf16⟩
  | .hbm, ⟨4, _⟩ => ⟨S8x256x1152, .bf16⟩
  | .hbm, ⟨5, _⟩ => ⟨S8x512x512, .bf16⟩
  | .hbm, ⟨6, _⟩ => ⟨S8x512x512, .bf16⟩
  | .hbm, ⟨7, _⟩ => ⟨S8x256x2048, .bf16⟩
  | .hbm, ⟨8, _⟩ => ⟨S2048x2048, .bf16⟩
  | .hbm, ⟨9, _⟩ => ⟨S2048x4096, .bf16⟩
  | .hbm, ⟨10, _⟩ => ⟨S2048x4096, .bf16⟩
  | .hbm, ⟨11, _⟩ => ⟨S2048x1152, .bf16⟩
  | .hbm, ⟨12, _⟩ => ⟨S2048x1152, .bf16⟩
  | .hbm, ⟨13, _⟩ => ⟨S2048x1152, .f32⟩
  | .hbm, ⟨14, _⟩ => ⟨S2048x4096, .f32⟩
  | .hbm, ⟨15, _⟩ => ⟨S2048x4096, .bf16⟩
  | .hbm, ⟨16, _⟩ => ⟨S2048x2048, .bf16⟩
  | .hbm, ⟨17, _⟩ => ⟨S2048x2048, .f32⟩
  | .hbm, ⟨18, _⟩ => ⟨S2048x2048, .bf16⟩
  | .hbm, ⟨19, _⟩ => ⟨S2x4x256x2048, .bf16⟩
  | .hbm, ⟨20, _⟩ => ⟨S2048x2048, .bf16⟩
  | .hbm, ⟨21, _⟩ => ⟨S2048x2048, .bf16⟩
  | .hbm, ⟨22, _⟩ => ⟨S512x2048, .bf16⟩
  | .hbm, ⟨23, _⟩ => ⟨S2x4x512x512, .bf16⟩
  | .hbm, ⟨24, _⟩ => ⟨S512x2048, .bf16⟩
  | .hbm, ⟨25, _⟩ => ⟨S2x4x512x512, .bf16⟩
  | .hbm, ⟨26, _⟩ => ⟨S2048x2048, .bf16⟩
  | .hbm, ⟨27, _⟩ => ⟨S2x4x256x1152, .bf16⟩
  | .hbm, ⟨28, _⟩ => ⟨S2048x1152, .bf16⟩
  | .hbm, ⟨29, _⟩ => ⟨S2048x2048, .f32⟩
  | .local _ .vmem, ⟨0, _⟩ => ⟨S2048x2048, .bf16⟩
  | .local _ .vmem, ⟨1, _⟩ => ⟨S2048x384, .bf16⟩
  | .local _ .vmem, ⟨2, _⟩ => ⟨S2048x384, .bf16⟩
  | .local _ .vmem, ⟨3, _⟩ => ⟨S2048x384, .f32⟩
  | .local _ .vmem, ⟨4, _⟩ => ⟨S2048x384, .f32⟩
  | .local _ .vmem, ⟨5, _⟩ => ⟨S2048x512, .bf16⟩
  | .local _ .vmem, ⟨6, _⟩ => ⟨S1x512x512, .bf16⟩
  | .local _ .vmem, ⟨7, _⟩ => ⟨S1x512x512, .bf16⟩
  | .local _ .vmem, ⟨8, _⟩ => ⟨S2048x512, .f32⟩
  | .local _ .vmem, ⟨9, _⟩ => ⟨S2048x512, .f32⟩
  | .local _ .vmem, ⟨10, _⟩ => ⟨S2048x512, .bf16⟩
  | .local _ .vmem, ⟨11, _⟩ => ⟨S1x512x512, .bf16⟩
  | .local _ .vmem, ⟨12, _⟩ => ⟨S1x512x512, .bf16⟩
  | .local _ .vmem, ⟨13, _⟩ => ⟨S2048x512, .bf16⟩
  | .local _ .vmem, ⟨14, _⟩ => ⟨S2048x512, .bf16⟩
  | .local _ .vmem, ⟨15, _⟩ => ⟨S2048x2048, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .f32⟩
  | .local _ .vmem, ⟨19, _⟩ => ⟨S2048x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S256x2048, .bf16⟩
  | .local _ .vmem, ⟨25, _⟩ => ⟨S256x2048, .bf16⟩
  | .local _ .vmem, ⟨26, _⟩ => ⟨S2048x2048, .bf16⟩
  | .local _ .vmem, ⟨27, _⟩ => ⟨S1x1x256x2048, .bf16⟩
  | .local _ .vmem, ⟨28, _⟩ => ⟨S1x1x256x2048, .bf16⟩
  | .local _ .vmem, ⟨29, _⟩ => ⟨S2048x2048, .bf16⟩
  | .local _ .vmem, ⟨30, _⟩ => ⟨S1024x2048, .bf16⟩
  | .local _ .vmem, ⟨31, _⟩ => ⟨S1024x2048, .bf16⟩
  | .local _ .vmem, ⟨32, _⟩ => ⟨S2048x1024, .bf16⟩
  | .local _ .vmem, ⟨33, _⟩ => ⟨S2048x1024, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x2048, .bf16⟩
  | .local _ .vmem, ⟨39, _⟩ => ⟨S2048x512, .bf16⟩
  | .local _ .vmem, ⟨40, _⟩ => ⟨S2048x512, .bf16⟩
  | .local _ .vmem, ⟨41, _⟩ => ⟨S1x1x512x512, .bf16⟩
  | .local _ .vmem, ⟨42, _⟩ => ⟨S1x1x512x512, .bf16⟩
  | .local _ .vmem, ⟨43, _⟩ => ⟨S512x512, .bf16⟩
  | .local _ .vmem, ⟨44, _⟩ => ⟨S512x512, .bf16⟩
  | .local _ .vmem, ⟨45, _⟩ => ⟨S512x512, .bf16⟩
  | .local _ .vmem, ⟨46, _⟩ => ⟨S512x512, .bf16⟩
  | .local _ .vmem, ⟨47, _⟩ => ⟨S512x2048, .bf16⟩
  | .local _ .vmem, ⟨48, _⟩ => ⟨S2048x512, .bf16⟩
  | .local _ .vmem, ⟨49, _⟩ => ⟨S2048x512, .bf16⟩
  | .local _ .vmem, ⟨50, _⟩ => ⟨S1x1x512x512, .bf16⟩
  | .local _ .vmem, ⟨51, _⟩ => ⟨S1x1x512x512, .bf16⟩
  | .local _ .vmem, ⟨52, _⟩ => ⟨S256x2048, .bf16⟩
  | .local _ .vmem, ⟨53, _⟩ => ⟨S256x2048, .bf16⟩
  | .local _ .vmem, ⟨54, _⟩ => ⟨S2048x1152, .bf16⟩
  | .local _ .vmem, ⟨55, _⟩ => ⟨S1x1x256x1152, .bf16⟩
  | .local _ .vmem, ⟨56, _⟩ => ⟨S1x1x256x1152, .bf16⟩
  | .local _ .vmem, ⟨57, _⟩ => ⟨S2048x1152, .bf16⟩
  | .local _ .vmem, ⟨58, _⟩ => ⟨S1024x1152, .bf16⟩
  | .local _ .vmem, ⟨59, _⟩ => ⟨S1024x1152, .bf16⟩
  | .local _ .vmem, ⟨60, _⟩ => ⟨S2048x1024, .f32⟩
  | .local _ .vmem, ⟨61, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg2_1 : Ref sig .tc := ⟨.vmem, 28, rfl⟩
abbrev cc6_stg0_0 : Ref sig .tc := ⟨.vmem, 29, rfl⟩
abbrev cc6_stg1_0 : Ref sig .tc := ⟨.vmem, 30, rfl⟩
abbrev cc6_stg1_1 : Ref sig .tc := ⟨.vmem, 31, rfl⟩
abbrev cc6_stg2_0 : Ref sig .tc := ⟨.vmem, 32, rfl⟩
abbrev cc6_stg2_1 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg1_1 : Ref sig .tc := ⟨.vmem, 37, rfl⟩
abbrev cc8_stg0_0 : Ref sig .tc := ⟨.vmem, 38, rfl⟩
abbrev cc8_stg1_0 : Ref sig .tc := ⟨.vmem, 39, rfl⟩
abbrev cc8_stg1_1 : Ref sig .tc := ⟨.vmem, 40, rfl⟩
abbrev cc8_stg2_0 : Ref sig .tc := ⟨.vmem, 41, rfl⟩
abbrev cc8_stg2_1 : Ref sig .tc := ⟨.vmem, 42, rfl⟩
abbrev cc9_stg0_0 : Ref sig .tc := ⟨.vmem, 43, rfl⟩
abbrev cc9_stg0_1 : Ref sig .tc := ⟨.vmem, 44, rfl⟩
abbrev cc9_stg1_0 : Ref sig .tc := ⟨.vmem, 45, rfl⟩
abbrev cc9_stg1_1 : Ref sig .tc := ⟨.vmem, 46, rfl⟩
abbrev cc10_stg0_0 : Ref sig .tc := ⟨.vmem, 47, rfl⟩
abbrev cc10_stg1_0 : Ref sig .tc := ⟨.vmem, 48, rfl⟩
abbrev cc10_stg1_1 : Ref sig .tc := ⟨.vmem, 49, rfl⟩
abbrev cc10_stg2_0 : Ref sig .tc := ⟨.vmem, 50, rfl⟩
abbrev cc10_stg2_1 : Ref sig .tc := ⟨.vmem, 51, rfl⟩
abbrev cc11_stg0_0 : Ref sig .tc := ⟨.vmem, 52, rfl⟩
abbrev cc11_stg0_1 : Ref sig .tc := ⟨.vmem, 53, rfl⟩
abbrev cc11_stg1_0 : Ref sig .tc := ⟨.vmem, 54, rfl⟩
abbrev cc11_stg2_0 : Ref sig .tc := ⟨.vmem, 55, rfl⟩
abbrev cc11_stg2_1 : Ref sig .tc := ⟨.vmem, 56, rfl⟩
abbrev cc12_stg0_0 : Ref sig .tc := ⟨.vmem, 57, rfl⟩
abbrev cc12_stg1_0 : Ref sig .tc := ⟨.vmem, 58, rfl⟩
abbrev cc12_stg1_1 : Ref sig .tc := ⟨.vmem, 59, rfl⟩
abbrev cc12_stg2_0 : Ref sig .tc := ⟨.vmem, 60, rfl⟩
abbrev cc12_stg2_1 : Ref sig .tc := ⟨.vmem, 61, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem2_1 : DmaSem sig := 28
abbrev cc6_sem0_0 : DmaSem sig := 29
abbrev cc6_sem1_0 : DmaSem sig := 30
abbrev cc6_sem1_1 : DmaSem sig := 31
abbrev cc6_sem2_0 : DmaSem sig := 32
abbrev cc6_sem2_1 : DmaSem sig := 33
abbrev cc7_sem0_0 : DmaSem sig := 34
abbrev cc7_sem0_1 : DmaSem sig := 35
abbrev cc7_sem1_0 : DmaSem sig := 36
abbrev cc7_sem1_1 : DmaSem sig := 37
abbrev cc8_sem0_0 : DmaSem sig := 38
abbrev cc8_sem1_0 : DmaSem sig := 39
abbrev cc8_sem1_1 : DmaSem sig := 40
abbrev cc8_sem2_0 : DmaSem sig := 41
abbrev cc8_sem2_1 : DmaSem sig := 42
abbrev cc9_sem0_0 : DmaSem sig := 43
abbrev cc9_sem0_1 : DmaSem sig := 44
abbrev cc9_sem1_0 : DmaSem sig := 45
abbrev cc9_sem1_1 : DmaSem sig := 46
abbrev cc10_sem0_0 : DmaSem sig := 47
abbrev cc10_sem1_0 : DmaSem sig := 48
abbrev cc10_sem1_1 : DmaSem sig := 49
abbrev cc10_sem2_0 : DmaSem sig := 50
abbrev cc10_sem2_1 : DmaSem sig := 51
abbrev cc11_sem0_0 : DmaSem sig := 52
abbrev cc11_sem0_1 : DmaSem sig := 53
abbrev cc11_sem1_0 : DmaSem sig := 54
abbrev cc11_sem2_0 : DmaSem sig := 55
abbrev cc11_sem2_1 : DmaSem sig := 56
abbrev cc12_sem0_0 : DmaSem sig := 57
abbrev cc12_sem1_0 : DmaSem sig := 58
abbrev cc12_sem1_1 : DmaSem sig := 59
abbrev cc12_sem2_0 : DmaSem sig := 60
abbrev cc12_sem2_1 : DmaSem sig := 61

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S1x512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S512x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev grid5 : Pipeline.Grid := ⟨3, ![8, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage5_0 : Fin 2 → Memref sig .tc .vmem S256x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2048x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1x1x256x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S2048x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S1024x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S2048x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨2, ![4, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S512x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S512x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev grid8 : Pipeline.Grid := ⟨3, ![1, 8, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.divsi arg1 c1_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c1_i32_10 c0_i32_13
  let v34 : BitVec 32 := Scalar.extui v33
  let c0_i32_14 : BitVec 32 := 0#32
  let v35 : BitVec 1 := Scalar.cmpi .slt c1_i32_10 c0_i32_14
  let v36 : BitVec 32 := Scalar.extui v35
  let v37 : BitVec 32 := Scalar.subi v34 v36
  let v38 : BitVec 1 := Scalar.cmpi .ne v32 v37
  let v39 : BitVec 32 := Scalar.remsi arg1 c1_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.divsi v43 c2_i32_17
  let c0_i32_18 : BitVec 32 := 0#32
  let v45 : BitVec 1 := Scalar.cmpi .sgt v43 c0_i32_18
  let v46 : BitVec 32 := Scalar.extui v45
  let c0_i32_19 : BitVec 32 := 0#32
  let v47 : BitVec 1 := Scalar.cmpi .slt v43 c0_i32_19
  let v48 : BitVec 32 := Scalar.extui v47
  let v49 : BitVec 32 := Scalar.subi v46 v48
  let c0_i32_20 : BitVec 32 := 0#32
  let v50 : BitVec 1 := Scalar.cmpi .sgt c2_i32_17 c0_i32_20
  let v51 : BitVec 32 := Scalar.extui v50
  let c0_i32_21 : BitVec 32 := 0#32
  let v52 : BitVec 1 := Scalar.cmpi .slt c2_i32_17 c0_i32_21
  let v53 : BitVec 32 := Scalar.extui v52
  let v54 : BitVec 32 := Scalar.subi v51 v53
  let v55 : BitVec 1 := Scalar.cmpi .ne v49 v54
  let v56 : BitVec 32 := Scalar.remsi v43 c2_i32_17
  let c0_i32_22 : BitVec 32 := 0#32
  let v57 : BitVec 1 := Scalar.cmpi .ne v56 c0_i32_22
  let v58 : BitVec 1 := Scalar.andi v55 v57
  let c1_i32_23 : BitVec 32 := 1#32
  let v59 : BitVec 32 := Scalar.subi v44 c1_i32_23
  let v60 : BitVec 32 := Scalar.select v58 v59 v44
  let c1_i32_24 : BitVec 32 := 1#32
  let c0_i32_25 : BitVec 32 := 0#32
  let v61 : BitVec 1 := Scalar.cmpi .eq c1_i32_24 c0_i32_25
  let c1_i32_26 : BitVec 32 := 1#32
  let v62 : BitVec 32 := Scalar.select v61 c1_i32_26 c1_i32_24
  let v63 : BitVec 32 := Scalar.remsi arg1 v62
  let c0_i32_27 : BitVec 32 := 0#32
  let v64 : BitVec 1 := Scalar.cmpi .ne v63 c0_i32_27
  let c0_i32_28 : BitVec 32 := 0#32
  let v65 : BitVec 1 := Scalar.cmpi .slt v63 c0_i32_28
  let c0_i32_29 : BitVec 32 := 0#32
  let v66 : BitVec 1 := Scalar.cmpi .slt v62 c0_i32_29
  let v67 : BitVec 1 := Scalar.xori v65 v66
  let v68 : BitVec 1 := Scalar.andi v67 v64
  let v69 : BitVec 32 := Scalar.addi v63 v62
  let v70 : BitVec 32 := Scalar.select v68 v69 v63
  let c0_i32_30 : BitVec 32 := 0#32
  let c0_i32_31 : BitVec 32 := 0#32
  ![v26.toNat, v60.toNat, c0_i32_30.toNat, v70.toNat]

abbrev stage8_0 : Fin 1 → Memref sig .tc .vmem S512x2048 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S2048x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1x1x512x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true, false]

abbrev grid9 : Pipeline.Grid := ⟨2, ![4, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage9_0 : Fin 2 → Memref sig .tc .vmem S512x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S512x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev grid10 : Pipeline.Grid := ⟨3, ![1, 8, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.divsi arg1 c1_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c1_i32_10 c0_i32_13
  let v34 : BitVec 32 := Scalar.extui v33
  let c0_i32_14 : BitVec 32 := 0#32
  let v35 : BitVec 1 := Scalar.cmpi .slt c1_i32_10 c0_i32_14
  let v36 : BitVec 32 := Scalar.extui v35
  let v37 : BitVec 32 := Scalar.subi v34 v36
  let v38 : BitVec 1 := Scalar.cmpi .ne v32 v37
  let v39 : BitVec 32 := Scalar.remsi arg1 c1_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.divsi v43 c2_i32_17
  let c0_i32_18 : BitVec 32 := 0#32
  let v45 : BitVec 1 := Scalar.cmpi .sgt v43 c0_i32_18
  let v46 : BitVec 32 := Scalar.extui v45
  let c0_i32_19 : BitVec 32 := 0#32
  let v47 : BitVec 1 := Scalar.cmpi .slt v43 c0_i32_19
  let v48 : BitVec 32 := Scalar.extui v47
  let v49 : BitVec 32 := Scalar.subi v46 v48
  let c0_i32_20 : BitVec 32 := 0#32
  let v50 : BitVec 1 := Scalar.cmpi .sgt c2_i32_17 c0_i32_20
  let v51 : BitVec 32 := Scalar.extui v50
  let c0_i32_21 : BitVec 32 := 0#32
  let v52 : BitVec 1 := Scalar.cmpi .slt c2_i32_17 c0_i32_21
  let v53 : BitVec 32 := Scalar.extui v52
  let v54 : BitVec 32 := Scalar.subi v51 v53
  let v55 : BitVec 1 := Scalar.cmpi .ne v49 v54
  let v56 : BitVec 32 := Scalar.remsi v43 c2_i32_17
  let c0_i32_22 : BitVec 32 := 0#32
  let v57 : BitVec 1 := Scalar.cmpi .ne v56 c0_i32_22
  let v58 : BitVec 1 := Scalar.andi v55 v57
  let c1_i32_23 : BitVec 32 := 1#32
  let v59 : BitVec 32 := Scalar.subi v44 c1_i32_23
  let v60 : BitVec 32 := Scalar.select v58 v59 v44
  let c1_i32_24 : BitVec 32 := 1#32
  let c0_i32_25 : BitVec 32 := 0#32
  let v61 : BitVec 1 := Scalar.cmpi .eq c1_i32_24 c0_i32_25
  let c1_i32_26 : BitVec 32 := 1#32
  let v62 : BitVec 32 := Scalar.select v61 c1_i32_26 c1_i32_24
  let v63 : BitVec 32 := Scalar.remsi arg1 v62
  let c0_i32_27 : BitVec 32 := 0#32
  let v64 : BitVec 1 := Scalar.cmpi .ne v63 c0_i32_27
  let c0_i32_28 : BitVec 32 := 0#32
  let v65 : BitVec 1 := Scalar.cmpi .slt v63 c0_i32_28
  let c0_i32_29 : BitVec 32 := 0#32
  let v66 : BitVec 1 := Scalar.cmpi .slt v62 c0_i32_29
  let v67 : BitVec 1 := Scalar.xori v65 v66
  let v68 : BitVec 1 := Scalar.andi v67 v64
  let v69 : BitVec 32 := Scalar.addi v63 v62
  let v70 : BitVec 32 := Scalar.select v68 v69 v63
  let c0_i32_30 : BitVec 32 := 0#32
  let c0_i32_31 : BitVec 32 := 0#32
  ![v26.toNat, v60.toNat, c0_i32_30.toNat, v70.toNat]

abbrev stage10_0 : Fin 1 → Memref sig .tc .vmem S512x2048 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false, true]

abbrev stage10_1 : Fin 2 → Memref sig .tc .vmem S2048x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S1x1x512x512 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true, false]

abbrev grid11 : Pipeline.Grid := ⟨3, ![8, 1, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc11_transform_2 (i : grid11.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage11_0 : Fin 2 → Memref sig .tc .vmem S256x2048 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 1 → Memref sig .tc .vmem S2048x1152 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true, true]

abbrev stage11_2 : Fin 2 → Memref sig .tc .vmem S1x1x256x1152 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev grid12 : Pipeline.Grid := ⟨3, ![1, 2, 1], ![false, false, false]⟩

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 1 → Memref sig .tc .vmem S2048x1152 .bf16 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true, false, true]

abbrev stage12_1 : Fin 2 → Memref sig .tc .vmem S1024x1152 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true, true]

abbrev stage12_2 : Fin 2 → Memref sig .tc .vmem S2048x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true, false]
-- ==== MlaReferenceIdeal.lean ====
abbrev S2048x2048 : Shape := ⟨2, ![2048, 2048]⟩
abbrev S2048x512 : Shape := ⟨2, ![2048, 512]⟩
abbrev S8x256x1152 : Shape := ⟨3, ![8, 256, 1152]⟩
abbrev S8x512x512 : Shape := ⟨3, ![8, 512, 512]⟩
abbrev S8x256x2048 : Shape := ⟨3, ![8, 256, 2048]⟩
abbrev S2048x4096 : Shape := ⟨2, ![2048, 4096]⟩
abbrev S2048x1152 : Shape := ⟨2, ![2048, 1152]⟩
abbrev S512x8x512 : Shape := ⟨3, ![512, 8, 512]⟩
abbrev S512x4096 : Shape := ⟨2, ![512, 4096]⟩
abbrev S4096x512 : Shape := ⟨2, ![4096, 512]⟩
abbrev S1152x2048 : Shape := ⟨2, ![1152, 2048]⟩
abbrev S4x2x256x2048 : Shape := ⟨4, ![4, 2, 256, 2048]⟩
abbrev S2x4x256x2048 : Shape := ⟨4, ![2, 4, 256, 2048]⟩
abbrev S512x4x2x512 : Shape := ⟨4, ![512, 4, 2, 512]⟩
abbrev S2x4x512x512 : Shape := ⟨4, ![2, 4, 512, 512]⟩
abbrev S4x2x256x1152 : Shape := ⟨4, ![4, 2, 256, 1152]⟩
abbrev S2x4x256x1152 : Shape := ⟨4, ![2, 4, 256, 1152]⟩

abbrev nBuf : Space → Nat
  | .hbm => 58
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S2048x512, .bf16⟩
  | .hbm, ⟨3, _⟩ => ⟨S2048x2048, .bf16⟩
  | .hbm, ⟨4, _⟩ => ⟨S8x256x1152, .bf16⟩
  | .hbm, ⟨5, _⟩ => ⟨S8x512x512, .bf16⟩
  | .hbm, ⟨6, _⟩ => ⟨S8x512x512, .bf16⟩
  | .hbm, ⟨7, _⟩ => ⟨S8x256x2048, .bf16⟩
  | .hbm, ⟨8, _⟩ => ⟨S2048x2048, .bf16⟩
  | .hbm, ⟨9, _⟩ => ⟨S2048x4096, .bf16⟩
  | .hbm, ⟨10, _⟩ => ⟨S2048x4096, .bf16⟩
  | .hbm, ⟨11, _⟩ => ⟨S2048x1152, .bf16⟩
  | .hbm, ⟨12, _⟩ => ⟨S2048x2048, .f32⟩
  | .hbm, ⟨13, _⟩ => ⟨S2048x1152, .bf16⟩
  | .hbm, ⟨14, _⟩ => ⟨S2048x1152, .f32⟩
  | .hbm, ⟨15, _⟩ => ⟨S2048x1152, .f32⟩
  | .hbm, ⟨16, _⟩ => ⟨S512x8x512, .bf16⟩
  | .hbm, ⟨17, _⟩ => ⟨S512x4096, .bf16⟩
  | .hbm, ⟨18, _⟩ => ⟨S512x4096, .f32⟩
  | .hbm, ⟨19, _⟩ => ⟨S2048x512, .f32⟩
  | .hbm, ⟨20, _⟩ => ⟨S2048x4096, .f32⟩
  | .hbm, ⟨21, _⟩ => ⟨S512x8x512, .bf16⟩
  | .hbm, ⟨22, _⟩ => ⟨S512x4096, .bf16⟩
  | .hbm, ⟨23, _⟩ => ⟨S512x4096, .f32⟩
  | .hbm, ⟨24, _⟩ => ⟨S2048x512, .f32⟩
  | .hbm, ⟨25, _⟩ => ⟨S2048x4096, .f32⟩
  | .hbm, ⟨26, _⟩ => ⟨S2048x2048, .f32⟩
  | .hbm, ⟨27, _⟩ => ⟨S2048x2048, .bf16⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x4096, .f32⟩
  | .hbm, ⟨35, _⟩ => ⟨S4096x512, .f32⟩
  | .hbm, ⟨36, _⟩ => ⟨S512x4096, .f32⟩
  | .hbm, ⟨37, _⟩ => ⟨S2048x4096, .f32⟩
  | .hbm, ⟨38, _⟩ => ⟨S4096x512, .f32⟩
  | .hbm, ⟨39, _⟩ => ⟨S512x4096, .f32⟩
  | .hbm, ⟨40, _⟩ => ⟨S2048x1152, .f32⟩
  | .hbm, ⟨41, _⟩ => ⟨S1152x2048, .f32⟩
  | .hbm, ⟨42, _⟩ => ⟨S2048x1152, .f32⟩
  | .hbm, ⟨43, _⟩ => ⟨S2048x2048, .f32⟩
  | .hbm, ⟨44, _⟩ => ⟨S2048x4096, .bf16⟩
  | .hbm, ⟨45, _⟩ => ⟨S4x2x256x2048, .f32⟩
  | .hbm, ⟨46, _⟩ => ⟨S2x4x256x2048, .f32⟩
  | .hbm, ⟨47, _⟩ => ⟨S2x4x256x2048, .bf16⟩
  | .hbm, ⟨48, _⟩ => ⟨S2048x2048, .bf16⟩
  | .hbm, ⟨49, _⟩ => ⟨S512x4x2x512, .f32⟩
  | .hbm, ⟨50, _⟩ => ⟨S2x4x512x512, .f32⟩
  | .hbm, ⟨51, _⟩ => ⟨S2x4x512x512, .bf16⟩
  | .hbm, ⟨52, _⟩ => ⟨S512x4x2x512, .f32⟩
  | .hbm, ⟨53, _⟩ => ⟨S2x4x512x512, .f32⟩
  | .hbm, ⟨54, _⟩ => ⟨S2x4x512x512, .bf16⟩
  | .hbm, ⟨55, _⟩ => ⟨S4x2x256x1152, .f32⟩
  | .hbm, ⟨56, _⟩ => ⟨S2x4x256x1152, .f32⟩
  | .hbm, ⟨57, _⟩ => ⟨S2x4x256x1152, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== MlaDcq.lean ====
abbrev S2048x4096 : Shape := ⟨2, ![2048, 4096]⟩
abbrev S8x512x512 : Shape := ⟨3, ![8, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S8x512x512, .bf16⟩
  | .hbm, ⟨2, _⟩ => ⟨S2048x512, .f32⟩
  | .local _ .vmem, ⟨0, _⟩ => ⟨S2048x512, .bf16⟩
  | .local _ .vmem, ⟨1, _⟩ => ⟨S2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S2048x512, .f32⟩
  | .local _ .vmem, ⟨5, _⟩ => ⟨S2048x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaDcqReferenceIdeal.lean ====
abbrev S2048x4096 : Shape := ⟨2, ![2048, 4096]⟩
abbrev S8x512x512 : Shape := ⟨3, ![8, 512, 512]⟩
abbrev S_ : Shape := ⟨0, ![]⟩
abbrev S2048x512 : Shape := ⟨2, ![2048, 512]⟩
abbrev S512x8x512 : Shape := ⟨3, ![512, 8, 512]⟩
abbrev S512x4096 : Shape := ⟨2, ![512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8x512x512, .bf16⟩
  | .hbm, ⟨2, _⟩ => ⟨S_, .f32⟩
  | .hbm, ⟨3, _⟩ => ⟨S2048x512, .f32⟩
  | .hbm, ⟨4, _⟩ => ⟨S512x8x512, .bf16⟩
  | .hbm, ⟨5, _⟩ => ⟨S512x4096, .bf16⟩
  | .hbm, ⟨6, _⟩ => ⟨S512x4096, .f32⟩
  | .hbm, ⟨7, _⟩ => ⟨S2048x4096, .f32⟩
  | .hbm, ⟨8, _⟩ => ⟨S2048x4096, .f32⟩
  | .hbm, ⟨9, _⟩ => ⟨S2048x512, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaDckv.lean ====
abbrev S2048x4096 : Shape := ⟨2, ![2048, 4096]⟩
abbrev S8x512x512 : Shape := ⟨3, ![8, 512, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S8x512x512, .bf16⟩
  | .hbm, ⟨2, _⟩ => ⟨S2048x512, .f32⟩
  | .local _ .vmem, ⟨0, _⟩ => ⟨S2048x512, .bf16⟩
  | .local _ .vmem, ⟨1, _⟩ => ⟨S2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S2048x512, .f32⟩
  | .local _ .vmem, ⟨5, _⟩ => ⟨S2048x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MlaDckvReferenceIdeal.lean ====
abbrev S2048x4096 : Shape := ⟨2, ![2048, 4096]⟩
abbrev S8x512x512 : Shape := ⟨3, ![8, 512, 512]⟩
abbrev S_ : Shape := ⟨0, ![]⟩
abbrev S2048x512 : Shape := ⟨2, ![2048, 512]⟩
abbrev S512x8x512 : Shape := ⟨3, ![512, 8, 512]⟩
abbrev S512x4096 : Shape := ⟨2, ![512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8x512x512, .bf16⟩
  | .hbm, ⟨2, _⟩ => ⟨S_, .f32⟩
  | .hbm, ⟨3, _⟩ => ⟨S2048x512, .f32⟩
  | .hbm, ⟨4, _⟩ => ⟨S512x8x512, .bf16⟩
  | .hbm, ⟨5, _⟩ => ⟨S512x4096, .bf16⟩
  | .hbm, ⟨6, _⟩ => ⟨S512x4096, .f32⟩
  | .hbm, ⟨7, _⟩ => ⟨S2048x4096, .f32⟩
  | .hbm, ⟨8, _⟩ => ⟨S2048x4096, .f32⟩
  | .hbm, ⟨9, _⟩ => ⟨S2048x512, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaAttn.lean ====
abbrev S2048x4096 : Shape := ⟨2, ![2048, 4096]⟩
abbrev S2048x2048 : Shape := ⟨2, ![2048, 2048]⟩
abbrev S2048x16x256 : Shape := ⟨3, ![2048, 16, 256]⟩
abbrev S2048x16x128 : Shape := ⟨3, ![2048, 16, 128]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S16x2048 : Shape := ⟨2, ![16, 2048]⟩
abbrev S16x2048x1 : Shape := ⟨3, ![16, 2048, 1]⟩
abbrev S16x128x2048 : Shape := ⟨3, ![16, 128, 2048]⟩
abbrev S2048x16 : Shape := ⟨2, ![2048, 16]⟩
abbrev S2048x16x1 : Shape := ⟨3, ![2048, 16, 1]⟩
abbrev S512x512 : Shape := ⟨2, ![512, 512]⟩
abbrev S2048x512 : Shape := ⟨2, ![2048, 512]⟩
abbrev S512x256 : Shape := ⟨2, ![512, 256]⟩
abbrev S2048x256 : Shape := ⟨2, ![2048, 256]⟩
abbrev S512x128 : Shape := ⟨2, ![512, 128]⟩
abbrev S512x1 : Shape := ⟨2, ![512, 1]⟩
abbrev S512 : Shape := ⟨1, ![512]⟩
abbrev S256x256 : Shape := ⟨2, ![256, 256]⟩
abbrev S256x128 : Shape := ⟨2, ![256, 128]⟩

abbrev nBuf : Space → Nat
  | .hbm => 82
  | .vmem => 18
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S2048x4096, .bf16⟩
  | .hbm, ⟨3, _⟩ => ⟨S2048x2048, .bf16⟩
  | .hbm, ⟨4, _⟩ => ⟨S2048x16x256, .bf16⟩
  | .hbm, ⟨5, _⟩ => ⟨S2048x16x256, .f32⟩
  | .hbm, ⟨6, _⟩ => ⟨S2048x16x256, .bf16⟩
  | .hbm, ⟨7, _⟩ => ⟨S2048x16x256, .f32⟩
  | .hbm, ⟨8, _⟩ => ⟨S2048x16x256, .bf16⟩
  | .hbm, ⟨9, _⟩ => ⟨S2048x16x128, .bf16⟩
  | .hbm, ⟨10, _⟩ => ⟨S2048x16x128, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S2048, .i32⟩
  | .hbm, ⟨16, _⟩ => ⟨S_, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S1x2048, .i32⟩
  | .hbm, ⟨35, _⟩ => ⟨S2048x1, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S_, .f32⟩
  | .hbm, ⟨40, _⟩ => ⟨S_, .f32⟩
  | .hbm, ⟨41, _⟩ => ⟨S16x2048x2048, .i1⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S16x2048x2048, .f32⟩
  | .hbm, ⟨48, _⟩ => ⟨S16x2048x2048, .f32⟩
  | .hbm, ⟨49, _⟩ => ⟨S16x2048x2048, .f32⟩
  | .hbm, ⟨50, _⟩ => ⟨S_, .f32⟩
  | .hbm, ⟨51, _⟩ => ⟨S_, .f32⟩
  | .hbm, ⟨52, _⟩ => ⟨S16x2048x2048, .i1⟩
  | .hbm, ⟨53, _⟩ => ⟨S16x2048x2048, .f32⟩
  | .hbm, ⟨54, _⟩ => ⟨S16x2048x2048, .f32⟩
  | .hbm, ⟨55, _⟩ => ⟨S_, .f32⟩
  | .hbm, ⟨56, _⟩ => ⟨S16x2048, .f32⟩
  | .hbm, ⟨57, _⟩ => ⟨S16x2048x1, .f32⟩
  | .hbm, ⟨58, _⟩ => ⟨S16x2048x1, .f32⟩
  | .hbm, ⟨59, _⟩ => ⟨S16x2048x1, .f32⟩
  | .hbm, ⟨60, _⟩ => ⟨S16x2048x2048, .f32⟩
  | .hbm, ⟨61, _⟩ => ⟨S16x2048x2048, .f32⟩
  | .hbm, ⟨62, _⟩ => ⟨S16x2048x2048, .f32⟩
  | .hbm, ⟨63, _⟩ => ⟨S_, .f32⟩
  | .hbm, ⟨64, _⟩ => ⟨S_, .f32⟩
  | .hbm, ⟨65, _⟩ => ⟨S16x2048x2048, .i1⟩
  | .hbm, ⟨66, _⟩ => ⟨S16x2048x2048, .f32⟩
  | .hbm, ⟨67, _⟩ => ⟨S16x2048x2048, .f32⟩
  | .hbm, ⟨68, _⟩ => ⟨S16x2048x2048, .bf16⟩
  | .hbm, ⟨69, _⟩ => ⟨S16x2048x2048, .f32⟩
  | .hbm, ⟨70, _⟩ => ⟨S16x128x2048, .f32⟩
  | .hbm, ⟨71, _⟩ => ⟨S2048x16x128, .f32⟩
  | .hbm, ⟨72, _⟩ => ⟨S2048x16x128, .bf16⟩
  | .hbm, ⟨73, _⟩ => ⟨S2048x2048, .bf16⟩
  | .hbm, ⟨74, _⟩ => ⟨S16x2048, .f32⟩
  | .hbm, ⟨75, _⟩ => ⟨S2048x16, .f32⟩
  | .hbm, ⟨76, _⟩ => ⟨S2048x16x1, .f32⟩
  | .hbm, ⟨77, _⟩ => ⟨S2048x16x128, .f32⟩
  | .hbm, ⟨78, _⟩ => ⟨S2048x2048, .f32⟩
  | .hbm, ⟨79, _⟩ => ⟨S2048x4096, .f32⟩
  | .hbm, ⟨80, _⟩ => ⟨S2048x4096, .f32⟩
  | .hbm, ⟨81, _⟩ => ⟨S2048x2048, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | .local _ .vmem, ⟨11, _⟩ => ⟨S512x256, .f32⟩
  | .local _ .vmem, ⟨12, _⟩ => ⟨S512x512, .f32⟩
  | .local _ .vmem, ⟨13, _⟩ => ⟨S512x512, .f32⟩
  | .local _ .vmem, ⟨14, _⟩ => ⟨S2048x512, .f32⟩
  | .local _ .vmem, ⟨15, _⟩ => ⟨S2048x512, .f32⟩
  | .local _ .vmem, ⟨16, _⟩ => ⟨S2048x256, .f32⟩
  | .local _ .vmem, ⟨17, _⟩ => ⟨S2048x256, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_2 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v23 : Ref sig .tc := ⟨.hbm, 54, rfl⟩
abbrev main_cst_3 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_4 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43_0 : Ref sig .tc := ⟨.hbm, 79, rfl⟩
abbrev main_v43_1 : Ref sig .tc := ⟨.hbm, 80, rfl⟩
abbrev main_v43_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_19 : BitVec 32 := 0#32
  let arg1 : BitVec 32 := BitVec.ofNat 32 (i 1).val
  let c2_i32 : BitVec 32 := 2#32
  let v26 : BitVec 32 := Scalar.muli arg1 c2_i32
  let v31 : BitVec 32 := Scalar.subi v26 c0_i32_19
  let c1_i32_20 : BitVec 32 := 1#32
  let v33 : BitVec 32 := Scalar.divsi v31 c1_i32_20
  let v34 : BitVec 32 := Scalar.muli v33 c1_i32_20
  let v35 : BitVec 32 := Scalar.addi c0_i32_19 v34
  let c1_i32_21 : BitVec 32 := 1#32
  ⟨c0_i32_19, v35, c1_i32_21⟩
def k0_mult1 (i : grid0.Coords) (k0_t1 : Fin (k0_t1_loop i).trips) : BitVec 32 :=
  let c0_i32_89 : BitVec 32 := 0#32
  let c0_i32_19 : BitVec 32 := 0#32
  let c1_i32_21 : BitVec 32 := 1#32
  let arg11 : BitVec 32 := Scf.iv c0_i32_19 c1_i32_21 k0_t1
  let v214 : BitVec 32 := Scalar.addi c0_i32_89 arg11
  let c256_i32_90 : BitVec 32 := 256#32
  let v215 : BitVec 32 := Scalar.muli v214 c256_i32_90
  v215
def k0_off1 (i : grid0.Coords) (k0_t1 : Fin (k0_t1_loop i).trips) : Fin 2 → Nat :=
  let c0_i32_89 : BitVec 32 := 0#32
  let c0_i32_19 : BitVec 32 := 0#32
  let c1_i32_21 : BitVec 32 := 1#32
  let arg11 : BitVec 32 := Scf.iv c0_i32_19 c1_i32_21 k0_t1
  let v214 : BitVec 32 := Scalar.addi c0_i32_89 arg11
  let c256_i32_90 : BitVec 32 := 256#32
  let v215 : BitVec 32 := Scalar.muli v214 c256_i32_90
  let v216 : BitVec 32 := v215
  let v217 : Index := Scalar.indexCast v216
  let c0_91 : Index := 0#32
  ![v217.toNat, 0]
def k0_off2 (i : grid0.Coords) (k0_t1 : Fin (k0_t1_loop i).trips) : Fin 2 → Nat :=
  let c0_i32_89 : BitVec 32 := 0#32
  let c0_i32_19 : BitVec 32 := 0#32
  let c1_i32_21 : BitVec 32 := 1#32
  let arg11 : BitVec 32 := Scf.iv c0_i32_19 c1_i32_21 k0_t1
  let v214 : BitVec 32 := Scalar.addi c0_i32_89 arg11
  let c256_i32_90 : BitVec 32 := 256#32
  let v215 : BitVec 32 := Scalar.muli v214 c256_i32_90
  let v216 : BitVec 32 := v215
  let v219 : Index := Scalar.indexCast v216
  let c128_92 : Index := 128#32
  ![v219.toNat, 128]
def k0_off3 (i : grid0.Coords) (k0_t1 : Fin (k0_t1_loop i).trips) : Fin 2 → Nat :=
  let c0_i32_89 : BitVec 32 := 0#32
  let c0_i32_19 : BitVec 32 := 0#32
  let c1_i32_21 : BitVec 32 := 1#32
  let arg11 : BitVec 32 := Scf.iv c0_i32_19 c1_i32_21 k0_t1
  let v214 : BitVec 32 := Scalar.addi c0_i32_89 arg11
  let c256_i32_90 : BitVec 32 := 256#32
  let v215 : BitVec 32 := Scalar.muli v214 c256_i32_90
  let v216 : BitVec 32 := v215
  let v241 : Index := Scalar.indexCast v216
  let c0_100 : Index := 0#32
  ![v241.toNat, 0]
def k0_off4 (i : grid0.Coords) (k0_t1 : Fin (k0_t1_loop i).trips) : Fin 2 → Nat :=
  let c0_i32_89 : BitVec 32 := 0#32
  let c0_i32_19 : BitVec 32 := 0#32
  let c1_i32_21 : BitVec 32 := 1#32
  let arg11 : BitVec 32 := Scf.iv c0_i32_19 c1_i32_21 k0_t1
  let v214 : BitVec 32 := Scalar.addi c0_i32_89 arg11
  let c256_i32_90 : BitVec 32 := 256#32
  let v215 : BitVec 32 := Scalar.muli v214 c256_i32_90
  let v216 : BitVec 32 := v215
  let v251 : Index := Scalar.indexCast v216
  let c256_104 : Index := 256#32
  ![v251.toNat, 256]
def k0_off5 (i : grid0.Coords) (k0_t1 : Fin (k0_t1_loop i).trips) : Fin 2 → Nat :=
  let c0_i32_89 : BitVec 32 := 0#32
  let c0_i32_19 : BitVec 32 := 0#32
  let c1_i32_21 : BitVec 32 := 1#32
  let arg11 : BitVec 32 := Scf.iv c0_i32_19 c1_i32_21 k0_t1
  let v214 : BitVec 32 := Scalar.addi c0_i32_89 arg11
  let c256_i32_90 : BitVec 32 := 256#32
  let v215 : BitVec 32 := Scalar.muli v214 c256_i32_90
  let v216 : BitVec 32 := v215
  let v253 : Index := Scalar.indexCast v216
  let c384_105 : Index := 384#32
  ![v253.toNat, 384]
def k0_off6 (i : grid0.Coords) (k0_t1 : Fin (k0_t1_loop i).trips) : Fin 2 → Nat :=
  let c0_i32_89 : BitVec 32 := 0#32
  let c0_i32_19 : BitVec 32 := 0#32
  let c1_i32_21 : BitVec 32 := 1#32
  let arg11 : BitVec 32 := Scf.iv c0_i32_19 c1_i32_21 k0_t1
  let v214 : BitVec 32 := Scalar.addi c0_i32_89 arg11
  let c256_i32_90 : BitVec 32 := 256#32
  let v215 : BitVec 32 := Scalar.muli v214 c256_i32_90
  let v216 : BitVec 32 := v215
  let v275 : Index := Scalar.indexCast v216
  let c128_113 : Index := 128#32
  ![v275.toNat, 128]
@[reducible] def k0_t2_loop (i : grid0.Coords) : Scf.Loop 32 :=
  let c0_i32_19 : BitVec 32 := 0#32
  let arg1 : BitVec 32 := BitVec.ofNat 32 (i 1).val
  let c2_i32 : BitVec 32 := 2#32
  let v26 : BitVec 32 := Scalar.muli arg1 c2_i32
  let v31 : BitVec 32 := Scalar.subi v26 c0_i32_19
  let c1_i32_20 : BitVec 32 := 1#32
  let v33 : BitVec 32 := Scalar.divsi v31 c1_i32_20
  let v34 : BitVec 32 := Scalar.muli v33 c1_i32_20
  let v35 : BitVec 32 := Scalar.addi c0_i32_19 v34
  let v32 : BitVec 32 := Scalar.addi c0_i32_19 v31
  let c1_i32_22 : BitVec 32 := 1#32
  ⟨v35, v32, c1_i32_22⟩
def k0_mult2 (i : grid0.Coords) (k0_t2 : Fin (k0_t2_loop i).trips) : BitVec 32 :=
  let c0_i32_89 : BitVec 32 := 0#32
  let c0_i32_19 : BitVec 32 := 0#32
  let arg1 : BitVec 32 := BitVec.ofNat 32 (i 1).val
  let c2_i32 : BitVec 32 := 2#32
  let v26 : BitVec 32 := Scalar.muli arg1 c2_i32
  let v31 : BitVec 32 := Scalar.subi v26 c0_i32_19
  let c1_i32_20 : BitVec 32 := 1#32
  let v33 : BitVec 32 := Scalar.divsi v31 c1_i32_20
  let v34 : BitVec 32 := Scalar.muli v33 c1_i32_20
  let v35 : BitVec 32 := Scalar.addi c0_i32_19 v34
  let c1_i32_22 : BitVec 32 := 1#32
  let arg11 : BitVec 32 := Scf.iv v35 c1_i32_22 k0_t2
  let v214 : BitVec 32 := Scalar.addi c0_i32_89 arg11
  let c256_i32_90 : BitVec 32 := 256#32
  let v215 : BitVec 32 := Scalar.muli v214 c256_i32_90
  v215
def k0_off7 (i : grid0.Coords) (k0_t2 : Fin (k0_t2_loop i).trips) : Fin 2 → Nat :=
  let c0_i32_89 : BitVec 32 := 0#32
  let c0_i32_19 : BitVec 32 := 0#32
  let arg1 : BitVec 32 := BitVec.ofNat 32 (i 1).val
  let c2_i32 : BitVec 32 := 2#32
  let v26 : BitVec 32 := Scalar.muli arg1 c2_i32
  let v31 : BitVec 32 := Scalar.subi v26 c0_i32_19
  let c1_i32_20 : BitVec 32 := 1#32
  let v33 : BitVec 32 := Scalar.divsi v31 c1_i32_20
  let v34 : BitVec 32 := Scalar.muli v33 c1_i32_20
  let v35 : BitVec 32 := Scalar.addi c0_i32_19 v34
  let c1_i32_22 : BitVec 32 := 1#32
  let arg11 : BitVec 32 := Scf.iv v35 c1_i32_22 k0_t2
  let v214 : BitVec 32 := Scalar.addi c0_i32_89 arg11
  let c256_i32_90 : BitVec 32 := 256#32
  let v215 : BitVec 32 := Scalar.muli v214 c256_i32_90
  let v216 : BitVec 32 := v215
  let v217 : Index := Scalar.indexCast v216
  let c0_91 : Index := 0#32
  ![v217.toNat, 0]
def k0_off8 (i : grid0.Coords) (k0_t2 : Fin (k0_t2_loop i).trips) : Fin 2 → Nat :=
  let c0_i32_89 : BitVec 32 := 0#32
  let c0_i32_19 : BitVec 32 := 0#32
  let arg1 : BitVec 32 := BitVec.ofNat 32 (i 1).val
  let c2_i32 : BitVec 32 := 2#32
  let v26 : BitVec 32 := Scalar.muli arg1 c2_i32
  let v31 : BitVec 32 := Scalar.subi v26 c0_i32_19
  let c1_i32_20 : BitVec 32 := 1#32
  let v33 : BitVec 32 := Scalar.divsi v31 c1_i32_20
  let v34 : BitVec 32 := Scalar.muli v33 c1_i32_20
  let v35 : BitVec 32 := Scalar.addi c0_i32_19 v34
  let c1_i32_22 : BitVec 32 := 1#32
  let arg11 : BitVec 32 := Scf.iv v35 c1_i32_22 k0_t2
  let v214 : BitVec 32 := Scalar.addi c0_i32_89 arg11
  let c256_i32_90 : BitVec 32 := 256#32
  let v215 : BitVec 32 := Scalar.muli v214 c256_i32_90
  let v216 : BitVec 32 := v215
  let v219 : Index := Scalar.indexCast v216
  let c128_92 : Index := 128#32
  ![v219.toNat, 128]
def k0_off9 (i : grid0.Coords) (k0_t2 : Fin (k0_t2_loop i).trips) : Fin 2 → Nat :=
  let c0_i32_89 : BitVec 32 := 0#32
  let c0_i32_19 : BitVec 32 := 0#32
  let arg1 : BitVec 32 := BitVec.ofNat 32 (i 1).val
  let c2_i32 : BitVec 32 := 2#32
  let v26 : BitVec 32 := Scalar.muli arg1 c2_i32
  let v31 : BitVec 32 := Scalar.subi v26 c0_i32_19
  let c1_i32_20 : BitVec 32 := 1#32
  let v33 : BitVec 32 := Scalar.divsi v31 c1_i32_20
  let v34 : BitVec 32 := Scalar.muli v33 c1_i32_20
  let v35 : BitVec 32 := Scalar.addi c0_i32_19 v34
  let c1_i32_22 : BitVec 32 := 1#32
  let arg11 : BitVec 32 := Scf.iv v35 c1_i32_22 k0_t2
  let v214 : BitVec 32 := Scalar.addi c0_i32_89 arg11
  let c256_i32_90 : BitVec 32 := 256#32
  let v215 : BitVec 32 := Scalar.muli v214 c256_i32_90
  let v216 : BitVec 32 := v215
  let v241 : Index := Scalar.indexCast v216
  let c0_100 : Index := 0#32
  ![v241.toNat, 0]
def k0_off10 (i : grid0.Coords) (k0_t2 : Fin (k0_t2_loop i).trips) : Fin 2 → Nat :=
  let c0_i32_89 : BitVec 32 := 0#32
  let c0_i32_19 : BitVec 32 := 0#32
  let arg1 : BitVec 32 := BitVec.ofNat 32 (i 1).val
  let c2_i32 : BitVec 32 := 2#32
  let v26 : BitVec 32 := Scalar.muli arg1 c2_i32
  let v31 : BitVec 32 := Scalar.subi v26 c0_i32_19
  let c1_i32_20 : BitVec 32 := 1#32
  let v33 : BitVec 32 := Scalar.divsi v31 c1_i32_20
  let v34 : BitVec 32 := Scalar.muli v33 c1_i32_20
  let v35 : BitVec 32 := Scalar.addi c0_i32_19 v34
  let c1_i32_22 : BitVec 32 := 1#32
  let arg11 : BitVec 32 := Scf.iv v35 c1_i32_22 k0_t2
  let v214 : BitVec 32 := Scalar.addi c0_i32_89 arg11
  let c256_i32_90 : BitVec 32 := 256#32
  let v215 : BitVec 32 := Scalar.muli v214 c256_i32_90
  let v216 : BitVec 32 := v215
  let v251 : Index := Scalar.indexCast v216
  let c256_104 : Index := 256#32
  ![v251.toNat, 256]
def k0_off11 (i : grid0.Coords) (k0_t2 : Fin (k0_t2_loop i).trips) : Fin 2 → Nat :=
  let c0_i32_89 : BitVec 32 := 0#32
  let c0_i32_19 : BitVec 32 := 0#32
  let arg1 : BitVec 32 := BitVec.ofNat 32 (i 1).val
  let c2_i32 : BitVec 32 := 2#32
  let v26 : BitVec 32 := Scalar.muli arg1 c2_i32
  let v31 : BitVec 32 := Scalar.subi v26 c0_i32_19
  let c1_i32_20 : BitVec 32 := 1#32
  let v33 : BitVec 32 := Scalar.divsi v31 c1_i32_20
  let v34 : BitVec 32 := Scalar.muli v33 c1_i32_20
  let v35 : BitVec 32 := Scalar.addi c0_i32_19 v34
  let c1_i32_22 : BitVec 32 := 1#32
  let arg11 : BitVec 32 := Scf.iv v35 c1_i32_22 k0_t2
  let v214 : BitVec 32 := Scalar.addi c0_i32_89 arg11
  let c256_i32_90 : BitVec 32 := 256#32
  let v215 : BitVec 32 := Scalar.muli v214 c256_i32_90
  let v216 : BitVec 32 := v215
  let v253 : Index := Scalar.indexCast v216
  let c384_105 : Index := 384#32
  ![v253.toNat, 384]
def k0_off12 (i : grid0.Coords) (k0_t2 : Fin (k0_t2_loop i).trips) : Fin 2 → Nat :=
  let c0_i32_89 : BitVec 32 := 0#32
  let c0_i32_19 : BitVec 32 := 0#32
  let arg1 : BitVec 32 := BitVec.ofNat 32 (i 1).val
  let c2_i32 : BitVec 32 := 2#32
  let v26 : BitVec 32 := Scalar.muli arg1 c2_i32
  let v31 : BitVec 32 := Scalar.subi v26 c0_i32_19
  let c1_i32_20 : BitVec 32 := 1#32
  let v33 : BitVec 32 := Scalar.divsi v31 c1_i32_20
  let v34 : BitVec 32 := Scalar.muli v33 c1_i32_20
  let v35 : BitVec 32 := Scalar.addi c0_i32_19 v34
  let c1_i32_22 : BitVec 32 := 1#32
  let arg11 : BitVec 32 := Scf.iv v35 c1_i32_22 k0_t2
  let v214 : BitVec 32 := Scalar.addi c0_i32_89 arg11
  let c256_i32_90 : BitVec 32 := 256#32
  let v215 : BitVec 32 := Scalar.muli v214 c256_i32_90
  let v216 : BitVec 32 := v215
  let v275 : Index := Scalar.indexCast v216
  let c128_113 : Index := 128#32
  ![v275.toNat, 128]
def k0_mult3 (i : grid0.Coords) : BitVec 32 :=
  let c0_i32_16 : BitVec 32 := 0#32
  let arg1 : BitVec 32 := BitVec.ofNat 32 (i 1).val
  let c2_i32 : BitVec 32 := 2#32
  let v26 : BitVec 32 := Scalar.muli arg1 c2_i32
  let v27 : BitVec 32 := Scalar.addi c0_i32_16 v26
  let c0_i32_17 : BitVec 32 := 0#32
  let v28 : BitVec 32 := Scalar.addi v27 c0_i32_17
  let c256_i32 : BitVec 32 := 256#32
  let v38 : BitVec 32 := Scalar.muli v28 c256_i32
  v38
def k0_off13 (i : grid0.Coords) (c0_i32_17 : BitVec 32) : Fin 2 → Nat :=
  let c0_i32_16 : BitVec 32 := 0#32
  let arg1 : BitVec 32 := BitVec.ofNat 32 (i 1).val
  let c2_i32 : BitVec 32 := 2#32
  let v26 : BitVec 32 := Scalar.muli arg1 c2_i32
  let v27 : BitVec 32 := Scalar.addi c0_i32_16 v26
  let v28 : BitVec 32 := Scalar.addi v27 c0_i32_17
  let c256_i32 : BitVec 32 := 256#32
  let v38 : BitVec 32 := Scalar.muli v28 c256_i32
  let v39 : BitVec 32 := v38
  let v53 : Index := Scalar.indexCast v39
  let c0_25 : Index := 0#32
  ![v53.toNat, 0]
def k0_off14 (i : grid0.Coords) (c0_i32_17 : BitVec 32) : Fin 2 → Nat :=
  let c0_i32_16 : BitVec 32 := 0#32
  let arg1 : BitVec 32 := BitVec.ofNat 32 (i 1).val
  let c2_i32 : BitVec 32 := 2#32
  let v26 : BitVec 32 := Scalar.muli arg1 c2_i32
  let v27 : BitVec 32 := Scalar.addi c0_i32_16 v26
  let v28 : BitVec 32 := Scalar.addi v27 c0_i32_17
  let c256_i32 : BitVec 32 := 256#32
  let v38 : BitVec 32 := Scalar.muli v28 c256_i32
  let v39 : BitVec 32 := v38
  let v55 : Index := Scalar.indexCast v39
  let c128_26 : Index := 128#32
  ![v55.toNat, 128]
def k0_off15 (i : grid0.Coords) (c0_i32_17 : BitVec 32) : Fin 2 → Nat :=
  let c0_i32_16 : BitVec 32 := 0#32
  let arg1 : BitVec 32 := BitVec.ofNat 32 (i 1).val
  let c2_i32 : BitVec 32 := 2#32
  let v26 : BitVec 32 := Scalar.muli arg1 c2_i32
  let v27 : BitVec 32 := Scalar.addi c0_i32_16 v26
  let v28 : BitVec 32 := Scalar.addi v27 c0_i32_17
  let c256_i32 : BitVec 32 := 256#32
  let v38 : BitVec 32 := Scalar.muli v28 c256_i32
  let v39 : BitVec 32 := v38
  let v79 : Index := Scalar.indexCast v39
  let c0_35 : Index := 0#32
  ![v79.toNat, 0]
def k0_off16 (i : grid0.Coords) (c0_i32_17 : BitVec 32) : Fin 2 → Nat :=
  let c0_i32_16 : BitVec 32 := 0#32
  let arg1 : BitVec 32 := BitVec.ofNat 32 (i 1).val
  let c2_i32 : BitVec 32 := 2#32
  let v26 : BitVec 32 := Scalar.muli arg1 c2_i32
  let v27 : BitVec 32 := Scalar.addi c0_i32_16 v26
  let v28 : BitVec 32 := Scalar.addi v27 c0_i32_17
  let c256_i32 : BitVec 32 := 256#32
  let v38 : BitVec 32 := Scalar.muli v28 c256_i32
  let v39 : BitVec 32 := v38
  let v89 : Index := Scalar.indexCast v39
  let c256_39 : Index := 256#32
  ![v89.toNat, 256]
def k0_off17 (i : grid0.Coords) (c0_i32_17 : BitVec 32) : Fin 2 → Nat :=
  let c0_i32_16 : BitVec 32 := 0#32
  let arg1 : BitVec 32 := BitVec.ofNat 32 (i 1).val
  let c2_i32 : BitVec 32 := 2#32
  let v26 : BitVec 32 := Scalar.muli arg1 c2_i32
  let v27 : BitVec 32 := Scalar.addi c0_i32_16 v26
  let v28 : BitVec 32 := Scalar.addi v27 c0_i32_17
  let c256_i32 : BitVec 32 := 256#32
  let v38 : BitVec 32 := Scalar.muli v28 c256_i32
  let v39 : BitVec 32 := v38
  let v91 : Index := Scalar.indexCast v39
  let c384 : Index := 384#32
  ![v91.toNat, 384]
def k0_off18 (i : grid0.Coords) (c0_i32_17 : BitVec 32) : Fin 2 → Nat :=
  let c0_i32_16 : BitVec 32 := 0#32
  let arg1 : BitVec 32 := BitVec.ofNat 32 (i 1).val
  let c2_i32 : BitVec 32 := 2#32
  let v26 : BitVec 32 := Scalar.muli arg1 c2_i32
  let v27 : BitVec 32 := Scalar.addi c0_i32_16 v26
  let v28 : BitVec 32 := Scalar.addi v27 c0_i32_17
  let c256_i32 : BitVec 32 := 256#32
  let v38 : BitVec 32 := Scalar.muli v28 c256_i32
  let v39 : BitVec 32 := v38
  let v115 : Index := Scalar.indexCast v39
  let c128_48 : Index := 128#32
  ![v115.toNat, 128]
def k0_mult4 (i : grid0.Coords) : BitVec 32 :=
  let c0_i32_18 : BitVec 32 := 0#32
  let arg1 : BitVec 32 := BitVec.ofNat 32 (i 1).val
  let c2_i32 : BitVec 32 := 2#32
  let v26 : BitVec 32 := Scalar.muli arg1 c2_i32
  let v29 : BitVec 32 := Scalar.addi c0_i32_18 v26
  let c1_i32 : BitVec 32 := 1#32
  let v30 : BitVec 32 := Scalar.addi v29 c1_i32
  let c256_i32_52 : BitVec 32 := 256#32
  let v125 : BitVec 32 := Scalar.muli v30 c256_i32_52
  v125
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MlaAttnReferenceIdeal.lean ====
abbrev S2048x4096 : Shape := ⟨2, ![2048, 4096]⟩
abbrev S2048x2048 : Shape := ⟨2, ![2048, 2048]⟩
abbrev S2048x16x256 : Shape := ⟨3, ![2048, 16, 256]⟩
abbrev S2048x16x128 : Shape := ⟨3, ![2048, 16, 128]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S16x2048 : Shape := ⟨2, ![16, 2048]⟩
abbrev S16x2048x1 : Shape := ⟨3, ![16, 2048, 1]⟩
abbrev S16x128x2048 : Shape := ⟨3, ![16, 128, 2048]⟩
abbrev S16x2048x128 : Shape := ⟨3, ![16, 2048, 128]⟩

abbrev nBuf : Space → Nat
  | .hbm => 159
  | .vmem => 0
  | .smem => 0
  | _ => 0

abbrev hbmTy0_0 (i : Nat) : BufTy := match i % 128 with
  | 0 => ⟨S2048x4096, .bf16⟩
  | 1 => ⟨S2048x4096, .bf16⟩
  | 2 => ⟨S2048x4096, .bf16⟩
  | 3 => ⟨S2048x2048, .bf16⟩
  | 4 => ⟨S2048x16x256, .bf16⟩
  | 5 => ⟨S2048x16x128, .bf16⟩
  | 6 => ⟨S2048x2048, .bf16⟩
  | 7 => ⟨S2048x16x256, .bf16⟩
  | 8 => ⟨S2048x16x256, .f32⟩
  | 9 => ⟨S2048x16x256, .bf16⟩
  | 10 => ⟨S2048x16x256, .f32⟩
  | 11 => ⟨S2048x16x128, .bf16⟩
  | 12 => ⟨S2048x16x128, .f32⟩
  | 13 => ⟨S2048x16x128, .f32⟩
  | 14 => ⟨S2048x16x128, .f32⟩
  | 15 => ⟨S16x2048x2048, .f32⟩
  | 16 => ⟨S16x2048x2048, .bf16⟩
  | 17 => ⟨S2048x16x128, .f32⟩
  | 18 => ⟨S2048x16x128, .f32⟩
  | 19 => ⟨S16x2048x2048, .f32⟩
  | 20 => ⟨S16x2048x2048, .bf16⟩
  | 21 => ⟨S16x2048x2048, .bf16⟩
  | 22 => ⟨S16x2048x2048, .f32⟩
  | 23 => ⟨S_, .f32⟩
  | 24 => ⟨S16x2048x2048, .f32⟩
  | 25 => ⟨S16x2048x2048, .f32⟩
  | 26 => ⟨S2048, .i32⟩
  | 27 => ⟨S_, .i32⟩
  | 28 => ⟨S_, .i32⟩
  | 29 => ⟨S2048, .i32⟩
  | 30 => ⟨S2048, .i32⟩
  | 31 => ⟨S2048, .i32⟩
  | 32 => ⟨S_, .i32⟩
  | 33 => ⟨S2048, .i32⟩
  | 34 => ⟨S2048, .i1⟩
  | 35 => ⟨S2048, .i32⟩
  | 36 => ⟨S2048, .i32⟩
  | 37 => ⟨S_, .i32⟩
  | 38 => ⟨S2048, .i32⟩
  | 39 => ⟨S2048, .i1⟩
  | 40 => ⟨S2048, .i1⟩
  | 41 => ⟨S_, .i32⟩
  | 42 => ⟨S2048, .i32⟩
  | 43 => ⟨S2048, .i32⟩
  | 44 => ⟨S2048, .i32⟩
  | 45 => ⟨S1x2048, .i32⟩
  | 46 => ⟨S2048x1, .i32⟩
  | 47 => ⟨S2048x2048, .i32⟩
  | 48 => ⟨S2048x2048, .i32⟩
  | 49 => ⟨S2048x2048, .i1⟩
  | 50 => ⟨S_, .f32⟩
  | 51 => ⟨S_, .f32⟩
  | 52 => ⟨S16x2048x2048, .i1⟩
  | 53 => ⟨S16x2048x2048, .f32⟩
  | 54 => ⟨S16x2048x2048, .f32⟩
  | 55 => ⟨S_, .f32⟩
  | 56 => ⟨S16x2048x2048, .f32⟩
  | 57 => ⟨S_, .f32⟩
  | 58 => ⟨S16x2048, .f32⟩
  | 59 => ⟨S16x2048x1, .f32⟩
  | 60 => ⟨S16x2048x2048, .f32⟩
  | 61 => ⟨S16x2048x2048, .i1⟩
  | 62 => ⟨S16x2048x2048, .f32⟩
  | 63 => ⟨S_, .f32⟩
  | 64 => ⟨S16x2048, .f32⟩
  | 65 => ⟨S_, .f32⟩
  | 66 => ⟨S16x2048, .f32⟩
  | 67 => ⟨S16x2048, .f32⟩
  | 68 => ⟨S_, .f32⟩
  | 69 => ⟨S16x2048, .f32⟩
  | 70 => ⟨S16x2048, .i1⟩
  | 71 => ⟨S_, .f32⟩
  | 72 => ⟨S16x2048, .f32⟩
  | 73 => ⟨S16x2048, .i1⟩
  | 74 => ⟨S_, .f32⟩
  | 75 => ⟨S16x2048, .f32⟩
  | 76 => ⟨S_, .f32⟩
  | 77 => ⟨S16x2048, .f32⟩
  | 78 => ⟨S_, .f32⟩
  | 79 => ⟨S16x2048, .f32⟩
  | 80 => ⟨S16x2048, .f32⟩
  | 81 => ⟨S16x2048, .f32⟩
  | 82 => ⟨S16x2048x1, .f32⟩
  | 83 => ⟨S16x2048x2048, .f32⟩
  | 84 => ⟨S16x2048x2048, .f32⟩
  | 85 => ⟨S16x2048x2048, .f32⟩
  | 86 => ⟨S_, .f32⟩
  | 87 => ⟨S16x2048, .f32⟩
  | 88 => ⟨S16x2048x1, .f32⟩
  | 89 => ⟨S16x2048x2048, .f32⟩
  | 90 => ⟨S16x2048x2048, .f32⟩
  | 91 => ⟨S16x2048x1, .f32⟩
  | 92 => ⟨S_, .f32⟩
  | 93 => ⟨S16x2048x1, .f32⟩
  | 94 => ⟨S16x2048x1, .f32⟩
  | 95 => ⟨S16x2048x2048, .bf16⟩
  | 96 => ⟨S16x2048x2048, .f32⟩
  | 97 => ⟨S16x128x2048, .f32⟩
  | 98 => ⟨S2048x16x128, .f32⟩
  | 99 => ⟨S2048x16x128, .bf16⟩
  | 100 => ⟨S2048x2048, .bf16⟩
  | 101 => ⟨S2048x16x128, .bf16⟩
  | 102 => ⟨S2048x16x128, .f32⟩
  | 103 => ⟨S16x128x2048, .f32⟩
  | 104 => ⟨S16x2048x2048, .f32⟩
  | 105 => ⟨S16x128x2048, .f32⟩
  | 106 => ⟨S2048x16x128, .f32⟩
  | 107 => ⟨S16x2048x2048, .bf16⟩
  | 108 => ⟨S16x2048x2048, .f32⟩
  | 109 => ⟨S16x2048x2048, .f32⟩
  | 110 => ⟨S16x2048x2048, .f32⟩
  | 111 => ⟨S16x2048x2048, .f32⟩
  | 112 => ⟨S_, .f32⟩
  | 113 => ⟨S16x2048, .f32⟩
  | 114 => ⟨S16x2048x1, .f32⟩
  | 115 => ⟨S16x2048x1, .f32⟩
  | 116 => ⟨S16x2048x2048, .f32⟩
  | 117 => ⟨S16x2048x2048, .f32⟩
  | 118 => ⟨S_, .f32⟩
  | 119 => ⟨S16x2048, .f32⟩
  | 120 => ⟨S16x2048x2048, .f32⟩
  | 121 => ⟨S16x2048x2048, .f32⟩
  | 122 => ⟨S16x2048x2048, .f32⟩
  | 123 => ⟨S_, .f32⟩
  | 124 => ⟨S16x2048x2048, .f32⟩
  | 125 => ⟨S16x2048x2048, .f32⟩
  | 126 => ⟨S_, .f32⟩
  | 127 => ⟨S16x2048x2048, .f32⟩
  | _ => ⟨S2048x4096, .bf16⟩

abbrev hbmTy0_1 (i : Nat) : BufTy := match i % 128 with
  | 0 => ⟨S16x2048x2048, .f32⟩
  | 1 => ⟨S16x2048x2048, .bf16⟩
  | 2 => ⟨S16x2048x2048, .f32⟩
  | 3 => ⟨S16x2048x128, .f32⟩
  | 4 => ⟨S2048x16x128, .f32⟩
  | 5 => ⟨S16x2048x128, .f32⟩
  | 6 => ⟨S2048x16x128, .f32⟩
  | 7 => ⟨S_, .f32⟩
  | 8 => ⟨S2048x16x256, .f32⟩
  | 9 => ⟨S_, .f32⟩
  | 10 => ⟨S2048x16x256, .f32⟩
  | 11 => ⟨S16x2048x2048, .f32⟩
  | 12 => ⟨S16x2048x128, .f32⟩
  | 13 => ⟨S2048x16x128, .f32⟩
  | 14 => ⟨S16x2048x128, .f32⟩
  | 15 => ⟨S2048x16x128, .f32⟩
  | 16 => ⟨S_, .f32⟩
  | 17 => ⟨S2048x16x256, .f32⟩
  | 18 => ⟨S2048x16x256, .f32⟩
  | 19 => ⟨S_, .f32⟩
  | 20 => ⟨S2048x16x256, .f32⟩
  | 21 => ⟨S2048x16x256, .f32⟩
  | 22 => ⟨S2048x16x128, .bf16⟩
  | 23 => ⟨S2048x2048, .bf16⟩
  | 24 => ⟨S2048x16x256, .bf16⟩
  | 25 => ⟨S2048x4096, .bf16⟩
  | 26 => ⟨S2048x16x256, .bf16⟩
  | 27 => ⟨S2048x4096, .bf16⟩
  | 28 => ⟨S2048x4096, .f32⟩
  | 29 => ⟨S2048x4096, .f32⟩
  | 30 => ⟨S2048x2048, .f32⟩
  | _ => ⟨S2048x4096, .bf16⟩

abbrev hbmTy (i : Nat) : BufTy := match i / 128 with
  | 0 => hbmTy0_0 i
  | 1 => hbmTy0_1 i
  | _ => ⟨S2048x4096, .bf16⟩

abbrev bufTy : (tb : Table) → Fin (tcTables nBuf tb) → BufTy
  | .hbm, ⟨i, _⟩ => hbmTy i
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_0 : Ref sig .tc := ⟨.hbm, 50, rfl⟩
abbrev main_call1_v0 : Ref sig .tc := ⟨.hbm, 51, rfl⟩
abbrev main_v28_1 : Ref sig .tc := ⟨.hbm, 52, rfl⟩
abbrev main_call1_v2 : Ref sig .tc := ⟨.hbm, 53, rfl⟩
abbrev main_v28_0 : Ref sig .tc := ⟨.hbm, 54, rfl⟩
abbrev main_call1_cst : Ref sig .tc := ⟨.hbm, 55, rfl⟩
abbrev main_v28_2 : Ref sig .tc := ⟨.hbm, 56, rfl⟩
abbrev main_cst_1 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_2 : Ref sig .tc := ⟨.hbm, 63, rfl⟩
abbrev main_v34 : Ref sig .tc := ⟨.hbm, 64, rfl⟩
abbrev main_cst_3 : Ref sig .tc := ⟨.hbm, 65, rfl⟩
abbrev main_v35 : Ref sig .tc := ⟨.hbm, 66, rfl⟩
abbrev main_v36 : Ref sig .tc := ⟨.hbm, 67, rfl⟩
abbrev main_cst_4 : Ref sig .tc := ⟨.hbm, 68, rfl⟩
abbrev main_v37 : Ref sig .tc := ⟨.hbm, 69, rfl⟩
abbrev main_v38 : Ref sig .tc := ⟨.hbm, 70, rfl⟩
abbrev main_cst_5 : Ref sig .tc := ⟨.hbm, 71, rfl⟩
abbrev main_v39 : Ref sig .tc := ⟨.hbm, 72, rfl⟩
abbrev main_v40 : Ref sig .tc := ⟨.hbm, 73, rfl⟩
abbrev main_cst_6 : Ref sig .tc := ⟨.hbm, 74, rfl⟩
abbrev main_v41 : Ref sig .tc := ⟨.hbm, 75, rfl⟩
abbrev main_cst_7 : Ref sig .tc := ⟨.hbm, 76, rfl⟩
abbrev main_v42 : Ref sig .tc := ⟨.hbm, 77, rfl⟩
abbrev main_cst_8 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_9 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_10 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_11 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_12 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call2_cst : Ref sig .tc := ⟨.hbm, 123, rfl⟩
abbrev main_call2_v0 : Ref sig .tc := ⟨.hbm, 124, rfl⟩
abbrev main_v83 : Ref sig .tc := ⟨.hbm, 125, rfl⟩
abbrev main_cst_13 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_14 : Ref sig .tc := ⟨.hbm, 135, rfl⟩
abbrev main_v92 : Ref sig .tc := ⟨.hbm, 136, rfl⟩
abbrev main_cst_15 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_16 : Ref sig .tc := ⟨.hbm, 144, rfl⟩
abbrev main_v99 : Ref sig .tc := ⟨.hbm, 145, rfl⟩
abbrev main_v100 : Ref sig .tc := ⟨.hbm, 146, rfl⟩
abbrev main_cst_17 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩

abbrev nD : Nat := 1
abbrev τ : Topo := Topo.v7x

variable {F : FTy → Type} [FloatOps F]
-- ==== Proof.Spec.lean ====
module

public import Idealize.ShloMosaic.PureOps.Ideal
public import Idealize.ShloMosaic.PureOps.Ideal.Laws
public import Idealize.ShloMosaic.Lib.Pointwise
public import Idealize.ShloMosaic.Lib.IdealHost

/-! The gradient of stick-breaking attention for one head, as formulas over the reals.

`q`, `k`, `v`, `g` are one head's queries, keys, values and output gradient (row, then lane); `t` is a query row and
`s` a key row. Also here: how the extended-real operations of both programs act on finite values. -/

@[expose] public section

noncomputable section

namespace Stick

open Idealize.ShloMosaic

/-! ### Formulas -/

/-- `log (1 + e^(-|x|))`. -/
def sp (x : ℝ) : ℝ := Real.log (1 + Real.exp (-|x|))

/-- The logistic function. -/
def sg (x : ℝ) : ℝ := 1 / (1 + Real.exp (-x))

/-- The inner product of row `t` of `a` and row `s` of `b`, 128 lanes. -/
def dotp (a b : ℕ → ℕ → ℝ) (t s : ℕ) : ℝ := ∑ d ∈ Finset.range 128, a t d * b s d

/-- The head's scale, the word both programs multiply by. -/
def sc : ℝ := (Ideal.ofBits .f32 0x3DB504F3#32 : EReal).toReal

section Head

variable (q k v g : ℕ → ℕ → ℝ)

/-- The score. -/
def z (t s : ℕ) : ℝ := dotp q k t s * sc

/-- The log of the break probability. -/
def lb (t s : ℕ) : ℝ := min (z q k t s) 0 - sp (z q k t s)

/-- The log of the survival probability, unmasked. -/
def lu (t s : ℕ) : ℝ := min (-z q k t s) 0 - sp (z q k t s)

/-- The log of the survival probability where the key precedes the query. -/
def l1 (t s : ℕ) : ℝ := if s < t then lu q k t s else 0

/-- Sum of the survival logs of the first `n` keys. -/
def lpre (t n : ℕ) : ℝ := ∑ s ∈ Finset.range n, l1 q k t s

/-- The attention weight, unmasked. -/
def au (t s : ℕ) : ℝ := Real.exp (lb q k t s + (lpre q k t 2048 - lpre q k t (s + 1)))

/-- The attention weight. -/
def a (t s : ℕ) : ℝ := if s < t then au q k t s else 0

/-- The gradient of the log weight. -/
def gg (t s : ℕ) : ℝ := a q k t s * dotp g v t s

/-- Sum of `gg` over the first `n` keys. -/
def gpre (t n : ℕ) : ℝ := ∑ s ∈ Finset.range n, gg q k v g t s

/-- The gradient of the score, times the scale. -/
def dz (t s : ℕ) : ℝ :=
  if s < t then (gg q k v g t s * (1 - sg (z q k t s)) - gpre q k v g t s * sg (z q k t s)) * sc else 0

/-- The gradient of the queries from the first `n` keys. -/
def dq (n t d : ℕ) : ℝ := ∑ s ∈ Finset.range n, dz q k v g t s * k s d

/-- The gradient of the keys from the first `n` queries. -/
def dk (n s d : ℕ) : ℝ := ∑ t ∈ Finset.range n, dz q k v g t s * q t d

/-- The gradient of the values from the first `n` queries. -/
def dv (n s d : ℕ) : ℝ := ∑ t ∈ Finset.range n, a q k t s * g t d

end Head

/-! ### Operations on finite values -/

theorem one_add_exp_pos (x : ℝ) : 0 < 1 + Real.exp x := by positivity

theorem sum_coe {ι : Type} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

theorem absf_coe (x : ℝ) : (FloatOps.absf (F := Ideal) (φ := .f32) (x : EReal)) = ((|x| : ℝ) : EReal) := by
  show max (x : EReal) (-(x : EReal)) = _
  rw [← EReal.coe_neg, abs_eq_max_neg]
  exact (EReal.coe_strictMono.monotone.map_max).symm

theorem hostAbsf_coe (x : ℝ) : (FloatOps.hostAbsf (F := Ideal) (φ := .f32) (x : EReal)) = ((|x| : ℝ) : EReal) := by
  show max (x : EReal) (-(x : EReal)) = _
  rw [← EReal.coe_neg, abs_eq_max_neg]
  exact (EReal.coe_strictMono.monotone.map_max).symm

theorem min_coe (x y : ℝ) : min (x : EReal) (y : EReal) = ((min x y : ℝ) : EReal) :=
  (EReal.coe_strictMono.monotone.map_min).symm

theorem max_coe (x y : ℝ) : max (x : EReal) (y : EReal) = ((max x y : ℝ) : EReal) :=
  (EReal.coe_strictMono.monotone.map_max).symm

theorem log_one_add_exp (x : ℝ) : Ideal.log ((1 + Real.exp x : ℝ) : EReal) = ((Real.log (1 + Real.exp x) : ℝ) : EReal) := by
  rw [Ideal.log_coe, if_neg (not_le.mpr (one_add_exp_pos x))]

theorem log1p_exp (x : ℝ) : Ideal.log1p ((Real.exp x : ℝ) : EReal) = ((Real.log (1 + Real.exp x) : ℝ) : EReal) := by
  rw [Ideal.log1p, ← EReal.coe_one, ← EReal.coe_add, log_one_add_exp]

theorem div_one_add_exp (x : ℝ) :
    Ideal.div ((1 : ℝ) : EReal) ((1 + Real.exp x : ℝ) : EReal) = ((1 / (1 + Real.exp x) : ℝ) : EReal) := by
  rw [Ideal.div_coe (one_add_exp_pos x).ne', ← EReal.coe_mul, one_mul]

theorem ofBits_sc : (Ideal.ofBits .f32 0x3DB504F3#32 : EReal) = (sc : EReal) := by
  have h : ∃ r : ℝ, (Ideal.ofBits .f32 0x3DB504F3#32 : EReal) = (r : EReal) := by
    unfold Ideal.ofBits Ideal.ieee
    simp only []
    rw [if_neg (by decide), if_neg (by decide)]
    exact ⟨_, rfl⟩
  obtain ⟨r, hr⟩ := h
  rw [sc, hr, EReal.toReal_coe]

theorem ofBits_top : (Ideal.ofBits .f32 0x7F800000#32 : EReal) = ⊤ := by
  unfold Ideal.ofBits Ideal.ieee
  simp only []
  rw [if_pos (by decide), if_pos (by decide), if_neg (by decide)]

theorem ofBits_top_bf16 : (Ideal.ofBits .bf16 0x7F80#16 : EReal) = ⊤ := by
  unfold Ideal.ofBits Ideal.ieee
  simp only []
  rw [if_pos (by decide), if_pos (by decide), if_neg (by decide)]

/-- `max x 0 + log (1 + e^(-|x|))`, in the two forms the formulas use. -/
theorem softplus_eq (x : ℝ) : max x 0 + sp x = Real.log (1 + Real.exp x) := by
  unfold sp
  rcases le_total 0 x with h | h
  · rw [max_eq_left h, abs_of_nonneg h]
    have : (1 + Real.exp x) = Real.exp x * (1 + Real.exp (-x)) := by
      rw [mul_add, ← Real.exp_add]; simp [add_comm]
    rw [this, Real.log_mul (Real.exp_pos x).ne' (one_add_exp_pos _).ne', Real.log_exp]
  · rw [max_eq_right h, abs_of_nonpos h, neg_neg, zero_add]

/-- The reference's derivative of the softplus is the logistic function. -/
theorem exp_sub_softplus (x : ℝ) : Real.exp (x - (max x 0 + sp x)) = sg x := by
  rw [softplus_eq, Real.exp_sub, Real.exp_log (one_add_exp_pos x), sg, div_eq_div_iff (one_add_exp_pos _).ne' (one_add_exp_pos _).ne',
    mul_add, ← Real.exp_add]
  simp [add_comm]

theorem sg_neg (x : ℝ) : sg (-x) = 1 - sg x := by
  unfold sg
  rw [neg_neg, eq_sub_iff_add_eq, div_add_div _ _ (one_add_exp_pos _).ne' (one_add_exp_pos _).ne', div_eq_one_iff_eq (by positivity)]
  have : Real.exp x * Real.exp (-x) = 1 := by rw [← Real.exp_add]; simp
  nlinarith [this]

theorem sp_neg (x : ℝ) : sp (-x) = sp x := by unfold sp; rw [abs_neg]

theorem neg_max_neg (x : ℝ) : -(max (-x) 0) = min x 0 := by
  rw [← min_neg_neg, neg_neg, neg_zero]

/-- A signed comparison of two small naturals' words. -/
theorem slt_word (s t : ℕ) (hs : s < 2 ^ 31) (ht : t < 2 ^ 31) :
    IntOp.cmpi .slt (BitVec.ofNat 32 s) (BitVec.ofNat 32 t) = if s < t then 1#1 else 0#1 := by
  have h : (BitVec.ofNat 32 s).slt (BitVec.ofNat 32 t) = decide (s < t) := by
    rw [BitVec.slt_eq_decide, decide_eq_decide, BitVec.toInt_eq_toNat_of_lt, BitVec.toInt_eq_toNat_of_lt] <;>
      simp only [BitVec.toNat_ofNat] <;> omega
  show BitVec.ofBool ((BitVec.ofNat 32 s).slt (BitVec.ofNat 32 t)) = _
  rw [h]
  by_cases hst : s < t <;> simp [hst]

theorem sle_word (s t : ℕ) (hs : s < 2 ^ 31) (ht : t < 2 ^ 31) :
    IntOp.cmpi .sle (BitVec.ofNat 32 s) (BitVec.ofNat 32 t) = if s ≤ t then 1#1 else 0#1 := by
  have h : (BitVec.ofNat 32 s).sle (BitVec.ofNat 32 t) = decide (s ≤ t) := by
    rw [BitVec.sle_eq_decide, decide_eq_decide, BitVec.toInt_eq_toNat_of_lt, BitVec.toInt_eq_toNat_of_lt] <;>
      simp only [BitVec.toNat_ofNat] <;> omega
  show BitVec.ofBool ((BitVec.ofNat 32 s).sle (BitVec.ofNat 32 t)) = _
  rw [h]
  by_cases hst : s ≤ t <;> simp [hst]

/-- One head's 128 lanes of a matrix, from column `o` on. -/
def head (X : ℕ → ℕ → ℝ) (o h : ℕ) : ℕ → ℕ → ℝ := fun t d => X t (o + (h * 128 + d))

/-- A select on a decided bit. -/
theorem select_ite {α : Type} (p : Prop) [Decidable p] (x y : α) :
    Scalar.select (if p then (1#1 : BitVec 1) else 0#1) x y = if p then x else y := by
  by_cases h : p <;> simp [h, Scalar.select]

theorem foldl_add_eq_sum {n : ℕ} (F : Fin n → EReal) : (List.finRange n).foldl (fun r i => r + F i) 0 = ∑ i, F i := by
  rw [Fin.sum_univ_def, List.sum_eq_foldl, List.foldl_map]

theorem window_suffix (N : ℕ) (f : ℕ → ℝ) (s : ℕ) (hs : s < N) :
    (∑ n ∈ Finset.range N, if 0 ≤ s + n ∧ s + n - 0 < N then f (s + n - 0) else 0)
      = (∑ n ∈ Finset.range N, f n) - ∑ n ∈ Finset.range s, f n := by
  obtain ⟨r, hr⟩ : ∃ r, N = s + r := ⟨N - s, by omega⟩
  rw [eq_sub_iff_add_eq']
  conv_rhs => rw [hr, Finset.sum_range_add]
  congr 1
  conv_lhs => rw [show Finset.range N = Finset.range (r + s) by congr 1; omega, Finset.sum_range_add]
  rw [Finset.sum_eq_zero (s := Finset.range s), add_zero]
  · refine Finset.sum_congr rfl fun n hn => ?_
    rw [Finset.mem_range] at hn
    rw [if_pos (by omega), Nat.sub_zero]
  · intro n _
    rw [if_neg (by omega)]

theorem window_prefix (N : ℕ) (f : ℕ → ℝ) (s : ℕ) (hs : s < N) :
    (∑ n ∈ Finset.range N, if N - 1 ≤ s + n ∧ s + n - (N - 1) < N then f (s + n - (N - 1)) else 0)
      = ∑ n ∈ Finset.range (s + 1), f n := by
  conv_lhs => rw [show Finset.range N = Finset.range ((N - 1 - s) + (s + 1)) by congr 1; omega, Finset.sum_range_add]
  rw [Finset.sum_eq_zero (s := Finset.range (N - 1 - s)), zero_add]
  · refine Finset.sum_congr rfl fun n hn => ?_
    rw [Finset.mem_range] at hn
    rw [if_pos (by omega)]
    congr 1; omega
  · intro n hn
    rw [Finset.mem_range] at hn
    rw [if_neg (by omega)]

end Stick

end
-- ==== Proof.SoftSpec.lean ====
module

public import proofs.«01_k».proof.Proof.Spec

/-! The gradient of softmax attention for one head, as formulas over the reals.

`q`, `k`, `v`, `g` are one head's queries, keys, values and output gradient (row, then lane); `t` is a query row and
`s` a key row. A query sees the keys of its own chunk of 64 rows and of the chunks before it. Also here: the algebra
between the two forms of the softmax, and how the extended-real operations act on finite values. -/

@[expose] public section

noncomputable section

namespace Soft

open Idealize.ShloMosaic Stick

/-- The scale, the word both programs multiply by. -/
def sc : ℝ := (Ideal.ofBits .f32 0x3D93CD3A#32 : EReal).toReal

/-- The four real matrices of one head. -/
structure Head where
  /-- queries -/
  q : ℕ → ℕ → ℝ
  /-- keys -/
  k : ℕ → ℕ → ℝ
  /-- values -/
  v : ℕ → ℕ → ℝ
  /-- gradient of the output -/
  g : ℕ → ℕ → ℝ

namespace Head

variable (A : Head)

/-- The score. -/
def z (t s : ℕ) : ℝ := (∑ d ∈ Finset.range 256, A.q t d * A.k s d) * sc

/-- The unnormalised weight. -/
def e (t s : ℕ) : ℝ := if s / 64 ≤ t / 64 then Real.exp (A.z t s) else 0

/-- The normaliser. -/
def den (t : ℕ) : ℝ := ∑ s ∈ Finset.range 2048, A.e t s

/-- The log of the normaliser. -/
def lse (t : ℕ) : ℝ := Real.log (A.den t)

/-- The attention weight. -/
def p (t s : ℕ) : ℝ := if s / 64 ≤ t / 64 then Real.exp (A.z t s - A.lse t) else 0

/-- The gradient of the weight. -/
def dp (t s : ℕ) : ℝ := ∑ d ∈ Finset.range 128, A.g t d * A.v s d

/-- The output. -/
def o (t d : ℕ) : ℝ := ∑ s ∈ Finset.range 2048, A.p t s * A.v s d

/-- The inner product of the output and its gradient. -/
def dl (t : ℕ) : ℝ := ∑ d ∈ Finset.range 128, A.g t d * A.o t d

/-- The gradient of the score, times the scale. -/
def ds (t s : ℕ) : ℝ := A.p t s * (A.dp t s - A.dl t) * sc

/-- The gradient of the queries from the first `n` keys. -/
def dq (n t d : ℕ) : ℝ := ∑ s ∈ Finset.range n, A.ds t s * A.k s d

/-- The gradient of the keys from the first `n` queries. -/
def dk (n s d : ℕ) : ℝ := ∑ t ∈ Finset.range n, A.ds t s * A.q t d

/-- The gradient of the values from the first `n` queries. -/
def dv (n s d : ℕ) : ℝ := ∑ t ∈ Finset.range n, A.p t s * A.g t d

theorem e_nonneg (t s : ℕ) : 0 ≤ A.e t s := by
  unfold e; split
  · exact (Real.exp_pos _).le
  · exact le_rfl

theorem den_pos {t : ℕ} (ht : t < 2048) : 0 < A.den t := by
  refine Finset.sum_pos' (fun s _ => A.e_nonneg t s) ⟨t, Finset.mem_range.mpr ht, ?_⟩
  rw [e, if_pos le_rfl]
  exact Real.exp_pos _

theorem p_eq {t : ℕ} (ht : t < 2048) (s : ℕ) : A.p t s = A.e t s / A.den t := by
  unfold p e
  split
  · rw [Real.exp_sub, lse, Real.exp_log (A.den_pos ht)]
  · rw [zero_div]

theorem p_live {t s : ℕ} (h : s / 64 ≤ t / 64) : A.p t s = Real.exp (A.z t s - A.lse t) := if_pos h

theorem p_dead {t s : ℕ} (h : ¬ s / 64 ≤ t / 64) : A.p t s = 0 := if_neg h

theorem ds_dead {t s : ℕ} (h : ¬ s / 64 ≤ t / 64) : A.ds t s = 0 := by
  rw [ds, A.p_dead h, zero_mul, zero_mul]

/-- The inner product of the output and its gradient is the weighted sum of the weights' gradients. -/
theorem dl_eq (t : ℕ) : A.dl t = ∑ s ∈ Finset.range 2048, A.p t s * A.dp t s := by
  unfold dl o dp
  simp only [Finset.mul_sum]
  rw [Finset.sum_comm]
  exact Finset.sum_congr rfl fun s _ => Finset.sum_congr rfl fun d _ => by ring

/-- The weights shifted by any `M` before the exponential. -/
def es (M : ℝ) (t s : ℕ) : ℝ := if s / 64 ≤ t / 64 then Real.exp (A.z t s - M) else 0

theorem es_eq (M : ℝ) (t s : ℕ) : A.es M t s = A.e t s * Real.exp (-M) := by
  unfold es e
  split
  · rw [sub_eq_add_neg, Real.exp_add]
  · rw [zero_mul]

theorem sum_es (M : ℝ) (t : ℕ) : ∑ s ∈ Finset.range 2048, A.es M t s = A.den t * Real.exp (-M) := by
  simp only [es_eq, ← Finset.sum_mul, den]

theorem sum_es_pos (M : ℝ) {t : ℕ} (ht : t < 2048) : 0 < ∑ s ∈ Finset.range 2048, A.es M t s := by
  rw [sum_es]; exact mul_pos (A.den_pos ht) (Real.exp_pos _)

theorem lse_of_shift (M : ℝ) {t : ℕ} (ht : t < 2048) : M + Real.log (∑ s ∈ Finset.range 2048, A.es M t s) = A.lse t := by
  rw [sum_es, Real.log_mul (A.den_pos ht).ne' (Real.exp_pos _).ne', Real.log_exp, lse]; ring

theorem p_of_shift (M : ℝ) {t : ℕ} (ht : t < 2048) (s : ℕ) :
    A.es M t s * (1 / ∑ s ∈ Finset.range 2048, A.es M t s) = A.p t s := by
  rw [sum_es, es_eq, A.p_eq ht]
  have h1 := (A.den_pos ht).ne'
  have h2 := (Real.exp_pos (-M)).ne'
  field_simp

/-- The derivative of the softmax as the quotient rule gives it. -/
theorem ds_of_shift (M : ℝ) {t : ℕ} (ht : t < 2048) (s : ℕ) :
    (A.dp t s * (1 / ∑ s ∈ Finset.range 2048, A.es M t s)
        + -(∑ j ∈ Finset.range 2048, A.dp t j * (1 / ((∑ s ∈ Finset.range 2048, A.es M t s) * ∑ s ∈ Finset.range 2048, A.es M t s)) * A.es M t j))
      * A.es M t s * sc = A.ds t s := by
  have hD := (A.sum_es_pos M ht).ne'
  have hp := A.p_of_shift M ht
  generalize (∑ s ∈ Finset.range 2048, A.es M t s) = D at hD hp ⊢
  have e1 : (∑ j ∈ Finset.range 2048, A.dp t j * (1 / (D * D)) * A.es M t j) = A.dl t * (1 / D) := by
    rw [dl_eq, Finset.sum_mul]
    refine Finset.sum_congr rfl fun j _ => ?_
    rw [← hp j]; field_simp
  rw [e1, ds, ← hp s]
  ring

/-- Keys from `N` on, in later chunks, do not touch the queries before `N`. -/
theorem dead_of {N t s : ℕ} (hN : N % 64 = 0) (ht : t < N) (hs : N ≤ s) : ¬ s / 64 ≤ t / 64 := by omega

theorem dq_full {N t : ℕ} (hN : N % 64 = 0) (hN' : N ≤ 2048) (ht : t < N) (d : ℕ) : A.dq N t d = A.dq 2048 t d := by
  obtain ⟨r, hr⟩ := Nat.exists_eq_add_of_le hN'
  unfold dq
  rw [hr, Finset.sum_range_add, eq_comm, add_eq_left]
  refine Finset.sum_eq_zero fun s _ => ?_
  rw [A.ds_dead (dead_of hN ht (Nat.le_add_right _ _)), zero_mul]

theorem dk_late {T n s : ℕ} (hN : (T + n) % 64 = 0) (hs : T + n ≤ s) (d : ℕ) : A.dk T s d = A.dk (T + n) s d := by
  unfold dk
  rw [Finset.sum_range_add, eq_comm, add_eq_left]
  refine Finset.sum_eq_zero fun t ht => ?_
  rw [A.ds_dead (dead_of hN (Nat.add_lt_add_left (Finset.mem_range.mp ht) T) hs), zero_mul]

theorem dv_late {T n s : ℕ} (hN : (T + n) % 64 = 0) (hs : T + n ≤ s) (d : ℕ) : A.dv T s d = A.dv (T + n) s d := by
  unfold dv
  rw [Finset.sum_range_add, eq_comm, add_eq_left]
  refine Finset.sum_eq_zero fun t ht => ?_
  rw [A.p_dead (dead_of hN (Nat.add_lt_add_left (Finset.mem_range.mp ht) T) hs), zero_mul]

end Head

/-! ### Operations on finite values -/

theorem ofBits_sc : (Ideal.ofBits .f32 0x3D93CD3A#32 : EReal) = (sc : EReal) := by
  have h : ∃ r : ℝ, (Ideal.ofBits .f32 0x3D93CD3A#32 : EReal) = (r : EReal) := by
    unfold Ideal.ofBits Ideal.ieee
    simp only []
    rw [if_neg (by decide), if_neg (by decide)]
    exact ⟨_, rfl⟩
  obtain ⟨r, hr⟩ := h
  rw [sc, hr, EReal.toReal_coe]

theorem ofBits_low : ∃ r : ℝ, (Ideal.ofBits .f32 0xF149F2CA#32 : EReal) = (r : EReal) := by
  unfold Ideal.ofBits Ideal.ieee
  simp only []
  rw [if_neg (by decide), if_neg (by decide)]
  exact ⟨_, rfl⟩

theorem ofBits_bot : (Ideal.ofBits .f32 0xFF800000#32 : EReal) = ⊥ := by
  unfold Ideal.ofBits Ideal.ieee
  simp only []
  rw [if_pos (by decide), if_pos (by decide), if_pos (by decide)]

/-- The maximum of finitely many values, none infinite above and one finite, is finite. -/
theorem max_real {n : ℕ} (f : Fin n → EReal) (ht : ∀ i, f i ≠ ⊤) (hb : ∃ i, f i ≠ ⊥) :
    ∃ M : ℝ, Finset.univ.fold max ⊥ f = (M : EReal) := by
  have e : Finset.univ.fold max ⊥ f = Finset.univ.sup f := rfl
  rw [e]
  have h1 : Finset.univ.sup f ≠ ⊤ :=
    ((Finset.sup_lt_iff bot_lt_top).mpr fun i _ => lt_top_iff_ne_top.mpr (ht i)).ne
  have h2 : Finset.univ.sup f ≠ ⊥ := by
    obtain ⟨i, hi⟩ := hb
    intro h
    exact hi (le_bot_iff.mp (h ▸ Finset.le_sup (Finset.mem_univ i)))
  exact ⟨_, (EReal.coe_toReal h1 h2).symm⟩

/-- A small natural's word, shifted right by six. -/
theorem shr_word (u : ArithUnit) (n : ℕ) (hn : n < 2 ^ 31) :
    IntOp.shrsi u (BitVec.ofNat 32 n) 6#32 = BitVec.ofNat 32 (n / 64) := by
  have hm : (BitVec.ofNat 32 n).msb = false := by
    rw [BitVec.msb_eq_false_iff_two_mul_lt, BitVec.toNat_ofNat]; omega
  unfold IntOp.shrsi
  rw [if_pos (by decide)]
  show (BitVec.ofNat 32 n).sshiftRight 6 = _
  rw [BitVec.sshiftRight_eq_of_msb_false hm]
  apply BitVec.eq_of_toNat_eq
  rw [BitVec.toNat_ushiftRight, BitVec.toNat_ofNat, BitVec.toNat_ofNat, Nat.shiftRight_eq_div_pow]
  omega

theorem prod_val {n : ℕ} {x : EReal} {W Y : Fin n → EReal} {f h : ℕ → ℝ} {S : ℕ} (hx : x = ((∑ s ∈ Finset.range S, f s * h s : ℝ) : EReal))
    (hW : ∀ c : Fin n, W c = (f (S + c) : EReal)) (hY : ∀ c : Fin n, Y c = (h (S + c) : EReal)) :
    x + ∑ c, W c * Y c = ((∑ s ∈ Finset.range (S + n), f s * h s : ℝ) : EReal) := by
  simp only [hx, hW, hY, ← EReal.coe_mul, sum_coe]
  rw [← EReal.coe_add, Finset.sum_range_add, Finset.sum_range (fun x => f (S + x) * h (S + x))]

theorem dot_val {n : ℕ} {x y : Fin n → EReal} {f h : ℕ → ℝ} (hx : ∀ d, x d = (f d : EReal)) (hy : ∀ d, y d = (h d : EReal)) :
    (∑ d, x d * y d) = ((∑ d ∈ Finset.range n, f d * h d : ℝ) : EReal) := by
  simp only [hx, hy, ← EReal.coe_mul, sum_coe]
  rw [Finset.sum_range]

section Values

variable {A : Head} {t s : ℕ}

theorem z_val {x y : Fin 256 → EReal} (hx : ∀ d, x d = (A.q t d : EReal)) (hy : ∀ d, y d = (A.k s d : EReal)) :
    (∑ d, x d * y d) * Ideal.ofBits .f32 1033096506#32 = (A.z t s : EReal) := by
  rw [dot_val hx hy, show (1033096506#32 : BitVec 32) = 0x3D93CD3A#32 from rfl, ofBits_sc, ← EReal.coe_mul, Head.z]

theorem p_val_live {x y : Fin 256 → EReal} {l : EReal} (h : s / 64 ≤ t / 64) (hx : ∀ d, x d = (A.q t d : EReal))
    (hy : ∀ d, y d = (A.k s d : EReal)) (hl : l = (A.lse t : EReal)) :
    Ideal.exp ((∑ d, x d * y d) * Ideal.ofBits .f32 1033096506#32 - l) = (A.p t s : EReal) := by
  rw [z_val hx hy, hl, ← EReal.coe_sub, Ideal.exp_coe, A.p_live h]

theorem p_val {x y : Fin 256 → EReal} {l : EReal} {b : BitVec 1} (hb : b = if s / 64 ≤ t / 64 then 1#1 else 0#1)
    (hx : ∀ d, x d = (A.q t d : EReal)) (hy : ∀ d, y d = (A.k s d : EReal)) (hl : l = (A.lse t : EReal)) :
    Scalar.select b (Ideal.exp ((∑ d, x d * y d) * Ideal.ofBits .f32 1033096506#32 - l)) 0 = (A.p t s : EReal) := by
  rw [z_val hx hy, hl, ← EReal.coe_sub, Ideal.exp_coe, hb, select_ite, Head.p]; split <;> rfl

theorem ds_val {P l : EReal} {x y : Fin 128 → EReal} (hP : P = (A.p t s : EReal)) (hx : ∀ d, x d = (A.g t d : EReal))
    (hy : ∀ d, y d = (A.v s d : EReal)) (hl : l = (A.dl t : EReal)) :
    P * ((∑ d, x d * y d) - l) * Ideal.ofBits .f32 1033096506#32 = (A.ds t s : EReal) := by
  rw [dot_val hx hy, hP, hl, show (1033096506#32 : BitVec 32) = 0x3D93CD3A#32 from rfl, ofBits_sc, ← EReal.coe_sub, ← EReal.coe_mul, ← EReal.coe_mul,
    Head.ds, Head.dp]

end Values

end Soft

end
-- ==== Proof.AttnRef.lean ====
module

public import proofs.«01_k».proof.Proof.Gen.MlaAttnReferenceIdeal.Read
public import proofs.«01_k».proof.Proof.SoftSpec
public import Idealize.ShloMosaic.Lib.KernelVsHost

/-! The reference's results for chunked softmax attention, read at an index. -/

@[expose] public section

set_option maxRecDepth 16384

noncomputable section

namespace Soft

/-- Head `h` of the packed queries `Q`, keys `K`, keys beside values `V` and output gradients `G`. -/
def hd (Q K V G : ℕ → ℕ → ℝ) (h : ℕ) : Head :=
  ⟨fun t d => Q t (h * 256 + d), fun t d => K t (h * 256 + d), fun t d => V t (h * 256 + (128 + d)), fun t d => G t (h * 128 + d)⟩

end Soft

namespace Cert.MlaAttnReferenceIdeal.Hand

open Cert.MlaAttnReferenceIdeal Cert.MlaAttnReferenceIdeal.Gen Cert.MlaAttnReferenceIdeal.Read Idealize.ShloMosaic Stick Soft

/-- The words of a floored division by 64. -/
theorem chunk_word : ∀ n : Fin 2048, Scalar.select
      (IntOp.andi
        (IntOp.cmpi CmpIPredicate.ne
          (if BitVec.ofNat 32 n.val = 0 then 0 else if (BitVec.ofNat 32 n.val).msb = true then -1 else 1)
          (if (64#32) = 0 then 0
          else if BitVec.msb (64#32) = true then -1 else (1 : BitVec 32)))
        (IntOp.cmpi CmpIPredicate.ne (IntOp.remsi ArithUnit.host (BitVec.ofNat 32 n.val) (64#32))
          0#32))
      (IntOp.subi (IntOp.divsi ArithUnit.host (BitVec.ofNat 32 n.val) (64#32)) 1#32)
      (IntOp.divsi ArithUnit.host (BitVec.ofNat 32 n.val) (64#32)) =
    BitVec.ofNat 32 (n.val / 64) := by
  decide +kernel

/-- A row's chunk: its number over 64. -/
theorem chunk_apply (n : Fin 2048) : val_main_v22 (F := Ideal) (ix1 n) = BitVec.ofNat 32 (n / 64) := by
  pointwise [val_main_v22, val_main_call0_v11, val_main_call0_v13, val_main_call0_v2, val_main_call0_v6, val_main_call0_v10, val_main_call0_v12,
    val_main_call0_v1, val_main_call0_v0, val_main_c, val_main_v21, val_main_call0_v3, val_main_call0_v5, val_main_call0_v4, val_main_call0_v8,
    val_main_call0_v7, val_main_call0_v9, val_main_call0_c, val_main_call0_c_0]
  exact chunk_word n

theorem mask_apply (h : Fin 16) (t s : Fin 2048) : val_main_v28_1 (F := Ideal) (ix3 h t s) = if s.val / 64 ≤ t.val / 64 then 1#1 else 0#1 := by
  pointwise [val_main_v28_1, val_main_v27, val_main_v25, val_main_v26, val_main_v23, val_main_v24]
  rw [chunk_apply, chunk_apply]
  exact sle_word _ _ (by omega) (by omega)

variable (x0 x1 x2 : (⟨S2048x4096, .bf16⟩ : BufTy).Contents (Elt Ideal)) (x3 : (⟨S2048x2048, .bf16⟩ : BufTy).Contents (Elt Ideal))
  (Q K V G : ℕ → ℕ → ℝ)
  (hQ : ∀ (t : Fin 2048) (n : Fin 4096), x0 (ix2 t n) = (Q t n : EReal))
  (hK : ∀ (t : Fin 2048) (n : Fin 4096), x1 (ix2 t n) = (K t n : EReal))
  (hV : ∀ (t : Fin 2048) (n : Fin 4096), x2 (ix2 t n) = (V t n : EReal))
  (hG : ∀ (t : Fin 2048) (n : Fin 2048), x3 (ix2 t n) = (G t n : EReal))

include hQ in
theorem q_apply (t : Fin 2048) (h : Fin 16) (d : Fin 256) : val_main_v4 (F := Ideal) x0 (ix3 t h d) = ((hd Q K V G h).q t d : EReal) := by
  pointwise [val_main_v4, val_main_v3]
  rw [hQ]; rfl

include hK in
theorem k_apply (t : Fin 2048) (h : Fin 16) (d : Fin 256) : val_main_v6 (F := Ideal) x1 (ix3 t h d) = ((hd Q K V G h).k t d : EReal) := by
  pointwise [val_main_v6, val_main_v5]
  rw [hK]; rfl

include hV in
theorem v_apply (t : Fin 2048) (h : Fin 16) (d : Fin 128) : val_main_v8 (F := Ideal) x2 (ix3 t h d) = ((hd Q K V G h).v t d : EReal) := by
  pointwise [val_main_v8, val_main_v7, val_main_v2, val_main_v1, val_main_v0]
  rw [hV]; rfl

include hG in
theorem g_apply (t : Fin 2048) (h : Fin 16) (d : Fin 128) : val_main_v65 (F := Ideal) x3 (ix3 h d t) = ((hd Q K V G h).g t d : EReal) := by
  pointwise [val_main_v65, val_main_v64, val_main_v63]
  rw [hG]; rfl

include hQ hK in
theorem z_apply (h : Fin 16) (t s : Fin 2048) : val_main_v20 (F := Ideal) x0 x1 (ix3 h t s) = ((hd Q K V G h).z t s : EReal) := by
  pointwise [val_main_v20, val_main_v18, val_main_v17, val_main_v16, val_main_v12, val_main_v11, val_main_v15, val_main_v9, val_main_v10, val_main_v13, val_main_v14, val_main_v19, val_main_cst]
  simp only [q_apply x0 Q K V G hQ, k_apply x1 Q K V G hK, ← EReal.coe_mul, sum_coe]
  rw [Soft.ofBits_sc, ← EReal.coe_add, ← EReal.coe_mul, Head.z, show 256 = 128 + 128 from rfl, Finset.sum_range_add,
    Finset.sum_range, Finset.sum_range]

/-- A row's maximum over its keys is finite. -/
theorem max_apply (x : FVec Ideal S16x2048x2048 .f32) (v : FVec Ideal S_ .f32) (hv : v (Shape.Idx.first h_S_) = (⊥ : EReal)) (h : Fin 16) (t : Fin 2048)
    (ht : ∀ k : Fin 2048, x (ix3 h t k) ≠ (⊤ : EReal)) (hb : ∃ k : Fin 2048, x (ix3 h t k) ≠ (⊥ : EReal)) :
    ∃ M : ℝ, Host.reduce FloatOps.maximumf x v reducesTo_S16x2048x2048_S16x2048_d2 h_S_ (ix2 h t) = (M : EReal) := by
  pointwise
  rw [hv]
  exact max_real _ ht hb

/-- A row's sum over its keys. -/
theorem sum_apply (x : FVec Ideal S16x2048x2048 .f32) (v : FVec Ideal S_ .f32) (hv : ∀ i, v i = 0) (f : ℕ → ℝ) (h : Fin 16) (t : Fin 2048)
    (hx : ∀ k : Fin 2048, x (ix3 h t k) = (f k : EReal)) :
    Host.reduceAdd (F := Ideal) x v reducesTo_S16x2048x2048_S16x2048_d2 h_S_ (ix2 h t) = ((∑ k ∈ Finset.range 2048, f k : ℝ) : EReal) := by
  pointwise
  simp only [hv, hx, sum_coe, zero_add]
  rw [Finset.sum_range]

theorem maxf_bot (a b : Ideal .f32) (M : ℝ) (ha : a = (⊥ : EReal)) (hb : b = (M : EReal)) : FloatOps.maximumf (F := Ideal) a b = (M : EReal) := by
  rw [ha, hb]
  exact max_eq_right bot_le

theorem low_apply (h : Fin 16) (t : Fin 2048) : val_main_v35 (F := Ideal) (ix2 h t) = (⊥ : EReal) := by
  rw [val_main_v35_apply, val_main_cst_3_apply]
  exact Soft.ofBits_bot

/-- The masked score. -/
theorem zm_apply (h : Fin 16) (t s : Fin 2048) : val_main_v28_0 (F := Ideal) x0 x1 (ix3 h t s)
    = if s.val / 64 ≤ t.val / 64 then val_main_v20 (F := Ideal) x0 x1 (ix3 h t s) else ⊥ := by
  pointwise [val_main_v28_0, val_main_call1_v2, val_main_call1_v0, val_main_cst_0]
  rw [mask_apply, select_ite, show id (constant (F := Ideal) S_ FTy.f32 4286578688#32) ix0 = ⊥ from Soft.ofBits_bot]

section Row

variable (A : Head) (h : Fin 16) (hz : ∀ t s : Fin 2048, val_main_v20 (F := Ideal) x0 x1 (ix3 h t s) = (A.z t s : EReal))

include hz in
theorem top_ne (t k : Fin 2048) : val_main_v28_0 (F := Ideal) x0 x1 (ix3 h t k) ≠ (⊤ : EReal) := by
  rw [zm_apply, hz]
  split
  · exact EReal.coe_ne_top _
  · exact bot_ne_top

include hz in
theorem bot_ne (t : Fin 2048) : val_main_v28_0 (F := Ideal) x0 x1 (ix3 h t t) ≠ (⊥ : EReal) := by
  rw [zm_apply, hz, if_pos le_rfl]
  exact EReal.coe_ne_bot _

include hz in
theorem top_fin (t : Fin 2048) : ∃ M : ℝ, val_main_v29 (F := Ideal) x0 x1 (ix2 h t) = (M : EReal) := by
  have e : val_main_cst_1 (F := Ideal) (Shape.Idx.first h_S_) = (⊥ : EReal) := (val_main_cst_1_apply _).trans Soft.ofBits_bot
  rw [val_main_v29]
  exact max_apply _ _ e h t (top_ne x0 x1 A h hz t) ⟨t, bot_ne x0 x1 A h hz t⟩

include hz in
/-- The reference's row maximum is finite. -/
theorem top_real (t : Fin 2048) : ∃ M : ℝ, val_main_v36 (F := Ideal) x0 x1 (ix2 h t) = (M : EReal) := by
  obtain ⟨M, hM⟩ := top_fin x0 x1 A h hz t
  refine ⟨M, ?_⟩
  rw [val_main_v36_apply]
  exact maxf_bot _ _ M (low_apply h t) hM

section Shift

variable (t : Fin 2048) (M : ℝ) (hM : val_main_v36 (F := Ideal) x0 x1 (ix2 h t) = (M : EReal))

include hz hM

theorem es_apply (s : Fin 2048) : val_main_v49 (F := Ideal) x0 x1 (ix3 h t s) = (A.es M t s : EReal) := by
  pointwise [val_main_v49, val_main_v48, val_main_v47, val_main_v46]
  rw [hM, zm_apply, hz, Head.es]
  split
  · rw [← EReal.coe_sub, Ideal.exp_coe]
  · rw [EReal.bot_sub, Ideal.exp_bot]; rfl

theorem den_apply : val_main_v50 (F := Ideal) x0 x1 (ix2 h t) = ((∑ s ∈ Finset.range 2048, A.es M t s : ℝ) : EReal) := by
  rw [val_main_v50]
  exact sum_apply _ _ (fun i => Ideal.ofBits_zero_f32) (A.es M t) h t (fun s => es_apply x0 x1 A h hz t M hM s)

end Shift

include hz in
theorem p_apply (t s : Fin 2048) : val_main_v58 (F := Ideal) x0 x1 (ix3 h t s) = (A.p t s : EReal) := by
  obtain ⟨M, hM⟩ := top_real x0 x1 A h hz t
  pointwise [val_main_v58, val_main_v57, val_main_v53, val_main_v52, val_main_v51]
  rw [es_apply x0 x1 A h hz t M hM, den_apply x0 x1 A h hz t M hM, Ideal.div_coe (A.sum_es_pos M t.isLt).ne', ← EReal.coe_mul,
    A.p_of_shift M t.isLt]

variable (hv : ∀ (t : Fin 2048) (d : Fin 128), val_main_v8 (F := Ideal) x2 (ix3 t h d) = (A.v t d : EReal))
  (hg : ∀ (t : Fin 2048) (d : Fin 128), val_main_v65 (F := Ideal) x3 (ix3 h d t) = (A.g t d : EReal))

include hv hg in
theorem dp_apply (t s : Fin 2048) : val_main_v70 (F := Ideal) x2 x3 (ix3 h t s) = (A.dp t s : EReal) := by
  pointwise [val_main_v70, val_main_v69, val_main_v66]
  rw [dot_val (fun d => hg t d) (fun d => hv s d)]; rfl

include hz hv hg in
theorem ds_apply (t s : Fin 2048) : val_main_v85 (F := Ideal) x0 x1 x2 x3 (ix3 h t s) = (A.ds t s : EReal) := by
  obtain ⟨M, hM⟩ := top_real x0 x1 A h hz t
  have hD := (A.sum_es_pos M t.isLt).ne'
  have hes := es_apply x0 x1 A h hz t M hM
  have hden := den_apply x0 x1 A h hz t M hM
  have hsum : val_main_v74 (F := Ideal) x0 x1 x2 x3 (ix2 h t) = ((∑ j ∈ Finset.range 2048, A.dp t j
      * (1 / ((∑ s ∈ Finset.range 2048, A.es M t s) * ∑ s ∈ Finset.range 2048, A.es M t s)) * A.es M t j : ℝ) : EReal) := by
    rw [val_main_v74]
    refine sum_apply _ _ (fun i => Ideal.ofBits_zero_f32) _ h t fun j => ?_
    pointwise [val_main_v73, val_main_v72, val_main_v71, val_main_v56, val_main_v55, val_main_cst_10, val_main_v54, val_main_v51]
    rw [dp_apply x2 x3 A h hv hg, hes, hden, ← EReal.coe_mul, Ideal.div_coe (mul_ne_zero hD hD),
      one_mul, ← EReal.coe_mul, ← EReal.coe_mul]
  pointwise [val_main_v85, val_main_v84, val_main_cst_13, val_main_v83, val_main_call2_v0, val_main_call2_cst, val_main_v82, val_main_v81,
    val_main_v80, val_main_v79, val_main_v78, val_main_v77, val_main_v76, val_main_v75, val_main_v51, val_main_cst_12]
  rw [mask_apply, dp_apply x2 x3 A h hv hg, hes, hden, hsum, Ideal.div_coe hD, select_ite, Fin.sum_univ_one,
    show Ideal.ofBits .f32 1033096506#32 = (Soft.sc : EReal) from Soft.ofBits_sc]
  split
  · rw [← EReal.coe_mul, ← EReal.coe_neg, ← EReal.coe_add, ← EReal.coe_mul, ← EReal.coe_mul, A.ds_of_shift M t.isLt]
  · rw [A.ds_dead ‹_›]; rfl

variable (hq : ∀ (t : Fin 2048) (d : Fin 256), val_main_v4 (F := Ideal) x0 (ix3 t h d) = (A.q t d : EReal))
  (hk : ∀ (t : Fin 2048) (d : Fin 256), val_main_v6 (F := Ideal) x1 (ix3 t h d) = (A.k t d : EReal))

/-- Zeros before the last axis. -/
theorem pad_low (x : FVec Ideal S2048x16x128 .f32) (v : FVec Ideal S_ .f32) (hv : ∀ i, v i = 0) (t : Fin 2048) (h : Fin 16) (D : Fin 256) :
    pad S2048x16x256 ![0, 0, 128] ![0, 0, 0] ![0, 0, 0] x v pads_S2048x16x128_S2048x16x256_000_000_12800 h_S_ (ix3 t h D)
      = if hD : 128 ≤ D.val then x (ix3 t h ⟨D.val - 128, by omega⟩) else 0 := by
  split
  · refine pad_apply_of_inside _ _ _ _ _ _ _ _ _ fun a => match a with
      | ⟨0, _⟩ => by show t.val = 0 + t.val * 1; omega
      | ⟨1, _⟩ => by show h.val = 0 + h.val * 1; omega
      | ⟨2, _⟩ => by show D.val = 128 + (D.val - 128) * 1; omega
  · refine (pad_apply_of_not_inside _ _ _ _ _ _ _ _ 2 ?_).trans (hv _)
    show ¬(128 ≤ D.val ∧ _)
    exact fun hc => absurd hc.1 ‹_›

/-- Zeros after the last axis. -/
theorem pad_high (x : FVec Ideal S2048x16x128 .f32) (v : FVec Ideal S_ .f32) (hv : ∀ i, v i = 0) (t : Fin 2048) (h : Fin 16) (D : Fin 256) :
    pad S2048x16x256 ![0, 0, 0] ![0, 0, 128] ![0, 0, 0] x v pads_S2048x16x128_S2048x16x256_000_000_01280 h_S_ (ix3 t h D)
      = if hD : D.val < 128 then x (ix3 t h ⟨D.val, hD⟩) else 0 := by
  split
  · refine pad_apply_of_inside _ _ _ _ _ _ _ _ _ fun a => match a with
      | ⟨0, _⟩ => by show t.val = 0 + t.val * 1; omega
      | ⟨1, _⟩ => by show h.val = 0 + h.val * 1; omega
      | ⟨2, _⟩ => by show D.val = 0 + D.val * 1; omega
  · refine (pad_apply_of_not_inside _ _ _ _ _ _ _ _ 2 ?_).trans (hv _)
    show ¬(0 ≤ D.val ∧ (D.val - 0) % (0 + 1) = 0 ∧ (D.val - 0) / (0 + 1) < 128)
    omega

include hz hv hg

section
include hk

theorem dq_lo (t : Fin 2048) (d : Fin 128) : val_main_v98 (F := Ideal) x0 x1 x2 x3 (ix3 t h d) = (A.dq 2048 t d : EReal) := by
  pointwise [val_main_v98, val_main_v97, val_main_v94, val_main_v86, val_main_v10]
  simp only [ds_apply x0 x1 x2 x3 A h hz hv hg, hk, ← EReal.coe_mul, sum_coe]
  rw [Head.dq, Finset.sum_range]

theorem dq_hi (t : Fin 2048) (d : Fin 128) : val_main_v91 (F := Ideal) x0 x1 x2 x3 (ix3 t h d) = (A.dq 2048 t (128 + d) : EReal) := by
  pointwise [val_main_v91, val_main_v90, val_main_v87, val_main_v86, val_main_v14]
  simp only [ds_apply x0 x1 x2 x3 A h hz hv hg, hk, ← EReal.coe_mul, sum_coe]
  rw [Head.dq, Finset.sum_range]

theorem dq_apply (t : Fin 2048) (D : Fin 256) : val_main_v102 (F := Ideal) x0 x1 x2 x3 (ix3 t h D) = (A.dq 2048 t D : EReal) := by
  pointwise [val_main_v102]
  rw [val_main_v93, val_main_v101, pad_low _ (val_main_cst_15 (F := Ideal)) (fun i => (val_main_cst_15_apply i).trans Ideal.ofBits_zero_f32),
    pad_high _ (val_main_cst_17 (F := Ideal)) (fun i => (val_main_cst_17_apply i).trans Ideal.ofBits_zero_f32)]
  by_cases hD : D.val < 128
  · rw [dif_neg (by omega), dif_pos hD, zero_add, dq_lo x0 x1 x2 x3 A h hz hv hg hk]
  · rw [dif_pos (by omega), dif_neg hD, add_zero, dq_hi x0 x1 x2 x3 A h hz hv hg hk]
    have e : 128 + (D.val - 128) = D.val := by omega
    simp only [e]

end

section
include hq

theorem dk_lo (s : Fin 2048) (d : Fin 128) : val_main_v96 (F := Ideal) x0 x1 x2 x3 (ix3 s h d) = (A.dk 2048 s d : EReal) := by
  pointwise [val_main_v96, val_main_v95, val_main_v94, val_main_v86, val_main_v9]
  simp only [ds_apply x0 x1 x2 x3 A h hz hv hg, hq, ← EReal.coe_mul, sum_coe]
  rw [Head.dk, Finset.sum_range]

theorem dk_hi (s : Fin 2048) (d : Fin 128) : val_main_v89 (F := Ideal) x0 x1 x2 x3 (ix3 s h d) = (A.dk 2048 s (128 + d) : EReal) := by
  pointwise [val_main_v89, val_main_v88, val_main_v87, val_main_v86, val_main_v13]
  simp only [ds_apply x0 x1 x2 x3 A h hz hv hg, hq, ← EReal.coe_mul, sum_coe]
  rw [Head.dk, Finset.sum_range]

theorem dk_apply (s : Fin 2048) (D : Fin 256) : val_main_v100 (F := Ideal) x0 x1 x2 x3 (ix3 s h D) = (A.dk 2048 s D : EReal) := by
  pointwise [val_main_v100]
  rw [val_main_v92, val_main_v99, pad_low _ (val_main_cst_14 (F := Ideal)) (fun i => (val_main_cst_14_apply i).trans Ideal.ofBits_zero_f32),
    pad_high _ (val_main_cst_16 (F := Ideal)) (fun i => (val_main_cst_16_apply i).trans Ideal.ofBits_zero_f32)]
  by_cases hD : D.val < 128
  · rw [dif_neg (by omega), dif_pos hD, zero_add, dk_lo x0 x1 x2 x3 A h hz hv hg hq]
  · rw [dif_pos (by omega), dif_neg hD, add_zero, dk_hi x0 x1 x2 x3 A h hz hv hg hq]
    have e : 128 + (D.val - 128) = D.val := by omega
    simp only [e]

end

omit hv in
theorem dv_apply (s : Fin 2048) (d : Fin 128) : val_main_v68 (F := Ideal) x0 x1 x3 (ix3 s h d) = (A.dv 2048 s d : EReal) := by
  pointwise [val_main_v68, val_main_v67]
  simp only [p_apply x0 x1 A h hz, hg, ← EReal.coe_mul, sum_coe]
  rw [Head.dv, Finset.sum_range]
  exact congrArg _ (Finset.sum_congr rfl fun _ _ => mul_comm _ _)

end Row

include hQ hK hG

/-- The reference's three results, at a row and a column. -/
theorem res_v (t n : Fin 2048) :
    val_main_v111 (F := Ideal) x0 x1 x3 (ix2 t n) = ((hd Q K V G (n / 128)).dv 2048 t (n % 128) : EReal) := by
  pointwise [val_main_v111, val_main_v104, val_main_v103]
  exact dv_apply x0 x1 x3 (hd Q K V G (n / 128)) ⟨n / 128, by omega⟩ (z_apply x0 x1 Q K V G hQ hK ⟨n / 128, by omega⟩)
    (fun t d => g_apply x3 Q K V G hG t ⟨n / 128, by omega⟩ d) t ⟨n % 128, by omega⟩

include hV

theorem res_q (t : Fin 2048) (n : Fin 4096) :
    val_main_v109 (F := Ideal) x0 x1 x2 x3 (ix2 t n) = ((hd Q K V G (n / 256)).dq 2048 t (n % 256) : EReal) := by
  pointwise [val_main_v109, val_main_v108, val_main_v107]
  exact dq_apply x0 x1 x2 x3 (hd Q K V G (n / 256)) ⟨n / 256, by omega⟩ (z_apply x0 x1 Q K V G hQ hK ⟨n / 256, by omega⟩)
    (fun t d => v_apply x2 Q K V G hV t ⟨n / 256, by omega⟩ d) (fun t d => g_apply x3 Q K V G hG t ⟨n / 256, by omega⟩ d)
    (fun t d => k_apply x1 Q K V G hK t ⟨n / 256, by omega⟩ d) t ⟨n % 256, by omega⟩

theorem res_k (t : Fin 2048) (n : Fin 4096) :
    val_main_v110 (F := Ideal) x0 x1 x2 x3 (ix2 t n) = ((hd Q K V G (n / 256)).dk 2048 t (n % 256) : EReal) := by
  pointwise [val_main_v110, val_main_v106, val_main_v105]
  exact dk_apply x0 x1 x2 x3 (hd Q K V G (n / 256)) ⟨n / 256, by omega⟩ (z_apply x0 x1 Q K V G hQ hK ⟨n / 256, by omega⟩)
    (fun t d => v_apply x2 Q K V G hV t ⟨n / 256, by omega⟩ d) (fun t d => g_apply x3 Q K V G hG t ⟨n / 256, by omega⟩ d)
    (fun t d => q_apply x0 Q K V G hQ t ⟨n / 256, by omega⟩ d) t ⟨n % 256, by omega⟩

end Cert.MlaAttnReferenceIdeal.Hand
end
-- ==== Proof.AttnHost.lean ====
module

public import proofs.«01_k».proof.Proof.AttnRef
public import proofs.«01_k».proof.Proof.Gen.MlaAttnIdeal.Frame
public import Idealize.ShloMosaic.Lib.Pipeline.ValueKit
public import Idealize.ShloMosaic.Lib.Claim
public import Idealize.ShloMosaic.Lib.StableHlo.RunRead

/-! The two arrays the host prepares for the kernel: the attention output and the logarithm of each row's normaliser. -/

@[expose] public section

set_option maxRecDepth 16384

noncomputable section

namespace Cert.MlaAttnIdeal.Hand

open Idealize.ShloMosaic Idealize.ShloMosaic.TcCoe Idealize.ShloMosaic.Tactic
open Idealize.ShloMosaic.Pipeline
open Cert.MlaAttnIdeal Cert.MlaAttnIdeal.Gen Stick Soft

/-- The host's scores. -/
def zz (x0 x1 : FVec Ideal S2048x4096 .bf16) : FVec Ideal S16x2048x2048 .f32 :=
  mulf (Host.dotGeneral (F := Ideal) dot_S2048x16x256_S2048x16x256_S16x2048x2048_2_2_0_0_1_1 none
      (extf .f32 (shapeCast S2048x16x256 x0 shapeCasts_S2048x4096_S2048x16x256) bitsLt_bf16_f32)
      (extf .f32 (shapeCast S2048x16x256 x1 shapeCasts_S2048x4096_S2048x16x256) bitsLt_bf16_f32))
    (broadcastInDim S16x2048x2048 ![] bcast_S_S16x2048x2048 (constant S_ .f32 0x3D93CD3A#32))

/-- Where a query sees a key. -/
def mk : IVec S16x2048x2048 1 := Cert.MlaAttnReferenceIdeal.Read.val_main_v28_1 (F := Ideal)

/-- The host's row maxima. -/
def tops (Z : FVec Ideal S16x2048x2048 .f32) : FVec Ideal S16x2048x1 .f32 :=
  broadcastInDim S16x2048x1 ![0, 1] bcast_S16x2048_S16x2048x1_0_1 (Host.reduce FloatOps.maximumf
    (select mk Z (broadcastInDim S16x2048x2048 ![] bcast_S_S16x2048x2048 (id (constant (F := Ideal) S_ .f32 0xF149F2CA#32))))
    (constant (F := Ideal) S_ .f32 0xFF800000#32) reducesTo_S16x2048x2048_S16x2048_d2 h_S_)

/-- The exponential of a score less its row's number, and zero where the key is not seen. -/
def wts (Z : FVec Ideal S16x2048x2048 .f32) (m : FVec Ideal S16x2048x1 .f32) : FVec Ideal S16x2048x2048 .f32 :=
  select mk (Host.exp (F := Ideal) (subf Z (broadcastInDim S16x2048x2048 ![0, 1, 2] bcast_S16x2048x1_S16x2048x2048_0_1_2 m)))
    (broadcastInDim S16x2048x2048 ![] bcast_S_S16x2048x2048 (id (constant (F := Ideal) S_ .f32 0x00000000#32)))

/-- The logarithms of the rows' normalisers. -/
def lses (Z : FVec Ideal S16x2048x2048 .f32) : FVec Ideal S16x2048x1 .f32 :=
  addf (tops Z) (Host.log (F := Ideal) (broadcastInDim S16x2048x1 ![0, 1] bcast_S16x2048_S16x2048x1_0_1
    (Host.reduceAdd (F := Ideal) (wts Z (tops Z)) (constant S_ .f32 0x00000000#32) reducesTo_S16x2048x2048_S16x2048_d2 h_S_)))

variable (m : (ℓ : Loc nD τ sig) → Buf (Elt Ideal) ℓ) (c : Dev nD)

set_option maxRecDepth 100000 in
theorem lse_read : (V m c main_v42 : FVec Ideal S2048x2048 .f32)
    = shapeCast S2048x2048 (broadcastInDim S2048x16x128 ![0, 1, 2] bcast_S2048x16x1_S2048x16x128_0_1_2
      (broadcastInDim S2048x16x1 ![0, 1] bcast_S2048x16_S2048x16x1_0_1 (transpose S2048x16 [1, 0]
        (shapeCast S16x2048 (lses (zz (m ((c : Thread nD τ).loc main_arg0)) (m ((c : Thread nD τ).loc main_arg1)))) shapeCasts_S16x2048x1_S16x2048)
        transposes_S16x2048_S2048x16_1_0))) shapeCasts_S2048x16x128_S2048x2048 := by
  unfold V
  simp only [List.flatten_cons, List.flatten_nil, List.append_nil]
  after_reads_simp
  rfl

set_option maxRecDepth 100000 in
theorem o_read : (V m c main_v37 : FVec Ideal S2048x2048 .bf16)
    = shapeCast S2048x2048 (truncf .bf16 (transpose S2048x16x128 [2, 0, 1]
        (Host.dotGeneral (F := Ideal) dot_S2048x16x128_S16x2048x2048_S16x128x2048_0_2_2_1_1_0 none
          (extf .f32 (extractStridedSlice S2048x16x128 ![0, 0, 128] (shapeCast S2048x16x256 (m ((c : Thread nD τ).loc main_arg2) : FVec Ideal S2048x4096 .bf16)
            shapeCasts_S2048x4096_S2048x16x256) slices_S2048x16x256_S2048x16x128_0_0_128) bitsLt_bf16_f32)
          (extf .f32 (truncf .bf16 (wts (zz (m ((c : Thread nD τ).loc main_arg0)) (m ((c : Thread nD τ).loc main_arg1)))
            (lses (zz (m ((c : Thread nD τ).loc main_arg0)) (m ((c : Thread nD τ).loc main_arg1))))) bitsLt_bf16_f32) bitsLt_bf16_f32))
        transposes_S16x128x2048_S2048x16x128_2_0_1) bitsLt_bf16_f32) shapeCasts_S2048x16x128_S2048x2048 := by
  unfold V
  simp only [List.flatten_cons, List.flatten_nil, List.append_nil]
  after_reads_simp
  rfl

section Row

variable {Z : FVec Ideal S16x2048x2048 .f32} {A : Head} {h : Fin 16} (hz : ∀ t s : Fin 2048, Z (ix3 h t s) = (A.z t s : EReal))

theorem mk_apply (h : Fin 16) (t s : Fin 2048) : mk (ix3 h t s) = if s.val / 64 ≤ t.val / 64 then 1#1 else 0#1 :=
  Cert.MlaAttnReferenceIdeal.Hand.mask_apply h t s

theorem low_real : ∃ r : ℝ, id (constant (F := Ideal) S_ FTy.f32 0xF149F2CA#32) ix0 = (r : EReal) := Soft.ofBits_low

include hz

theorem zm_real (t s : Fin 2048) : ∃ r : ℝ, select mk Z (broadcastInDim S16x2048x2048 ![] bcast_S_S16x2048x2048
    (id (constant (F := Ideal) S_ .f32 0xF149F2CA#32))) (ix3 h t s) = (r : EReal) := by
  obtain ⟨l, hl⟩ := low_real
  pointwise
  rw [mk_apply, select_ite]
  split
  · exact ⟨_, hz t s⟩
  · exact ⟨l, hl⟩

theorem tops_real (t : Fin 2048) : ∃ M : ℝ, tops Z (ix3 h t (0 : Fin 1)) = (M : EReal) := by
  obtain ⟨M, hM⟩ := Cert.MlaAttnReferenceIdeal.Hand.max_apply (select mk Z (broadcastInDim S16x2048x2048 ![] bcast_S_S16x2048x2048
    (id (constant (F := Ideal) S_ .f32 0xF149F2CA#32)))) (constant (F := Ideal) S_ .f32 0xFF800000#32) Soft.ofBits_bot h t
    (fun k => by obtain ⟨r, hr⟩ := zm_real hz t k; rw [hr]; exact EReal.coe_ne_top r)
    ⟨t, by obtain ⟨r, hr⟩ := zm_real hz t t; rw [hr]; exact EReal.coe_ne_bot r⟩
  have e : ∀ a : FVec Ideal S16x2048 .f32, broadcastInDim S16x2048x1 ![0, 1] bcast_S16x2048_S16x2048x1_0_1 a (ix3 h t (0 : Fin 1)) = a (ix2 h t) :=
    fun a => by pointwise
  refine ⟨M, ?_⟩
  unfold tops
  rw [e]
  exact hM

omit hz in
theorem wts_apply {h : Fin 16} {n : FVec Ideal S16x2048x1 .f32} {t s : Fin 2048} {z M : ℝ} (hz : Z (ix3 h t s) = (z : EReal)) (hn : n (ix3 h t (0 : Fin 1)) = (M : EReal)) :
    wts Z n (ix3 h t s) = ((if s.val / 64 ≤ t.val / 64 then Real.exp (z - M) else 0 : ℝ) : EReal) := by
  pointwise [wts]
  rw [mk_apply, hz, hn, select_ite]
  split
  · rw [← EReal.coe_sub, Ideal.exp_coe]
  · exact Ideal.ofBits_zero_f32

theorem lses_apply (t : Fin 2048) : lses Z (ix3 h t (0 : Fin 1)) = (A.lse t : EReal) := by
  obtain ⟨M, hM⟩ := tops_real hz t
  have hs : Host.reduceAdd (F := Ideal) (wts Z (tops Z)) (constant S_ .f32 0x00000000#32) reducesTo_S16x2048x2048_S16x2048_d2 h_S_ (ix2 h t)
      = ((∑ k ∈ Finset.range 2048, A.es M t k : ℝ) : EReal) :=
    Cert.MlaAttnReferenceIdeal.Hand.sum_apply _ _ (fun i => Ideal.ofBits_zero_f32) (A.es M t) h t (fun k => wts_apply (hz t k) hM)
  unfold lses
  have e : ∀ (a : FVec Ideal S16x2048x1 .f32) (b : FVec Ideal S16x2048 .f32), addf a (Host.log (F := Ideal) (broadcastInDim S16x2048x1 ![0, 1]
      bcast_S16x2048_S16x2048x1_0_1 b)) (ix3 h t (0 : Fin 1)) = a (ix3 h t (0 : Fin 1)) + Ideal.log (b (ix2 h t)) := fun a b => by pointwise
  rw [e, hM, hs, Ideal.log_coe, if_neg (not_le.mpr (A.sum_es_pos M t.isLt)), ← EReal.coe_add, A.lse_of_shift M t.isLt]

theorem p_apply (t s : Fin 2048) : wts Z (lses Z) (ix3 h t s) = (A.p t s : EReal) :=
  wts_apply (hz t s) (lses_apply hz t)

end Row

variable (Q K W G : ℕ → ℕ → ℝ)
variable (hQ : ∀ (t : Fin 2048) (n : Fin 4096), m ((c : Thread nD τ).loc main_arg0) (ix2 t n) = (Q t n : EReal))
variable (hK : ∀ (t : Fin 2048) (n : Fin 4096), m ((c : Thread nD τ).loc main_arg1) (ix2 t n) = (K t n : EReal))
variable (hV : ∀ (t : Fin 2048) (n : Fin 4096), m ((c : Thread nD τ).loc main_arg2) (ix2 t n) = (W t n : EReal))

theorem zz_apply {x0 x1 : FVec Ideal S2048x4096 .bf16} (hQ : ∀ (t : Fin 2048) (n : Fin 4096), x0 (ix2 t n) = (Q t n : EReal))
    (hK : ∀ (t : Fin 2048) (n : Fin 4096), x1 (ix2 t n) = (K t n : EReal)) (h : Fin 16) (t s : Fin 2048) :
    zz x0 x1 (ix3 h t s) = ((hd Q K W G h).z t s : EReal) := by
  pointwise [zz]
  exact z_val (fun d => hQ t ⟨h * 256 + d, by omega⟩) (fun d => hK s ⟨h * 256 + d, by omega⟩)

include hQ hK in
/-- The host's logarithm of a row's normaliser, on all of its head's lanes. -/
theorem lse_apply (t n : Fin 2048) : V m c main_v42 (ix2 t n) = ((hd Q K W G (n / 128)).lse t : EReal) := by
  rw [lse_read]
  have e := lses_apply (zz_apply Q K W G hQ hK ⟨n.val / 128, by omega⟩) t
  generalize lses _ = L at e ⊢
  pointwise
  exact e

include hQ hK hV in
/-- The host's attention output. -/
theorem o_apply (t n : Fin 2048) : V m c main_v37 (ix2 t n) = ((hd Q K W G (n / 128)).o t (n % 128) : EReal) := by
  rw [o_read]
  have e := p_apply (zz_apply Q K W G hQ hK ⟨n.val / 128, by omega⟩) t
  generalize wts _ _ = P at e ⊢
  pointwise
  simp only [hV, e]
  simp only [← EReal.coe_mul]
  refine (sum_coe (Finset.univ : Finset (Fin 2048)) _).trans ?_
  rw [Head.o, Finset.sum_range]
  exact congrArg _ (Finset.sum_congr rfl fun s _ => mul_comm _ _)

end Cert.MlaAttnIdeal.Hand

end

end
-- ==== Proof.AttnBlock.lean ====
module

public import proofs.«01_k».proof.Proof.SoftSpec
public import proofs.«01_k».proof.Proof.Gen.MlaAttnIdeal.Skeleton
public import Idealize.ShloMosaic.Lib.Pointwise
public import Idealize.ShloMosaic.Lib.IdealHost

/-! One block of the softmax attention's backward kernel: 512 queries against 256 keys, for each of the two heads a grid
point handles.

`T` is the block's first query row and `S` its first key row. Each lemma reads one value the body computes at a row
and a column and names the real number it holds. -/

@[expose] public section

set_option maxRecDepth 16384

noncomputable section

namespace Cert.MlaAttnIdeal.Hand

open Cert.MlaAttnIdeal Cert.MlaAttnIdeal.Gen Idealize.ShloMosaic Soft

variable {A : Head} {T S : ℕ}

theorem chunk_val {u : ArithUnit} {x y : BitVec 32} {r c : ℕ} (hx : x = BitVec.ofNat 32 S) (hy : y = BitVec.ofNat 32 T) (hS : S + c < 2 ^ 31)
    (hT : T + r < 2 ^ 31) : IntOp.cmpi .sle (IntOp.shrsi u (IntOp.addi x (BitVec.ofNat 32 c)) 6#32) (IntOp.shrsi u (IntOp.addi y (BitVec.ofNat 32 r)) 6#32)
      = if (S + c) / 64 ≤ (T + r) / 64 then 1#1 else 0#1 := by
  have e1 : IntOp.addi x (BitVec.ofNat 32 c) = BitVec.ofNat 32 (S + c) := by rw [hx, BitVec.ofNat_add]; rfl
  have e2 : IntOp.addi y (BitVec.ofNat 32 r) = BitVec.ofNat 32 (T + r) := by rw [hy, BitVec.ofNat_add]; rfl
  rw [e1, e2, shr_word _ _ hS, shr_word _ _ hT, Stick.sle_word _ _ (by omega) (by omega)]

theorem pay17_apply {gb : Vec Ideal S512x128 .bf16} (hg : ∀ (r : Fin 512) (d : Fin 128), gb (ix2 r d) = (A.g (T + r) d : EReal))
    {ob : Vec Ideal S512x128 .bf16} (ho : ∀ (r : Fin 512) (d : Fin 128), ob (ix2 r d) = (A.o (T + r) d : EReal))
    (r : Fin 512) : k0_pay17 gb ob (ix2 r 0) = (A.dl (T + r) : EReal) := by
  pointwise [k0_pay17]
  rw [dot_val (hg r) (ho r), Head.dl]

theorem pay18_apply {gb : Vec Ideal S512x128 .bf16} (hg : ∀ (r : Fin 512) (d : Fin 128), gb (ix2 r d) = (A.g (T + r) d : EReal))
    {ob : Vec Ideal S512x128 .bf16} (ho : ∀ (r : Fin 512) (d : Fin 128), ob (ix2 r d) = (A.o (T + r) d : EReal))
    (r : Fin 512) : k0_pay18 gb ob (ix2 r 0) = (A.dl (T + r) : EReal) := by
  pointwise [k0_pay18]
  rw [dot_val (hg r) (ho r), Head.dl]

theorem pay3_apply (hS : S + 256 ≤ T)
    {qb : Vec Ideal S512x256 .bf16} (hq : ∀ (r : Fin 512) (d : Fin 256), qb (ix2 r d) = (A.q (T + r) d : EReal))
    {lb : FVec Ideal S512x1 .f32} (hl : ∀ r : Fin 512, lb (ix2 r 0) = (A.lse (T + r) : EReal))
    {kb : Vec Ideal S256x256 .bf16} (hk : ∀ (c : Fin 256) (d : Fin 256), kb (ix2 c d) = (A.k (S + c) d : EReal))
    (r : Fin 512) (c : Fin 256) : k0_pay3 qb lb kb (ix2 r c) = (A.p (T + r) (S + c) : EReal) := by
  pointwise [k0_pay3]
  exact p_val_live (Nat.div_le_div_right (by omega)) (hq r) (hk c) (hl r)

theorem pay4_apply (hS : S + 256 ≤ T)
    {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {db : FVec Ideal S512x1 .f32} (hd : ∀ r : Fin 512, db (ix2 r 0) = (A.dl (T + r) : EReal))
    {kb : Vec Ideal S256x256 .bf16} (hk : ∀ (c : Fin 256) (d : Fin 256), kb (ix2 c d) = (A.k (S + c) d : EReal))
    {vb : Vec Ideal S256x128 .bf16} (hv : ∀ (c : Fin 256) (d : Fin 128), vb (ix2 c d) = (A.v (S + c) d : EReal))
    (r : Fin 512) (c : Fin 256) : k0_pay4 qb gb lb db kb vb (ix2 r c) = (A.ds (T + r) (S + c) : EReal) := by
  pointwise [k0_pay4]
  exact ds_val (pay3_apply hS hq hl hk r c) (hg r) (hv c) (hd r)

theorem pay5_apply (hS : S + 256 ≤ T)
    {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {db : FVec Ideal S512x1 .f32} (hd : ∀ r : Fin 512, db (ix2 r 0) = (A.dl (T + r) : EReal))
    {kb : Vec Ideal S256x256 .bf16} (hk : ∀ (c : Fin 256) (d : Fin 256), kb (ix2 c d) = (A.k (S + c) d : EReal))
    {vb : Vec Ideal S256x128 .bf16} (hv : ∀ (c : Fin 256) (d : Fin 128), vb (ix2 c d) = (A.v (S + c) d : EReal))
    {dkb : FVec Ideal S256x256 .f32} (hdk : ∀ (c : Fin 256) (d : Fin 256), dkb (ix2 c d) = (A.dk T (S + c) d : EReal))
    (c : Fin 256) (d : Fin 256) : k0_pay5 qb gb lb db kb vb dkb (ix2 c d) = (A.dk (T + 512) (S + c) d : EReal) := by
  pointwise [k0_pay5]
  exact prod_val (f := fun t => A.ds t (S + c)) (h := fun t => A.q t d) (hdk c d) (fun r => pay4_apply hS hq hg hl hd hk hv r c) (fun r => hq r d)

theorem pay6_apply (hS : S + 256 ≤ T)
    {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {kb : Vec Ideal S256x256 .bf16} (hk : ∀ (c : Fin 256) (d : Fin 256), kb (ix2 c d) = (A.k (S + c) d : EReal))
    {dvb : FVec Ideal S256x128 .f32} (hdv : ∀ (c : Fin 256) (d : Fin 128), dvb (ix2 c d) = (A.dv T (S + c) d : EReal))
    (c : Fin 256) (d : Fin 128) : k0_pay6 qb gb lb kb dvb (ix2 c d) = (A.dv (T + 512) (S + c) d : EReal) := by
  pointwise [k0_pay6]
  exact prod_val (f := fun t => A.p t (S + c)) (h := fun t => A.g t d) (hdv c d) (fun r => pay3_apply hS hq hl hk r c) (fun r => hg r d)

theorem pay7_apply (hS : S + 256 ≤ T)
    {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {db : FVec Ideal S512x1 .f32} (hd : ∀ r : Fin 512, db (ix2 r 0) = (A.dl (T + r) : EReal))
    {dqb : FVec Ideal S512x256 .f32} (hdq : ∀ (r : Fin 512) (d : Fin 256), dqb (ix2 r d) = (A.dq S (T + r) d : EReal))
    {kb : Vec Ideal S256x256 .bf16} (hk : ∀ (c : Fin 256) (d : Fin 256), kb (ix2 c d) = (A.k (S + c) d : EReal))
    {vb : Vec Ideal S256x128 .bf16} (hv : ∀ (c : Fin 256) (d : Fin 128), vb (ix2 c d) = (A.v (S + c) d : EReal))
    (r : Fin 512) (d : Fin 256) : k0_pay7 qb gb lb db dqb kb vb (ix2 r d) = (A.dq (S + 256) (T + r) d : EReal) := by
  pointwise [k0_pay7]
  exact prod_val (f := fun s => A.ds (T + r) s) (h := fun s => A.k s d) (hdq r d) (fun c => pay4_apply hS hq hg hl hd hk hv r c) (fun c => hk c d)

theorem pay20_apply (hS : S + 256 ≤ T)
    {qb : Vec Ideal S512x256 .bf16} (hq : ∀ (r : Fin 512) (d : Fin 256), qb (ix2 r d) = (A.q (T + r) d : EReal))
    {lb : FVec Ideal S512x1 .f32} (hl : ∀ r : Fin 512, lb (ix2 r 0) = (A.lse (T + r) : EReal))
    {kb : Vec Ideal S256x256 .bf16} (hk : ∀ (c : Fin 256) (d : Fin 256), kb (ix2 c d) = (A.k (S + c) d : EReal))
    (r : Fin 512) (c : Fin 256) : k0_pay20 qb lb kb (ix2 r c) = (A.p (T + r) (S + c) : EReal) := by
  pointwise [k0_pay20]
  exact p_val_live (Nat.div_le_div_right (by omega)) (hq r) (hk c) (hl r)

theorem pay21_apply (hS : S + 256 ≤ T)
    {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {db : FVec Ideal S512x1 .f32} (hd : ∀ r : Fin 512, db (ix2 r 0) = (A.dl (T + r) : EReal))
    {kb : Vec Ideal S256x256 .bf16} (hk : ∀ (c : Fin 256) (d : Fin 256), kb (ix2 c d) = (A.k (S + c) d : EReal))
    {vb : Vec Ideal S256x128 .bf16} (hv : ∀ (c : Fin 256) (d : Fin 128), vb (ix2 c d) = (A.v (S + c) d : EReal))
    (r : Fin 512) (c : Fin 256) : k0_pay21 qb gb lb db kb vb (ix2 r c) = (A.ds (T + r) (S + c) : EReal) := by
  pointwise [k0_pay21]
  exact ds_val (pay20_apply hS hq hl hk r c) (hg r) (hv c) (hd r)

theorem pay22_apply (hS : S + 256 ≤ T)
    {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {db : FVec Ideal S512x1 .f32} (hd : ∀ r : Fin 512, db (ix2 r 0) = (A.dl (T + r) : EReal))
    {kb : Vec Ideal S256x256 .bf16} (hk : ∀ (c : Fin 256) (d : Fin 256), kb (ix2 c d) = (A.k (S + c) d : EReal))
    {vb : Vec Ideal S256x128 .bf16} (hv : ∀ (c : Fin 256) (d : Fin 128), vb (ix2 c d) = (A.v (S + c) d : EReal))
    {dkb : FVec Ideal S256x256 .f32} (hdk : ∀ (c : Fin 256) (d : Fin 256), dkb (ix2 c d) = (A.dk T (S + c) d : EReal))
    (c : Fin 256) (d : Fin 256) : k0_pay22 qb gb lb db kb vb dkb (ix2 c d) = (A.dk (T + 512) (S + c) d : EReal) := by
  pointwise [k0_pay22]
  exact prod_val (f := fun t => A.ds t (S + c)) (h := fun t => A.q t d) (hdk c d) (fun r => pay21_apply hS hq hg hl hd hk hv r c) (fun r => hq r d)

theorem pay23_apply (hS : S + 256 ≤ T)
    {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {kb : Vec Ideal S256x256 .bf16} (hk : ∀ (c : Fin 256) (d : Fin 256), kb (ix2 c d) = (A.k (S + c) d : EReal))
    {dvb : FVec Ideal S256x128 .f32} (hdv : ∀ (c : Fin 256) (d : Fin 128), dvb (ix2 c d) = (A.dv T (S + c) d : EReal))
    (c : Fin 256) (d : Fin 128) : k0_pay23 qb gb lb kb dvb (ix2 c d) = (A.dv (T + 512) (S + c) d : EReal) := by
  pointwise [k0_pay23]
  exact prod_val (f := fun t => A.p t (S + c)) (h := fun t => A.g t d) (hdv c d) (fun r => pay20_apply hS hq hl hk r c) (fun r => hg r d)

theorem pay24_apply (hS : S + 256 ≤ T)
    {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {db : FVec Ideal S512x1 .f32} (hd : ∀ r : Fin 512, db (ix2 r 0) = (A.dl (T + r) : EReal))
    {dqb : FVec Ideal S512x256 .f32} (hdq : ∀ (r : Fin 512) (d : Fin 256), dqb (ix2 r d) = (A.dq S (T + r) d : EReal))
    {kb : Vec Ideal S256x256 .bf16} (hk : ∀ (c : Fin 256) (d : Fin 256), kb (ix2 c d) = (A.k (S + c) d : EReal))
    {vb : Vec Ideal S256x128 .bf16} (hv : ∀ (c : Fin 256) (d : Fin 128), vb (ix2 c d) = (A.v (S + c) d : EReal))
    (r : Fin 512) (d : Fin 256) : k0_pay24 qb gb lb db dqb kb vb (ix2 r d) = (A.dq (S + 256) (T + r) d : EReal) := by
  pointwise [k0_pay24]
  exact prod_val (f := fun s => A.ds (T + r) s) (h := fun s => A.k s d) (hdq r d) (fun c => pay21_apply hS hq hg hl hd hk hv r c) (fun c => hk c d)

theorem pay30_apply {i1 : BitVec 32} (e2 : Scalar.muli i1 512#32 = BitVec.ofNat 32 T)
    {w : BitVec 32} (e1 : Scalar.muli w 256#32 = BitVec.ofNat 32 S)
    (b1 : S + 256 ≤ 4096)
    (b2 : T + 512 ≤ 4096)
    (r : Fin 512) (c : Fin 256) : k0_pay30 i1 w (ix2 r c) = if (S + c) / 64 ≤ (T + r) / 64 then 1#1 else 0#1 := by
  pointwise [k0_pay30]
  exact chunk_val e1 e2 (by omega) (by omega)

theorem pay31_apply {i1 : BitVec 32} (e2 : Scalar.muli i1 512#32 = BitVec.ofNat 32 T)
    {w : BitVec 32} (e1 : Scalar.muli w 256#32 = BitVec.ofNat 32 S)
    (b1 : S + 256 ≤ 4096)
    (b2 : T + 512 ≤ 4096)
    {qb : Vec Ideal S512x256 .bf16} (hq : ∀ (r : Fin 512) (d : Fin 256), qb (ix2 r d) = (A.q (T + r) d : EReal))
    {lb : FVec Ideal S512x1 .f32} (hl : ∀ r : Fin 512, lb (ix2 r 0) = (A.lse (T + r) : EReal))
    {kb : Vec Ideal S256x256 .bf16} (hk : ∀ (c : Fin 256) (d : Fin 256), kb (ix2 c d) = (A.k (S + c) d : EReal))
    (r : Fin 512) (c : Fin 256) : k0_pay31 i1 qb lb w kb (ix2 r c) = (A.p (T + r) (S + c) : EReal) := by
  pointwise [k0_pay31]
  exact p_val (pay30_apply e2 e1 b1 b2 r c) (hq r) (hk c) (hl r)

theorem pay32_apply {i1 : BitVec 32} (e2 : Scalar.muli i1 512#32 = BitVec.ofNat 32 T)
    {w : BitVec 32} (e1 : Scalar.muli w 256#32 = BitVec.ofNat 32 S)
    (b1 : S + 256 ≤ 4096)
    (b2 : T + 512 ≤ 4096)
    {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {db : FVec Ideal S512x1 .f32} (hd : ∀ r : Fin 512, db (ix2 r 0) = (A.dl (T + r) : EReal))
    {kb : Vec Ideal S256x256 .bf16} (hk : ∀ (c : Fin 256) (d : Fin 256), kb (ix2 c d) = (A.k (S + c) d : EReal))
    {vb : Vec Ideal S256x128 .bf16} (hv : ∀ (c : Fin 256) (d : Fin 128), vb (ix2 c d) = (A.v (S + c) d : EReal))
    (r : Fin 512) (c : Fin 256) : k0_pay32 i1 qb gb lb db w kb vb (ix2 r c) = (A.ds (T + r) (S + c) : EReal) := by
  pointwise [k0_pay32]
  exact ds_val (pay31_apply e2 e1 b1 b2 hq hl hk r c) (hg r) (hv c) (hd r)

theorem pay33_apply {qb : Vec Ideal S512x256 .bf16} (hq : ∀ (r : Fin 512) (d : Fin 256), qb (ix2 r d) = (A.q (T + r) d : EReal))
    {sb : FVec Ideal S512x256 .bf16} (hs : ∀ (r : Fin 512) (c : Fin 256), sb (ix2 r c) = (A.ds (T + r) (S + c) : EReal))
    {dkb : FVec Ideal S256x256 .f32} (hdk : ∀ (c : Fin 256) (d : Fin 256), dkb (ix2 c d) = (A.dk T (S + c) d : EReal))
    (c : Fin 256) (d : Fin 256) : k0_pay33 qb sb dkb (ix2 c d) = (A.dk (T + 512) (S + c) d : EReal) := by
  pointwise [k0_pay33]
  exact prod_val (f := fun t => A.ds t (S + c)) (h := fun t => A.q t d) (hdk c d) (fun r => hs r c) (fun r => hq r d)

theorem pay34_apply {gb : Vec Ideal S512x128 .bf16} (hg : ∀ (r : Fin 512) (d : Fin 128), gb (ix2 r d) = (A.g (T + r) d : EReal))
    {pb : FVec Ideal S512x256 .f32} (hp : ∀ (r : Fin 512) (c : Fin 256), pb (ix2 r c) = (A.p (T + r) (S + c) : EReal))
    {dvb : FVec Ideal S256x128 .f32} (hdv : ∀ (c : Fin 256) (d : Fin 128), dvb (ix2 c d) = (A.dv T (S + c) d : EReal))
    (c : Fin 256) (d : Fin 128) : k0_pay34 gb pb dvb (ix2 c d) = (A.dv (T + 512) (S + c) d : EReal) := by
  pointwise [k0_pay34]
  exact prod_val (f := fun t => A.p t (S + c)) (h := fun t => A.g t d) (hdv c d) (fun r => hp r c) (fun r => hg r d)

theorem pay35_apply {dqb : FVec Ideal S512x256 .f32} (hdq : ∀ (r : Fin 512) (d : Fin 256), dqb (ix2 r d) = (A.dq S (T + r) d : EReal))
    {kb : Vec Ideal S256x256 .bf16} (hk : ∀ (c : Fin 256) (d : Fin 256), kb (ix2 c d) = (A.k (S + c) d : EReal))
    {sb : FVec Ideal S512x256 .bf16} (hs : ∀ (r : Fin 512) (c : Fin 256), sb (ix2 r c) = (A.ds (T + r) (S + c) : EReal))
    (r : Fin 512) (d : Fin 256) : k0_pay35 dqb kb sb (ix2 r d) = (A.dq (S + 256) (T + r) d : EReal) := by
  pointwise [k0_pay35]
  exact prod_val (f := fun s => A.ds (T + r) s) (h := fun s => A.k s d) (hdq r d) (fun c => hs r c) (fun c => hk c d)

theorem pay36_apply {qb : Vec Ideal S512x256 .bf16} (hq : ∀ (r : Fin 512) (d : Fin 256), qb (ix2 r d) = (A.q (T + r) d : EReal))
    {lb : FVec Ideal S512x1 .f32} (hl : ∀ r : Fin 512, lb (ix2 r 0) = (A.lse (T + r) : EReal))
    {mk : IVec S512x256 1} (hm : ∀ (r : Fin 512) (c : Fin 256), mk (ix2 r c) = if (S + c) / 64 ≤ (T + r) / 64 then 1#1 else 0#1)
    {kb : Vec Ideal S256x256 .bf16} (hk : ∀ (c : Fin 256) (d : Fin 256), kb (ix2 c d) = (A.k (S + c) d : EReal))
    (r : Fin 512) (c : Fin 256) : k0_pay36 qb lb mk kb (ix2 r c) = (A.p (T + r) (S + c) : EReal) := by
  pointwise [k0_pay36]
  exact p_val (hm r c) (hq r) (hk c) (hl r)

theorem pay37_apply {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {db : FVec Ideal S512x1 .f32} (hd : ∀ r : Fin 512, db (ix2 r 0) = (A.dl (T + r) : EReal))
    {mk : IVec S512x256 1} (hm : ∀ (r : Fin 512) (c : Fin 256), mk (ix2 r c) = if (S + c) / 64 ≤ (T + r) / 64 then 1#1 else 0#1)
    {kb : Vec Ideal S256x256 .bf16} (hk : ∀ (c : Fin 256) (d : Fin 256), kb (ix2 c d) = (A.k (S + c) d : EReal))
    {vb : Vec Ideal S256x128 .bf16} (hv : ∀ (c : Fin 256) (d : Fin 128), vb (ix2 c d) = (A.v (S + c) d : EReal))
    (r : Fin 512) (c : Fin 256) : k0_pay37 qb gb lb db mk kb vb (ix2 r c) = (A.ds (T + r) (S + c) : EReal) := by
  pointwise [k0_pay37]
  exact ds_val (pay36_apply hq hl hm hk r c) (hg r) (hv c) (hd r)

theorem pay38_apply {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {db : FVec Ideal S512x1 .f32} (hd : ∀ r : Fin 512, db (ix2 r 0) = (A.dl (T + r) : EReal))
    {mk : IVec S512x256 1} (hm : ∀ (r : Fin 512) (c : Fin 256), mk (ix2 r c) = if (S + c) / 64 ≤ (T + r) / 64 then 1#1 else 0#1)
    {kb : Vec Ideal S256x256 .bf16} (hk : ∀ (c : Fin 256) (d : Fin 256), kb (ix2 c d) = (A.k (S + c) d : EReal))
    {vb : Vec Ideal S256x128 .bf16} (hv : ∀ (c : Fin 256) (d : Fin 128), vb (ix2 c d) = (A.v (S + c) d : EReal))
    {dkb : FVec Ideal S256x256 .f32} (hdk : ∀ (c : Fin 256) (d : Fin 256), dkb (ix2 c d) = (A.dk T (S + c) d : EReal))
    (c : Fin 256) (d : Fin 256) : k0_pay38 qb gb lb db mk kb vb dkb (ix2 c d) = (A.dk (T + 512) (S + c) d : EReal) := by
  pointwise [k0_pay38]
  exact prod_val (f := fun t => A.ds t (S + c)) (h := fun t => A.q t d) (hdk c d) (fun r => pay37_apply hq hg hl hd hm hk hv r c) (fun r => hq r d)

theorem pay39_apply {gb : Vec Ideal S512x128 .bf16} (hg : ∀ (r : Fin 512) (d : Fin 128), gb (ix2 r d) = (A.g (T + r) d : EReal))
    {pb : FVec Ideal S512x256 .f32} (hp : ∀ (r : Fin 512) (c : Fin 256), pb (ix2 r c) = (A.p (T + r) (S + c) : EReal))
    {dvb : FVec Ideal S256x128 .f32} (hdv : ∀ (c : Fin 256) (d : Fin 128), dvb (ix2 c d) = (A.dv T (S + c) d : EReal))
    (c : Fin 256) (d : Fin 128) : k0_pay39 gb pb dvb (ix2 c d) = (A.dv (T + 512) (S + c) d : EReal) := by
  pointwise [k0_pay39]
  exact prod_val (f := fun t => A.p t (S + c)) (h := fun t => A.g t d) (hdv c d) (fun r => hp r c) (fun r => hg r d)

theorem pay40_apply {dqb : FVec Ideal S512x256 .f32} (hdq : ∀ (r : Fin 512) (d : Fin 256), dqb (ix2 r d) = (A.dq S (T + r) d : EReal))
    {kb : Vec Ideal S256x256 .bf16} (hk : ∀ (c : Fin 256) (d : Fin 256), kb (ix2 c d) = (A.k (S + c) d : EReal))
    {sb : FVec Ideal S512x256 .bf16} (hs : ∀ (r : Fin 512) (c : Fin 256), sb (ix2 r c) = (A.ds (T + r) (S + c) : EReal))
    (r : Fin 512) (d : Fin 256) : k0_pay40 dqb kb sb (ix2 r d) = (A.dq (S + 256) (T + r) d : EReal) := by
  pointwise [k0_pay40]
  exact prod_val (f := fun s => A.ds (T + r) s) (h := fun s => A.k s d) (hdq r d) (fun c => hs r c) (fun c => hk c d)

theorem pay41_apply {i1 : BitVec 32} (e2 : Scalar.muli i1 512#32 = BitVec.ofNat 32 T)
    {w : BitVec 32} (e1 : Scalar.muli w 256#32 = BitVec.ofNat 32 S)
    (b1 : S + 256 ≤ 4096)
    (b2 : T + 512 ≤ 4096)
    (r : Fin 512) (c : Fin 256) : k0_pay41 i1 w (ix2 r c) = if (S + c) / 64 ≤ (T + r) / 64 then 1#1 else 0#1 := by
  pointwise [k0_pay41]
  exact chunk_val e1 e2 (by omega) (by omega)

theorem pay42_apply {i1 : BitVec 32} (e2 : Scalar.muli i1 512#32 = BitVec.ofNat 32 T)
    {w : BitVec 32} (e1 : Scalar.muli w 256#32 = BitVec.ofNat 32 S)
    (b1 : S + 256 ≤ 4096)
    (b2 : T + 512 ≤ 4096)
    {qb : Vec Ideal S512x256 .bf16} (hq : ∀ (r : Fin 512) (d : Fin 256), qb (ix2 r d) = (A.q (T + r) d : EReal))
    {lb : FVec Ideal S512x1 .f32} (hl : ∀ r : Fin 512, lb (ix2 r 0) = (A.lse (T + r) : EReal))
    {kb : Vec Ideal S256x256 .bf16} (hk : ∀ (c : Fin 256) (d : Fin 256), kb (ix2 c d) = (A.k (S + c) d : EReal))
    (r : Fin 512) (c : Fin 256) : k0_pay42 i1 qb lb w kb (ix2 r c) = (A.p (T + r) (S + c) : EReal) := by
  pointwise [k0_pay42]
  exact p_val (pay41_apply e2 e1 b1 b2 r c) (hq r) (hk c) (hl r)

theorem pay43_apply {i1 : BitVec 32} (e2 : Scalar.muli i1 512#32 = BitVec.ofNat 32 T)
    {w : BitVec 32} (e1 : Scalar.muli w 256#32 = BitVec.ofNat 32 S)
    (b1 : S + 256 ≤ 4096)
    (b2 : T + 512 ≤ 4096)
    {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {db : FVec Ideal S512x1 .f32} (hd : ∀ r : Fin 512, db (ix2 r 0) = (A.dl (T + r) : EReal))
    {kb : Vec Ideal S256x256 .bf16} (hk : ∀ (c : Fin 256) (d : Fin 256), kb (ix2 c d) = (A.k (S + c) d : EReal))
    {vb : Vec Ideal S256x128 .bf16} (hv : ∀ (c : Fin 256) (d : Fin 128), vb (ix2 c d) = (A.v (S + c) d : EReal))
    (r : Fin 512) (c : Fin 256) : k0_pay43 i1 qb gb lb db w kb vb (ix2 r c) = (A.ds (T + r) (S + c) : EReal) := by
  pointwise [k0_pay43]
  exact ds_val (pay42_apply e2 e1 b1 b2 hq hl hk r c) (hg r) (hv c) (hd r)

theorem pay44_apply {sb : FVec Ideal S512x256 .f32} (hf : ∀ (r : Fin 512) (c : Fin 256), sb (ix2 r c) = (A.ds (T + r) (S + c) : EReal))
    (r : Fin 512) (c : Fin 256) : k0_pay44 sb (ix2 r c) = (A.ds (T + r) (S + c) : EReal) := by
  pointwise [k0_pay44]
  exact hf r c

theorem pay45_apply {qb : Vec Ideal S512x256 .bf16} (hq : ∀ (r : Fin 512) (d : Fin 256), qb (ix2 r d) = (A.q (T + r) d : EReal))
    {sb : FVec Ideal S512x256 .f32} (hf : ∀ (r : Fin 512) (c : Fin 256), sb (ix2 r c) = (A.ds (T + r) (S + c) : EReal))
    {dkb : FVec Ideal S256x256 .f32} (hdk : ∀ (c : Fin 256) (d : Fin 256), dkb (ix2 c d) = (A.dk T (S + c) d : EReal))
    (c : Fin 256) (d : Fin 256) : k0_pay45 qb sb dkb (ix2 c d) = (A.dk (T + 512) (S + c) d : EReal) := by
  pointwise [k0_pay45]
  exact prod_val (f := fun t => A.ds t (S + c)) (h := fun t => A.q t d) (hdk c d) (fun r => pay44_apply hf r c) (fun r => hq r d)

theorem pay46_apply {gb : Vec Ideal S512x128 .bf16} (hg : ∀ (r : Fin 512) (d : Fin 128), gb (ix2 r d) = (A.g (T + r) d : EReal))
    {pb : FVec Ideal S512x256 .f32} (hp : ∀ (r : Fin 512) (c : Fin 256), pb (ix2 r c) = (A.p (T + r) (S + c) : EReal))
    {dvb : FVec Ideal S256x128 .f32} (hdv : ∀ (c : Fin 256) (d : Fin 128), dvb (ix2 c d) = (A.dv T (S + c) d : EReal))
    (c : Fin 256) (d : Fin 128) : k0_pay46 gb pb dvb (ix2 c d) = (A.dv (T + 512) (S + c) d : EReal) := by
  pointwise [k0_pay46]
  exact prod_val (f := fun t => A.p t (S + c)) (h := fun t => A.g t d) (hdv c d) (fun r => hp r c) (fun r => hg r d)

theorem pay47_apply {dqb : FVec Ideal S512x256 .f32} (hdq : ∀ (r : Fin 512) (d : Fin 256), dqb (ix2 r d) = (A.dq S (T + r) d : EReal))
    {kb : Vec Ideal S256x256 .bf16} (hk : ∀ (c : Fin 256) (d : Fin 256), kb (ix2 c d) = (A.k (S + c) d : EReal))
    {sb : FVec Ideal S512x256 .f32} (hf : ∀ (r : Fin 512) (c : Fin 256), sb (ix2 r c) = (A.ds (T + r) (S + c) : EReal))
    (r : Fin 512) (d : Fin 256) : k0_pay47 dqb kb sb (ix2 r d) = (A.dq (S + 256) (T + r) d : EReal) := by
  pointwise [k0_pay47]
  exact prod_val (f := fun s => A.ds (T + r) s) (h := fun s => A.k s d) (hdq r d) (fun c => pay44_apply hf r c) (fun c => hk c d)

theorem pay48_apply {qb : Vec Ideal S512x256 .bf16} (hq : ∀ (r : Fin 512) (d : Fin 256), qb (ix2 r d) = (A.q (T + r) d : EReal))
    {lb : FVec Ideal S512x1 .f32} (hl : ∀ r : Fin 512, lb (ix2 r 0) = (A.lse (T + r) : EReal))
    {mk : IVec S512x256 1} (hm : ∀ (r : Fin 512) (c : Fin 256), mk (ix2 r c) = if (S + c) / 64 ≤ (T + r) / 64 then 1#1 else 0#1)
    {kb : Vec Ideal S256x256 .bf16} (hk : ∀ (c : Fin 256) (d : Fin 256), kb (ix2 c d) = (A.k (S + c) d : EReal))
    (r : Fin 512) (c : Fin 256) : k0_pay48 qb lb mk kb (ix2 r c) = (A.p (T + r) (S + c) : EReal) := by
  pointwise [k0_pay48]
  exact p_val (hm r c) (hq r) (hk c) (hl r)

theorem pay49_apply {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {db : FVec Ideal S512x1 .f32} (hd : ∀ r : Fin 512, db (ix2 r 0) = (A.dl (T + r) : EReal))
    {mk : IVec S512x256 1} (hm : ∀ (r : Fin 512) (c : Fin 256), mk (ix2 r c) = if (S + c) / 64 ≤ (T + r) / 64 then 1#1 else 0#1)
    {kb : Vec Ideal S256x256 .bf16} (hk : ∀ (c : Fin 256) (d : Fin 256), kb (ix2 c d) = (A.k (S + c) d : EReal))
    {vb : Vec Ideal S256x128 .bf16} (hv : ∀ (c : Fin 256) (d : Fin 128), vb (ix2 c d) = (A.v (S + c) d : EReal))
    (r : Fin 512) (c : Fin 256) : k0_pay49 qb gb lb db mk kb vb (ix2 r c) = (A.ds (T + r) (S + c) : EReal) := by
  pointwise [k0_pay49]
  exact ds_val (pay48_apply hq hl hm hk r c) (hg r) (hv c) (hd r)

theorem pay50_apply {qb : Vec Ideal S512x256 .bf16} (hq : ∀ (r : Fin 512) (d : Fin 256), qb (ix2 r d) = (A.q (T + r) d : EReal))
    {gb : Vec Ideal S512x128 .bf16} (hg : ∀ (r : Fin 512) (d : Fin 128), gb (ix2 r d) = (A.g (T + r) d : EReal))
    {lb : FVec Ideal S512x1 .f32} (hl : ∀ r : Fin 512, lb (ix2 r 0) = (A.lse (T + r) : EReal))
    {db : FVec Ideal S512x1 .f32} (hd : ∀ r : Fin 512, db (ix2 r 0) = (A.dl (T + r) : EReal))
    {mk : IVec S512x256 1} (hm : ∀ (r : Fin 512) (c : Fin 256), mk (ix2 r c) = if (S + c) / 64 ≤ (T + r) / 64 then 1#1 else 0#1)
    {kb : Vec Ideal S256x256 .bf16} (hk : ∀ (c : Fin 256) (d : Fin 256), kb (ix2 c d) = (A.k (S + c) d : EReal))
    {vb : Vec Ideal S256x128 .bf16} (hv : ∀ (c : Fin 256) (d : Fin 128), vb (ix2 c d) = (A.v (S + c) d : EReal))
    {dkb : FVec Ideal S256x256 .f32} (hdk : ∀ (c : Fin 256) (d : Fin 256), dkb (ix2 c d) = (A.dk T (S + c) d : EReal))
    (c : Fin 256) (d : Fin 256) : k0_pay50 qb gb lb db mk kb vb dkb (ix2 c d) = (A.dk (T + 512) (S + c) d : EReal) := by
  pointwise [k0_pay50]
  exact prod_val (f := fun t => A.ds t (S + c)) (h := fun t => A.q t d) (hdk c d) (fun r => pay49_apply hq hg hl hd hm hk hv r c) (fun r => hq r d)

theorem pay1_apply {gb : Vec Ideal S512x128 .bf16} (hg : ∀ (r : Fin 512) (d : Fin 128), gb (ix2 r d) = (A.g (T + r) d : EReal))
    {pb : FVec Ideal S512x256 .f32} (hp : ∀ (r : Fin 512) (c : Fin 256), pb (ix2 r c) = (A.p (T + r) (S + c) : EReal))
    {dvb : FVec Ideal S256x128 .f32} (hdv : ∀ (c : Fin 256) (d : Fin 128), dvb (ix2 c d) = (A.dv T (S + c) d : EReal))
    (c : Fin 256) (d : Fin 128) : k0_pay1 gb pb dvb (ix2 c d) = (A.dv (T + 512) (S + c) d : EReal) := by
  pointwise [k0_pay1]
  exact prod_val (f := fun t => A.p t (S + c)) (h := fun t => A.g t d) (hdv c d) (fun r => hp r c) (fun r => hg r d)

theorem pay2_apply {dqb : FVec Ideal S512x256 .f32} (hdq : ∀ (r : Fin 512) (d : Fin 256), dqb (ix2 r d) = (A.dq S (T + r) d : EReal))
    {kb : Vec Ideal S256x256 .bf16} (hk : ∀ (c : Fin 256) (d : Fin 256), kb (ix2 c d) = (A.k (S + c) d : EReal))
    {sb : FVec Ideal S512x256 .bf16} (hs : ∀ (r : Fin 512) (c : Fin 256), sb (ix2 r c) = (A.ds (T + r) (S + c) : EReal))
    (r : Fin 512) (d : Fin 256) : k0_pay2 dqb kb sb (ix2 r d) = (A.dq (S + 256) (T + r) d : EReal) := by
  pointwise [k0_pay2]
  exact prod_val (f := fun s => A.ds (T + r) s) (h := fun s => A.k s d) (hdq r d) (fun c => hs r c) (fun c => hk c d)

end Cert.MlaAttnIdeal.Hand

end

end
-- ==== Proof.AttnMem.lean ====
module

public import proofs.«01_k».proof.Proof.SoftSpec
public import proofs.«01_k».proof.Proof.Gen.MlaAttnIdeal.Loops
public import Idealize.ShloMosaic.Lib.WritesUnit
public import Idealize.ShloMosaic.Lib.VecWindow

/-! A head's columns inside a wider block in memory: what a store of some rows leaves, and what a load of them finds. -/

@[expose] public section

set_option maxRecDepth 16384

noncomputable section

namespace Cert.MlaAttnIdeal.Hand

open Idealize.ShloMosaic Idealize.ShloMosaic.TcCoe
open Idealize.ShloMosaic.Pipeline
open Cert.MlaAttnIdeal Cert.MlaAttnIdeal.Gen Soft

/-- `w` columns from column `c0` on hold the matrix `f`. -/
def Part {N W : ℕ} (X : (⟨2, ![N, W]⟩ : Shape).Idx → EReal) (c0 w : ℕ) (f : ℕ → ℕ → ℝ) : Prop :=
  ∀ (s : Fin N) (c : Fin W), c0 ≤ c.val → c.val < c0 + w → X (ix2 s c) = (f s (c - c0) : EReal)

/-- The new values below row `n`, the old ones from there on. -/
def mix (n : ℕ) (f f' : ℕ → ℕ → ℝ) : ℕ → ℕ → ℝ := fun s d => if s < n then f' s d else f s d

theorem mix_zero (f f' : ℕ → ℕ → ℝ) : mix 0 f f' = f := by
  funext s d; simp [mix]

theorem mix_ge {n s : ℕ} (h : n ≤ s) (f f' : ℕ → ℕ → ℝ) (d : ℕ) : mix n f f' s d = f s d := by
  simp [mix, Nat.not_lt.mpr h]

variable {κ : Kind} {sp : Space} {N W h w : ℕ}

theorem store_in (v : View sig κ sp ⟨2, ![N, W]⟩ .f32) (f : v.ty.Contents (Elt Ideal)) (L : List (View.Piece (Elt Ideal) ⟨2, ![N, W]⟩ .f32))
    {off : Fin 2 → ℕ} {n c0 : ℕ} (ho : off = ![n, c0]) (inb : ∀ a, off a + (⟨2, ![h, w]⟩ : Shape).size a ≤ (⟨2, ![N, W]⟩ : Shape).size a)
    (y : (⟨2, ![h, w]⟩ : Shape).Idx → EReal) {f0 f0' : ℕ → ℕ → ℝ} (hy : ∀ (c : Fin h) (d : Fin w), y (ix2 c d) = (f0' (n + c) d : EReal))
    (hp : Part (v.read (Elt Ideal) (v.writes (Elt Ideal) f L)) c0 w (mix n f0 f0')) :
    Part (v.read (Elt Ideal) (v.writes (Elt Ideal) f (⟨Rect.unit (s := ⟨2, ![N, W]⟩) off (⟨2, ![h, w]⟩ : Shape).size inb, y⟩ :: L))) c0 w (mix (n + h) f0 f0') := by
  intro s c h1 h2
  by_cases hs : n ≤ s.val ∧ s.val < n + h
  · rw [View.read_writes_cons_unit_of_mem v f inb y L (ix2 s c) (ix2 (⟨s - n, by omega⟩ : Fin h) (⟨c - c0, by omega⟩ : Fin w)) ho
      (Fin.forall_fin_two.mpr ⟨by show s.val = n + (s.val - n); omega, by show c.val = c0 + (c.val - c0); omega⟩), hy]
    have : n + (s.val - n) = s.val := by omega
    simp only [this, mix, if_pos hs.2]
  · rw [View.read_writes_cons_unit_of_not_mem v f inb y L (ix2 s c) ho 0
      (by show s.val < n ∨ n + h ≤ s.val; omega), hp s c h1 h2]
    unfold mix
    by_cases hn : s.val < n
    · rw [if_pos hn, if_pos (by omega)]
    · rw [if_neg hn, if_neg (by omega)]

theorem store_out (v : View sig κ sp ⟨2, ![N, W]⟩ .f32) (f : v.ty.Contents (Elt Ideal)) (L : List (View.Piece (Elt Ideal) ⟨2, ![N, W]⟩ .f32))
    {off : Fin 2 → ℕ} {n c1 : ℕ} (ho : off = ![n, c1]) (inb : ∀ a, off a + (⟨2, ![h, w]⟩ : Shape).size a ≤ (⟨2, ![N, W]⟩ : Shape).size a)
    (y : (⟨2, ![h, w]⟩ : Shape).Idx → EReal) {f0 : ℕ → ℕ → ℝ} {c0 w0 : ℕ} (hc : c1 + w ≤ c0 ∨ c0 + w0 ≤ c1)
    (hp : Part (v.read (Elt Ideal) (v.writes (Elt Ideal) f L)) c0 w0 f0) :
    Part (v.read (Elt Ideal) (v.writes (Elt Ideal) f (⟨Rect.unit (s := ⟨2, ![N, W]⟩) off (⟨2, ![h, w]⟩ : Shape).size inb, y⟩ :: L))) c0 w0 f0 := by
  intro s c h1 h2
  rw [View.read_writes_cons_unit_of_not_mem v f inb y L (ix2 s c) ho 1
      (by show c.val < c1 ∨ c1 + w ≤ c.val; omega), hp s c h1 h2]

theorem load {e : EltTy} (he : Elt Ideal e = EReal) (v : View sig κ sp ⟨2, ![N, W]⟩ e) (f : v.ty.Contents (Elt Ideal))
    {off : Fin 2 → ℕ} {n c0 : ℕ} (ho : off = ![n, c0]) (inb : ∀ a, off a + (⟨2, ![h, w]⟩ : Shape).size a ≤ (⟨2, ![N, W]⟩ : Shape).size a)
    {f0 : ℕ → ℕ → ℝ} (hp : Part (fun x => cast he (v.read (Elt Ideal) f x)) c0 w f0) (c : Fin h) (d : Fin w) :
    cast he (v.readAt (Elt Ideal) (Rect.unit (s := ⟨2, ![N, W]⟩) off (⟨2, ![h, w]⟩ : Shape).size inb).toLoadRect f (ix2 c d)) = (f0 (n + c) d : EReal) := by
  have hb : n + h ≤ N := by subst ho; exact inb 0
  have hb' : c0 + w ≤ W := by subst ho; exact inb 1
  rw [View.readAt_apply]
  have hx : ((Rect.unit (s := ⟨2, ![N, W]⟩) off (⟨2, ![h, w]⟩ : Shape).size inb).toLoadRect).idx (ix2 c d)
      = ix2 (⟨n + c, by omega⟩ : Fin N) (⟨c0 + d, by omega⟩ : Fin W) := by
    subst ho
    funext a
    refine Fin.ext ?_
    fin_cases a
    · show n + 1 * c.val = n + c.val; omega
    · show c0 + 1 * d.val = c0 + d.val; omega
  rw [hx]
  refine (hp ⟨n + c, by omega⟩ ⟨c0 + d, by omega⟩ (by show c0 ≤ c0 + d.val; omega) (by show c0 + d.val < c0 + w; omega)).trans ?_
  show ((f0 (n + c) (c0 + d - c0) : ℝ) : EReal) = _
  rw [Nat.add_sub_cancel_left]

/-- A load of a whole block's rows. -/
theorem load_rows {e : EltTy} (he : Elt Ideal e = EReal) (m : Memref sig .tc .vmem ⟨2, ![N, W]⟩ e) (hm : m.IsWhole) (x : Vec Ideal ⟨2, ![N, W]⟩ e)
    {c0 : ℕ} (inb : ∀ a, (![0, c0] : Fin 2 → ℕ) a + (⟨2, ![h, w]⟩ : Shape).size a ≤ (⟨2, ![N, W]⟩ : Shape).size a)
    {f0 : ℕ → ℕ → ℝ} (hp : Part (fun y => cast he (x y)) c0 w f0) (c : Fin h) (d : Fin w) :
    cast he (m.view.readAt (Elt Ideal) (Rect.unit (s := ⟨2, ![N, W]⟩) ![0, c0] (⟨2, ![h, w]⟩ : Shape).size inb).toLoadRect (hm.unread x) (ix2 c d)) = (f0 c d : EReal) := by
  have := load he m.view (hm.unread x) (n := 0) (c0 := c0) rfl inb (f0 := f0) (by rw [hm.read_unread]; exact hp) c d
  rw [Nat.zero_add] at this
  exact this

/-- A store of all the rows and one head's columns, read back. -/
theorem store_head (v : View sig κ sp ⟨2, ![N, W]⟩ .f32) (f : v.ty.Contents (Elt Ideal)) (L : List (View.Piece (Elt Ideal) ⟨2, ![N, W]⟩ .f32))
    {c0 : ℕ} (inb : ∀ a, (![0, c0] : Fin 2 → ℕ) a + (⟨2, ![N, w]⟩ : Shape).size a ≤ (⟨2, ![N, W]⟩ : Shape).size a)
    (y : (⟨2, ![N, w]⟩ : Shape).Idx → EReal) {f0 : ℕ → ℕ → ℝ} (hy : ∀ (c : Fin N) (d : Fin w), y (ix2 c d) = (f0 c d : EReal)) :
    Part (v.read (Elt Ideal) (v.writes (Elt Ideal) f (⟨Rect.unit (s := ⟨2, ![N, W]⟩) ![0, c0] (⟨2, ![N, w]⟩ : Shape).size inb, y⟩ :: L))) c0 w f0 := by
  intro s c h1 h2
  rw [View.read_writes_cons_unit_of_mem v f inb y L (ix2 s c) (ix2 s (⟨c - c0, by omega⟩ : Fin w)) rfl
      (Fin.forall_fin_two.mpr ⟨by show s.val = 0 + s.val; omega, by show c.val = c0 + (c.val - c0); omega⟩), hy]

end Cert.MlaAttnIdeal.Hand

end

end
-- ==== Proof.AttnTrip.lean ====
module

public import proofs.«01_k».proof.Proof.AttnBlock
public import proofs.«01_k».proof.Proof.AttnMem

/-! The loop over the unmasked key blocks: one trip, and the state after any number of trips. -/

@[expose] public section

set_option maxRecDepth 16384

noncomputable section

namespace Cert.MlaAttnIdeal.Hand

open Idealize.ShloMosaic Idealize.ShloMosaic.TcCoe Idealize.ShloMosaic.Tactic
open Idealize.ShloMosaic.Pipeline
open Cert.MlaAttnIdeal Cert.MlaAttnIdeal.Gen Soft

/-- What a grid point has read before the loop: the query rows, the gradient rows, the logarithms of the row sums and the corrections. -/
structure Rows (A B : Head) (T : ℕ) (q0 q1 : Vec Ideal S512x256 .bf16) (g0 g1 : Vec Ideal S512x128 .bf16) (l0 l1 d0 d1 : FVec Ideal S512x1 .f32) : Prop where
  q0 : ∀ (r : Fin 512) (d : Fin 256), q0 (ix2 r d) = (A.q (T + r) d : EReal)
  q1 : ∀ (r : Fin 512) (d : Fin 256), q1 (ix2 r d) = (B.q (T + r) d : EReal)
  g0 : ∀ (r : Fin 512) (d : Fin 128), g0 (ix2 r d) = (A.g (T + r) d : EReal)
  g1 : ∀ (r : Fin 512) (d : Fin 128), g1 (ix2 r d) = (B.g (T + r) d : EReal)
  l0 : ∀ r : Fin 512, l0 (ix2 r 0) = (A.lse (T + r) : EReal)
  l1 : ∀ r : Fin 512, l1 (ix2 r 0) = (B.lse (T + r) : EReal)
  d0 : ∀ r : Fin 512, d0 (ix2 r 0) = (A.dl (T + r) : EReal)
  d1 : ∀ r : Fin 512, d1 (ix2 r 0) = (B.dl (T + r) : EReal)

/-- The carried value once the keys below `S` are done: the gradients of the queries so far. -/
structure Carry (A B : Head) (T S : ℕ) (acc : FVec Ideal S512x256 .f32 × FVec Ideal S512x256 .f32) : Prop where
  a0 : ∀ (r : Fin 512) (d : Fin 256), acc.1 (ix2 r d) = (A.dq S (T + r) d : EReal)
  a1 : ∀ (r : Fin 512) (d : Fin 256), acc.2 (ix2 r d) = (B.dq S (T + r) d : EReal)

/-- Two heads, each with `w` columns, the first from column `c0`, the second from column `c1`. -/
abbrev Two {N W : ℕ} (X : (⟨2, ![N, W]⟩ : Shape).Idx → EReal) (c0 c1 w : ℕ) (f0 f1 : ℕ → ℕ → ℝ) : Prop :=
  Part X c0 w f0 ∧ Part X c1 w f1

/-- The gradients of the keys, with the rows below `n` already brought up to date. -/
abbrev DK (A B : Head) (T n : ℕ) (X : S2048x512.Idx → EReal) : Prop :=
  Two (N := 2048) (W := 512) X 0 256 256 (mix n (A.dk T) (A.dk (T + 512))) (mix n (B.dk T) (B.dk (T + 512)))

/-- The gradients of the values, likewise. -/
abbrev DV (A B : Head) (T n : ℕ) (X : S2048x256.Idx → EReal) : Prop :=
  Two (N := 2048) (W := 256) X 0 128 128 (mix n (A.dv T) (A.dv (T + 512))) (mix n (B.dv T) (B.dv (T + 512)))

variable {A B : Head} {T : ℕ}
variable (𝒱 : Variants) (c : Dev nD) (bd : Option 𝒱.V) (i : grid0.Coords) (arg2 : Memref sig .tc .vmem S512x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .f32) (harg7 : arg7.IsWhole) (arg8 : Memref sig .tc .vmem S512x512 .f32) (harg8 : arg8.IsWhole) (arg9 : Memref sig .tc .vmem S2048x512 .f32) (harg9 : arg9.IsWhole) (arg10 : Memref sig .tc .vmem S2048x256 .f32) (harg10 : arg10.IsWhole) (arg1 : BitVec 32) (v3 : Vec Ideal S512x256 .bf16) (v4 : Vec Ideal S512x256 .bf16) (v5 : Vec Ideal S512x128 .bf16) (v6 : Vec Ideal S512x128 .bf16) (v8 : FVec Ideal S512x1 .f32) (v10 : FVec Ideal S512x1 .f32) (v17 : FVec Ideal S512x1 .f32) (v24 : FVec Ideal S512x1 .f32) (v25 : FVec Ideal S512x256 .f32) (v26 : BitVec 32) (v28 : BitVec 32)
variable (X3 : BufTy.Contents (Elt Ideal) arg3.view.ty) (X4 : BufTy.Contents (Elt Ideal) arg4.view.ty)

theorem trip_step (hR : Rows A B T v3 v4 v5 v6 v8 v10 v17 v24)
    (h3 : Two (N := 2048) (W := 512) (arg3.view.read (Elt Ideal) X3) 0 256 256 A.k B.k)
    (h4 : Two (N := 2048) (W := 512) (arg4.view.read (Elt Ideal) X4) 128 384 128 A.v B.v)
    (k : Fin (k0_t1_loop i).trips) (hS : 256 * k.val + 256 ≤ T) (acc : FVec Ideal S512x256 .f32 × FVec Ideal S512x256 .f32)
    (f9 : BufTy.Contents (Elt Ideal) arg9.view.ty) (f10 : BufTy.Contents (Elt Ideal) arg10.view.ty)
    (hc : Carry A B T (256 * k.val) acc)
    (h9 : DK A B T (256 * k.val) (arg9.view.read (Elt Ideal) f9))
    (h10 : DV A B T (256 * k.val) (arg10.view.read (Elt Ideal) f10)) :
    Carry A B T (256 * k.val + 256) (tripR_k0_t1 𝒱 c bd i arg2 harg2 arg3 harg3 arg4 harg4 arg5 harg5 arg6 harg6 arg7 harg7 arg8 harg8 arg9 harg9 arg10 harg10 arg1 v3 v4 v5 v6 v8 v10 v17 v24 v25 v26 v28 X3 X4 k acc f9 f10)
    ∧ DK A B T (256 * k.val + 256) (arg9.view.read (Elt Ideal) (arg9.view.writes (Elt Ideal) f9 (tripL_k0_t1 𝒱 c bd i arg2 harg2 arg3 harg3 arg4 harg4 arg5 harg5 arg6 harg6 arg7 harg7 arg8 harg8 arg9 harg9 arg10 harg10 arg1 v3 v4 v5 v6 v8 v10 v17 v24 v25 v26 v28 X3 X4 k acc f9 f10).1))
    ∧ DV A B T (256 * k.val + 256) (arg10.view.read (Elt Ideal) (arg10.view.writes (Elt Ideal) f10 (tripL_k0_t1 𝒱 c bd i arg2 harg2 arg3 harg3 arg4 harg4 arg5 harg5 arg6 harg6 arg7 harg7 arg8 harg8 arg9 harg9 arg10 harg10 arg1 v3 v4 v5 v6 v8 v10 v17 v24 v25 v26 v28 X3 X4 k acc f9 f10).2)) := by
  have e1 := k0_off1_eq i k
  have e2 := k0_off2_eq i k
  have e3 := k0_off3_eq i k
  have e4 := k0_off4_eq i k
  have e5 := k0_off5_eq i k
  have e6 := k0_off6_eq i k
  have hk0 := load (N := 2048) (W := 512) (h := 256) (w := 256) (e := .bf16) rfl arg3.view X3 e1 (k0_off1_inb i k) h3.1
  have hk1 := load (N := 2048) (W := 512) (h := 256) (w := 256) (e := .bf16) rfl arg3.view X3 e4 (k0_off4_inb i k) h3.2
  have hv0 := load (N := 2048) (W := 512) (h := 256) (w := 128) (e := .bf16) rfl arg4.view X4 e2 (k0_off2_inb i k) h4.1
  have hv1 := load (N := 2048) (W := 512) (h := 256) (w := 128) (e := .bf16) rfl arg4.view X4 e5 (k0_off5_inb i k) h4.2
  have hdk0 := load (N := 2048) (W := 512) (h := 256) (w := 256) (e := .f32) rfl arg9.view f9 e1 (k0_off1_inb i k) h9.1
  have hdk1 := load (N := 2048) (W := 512) (h := 256) (w := 256) (e := .f32) rfl arg9.view f9 e4 (k0_off4_inb i k) h9.2
  have hdv0 := load (N := 2048) (W := 256) (h := 256) (w := 128) (e := .f32) rfl arg10.view f10 e3 (k0_off3_inb i k) h10.1
  have hdv1 := load (N := 2048) (W := 256) (h := 256) (w := 128) (e := .f32) rfl arg10.view f10 e6 (k0_off6_inb i k) h10.2
  simp only [mix_ge (Nat.le_add_right _ _)] at hdk0 hdk1 hdv0 hdv1
  simp only [cast_eq] at hk0 hk1 hv0 hv1 hdk0 hdk1 hdv0 hdv1
  unfold tripR_k0_t1 tripL_k0_t1
  unfold trip_k0_t1
  dsimp only
  sl_unfold_words
  refine ⟨⟨pay7_apply hS hR.q0 hR.g0 hR.l0 hR.d0 hc.a0 hk0 hv0, pay24_apply hS hR.q1 hR.g1 hR.l1 hR.d1 hc.a1 hk1 hv1⟩, ⟨?_, ?_⟩, ⟨?_, ?_⟩⟩
  · refine store_out (N := 2048) (W := 512) (h := 256) (w := 256) _ _ _ e4 _ _ (by omega) ?_
    exact store_in (N := 2048) (W := 512) (h := 256) (w := 256) _ _ [] e1 _ _ (pay5_apply hS hR.q0 hR.g0 hR.l0 hR.d0 hk0 hv0 hdk0) h9.1
  · refine store_in (N := 2048) (W := 512) (h := 256) (w := 256) _ _ _ e4 _ _ (pay22_apply hS hR.q1 hR.g1 hR.l1 hR.d1 hk1 hv1 hdk1) ?_
    exact store_out (N := 2048) (W := 512) (h := 256) (w := 256) _ _ [] e1 _ _ (by omega) h9.2
  · refine store_out (N := 2048) (W := 256) (h := 256) (w := 128) _ _ _ e6 _ _ (by omega) ?_
    exact store_in (N := 2048) (W := 256) (h := 256) (w := 128) _ _ [] e3 _ _ (pay6_apply hS hR.q0 hR.g0 hR.l0 hk0 hdv0) h10.1
  · refine store_in (N := 2048) (W := 256) (h := 256) (w := 128) _ _ _ e6 _ _ (pay23_apply hS hR.q1 hR.g1 hR.l1 hk1 hdv1) ?_
    exact store_out (N := 2048) (W := 256) (h := 256) (w := 128) _ _ [] e3 _ _ (by omega) h10.2

theorem st_step (hR : Rows A B T v3 v4 v5 v6 v8 v10 v17 v24)
    (h3 : Two (N := 2048) (W := 512) (arg3.view.read (Elt Ideal) X3) 0 256 256 A.k B.k)
    (h4 : Two (N := 2048) (W := 512) (arg4.view.read (Elt Ideal) X4) 128 384 128 A.v B.v)
    (G9 : BufTy.Contents (Elt Ideal) arg9.view.ty) (G10 : BufTy.Contents (Elt Ideal) arg10.view.ty) (init : FVec Ideal S512x256 .f32 × FVec Ideal S512x256 .f32)
    (hc : Carry A B T 0 init) (h9 : DK A B T 0 (arg9.view.read (Elt Ideal) G9))
    (h10 : DV A B T 0 (arg10.view.read (Elt Ideal) G10)) (n : ℕ) (hn : n ≤ (k0_t1_loop i).trips) (hT : 256 * n ≤ T) :
    Carry A B T (256 * n) (st_k0_t1 𝒱 c bd i arg2 harg2 arg3 harg3 arg4 harg4 arg5 harg5 arg6 harg6 arg7 harg7 arg8 harg8 arg9 harg9 arg10 harg10 arg1 v3 v4 v5 v6 v8 v10 v17 v24 v25 v26 v28 X3 X4 G9 G10 init n).1
    ∧ DK A B T (256 * n) (arg9.view.read (Elt Ideal) (arg9.view.writes (Elt Ideal) G9 (st_k0_t1 𝒱 c bd i arg2 harg2 arg3 harg3 arg4 harg4 arg5 harg5 arg6 harg6 arg7 harg7 arg8 harg8 arg9 harg9 arg10 harg10 arg1 v3 v4 v5 v6 v8 v10 v17 v24 v25 v26 v28 X3 X4 G9 G10 init n).2.1))
    ∧ DV A B T (256 * n) (arg10.view.read (Elt Ideal) (arg10.view.writes (Elt Ideal) G10 (st_k0_t1 𝒱 c bd i arg2 harg2 arg3 harg3 arg4 harg4 arg5 harg5 arg6 harg6 arg7 harg7 arg8 harg8 arg9 harg9 arg10 harg10 arg1 v3 v4 v5 v6 v8 v10 v17 v24 v25 v26 v28 X3 X4 G9 G10 init n).2.2)) := by
  induction n with
  | zero => exact ⟨hc, h9, h10⟩
  | succ n ih =>
    obtain ⟨c', h9', h10'⟩ := ih (by omega) (by omega)
    have := st_k0_t1_succ (F := Ideal) 𝒱 c bd i arg2 harg2 arg3 harg3 arg4 harg4 arg5 harg5 arg6 harg6 arg7 harg7 arg8 harg8 arg9 harg9 arg10 harg10 arg1 v3 v4 v5 v6 v8 v10 v17 v24 v25 v26 v28 X3 X4 G9 G10 init ⟨n, hn⟩
    rw [this]
    dsimp only
    rw [View.writes_append, View.writes_append]
    exact trip_step 𝒱 c bd i arg2 harg2 arg3 harg3 arg4 harg4 arg5 harg5 arg6 harg6 arg7 harg7 arg8 harg8 arg9 harg9 arg10 harg10 arg1 v3 v4 v5 v6 v8 v10 v17 v24 v25 v26 v28 X3 X4 hR h3 h4 ⟨n, hn⟩ (by show 256 * n + 256 ≤ T; omega) _ _ _ c' h9' h10'

end Cert.MlaAttnIdeal.Hand

end

end
-- ==== Proof.AttnParts.lean ====
module

public import proofs.«01_k».proof.Proof.AttnTrip
public import proofs.«01_k».proof.Proof.Gen.MlaAttnIdeal.Frame

/-! The closed forms of a grid point's words and offsets, and what its loop starts from. -/

@[expose] public section

set_option maxRecDepth 16384

noncomputable section

namespace Cert.MlaAttnIdeal.Hand

open Idealize.ShloMosaic Idealize.ShloMosaic.TcCoe Idealize.ShloMosaic.Tactic
open Idealize.ShloMosaic.Pipeline
open Cert.MlaAttnIdeal Cert.MlaAttnIdeal.Gen Soft

/-- The first word of the row blocks. -/
theorem word_row : ∀ i : grid0.Coords, Scalar.muli (BitVec.ofNat 32 (i 1).val) 512#32 = BitVec.ofNat 32 (512 * (i 1).val) := by decide +kernel

/-- The first key of the first masked block. -/
theorem word_key0 : ∀ i : grid0.Coords, Scalar.muli (Scalar.addi (Scalar.addi 0#32 (Scalar.muli (BitVec.ofNat 32 (i 1).val) 2#32)) 0#32) 256#32
    = BitVec.ofNat 32 (512 * (i 1).val) := by decide +kernel

/-- The first key of the second masked block. -/
theorem word_key1 : ∀ i : grid0.Coords, Scalar.muli (Scalar.addi (Scalar.addi 0#32 (Scalar.muli (BitVec.ofNat 32 (i 1).val) 2#32)) 1#32) 256#32
    = BitVec.ofNat 32 (512 * (i 1).val + 256) := by decide +kernel

theorem trips1 : ∀ i : grid0.Coords, (k0_t1_loop i).trips = 2 * (i 1).val := by decide +kernel

theorem trips2 : ∀ i : grid0.Coords, (k0_t2_loop i).trips = 0 := by decide +kernel

theorem row_lt : ∀ i : grid0.Coords, 512 * (i 1).val + 512 ≤ 2048 := by decide +kernel

theorem off130 (i : grid0.Coords) : k0_off13 i 0#32 = ![512 * (i 1).val, 0] := k0_off13_eq i 0
theorem off131 (i : grid0.Coords) : k0_off13 i 1#32 = ![512 * (i 1).val + 256, 0] := k0_off13_eq i 1

theorem off140 (i : grid0.Coords) : k0_off14 i 0#32 = ![512 * (i 1).val, 128] := k0_off14_eq i 0
theorem off141 (i : grid0.Coords) : k0_off14 i 1#32 = ![512 * (i 1).val + 256, 128] := k0_off14_eq i 1

theorem off150 (i : grid0.Coords) : k0_off15 i 0#32 = ![512 * (i 1).val, 0] := k0_off15_eq i 0
theorem off151 (i : grid0.Coords) : k0_off15 i 1#32 = ![512 * (i 1).val + 256, 0] := k0_off15_eq i 1

theorem off160 (i : grid0.Coords) : k0_off16 i 0#32 = ![512 * (i 1).val, 256] := k0_off16_eq i 0
theorem off161 (i : grid0.Coords) : k0_off16 i 1#32 = ![512 * (i 1).val + 256, 256] := k0_off16_eq i 1

theorem off170 (i : grid0.Coords) : k0_off17 i 0#32 = ![512 * (i 1).val, 384] := k0_off17_eq i 0
theorem off171 (i : grid0.Coords) : k0_off17 i 1#32 = ![512 * (i 1).val + 256, 384] := k0_off17_eq i 1

theorem off180 (i : grid0.Coords) : k0_off18 i 0#32 = ![512 * (i 1).val, 128] := k0_off18_eq i 0
theorem off181 (i : grid0.Coords) : k0_off18 i 1#32 = ![512 * (i 1).val + 256, 128] := k0_off18_eq i 1

theorem carry_init (A B : Head) (T : ℕ) : Carry A B T 0 (k0_pay19 (F := Ideal), k0_pay19 (F := Ideal)) := by
  have e : ∀ (r : Fin 512) (d : Fin 256), k0_pay19 (F := Ideal) (ix2 r d) = (0 : EReal) := fun r d => by
    pointwise [k0_pay19]
  constructor <;> intros <;> dsimp only <;> rw [e] <;> simp [Head.dq]

theorem lse0 (v : Vec Ideal S512x1 .f32) (r : Fin 512) : k0_pay15 v (ix2 r 0) = v (ix2 r 0) := by pointwise [k0_pay15]
theorem lse1 (v : Vec Ideal S512x1 .f32) (r : Fin 512) : k0_pay16 v (ix2 r 0) = v (ix2 r 0) := by pointwise [k0_pay16]

theorem store_first {κ : Kind} {sp : Space} {N W h w : ℕ} (v : View sig κ sp ⟨2, ![N, W]⟩ .f32) (f : v.ty.Contents (Elt Ideal)) (L : List (View.Piece (Elt Ideal) ⟨2, ![N, W]⟩ .f32))
    {off : Fin 2 → ℕ} {n c0 c1 : ℕ} (ho : off = ![n, c0]) (inb : ∀ a, off a + (⟨2, ![h, w]⟩ : Shape).size a ≤ (⟨2, ![N, W]⟩ : Shape).size a)
    (y : (⟨2, ![h, w]⟩ : Shape).Idx → EReal) {f0 f0' f1 : ℕ → ℕ → ℝ} (hy : ∀ (c : Fin h) (d : Fin w), y (ix2 c d) = (f0' (n + c) d : EReal)) (hc : c0 + w ≤ c1)
    (hp : Two (v.read (Elt Ideal) (v.writes (Elt Ideal) f L)) c0 c1 w (mix n f0 f0') f1) :
    Two (v.read (Elt Ideal) (v.writes (Elt Ideal) f (⟨Rect.unit (s := ⟨2, ![N, W]⟩) off (⟨2, ![h, w]⟩ : Shape).size inb, y⟩ :: L))) c0 c1 w (mix (n + h) f0 f0') f1 :=
  ⟨store_in v f L ho inb y hy hp.1, store_out v f L ho inb y (.inl hc) hp.2⟩

theorem store_second {κ : Kind} {sp : Space} {N W h w : ℕ} (v : View sig κ sp ⟨2, ![N, W]⟩ .f32) (f : v.ty.Contents (Elt Ideal)) (L : List (View.Piece (Elt Ideal) ⟨2, ![N, W]⟩ .f32))
    {off : Fin 2 → ℕ} {n c0 c1 : ℕ} (ho : off = ![n, c1]) (inb : ∀ a, off a + (⟨2, ![h, w]⟩ : Shape).size a ≤ (⟨2, ![N, W]⟩ : Shape).size a)
    (y : (⟨2, ![h, w]⟩ : Shape).Idx → EReal) {f0 f1 f1' : ℕ → ℕ → ℝ} (hy : ∀ (c : Fin h) (d : Fin w), y (ix2 c d) = (f1' (n + c) d : EReal)) (hc : c0 + w ≤ c1)
    (hp : Two (v.read (Elt Ideal) (v.writes (Elt Ideal) f L)) c0 c1 w f0 (mix n f1 f1')) :
    Two (v.read (Elt Ideal) (v.writes (Elt Ideal) f (⟨Rect.unit (s := ⟨2, ![N, W]⟩) off (⟨2, ![h, w]⟩ : Shape).size inb, y⟩ :: L))) c0 c1 w f0 (mix (n + h) f1 f1') :=
  ⟨store_out v f L ho inb y (.inr hc) hp.1, store_in v f L ho inb y hy hp.2⟩

end Cert.MlaAttnIdeal.Hand

end

end
-- ==== Proof.AttnBodyA.lean ====
module

public import proofs.«01_k».proof.Proof.AttnParts

/-! A grid point which starts from cleared gradients. -/

@[expose] public section

set_option maxRecDepth 16384

noncomputable section

namespace Cert.MlaAttnIdeal.Hand

open Idealize.ShloMosaic Idealize.ShloMosaic.TcCoe Idealize.ShloMosaic.Tactic
open Idealize.ShloMosaic.Pipeline
open Cert.MlaAttnIdeal Cert.MlaAttnIdeal.Gen Soft

theorem clear_keys (m : Memref sig .tc .vmem S2048x512 .f32) (A B : Head) :
    Two (N := 2048) (W := 512) (m.view.read (Elt Ideal) (m.view.writes (Elt Ideal) m.view.junk [⟨Rect.unit (s := S2048x512) ![0, 0] S2048x512.size inb_S2048x512_S2048x512_0_0, k0_pay13 (F := Ideal)⟩])) 0 256 256 (A.dk 0) (B.dk 0) := by
  have h : ∀ y : S2048x512.Idx, m.view.read (Elt Ideal) (m.view.writes (Elt Ideal) m.view.junk [⟨Rect.unit (s := S2048x512) ![0, 0] S2048x512.size inb_S2048x512_S2048x512_0_0, k0_pay13 (F := Ideal)⟩]) y = (0 : EReal) := fun y => by
    refine (View.read_writes_cons_unit_of_mem _ _ _ _ _ y y rfl
      (Fin.forall_fin_two.mpr ⟨by show (y 0).val = 0 + (y 0).val; omega, by show (y 1).val = 0 + (y 1).val; omega⟩)).trans ?_
    show Ideal.ofBits .f32 0#32 = 0
    exact Ideal.ofBits_zero_f32
  exact ⟨fun s c _ _ => (h _).trans (by simp [Head.dk]), fun s c _ _ => (h _).trans (by simp [Head.dk])⟩

theorem clear_vals (m : Memref sig .tc .vmem S2048x256 .f32) (A B : Head) :
    Two (N := 2048) (W := 256) (m.view.read (Elt Ideal) (m.view.writes (Elt Ideal) m.view.junk [⟨Rect.unit (s := S2048x256) ![0, 0] S2048x256.size inb_S2048x256_S2048x256_0_0, k0_pay14 (F := Ideal)⟩])) 0 128 128 (A.dv 0) (B.dv 0) := by
  have h : ∀ y : S2048x256.Idx, m.view.read (Elt Ideal) (m.view.writes (Elt Ideal) m.view.junk [⟨Rect.unit (s := S2048x256) ![0, 0] S2048x256.size inb_S2048x256_S2048x256_0_0, k0_pay14 (F := Ideal)⟩]) y = (0 : EReal) := fun y => by
    refine (View.read_writes_cons_unit_of_mem _ _ _ _ _ y y rfl
      (Fin.forall_fin_two.mpr ⟨by show (y 0).val = 0 + (y 0).val; omega, by show (y 1).val = 0 + (y 1).val; omega⟩)).trans ?_
    show Ideal.ofBits .f32 0#32 = 0
    exact Ideal.ofBits_zero_f32
  exact ⟨fun s c _ _ => (h _).trans (by simp [Head.dv]), fun s c _ _ => (h _).trans (by simp [Head.dv])⟩

set_option maxHeartbeats 4000000 in
theorem body_A {A B : Head} {T : ℕ} (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .f32) (harg7 : arg7.IsWhole) (arg8 : Memref sig .tc .vmem S512x512 .f32) (harg8 : arg8.IsWhole) (arg9 : Memref sig .tc .vmem S2048x512 .f32) (harg9 : arg9.IsWhole) (arg10 : Memref sig .tc .vmem S2048x256 .f32) (harg10 : arg10.IsWhole) (hc0 : cond0_0 i)
    (x0 : Vec Ideal S512x512 .bf16) (x1 : Vec Ideal S2048x512 .bf16) (x2 : Vec Ideal S2048x512 .bf16) (x3 : Vec Ideal S512x256 .bf16) (x4 : Vec Ideal S512x256 .bf16) (x5 : Vec Ideal S512x256 .f32)
    (hT : T = 512 * (i 1).val)
    (hx0 : Two (N := 512) (W := 512) x0 0 256 256 (fun r d => A.q (T + r) d) (fun r d => B.q (T + r) d))
    (hx1 : Two (N := 2048) (W := 512) x1 0 256 256 A.k B.k) (hx2 : Two (N := 2048) (W := 512) x2 128 384 128 A.v B.v)
    (hx3 : Two (N := 512) (W := 256) x3 0 128 128 (fun r d => A.o (T + r) d) (fun r d => B.o (T + r) d))
    (hx4 : Two (N := 512) (W := 256) x4 0 128 128 (fun r d => A.g (T + r) d) (fun r d => B.g (T + r) d))
    (hx5 : Two (N := 512) (W := 256) x5 0 128 1 (fun r _ => A.lse (T + r)) (fun r _ => B.lse (T + r)))
    (hz : T = 0) :
    Two (N := 512) (W := 512) (out0_A_6 c i arg2 harg2 arg3 harg3 arg4 harg4 arg5 harg5 arg6 harg6 arg7 harg7 arg8 harg8 arg9 harg9 arg10 harg10 hc0 x0 x1 x2 x3 x4 x5) 0 256 256 (fun r d => A.dq (T + 512) (T + r) d) (fun r d => B.dq (T + 512) (T + r) d)
    ∧ DK A B T (T + 512) (out0_A_7 c i arg2 harg2 arg3 harg3 arg4 harg4 arg5 harg5 arg6 harg6 arg7 harg7 arg8 harg8 arg9 harg9 arg10 harg10 hc0 x0 x1 x2 x3 x4 x5)
    ∧ DV A B T (T + 512) (out0_A_8 c i arg2 harg2 arg3 harg3 arg4 harg4 arg5 harg5 arg6 harg6 arg7 harg7 arg8 harg8 arg9 harg9 arg10 harg10 hc0 x0 x1 x2 x3 x4 x5) := by
  have b2 : T + 512 ≤ 4096 := by have := row_lt i; omega
  have b1 : T + 256 ≤ 4096 := by omega
  have b1' : T + 256 + 256 ≤ 4096 := by omega
  have e130 := off130 i
  have e131 := off131 i
  have e140 := off140 i
  have e141 := off141 i
  have e150 := off150 i
  have e151 := off151 i
  have e160 := off160 i
  have e161 := off161 i
  have e170 := off170 i
  have e171 := off171 i
  have e180 := off180 i
  have e181 := off181 i
  have e2 := word_row i
  have e1 := word_key0 i
  have e1' := word_key1 i
  have ht1 : (k0_t1_loop i).trips = 2 * (i 1).val := trips1 i
  rw [← hT] at e130 e131 e140 e141 e150 e151 e160 e161 e170 e171 e180 e181 e2 e1 e1'
  have hn : 256 * (2 * (i 1).val) = T := by omega
  have h3 : Two (N := 2048) (W := 512) (arg3.view.read (Elt Ideal) (harg3.unread x1)) 0 256 256 A.k B.k := by rw [harg3.read_unread]; exact hx1
  have h4 : Two (N := 2048) (W := 512) (arg4.view.read (Elt Ideal) (harg4.unread x2)) 128 384 128 A.v B.v := by rw [harg4.read_unread]; exact hx2
  have h9 : DK A B T 0 (arg9.view.read (Elt Ideal) (arg9.view.writes (Elt Ideal) arg9.view.junk [⟨Rect.unit (s := S2048x512) ![0, 0] S2048x512.size inb_S2048x512_S2048x512_0_0, k0_pay13 (F := Ideal)⟩])) := by
    unfold DK; simp only [mix_zero]; rw [hz]; exact clear_keys arg9 A B
  have h10 : DV A B T 0 (arg10.view.read (Elt Ideal) (arg10.view.writes (Elt Ideal) arg10.view.junk [⟨Rect.unit (s := S2048x256) ![0, 0] S2048x256.size inb_S2048x256_S2048x256_0_0, k0_pay14 (F := Ideal)⟩])) := by
    unfold DV; simp only [mix_zero]; rw [hz]; exact clear_vals arg10 A B
  have q0 := load_rows (N := 512) (W := 512) (h := 512) (w := 256) (e := .bf16) rfl arg2 harg2 x0 inb_S512x512_S512x256_0_0 hx0.1
  have q1 := load_rows (N := 512) (W := 512) (h := 512) (w := 256) (e := .bf16) rfl arg2 harg2 x0 inb_S512x512_S512x256_0_256 hx0.2
  have g0 := load_rows (N := 512) (W := 256) (h := 512) (w := 128) (e := .bf16) rfl arg6 harg6 x4 inb_S512x256_S512x128_0_0 hx4.1
  have g1 := load_rows (N := 512) (W := 256) (h := 512) (w := 128) (e := .bf16) rfl arg6 harg6 x4 inb_S512x256_S512x128_0_128 hx4.2
  have o0 := load_rows (N := 512) (W := 256) (h := 512) (w := 128) (e := .bf16) rfl arg5 harg5 x3 inb_S512x256_S512x128_0_0 hx3.1
  have o1 := load_rows (N := 512) (W := 256) (h := 512) (w := 128) (e := .bf16) rfl arg5 harg5 x3 inb_S512x256_S512x128_0_128 hx3.2
  have l0 := load_rows (N := 512) (W := 256) (h := 512) (w := 1) (e := .f32) rfl arg7 harg7 x5 inb_S512x256_S512x1_0_0 hx5.1
  have l1 := load_rows (N := 512) (W := 256) (h := 512) (w := 1) (e := .f32) rfl arg7 harg7 x5 inb_S512x256_S512x1_0_128 hx5.2
  simp only [cast_eq] at q0 q1 g0 g1 o0 o1 l0 l1
  have hR : Rows A B T
      (arg2.view.readAt (Elt Ideal) (Rect.unit (s := S512x512) ![0, 0] S512x256.size inb_S512x512_S512x256_0_0).toLoadRect (harg2.unread x0))
      (arg2.view.readAt (Elt Ideal) (Rect.unit (s := S512x512) ![0, 256] S512x256.size inb_S512x512_S512x256_0_256).toLoadRect (harg2.unread x0))
      (arg6.view.readAt (Elt Ideal) (Rect.unit (s := S512x256) ![0, 0] S512x128.size inb_S512x256_S512x128_0_0).toLoadRect (harg6.unread x4))
      (arg6.view.readAt (Elt Ideal) (Rect.unit (s := S512x256) ![0, 128] S512x128.size inb_S512x256_S512x128_0_128).toLoadRect (harg6.unread x4))
      (k0_pay15 (arg7.view.readAt (Elt Ideal) (Rect.unit (s := S512x256) ![0, 0] S512x1.size inb_S512x256_S512x1_0_0).toLoadRect (harg7.unread x5)))
      (k0_pay16 (arg7.view.readAt (Elt Ideal) (Rect.unit (s := S512x256) ![0, 128] S512x1.size inb_S512x256_S512x1_0_128).toLoadRect (harg7.unread x5)))
      (k0_pay17 (arg6.view.readAt (Elt Ideal) (Rect.unit (s := S512x256) ![0, 0] S512x128.size inb_S512x256_S512x128_0_0).toLoadRect (harg6.unread x4)) (arg5.view.readAt (Elt Ideal) (Rect.unit (s := S512x256) ![0, 0] S512x128.size inb_S512x256_S512x128_0_0).toLoadRect (harg5.unread x3)))
      (k0_pay18 (arg6.view.readAt (Elt Ideal) (Rect.unit (s := S512x256) ![0, 128] S512x128.size inb_S512x256_S512x128_0_128).toLoadRect (harg6.unread x4)) (arg5.view.readAt (Elt Ideal) (Rect.unit (s := S512x256) ![0, 128] S512x128.size inb_S512x256_S512x128_0_128).toLoadRect (harg5.unread x3))) :=
    ⟨q0, q1, g0, g1, fun r => (lse0 _ r).trans (l0 r 0), fun r => (lse1 _ r).trans (l1 r 0), pay17_apply g0 o0, pay18_apply g1 o1⟩
  have hst := st_step Variants.none c none i arg2 harg2 arg3 harg3 arg4 harg4 arg5 harg5 arg6 harg6 arg7 harg7 arg8 harg8 arg9 harg9 arg10 harg10 (BitVec.ofNat 32 (i 1).val) _ _ _ _ _ _ _ _ (k0_pay19 (F := Ideal))
    (Scalar.muli (BitVec.ofNat 32 (i 1).val) 2#32)
    (Scalar.addi (Scalar.addi 0#32 (Scalar.muli (BitVec.ofNat 32 (i 1).val) 2#32)) 0#32)
    (harg3.unread x1) (harg4.unread x2) hR h3 h4 (arg9.view.writes (Elt Ideal) arg9.view.junk [⟨Rect.unit (s := S2048x512) ![0, 0] S2048x512.size inb_S2048x512_S2048x512_0_0, k0_pay13 (F := Ideal)⟩]) (arg10.view.writes (Elt Ideal) arg10.view.junk [⟨Rect.unit (s := S2048x256) ![0, 0] S2048x256.size inb_S2048x256_S2048x256_0_0, k0_pay14 (F := Ideal)⟩])
    (k0_pay19 (F := Ideal), k0_pay19 (F := Ideal))
    (carry_init A B T) h9 h10 (2 * (i 1).val) (le_of_eq ht1.symm) (le_of_eq hn)
  rw [hn] at hst
  obtain ⟨hc, h9a, h10a⟩ := hst
  rw [← View.writes_append] at h9a h10a
  obtain ⟨-, -, -, -, l0, l1, d0, d1⟩ := hR
  obtain ⟨a0, a1⟩ := hc
  have k00 := load (N := 2048) (W := 512) (h := 256) (w := 256) (e := .bf16) rfl arg3.view (harg3.unread x1) e130 (k0_off13_inb i 0) h3.1
  have v00 := load (N := 2048) (W := 512) (h := 256) (w := 128) (e := .bf16) rfl arg4.view (harg4.unread x2) e140 (k0_off14_inb i 0) h4.1
  have k01 := load (N := 2048) (W := 512) (h := 256) (w := 256) (e := .bf16) rfl arg3.view (harg3.unread x1) e131 (k0_off13_inb i 1) h3.1
  have v01 := load (N := 2048) (W := 512) (h := 256) (w := 128) (e := .bf16) rfl arg4.view (harg4.unread x2) e141 (k0_off14_inb i 1) h4.1
  have k10 := load (N := 2048) (W := 512) (h := 256) (w := 256) (e := .bf16) rfl arg3.view (harg3.unread x1) e160 (k0_off16_inb i 0) h3.2
  have v10 := load (N := 2048) (W := 512) (h := 256) (w := 128) (e := .bf16) rfl arg4.view (harg4.unread x2) e170 (k0_off17_inb i 0) h4.2
  have k11 := load (N := 2048) (W := 512) (h := 256) (w := 256) (e := .bf16) rfl arg3.view (harg3.unread x1) e161 (k0_off16_inb i 1) h3.2
  have v11 := load (N := 2048) (W := 512) (h := 256) (w := 128) (e := .bf16) rfl arg4.view (harg4.unread x2) e171 (k0_off17_inb i 1) h4.2
  simp only [cast_eq] at k00 k01 k10 k11 v00 v01 v10 v11
  -- the first masked block
  have m1 := pay30_apply (S := T) (T := T) e2 e1 b1 b2
  have p00 := pay31_apply e2 e1 b1 b2 q0 l0 k00
  have s00 := pay32_apply e2 e1 b1 b2 q0 g0 l0 d0 k00 v00
  have dk00 := load (N := 2048) (W := 512) (h := 256) (w := 256) (e := .f32) rfl arg9.view _ e130 (k0_off13_inb i 0) h9a.1
  simp only [mix_ge (Nat.le_add_right _ _), cast_eq] at dk00
  have dv00 := load (N := 2048) (W := 256) (h := 256) (w := 128) (e := .f32) rfl arg10.view _ e150 (k0_off15_inb i 0) h10a.1
  simp only [mix_ge (Nat.le_add_right _ _), cast_eq] at dv00
  have pk00 := pay33_apply q0 s00 dk00
  have pv00 := pay34_apply g0 p00 dv00
  have sk00 := store_first (N := 2048) (W := 512) (h := 256) (w := 256) _ _ _ e130 (k0_off13_inb i 0) _ pk00 (by omega) h9a
  have sv00 := store_first (N := 2048) (W := 256) (h := 256) (w := 128) _ _ _ e150 (k0_off15_inb i 0) _ pv00 (by omega) h10a
  have a0' := pay35_apply a0 k00 s00
  have p10 := pay36_apply q1 l1 m1 k10
  have s10 := pay37_apply q1 g1 l1 d1 m1 k10 v10
  have dk10 := load (N := 2048) (W := 512) (h := 256) (w := 256) (e := .f32) rfl arg9.view _ e160 (k0_off16_inb i 0) sk00.2
  simp only [mix_ge (Nat.le_add_right _ _), cast_eq] at dk10
  have dv10 := load (N := 2048) (W := 256) (h := 256) (w := 128) (e := .f32) rfl arg10.view _ e180 (k0_off18_inb i 0) sv00.2
  simp only [mix_ge (Nat.le_add_right _ _), cast_eq] at dv10
  have pk10 := pay38_apply q1 g1 l1 d1 m1 k10 v10 dk10
  have pv10 := pay39_apply g1 p10 dv10
  have sk10 := store_second (N := 2048) (W := 512) (h := 256) (w := 256) _ _ _ e160 (k0_off16_inb i 0) _ pk10 (by omega) sk00
  have sv10 := store_second (N := 2048) (W := 256) (h := 256) (w := 128) _ _ _ e180 (k0_off18_inb i 0) _ pv10 (by omega) sv00
  have a1' := pay40_apply a1 k10 s10
  -- the second masked block
  have m2 := pay41_apply (S := T + 256) (T := T) e2 e1' b1' b2
  have p01 := pay42_apply e2 e1' b1' b2 q0 l0 k01
  have s01 := pay43_apply e2 e1' b1' b2 q0 g0 l0 d0 k01 v01
  have dk01 := load (N := 2048) (W := 512) (h := 256) (w := 256) (e := .f32) rfl arg9.view _ e131 (k0_off13_inb i 1) sk10.1
  simp only [mix_ge (Nat.le_add_right _ _), cast_eq] at dk01
  have dv01 := load (N := 2048) (W := 256) (h := 256) (w := 128) (e := .f32) rfl arg10.view _ e151 (k0_off15_inb i 1) sv10.1
  simp only [mix_ge (Nat.le_add_right _ _), cast_eq] at dv01
  have pk01 := pay45_apply q0 s01 dk01
  have pv01 := pay46_apply g0 p01 dv01
  have sk01 := store_first (N := 2048) (W := 512) (h := 256) (w := 256) _ _ _ e131 (k0_off13_inb i 1) _ pk01 (by omega) sk10
  have sv01 := store_first (N := 2048) (W := 256) (h := 256) (w := 128) _ _ _ e151 (k0_off15_inb i 1) _ pv01 (by omega) sv10
  have a0'' := pay47_apply a0' k01 s01
  have p11 := pay48_apply q1 l1 m2 k11
  have s11 := pay49_apply q1 g1 l1 d1 m2 k11 v11
  have dk11 := load (N := 2048) (W := 512) (h := 256) (w := 256) (e := .f32) rfl arg9.view _ e161 (k0_off16_inb i 1) sk01.2
  simp only [mix_ge (Nat.le_add_right _ _), cast_eq] at dk11
  have dv11 := load (N := 2048) (W := 256) (h := 256) (w := 128) (e := .f32) rfl arg10.view _ e181 (k0_off18_inb i 1) sv01.2
  simp only [mix_ge (Nat.le_add_right _ _), cast_eq] at dv11
  have pk11 := pay50_apply q1 g1 l1 d1 m2 k11 v11 dk11
  have pv11 := pay1_apply g1 p11 dv11
  have sk11 := store_second (N := 2048) (W := 512) (h := 256) (w := 256) _ _ _ e161 (k0_off16_inb i 1) _ pk11 (by omega) sk01
  have sv11 := store_second (N := 2048) (W := 256) (h := 256) (w := 128) _ _ _ e181 (k0_off18_inb i 1) _ pv11 (by omega) sv01
  have a1'' := pay2_apply a1' k11 s11
  unfold out0_A_6 out0_A_7 out0_A_8
  rw [View.read_writes_eq_canon VO0_7 _ _ (cover0_A_7 c i arg2 harg2 arg3 harg3 arg4 harg4 arg5 harg5 arg6 harg6 arg7 harg7 arg8 harg8 arg9 harg9 arg10 harg10 hc0 x0 x1 x2 x3 x4 x5), ← View.read_writes_eq_canon arg9.view arg9.view.junk _ (cover0_A_7 c i arg2 harg2 arg3 harg3 arg4 harg4 arg5 harg5 arg6 harg6 arg7 harg7 arg8 harg8 arg9 harg9 arg10 harg10 hc0 x0 x1 x2 x3 x4 x5),
    View.read_writes_eq_canon VO0_8 _ _ (cover0_A_8 c i arg2 harg2 arg3 harg3 arg4 harg4 arg5 harg5 arg6 harg6 arg7 harg7 arg8 harg8 arg9 harg9 arg10 harg10 hc0 x0 x1 x2 x3 x4 x5), ← View.read_writes_eq_canon arg10.view arg10.view.junk _ (cover0_A_8 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  rw [show Scf.trips (k0_t1_loop i).lb (k0_t1_loop i).ub (k0_t1_loop i).st = 2 * (i 1).val from ht1,
    show Scf.trips (k0_t2_loop i).lb (k0_t2_loop i).ub (k0_t2_loop i).st = 0 from trips2 i]
  simp only [st_k0_t2_zero, List.nil_append]
  refine ⟨⟨?_, ?_⟩, sk11, sv11⟩
  · refine store_out (N := 512) (W := 512) (h := 512) (w := 256) _ _ _ rfl _ _ (by omega) ?_
    exact store_head (N := 512) (W := 512) (w := 256) _ _ [] _ _ a0''
  · exact store_head (N := 512) (W := 512) (w := 256) _ _ _ _ _ a1''

end Cert.MlaAttnIdeal.Hand

end

end
-- ==== Proof.AttnBodyB.lean ====
module

public import proofs.«01_k».proof.Proof.AttnParts

/-! A grid point which adds to what the points before it left. -/

@[expose] public section

set_option maxRecDepth 16384

noncomputable section

namespace Cert.MlaAttnIdeal.Hand

open Idealize.ShloMosaic Idealize.ShloMosaic.TcCoe Idealize.ShloMosaic.Tactic
open Idealize.ShloMosaic.Pipeline
open Cert.MlaAttnIdeal Cert.MlaAttnIdeal.Gen Soft

set_option maxHeartbeats 4000000 in
theorem body_B {A B : Head} {T : ℕ} (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S512x256 .f32) (harg7 : arg7.IsWhole) (arg8 : Memref sig .tc .vmem S512x512 .f32) (harg8 : arg8.IsWhole) (arg9 : Memref sig .tc .vmem S2048x512 .f32) (harg9 : arg9.IsWhole) (arg10 : Memref sig .tc .vmem S2048x256 .f32) (harg10 : arg10.IsWhole) (hc0 : ¬cond0_0 i)
    (x0 : Vec Ideal S512x512 .bf16) (x1 : Vec Ideal S2048x512 .bf16) (x2 : Vec Ideal S2048x512 .bf16) (x3 : Vec Ideal S512x256 .bf16) (x4 : Vec Ideal S512x256 .bf16) (x5 : Vec Ideal S512x256 .f32) (xo7 : Vec Ideal S2048x512 .f32) (xo8 : Vec Ideal S2048x256 .f32)
    (hT : T = 512 * (i 1).val)
    (hx0 : Two (N := 512) (W := 512) x0 0 256 256 (fun r d => A.q (T + r) d) (fun r d => B.q (T + r) d))
    (hx1 : Two (N := 2048) (W := 512) x1 0 256 256 A.k B.k) (hx2 : Two (N := 2048) (W := 512) x2 128 384 128 A.v B.v)
    (hx3 : Two (N := 512) (W := 256) x3 0 128 128 (fun r d => A.o (T + r) d) (fun r d => B.o (T + r) d))
    (hx4 : Two (N := 512) (W := 256) x4 0 128 128 (fun r d => A.g (T + r) d) (fun r d => B.g (T + r) d))
    (hx5 : Two (N := 512) (W := 256) x5 0 128 1 (fun r _ => A.lse (T + r)) (fun r _ => B.lse (T + r)))
    (h7 : Two (N := 2048) (W := 512) xo7 0 256 256 (A.dk T) (B.dk T)) (h8 : Two (N := 2048) (W := 256) xo8 0 128 128 (A.dv T) (B.dv T)) :
    Two (N := 512) (W := 512) (out0_B_6 c i arg2 harg2 arg3 harg3 arg4 harg4 arg5 harg5 arg6 harg6 arg7 harg7 arg8 harg8 arg9 harg9 arg10 harg10 hc0 x0 x1 x2 x3 x4 x5 xo7 xo8) 0 256 256 (fun r d => A.dq (T + 512) (T + r) d) (fun r d => B.dq (T + 512) (T + r) d)
    ∧ DK A B T (T + 512) (out0_B_7 c i arg2 harg2 arg3 harg3 arg4 harg4 arg5 harg5 arg6 harg6 arg7 harg7 arg8 harg8 arg9 harg9 arg10 harg10 hc0 x0 x1 x2 x3 x4 x5 xo7 xo8)
    ∧ DV A B T (T + 512) (out0_B_8 c i arg2 harg2 arg3 harg3 arg4 harg4 arg5 harg5 arg6 harg6 arg7 harg7 arg8 harg8 arg9 harg9 arg10 harg10 hc0 x0 x1 x2 x3 x4 x5 xo7 xo8) := by
  have b2 : T + 512 ≤ 4096 := by have := row_lt i; omega
  have b1 : T + 256 ≤ 4096 := by omega
  have b1' : T + 256 + 256 ≤ 4096 := by omega
  have e130 := off130 i
  have e131 := off131 i
  have e140 := off140 i
  have e141 := off141 i
  have e150 := off150 i
  have e151 := off151 i
  have e160 := off160 i
  have e161 := off161 i
  have e170 := off170 i
  have e171 := off171 i
  have e180 := off180 i
  have e181 := off181 i
  have e2 := word_row i
  have e1 := word_key0 i
  have e1' := word_key1 i
  have ht1 : (k0_t1_loop i).trips = 2 * (i 1).val := trips1 i
  rw [← hT] at e130 e131 e140 e141 e150 e151 e160 e161 e170 e171 e180 e181 e2 e1 e1'
  have hn : 256 * (2 * (i 1).val) = T := by omega
  have h3 : Two (N := 2048) (W := 512) (arg3.view.read (Elt Ideal) (harg3.unread x1)) 0 256 256 A.k B.k := by rw [harg3.read_unread]; exact hx1
  have h4 : Two (N := 2048) (W := 512) (arg4.view.read (Elt Ideal) (harg4.unread x2)) 128 384 128 A.v B.v := by rw [harg4.read_unread]; exact hx2
  have h9 : DK A B T 0 (arg9.view.read (Elt Ideal) (harg9.unread xo7)) := by
    rw [harg9.read_unread]; unfold DK; simp only [mix_zero]; exact h7
  have h10 : DV A B T 0 (arg10.view.read (Elt Ideal) (harg10.unread xo8)) := by
    rw [harg10.read_unread]; unfold DV; simp only [mix_zero]; exact h8
  have q0 := load_rows (N := 512) (W := 512) (h := 512) (w := 256) (e := .bf16) rfl arg2 harg2 x0 inb_S512x512_S512x256_0_0 hx0.1
  have q1 := load_rows (N := 512) (W := 512) (h := 512) (w := 256) (e := .bf16) rfl arg2 harg2 x0 inb_S512x512_S512x256_0_256 hx0.2
  have g0 := load_rows (N := 512) (W := 256) (h := 512) (w := 128) (e := .bf16) rfl arg6 harg6 x4 inb_S512x256_S512x128_0_0 hx4.1
  have g1 := load_rows (N := 512) (W := 256) (h := 512) (w := 128) (e := .bf16) rfl arg6 harg6 x4 inb_S512x256_S512x128_0_128 hx4.2
  have o0 := load_rows (N := 512) (W := 256) (h := 512) (w := 128) (e := .bf16) rfl arg5 harg5 x3 inb_S512x256_S512x128_0_0 hx3.1
  have o1 := load_rows (N := 512) (W := 256) (h := 512) (w := 128) (e := .bf16) rfl arg5 harg5 x3 inb_S512x256_S512x128_0_128 hx3.2
  have l0 := load_rows (N := 512) (W := 256) (h := 512) (w := 1) (e := .f32) rfl arg7 harg7 x5 inb_S512x256_S512x1_0_0 hx5.1
  have l1 := load_rows (N := 512) (W := 256) (h := 512) (w := 1) (e := .f32) rfl arg7 harg7 x5 inb_S512x256_S512x1_0_128 hx5.2
  simp only [cast_eq] at q0 q1 g0 g1 o0 o1 l0 l1
  have hR : Rows A B T
      (arg2.view.readAt (Elt Ideal) (Rect.unit (s := S512x512) ![0, 0] S512x256.size inb_S512x512_S512x256_0_0).toLoadRect (harg2.unread x0))
      (arg2.view.readAt (Elt Ideal) (Rect.unit (s := S512x512) ![0, 256] S512x256.size inb_S512x512_S512x256_0_256).toLoadRect (harg2.unread x0))
      (arg6.view.readAt (Elt Ideal) (Rect.unit (s := S512x256) ![0, 0] S512x128.size inb_S512x256_S512x128_0_0).toLoadRect (harg6.unread x4))
      (arg6.view.readAt (Elt Ideal) (Rect.unit (s := S512x256) ![0, 128] S512x128.size inb_S512x256_S512x128_0_128).toLoadRect (harg6.unread x4))
      (k0_pay15 (arg7.view.readAt (Elt Ideal) (Rect.unit (s := S512x256) ![0, 0] S512x1.size inb_S512x256_S512x1_0_0).toLoadRect (harg7.unread x5)))
      (k0_pay16 (arg7.view.readAt (Elt Ideal) (Rect.unit (s := S512x256) ![0, 128] S512x1.size inb_S512x256_S512x1_0_128).toLoadRect (harg7.unread x5)))
      (k0_pay17 (arg6.view.readAt (Elt Ideal) (Rect.unit (s := S512x256) ![0, 0] S512x128.size inb_S512x256_S512x128_0_0).toLoadRect (harg6.unread x4)) (arg5.view.readAt (Elt Ideal) (Rect.unit (s := S512x256) ![0, 0] S512x128.size inb_S512x256_S512x128_0_0).toLoadRect (harg5.unread x3)))
      (k0_pay18 (arg6.view.readAt (Elt Ideal) (Rect.unit (s := S512x256) ![0, 128] S512x128.size inb_S512x256_S512x128_0_128).toLoadRect (harg6.unread x4)) (arg5.view.readAt (Elt Ideal) (Rect.unit (s := S512x256) ![0, 128] S512x128.size inb_S512x256_S512x128_0_128).toLoadRect (harg5.unread x3))) :=
    ⟨q0, q1, g0, g1, fun r => (lse0 _ r).trans (l0 r 0), fun r => (lse1 _ r).trans (l1 r 0), pay17_apply g0 o0, pay18_apply g1 o1⟩
  have hst := st_step Variants.none c none i arg2 harg2 arg3 harg3 arg4 harg4 arg5 harg5 arg6 harg6 arg7 harg7 arg8 harg8 arg9 harg9 arg10 harg10 (BitVec.ofNat 32 (i 1).val) _ _ _ _ _ _ _ _ (k0_pay19 (F := Ideal))
    (Scalar.muli (BitVec.ofNat 32 (i 1).val) 2#32)
    (Scalar.addi (Scalar.addi 0#32 (Scalar.muli (BitVec.ofNat 32 (i 1).val) 2#32)) 0#32)
    (harg3.unread x1) (harg4.unread x2) hR h3 h4 (harg9.unread xo7) (harg10.unread xo8)
    (k0_pay19 (F := Ideal), k0_pay19 (F := Ideal))
    (carry_init A B T) h9 h10 (2 * (i 1).val) (le_of_eq ht1.symm) (le_of_eq hn)
  rw [hn] at hst
  obtain ⟨hc, h9a, h10a⟩ := hst
  obtain ⟨-, -, -, -, l0, l1, d0, d1⟩ := hR
  obtain ⟨a0, a1⟩ := hc
  have k00 := load (N := 2048) (W := 512) (h := 256) (w := 256) (e := .bf16) rfl arg3.view (harg3.unread x1) e130 (k0_off13_inb i 0) h3.1
  have v00 := load (N := 2048) (W := 512) (h := 256) (w := 128) (e := .bf16) rfl arg4.view (harg4.unread x2) e140 (k0_off14_inb i 0) h4.1
  have k01 := load (N := 2048) (W := 512) (h := 256) (w := 256) (e := .bf16) rfl arg3.view (harg3.unread x1) e131 (k0_off13_inb i 1) h3.1
  have v01 := load (N := 2048) (W := 512) (h := 256) (w := 128) (e := .bf16) rfl arg4.view (harg4.unread x2) e141 (k0_off14_inb i 1) h4.1
  have k10 := load (N := 2048) (W := 512) (h := 256) (w := 256) (e := .bf16) rfl arg3.view (harg3.unread x1) e160 (k0_off16_inb i 0) h3.2
  have v10 := load (N := 2048) (W := 512) (h := 256) (w := 128) (e := .bf16) rfl arg4.view (harg4.unread x2) e170 (k0_off17_inb i 0) h4.2
  have k11 := load (N := 2048) (W := 512) (h := 256) (w := 256) (e := .bf16) rfl arg3.view (harg3.unread x1) e161 (k0_off16_inb i 1) h3.2
  have v11 := load (N := 2048) (W := 512) (h := 256) (w := 128) (e := .bf16) rfl arg4.view (harg4.unread x2) e171 (k0_off17_inb i 1) h4.2
  simp only [cast_eq] at k00 k01 k10 k11 v00 v01 v10 v11
  -- the first masked block
  have m1 := pay30_apply (S := T) (T := T) e2 e1 b1 b2
  have p00 := pay31_apply e2 e1 b1 b2 q0 l0 k00
  have s00 := pay32_apply e2 e1 b1 b2 q0 g0 l0 d0 k00 v00
  have dk00 := load (N := 2048) (W := 512) (h := 256) (w := 256) (e := .f32) rfl arg9.view _ e130 (k0_off13_inb i 0) h9a.1
  simp only [mix_ge (Nat.le_add_right _ _), cast_eq] at dk00
  have dv00 := load (N := 2048) (W := 256) (h := 256) (w := 128) (e := .f32) rfl arg10.view _ e150 (k0_off15_inb i 0) h10a.1
  simp only [mix_ge (Nat.le_add_right _ _), cast_eq] at dv00
  have pk00 := pay33_apply q0 s00 dk00
  have pv00 := pay34_apply g0 p00 dv00
  have sk00 := store_first (N := 2048) (W := 512) (h := 256) (w := 256) _ _ _ e130 (k0_off13_inb i 0) _ pk00 (by omega) h9a
  have sv00 := store_first (N := 2048) (W := 256) (h := 256) (w := 128) _ _ _ e150 (k0_off15_inb i 0) _ pv00 (by omega) h10a
  have a0' := pay35_apply a0 k00 s00
  have p10 := pay36_apply q1 l1 m1 k10
  have s10 := pay37_apply q1 g1 l1 d1 m1 k10 v10
  have dk10 := load (N := 2048) (W := 512) (h := 256) (w := 256) (e := .f32) rfl arg9.view _ e160 (k0_off16_inb i 0) sk00.2
  simp only [mix_ge (Nat.le_add_right _ _), cast_eq] at dk10
  have dv10 := load (N := 2048) (W := 256) (h := 256) (w := 128) (e := .f32) rfl arg10.view _ e180 (k0_off18_inb i 0) sv00.2
  simp only [mix_ge (Nat.le_add_right _ _), cast_eq] at dv10
  have pk10 := pay38_apply q1 g1 l1 d1 m1 k10 v10 dk10
  have pv10 := pay39_apply g1 p10 dv10
  have sk10 := store_second (N := 2048) (W := 512) (h := 256) (w := 256) _ _ _ e160 (k0_off16_inb i 0) _ pk10 (by omega) sk00
  have sv10 := store_second (N := 2048) (W := 256) (h := 256) (w := 128) _ _ _ e180 (k0_off18_inb i 0) _ pv10 (by omega) sv00
  have a1' := pay40_apply a1 k10 s10
  -- the second masked block
  have m2 := pay41_apply (S := T + 256) (T := T) e2 e1' b1' b2
  have p01 := pay42_apply e2 e1' b1' b2 q0 l0 k01
  have s01 := pay43_apply e2 e1' b1' b2 q0 g0 l0 d0 k01 v01
  have dk01 := load (N := 2048) (W := 512) (h := 256) (w := 256) (e := .f32) rfl arg9.view _ e131 (k0_off13_inb i 1) sk10.1
  simp only [mix_ge (Nat.le_add_right _ _), cast_eq] at dk01
  have dv01 := load (N := 2048) (W := 256) (h := 256) (w := 128) (e := .f32) rfl arg10.view _ e151 (k0_off15_inb i 1) sv10.1
  simp only [mix_ge (Nat.le_add_right _ _), cast_eq] at dv01
  have pk01 := pay45_apply q0 s01 dk01
  have pv01 := pay46_apply g0 p01 dv01
  have sk01 := store_first (N := 2048) (W := 512) (h := 256) (w := 256) _ _ _ e131 (k0_off13_inb i 1) _ pk01 (by omega) sk10
  have sv01 := store_first (N := 2048) (W := 256) (h := 256) (w := 128) _ _ _ e151 (k0_off15_inb i 1) _ pv01 (by omega) sv10
  have a0'' := pay47_apply a0' k01 s01
  have p11 := pay48_apply q1 l1 m2 k11
  have s11 := pay49_apply q1 g1 l1 d1 m2 k11 v11
  have dk11 := load (N := 2048) (W := 512) (h := 256) (w := 256) (e := .f32) rfl arg9.view _ e161 (k0_off16_inb i 1) sk01.2
  simp only [mix_ge (Nat.le_add_right _ _), cast_eq] at dk11
  have dv11 := load (N := 2048) (W := 256) (h := 256) (w := 128) (e := .f32) rfl arg10.view _ e181 (k0_off18_inb i 1) sv01.2
  simp only [mix_ge (Nat.le_add_right _ _), cast_eq] at dv11
  have pk11 := pay50_apply q1 g1 l1 d1 m2 k11 v11 dk11
  have pv11 := pay1_apply g1 p11 dv11
  have sk11 := store_second (N := 2048) (W := 512) (h := 256) (w := 256) _ _ _ e161 (k0_off16_inb i 1) _ pk11 (by omega) sk01
  have sv11 := store_second (N := 2048) (W := 256) (h := 256) (w := 128) _ _ _ e181 (k0_off18_inb i 1) _ pv11 (by omega) sv01
  have a1'' := pay2_apply a1' k11 s11
  unfold out0_B_6 out0_B_7 out0_B_8
  unfold kernelRun0_B
  dsimp only
  sl_unfold_words
  rw [show Scf.trips (k0_t1_loop i).lb (k0_t1_loop i).ub (k0_t1_loop i).st = 2 * (i 1).val from ht1,
    show Scf.trips (k0_t2_loop i).lb (k0_t2_loop i).ub (k0_t2_loop i).st = 0 from trips2 i]
  simp only [st_k0_t2_zero, List.nil_append]
  refine ⟨⟨?_, ?_⟩, sk11, sv11⟩
  · refine store_out (N := 512) (W := 512) (h := 512) (w := 256) _ _ _ rfl _ _ (by omega) ?_
    exact store_head (N := 512) (W := 512) (w := 256) _ _ [] _ _ a0''
  · exact store_head (N := 512) (W := 512) (w := 256) _ _ _ _ _ a1''

end Cert.MlaAttnIdeal.Hand

end

end
-- ==== Proof.AttnPoints.lean ====
module

public import proofs.«01_k».proof.Proof.AttnHost
public import proofs.«01_k».proof.Proof.AttnBodyA
public import proofs.«01_k».proof.Proof.AttnBodyB
public import proofs.«01_k».proof.Proof.Gen.MlaAttnIdeal.Value

/-! What each grid point of the latent attention's backward kernel leaves in its three output blocks. -/

@[expose] public section

set_option maxRecDepth 16384

noncomputable section

namespace Cert.MlaAttnIdeal.Hand

open Idealize.ShloMosaic Idealize.ShloMosaic.TcCoe Idealize.ShloMosaic.Tactic
open Idealize.ShloMosaic.Pipeline
open Cert.MlaAttnIdeal Cert.MlaAttnIdeal.Gen Stick Soft

theorem row_of : ∀ t : Fin cfg0.N, (grid0.coords t 1).val = t.val % 4 :=
  (by decide +kernel : ∀ t : Fin grid0.N, (grid0.coords t 1).val = t.val % 4)

theorem index_of : ∀ t : Fin cfg0.N, win0_0.index t = ![t.val % 4, t.val / 4] ∧ win0_1.index t = ![0, t.val / 4]
    ∧ win0_2.index t = ![0, t.val / 4] ∧ win0_3.index t = ![t.val % 4, t.val / 4] ∧ win0_4.index t = ![t.val % 4, t.val / 4]
    ∧ win0_5.index t = ![t.val % 4, t.val / 4] ∧ win0_6.index t = ![t.val % 4, t.val / 4] ∧ win0_7.index t = ![0, t.val / 4]
    ∧ win0_8.index t = ![0, t.val / 4] :=
  (by decide +kernel : ∀ t : Fin grid0.N, win0_0.index t = ![t.val % 4, t.val / 4] ∧ win0_1.index t = ![0, t.val / 4]
    ∧ win0_2.index t = ![0, t.val / 4] ∧ win0_3.index t = ![t.val % 4, t.val / 4] ∧ win0_4.index t = ![t.val % 4, t.val / 4]
    ∧ win0_5.index t = ![t.val % 4, t.val / 4] ∧ win0_6.index t = ![t.val % 4, t.val / 4] ∧ win0_7.index t = ![0, t.val / 4]
    ∧ win0_8.index t = ![0, t.val / 4])

/-- Once a block of rows has been added, the keys after it have nothing more to come from it. -/
theorem mix_dk (A : Head) {T : ℕ} (hT : T % 64 = 0) : mix (T + 512) (A.dk T) (A.dk (T + 512)) = A.dk (T + 512) := by
  funext s d
  unfold mix
  split
  · rfl
  · exact A.dk_late (by omega) (by omega) d

theorem mix_dv (A : Head) {T : ℕ} (hT : T % 64 = 0) : mix (T + 512) (A.dv T) (A.dv (T + 512)) = A.dv (T + 512) := by
  funext s d
  unfold mix
  split
  · rfl
  · exact A.dv_late (by omega) (by omega) d

variable (m : (ℓ : Loc nD τ sig) → Buf (Elt Ideal) ℓ) (c : Dev nD) (Q K W G : ℕ → ℕ → ℝ)

theorem rd0 (t : Fin cfg0.N) (r : Fin 512) (x : Fin 512) :
    iblk m c 0 t (ix2 r x) = m ((c : Thread nD τ).loc main_arg0) (ix2 ⟨512 * (t.val % 4) + r.val, by omega⟩ ⟨512 * (t.val / 4) + x.val, by have : t.val < 32 := t.isLt; omega⟩) := by
  blk_ext [iblk, V_main_arg0, index_of t]

theorem rd1 (t : Fin cfg0.N) (r : Fin 2048) (x : Fin 512) :
    iblk m c 1 t (ix2 r x) = m ((c : Thread nD τ).loc main_arg1) (ix2 r ⟨512 * (t.val / 4) + x.val, by have : t.val < 32 := t.isLt; omega⟩) := by
  blk_ext [iblk, V_main_arg1, index_of t]

theorem rd2 (t : Fin cfg0.N) (r : Fin 2048) (x : Fin 512) :
    iblk m c 2 t (ix2 r x) = m ((c : Thread nD τ).loc main_arg2) (ix2 r ⟨512 * (t.val / 4) + x.val, by have : t.val < 32 := t.isLt; omega⟩) := by
  blk_ext [iblk, V_main_arg2, index_of t]

theorem rd3_any (U : (b : Ref sig Kind.tc) → Buf (Elt Ideal) ((c : Thread nD τ).loc b)) (t : Fin cfg0.N) (r : Fin 512) (x : Fin 256) :
    View.read (Elt Ideal) ((cfg0.win 3).blk t).view (U (arrRef spec0 3)) (ix2 r x) = U main_v37 (ix2 ⟨512 * (t.val % 4) + r.val, by omega⟩ ⟨256 * (t.val / 4) + x.val, by have : t.val < 32 := t.isLt; omega⟩) := by
  blk_ext [index_of t]

theorem rd3 (t : Fin cfg0.N) (r : Fin 512) (x : Fin 256) :
    iblk m c 3 t (ix2 r x) = V m c main_v37 (ix2 ⟨512 * (t.val % 4) + r.val, by omega⟩ ⟨256 * (t.val / 4) + x.val, by have : t.val < 32 := t.isLt; omega⟩) :=
  rd3_any c (V m c) t r x

theorem rd4 (t : Fin cfg0.N) (r : Fin 512) (x : Fin 256) :
    iblk m c 4 t (ix2 r x) = m ((c : Thread nD τ).loc main_arg3) (ix2 ⟨512 * (t.val % 4) + r.val, by omega⟩ ⟨256 * (t.val / 4) + x.val, by have : t.val < 32 := t.isLt; omega⟩) := by
  blk_ext [iblk, V_main_arg3, index_of t]

theorem rd5_any (U : (b : Ref sig Kind.tc) → Buf (Elt Ideal) ((c : Thread nD τ).loc b)) (t : Fin cfg0.N) (r : Fin 512) (x : Fin 256) :
    View.read (Elt Ideal) ((cfg0.win 5).blk t).view (U (arrRef spec0 5)) (ix2 r x) = U main_v42 (ix2 ⟨512 * (t.val % 4) + r.val, by omega⟩ ⟨256 * (t.val / 4) + x.val, by have : t.val < 32 := t.isLt; omega⟩) := by
  blk_ext [index_of t]

theorem rd5 (t : Fin cfg0.N) (r : Fin 512) (x : Fin 256) :
    iblk m c 5 t (ix2 r x) = V m c main_v42 (ix2 ⟨512 * (t.val % 4) + r.val, by omega⟩ ⟨256 * (t.val / 4) + x.val, by have : t.val < 32 := t.isLt; omega⟩) :=
  rd5_any c (V m c) t r x

variable (hQ : ∀ t n, m ((c : Thread nD τ).loc main_arg0) (ix2 t n) = (Q t n : EReal))
variable (hK : ∀ t n, m ((c : Thread nD τ).loc main_arg1) (ix2 t n) = (K t n : EReal))
variable (hW : ∀ t n, m ((c : Thread nD τ).loc main_arg2) (ix2 t n) = (W t n : EReal))
variable (hG : ∀ t n, m ((c : Thread nD τ).loc main_arg3) (ix2 t n) = (G t n : EReal))

include hQ in
theorem in0 (t : Fin cfg0.N) : Two (N := 512) (W := 512) (iblk m c 0 t) 0 256 256
    (fun r d => (hd Q K W G (2 * (t.val / 4))).q (512 * (t.val % 4) + r) d) (fun r d => (hd Q K W G (2 * (t.val / 4) + 1)).q (512 * (t.val % 4) + r) d) := by
  constructor
  · intro r x h0 h1
    rw [rd0, hQ]
    simp only [hd]
    congr 2; omega
  · intro r x h0 h1
    rw [rd0, hQ]
    simp only [hd]
    congr 2; omega

include hK in
theorem in1 (t : Fin cfg0.N) : Two (N := 2048) (W := 512) (iblk m c 1 t) 0 256 256
    (hd Q K W G (2 * (t.val / 4))).k (hd Q K W G (2 * (t.val / 4) + 1)).k := by
  constructor
  · intro r x h0 h1
    rw [rd1, hK]
    simp only [hd]
    congr 2; omega
  · intro r x h0 h1
    rw [rd1, hK]
    simp only [hd]
    congr 2; omega

include hW in
theorem in2 (t : Fin cfg0.N) : Two (N := 2048) (W := 512) (iblk m c 2 t) 128 384 128
    (hd Q K W G (2 * (t.val / 4))).v (hd Q K W G (2 * (t.val / 4) + 1)).v := by
  constructor
  · intro r x h0 h1
    rw [rd2, hW]
    simp only [hd]
    congr 2; omega
  · intro r x h0 h1
    rw [rd2, hW]
    simp only [hd]
    congr 2; omega

include hG in
theorem in4 (t : Fin cfg0.N) : Two (N := 512) (W := 256) (iblk m c 4 t) 0 128 128
    (fun r d => (hd Q K W G (2 * (t.val / 4))).g (512 * (t.val % 4) + r) d) (fun r d => (hd Q K W G (2 * (t.val / 4) + 1)).g (512 * (t.val % 4) + r) d) := by
  constructor
  · intro r x h0 h1
    rw [rd4, hG]
    simp only [hd]
    congr 2; omega
  · intro r x h0 h1
    rw [rd4, hG]
    simp only [hd]
    congr 2; omega

include hQ hK hW in
theorem in3 (t : Fin cfg0.N) : Two (N := 512) (W := 256) (iblk m c 3 t) 0 128 128
    (fun r d => (hd Q K W G (2 * (t.val / 4))).o (512 * (t.val % 4) + r) d) (fun r d => (hd Q K W G (2 * (t.val / 4) + 1)).o (512 * (t.val % 4) + r) d) := by
  constructor
  · intro r x h0 h1
    refine (rd3 m c t r x).trans ((o_apply m c Q K W G hQ hK hW _ _).trans ?_)
    have e : (256 * (t.val / 4) + x.val) / 128 = 2 * (t.val / 4) := by omega
    have e' : (256 * (t.val / 4) + x.val) % 128 = x.val - 0 := by omega
    dsimp only
    rw [e, e']
  · intro r x h0 h1
    refine (rd3 m c t r x).trans ((o_apply m c Q K W G hQ hK hW _ _).trans ?_)
    have e : (256 * (t.val / 4) + x.val) / 128 = 2 * (t.val / 4) + 1 := by omega
    have e' : (256 * (t.val / 4) + x.val) % 128 = x.val - 128 := by omega
    dsimp only
    rw [e, e']

include hQ hK in
theorem in5 (t : Fin cfg0.N) : Two (N := 512) (W := 256) (iblk m c 5 t) 0 128 1
    (fun r _ => (hd Q K W G (2 * (t.val / 4))).lse (512 * (t.val % 4) + r)) (fun r _ => (hd Q K W G (2 * (t.val / 4) + 1)).lse (512 * (t.val % 4) + r)) := by
  constructor
  · intro r x h0 h1
    refine (rd5 m c t r x).trans ((lse_apply m c Q K W G hQ hK _ _).trans ?_)
    have e : (256 * (t.val / 4) + x.val) / 128 = 2 * (t.val / 4) := by omega
    dsimp only
    rw [e]
  · intro r x h0 h1
    refine (rd5 m c t r x).trans ((lse_apply m c Q K W G hQ hK _ _).trans ?_)
    have e : (256 * (t.val / 4) + x.val) / 128 = 2 * (t.val / 4) + 1 := by omega
    dsimp only
    rw [e]

/-- What a grid point leaves in the three output blocks. -/
def Left (A B : Head) (T : ℕ) (o : Vec Ideal S512x512 .f32 × Vec Ideal S2048x512 .f32 × Vec Ideal S2048x256 .f32) : Prop :=
  Two (N := 512) (W := 512) o.1 0 256 256 (fun r d => A.dq (T + 512) (T + r) d) (fun r d => B.dq (T + 512) (T + r) d)
    ∧ Two (N := 2048) (W := 512) o.2.1 0 256 256 (A.dk (T + 512)) (B.dk (T + 512))
    ∧ Two (N := 2048) (W := 256) o.2.2 0 128 128 (A.dv (T + 512)) (B.dv (T + 512))

theorem left_of {A B : Head} {T : ℕ} {o6 : Vec Ideal S512x512 .f32} {o7 : Vec Ideal S2048x512 .f32} {o8 : Vec Ideal S2048x256 .f32}
    (hT : T % 64 = 0) (h : Two (N := 512) (W := 512) o6 0 256 256 (fun r d => A.dq (T + 512) (T + r) d) (fun r d => B.dq (T + 512) (T + r) d)
      ∧ DK A B T (T + 512) o7 ∧ DV A B T (T + 512) o8) : Left A B T (o6, o7, o8) := by
  obtain ⟨h6, h7, h8⟩ := h
  unfold DK at h7
  unfold DV at h8
  rw [mix_dk A hT, mix_dk B hT] at h7
  rw [mix_dv A hT, mix_dv B hT] at h8
  exact ⟨h6, h7, h8⟩

include hQ hK hW hG in
theorem left_point : ∀ (n : ℕ) (hn : n < cfg0.N),
    Left (hd Q K W G (2 * (n / 4))) (hd Q K W G (2 * (n / 4) + 1)) (512 * (n % 4)) (outsAt0 m c n hn) := by
  intro n
  induction n with
  | zero =>
    intro hn
    rw [outsAt0_A m c ⟨0, hn⟩ rfl]
    exact left_of (by omega) (body_A c _ _ _ _ _ _ _ _ _ _ _ _ _ _ _ _ _ _ _ _ _ _ _ _ _ _ (by rw [row_of]) (in0 m c Q K W G hQ ⟨0, hn⟩)
      (in1 m c Q K W G hK ⟨0, hn⟩) (in2 m c Q K W G hW ⟨0, hn⟩) (in3 m c Q K W G hQ hK hW ⟨0, hn⟩) (in4 m c Q K W G hG ⟨0, hn⟩)
      (in5 m c Q K W G hQ hK ⟨0, hn⟩) rfl)
  | succ n ih =>
    intro hn
    by_cases h0 : (n + 1) % 4 = 0
    · rw [outsAt0_A m c ⟨n + 1, hn⟩ h0]
      exact left_of (by omega) (body_A c _ _ _ _ _ _ _ _ _ _ _ _ _ _ _ _ _ _ _ _ _ _ _ _ _ _ (by rw [row_of]) (in0 m c Q K W G hQ ⟨n + 1, hn⟩)
        (in1 m c Q K W G hK ⟨n + 1, hn⟩) (in2 m c Q K W G hW ⟨n + 1, hn⟩) (in3 m c Q K W G hQ hK hW ⟨n + 1, hn⟩)
        (in4 m c Q K W G hG ⟨n + 1, hn⟩) (in5 m c Q K W G hQ hK ⟨n + 1, hn⟩) (by rw [h0]))
    · rw [outsAt0_B m c ⟨n + 1, hn⟩ h0]
      have hi := ih (Nat.lt_of_succ_lt hn)
      have e1 : n / 4 = (n + 1) / 4 := by omega
      have e2 : 512 * (n % 4) + 512 = 512 * ((n + 1) % 4) := by omega
      unfold Left at hi
      rw [e2, e1] at hi
      exact left_of (by omega) (body_B c _ _ _ _ _ _ _ _ _ _ _ _ _ _ _ _ _ _ _ _ _ _ _ _ _ _ _ _ (by rw [row_of]) (in0 m c Q K W G hQ ⟨n + 1, hn⟩)
        (in1 m c Q K W G hK ⟨n + 1, hn⟩) (in2 m c Q K W G hW ⟨n + 1, hn⟩) (in3 m c Q K W G hQ hK hW ⟨n + 1, hn⟩)
        (in4 m c Q K W G hG ⟨n + 1, hn⟩) (in5 m c Q K W G hQ hK ⟨n + 1, hn⟩) hi.2.1 hi.2.2)

end Cert.MlaAttnIdeal.Hand

end

end
-- ==== Proof.AttnArrays.lean ====
module

public import proofs.«01_k».proof.Proof.AttnPoints

/-! The three result arrays of the latent attention's backward kernel, at a row and a column. -/

@[expose] public section

set_option maxRecDepth 16384

noncomputable section

namespace Cert.MlaAttnIdeal.Hand

open Idealize.ShloMosaic Idealize.ShloMosaic.TcCoe Idealize.ShloMosaic.Tactic
open Idealize.ShloMosaic.Pipeline
open Cert.MlaAttnIdeal Cert.MlaAttnIdeal.Gen Stick Soft

variable (m : (ℓ : Loc nD τ sig) → Buf (Elt Ideal) ℓ) (c : Dev nD) (Q K W G : ℕ → ℕ → ℝ)
variable (hQ : ∀ t n, m ((c : Thread nD τ).loc main_arg0) (ix2 t n) = (Q t n : EReal))
variable (hK : ∀ t n, m ((c : Thread nD τ).loc main_arg1) (ix2 t n) = (K t n : EReal))
variable (hW : ∀ t n, m ((c : Thread nD τ).loc main_arg2) (ix2 t n) = (W t n : EReal))
variable (hG : ∀ t n, m ((c : Thread nD τ).loc main_arg3) (ix2 t n) = (G t n : EReal))

include hQ hK hW hG

theorem arr6 : (dats m 0 c).arrAt 6 cfg0.N = fun i : S2048x4096.Idx =>
    ((hd Q K W G ((i 1).val / 256)).dq 2048 (i 0).val ((i 1).val % 256) : EReal) := by
  refine (dats m 0 c).arrAt_eq_of_covers 6 _ (by decide +kernel) fun t hf y => ?_
  have ht : t.val < 32 := t.isLt
  have hl := (left_point m c Q K W G hQ hK hW hG t.val t.isLt).1
  blk_simp [index_of t]
  rw [after0_6]
  obtain ⟨r, x, rfl⟩ : ∃ (r : Fin 512) (x : Fin 512), y = ix2 r x := ⟨y 0, y 1, by funext a; fin_cases a <;> rfl⟩
  show _ = ((hd Q K W G ((t.val / 4 * 512 + x.val) / 256)).dq 2048 (t.val % 4 * 512 + r.val) ((t.val / 4 * 512 + x.val) % 256) : EReal)
  by_cases hx : x.val < 256
  · rw [hl.1 r x (by omega) (by omega)]
    have e1 : (t.val / 4 * 512 + x.val) / 256 = 2 * (t.val / 4) := by omega
    have e2 : (t.val / 4 * 512 + x.val) % 256 = x.val - 0 := by omega
    rw [e1, e2, Nat.mul_comm (t.val % 4) 512, ← Head.dq_full _ (N := 512 * (t.val % 4) + 512) (by omega) (by omega) (by omega)]
  · rw [hl.2 r x (by omega) (by omega)]
    have e1 : (t.val / 4 * 512 + x.val) / 256 = 2 * (t.val / 4) + 1 := by omega
    have e2 : (t.val / 4 * 512 + x.val) % 256 = x.val - 256 := by omega
    rw [e1, e2, Nat.mul_comm (t.val % 4) 512, ← Head.dq_full _ (N := 512 * (t.val % 4) + 512) (by omega) (by omega) (by omega)]

theorem arr7 : (dats m 0 c).arrAt 7 cfg0.N = fun i : S2048x4096.Idx =>
    ((hd Q K W G ((i 1).val / 256)).dk 2048 (i 0).val ((i 1).val % 256) : EReal) := by
  refine (dats m 0 c).arrAt_eq_of_covers 7 _ (by decide +kernel) fun t hf y => ?_
  have ht : t.val < 32 := t.isLt
  have hl := (left_point m c Q K W G hQ hK hW hG t.val t.isLt).2.1
  have h3 : 512 * (t.val % 4) + 512 = 2048 := by have := (flush0_7 t).mp hf; omega
  rw [h3] at hl
  blk_simp [index_of t]
  rw [after0_7]
  obtain ⟨r, x, rfl⟩ : ∃ (r : Fin 2048) (x : Fin 512), y = ix2 r x := ⟨y 0, y 1, by funext a; fin_cases a <;> rfl⟩
  show _ = ((hd Q K W G ((t.val / 4 * 512 + x.val) / 256)).dk 2048 _ ((t.val / 4 * 512 + x.val) % 256) : EReal)
  by_cases hx : x.val < 256
  · rw [hl.1 r x (by omega) (by omega)]
    have e1 : (t.val / 4 * 512 + x.val) / 256 = 2 * (t.val / 4) := by omega
    have e2 : (t.val / 4 * 512 + x.val) % 256 = x.val - 0 := by omega
    rw [e1, e2]
    rfl
  · rw [hl.2 r x (by omega) (by omega)]
    have e1 : (t.val / 4 * 512 + x.val) / 256 = 2 * (t.val / 4) + 1 := by omega
    have e2 : (t.val / 4 * 512 + x.val) % 256 = x.val - 256 := by omega
    rw [e1, e2]
    rfl

theorem arr8 : (dats m 0 c).arrAt 8 cfg0.N = fun i : S2048x2048.Idx =>
    ((hd Q K W G ((i 1).val / 128)).dv 2048 (i 0).val ((i 1).val % 128) : EReal) := by
  refine (dats m 0 c).arrAt_eq_of_covers 8 _ (by decide +kernel) fun t hf y => ?_
  have ht : t.val < 32 := t.isLt
  have hl := (left_point m c Q K W G hQ hK hW hG t.val t.isLt).2.2
  have h3 : 512 * (t.val % 4) + 512 = 2048 := by have := (flush0_8 t).mp hf; omega
  rw [h3] at hl
  blk_simp [index_of t]
  rw [after0_8]
  obtain ⟨r, x, rfl⟩ : ∃ (r : Fin 2048) (x : Fin 256), y = ix2 r x := ⟨y 0, y 1, by funext a; fin_cases a <;> rfl⟩
  show _ = ((hd Q K W G ((t.val / 4 * 256 + x.val) / 128)).dv 2048 _ ((t.val / 4 * 256 + x.val) % 128) : EReal)
  by_cases hx : x.val < 128
  · rw [hl.1 r x (by omega) (by omega)]
    have e1 : (t.val / 4 * 256 + x.val) / 128 = 2 * (t.val / 4) := by omega
    have e2 : (t.val / 4 * 256 + x.val) % 128 = x.val - 0 := by omega
    rw [e1, e2]
    rfl
  · rw [hl.2 r x (by omega) (by omega)]
    have e1 : (t.val / 4 * 256 + x.val) / 128 = 2 * (t.val / 4) + 1 := by omega
    have e2 : (t.val / 4 * 256 + x.val) % 128 = x.val - 128 := by omega
    rw [e1, e2]
    rfl

end Cert.MlaAttnIdeal.Hand

end

end
-- ==== Proof.MlpValue.lean ====
module

public import proofs.«01_k».proof.Proof.Gen.MlpIdeal.Frame
public import Idealize.ShloMosaic.Lib.Pipeline.ValueKit
public import Idealize.ShloMosaic.Lib.Pipeline.ReadBack
public import Idealize.ShloMosaic.Lib.Claim
public import Idealize.ShloMosaic.Lib.Pointwise

/-! The four products of the feed-forward block, each as the array its call leaves, over any contents of the arrays it
    reads. -/

@[expose] public section

set_option maxRecDepth 16384

noncomputable section

namespace Cert.MlpIdeal.Hand

open Idealize.ShloMosaic Idealize.ShloMosaic.TcCoe Idealize.ShloMosaic.Tactic
open Idealize.ShloMosaic.Pipeline
open Cert.MlpIdeal Cert.MlpIdeal.Gen

/-- The hidden layer before its nonlinearity: `X` times the matrix whose eight column blocks are stacked in `Y`. -/
def up (X : FVec Ideal S2048x2048 .bf16) (Y : FVec Ideal S8x2048x1024 .bf16) : FVec Ideal S2048x8192 .f32 := fun i =>
  ∑ k : Fin 2048, X (ix2 (i 0) k)
    * Y (ix3 ⟨(i 1).val / 1024, by have : (i 1).val < 8192 := (i 1).isLt; omega⟩ k ⟨(i 1).val % 1024, by omega⟩)

/-- The square of the positive part. -/
def act (A : FVec Ideal S2048x8192 .f32) : FVec Ideal S2048x8192 .bf16 := fun i => max (A i) 0 * max (A i) 0

/-- The same, transposed. -/
def actT (A : FVec Ideal S2048x8192 .f32) : FVec Ideal S8192x2048 .bf16 := fun i => act A (ix2 (i 1) (i 0))

/-- The gradient before the nonlinearity: `G` times the transpose of `Y`, times the derivative at `A`. -/
def back (G : FVec Ideal S2048x2048 .bf16) (Y : FVec Ideal S8192x2048 .bf16) (A : FVec Ideal S2048x8192 .f32) :
    FVec Ideal S2048x8192 .bf16 := fun i =>
  (∑ k : Fin 2048, G (ix2 (i 0) k) * Y (ix2 (i 1) k)) * (Ideal.ofBits .f32 0x40000000#32 * max (A i) 0)

/-- The rows of `Z` times `G`, the row blocks laid out by device. -/
def rows (Z : FVec Ideal S8192x2048 .bf16) (G : FVec Ideal S2048x2048 .bf16) : FVec Ideal S2x4x1024x2048 .bf16 := fun i =>
  ∑ k : Fin 2048, Z (ix2 ⟨(2 * (i 1).val + (i 0).val) * 1024 + (i 2).val, by
      have h0 : (i 0).val < 2 := (i 0).isLt; have h1 : (i 1).val < 4 := (i 1).isLt; have h2 : (i 2).val < 1024 := (i 2).isLt; omega⟩ k)
    * G (ix2 k (i 3))

/-- `H` times the columns of `D`, the column blocks laid out by device. -/
def cols (H : FVec Ideal S2048x2048 .bf16) (D : FVec Ideal S2048x8192 .bf16) : FVec Ideal S2x4x2048x1024 .bf16 := fun i =>
  ∑ k : Fin 2048, H (ix2 (i 2) k) * D (ix2 k ⟨(2 * (i 1).val + (i 0).val) * 1024 + (i 3).val, by
      have h0 : (i 0).val < 2 := (i 0).isLt; have h1 : (i 1).val < 4 := (i 1).isLt; have h3 : (i 3).val < 1024 := (i 3).isLt; omega⟩)

theorem idx0 : ∀ t : Fin cfg0.N, win0_0.index t = ![0, 0] ∧ win0_1.index t = ![t.val / 2, 0, t.val % 2]
    ∧ win0_2.index t = ![0, t.val] ∧ win0_3.index t = ![0, t.val] ∧ win0_4.index t = ![t.val, 0] :=
  (by decide +kernel : ∀ t : Fin grid0.N, _)
theorem idx1 : ∀ t : Fin cfg1.N, win1_0.index t = ![0, 0] ∧ win1_1.index t = ![t.val, 0]
    ∧ win1_2.index t = ![0, t.val] ∧ win1_3.index t = ![0, t.val] :=
  (by decide +kernel : ∀ t : Fin grid1.N, _)
theorem idx2 : ∀ t : Fin cfg2.N, win2_0.index t = ![t.val, 0] ∧ win2_1.index t = ![0, 0]
    ∧ win2_2.index t = ![t.val % 2, t.val / 2, 0, 0] :=
  (by decide +kernel : ∀ t : Fin grid2.N, _)
theorem idx3 : ∀ t : Fin cfg3.N, win3_0.index t = ![0, 0] ∧ win3_1.index t = ![0, t.val]
    ∧ win3_2.index t = ![t.val % 2, t.val / 2, 0, 0] :=
  (by decide +kernel : ∀ t : Fin grid3.N, _)

variable (V : (c : Dev nD) → (b : Ref sig .tc) → Buf (Elt Ideal) ((c : Thread nD τ).loc b))

theorem point0_2 (c : Dev nD) (t : Fin cfg0.N) (y : S2048x512.Idx) :
    k0_pay1 (F := Ideal) (iblk0 V c 0 t) (iblk0 V c 1 t) y = up (V c main_arg0) (V c main_arg1) (((cfg0.win 2).blk t).view.emb y) := by
  pointwise [k0_pay1, up]
  blk_point [iblk0, idx0 t]

theorem point0_3 (c : Dev nD) (t : Fin cfg0.N) (y : S2048x512.Idx) :
    k0_pay2 (F := Ideal) (iblk0 V c 0 t) (iblk0 V c 1 t) y = act (up (V c main_arg0) (V c main_arg1)) (((cfg0.win 3).blk t).view.emb y) := by
  pointwise [k0_pay2, k0_pay1, act, up]
  blk_point [iblk0, idx0 t]

theorem point0_4 (c : Dev nD) (t : Fin cfg0.N) (y : S512x2048.Idx) :
    k0_pay3 (F := Ideal) (iblk0 V c 0 t) (iblk0 V c 1 t) y = actT (up (V c main_arg0) (V c main_arg1)) (((cfg0.win 4).blk t).view.emb y) := by
  pointwise [k0_pay3, k0_pay2, k0_pay1, actT, act, up]
  blk_point [iblk0, idx0 t]

theorem arr0_2 (c : Dev nD) : (dat0 (F := Ideal) V c).arrAt 2 cfg0.N = up (V c main_arg0) (V c main_arg1) := by
  refine (dat0 V c).arrAt_eq_of_covers 2 _ (by decide +kernel) fun t _ y => ?_
  blk_simp
  rw [after0_2]
  frame_out
  exact point0_2 V c t y

theorem arr0_3 (c : Dev nD) : (dat0 (F := Ideal) V c).arrAt 3 cfg0.N = act (up (V c main_arg0) (V c main_arg1)) := by
  refine (dat0 V c).arrAt_eq_of_covers 3 _ (by decide +kernel) fun t _ y => ?_
  blk_simp
  rw [after0_3]
  frame_out
  exact point0_3 V c t y

theorem arr0_4 (c : Dev nD) : (dat0 (F := Ideal) V c).arrAt 4 cfg0.N = actT (up (V c main_arg0) (V c main_arg1)) := by
  refine (dat0 V c).arrAt_eq_of_covers 4 _ (by decide +kernel) fun t _ y => ?_
  blk_simp
  rw [after0_4]
  frame_out
  exact point0_4 V c t y

theorem point1 (c : Dev nD) (t : Fin cfg1.N) (y : S2048x512.Idx) :
    k1_pay1 (F := Ideal) (iblk1 V c 0 t) (iblk1 V c 1 t) (iblk1 V c 2 t) y
      = back (V c main_arg3) (V c main_v1) (V c main_v0_0) (((cfg1.win 3).blk t).view.emb y) := by
  pointwise [k1_pay1, back]
  blk_point [iblk1, idx1 t]

theorem arr1 (c : Dev nD) : (dat1 (F := Ideal) V c).arrAt 3 cfg1.N = back (V c main_arg3) (V c main_v1) (V c main_v0_0) := by
  refine (dat1 V c).arrAt_eq_of_covers 3 _ (by decide +kernel) fun t _ y => ?_
  blk_simp
  rw [after1_3]
  frame_out
  exact point1 V c t y

theorem point2 (c : Dev nD) (t : Fin cfg2.N) (y : S1x1x1024x2048.Idx) :
    k2_pay1 (F := Ideal) (iblk2 V c 0 t) (iblk2 V c 1 t) y = rows (V c main_v0_2) (V c main_arg3) (((cfg2.win 2).blk t).view.emb y) := by
  pointwise [k2_pay1, rows]
  blk_point [iblk2, idx2 t]

theorem arr2 (c : Dev nD) : (dat2 (F := Ideal) V c).arrAt 2 cfg2.N = rows (V c main_v0_2) (V c main_arg3) := by
  refine (dat2 V c).arrAt_eq_of_covers 2 _ (by decide +kernel) fun t _ y => ?_
  blk_simp
  rw [after2_2]
  frame_out
  exact point2 V c t y

theorem point3 (c : Dev nD) (t : Fin cfg3.N) (y : S1x1x2048x1024.Idx) :
    k3_pay1 (F := Ideal) (iblk3 V c 0 t) (iblk3 V c 1 t) y = cols (V c main_v4) (V c main_v2) (((cfg3.win 2).blk t).view.emb y) := by
  pointwise [k3_pay1, cols]
  blk_point [iblk3, idx3 t]

theorem arr3 (c : Dev nD) : (dat3 (F := Ideal) V c).arrAt 2 cfg3.N = cols (V c main_v4) (V c main_v2) := by
  refine (dat3 V c).arrAt_eq_of_covers 2 _ (by decide +kernel) fun t _ y => ?_
  blk_simp
  rw [after3_2]
  frame_out
  exact point3 V c t y

end Cert.MlpIdeal.Hand

end
-- ==== Proof.MlpRun.lean ====
module

public import proofs.«01_k».proof.Proof.MlpValue
public import proofs.«01_k».proof.Proof.Gen.MlpReferenceIdeal.Run
public import proofs.«01_k».proof.Proof.Gen.MlpReferenceIdeal.Read
public import Idealize.ShloMosaic.Lib.StableHlo.Run

/-! The feed-forward block's four calls one after the other: what the run leaves in the four results, and that the
    reference leaves the same. -/

@[expose] public section

set_option maxRecDepth 16384

noncomputable section

namespace Cert.MlpIdeal.Hand

open Idealize.ShloMosaic Idealize.ShloMosaic.TcCoe Idealize.ShloMosaic.Tactic
open Idealize.ShloMosaic.Pipeline (Dat Cfg Window BodyObligation cellOf)
open Cert.MlpIdeal Cert.MlpIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable (m : ∀ b : Loc nD τ sig, Buf (Elt Ideal) b) (ρ : Dev nD → PrngReg)

/-- The hidden layer before its nonlinearity, from the arguments. -/
def hid (c : Dev nD) : FVec Ideal S2048x8192 .f32 := up (m ((c : Thread nD τ).loc main_arg0)) (m ((c : Thread nD τ).loc main_arg1))

/-- The gradient before the nonlinearity, from the arguments. -/
def grad (c : Dev nD) : FVec Ideal S2048x8192 .bf16 :=
  back (m ((c : Thread nD τ).loc main_arg3)) (shapeCast S8192x2048 (m ((c : Thread nD τ).loc main_arg2)) shapeCasts_S8x1024x2048_S8192x2048) (hid m c)

theorem a_at (c : Dev nD) : W1 m ρ c (Proc.devRef .tc main_v0_0) = hid m c := (W1_arr m ρ c 2).trans (arr0_2 _ c)
theorem z_at (c : Dev nD) : W1 m ρ c (Proc.devRef .tc main_v0_1) = act (hid m c) := (W1_arr m ρ c 3).trans (arr0_3 _ c)
theorem zt_at (c : Dev nD) : W1 m ρ c (Proc.devRef .tc main_v0_2) = actT (hid m c) := (W1_arr m ρ c 4).trans (arr0_4 _ c)

theorem w_at (c : Dev nD) : W2 m ρ c (Proc.devRef .tc main_v1)
    = shapeCast S8192x2048 (m ((c : Thread nD τ).loc main_arg2)) shapeCasts_S8x1024x2048_S8192x2048 := by
  have e := W1_args m ρ c main_arg2 (by simp)
  rw [← e]
  simp only [W2, hostOps1, StableHlo.TRef.unary, StableHlo.TRef.toBuf, StableHlo.TRef.ofBuf, cast_eq]
  after_results_simp <;> rfl

theorem h_at (c : Dev nD) : W5 m ρ c (Proc.devRef .tc main_v4)
    = transpose S2048x2048 [1, 0] (m ((c : Thread nD τ).loc main_arg0)) transposes_S2048x2048_S2048x2048_1_0 := by
  have e := W4_args m ρ c main_arg0 (by simp)
  rw [← e]
  simp only [W5, hostOps3, StableHlo.TRef.unary, StableHlo.TRef.toBuf, StableHlo.TRef.ofBuf, cast_eq]
  after_results_simp <;> rfl

theorem da_at (c : Dev nD) : W3 m ρ c (Proc.devRef .tc main_v2) = grad m c := by
  refine (W3_arr m ρ c 3).trans ((arr1 _ c).trans ?_)
  show back (W2 m ρ c (Proc.devRef .tc main_arg3)) (W2 m ρ c (Proc.devRef .tc main_v1)) (W2 m ρ c (Proc.devRef .tc main_v0_0)) = grad m c
  rw [w_at, W2_args m ρ c main_arg3 (by simp), W2_of m ρ c main_v0_0 (by decide), a_at]
  rfl

theorem gout_at (c : Dev nD) : W4 m ρ c (Proc.devRef .tc main_v3)
    = rows (actT (hid m c)) (m ((c : Thread nD τ).loc main_arg3)) := by
  refine (W4_arr m ρ c 2).trans ((arr2 _ c).trans ?_)
  show rows (W3 m ρ c (Proc.devRef .tc main_v0_2)) (W3 m ρ c (Proc.devRef .tc main_arg3)) = _
  rw [W3_args m ρ c main_arg3 (by simp), W3_of m ρ c main_v0_2 (by decide +kernel), W2_of m ρ c main_v0_2 (by decide), zt_at]

theorem gin_at (c : Dev nD) : W6 m ρ c (Proc.devRef .tc main_v5)
    = cols (transpose S2048x2048 [1, 0] (m ((c : Thread nD τ).loc main_arg0)) transposes_S2048x2048_S2048x2048_1_0) (grad m c) := by
  refine (W6_arr m ρ c 2).trans ((arr3 _ c).trans ?_)
  show cols (W5 m ρ c (Proc.devRef .tc main_v4)) (W5 m ρ c (Proc.devRef .tc main_v2)) = _
  rw [h_at, W5_of m ρ c main_v2 (by decide), W4_of m ρ c main_v2 (by decide +kernel), da_at]

/-- Each result at the end of the run. -/
theorem z_end (c : Dev nD) : W6 m ρ c (Proc.devRef .tc main_v0_1) = act (hid m c) := by
  rw [W6_of m ρ c main_v0_1 (by decide +kernel), W5_of m ρ c main_v0_1 (by decide), W4_of m ρ c main_v0_1 (by decide +kernel),
    W3_of m ρ c main_v0_1 (by decide +kernel), W2_of m ρ c main_v0_1 (by decide), z_at]
theorem da_end (c : Dev nD) : W6 m ρ c (Proc.devRef .tc main_v2) = grad m c := by
  rw [W6_of m ρ c main_v2 (by decide +kernel), W5_of m ρ c main_v2 (by decide), W4_of m ρ c main_v2 (by decide +kernel), da_at]
theorem gout_end (c : Dev nD) : W6 m ρ c (Proc.devRef .tc main_v3) = rows (actT (hid m c)) (m ((c : Thread nD τ).loc main_arg3)) := by
  rw [W6_of m ρ c main_v3 (by decide +kernel), W5_of m ρ c main_v3 (by decide), gout_at]

/-- The run ends with every array that outlives the calls at the last boundary's contents. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The run, read: the four results, and the arguments as they were. -/
theorem run : θ_run defs (onTc (τ := τ) (main (F := Ideal))) ⟨m, fun _ => 0, ρ⟩ (fun r => ∀ c : Dev nD,
      r.2.mem ((c.tc : Thread nD τ).loc main_v0_1) = act (hid m c)
      ∧ r.2.mem ((c.tc : Thread nD τ).loc main_v2) = grad m c
      ∧ r.2.mem ((c.tc : Thread nD τ).loc main_v5) = cols (transpose S2048x2048 [1, 0] (m ((c : Thread nD τ).loc main_arg0)) transposes_S2048x2048_S2048x2048_1_0) (grad m c)
      ∧ r.2.mem ((c.tc : Thread nD τ).loc main_v3) = rows (actT (hid m c)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0_1 (by decide))).trans (z_end m ρ c), (h c _ (mem_uc main_v2 (by decide))).trans (da_end m ρ c),
     (h c _ (mem_uc main_v5 (by decide))).trans (gin_at m ρ c), (h c _ (mem_uc main_v3 (by decide))).trans (gout_end m ρ c),
     (h c _ (mem_uc main_arg0 (by decide))).trans (W6_main_arg0 m ρ c), (h c _ (mem_uc main_arg1 (by decide))).trans (W6_main_arg1 m ρ c),
     (h c _ (mem_uc main_arg2 (by decide))).trans (W6_main_arg2 m ρ c), (h c _ (mem_uc main_arg3 (by decide))).trans (W6_main_arg3 m ρ c)⟩)
    (ends m ρ)

end Cert.MlpIdeal.Hand

namespace Cert.MlpReferenceIdeal.Hand

open Cert.MlpReferenceIdeal Cert.MlpReferenceIdeal.Gen Cert.MlpReferenceIdeal.Read Idealize.ShloMosaic
open Cert.MlpIdeal.Hand (up act actT back rows cols)

variable (x0 : FVec Ideal S2048x2048 .bf16) (x1 : FVec Ideal S8x2048x1024 .bf16) (x2 : FVec Ideal S8x1024x2048 .bf16)
  (x3 : FVec Ideal S2048x2048 .bf16)

theorem a_eq : val_main_v4 (F := Ideal) x0 x1 = up x0 x1 := by
  funext i
  pointwise [val_main_v4, val_main_v3, val_main_v2, val_main_v1, val_main_v0, up]

theorem z_eq : val_main_v24 (F := Ideal) x0 x1 = act (up x0 x1) := by
  funext i
  pointwise [val_main_v24, val_main_v9, val_main_v5, val_main_call0_v0, val_main_call0_cst, a_eq, act]

theorem da_eq : val_main_v25 (F := Ideal) x0 x1 x2 x3
    = back x3 (shapeCast Cert.MlpIdeal.S8192x2048 x2 Cert.MlpIdeal.Gen.shapeCasts_S8x1024x2048_S8192x2048) (up x0 x1) := by
  funext i
  pointwise [val_main_v25, val_main_v21, val_main_v20, val_main_cst_2, val_main_v19, val_main_v18, val_main_v15, val_main_v13, val_main_v12,
    val_main_v11, val_main_v10, val_main_cst_1, val_main_v7, val_main_v6, val_main_cst, val_main_v5, val_main_call0_v0, val_main_call0_cst,
    a_eq, back]
  split_ifs with h
  · rfl
  · rw [max_eq_right (not_lt.mp h), mul_zero, mul_zero]

theorem gin_eq : val_main_v28 (F := Ideal) x0 x1 x2 x3
    = cols (transpose Cert.MlpIdeal.S2048x2048 [1, 0] x0 Cert.MlpIdeal.Gen.transposes_S2048x2048_S2048x2048_1_0)
      (val_main_v25 (F := Ideal) x0 x1 x2 x3) := by
  funext i
  pointwise [val_main_v28, val_main_v27, val_main_v26, val_main_v23, val_main_v22, val_main_v25, val_main_v3, cols]
  refine Fin.sum_fin_congr fun k => ?_
  rw [mul_comm]
  congr 4
  ring

theorem gout_eq : val_main_v31 (F := Ideal) x0 x1 x3 = rows (actT (up x0 x1)) x3 := by
  funext i
  rw [show up x0 x1 = val_main_v4 (F := Ideal) x0 x1 from (a_eq x0 x1).symm]
  pointwise [val_main_v31, val_main_v30, val_main_v29, val_main_v17, val_main_v16, val_main_v15, val_main_v9, val_main_v5,
    val_main_call0_v0, val_main_call0_cst, rows, actT, act]
  refine Fin.sum_fin_congr fun k => ?_
  rw [mul_comm]
  have e : (i 1).val * 2048 + (i 0).val * 1024 + (i 2).val = (2 * (i 1).val + (i 0).val) * 1024 + (i 2).val := by ring
  simp only [e]

end Cert.MlpReferenceIdeal.Hand

end
-- ==== Proof.SbValue.lean ====
module

public import proofs.«01_k».proof.Proof.Gen.SbIdeal.Frame
public import Idealize.ShloMosaic.Lib.Pipeline.ValueKit
public import Idealize.ShloMosaic.Lib.Pipeline.ReadBack
public import Idealize.ShloMosaic.Lib.Claim
public import Idealize.ShloMosaic.Lib.Pointwise

/-! The stick-breaking mixer's products: the array that each call leaves, over any contents of the arrays it reads. -/

@[expose] public section

set_option maxRecDepth 16384

noncomputable section

namespace Cert.SbIdeal.Hand

open Idealize.ShloMosaic Idealize.ShloMosaic.TcCoe Idealize.ShloMosaic.Tactic
open Idealize.ShloMosaic.Pipeline
open Cert.SbIdeal Cert.SbIdeal.Gen

/-- `X` times the matrix whose eight column blocks are stacked in `Y`. -/
def across0 (X : FVec Ideal S2048x2048 .bf16) (Y : FVec Ideal S8x2048x768 .bf16) : FVec Ideal S2048x6144 .bf16 := fun i =>
  ∑ k : Fin 2048, X (ix2 (i 0) k)
    * Y (ix3 ⟨(i 1).val / 768, by have : (i 1).val < 6144 := (i 1).isLt; omega⟩ k ⟨(i 1).val % 768, by omega⟩)

/-- `X` times `Y`. -/
def plain1 (X : FVec Ideal S2048x2048 .bf16) (Y : FVec Ideal S2048x2048 .bf16) : FVec Ideal S2048x2048 .f32 := fun i =>
  ∑ k : Fin 2048, X (ix2 (i 0) k) * Y (ix2 k (i 1))

/-- `X` transposed. -/
def flip2 (X : FVec Ideal S2048x2048 .bf16) : FVec Ideal S2048x2048 .bf16 := fun i =>
  X (ix2 (i 1) (i 0))

/-- `X` times `Y`, the row blocks laid out by device. -/
def rows3 (X : FVec Ideal S2048x2048 .bf16) (Y : FVec Ideal S2048x2048 .bf16) : FVec Ideal S2x4x256x2048 .bf16 := fun i =>
  ∑ k : Fin 2048, X (ix2 ⟨(2 * (i 1).val + (i 0).val) * 256 + (i 2).val, by
      have h0 : (i 0).val < 2 := (i 0).isLt; have h1 : (i 1).val < 4 := (i 1).isLt; have h2 : (i 2).val < 256 := (i 2).isLt; omega⟩ k)
    * Y (ix2 k (i 3))

/-- `X` times the transpose of `Y`. -/
def back4 (X : FVec Ideal S2048x2048 .bf16) (Y : FVec Ideal S2048x2048 .bf16) : FVec Ideal S2048x2048 .bf16 := fun i =>
  ∑ k : Fin 2048, X (ix2 (i 0) k) * Y (ix2 (i 1) k)

/-- `X` times `Y`, the column blocks laid out by device. -/
def cols5 (X : FVec Ideal S2048x2048 .bf16) (Y : FVec Ideal S2048x6144 .bf16) : FVec Ideal S2x4x2048x768 .bf16 := fun i =>
  ∑ k : Fin 2048, X (ix2 (i 2) k) * Y (ix2 k ⟨(2 * (i 1).val + (i 0).val) * 768 + (i 3).val, by
      have h0 : (i 0).val < 2 := (i 0).isLt; have h1 : (i 1).val < 4 := (i 1).isLt; have h3 : (i 3).val < 768 := (i 3).isLt; omega⟩)

theorem idx0 : ∀ t : Fin cfg0.N, win0_0.index t = ![0, 0] ∧ win0_1.index t = ![t.val, 0, 0] ∧ win0_2.index t = ![0, t.val] :=
  (by decide +kernel : ∀ t : Fin grid0.N, _)
theorem idx1 : ∀ t : Fin cfg1.N, win1_0.index t = ![0, 0] ∧ win1_1.index t = ![0, t.val] ∧ win1_2.index t = ![0, t.val] :=
  (by decide +kernel : ∀ t : Fin grid1.N, _)
theorem idx2 : ∀ t : Fin cfg2.N, win2_0.index t = ![t.val / 4, t.val % 4] ∧ win2_1.index t = ![t.val % 4, t.val / 4] :=
  (by decide +kernel : ∀ t : Fin grid2.N, _)
theorem idx3 : ∀ t : Fin cfg3.N, win3_0.index t = ![t.val, 0] ∧ win3_1.index t = ![0, 0] ∧ win3_2.index t = ![t.val % 2, t.val / 2, 0, 0] :=
  (by decide +kernel : ∀ t : Fin grid3.N, _)
theorem idx4 : ∀ t : Fin cfg4.N, win4_0.index t = ![0, 0] ∧ win4_1.index t = ![t.val, 0] ∧ win4_2.index t = ![0, t.val] :=
  (by decide +kernel : ∀ t : Fin grid4.N, _)
theorem idx5 : ∀ t : Fin cfg5.N, win5_0.index t = ![0, 0] ∧ win5_1.index t = ![0, t.val] ∧ win5_2.index t = ![t.val % 2, t.val / 2, 0, 0] :=
  (by decide +kernel : ∀ t : Fin grid5.N, _)

variable (V : (c : Dev nD) → (b : Ref sig .tc) → Buf (Elt Ideal) ((c : Thread nD τ).loc b))

theorem point0 (c : Dev nD) (t : Fin cfg0.N) (y : S2048x768.Idx) :
    k0_pay1 (F := Ideal) (iblk0 V c 0 t) (iblk0 V c 1 t) y = across0 (V c main_arg0) (V c main_arg1) (((cfg0.win 2).blk t).view.emb y) := by
  pointwise [k0_pay1, across0]
  blk_point [iblk0, idx0 t]

theorem arr0 (c : Dev nD) : (dat0 (F := Ideal) V c).arrAt 2 cfg0.N = across0 (V c main_arg0) (V c main_arg1) := by
  refine (dat0 V c).arrAt_eq_of_covers 2 _ (by decide +kernel) fun t _ y => ?_
  blk_simp
  rw [after0_2]
  frame_out
  exact point0 V c t y

theorem point1 (c : Dev nD) (t : Fin cfg1.N) (y : S2048x512.Idx) :
    k1_pay1 (F := Ideal) (iblk1 V c 0 t) (iblk1 V c 1 t) y = plain1 (V c main_arg3) (V c main_v1) (((cfg1.win 2).blk t).view.emb y) := by
  pointwise [k1_pay1, plain1]
  blk_point [iblk1, idx1 t]

theorem arr1 (c : Dev nD) : (dat1 (F := Ideal) V c).arrAt 2 cfg1.N = plain1 (V c main_arg3) (V c main_v1) := by
  refine (dat1 V c).arrAt_eq_of_covers 2 _ (by decide +kernel) fun t _ y => ?_
  blk_simp
  rw [after1_2]
  frame_out
  exact point1 V c t y

theorem point2 (c : Dev nD) (t : Fin cfg2.N) (y : S512x512.Idx) :
    k2_pay1 (F := Ideal) (iblk2 V c 0 t) y = flip2 (V c main_arg3) (((cfg2.win 1).blk t).view.emb y) := by
  pointwise [k2_pay1, flip2]
  blk_point [iblk2, idx2 t]

theorem arr2 (c : Dev nD) : (dat2 (F := Ideal) V c).arrAt 1 cfg2.N = flip2 (V c main_arg3) := by
  refine (dat2 V c).arrAt_eq_of_covers 1 _ (by decide +kernel) fun t _ y => ?_
  blk_simp
  rw [after2_1]
  frame_out
  exact point2 V c t y

theorem point3 (c : Dev nD) (t : Fin cfg3.N) (y : S1x1x256x2048.Idx) :
    k3_pay1 (F := Ideal) (iblk3 V c 0 t) (iblk3 V c 1 t) y = rows3 (V c main_v3) (V c main_arg4) (((cfg3.win 2).blk t).view.emb y) := by
  pointwise [k3_pay1, rows3]
  blk_point [iblk3, idx3 t]

theorem arr3 (c : Dev nD) : (dat3 (F := Ideal) V c).arrAt 2 cfg3.N = rows3 (V c main_v3) (V c main_arg4) := by
  refine (dat3 V c).arrAt_eq_of_covers 2 _ (by decide +kernel) fun t _ y => ?_
  blk_simp
  rw [after3_2]
  frame_out
  exact point3 V c t y

theorem point4 (c : Dev nD) (t : Fin cfg4.N) (y : S2048x1024.Idx) :
    k4_pay1 (F := Ideal) (iblk4 V c 0 t) (iblk4 V c 1 t) y = back4 (V c main_arg4) (V c main_v5) (((cfg4.win 2).blk t).view.emb y) := by
  pointwise [k4_pay1, back4]
  blk_point [iblk4, idx4 t]

theorem arr4 (c : Dev nD) : (dat4 (F := Ideal) V c).arrAt 2 cfg4.N = back4 (V c main_arg4) (V c main_v5) := by
  refine (dat4 V c).arrAt_eq_of_covers 2 _ (by decide +kernel) fun t _ y => ?_
  blk_simp
  rw [after4_2]
  frame_out
  exact point4 V c t y

theorem point5 (c : Dev nD) (t : Fin cfg5.N) (y : S1x1x2048x768.Idx) :
    k5_pay1 (F := Ideal) (iblk5 V c 0 t) (iblk5 V c 1 t) y = cols5 (V c main_v7) (V c main_arg5) (((cfg5.win 2).blk t).view.emb y) := by
  pointwise [k5_pay1, cols5]
  blk_point [iblk5, idx5 t]

theorem arr5 (c : Dev nD) : (dat5 (F := Ideal) V c).arrAt 2 cfg5.N = cols5 (V c main_v7) (V c main_arg5) := by
  refine (dat5 V c).arrAt_eq_of_covers 2 _ (by decide +kernel) fun t _ y => ?_
  blk_simp
  rw [after5_2]
  frame_out
  exact point5 V c t y

end Cert.SbIdeal.Hand

end
-- ==== Proof.SbRun.lean ====
module

public import proofs.«01_k».proof.Proof.SbValue
public import proofs.«01_k».proof.Proof.Gen.SbReferenceIdeal.Run
public import proofs.«01_k».proof.Proof.Gen.SbReferenceIdeal.Read
public import Idealize.ShloMosaic.Lib.StableHlo.Run

/-! The stick-breaking mixer's products: what the run of all the calls leaves in the results, and that the reference leaves the same. -/

@[expose] public section

set_option maxRecDepth 16384

noncomputable section

namespace Cert.SbIdeal.Hand

open Idealize.ShloMosaic Idealize.ShloMosaic.TcCoe Idealize.ShloMosaic.Tactic
open Idealize.ShloMosaic.Pipeline (Dat Cfg Window BodyObligation cellOf)
open Cert.SbIdeal Cert.SbIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable (m : ∀ b : Loc nD τ sig, Buf (Elt Ideal) b) (ρ : Dev nD → PrngReg)

theorem v0_at (c : Dev nD) : W1 m ρ c (Proc.devRef .tc main_v0) = (across0 (m ((c : Thread nD τ).loc main_arg0)) (m ((c : Thread nD τ).loc main_arg1))) := by
  refine (W1_arr m ρ c 2).trans ((arr0 _ c).trans ?_)
  show across0 (W0 m ρ c (Proc.devRef .tc main_arg0)) (W0 m ρ c (Proc.devRef .tc main_arg1)) = _
  rw [W0_args m ρ c main_arg0 (by simp), W0_args m ρ c main_arg1 (by simp)]

theorem v1_at (c : Dev nD) : W2 m ρ c (Proc.devRef .tc main_v1) = (shapeCast S2048x2048 (m ((c : Thread nD τ).loc main_arg2)) shapeCasts_S8x256x2048_S2048x2048) := by
  have e := W1_args m ρ c main_arg2 (by simp)
  rw [← e]
  simp only [W2, hostOps1, StableHlo.TRef.unary, StableHlo.TRef.toBuf, StableHlo.TRef.ofBuf, cast_eq]
  after_results_simp <;> rfl

theorem v2_at (c : Dev nD) : W3 m ρ c (Proc.devRef .tc main_v2) = (plain1 (m ((c : Thread nD τ).loc main_arg3)) (shapeCast S2048x2048 (m ((c : Thread nD τ).loc main_arg2)) shapeCasts_S8x256x2048_S2048x2048)) := by
  refine (W3_arr m ρ c 2).trans ((arr1 _ c).trans ?_)
  show plain1 (W2 m ρ c (Proc.devRef .tc main_arg3)) (W2 m ρ c (Proc.devRef .tc main_v1)) = _
  rw [W2_args m ρ c main_arg3 (by simp), v1_at]

theorem v3_at (c : Dev nD) : W4 m ρ c (Proc.devRef .tc main_v3) = (flip2 (m ((c : Thread nD τ).loc main_arg3))) := by
  refine (W4_arr m ρ c 1).trans ((arr2 _ c).trans ?_)
  show flip2 (W3 m ρ c (Proc.devRef .tc main_arg3)) = _
  rw [W3_args m ρ c main_arg3 (by simp)]

theorem v4_at (c : Dev nD) : W5 m ρ c (Proc.devRef .tc main_v4) = (rows3 (flip2 (m ((c : Thread nD τ).loc main_arg3))) (m ((c : Thread nD τ).loc main_arg4))) := by
  refine (W5_arr m ρ c 2).trans ((arr3 _ c).trans ?_)
  show rows3 (W4 m ρ c (Proc.devRef .tc main_v3)) (W4 m ρ c (Proc.devRef .tc main_arg4)) = _
  rw [v3_at, W4_args m ρ c main_arg4 (by simp)]

theorem v5_at (c : Dev nD) : W6 m ρ c (Proc.devRef .tc main_v5) = (shapeCast S2048x2048 (m ((c : Thread nD τ).loc main_arg2)) shapeCasts_S8x256x2048_S2048x2048) := by
  have e := W5_args m ρ c main_arg2 (by simp)
  rw [← e]
  simp only [W6, hostOps4, StableHlo.TRef.unary, StableHlo.TRef.toBuf, StableHlo.TRef.ofBuf, cast_eq]
  after_results_simp <;> rfl

theorem v6_at (c : Dev nD) : W7 m ρ c (Proc.devRef .tc main_v6) = (back4 (m ((c : Thread nD τ).loc main_arg4)) (shapeCast S2048x2048 (m ((c : Thread nD τ).loc main_arg2)) shapeCasts_S8x256x2048_S2048x2048)) := by
  refine (W7_arr m ρ c 2).trans ((arr4 _ c).trans ?_)
  show back4 (W6 m ρ c (Proc.devRef .tc main_arg4)) (W6 m ρ c (Proc.devRef .tc main_v5)) = _
  rw [W6_args m ρ c main_arg4 (by simp), v5_at]

theorem v7_at (c : Dev nD) : W8 m ρ c (Proc.devRef .tc main_v7) = (transpose S2048x2048 [1, 0] (m ((c : Thread nD τ).loc main_arg0)) transposes_S2048x2048_S2048x2048_1_0) := by
  have e := W7_args m ρ c main_arg0 (by simp)
  rw [← e]
  simp only [W8, hostOps5, StableHlo.TRef.unary, StableHlo.TRef.toBuf, StableHlo.TRef.ofBuf, cast_eq]
  after_results_simp <;> rfl

theorem v8_at (c : Dev nD) : W9 m ρ c (Proc.devRef .tc main_v8) = (cols5 (transpose S2048x2048 [1, 0] (m ((c : Thread nD τ).loc main_arg0)) transposes_S2048x2048_S2048x2048_1_0) (m ((c : Thread nD τ).loc main_arg5))) := by
  refine (W9_arr m ρ c 2).trans ((arr5 _ c).trans ?_)
  show cols5 (W8 m ρ c (Proc.devRef .tc main_v7)) (W8 m ρ c (Proc.devRef .tc main_arg5)) = _
  rw [v7_at, W8_args m ρ c main_arg5 (by simp)]

theorem v0_end (c : Dev nD) : W9 m ρ c (Proc.devRef .tc main_v0) = (across0 (m ((c : Thread nD τ).loc main_arg0)) (m ((c : Thread nD τ).loc main_arg1))) := by
  rw [W9_of m ρ c main_v0 (by decide +kernel), W8_of m ρ c main_v0 (by decide), W7_of m ρ c main_v0 (by decide +kernel), W6_of m ρ c main_v0 (by decide), W5_of m ρ c main_v0 (by decide +kernel), W4_of m ρ c main_v0 (by decide +kernel), W3_of m ρ c main_v0 (by decide +kernel), W2_of m ρ c main_v0 (by decide), v0_at]

theorem v2_end (c : Dev nD) : W9 m ρ c (Proc.devRef .tc main_v2) = (plain1 (m ((c : Thread nD τ).loc main_arg3)) (shapeCast S2048x2048 (m ((c : Thread nD τ).loc main_arg2)) shapeCasts_S8x256x2048_S2048x2048)) := by
  rw [W9_of m ρ c main_v2 (by decide +kernel), W8_of m ρ c main_v2 (by decide), W7_of m ρ c main_v2 (by decide +kernel), W6_of m ρ c main_v2 (by decide), W5_of m ρ c main_v2 (by decide +kernel), W4_of m ρ c main_v2 (by decide +kernel), v2_at]

theorem v4_end (c : Dev nD) : W9 m ρ c (Proc.devRef .tc main_v4) = (rows3 (flip2 (m ((c : Thread nD τ).loc main_arg3))) (m ((c : Thread nD τ).loc main_arg4))) := by
  rw [W9_of m ρ c main_v4 (by decide +kernel), W8_of m ρ c main_v4 (by decide), W7_of m ρ c main_v4 (by decide +kernel), W6_of m ρ c main_v4 (by decide), v4_at]

theorem v6_end (c : Dev nD) : W9 m ρ c (Proc.devRef .tc main_v6) = (back4 (m ((c : Thread nD τ).loc main_arg4)) (shapeCast S2048x2048 (m ((c : Thread nD τ).loc main_arg2)) shapeCasts_S8x256x2048_S2048x2048)) := by
  rw [W9_of m ρ c main_v6 (by decide +kernel), W8_of m ρ c main_v6 (by decide), v6_at]

/-- The run ends with every array that outlives the calls at the last boundary's contents. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

/-- The run, read: the results, and the arguments as they were. -/
theorem run : θ_run defs (onTc (τ := τ) (main (F := Ideal))) ⟨m, fun _ => 0, ρ⟩ (fun r => ∀ c : Dev nD,
      r.2.mem ((c.tc : Thread nD τ).loc main_v0) = (across0 (m ((c : Thread nD τ).loc main_arg0)) (m ((c : Thread nD τ).loc main_arg1)))
      ∧ r.2.mem ((c.tc : Thread nD τ).loc main_v2) = (plain1 (m ((c : Thread nD τ).loc main_arg3)) (shapeCast S2048x2048 (m ((c : Thread nD τ).loc main_arg2)) shapeCasts_S8x256x2048_S2048x2048))
      ∧ r.2.mem ((c.tc : Thread nD τ).loc main_v4) = (rows3 (flip2 (m ((c : Thread nD τ).loc main_arg3))) (m ((c : Thread nD τ).loc main_arg4)))
      ∧ r.2.mem ((c.tc : Thread nD τ).loc main_v6) = (back4 (m ((c : Thread nD τ).loc main_arg4)) (shapeCast S2048x2048 (m ((c : Thread nD τ).loc main_arg2)) shapeCasts_S8x256x2048_S2048x2048))
      ∧ r.2.mem ((c.tc : Thread nD τ).loc main_v8) = (cols5 (transpose S2048x2048 [1, 0] (m ((c : Thread nD τ).loc main_arg0)) transposes_S2048x2048_S2048x2048_1_0) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v0 (by decide))).trans (v0_end m ρ c),
     (h c _ (mem_uc main_v2 (by decide))).trans (v2_end m ρ c),
     (h c _ (mem_uc main_v4 (by decide))).trans (v4_end m ρ c),
     (h c _ (mem_uc main_v6 (by decide))).trans (v6_end m ρ c),
     (h c _ (mem_uc main_v8 (by decide))).trans (v8_at m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩)
    (ends m ρ)

end Cert.SbIdeal.Hand

namespace Cert.SbReferenceIdeal.Hand

open Cert.SbReferenceIdeal Cert.SbReferenceIdeal.Gen Cert.SbReferenceIdeal.Read Idealize.ShloMosaic
open Cert.SbIdeal.Hand (across0 plain1 flip2 rows3 back4 cols5)

variable (x0 : FVec Ideal S2048x2048 .bf16) (x1 : FVec Ideal S8x2048x768 .bf16) (x2 : FVec Ideal S8x256x2048 .bf16) (x3 : FVec Ideal S2048x2048 .bf16) (x4 : FVec Ideal S2048x2048 .bf16) (x5 : FVec Ideal S2048x6144 .bf16)

theorem v0_eq : val_main_v16 (F := Ideal) x0 x1 = across0 x0 x1 := by
  funext i
  pointwise [val_main_v16, val_main_v4, val_main_v3, val_main_v2, val_main_v1, val_main_v0, across0]

theorem v2_eq : val_main_v8 (F := Ideal) x2 x3 = plain1 x3 (shapeCast Cert.SbIdeal.S2048x2048 x2 Cert.SbIdeal.Gen.shapeCasts_S8x256x2048_S2048x2048) := by
  funext i
  pointwise [val_main_v8, val_main_v5, val_main_v7, val_main_v6, plain1]

theorem v4_eq : val_main_v19 (F := Ideal) x3 x4 = rows3 (flip2 x3) x4 := by
  funext i
  pointwise [val_main_v19, val_main_v18, val_main_v17, val_main_v11, val_main_v10, val_main_v9, val_main_v5, rows3, flip2]
  refine Fin.sum_fin_congr fun k => ?_
  rw [mul_comm]
  have e : (i 1).val * 512 + (i 0).val * 256 + (i 2).val = (2 * (i 1).val + (i 0).val) * 256 + (i 2).val := by ring
  simp only [e]

theorem v6_eq : val_main_v20 (F := Ideal) x2 x4 = back4 x4 (shapeCast Cert.SbIdeal.S2048x2048 x2 Cert.SbIdeal.Gen.shapeCasts_S8x256x2048_S2048x2048) := by
  funext i
  pointwise [val_main_v20, val_main_v12, val_main_v9, val_main_v7, val_main_v6, back4]

theorem v8_eq : val_main_v23 (F := Ideal) x0 x5 = cols5 (transpose Cert.SbIdeal.S2048x2048 [1, 0] x0 Cert.SbIdeal.Gen.transposes_S2048x2048_S2048x2048_1_0) x5 := by
  funext i
  pointwise [val_main_v23, val_main_v22, val_main_v21, val_main_v15, val_main_v14, val_main_v13, val_main_v3, cols5]
  refine Fin.sum_fin_congr fun k => ?_
  rw [mul_comm]
  have e : (i 1).val * 1536 + (i 0).val * 768 + (i 3).val = (2 * (i 1).val + (i 0).val) * 768 + (i 3).val := by ring
  simp only [e]

end Cert.SbReferenceIdeal.Hand

end
-- ==== Proof.SbDhValue.lean ====
module

public import proofs.«01_k».proof.Proof.Gen.SbDhIdeal.Value
public import proofs.«01_k».proof.Proof.Gen.SbDhReferenceIdeal.Read
public import Idealize.ShloMosaic.Lib.Pipeline.ValueKit
public import Idealize.ShloMosaic.Lib.Pipeline.ReadBack
public import Idealize.ShloMosaic.Lib.Claim
public import Idealize.ShloMosaic.Lib.Pointwise

/-! The gradient of the stick-breaking mixer's input: the sixteen partial products that the kernel adds up into one block are the
    reference's one product. -/

@[expose] public section

set_option maxRecDepth 16384

noncomputable section

namespace Cert.SbDhIdeal.Hand

open Idealize.ShloMosaic Idealize.ShloMosaic.TcCoe Idealize.ShloMosaic.Tactic
open Idealize.ShloMosaic.Pipeline
open Cert.SbDhIdeal Cert.SbDhIdeal.Gen

/-- Entry `i` of the product of `X` with the transposed matrix whose eight column blocks are stacked in `Y`. -/
def prod (X : FVec Ideal S2048x6144 .bf16) (Y : FVec Ideal S8x2048x768 .bf16) (i : S2048x2048.Idx) : EReal :=
  ∑ l : Fin 6144, X (ix2 (i 0) l) * Y (ix3 ⟨l.val / 768, by omega⟩ (i 1) ⟨l.val % 768, by omega⟩)

theorem zero_pt (j : S2048x1024.Idx) : k0_pay1 (F := Ideal) j = 0 := by pointwise [k0_pay1]

theorem part_pt (acc : FVec Ideal S2048x1024 .f32) (x0 : FVec Ideal S2048x384 .bf16) (x1 : FVec Ideal S1x1024x384 .bf16) (j : S2048x1024.Idx) :
    k0_pay2 acc x0 x1 j = acc j + ∑ k : Fin 384, x0 (ix2 (j 0) k) * x1 (ix3 0 (j 1) k) := by
  pointwise [k0_pay2]

theorem idx : ∀ t : Fin cfg0.N, win0_0.index t = ![0, t.val % 16] ∧ win0_1.index t = ![t.val % 16 / 2, t.val / 16, t.val % 16 % 2]
    ∧ win0_2.index t = ![0, t.val / 16] :=
  (by decide +kernel : ∀ t : Fin grid0.N, _)

variable (m : ∀ b : Loc nD τ sig, Buf (Elt Ideal) b)

/-- Where a block is written out, it is the carried sum. -/
theorem flushed (c : Dev nD) (t : Fin cfg0.N) (h : t.val % 16 = 15) (j : S2048x1024.Idx) :
    (outsAt0 (F := Ideal) m c t.val t.isLt).1 j = (outsAt0 (F := Ideal) m c t.val t.isLt).2 j := by
  rw [outsAt0_C m c t (by omega) h]
  frame_out

theorem arr (c : Dev nD) : (dats (F := Ideal) m 0 c).arrAt 2 cfg0.N
    = prod (m ((c : Thread nD τ).loc main_arg0)) (m ((c : Thread nD τ).loc main_arg1)) := by
  refine (dats m 0 c).arrAt_eq_of_covers 2 _ (by decide +kernel) fun t hf y => ?_
  have ht : t.val % 16 = 15 := (flush0_2 t).mp hf
  blk_simp
  rw [after0_2, flushed m c t ht, Pipeline.eq_sum_fin_of_reset_step_apply_of_flush (fun n h => (outsAt0 m c n h).2) 16 (fun _ => 0) _
    (fun t h j => by rw [outsAt0_A m c t h (by omega)]; frame_out; rw [part_pt, zero_pt])
    (fun t h j => by
      by_cases h1 : t.val % 16 = 15
      · rw [outsAt0_C m c t h h1]; frame_out; rw [part_pt, read_unread_whole]
      · rw [outsAt0_B m c t h h1]; frame_out; rw [part_pt, read_unread_whole])
    t ht _, zero_add]
  unfold prod
  refine Fin.sum_mul_add_congr fun s k hl => ?_
  blk_point [iblk, V, idx t, idx ⟨_, Pipeline.run_point_lt_of_flush t ht s⟩]

end Cert.SbDhIdeal.Hand

namespace Cert.SbDhReferenceIdeal.Hand

open Cert.SbDhReferenceIdeal Cert.SbDhReferenceIdeal.Gen Cert.SbDhReferenceIdeal.Read Idealize.ShloMosaic

theorem value (x0 : FVec Ideal S2048x6144 .bf16) (x1 : FVec Ideal S8x2048x768 .bf16) :
    val_main_v6 (F := Ideal) x0 x1 = Cert.SbDhIdeal.Hand.prod x0 x1 := by
  funext i
  pointwise [val_main_v6, val_main_v5, val_main_v3, val_main_v2, val_main_v1, Cert.SbDhIdeal.Hand.prod]

end Cert.SbDhReferenceIdeal.Hand

end
-- ==== Proof.CaValue.lean ====
module

public import proofs.«01_k».proof.Proof.Gen.CaIdeal.Frame
public import Idealize.ShloMosaic.Lib.Pipeline.ValueKit
public import Idealize.ShloMosaic.Lib.Pipeline.ReadBack
public import Idealize.ShloMosaic.Lib.Claim
public import Idealize.ShloMosaic.Lib.Pointwise

/-! The chunked mixer's products: the array that each call leaves, over any contents of the arrays it reads. -/

@[expose] public section

set_option maxRecDepth 16384

noncomputable section

namespace Cert.CaIdeal.Hand

open Idealize.ShloMosaic Idealize.ShloMosaic.TcCoe Idealize.ShloMosaic.Tactic
open Idealize.ShloMosaic.Pipeline
open Cert.CaIdeal Cert.CaIdeal.Gen

/-- `X` times the matrix whose eight column blocks are stacked in `Y`. -/
def across0 (X : FVec Ideal S2048x2048 .bf16) (Y : FVec Ideal S8x2048x768 .bf16) : FVec Ideal S2048x6144 .bf16 := fun i =>
  ∑ k : Fin 2048, X (ix2 (i 0) k)
    * Y (ix3 ⟨(i 1).val / 768, by have : (i 1).val < 6144 := (i 1).isLt; omega⟩ k ⟨(i 1).val % 768, by omega⟩)

/-- `X` times `Y`. -/
def plain1 (X : FVec Ideal S2048x2048 .bf16) (Y : FVec Ideal S2048x2048 .bf16) : FVec Ideal S2048x2048 .f32 := fun i =>
  ∑ k : Fin 2048, X (ix2 (i 0) k) * Y (ix2 k (i 1))

/-- `X` transposed. -/
def flip2 (X : FVec Ideal S2048x2048 .bf16) : FVec Ideal S2048x2048 .bf16 := fun i =>
  X (ix2 (i 1) (i 0))

/-- `X` times `Y`, the row blocks laid out by device. -/
def rows3 (X : FVec Ideal S2048x2048 .bf16) (Y : FVec Ideal S2048x2048 .bf16) : FVec Ideal S2x4x256x2048 .bf16 := fun i =>
  ∑ k : Fin 2048, X (ix2 ⟨(2 * (i 1).val + (i 0).val) * 256 + (i 2).val, by
      have h0 : (i 0).val < 2 := (i 0).isLt; have h1 : (i 1).val < 4 := (i 1).isLt; have h2 : (i 2).val < 256 := (i 2).isLt; omega⟩ k)
    * Y (ix2 k (i 3))

/-- `X` times the transpose of `Y`. -/
def back4 (X : FVec Ideal S2048x2048 .bf16) (Y : FVec Ideal S2048x2048 .bf16) : FVec Ideal S2048x2048 .bf16 := fun i =>
  ∑ k : Fin 2048, X (ix2 (i 0) k) * Y (ix2 (i 1) k)

/-- `X` times `Y`, the column blocks laid out by device. -/
def cols5 (X : FVec Ideal S2048x2048 .bf16) (Y : FVec Ideal S2048x6144 .bf16) : FVec Ideal S2x4x2048x768 .bf16 := fun i =>
  ∑ k : Fin 2048, X (ix2 (i 2) k) * Y (ix2 k ⟨(2 * (i 1).val + (i 0).val) * 768 + (i 3).val, by
      have h0 : (i 0).val < 2 := (i 0).isLt; have h1 : (i 1).val < 4 := (i 1).isLt; have h3 : (i 3).val < 768 := (i 3).isLt; omega⟩)

theorem idx0 : ∀ t : Fin cfg0.N, win0_0.index t = ![0, 0] ∧ win0_1.index t = ![t.val, 0, 0] ∧ win0_2.index t = ![0, t.val] :=
  (by decide +kernel : ∀ t : Fin grid0.N, _)
theorem idx1 : ∀ t : Fin cfg1.N, win1_0.index t = ![0, 0] ∧ win1_1.index t = ![0, t.val] ∧ win1_2.index t = ![0, t.val] :=
  (by decide +kernel : ∀ t : Fin grid1.N, _)
theorem idx2 : ∀ t : Fin cfg2.N, win2_0.index t = ![t.val / 4, t.val % 4] ∧ win2_1.index t = ![t.val % 4, t.val / 4] :=
  (by decide +kernel : ∀ t : Fin grid2.N, _)
theorem idx3 : ∀ t : Fin cfg3.N, win3_0.index t = ![t.val, 0] ∧ win3_1.index t = ![0, 0] ∧ win3_2.index t = ![t.val % 2, t.val / 2, 0, 0] :=
  (by decide +kernel : ∀ t : Fin grid3.N, _)
theorem idx4 : ∀ t : Fin cfg4.N, win4_0.index t = ![0, 0] ∧ win4_1.index t = ![t.val, 0] ∧ win4_2.index t = ![0, t.val] :=
  (by decide +kernel : ∀ t : Fin grid4.N, _)
theorem idx5 : ∀ t : Fin cfg5.N, win5_0.index t = ![0, 0] ∧ win5_1.index t = ![0, t.val] ∧ win5_2.index t = ![t.val % 2, t.val / 2, 0, 0] :=
  (by decide +kernel : ∀ t : Fin grid5.N, _)

variable (V : (c : Dev nD) → (b : Ref sig .tc) → Buf (Elt Ideal) ((c : Thread nD τ).loc b))

theorem point0 (c : Dev nD) (t : Fin cfg0.N) (y : S2048x768.Idx) :
    k0_pay1 (F := Ideal) (iblk0 V c 0 t) (iblk0 V c 1 t) y = across0 (V c main_arg0) (V c main_arg1) (((cfg0.win 2).blk t).view.emb y) := by
  pointwise [k0_pay1, across0]
  blk_point [iblk0, idx0 t]

theorem arr0 (c : Dev nD) : (dat0 (F := Ideal) V c).arrAt 2 cfg0.N = across0 (V c main_arg0) (V c main_arg1) := by
  refine (dat0 V c).arrAt_eq_of_covers 2 _ (by decide +kernel) fun t _ y => ?_
  blk_simp
  rw [after0_2]
  frame_out
  exact point0 V c t y

theorem point1 (c : Dev nD) (t : Fin cfg1.N) (y : S2048x512.Idx) :
    k1_pay1 (F := Ideal) (iblk1 V c 0 t) (iblk1 V c 1 t) y = plain1 (V c main_arg3) (V c main_v1) (((cfg1.win 2).blk t).view.emb y) := by
  pointwise [k1_pay1, plain1]
  blk_point [iblk1, idx1 t]

theorem arr1 (c : Dev nD) : (dat1 (F := Ideal) V c).arrAt 2 cfg1.N = plain1 (V c main_arg3) (V c main_v1) := by
  refine (dat1 V c).arrAt_eq_of_covers 2 _ (by decide +kernel) fun t _ y => ?_
  blk_simp
  rw [after1_2]
  frame_out
  exact point1 V c t y

theorem point2 (c : Dev nD) (t : Fin cfg2.N) (y : S512x512.Idx) :
    k2_pay1 (F := Ideal) (iblk2 V c 0 t) y = flip2 (V c main_arg3) (((cfg2.win 1).blk t).view.emb y) := by
  pointwise [k2_pay1, flip2]
  blk_point [iblk2, idx2 t]

theorem arr2 (c : Dev nD) : (dat2 (F := Ideal) V c).arrAt 1 cfg2.N = flip2 (V c main_arg3) := by
  refine (dat2 V c).arrAt_eq_of_covers 1 _ (by decide +kernel) fun t _ y => ?_
  blk_simp
  rw [after2_1]
  frame_out
  exact point2 V c t y

theorem point3 (c : Dev nD) (t : Fin cfg3.N) (y : S1x1x256x2048.Idx) :
    k3_pay1 (F := Ideal) (iblk3 V c 0 t) (iblk3 V c 1 t) y = rows3 (V c main_v3) (V c main_arg4) (((cfg3.win 2).blk t).view.emb y) := by
  pointwise [k3_pay1, rows3]
  blk_point [iblk3, idx3 t]

theorem arr3 (c : Dev nD) : (dat3 (F := Ideal) V c).arrAt 2 cfg3.N = rows3 (V c main_v3) (V c main_arg4) := by
  refine (dat3 V c).arrAt_eq_of_covers 2 _ (by decide +kernel) fun t _ y => ?_
  blk_simp
  rw [after3_2]
  frame_out
  exact point3 V c t y

theorem point4 (c : Dev nD) (t : Fin cfg4.N) (y : S2048x1024.Idx) :
    k4_pay1 (F := Ideal) (iblk4 V c 0 t) (iblk4 V c 1 t) y = back4 (V c main_arg4) (V c main_v5) (((cfg4.win 2).blk t).view.emb y) := by
  pointwise [k4_pay1, back4]
  blk_point [iblk4, idx4 t]

theorem arr4 (c : Dev nD) : (dat4 (F := Ideal) V c).arrAt 2 cfg4.N = back4 (V c main_arg4) (V c main_v5) := by
  refine (dat4 V c).arrAt_eq_of_covers 2 _ (by decide +kernel) fun t _ y => ?_
  blk_simp
  rw [after4_2]
  frame_out
  exact point4 V c t y

theorem point5 (c : Dev nD) (t : Fin cfg5.N) (y : S1x1x2048x768.Idx) :
    k5_pay1 (F := Ideal) (iblk5 V c 0 t) (iblk5 V c 1 t) y = cols5 (V c main_v7) (V c main_arg5) (((cfg5.win 2).blk t).view.emb y) := by
  pointwise [k5_pay1, cols5]
  blk_point [iblk5, idx5 t]

theorem arr5 (c : Dev nD) : (dat5 (F := Ideal) V c).arrAt 2 cfg5.N = cols5 (V c main_v7) (V c main_arg5) := by
  refine (dat5 V c).arrAt_eq_of_covers 2 _ (by decide +kernel) fun t _ y => ?_
  blk_simp
  rw [after5_2]
  frame_out
  exact point5 V c t y

end Cert.CaIdeal.Hand

end
-- ==== Proof.CaRun.lean ====
module

public import proofs.«01_k».proof.Proof.CaValue
public import proofs.«01_k».proof.Proof.Gen.CaReferenceIdeal.Run
public import proofs.«01_k».proof.Proof.Gen.CaReferenceIdeal.Read
public import Idealize.ShloMosaic.Lib.StableHlo.Run

/-! The chunked mixer's products: what the run of all the calls leaves in the results, and that the reference leaves the same. -/

@[expose] public section

set_option maxRecDepth 16384

noncomputable section

namespace Cert.CaIdeal.Hand

open Idealize.ShloMosaic Idealize.ShloMosaic.TcCoe Idealize.ShloMosaic.Tactic
open Idealize.ShloMosaic.Pipeline (Dat Cfg Window BodyObligation cellOf)
open Cert.CaIdeal Cert.CaIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable (m : ∀ b : Loc nD τ sig, Buf (Elt Ideal) b) (ρ : Dev nD → PrngReg)

theorem v0_at (c : Dev nD) : W1 m ρ c (Proc.devRef .tc main_v0) = (across0 (m ((c : Thread nD τ).loc main_arg0)) (m ((c : Thread nD τ).loc main_arg1))) := by
  refine (W1_arr m ρ c 2).trans ((arr0 _ c).trans ?_)
  show across0 (W0 m ρ c (Proc.devRef .tc main_arg0)) (W0 m ρ c (Proc.devRef .tc main_arg1)) = _
  rw [W0_args m ρ c main_arg0 (by simp), W0_args m ρ c main_arg1 (by simp)]

theorem v1_at (c : Dev nD) : W2 m ρ c (Proc.devRef .tc main_v1) = (shapeCast S2048x2048 (m ((c : Thread nD τ).loc main_arg2)) shapeCasts_S8x256x2048_S2048x2048) := by
  have e := W1_args m ρ c main_arg2 (by simp)
  rw [← e]
  simp only [W2, hostOps1, StableHlo.TRef.unary, StableHlo.TRef.toBuf, StableHlo.TRef.ofBuf, cast_eq]
  after_results_simp <;> rfl

theorem v2_at (c : Dev nD) : W3 m ρ c (Proc.devRef .tc main_v2) = (plain1 (m ((c : Thread nD τ).loc main_arg3)) (shapeCast S2048x2048 (m ((c : Thread nD τ).loc main_arg2)) shapeCasts_S8x256x2048_S2048x2048)) := by
  refine (W3_arr m ρ c 2).trans ((arr1 _ c).trans ?_)
  show plain1 (W2 m ρ c (Proc.devRef .tc main_arg3)) (W2 m ρ c (Proc.devRef .tc main_v1)) = _
  rw [W2_args m ρ c main_arg3 (by simp), v1_at]

theorem v3_at (c : Dev nD) : W4 m ρ c (Proc.devRef .tc main_v3) = (flip2 (m ((c : Thread nD τ).loc main_arg3))) := by
  refine (W4_arr m ρ c 1).trans ((arr2 _ c).trans ?_)
  show flip2 (W3 m ρ c (Proc.devRef .tc main_arg3)) = _
  rw [W3_args m ρ c main_arg3 (by simp)]

theorem v4_at (c : Dev nD) : W5 m ρ c (Proc.devRef .tc main_v4) = (rows3 (flip2 (m ((c : Thread nD τ).loc main_arg3))) (m ((c : Thread nD τ).loc main_arg4))) := by
  refine (W5_arr m ρ c 2).trans ((arr3 _ c).trans ?_)
  show rows3 (W4 m ρ c (Proc.devRef .tc main_v3)) (W4 m ρ c (Proc.devRef .tc main_arg4)) = _
  rw [v3_at, W4_args m ρ c main_arg4 (by simp)]

theorem v5_at (c : Dev nD) : W6 m ρ c (Proc.devRef .tc main_v5) = (shapeCast S2048x2048 (m ((c : Thread nD τ).loc main_arg2)) shapeCasts_S8x256x2048_S2048x2048) := by
  have e := W5_args m ρ c main_arg2 (by simp)
  rw [← e]
  simp only [W6, hostOps4, StableHlo.TRef.unary, StableHlo.TRef.toBuf, StableHlo.TRef.ofBuf, cast_eq]
  after_results_simp <;> rfl

theorem v6_at (c : Dev nD) : W7 m ρ c (Proc.devRef .tc main_v6) = (back4 (m ((c : Thread nD τ).loc main_arg4)) (shapeCast S2048x2048 (m ((c : Thread nD τ).loc main_arg2)) shapeCasts_S8x256x2048_S2048x2048)) := by
  refine (W7_arr m ρ c 2).trans ((arr4 _ c).trans ?_)
  show back4 (W6 m ρ c (Proc.devRef .tc main_arg4)) (W6 m ρ c (Proc.devRef .tc main_v5)) = _
  rw [W6_args m ρ c main_arg4 (by simp), v5_at]

theorem v7_at (c : Dev nD) : W8 m ρ c (Proc.devRef .tc main_v7) = (transpose S2048x2048 [1, 0] (m ((c : Thread nD τ).loc main_arg0)) transposes_S2048x2048_S2048x2048_1_0) := by
  have e := W7_args m ρ c main_arg0 (by simp)
  rw [← e]
  simp only [W8, hostOps5, StableHlo.TRef.unary, StableHlo.TRef.toBuf, StableHlo.TRef.ofBuf, cast_eq]
  after_results_simp <;> rfl

theorem v8_at (c : Dev nD) : W9 m ρ c (Proc.devRef .tc main_v8) = (cols5 (transpose S2048x2048 [1, 0] (m ((c : Thread nD τ).loc main_arg0)) transposes_S2048x2048_S2048x2048_1_0) (m ((c : Thread nD τ).loc main_arg5))) := by
  refine (W9_arr m ρ c 2).trans ((arr5 _ c).trans ?_)
  show cols5 (W8 m ρ c (Proc.devRef .tc main_v7)) (W8 m ρ c (Proc.devRef .tc main_arg5)) = _
  rw [v7_at, W8_args m ρ c main_arg5 (by simp)]

theorem v0_end (c : Dev nD) : W9 m ρ c (Proc.devRef .tc main_v0) = (across0 (m ((c : Thread nD τ).loc main_arg0)) (m ((c : Thread nD τ).loc main_arg1))) := by
  rw [W9_of m ρ c main_v0 (by decide +kernel), W8_of m ρ c main_v0 (by decide), W7_of m ρ c main_v0 (by decide +kernel), W6_of m ρ c main_v0 (by decide), W5_of m ρ c main_v0 (by decide +kernel), W4_of m ρ c main_v0 (by decide +kernel), W3_of m ρ c main_v0 (by decide +kernel), W2_of m ρ c main_v0 (by decide), v0_at]

theorem v2_end (c : Dev nD) : W9 m ρ c (Proc.devRef .tc main_v2) = (plain1 (m ((c : Thread nD τ).loc main_arg3)) (shapeCast S2048x2048 (m ((c : Thread nD τ).loc main_arg2)) shapeCasts_S8x256x2048_S2048x2048)) := by
  rw [W9_of m ρ c main_v2 (by decide +kernel), W8_of m ρ c main_v2 (by decide), W7_of m ρ c main_v2 (by decide +kernel), W6_of m ρ c main_v2 (by decide), W5_of m ρ c main_v2 (by decide +kernel), W4_of m ρ c main_v2 (by decide +kernel), v2_at]

theorem v4_end (c : Dev nD) : W9 m ρ c (Proc.devRef .tc main_v4) = (rows3 (flip2 (m ((c : Thread nD τ).loc main_arg3))) (m ((c : Thread nD τ).loc main_arg4))) := by
  rw [W9_of m ρ c main_v4 (by decide +kernel), W8_of m ρ c main_v4 (by decide), W7_of m ρ c main_v4 (by decide +kernel), W6_of m ρ c main_v4 (by decide), v4_at]

theorem v6_end (c : Dev nD) : W9 m ρ c (Proc.devRef .tc main_v6) = (back4 (m ((c : Thread nD τ).loc main_arg4)) (shapeCast S2048x2048 (m ((c : Thread nD τ).loc main_arg2)) shapeCasts_S8x256x2048_S2048x2048)) := by
  rw [W9_of m ρ c main_v6 (by decide +kernel), W8_of m ρ c main_v6 (by decide), v6_at]

/-- The run ends with every array that outlives the calls at the last boundary's contents. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

/-- The run, read: the results, and the arguments as they were. -/
theorem run : θ_run defs (onTc (τ := τ) (main (F := Ideal))) ⟨m, fun _ => 0, ρ⟩ (fun r => ∀ c : Dev nD,
      r.2.mem ((c.tc : Thread nD τ).loc main_v0) = (across0 (m ((c : Thread nD τ).loc main_arg0)) (m ((c : Thread nD τ).loc main_arg1)))
      ∧ r.2.mem ((c.tc : Thread nD τ).loc main_v2) = (plain1 (m ((c : Thread nD τ).loc main_arg3)) (shapeCast S2048x2048 (m ((c : Thread nD τ).loc main_arg2)) shapeCasts_S8x256x2048_S2048x2048))
      ∧ r.2.mem ((c.tc : Thread nD τ).loc main_v4) = (rows3 (flip2 (m ((c : Thread nD τ).loc main_arg3))) (m ((c : Thread nD τ).loc main_arg4)))
      ∧ r.2.mem ((c.tc : Thread nD τ).loc main_v6) = (back4 (m ((c : Thread nD τ).loc main_arg4)) (shapeCast S2048x2048 (m ((c : Thread nD τ).loc main_arg2)) shapeCasts_S8x256x2048_S2048x2048))
      ∧ r.2.mem ((c.tc : Thread nD τ).loc main_v8) = (cols5 (transpose S2048x2048 [1, 0] (m ((c : Thread nD τ).loc main_arg0)) transposes_S2048x2048_S2048x2048_1_0) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v0 (by decide))).trans (v0_end m ρ c),
     (h c _ (mem_uc main_v2 (by decide))).trans (v2_end m ρ c),
     (h c _ (mem_uc main_v4 (by decide))).trans (v4_end m ρ c),
     (h c _ (mem_uc main_v6 (by decide))).trans (v6_end m ρ c),
     (h c _ (mem_uc main_v8 (by decide))).trans (v8_at m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩)
    (ends m ρ)

end Cert.CaIdeal.Hand

namespace Cert.CaReferenceIdeal.Hand

open Cert.CaReferenceIdeal Cert.CaReferenceIdeal.Gen Cert.CaReferenceIdeal.Read Idealize.ShloMosaic
open Cert.CaIdeal.Hand (across0 plain1 flip2 rows3 back4 cols5)

variable (x0 : FVec Ideal S2048x2048 .bf16) (x1 : FVec Ideal S8x2048x768 .bf16) (x2 : FVec Ideal S8x256x2048 .bf16) (x3 : FVec Ideal S2048x2048 .bf16) (x4 : FVec Ideal S2048x2048 .bf16) (x5 : FVec Ideal S2048x6144 .bf16)

theorem v0_eq : val_main_v16 (F := Ideal) x0 x1 = across0 x0 x1 := by
  funext i
  pointwise [val_main_v16, val_main_v4, val_main_v3, val_main_v2, val_main_v1, val_main_v0, across0]

theorem v2_eq : val_main_v8 (F := Ideal) x2 x3 = plain1 x3 (shapeCast Cert.CaIdeal.S2048x2048 x2 Cert.CaIdeal.Gen.shapeCasts_S8x256x2048_S2048x2048) := by
  funext i
  pointwise [val_main_v8, val_main_v5, val_main_v7, val_main_v6, plain1]

theorem v4_eq : val_main_v19 (F := Ideal) x3 x4 = rows3 (flip2 x3) x4 := by
  funext i
  pointwise [val_main_v19, val_main_v18, val_main_v17, val_main_v11, val_main_v10, val_main_v9, val_main_v5, rows3, flip2]
  refine Fin.sum_fin_congr fun k => ?_
  rw [mul_comm]
  have e : (i 1).val * 512 + (i 0).val * 256 + (i 2).val = (2 * (i 1).val + (i 0).val) * 256 + (i 2).val := by ring
  simp only [e]

theorem v6_eq : val_main_v20 (F := Ideal) x2 x4 = back4 x4 (shapeCast Cert.CaIdeal.S2048x2048 x2 Cert.CaIdeal.Gen.shapeCasts_S8x256x2048_S2048x2048) := by
  funext i
  pointwise [val_main_v20, val_main_v12, val_main_v9, val_main_v7, val_main_v6, back4]

theorem v8_eq : val_main_v23 (F := Ideal) x0 x5 = cols5 (transpose Cert.CaIdeal.S2048x2048 [1, 0] x0 Cert.CaIdeal.Gen.transposes_S2048x2048_S2048x2048_1_0) x5 := by
  funext i
  pointwise [val_main_v23, val_main_v22, val_main_v21, val_main_v15, val_main_v14, val_main_v13, val_main_v3, cols5]
  refine Fin.sum_fin_congr fun k => ?_
  rw [mul_comm]
  have e : (i 1).val * 1536 + (i 0).val * 768 + (i 3).val = (2 * (i 1).val + (i 0).val) * 768 + (i 3).val := by ring
  simp only [e]

end Cert.CaReferenceIdeal.Hand

end
-- ==== Proof.CaDhValue.lean ====
module

public import proofs.«01_k».proof.Proof.Gen.CaDhIdeal.Value
public import proofs.«01_k».proof.Proof.Gen.CaDhReferenceIdeal.Read
public import Idealize.ShloMosaic.Lib.Pipeline.ValueKit
public import Idealize.ShloMosaic.Lib.Pipeline.ReadBack
public import Idealize.ShloMosaic.Lib.Claim
public import Idealize.ShloMosaic.Lib.Pointwise

/-! The gradient of the chunked mixer's input: the sixteen partial products that the kernel adds up into one block are the
    reference's one product. -/

@[expose] public section

set_option maxRecDepth 16384

noncomputable section

namespace Cert.CaDhIdeal.Hand

open Idealize.ShloMosaic Idealize.ShloMosaic.TcCoe Idealize.ShloMosaic.Tactic
open Idealize.ShloMosaic.Pipeline
open Cert.CaDhIdeal Cert.CaDhIdeal.Gen

/-- Entry `i` of the product of `X` with the transposed matrix whose eight column blocks are stacked in `Y`. -/
def prod (X : FVec Ideal S2048x6144 .bf16) (Y : FVec Ideal S8x2048x768 .bf16) (i : S2048x2048.Idx) : EReal :=
  ∑ l : Fin 6144, X (ix2 (i 0) l) * Y (ix3 ⟨l.val / 768, by omega⟩ (i 1) ⟨l.val % 768, by omega⟩)

theorem zero_pt (j : S2048x1024.Idx) : k0_pay1 (F := Ideal) j = 0 := by pointwise [k0_pay1]

theorem part_pt (acc : FVec Ideal S2048x1024 .f32) (x0 : FVec Ideal S2048x384 .bf16) (x1 : FVec Ideal S1x1024x384 .bf16) (j : S2048x1024.Idx) :
    k0_pay2 acc x0 x1 j = acc j + ∑ k : Fin 384, x0 (ix2 (j 0) k) * x1 (ix3 0 (j 1) k) := by
  pointwise [k0_pay2]

theorem idx : ∀ t : Fin cfg0.N, win0_0.index t = ![0, t.val % 16] ∧ win0_1.index t = ![t.val % 16 / 2, t.val / 16, t.val % 16 % 2]
    ∧ win0_2.index t = ![0, t.val / 16] :=
  (by decide +kernel : ∀ t : Fin grid0.N, _)

variable (m : ∀ b : Loc nD τ sig, Buf (Elt Ideal) b)

/-- Where a block is written out, it is the carried sum. -/
theorem flushed (c : Dev nD) (t : Fin cfg0.N) (h : t.val % 16 = 15) (j : S2048x1024.Idx) :
    (outsAt0 (F := Ideal) m c t.val t.isLt).1 j = (outsAt0 (F := Ideal) m c t.val t.isLt).2 j := by
  rw [outsAt0_C m c t (by omega) h]
  frame_out

theorem arr (c : Dev nD) : (dats (F := Ideal) m 0 c).arrAt 2 cfg0.N
    = prod (m ((c : Thread nD τ).loc main_arg0)) (m ((c : Thread nD τ).loc main_arg1)) := by
  refine (dats m 0 c).arrAt_eq_of_covers 2 _ (by decide +kernel) fun t hf y => ?_
  have ht : t.val % 16 = 15 := (flush0_2 t).mp hf
  blk_simp
  rw [after0_2, flushed m c t ht, Pipeline.eq_sum_fin_of_reset_step_apply_of_flush (fun n h => (outsAt0 m c n h).2) 16 (fun _ => 0) _
    (fun t h j => by rw [outsAt0_A m c t h (by omega)]; frame_out; rw [part_pt, zero_pt])
    (fun t h j => by
      by_cases h1 : t.val % 16 = 15
      · rw [outsAt0_C m c t h h1]; frame_out; rw [part_pt, read_unread_whole]
      · rw [outsAt0_B m c t h h1]; frame_out; rw [part_pt, read_unread_whole])
    t ht _, zero_add]
  unfold prod
  refine Fin.sum_mul_add_congr fun s k hl => ?_
  blk_point [iblk, V, idx t, idx ⟨_, Pipeline.run_point_lt_of_flush t ht s⟩]

end Cert.CaDhIdeal.Hand

namespace Cert.CaDhReferenceIdeal.Hand

open Cert.CaDhReferenceIdeal Cert.CaDhReferenceIdeal.Gen Cert.CaDhReferenceIdeal.Read Idealize.ShloMosaic

theorem value (x0 : FVec Ideal S2048x6144 .bf16) (x1 : FVec Ideal S8x2048x768 .bf16) :
    val_main_v6 (F := Ideal) x0 x1 = Cert.CaDhIdeal.Hand.prod x0 x1 := by
  funext i
  pointwise [val_main_v6, val_main_v5, val_main_v3, val_main_v2, val_main_v1, Cert.CaDhIdeal.Hand.prod]

end Cert.CaDhReferenceIdeal.Hand

end
-- ==== Proof.MlaValue.lean ====
module

public import proofs.«01_k».proof.Proof.Gen.MlaIdeal.Frame
public import Idealize.ShloMosaic.Lib.Pipeline.ValueKit
public import Idealize.ShloMosaic.Lib.Pipeline.ReadBack
public import Idealize.ShloMosaic.Lib.Claim
public import Idealize.ShloMosaic.Lib.Pointwise

/-! The latent mixer's products: the array that each call leaves, over any contents of the arrays it reads. -/

@[expose] public section

set_option maxRecDepth 16384

noncomputable section

namespace Cert.MlaIdeal.Hand

open Idealize.ShloMosaic Idealize.ShloMosaic.TcCoe Idealize.ShloMosaic.Tactic
open Idealize.ShloMosaic.Pipeline
open Cert.MlaIdeal Cert.MlaIdeal.Gen

/-- `X` times `Y`. -/
def plain0 (X : FVec Ideal S2048x2048 .bf16) (Y : FVec Ideal S2048x1152 .bf16) : FVec Ideal S2048x1152 .f32 := fun i =>
  ∑ k : Fin 2048, X (ix2 (i 0) k) * Y (ix2 k (i 1))

/-- `X` times the matrix whose eight column blocks are stacked in `Y`. -/
def across1 (X : FVec Ideal S2048x512 .bf16) (Y : FVec Ideal S8x512x512 .bf16) : FVec Ideal S2048x4096 .f32 := fun i =>
  ∑ k : Fin 512, X (ix2 (i 0) k)
    * Y (ix3 ⟨(i 1).val / 512, by have : (i 1).val < 4096 := (i 1).isLt; omega⟩ k ⟨(i 1).val % 512, by omega⟩)

/-- `X` times the matrix whose eight column blocks are stacked in `Y`. -/
def across2 (X : FVec Ideal S2048x512 .bf16) (Y : FVec Ideal S8x512x512 .bf16) : FVec Ideal S2048x4096 .bf16 := fun i =>
  ∑ k : Fin 512, X (ix2 (i 0) k)
    * Y (ix3 ⟨(i 1).val / 512, by have : (i 1).val < 4096 := (i 1).isLt; omega⟩ k ⟨(i 1).val % 512, by omega⟩)

/-- `X` times `Y`. -/
def plain3 (X : FVec Ideal S2048x2048 .bf16) (Y : FVec Ideal S2048x2048 .bf16) : FVec Ideal S2048x2048 .f32 := fun i =>
  ∑ k : Fin 2048, X (ix2 (i 0) k) * Y (ix2 k (i 1))

/-- `X` transposed. -/
def flip4 (X : FVec Ideal S2048x2048 .bf16) : FVec Ideal S2048x2048 .bf16 := fun i =>
  X (ix2 (i 1) (i 0))

/-- `X` times `Y`, the row blocks laid out by device. -/
def rows5 (X : FVec Ideal S2048x2048 .bf16) (Y : FVec Ideal S2048x2048 .bf16) : FVec Ideal S2x4x256x2048 .bf16 := fun i =>
  ∑ k : Fin 2048, X (ix2 ⟨(2 * (i 1).val + (i 0).val) * 256 + (i 2).val, by
      have h0 : (i 0).val < 2 := (i 0).isLt; have h1 : (i 1).val < 4 := (i 1).isLt; have h2 : (i 2).val < 256 := (i 2).isLt; omega⟩ k)
    * Y (ix2 k (i 3))

/-- `X` times the transpose of `Y`. -/
def back6 (X : FVec Ideal S2048x2048 .bf16) (Y : FVec Ideal S2048x2048 .bf16) : FVec Ideal S2048x2048 .bf16 := fun i =>
  ∑ k : Fin 2048, X (ix2 (i 0) k) * Y (ix2 (i 1) k)

/-- `X` transposed. -/
def flip7 (X : FVec Ideal S2048x512 .bf16) : FVec Ideal S512x2048 .bf16 := fun i =>
  X (ix2 (i 1) (i 0))

/-- `X` times `Y`, the column blocks laid out by device. -/
def cols8 (X : FVec Ideal S512x2048 .bf16) (Y : FVec Ideal S2048x4096 .bf16) : FVec Ideal S2x4x512x512 .bf16 := fun i =>
  ∑ k : Fin 2048, X (ix2 (i 2) k) * Y (ix2 k ⟨(2 * (i 1).val + (i 0).val) * 512 + (i 3).val, by
      have h0 : (i 0).val < 2 := (i 0).isLt; have h1 : (i 1).val < 4 := (i 1).isLt; have h3 : (i 3).val < 512 := (i 3).isLt; omega⟩)

/-- `X` times `Y`, the row blocks laid out by device. -/
def rows9 (X : FVec Ideal S2048x2048 .bf16) (Y : FVec Ideal S2048x1152 .bf16) : FVec Ideal S2x4x256x1152 .bf16 := fun i =>
  ∑ k : Fin 2048, X (ix2 ⟨(2 * (i 1).val + (i 0).val) * 256 + (i 2).val, by
      have h0 : (i 0).val < 2 := (i 0).isLt; have h1 : (i 1).val < 4 := (i 1).isLt; have h2 : (i 2).val < 256 := (i 2).isLt; omega⟩ k)
    * Y (ix2 k (i 3))

/-- `X` times the transpose of `Y`. -/
def back10 (X : FVec Ideal S2048x1152 .bf16) (Y : FVec Ideal S2048x1152 .bf16) : FVec Ideal S2048x2048 .f32 := fun i =>
  ∑ k : Fin 1152, X (ix2 (i 0) k) * Y (ix2 (i 1) k)

theorem idx0 : ∀ t : Fin cfg0.N, win0_0.index t = ![0, 0] ∧ win0_1.index t = ![0, t.val] ∧ win0_2.index t = ![0, t.val] :=
  (by decide +kernel : ∀ t : Fin grid0.N, _)
theorem idx1 : ∀ t : Fin cfg1.N, win1_0.index t = ![0, 0] ∧ win1_1.index t = ![t.val, 0, 0] ∧ win1_2.index t = ![0, t.val] :=
  (by decide +kernel : ∀ t : Fin grid1.N, _)
theorem idx2 : ∀ t : Fin cfg2.N, win2_0.index t = ![0, 0] ∧ win2_1.index t = ![t.val, 0, 0] ∧ win2_2.index t = ![0, t.val] :=
  (by decide +kernel : ∀ t : Fin grid2.N, _)
theorem idx3 : ∀ t : Fin cfg3.N, win3_0.index t = ![0, 0] ∧ win3_1.index t = ![0, t.val] ∧ win3_2.index t = ![0, t.val] :=
  (by decide +kernel : ∀ t : Fin grid3.N, _)
theorem idx4 : ∀ t : Fin cfg4.N, win4_0.index t = ![t.val / 4, t.val % 4] ∧ win4_1.index t = ![t.val % 4, t.val / 4] :=
  (by decide +kernel : ∀ t : Fin grid4.N, _)
theorem idx5 : ∀ t : Fin cfg5.N, win5_0.index t = ![t.val, 0] ∧ win5_1.index t = ![0, 0] ∧ win5_2.index t = ![t.val % 2, t.val / 2, 0, 0] :=
  (by decide +kernel : ∀ t : Fin grid5.N, _)
theorem idx6 : ∀ t : Fin cfg6.N, win6_0.index t = ![0, 0] ∧ win6_1.index t = ![t.val, 0] ∧ win6_2.index t = ![0, t.val] :=
  (by decide +kernel : ∀ t : Fin grid6.N, _)
theorem idx7 : ∀ t : Fin cfg7.N, win7_0.index t = ![t.val, 0] ∧ win7_1.index t = ![0, t.val] :=
  (by decide +kernel : ∀ t : Fin grid7.N, _)
theorem idx8 : ∀ t : Fin cfg8.N, win8_0.index t = ![0, 0] ∧ win8_1.index t = ![0, t.val] ∧ win8_2.index t = ![t.val % 2, t.val / 2, 0, 0] :=
  (by decide +kernel : ∀ t : Fin grid8.N, _)
theorem idx9 : ∀ t : Fin cfg9.N, win9_0.index t = ![t.val, 0] ∧ win9_1.index t = ![0, t.val] :=
  (by decide +kernel : ∀ t : Fin grid9.N, _)
theorem idx10 : ∀ t : Fin cfg10.N, win10_0.index t = ![0, 0] ∧ win10_1.index t = ![0, t.val] ∧ win10_2.index t = ![t.val % 2, t.val / 2, 0, 0] :=
  (by decide +kernel : ∀ t : Fin grid10.N, _)
theorem idx11 : ∀ t : Fin cfg11.N, win11_0.index t = ![t.val, 0] ∧ win11_1.index t = ![0, 0] ∧ win11_2.index t = ![t.val % 2, t.val / 2, 0, 0] :=
  (by decide +kernel : ∀ t : Fin grid11.N, _)
theorem idx12 : ∀ t : Fin cfg12.N, win12_0.index t = ![0, 0] ∧ win12_1.index t = ![t.val, 0] ∧ win12_2.index t = ![0, t.val] :=
  (by decide +kernel : ∀ t : Fin grid12.N, _)

variable (V : (c : Dev nD) → (b : Ref sig .tc) → Buf (Elt Ideal) ((c : Thread nD τ).loc b))

theorem point0 (c : Dev nD) (t : Fin cfg0.N) (y : S2048x384.Idx) :
    k0_pay1 (F := Ideal) (iblk0 V c 0 t) (iblk0 V c 1 t) y = plain0 (V c main_arg0) (V c main_v0) (((cfg0.win 2).blk t).view.emb y) := by
  pointwise [k0_pay1, plain0]
  blk_point [iblk0, idx0 t]

theorem arr0 (c : Dev nD) : (dat0 (F := Ideal) V c).arrAt 2 cfg0.N = plain0 (V c main_arg0) (V c main_v0) := by
  refine (dat0 V c).arrAt_eq_of_covers 2 _ (by decide +kernel) fun t _ y => ?_
  blk_simp
  rw [after0_2]
  frame_out
  exact point0 V c t y

theorem point1 (c : Dev nD) (t : Fin cfg1.N) (y : S2048x512.Idx) :
    k1_pay1 (F := Ideal) (iblk1 V c 0 t) (iblk1 V c 1 t) y = across1 (V c main_arg1) (V c main_arg5) (((cfg1.win 2).blk t).view.emb y) := by
  pointwise [k1_pay1, across1]
  blk_point [iblk1, idx1 t]

theorem arr1 (c : Dev nD) : (dat1 (F := Ideal) V c).arrAt 2 cfg1.N = across1 (V c main_arg1) (V c main_arg5) := by
  refine (dat1 V c).arrAt_eq_of_covers 2 _ (by decide +kernel) fun t _ y => ?_
  blk_simp
  rw [after1_2]
  frame_out
  exact point1 V c t y

theorem point2 (c : Dev nD) (t : Fin cfg2.N) (y : S2048x512.Idx) :
    k2_pay1 (F := Ideal) (iblk2 V c 0 t) (iblk2 V c 1 t) y = across2 (V c main_arg2) (V c main_arg6) (((cfg2.win 2).blk t).view.emb y) := by
  pointwise [k2_pay1, across2]
  blk_point [iblk2, idx2 t]

theorem arr2 (c : Dev nD) : (dat2 (F := Ideal) V c).arrAt 2 cfg2.N = across2 (V c main_arg2) (V c main_arg6) := by
  refine (dat2 V c).arrAt_eq_of_covers 2 _ (by decide +kernel) fun t _ y => ?_
  blk_simp
  rw [after2_2]
  frame_out
  exact point2 V c t y

theorem point3 (c : Dev nD) (t : Fin cfg3.N) (y : S2048x512.Idx) :
    k3_pay1 (F := Ideal) (iblk3 V c 0 t) (iblk3 V c 1 t) y = plain3 (V c main_arg3) (V c main_v4) (((cfg3.win 2).blk t).view.emb y) := by
  pointwise [k3_pay1, plain3]
  blk_point [iblk3, idx3 t]

theorem arr3 (c : Dev nD) : (dat3 (F := Ideal) V c).arrAt 2 cfg3.N = plain3 (V c main_arg3) (V c main_v4) := by
  refine (dat3 V c).arrAt_eq_of_covers 2 _ (by decide +kernel) fun t _ y => ?_
  blk_simp
  rw [after3_2]
  frame_out
  exact point3 V c t y

theorem point4 (c : Dev nD) (t : Fin cfg4.N) (y : S512x512.Idx) :
    k4_pay1 (F := Ideal) (iblk4 V c 0 t) y = flip4 (V c main_arg3) (((cfg4.win 1).blk t).view.emb y) := by
  pointwise [k4_pay1, flip4]
  blk_point [iblk4, idx4 t]

theorem arr4 (c : Dev nD) : (dat4 (F := Ideal) V c).arrAt 1 cfg4.N = flip4 (V c main_arg3) := by
  refine (dat4 V c).arrAt_eq_of_covers 1 _ (by decide +kernel) fun t _ y => ?_
  blk_simp
  rw [after4_1]
  frame_out
  exact point4 V c t y

theorem point5 (c : Dev nD) (t : Fin cfg5.N) (y : S1x1x256x2048.Idx) :
    k5_pay1 (F := Ideal) (iblk5 V c 0 t) (iblk5 V c 1 t) y = rows5 (V c main_v6) (V c main_arg8) (((cfg5.win 2).blk t).view.emb y) := by
  pointwise [k5_pay1, rows5]
  blk_point [iblk5, idx5 t]

theorem arr5 (c : Dev nD) : (dat5 (F := Ideal) V c).arrAt 2 cfg5.N = rows5 (V c main_v6) (V c main_arg8) := by
  refine (dat5 V c).arrAt_eq_of_covers 2 _ (by decide +kernel) fun t _ y => ?_
  blk_simp
  rw [after5_2]
  frame_out
  exact point5 V c t y

theorem point6 (c : Dev nD) (t : Fin cfg6.N) (y : S2048x1024.Idx) :
    k6_pay1 (F := Ideal) (iblk6 V c 0 t) (iblk6 V c 1 t) y = back6 (V c main_arg8) (V c main_v8) (((cfg6.win 2).blk t).view.emb y) := by
  pointwise [k6_pay1, back6]
  blk_point [iblk6, idx6 t]

theorem arr6 (c : Dev nD) : (dat6 (F := Ideal) V c).arrAt 2 cfg6.N = back6 (V c main_arg8) (V c main_v8) := by
  refine (dat6 V c).arrAt_eq_of_covers 2 _ (by decide +kernel) fun t _ y => ?_
  blk_simp
  rw [after6_2]
  frame_out
  exact point6 V c t y

theorem point7 (c : Dev nD) (t : Fin cfg7.N) (y : S512x512.Idx) :
    k7_pay1 (F := Ideal) (iblk7 V c 0 t) y = flip7 (V c main_arg1) (((cfg7.win 1).blk t).view.emb y) := by
  pointwise [k7_pay1, flip7]
  blk_point [iblk7, idx7 t]

theorem arr7 (c : Dev nD) : (dat7 (F := Ideal) V c).arrAt 1 cfg7.N = flip7 (V c main_arg1) := by
  refine (dat7 V c).arrAt_eq_of_covers 1 _ (by decide +kernel) fun t _ y => ?_
  blk_simp
  rw [after7_1]
  frame_out
  exact point7 V c t y

theorem point8 (c : Dev nD) (t : Fin cfg8.N) (y : S1x1x512x512.Idx) :
    k8_pay1 (F := Ideal) (iblk8 V c 0 t) (iblk8 V c 1 t) y = cols8 (V c main_v10) (V c main_arg9) (((cfg8.win 2).blk t).view.emb y) := by
  pointwise [k8_pay1, cols8]
  blk_point [iblk8, idx8 t]

theorem arr8 (c : Dev nD) : (dat8 (F := Ideal) V c).arrAt 2 cfg8.N = cols8 (V c main_v10) (V c main_arg9) := by
  refine (dat8 V c).arrAt_eq_of_covers 2 _ (by decide +kernel) fun t _ y => ?_
  blk_simp
  rw [after8_2]
  frame_out
  exact point8 V c t y

theorem point9 (c : Dev nD) (t : Fin cfg9.N) (y : S512x512.Idx) :
    k9_pay1 (F := Ideal) (iblk9 V c 0 t) y = flip7 (V c main_arg2) (((cfg9.win 1).blk t).view.emb y) := by
  pointwise [k9_pay1, flip7]
  blk_point [iblk9, idx9 t]

theorem arr9 (c : Dev nD) : (dat9 (F := Ideal) V c).arrAt 1 cfg9.N = flip7 (V c main_arg2) := by
  refine (dat9 V c).arrAt_eq_of_covers 1 _ (by decide +kernel) fun t _ y => ?_
  blk_simp
  rw [after9_1]
  frame_out
  exact point9 V c t y

theorem point10 (c : Dev nD) (t : Fin cfg10.N) (y : S1x1x512x512.Idx) :
    k10_pay1 (F := Ideal) (iblk10 V c 0 t) (iblk10 V c 1 t) y = cols8 (V c main_v12) (V c main_arg10) (((cfg10.win 2).blk t).view.emb y) := by
  pointwise [k10_pay1, cols8]
  blk_point [iblk10, idx10 t]

theorem arr10 (c : Dev nD) : (dat10 (F := Ideal) V c).arrAt 2 cfg10.N = cols8 (V c main_v12) (V c main_arg10) := by
  refine (dat10 V c).arrAt_eq_of_covers 2 _ (by decide +kernel) fun t _ y => ?_
  blk_simp
  rw [after10_2]
  frame_out
  exact point10 V c t y

theorem point11 (c : Dev nD) (t : Fin cfg11.N) (y : S1x1x256x1152.Idx) :
    k11_pay1 (F := Ideal) (iblk11 V c 0 t) (iblk11 V c 1 t) y = rows9 (V c main_v14) (V c main_arg11) (((cfg11.win 2).blk t).view.emb y) := by
  pointwise [k11_pay1, rows9]
  blk_point [iblk11, idx11 t]

theorem arr11 (c : Dev nD) : (dat11 (F := Ideal) V c).arrAt 2 cfg11.N = rows9 (V c main_v14) (V c main_arg11) := by
  refine (dat11 V c).arrAt_eq_of_covers 2 _ (by decide +kernel) fun t _ y => ?_
  blk_simp
  rw [after11_2]
  frame_out
  exact point11 V c t y

theorem point12 (c : Dev nD) (t : Fin cfg12.N) (y : S2048x1024.Idx) :
    k12_pay1 (F := Ideal) (iblk12 V c 0 t) (iblk12 V c 1 t) y = back10 (V c main_arg11) (V c main_v16) (((cfg12.win 2).blk t).view.emb y) := by
  pointwise [k12_pay1, back10]
  blk_point [iblk12, idx12 t]

theorem arr12 (c : Dev nD) : (dat12 (F := Ideal) V c).arrAt 2 cfg12.N = back10 (V c main_arg11) (V c main_v16) := by
  refine (dat12 V c).arrAt_eq_of_covers 2 _ (by decide +kernel) fun t _ y => ?_
  blk_simp
  rw [after12_2]
  frame_out
  exact point12 V c t y

end Cert.MlaIdeal.Hand

end
-- ==== Proof.MlaRun.lean ====
module

public import proofs.«01_k».proof.Proof.MlaValue
public import proofs.«01_k».proof.Proof.Gen.MlaReferenceIdeal.Run
public import proofs.«01_k».proof.Proof.Gen.MlaReferenceIdeal.Read
public import Idealize.ShloMosaic.Lib.StableHlo.Run

/-! The latent mixer's products: what the run of all the calls leaves in the results, and that the reference leaves the same. -/

@[expose] public section

set_option maxRecDepth 16384

noncomputable section

namespace Cert.MlaIdeal.Hand

open Idealize.ShloMosaic Idealize.ShloMosaic.TcCoe Idealize.ShloMosaic.Tactic
open Idealize.ShloMosaic.Pipeline (Dat Cfg Window BodyObligation cellOf)
open Cert.MlaIdeal Cert.MlaIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable (m : ∀ b : Loc nD τ sig, Buf (Elt Ideal) b) (ρ : Dev nD → PrngReg)

theorem v0_at (c : Dev nD) : W1 m ρ c (Proc.devRef .tc main_v0) = (shapeCast S2048x1152 (m ((c : Thread nD τ).loc main_arg4)) shapeCasts_S8x256x1152_S2048x1152) := by
  have e := W0_args m ρ c main_arg4 (by simp)
  rw [← e]
  simp only [W1, hostOps0, StableHlo.TRef.unary, StableHlo.TRef.toBuf, StableHlo.TRef.ofBuf, cast_eq]
  after_results_simp <;> rfl

theorem v1_at (c : Dev nD) : W2 m ρ c (Proc.devRef .tc main_v1) = (plain0 (m ((c : Thread nD τ).loc main_arg0)) (shapeCast S2048x1152 (m ((c : Thread nD τ).loc main_arg4)) shapeCasts_S8x256x1152_S2048x1152)) := by
  refine (W2_arr m ρ c 2).trans ((arr0 _ c).trans ?_)
  show plain0 (W1 m ρ c (Proc.devRef .tc main_arg0)) (W1 m ρ c (Proc.devRef .tc main_v0)) = _
  rw [W1_args m ρ c main_arg0 (by simp), v0_at]

theorem v2_at (c : Dev nD) : W3 m ρ c (Proc.devRef .tc main_v2) = (across1 (m ((c : Thread nD τ).loc main_arg1)) (m ((c : Thread nD τ).loc main_arg5))) := by
  refine (W3_arr m ρ c 2).trans ((arr1 _ c).trans ?_)
  show across1 (W2 m ρ c (Proc.devRef .tc main_arg1)) (W2 m ρ c (Proc.devRef .tc main_arg5)) = _
  rw [W2_args m ρ c main_arg1 (by simp), W2_args m ρ c main_arg5 (by simp)]

theorem v3_at (c : Dev nD) : W4 m ρ c (Proc.devRef .tc main_v3) = (across2 (m ((c : Thread nD τ).loc main_arg2)) (m ((c : Thread nD τ).loc main_arg6))) := by
  refine (W4_arr m ρ c 2).trans ((arr2 _ c).trans ?_)
  show across2 (W3 m ρ c (Proc.devRef .tc main_arg2)) (W3 m ρ c (Proc.devRef .tc main_arg6)) = _
  rw [W3_args m ρ c main_arg2 (by simp), W3_args m ρ c main_arg6 (by simp)]

theorem v4_at (c : Dev nD) : W5 m ρ c (Proc.devRef .tc main_v4) = (shapeCast S2048x2048 (m ((c : Thread nD τ).loc main_arg7)) shapeCasts_S8x256x2048_S2048x2048) := by
  have e := W4_args m ρ c main_arg7 (by simp)
  rw [← e]
  simp only [W5, hostOps3, StableHlo.TRef.unary, StableHlo.TRef.toBuf, StableHlo.TRef.ofBuf, cast_eq]
  after_results_simp <;> rfl

theorem v5_at (c : Dev nD) : W6 m ρ c (Proc.devRef .tc main_v5) = (plain3 (m ((c : Thread nD τ).loc main_arg3)) (shapeCast S2048x2048 (m ((c : Thread nD τ).loc main_arg7)) shapeCasts_S8x256x2048_S2048x2048)) := by
  refine (W6_arr m ρ c 2).trans ((arr3 _ c).trans ?_)
  show plain3 (W5 m ρ c (Proc.devRef .tc main_arg3)) (W5 m ρ c (Proc.devRef .tc main_v4)) = _
  rw [W5_args m ρ c main_arg3 (by simp), v4_at]

theorem v6_at (c : Dev nD) : W7 m ρ c (Proc.devRef .tc main_v6) = (flip4 (m ((c : Thread nD τ).loc main_arg3))) := by
  refine (W7_arr m ρ c 1).trans ((arr4 _ c).trans ?_)
  show flip4 (W6 m ρ c (Proc.devRef .tc main_arg3)) = _
  rw [W6_args m ρ c main_arg3 (by simp)]

theorem v7_at (c : Dev nD) : W8 m ρ c (Proc.devRef .tc main_v7) = (rows5 (flip4 (m ((c : Thread nD τ).loc main_arg3))) (m ((c : Thread nD τ).loc main_arg8))) := by
  refine (W8_arr m ρ c 2).trans ((arr5 _ c).trans ?_)
  show rows5 (W7 m ρ c (Proc.devRef .tc main_v6)) (W7 m ρ c (Proc.devRef .tc main_arg8)) = _
  rw [v6_at, W7_args m ρ c main_arg8 (by simp)]

theorem v8_at (c : Dev nD) : W9 m ρ c (Proc.devRef .tc main_v8) = (shapeCast S2048x2048 (m ((c : Thread nD τ).loc main_arg7)) shapeCasts_S8x256x2048_S2048x2048) := by
  have e := W8_args m ρ c main_arg7 (by simp)
  rw [← e]
  simp only [W9, hostOps6, StableHlo.TRef.unary, StableHlo.TRef.toBuf, StableHlo.TRef.ofBuf, cast_eq]
  after_results_simp <;> rfl

theorem v9_at (c : Dev nD) : W10 m ρ c (Proc.devRef .tc main_v9) = (back6 (m ((c : Thread nD τ).loc main_arg8)) (shapeCast S2048x2048 (m ((c : Thread nD τ).loc main_arg7)) shapeCasts_S8x256x2048_S2048x2048)) := by
  refine (W10_arr m ρ c 2).trans ((arr6 _ c).trans ?_)
  show back6 (W9 m ρ c (Proc.devRef .tc main_arg8)) (W9 m ρ c (Proc.devRef .tc main_v8)) = _
  rw [W9_args m ρ c main_arg8 (by simp), v8_at]

theorem v10_at (c : Dev nD) : W11 m ρ c (Proc.devRef .tc main_v10) = (flip7 (m ((c : Thread nD τ).loc main_arg1))) := by
  refine (W11_arr m ρ c 1).trans ((arr7 _ c).trans ?_)
  show flip7 (W10 m ρ c (Proc.devRef .tc main_arg1)) = _
  rw [W10_args m ρ c main_arg1 (by simp)]

theorem v11_at (c : Dev nD) : W12 m ρ c (Proc.devRef .tc main_v11) = (cols8 (flip7 (m ((c : Thread nD τ).loc main_arg1))) (m ((c : Thread nD τ).loc main_arg9))) := by
  refine (W12_arr m ρ c 2).trans ((arr8 _ c).trans ?_)
  show cols8 (W11 m ρ c (Proc.devRef .tc main_v10)) (W11 m ρ c (Proc.devRef .tc main_arg9)) = _
  rw [v10_at, W11_args m ρ c main_arg9 (by simp)]

theorem v12_at (c : Dev nD) : W13 m ρ c (Proc.devRef .tc main_v12) = (flip7 (m ((c : Thread nD τ).loc main_arg2))) := by
  refine (W13_arr m ρ c 1).trans ((arr9 _ c).trans ?_)
  show flip7 (W12 m ρ c (Proc.devRef .tc main_arg2)) = _
  rw [W12_args m ρ c main_arg2 (by simp)]

theorem v13_at (c : Dev nD) : W14 m ρ c (Proc.devRef .tc main_v13) = (cols8 (flip7 (m ((c : Thread nD τ).loc main_arg2))) (m ((c : Thread nD τ).loc main_arg10))) := by
  refine (W14_arr m ρ c 2).trans ((arr10 _ c).trans ?_)
  show cols8 (W13 m ρ c (Proc.devRef .tc main_v12)) (W13 m ρ c (Proc.devRef .tc main_arg10)) = _
  rw [v12_at, W13_args m ρ c main_arg10 (by simp)]

theorem v14_at (c : Dev nD) : W15 m ρ c (Proc.devRef .tc main_v14) = (transpose S2048x2048 [1, 0] (m ((c : Thread nD τ).loc main_arg0)) transposes_S2048x2048_S2048x2048_1_0) := by
  have e := W14_args m ρ c main_arg0 (by simp)
  rw [← e]
  simp only [W15, hostOps11, StableHlo.TRef.unary, StableHlo.TRef.toBuf, StableHlo.TRef.ofBuf, cast_eq]
  after_results_simp <;> rfl

theorem v15_at (c : Dev nD) : W16 m ρ c (Proc.devRef .tc main_v15) = (rows9 (transpose S2048x2048 [1, 0] (m ((c : Thread nD τ).loc main_arg0)) transposes_S2048x2048_S2048x2048_1_0) (m ((c : Thread nD τ).loc main_arg11))) := by
  refine (W16_arr m ρ c 2).trans ((arr11 _ c).trans ?_)
  show rows9 (W15 m ρ c (Proc.devRef .tc main_v14)) (W15 m ρ c (Proc.devRef .tc main_arg11)) = _
  rw [v14_at, W15_args m ρ c main_arg11 (by simp)]

theorem v16_at (c : Dev nD) : W17 m ρ c (Proc.devRef .tc main_v16) = (shapeCast S2048x1152 (m ((c : Thread nD τ).loc main_arg4)) shapeCasts_S8x256x1152_S2048x1152) := by
  have e := W16_args m ρ c main_arg4 (by simp)
  rw [← e]
  simp only [W17, hostOps12, StableHlo.TRef.unary, StableHlo.TRef.toBuf, StableHlo.TRef.ofBuf, cast_eq]
  after_results_simp <;> rfl

theorem v17_at (c : Dev nD) : W18 m ρ c (Proc.devRef .tc main_v17) = (back10 (m ((c : Thread nD τ).loc main_arg11)) (shapeCast S2048x1152 (m ((c : Thread nD τ).loc main_arg4)) shapeCasts_S8x256x1152_S2048x1152)) := by
  refine (W18_arr m ρ c 2).trans ((arr12 _ c).trans ?_)
  show back10 (W17 m ρ c (Proc.devRef .tc main_arg11)) (W17 m ρ c (Proc.devRef .tc main_v16)) = _
  rw [W17_args m ρ c main_arg11 (by simp), v16_at]

theorem v1_end (c : Dev nD) : W18 m ρ c (Proc.devRef .tc main_v1) = (plain0 (m ((c : Thread nD τ).loc main_arg0)) (shapeCast S2048x1152 (m ((c : Thread nD τ).loc main_arg4)) shapeCasts_S8x256x1152_S2048x1152)) := by
  rw [W18_of m ρ c main_v1 (by decide +kernel), W17_of m ρ c main_v1 (by decide), W16_of m ρ c main_v1 (by decide +kernel), W15_of m ρ c main_v1 (by decide), W14_of m ρ c main_v1 (by decide +kernel), W13_of m ρ c main_v1 (by decide +kernel), W12_of m ρ c main_v1 (by decide +kernel), W11_of m ρ c main_v1 (by decide +kernel), W10_of m ρ c main_v1 (by decide +kernel), W9_of m ρ c main_v1 (by decide), W8_of m ρ c main_v1 (by decide +kernel), W7_of m ρ c main_v1 (by decide +kernel), W6_of m ρ c main_v1 (by decide +kernel), W5_of m ρ c main_v1 (by decide), W4_of m ρ c main_v1 (by decide +kernel), W3_of m ρ c main_v1 (by decide +kernel), v1_at]

theorem v2_end (c : Dev nD) : W18 m ρ c (Proc.devRef .tc main_v2) = (across1 (m ((c : Thread nD τ).loc main_arg1)) (m ((c : Thread nD τ).loc main_arg5))) := by
  rw [W18_of m ρ c main_v2 (by decide +kernel), W17_of m ρ c main_v2 (by decide), W16_of m ρ c main_v2 (by decide +kernel), W15_of m ρ c main_v2 (by decide), W14_of m ρ c main_v2 (by decide +kernel), W13_of m ρ c main_v2 (by decide +kernel), W12_of m ρ c main_v2 (by decide +kernel), W11_of m ρ c main_v2 (by decide +kernel), W10_of m ρ c main_v2 (by decide +kernel), W9_of m ρ c main_v2 (by decide), W8_of m ρ c main_v2 (by decide +kernel), W7_of m ρ c main_v2 (by decide +kernel), W6_of m ρ c main_v2 (by decide +kernel), W5_of m ρ c main_v2 (by decide), W4_of m ρ c main_v2 (by decide +kernel), v2_at]

theorem v3_end (c : Dev nD) : W18 m ρ c (Proc.devRef .tc main_v3) = (across2 (m ((c : Thread nD τ).loc main_arg2)) (m ((c : Thread nD τ).loc main_arg6))) := by
  rw [W18_of m ρ c main_v3 (by decide +kernel), W17_of m ρ c main_v3 (by decide), W16_of m ρ c main_v3 (by decide +kernel), W15_of m ρ c main_v3 (by decide), W14_of m ρ c main_v3 (by decide +kernel), W13_of m ρ c main_v3 (by decide +kernel), W12_of m ρ c main_v3 (by decide +kernel), W11_of m ρ c main_v3 (by decide +kernel), W10_of m ρ c main_v3 (by decide +kernel), W9_of m ρ c main_v3 (by decide), W8_of m ρ c main_v3 (by decide +kernel), W7_of m ρ c main_v3 (by decide +kernel), W6_of m ρ c main_v3 (by decide +kernel), W5_of m ρ c main_v3 (by decide), v3_at]

theorem v5_end (c : Dev nD) : W18 m ρ c (Proc.devRef .tc main_v5) = (plain3 (m ((c : Thread nD τ).loc main_arg3)) (shapeCast S2048x2048 (m ((c : Thread nD τ).loc main_arg7)) shapeCasts_S8x256x2048_S2048x2048)) := by
  rw [W18_of m ρ c main_v5 (by decide +kernel), W17_of m ρ c main_v5 (by decide), W16_of m ρ c main_v5 (by decide +kernel), W15_of m ρ c main_v5 (by decide), W14_of m ρ c main_v5 (by decide +kernel), W13_of m ρ c main_v5 (by decide +kernel), W12_of m ρ c main_v5 (by decide +kernel), W11_of m ρ c main_v5 (by decide +kernel), W10_of m ρ c main_v5 (by decide +kernel), W9_of m ρ c main_v5 (by decide), W8_of m ρ c main_v5 (by decide +kernel), W7_of m ρ c main_v5 (by decide +kernel), v5_at]

theorem v7_end (c : Dev nD) : W18 m ρ c (Proc.devRef .tc main_v7) = (rows5 (flip4 (m ((c : Thread nD τ).loc main_arg3))) (m ((c : Thread nD τ).loc main_arg8))) := by
  rw [W18_of m ρ c main_v7 (by decide +kernel), W17_of m ρ c main_v7 (by decide), W16_of m ρ c main_v7 (by decide +kernel), W15_of m ρ c main_v7 (by decide), W14_of m ρ c main_v7 (by decide +kernel), W13_of m ρ c main_v7 (by decide +kernel), W12_of m ρ c main_v7 (by decide +kernel), W11_of m ρ c main_v7 (by decide +kernel), W10_of m ρ c main_v7 (by decide +kernel), W9_of m ρ c main_v7 (by decide), v7_at]

theorem v9_end (c : Dev nD) : W18 m ρ c (Proc.devRef .tc main_v9) = (back6 (m ((c : Thread nD τ).loc main_arg8)) (shapeCast S2048x2048 (m ((c : Thread nD τ).loc main_arg7)) shapeCasts_S8x256x2048_S2048x2048)) := by
  rw [W18_of m ρ c main_v9 (by decide +kernel), W17_of m ρ c main_v9 (by decide), W16_of m ρ c main_v9 (by decide +kernel), W15_of m ρ c main_v9 (by decide), W14_of m ρ c main_v9 (by decide +kernel), W13_of m ρ c main_v9 (by decide +kernel), W12_of m ρ c main_v9 (by decide +kernel), W11_of m ρ c main_v9 (by decide +kernel), v9_at]

theorem v11_end (c : Dev nD) : W18 m ρ c (Proc.devRef .tc main_v11) = (cols8 (flip7 (m ((c : Thread nD τ).loc main_arg1))) (m ((c : Thread nD τ).loc main_arg9))) := by
  rw [W18_of m ρ c main_v11 (by decide +kernel), W17_of m ρ c main_v11 (by decide), W16_of m ρ c main_v11 (by decide +kernel), W15_of m ρ c main_v11 (by decide), W14_of m ρ c main_v11 (by decide +kernel), W13_of m ρ c main_v11 (by decide +kernel), v11_at]

theorem v13_end (c : Dev nD) : W18 m ρ c (Proc.devRef .tc main_v13) = (cols8 (flip7 (m ((c : Thread nD τ).loc main_arg2))) (m ((c : Thread nD τ).loc main_arg10))) := by
  rw [W18_of m ρ c main_v13 (by decide +kernel), W17_of m ρ c main_v13 (by decide), W16_of m ρ c main_v13 (by decide +kernel), W15_of m ρ c main_v13 (by decide), v13_at]

theorem v15_end (c : Dev nD) : W18 m ρ c (Proc.devRef .tc main_v15) = (rows9 (transpose S2048x2048 [1, 0] (m ((c : Thread nD τ).loc main_arg0)) transposes_S2048x2048_S2048x2048_1_0) (m ((c : Thread nD τ).loc main_arg11))) := by
  rw [W18_of m ρ c main_v15 (by decide +kernel), W17_of m ρ c main_v15 (by decide), v15_at]

/-- The run ends with every array that outlives the calls at the last boundary's contents. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W18 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h _ => h)

/-- The run, read: the results, and the arguments as they were. -/
theorem run : θ_run defs (onTc (τ := τ) (main (F := Ideal))) ⟨m, fun _ => 0, ρ⟩ (fun r => ∀ c : Dev nD,
      r.2.mem ((c.tc : Thread nD τ).loc main_v1) = (plain0 (m ((c : Thread nD τ).loc main_arg0)) (shapeCast S2048x1152 (m ((c : Thread nD τ).loc main_arg4)) shapeCasts_S8x256x1152_S2048x1152))
      ∧ r.2.mem ((c.tc : Thread nD τ).loc main_v2) = (across1 (m ((c : Thread nD τ).loc main_arg1)) (m ((c : Thread nD τ).loc main_arg5)))
      ∧ r.2.mem ((c.tc : Thread nD τ).loc main_v3) = (across2 (m ((c : Thread nD τ).loc main_arg2)) (m ((c : Thread nD τ).loc main_arg6)))
      ∧ r.2.mem ((c.tc : Thread nD τ).loc main_v5) = (plain3 (m ((c : Thread nD τ).loc main_arg3)) (shapeCast S2048x2048 (m ((c : Thread nD τ).loc main_arg7)) shapeCasts_S8x256x2048_S2048x2048))
      ∧ r.2.mem ((c.tc : Thread nD τ).loc main_v7) = (rows5 (flip4 (m ((c : Thread nD τ).loc main_arg3))) (m ((c : Thread nD τ).loc main_arg8)))
      ∧ r.2.mem ((c.tc : Thread nD τ).loc main_v9) = (back6 (m ((c : Thread nD τ).loc main_arg8)) (shapeCast S2048x2048 (m ((c : Thread nD τ).loc main_arg7)) shapeCasts_S8x256x2048_S2048x2048))
      ∧ r.2.mem ((c.tc : Thread nD τ).loc main_v11) = (cols8 (flip7 (m ((c : Thread nD τ).loc main_arg1))) (m ((c : Thread nD τ).loc main_arg9)))
      ∧ r.2.mem ((c.tc : Thread nD τ).loc main_v13) = (cols8 (flip7 (m ((c : Thread nD τ).loc main_arg2))) (m ((c : Thread nD τ).loc main_arg10)))
      ∧ r.2.mem ((c.tc : Thread nD τ).loc main_v15) = (rows9 (transpose S2048x2048 [1, 0] (m ((c : Thread nD τ).loc main_arg0)) transposes_S2048x2048_S2048x2048_1_0) (m ((c : Thread nD τ).loc main_arg11)))
      ∧ r.2.mem ((c.tc : Thread nD τ).loc main_v17) = (back10 (m ((c : Thread nD τ).loc main_arg11)) (shapeCast S2048x1152 (m ((c : Thread nD τ).loc main_arg4)) shapeCasts_S8x256x1152_S2048x1152))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v1 (by decide))).trans (v1_end m ρ c),
     (h c _ (mem_uc main_v2 (by decide))).trans (v2_end m ρ c),
     (h c _ (mem_uc main_v3 (by decide))).trans (v3_end m ρ c),
     (h c _ (mem_uc main_v5 (by decide))).trans (v5_end m ρ c),
     (h c _ (mem_uc main_v7 (by decide))).trans (v7_end m ρ c),
     (h c _ (mem_uc main_v9 (by decide))).trans (v9_end m ρ c),
     (h c _ (mem_uc main_v11 (by decide))).trans (v11_end m ρ c),
     (h c _ (mem_uc main_v13 (by decide))).trans (v13_end m ρ c),
     (h c _ (mem_uc main_v15 (by decide))).trans (v15_end m ρ c),
     (h c _ (mem_uc main_v17 (by decide))).trans (v17_at m ρ c),
     (h c _ (mem_uc main_arg0 (by decide))).trans (W18_main_arg0 m ρ c),
     (h c _ (mem_uc main_arg1 (by decide))).trans (W18_main_arg1 m ρ c),
     (h c _ (mem_uc main_arg2 (by decide))).trans (W18_main_arg2 m ρ c),
     (h c _ (mem_uc main_arg3 (by decide))).trans (W18_main_arg3 m ρ c),
     (h c _ (mem_uc main_arg4 (by decide))).trans (W18_main_arg4 m ρ c),
     (h c _ (mem_uc main_arg5 (by decide))).trans (W18_main_arg5 m ρ c),
     (h c _ (mem_uc main_arg6 (by decide))).trans (W18_main_arg6 m ρ c),
     (h c _ (mem_uc main_arg7 (by decide))).trans (W18_main_arg7 m ρ c),
     (h c _ (mem_uc main_arg8 (by decide))).trans (W18_main_arg8 m ρ c),
     (h c _ (mem_uc main_arg9 (by decide))).trans (W18_main_arg9 m ρ c),
     (h c _ (mem_uc main_arg10 (by decide))).trans (W18_main_arg10 m ρ c),
     (h c _ (mem_uc main_arg11 (by decide))).trans (W18_main_arg11 m ρ c)⟩)
    (ends m ρ)

end Cert.MlaIdeal.Hand

namespace Cert.MlaReferenceIdeal.Hand

open Cert.MlaReferenceIdeal Cert.MlaReferenceIdeal.Gen Cert.MlaReferenceIdeal.Read Idealize.ShloMosaic
open Cert.MlaIdeal.Hand (plain0 across1 across2 plain3 flip4 rows5 back6 flip7 cols8 rows9 back10)

variable (x0 : FVec Ideal S2048x2048 .bf16) (x1 : FVec Ideal S2048x512 .bf16) (x2 : FVec Ideal S2048x512 .bf16) (x3 : FVec Ideal S2048x2048 .bf16) (x4 : FVec Ideal S8x256x1152 .bf16) (x5 : FVec Ideal S8x512x512 .bf16) (x6 : FVec Ideal S8x512x512 .bf16) (x7 : FVec Ideal S8x256x2048 .bf16) (x8 : FVec Ideal S2048x2048 .bf16) (x9 : FVec Ideal S2048x4096 .bf16) (x10 : FVec Ideal S2048x4096 .bf16) (x11 : FVec Ideal S2048x1152 .bf16)

theorem v1_eq : val_main_v3 (F := Ideal) x0 x4 = plain0 x0 (shapeCast Cert.MlaIdeal.S2048x1152 x4 Cert.MlaIdeal.Gen.shapeCasts_S8x256x1152_S2048x1152) := by
  funext i
  pointwise [val_main_v3, val_main_v0, val_main_v2, val_main_v1, plain0]

theorem v2_eq : val_main_v8 (F := Ideal) x1 x5 = across1 x1 x5 := by
  funext i
  pointwise [val_main_v8, val_main_v7, val_main_v6, val_main_v5, val_main_v4, across1]

theorem v3_eq : val_main_v32 (F := Ideal) x2 x6 = across2 x2 x6 := by
  funext i
  pointwise [val_main_v32, val_main_v13, val_main_v12, val_main_v11, val_main_v10, val_main_v9, across2]

theorem v5_eq : val_main_v17 (F := Ideal) x3 x7 = plain3 x3 (shapeCast Cert.MlaIdeal.S2048x2048 x7 Cert.MlaIdeal.Gen.shapeCasts_S8x256x2048_S2048x2048) := by
  funext i
  pointwise [val_main_v17, val_main_v14, val_main_v16, val_main_v15, plain3]

theorem v7_eq : val_main_v35 (F := Ideal) x3 x8 = rows5 (flip4 x3) x8 := by
  funext i
  pointwise [val_main_v35, val_main_v34, val_main_v33, val_main_v20, val_main_v19, val_main_v18, val_main_v14, rows5, flip4]
  refine Fin.sum_fin_congr fun k => ?_
  rw [mul_comm]
  have e : (i 1).val * 512 + (i 0).val * 256 + (i 2).val = (2 * (i 1).val + (i 0).val) * 256 + (i 2).val := by ring
  simp only [e]

theorem v9_eq : val_main_v36 (F := Ideal) x7 x8 = back6 x8 (shapeCast Cert.MlaIdeal.S2048x2048 x7 Cert.MlaIdeal.Gen.shapeCasts_S8x256x2048_S2048x2048) := by
  funext i
  pointwise [val_main_v36, val_main_v21, val_main_v18, val_main_v16, val_main_v15, back6]

theorem v11_eq : val_main_v39 (F := Ideal) x1 x9 = cols8 (flip7 x1) x9 := by
  funext i
  pointwise [val_main_v39, val_main_v38, val_main_v37, val_main_v24, val_main_v23, val_main_v22, val_main_v7, cols8, flip7]
  refine Fin.sum_fin_congr fun k => ?_
  rw [mul_comm]
  have e : (i 1).val * 1024 + (i 0).val * 512 + (i 3).val = (2 * (i 1).val + (i 0).val) * 512 + (i 3).val := by ring
  simp only [e]

theorem v13_eq : val_main_v42 (F := Ideal) x2 x10 = cols8 (flip7 x2) x10 := by
  funext i
  pointwise [val_main_v42, val_main_v41, val_main_v40, val_main_v27, val_main_v26, val_main_v25, val_main_v12, cols8, flip7]
  refine Fin.sum_fin_congr fun k => ?_
  rw [mul_comm]
  have e : (i 1).val * 1024 + (i 0).val * 512 + (i 3).val = (2 * (i 1).val + (i 0).val) * 512 + (i 3).val := by ring
  simp only [e]

theorem v15_eq : val_main_v45 (F := Ideal) x0 x11 = rows9 (transpose Cert.MlaIdeal.S2048x2048 [1, 0] x0 Cert.MlaIdeal.Gen.transposes_S2048x2048_S2048x2048_1_0) x11 := by
  funext i
  pointwise [val_main_v45, val_main_v44, val_main_v43, val_main_v30, val_main_v29, val_main_v28, val_main_v0, rows9]
  refine Fin.sum_fin_congr fun k => ?_
  rw [mul_comm]
  have e : (i 1).val * 512 + (i 0).val * 256 + (i 2).val = (2 * (i 1).val + (i 0).val) * 256 + (i 2).val := by ring
  simp only [e]

theorem v17_eq : val_main_v31 (F := Ideal) x4 x11 = back10 x11 (shapeCast Cert.MlaIdeal.S2048x1152 x4 Cert.MlaIdeal.Gen.shapeCasts_S8x256x1152_S2048x1152) := by
  funext i
  pointwise [val_main_v31, val_main_v28, val_main_v2, val_main_v1, back10]

end Cert.MlaReferenceIdeal.Hand

end
-- ==== Proof.MlaDcqValue.lean ====
module

public import proofs.«01_k».proof.Proof.Gen.MlaDcqIdeal.Value
public import proofs.«01_k».proof.Proof.Gen.MlaDcqReferenceIdeal.Read
public import Idealize.ShloMosaic.Lib.Pipeline.ValueKit
public import Idealize.ShloMosaic.Lib.Pipeline.ReadBack
public import Idealize.ShloMosaic.Lib.Claim
public import Idealize.ShloMosaic.Lib.Pointwise

/-! The gradient of the latent queries: the eight partial products that the kernel adds up into one block are the
    reference's one product. -/

@[expose] public section

set_option maxRecDepth 16384

noncomputable section

namespace Cert.MlaDcqIdeal.Hand

open Idealize.ShloMosaic Idealize.ShloMosaic.TcCoe Idealize.ShloMosaic.Tactic
open Idealize.ShloMosaic.Pipeline
open Cert.MlaDcqIdeal Cert.MlaDcqIdeal.Gen

/-- Entry `i` of the product of `X` with the transposed matrix whose eight column blocks are stacked in `Y`. -/
def prod (X : FVec Ideal S2048x4096 .bf16) (Y : FVec Ideal S8x512x512 .bf16) (i : S2048x512.Idx) : EReal :=
  ∑ l : Fin 4096, X (ix2 (i 0) l) * Y (ix3 ⟨l.val / 512, by omega⟩ (i 1) ⟨l.val % 512, by omega⟩)

theorem zero_pt (j : S2048x512.Idx) : k0_pay1 (F := Ideal) j = 0 := by pointwise [k0_pay1]

theorem part_pt (acc : FVec Ideal S2048x512 .f32) (x0 : FVec Ideal S2048x512 .bf16) (x1 : FVec Ideal S1x512x512 .bf16) (j : S2048x512.Idx) :
    k0_pay2 acc x0 x1 j = acc j + ∑ k : Fin 512, x0 (ix2 (j 0) k) * x1 (ix3 0 (j 1) k) := by
  pointwise [k0_pay2]

theorem idx : ∀ t : Fin cfg0.N, win0_0.index t = ![0, t.val % 8] ∧ win0_1.index t = ![t.val % 8, 0, 0]
    ∧ win0_2.index t = ![0, 0] :=
  (by decide +kernel : ∀ t : Fin grid0.N, _)

variable (m : ∀ b : Loc nD τ sig, Buf (Elt Ideal) b)

/-- Where a block is written out, it is the carried sum. -/
theorem flushed (c : Dev nD) (t : Fin cfg0.N) (h : t.val % 8 = 7) (j : S2048x512.Idx) :
    (outsAt0 (F := Ideal) m c t.val t.isLt).1 j = (outsAt0 (F := Ideal) m c t.val t.isLt).2 j := by
  rw [outsAt0_C m c t (by omega) h]
  frame_out

theorem arr (c : Dev nD) : (dats (F := Ideal) m 0 c).arrAt 2 cfg0.N
    = prod (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  blk_simp
  rw [after0_2, flushed m c t ht, Pipeline.eq_sum_fin_of_reset_step_apply_of_flush (fun n h => (outsAt0 m c n h).2) 8 (fun _ => 0) _
    (fun t h j => by rw [outsAt0_A m c t h (by omega)]; frame_out; rw [part_pt, zero_pt])
    (fun t h j => by
      by_cases h1 : t.val % 8 = 7
      · rw [outsAt0_C m c t h h1]; frame_out; rw [part_pt, read_unread_whole]
      · rw [outsAt0_B m c t h h1]; frame_out; rw [part_pt, read_unread_whole])
    t ht _, zero_add]
  unfold prod
  refine Fin.sum_mul_add_congr fun s k hl => ?_
  blk_point [iblk, V, idx t, idx ⟨_, Pipeline.run_point_lt_of_flush t ht s⟩]

end Cert.MlaDcqIdeal.Hand

namespace Cert.MlaDcqReferenceIdeal.Hand

open Cert.MlaDcqReferenceIdeal Cert.MlaDcqReferenceIdeal.Gen Cert.MlaDcqReferenceIdeal.Read Idealize.ShloMosaic

theorem value (x0 : FVec Ideal S2048x4096 .bf16) (x1 : FVec Ideal S8x512x512 .bf16) :
    val_main_v6 (F := Ideal) x0 x1 = Cert.MlaDcqIdeal.Hand.prod x0 x1 := by
  funext i
  pointwise [val_main_v6, val_main_v5, val_main_v3, val_main_v2, val_main_v1, Cert.MlaDcqIdeal.Hand.prod]

end Cert.MlaDcqReferenceIdeal.Hand

end
-- ==== Proof.MlaDckvValue.lean ====
module

public import proofs.«01_k».proof.Proof.Gen.MlaDckvIdeal.Value
public import proofs.«01_k».proof.Proof.Gen.MlaDckvReferenceIdeal.Read
public import Idealize.ShloMosaic.Lib.Pipeline.ValueKit
public import Idealize.ShloMosaic.Lib.Pipeline.ReadBack
public import Idealize.ShloMosaic.Lib.Claim
public import Idealize.ShloMosaic.Lib.Pointwise

/-! The gradient of the latent keys and values: the eight partial products that the kernel adds up into one block are the
    reference's one product. -/

@[expose] public section

set_option maxRecDepth 16384

noncomputable section

namespace Cert.MlaDckvIdeal.Hand

open Idealize.ShloMosaic Idealize.ShloMosaic.TcCoe Idealize.ShloMosaic.Tactic
open Idealize.ShloMosaic.Pipeline
open Cert.MlaDckvIdeal Cert.MlaDckvIdeal.Gen

/-- Entry `i` of the product of `X` with the transposed matrix whose eight column blocks are stacked in `Y`. -/
def prod (X : FVec Ideal S2048x4096 .bf16) (Y : FVec Ideal S8x512x512 .bf16) (i : S2048x512.Idx) : EReal :=
  ∑ l : Fin 4096, X (ix2 (i 0) l) * Y (ix3 ⟨l.val / 512, by omega⟩ (i 1) ⟨l.val % 512, by omega⟩)

theorem zero_pt (j : S2048x512.Idx) : k0_pay1 (F := Ideal) j = 0 := by pointwise [k0_pay1]

theorem part_pt (acc : FVec Ideal S2048x512 .f32) (x0 : FVec Ideal S2048x512 .bf16) (x1 : FVec Ideal S1x512x512 .bf16) (j : S2048x512.Idx) :
    k0_pay2 acc x0 x1 j = acc j + ∑ k : Fin 512, x0 (ix2 (j 0) k) * x1 (ix3 0 (j 1) k) := by
  pointwise [k0_pay2]

theorem idx : ∀ t : Fin cfg0.N, win0_0.index t = ![0, t.val % 8] ∧ win0_1.index t = ![t.val % 8, 0, 0]
    ∧ win0_2.index t = ![0, 0] :=
  (by decide +kernel : ∀ t : Fin grid0.N, _)

variable (m : ∀ b : Loc nD τ sig, Buf (Elt Ideal) b)

/-- Where a block is written out, it is the carried sum. -/
theorem flushed (c : Dev nD) (t : Fin cfg0.N) (h : t.val % 8 = 7) (j : S2048x512.Idx) :
    (outsAt0 (F := Ideal) m c t.val t.isLt).1 j = (outsAt0 (F := Ideal) m c t.val t.isLt).2 j := by
  rw [outsAt0_C m c t (by omega) h]
  frame_out

theorem arr (c : Dev nD) : (dats (F := Ideal) m 0 c).arrAt 2 cfg0.N
    = prod (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  blk_simp
  rw [after0_2, flushed m c t ht, Pipeline.eq_sum_fin_of_reset_step_apply_of_flush (fun n h => (outsAt0 m c n h).2) 8 (fun _ => 0) _
    (fun t h j => by rw [outsAt0_A m c t h (by omega)]; frame_out; rw [part_pt, zero_pt])
    (fun t h j => by
      by_cases h1 : t.val % 8 = 7
      · rw [outsAt0_C m c t h h1]; frame_out; rw [part_pt, read_unread_whole]
      · rw [outsAt0_B m c t h h1]; frame_out; rw [part_pt, read_unread_whole])
    t ht _, zero_add]
  unfold prod
  refine Fin.sum_mul_add_congr fun s k hl => ?_
  blk_point [iblk, V, idx t, idx ⟨_, Pipeline.run_point_lt_of_flush t ht s⟩]

end Cert.MlaDckvIdeal.Hand

namespace Cert.MlaDckvReferenceIdeal.Hand

open Cert.MlaDckvReferenceIdeal Cert.MlaDckvReferenceIdeal.Gen Cert.MlaDckvReferenceIdeal.Read Idealize.ShloMosaic

theorem value (x0 : FVec Ideal S2048x4096 .bf16) (x1 : FVec Ideal S8x512x512 .bf16) :
    val_main_v6 (F := Ideal) x0 x1 = Cert.MlaDckvIdeal.Hand.prod x0 x1 := by
  funext i
  pointwise [val_main_v6, val_main_v5, val_main_v3, val_main_v2, val_main_v1, Cert.MlaDckvIdeal.Hand.prod]

end Cert.MlaDckvReferenceIdeal.Hand

end
-- ==== Proof.MlpDhValue.lean ====
module

public import proofs.«01_k».proof.Proof.Gen.MlpDhIdeal.Value
public import proofs.«01_k».proof.Proof.Gen.MlpDhReferenceIdeal.Read
public import Idealize.ShloMosaic.Lib.Pipeline.ValueKit
public import Idealize.ShloMosaic.Lib.Pipeline.ReadBack
public import Idealize.ShloMosaic.Lib.Claim
public import Idealize.ShloMosaic.Lib.Pointwise

/-! The gradient of the feed-forward block's input: the sixteen partial products that the kernel adds up into one
    block are the reference's one product. -/

@[expose] public section

set_option maxRecDepth 16384

noncomputable section

namespace Cert.MlpDhIdeal.Hand

open Idealize.ShloMosaic Idealize.ShloMosaic.TcCoe Idealize.ShloMosaic.Tactic
open Idealize.ShloMosaic.Pipeline
open Cert.MlpDhIdeal Cert.MlpDhIdeal.Gen

/-- Entry `i` of the product of `X` with the transposed matrix whose eight column blocks are stacked in `Y`. -/
def prod (X : FVec Ideal S2048x8192 .bf16) (Y : FVec Ideal S8x2048x1024 .bf16) (i : S2048x2048.Idx) : EReal :=
  ∑ l : Fin 8192, X (ix2 (i 0) l) * Y (ix3 ⟨l.val / 1024, by omega⟩ (i 1) ⟨l.val % 1024, by omega⟩)

theorem zero_pt (j : S2048x1024.Idx) : k0_pay1 (F := Ideal) j = 0 := by pointwise [k0_pay1]

theorem part_pt (acc : FVec Ideal S2048x1024 .f32) (x0 : FVec Ideal S2048x512 .bf16) (x1 : FVec Ideal S1x1024x512 .bf16) (j : S2048x1024.Idx) :
    k0_pay2 acc x0 x1 j = acc j + ∑ k : Fin 512, x0 (ix2 (j 0) k) * x1 (ix3 0 (j 1) k) := by
  pointwise [k0_pay2]

theorem idx : ∀ t : Fin cfg0.N, win0_0.index t = ![0, t.val % 16] ∧ win0_1.index t = ![t.val % 16 / 2, t.val / 16, t.val % 16 % 2]
    ∧ win0_2.index t = ![0, t.val / 16] :=
  (by decide +kernel : ∀ t : Fin grid0.N, _)

variable (m : ∀ b : Loc nD τ sig, Buf (Elt Ideal) b)

/-- Where a block is written out, it is the carried sum. -/
theorem flushed (c : Dev nD) (t : Fin cfg0.N) (h : t.val % 16 = 15) (j : S2048x1024.Idx) :
    (outsAt0 (F := Ideal) m c t.val t.isLt).1 j = (outsAt0 (F := Ideal) m c t.val t.isLt).2 j := by
  rw [outsAt0_C m c t (by omega) h]
  frame_out

theorem arr (c : Dev nD) : (dats (F := Ideal) m 0 c).arrAt 2 cfg0.N
    = prod (m ((c : Thread nD τ).loc main_arg0)) (m ((c : Thread nD τ).loc main_arg1)) := by
  refine (dats m 0 c).arrAt_eq_of_covers 2 _ (by decide +kernel) fun t hf y => ?_
  have ht : t.val % 16 = 15 := (flush0_2 t).mp hf
  blk_simp
  rw [after0_2, flushed m c t ht, Pipeline.eq_sum_fin_of_reset_step_apply_of_flush (fun n h => (outsAt0 m c n h).2) 16 (fun _ => 0) _
    (fun t h j => by rw [outsAt0_A m c t h (by omega)]; frame_out; rw [part_pt, zero_pt])
    (fun t h j => by
      by_cases h1 : t.val % 16 = 15
      · rw [outsAt0_C m c t h h1]; frame_out; rw [part_pt, read_unread_whole]
      · rw [outsAt0_B m c t h h1]; frame_out; rw [part_pt, read_unread_whole])
    t ht _, zero_add]
  unfold prod
  refine Fin.sum_mul_add_congr fun s k hl => ?_
  blk_point [iblk, V, idx t, idx ⟨_, Pipeline.run_point_lt_of_flush t ht s⟩]

end Cert.MlpDhIdeal.Hand

namespace Cert.MlpDhReferenceIdeal.Hand

open Cert.MlpDhReferenceIdeal Cert.MlpDhReferenceIdeal.Gen Cert.MlpDhReferenceIdeal.Read Idealize.ShloMosaic

theorem value (x0 : FVec Ideal S2048x8192 .bf16) (x1 : FVec Ideal S8x2048x1024 .bf16) :
    val_main_v6 (F := Ideal) x0 x1 = Cert.MlpDhIdeal.Hand.prod x0 x1 := by
  funext i
  pointwise [val_main_v6, val_main_v5, val_main_v3, val_main_v2, val_main_v1, Cert.MlpDhIdeal.Hand.prod]

end Cert.MlpDhReferenceIdeal.Hand

end
-- ==== Proof.MlpOutValue.lean ====
module

public import proofs.«01_k».proof.Proof.Gen.MlpOutIdeal.Value
public import proofs.«01_k».proof.Proof.Gen.MlpOutReferenceIdeal.Read
public import Idealize.ShloMosaic.Lib.Pipeline.ValueKit
public import Idealize.ShloMosaic.Lib.Pipeline.ReadBack
public import Idealize.ShloMosaic.Lib.Claim
public import Idealize.ShloMosaic.Lib.Pointwise

/-! The second product of the feed-forward block: the sixteen partial products that the kernel adds up into one
    block are the reference's one product. -/

@[expose] public section

set_option maxRecDepth 16384

noncomputable section

namespace Cert.MlpOutIdeal.Hand

open Idealize.ShloMosaic Idealize.ShloMosaic.TcCoe Idealize.ShloMosaic.Tactic
open Idealize.ShloMosaic.Pipeline
open Cert.MlpOutIdeal Cert.MlpOutIdeal.Gen

/-- Entry `i` of the product of `X` with the matrix whose eight row blocks are stacked in `Y`. -/
def prod (X : FVec Ideal S2048x8192 .bf16) (Y : FVec Ideal S8x1024x2048 .bf16) (i : S2048x2048.Idx) : EReal :=
  ∑ l : Fin 8192, X (ix2 (i 0) l) * Y (ix3 ⟨l.val / 1024, by omega⟩ ⟨l.val % 1024, by omega⟩ (i 1))

theorem zero_pt (j : S2048x1024.Idx) : k0_pay1 (F := Ideal) j = 0 := by pointwise [k0_pay1]

theorem part_pt (acc : FVec Ideal S2048x1024 .f32) (x0 : FVec Ideal S2048x512 .bf16) (x1 : FVec Ideal S512x1024 .bf16) (j : S2048x1024.Idx) :
    k0_pay2 acc x0 x1 j = acc j + ∑ k : Fin 512, x0 (ix2 (j 0) k) * x1 (ix2 k (j 1)) := by
  pointwise [k0_pay2]

theorem idx : ∀ t : Fin cfg0.N, win0_0.index t = ![0, t.val % 16] ∧ win0_1.index t = ![t.val % 16, t.val / 16]
    ∧ win0_2.index t = ![0, t.val / 16] :=
  (by decide +kernel : ∀ t : Fin grid0.N, _)

variable (m : ∀ b : Loc nD τ sig, Buf (Elt Ideal) b)

/-- The call's second operand: the eight row blocks one below the other. -/
theorem entry (c : Dev nD) (i : S8192x2048.Idx) : V (F := Ideal) m c main_v0 i
    = (m ((c : Thread nD τ).loc main_arg1) : FVec Ideal S8x1024x2048 .bf16) (ix3 ⟨(i 0).val / 1024, by have : (i 0).val < 8192 := (i 0).isLt; omega⟩ ⟨(i 0).val % 1024, by omega⟩ (i 1)) := by
  entry_read
  pointwise

/-- Where a block is written out, it is the carried sum. -/
theorem flushed (c : Dev nD) (t : Fin cfg0.N) (h : t.val % 16 = 15) (j : S2048x1024.Idx) :
    (outsAt0 (F := Ideal) m c t.val t.isLt).1 j = (outsAt0 (F := Ideal) m c t.val t.isLt).2 j := by
  rw [outsAt0_C m c t (by omega) h]
  frame_out

theorem arr (c : Dev nD) : (dats (F := Ideal) m 0 c).arrAt 2 cfg0.N
    = prod (m ((c : Thread nD τ).loc main_arg0)) (m ((c : Thread nD τ).loc main_arg1)) := by
  refine (dats m 0 c).arrAt_eq_of_covers 2 _ (by decide +kernel) fun t hf y => ?_
  have ht : t.val % 16 = 15 := (flush0_2 t).mp hf
  blk_simp
  rw [after0_2, flushed m c t ht, Pipeline.eq_sum_fin_of_reset_step_apply_of_flush (fun n h => (outsAt0 m c n h).2) 16 (fun _ => 0) _
    (fun t h j => by rw [outsAt0_A m c t h (by omega)]; frame_out; rw [part_pt, zero_pt])
    (fun t h j => by
      by_cases h1 : t.val % 16 = 15
      · rw [outsAt0_C m c t h h1]; frame_out; rw [part_pt, read_unread_whole]
      · rw [outsAt0_B m c t h h1]; frame_out; rw [part_pt, read_unread_whole])
    t ht _, zero_add]
  unfold prod
  refine Fin.sum_mul_add_congr fun s k hl => ?_
  blk_point [iblk, V, idx t, idx ⟨_, Pipeline.run_point_lt_of_flush t ht s⟩]

end Cert.MlpOutIdeal.Hand

namespace Cert.MlpOutReferenceIdeal.Hand

open Cert.MlpOutReferenceIdeal Cert.MlpOutReferenceIdeal.Gen Cert.MlpOutReferenceIdeal.Read Idealize.ShloMosaic

theorem value (x0 : FVec Ideal S2048x8192 .bf16) (x1 : FVec Ideal S8x1024x2048 .bf16) :
    val_main_v3 (F := Ideal) x0 x1 = Cert.MlpOutIdeal.Hand.prod x0 x1 := by
  funext i
  pointwise [val_main_v3, val_main_v2, val_main_v1, val_main_v0, Cert.MlpOutIdeal.Hand.prod]

end Cert.MlpOutReferenceIdeal.Hand

end
-- ==== Proof.RefSide.lean ====
module

public import proofs.«01_k».proof.Proof.Gen.ReferenceIdeal.Read
public import proofs.«01_k».proof.Proof.Spec

@[expose] public section

set_option maxRecDepth 16384

noncomputable section

namespace Cert.ReferenceIdeal.Hand

open Cert.ReferenceIdeal Cert.ReferenceIdeal.Gen Cert.ReferenceIdeal.Read Idealize.ShloMosaic Stick

variable (x0 : (⟨S2048x6144, .bf16⟩ : BufTy).Contents (Elt Ideal)) (x1 : (⟨S2048x2048, .bf16⟩ : BufTy).Contents (Elt Ideal))
  (X G : ℕ → ℕ → ℝ)
  (hX : ∀ (t : Fin 2048) (n : Fin 6144), x0 (ix2 t n) = (X t n : EReal))
  (hG : ∀ (t : Fin 2048) (n : Fin 2048), x1 (ix2 t n) = (G t n : EReal))

include hX
theorem q_apply (t : Fin 2048) (h : Fin 16) (d : Fin 128) : val_main_v4 (F := Ideal) x0 (ix3 t h d) = ((head X 0 h) t d : EReal) := by
  pointwise [val_main_v4, val_main_v3, val_main_v0]
  rw [hX]; simp only [head, zero_add]

theorem k_apply (t : Fin 2048) (h : Fin 16) (d : Fin 128) : val_main_v6 (F := Ideal) x0 (ix3 t h d) = ((head X 2048 h) t d : EReal) := by
  pointwise [val_main_v6, val_main_v5, val_main_v1]
  rw [hX]; rfl

theorem v_apply (t : Fin 2048) (h : Fin 16) (d : Fin 128) : val_main_v8 (F := Ideal) x0 (ix3 t h d) = ((head X 4096 h) t d : EReal) := by
  pointwise [val_main_v8, val_main_v7, val_main_v2]
  rw [hX]; rfl
omit hX
include hG
theorem g_apply (t : Fin 2048) (h : Fin 16) (d : Fin 128) : val_main_v37 (F := Ideal) x1 (ix3 h d t) = ((head G 0 h) t d : EReal) := by
  pointwise [val_main_v37, val_main_v36, val_main_v35]
  rw [hG]; simp only [head, zero_add]
omit hG
include hX

theorem z_apply (h : Fin 16) (t s : Fin 2048) : val_main_v13 (F := Ideal) x0 (ix3 h t s) = (z (head X 0 h) (head X 2048 h) t s : EReal) := by
  pointwise [val_main_v13, val_main_v12, val_main_v11, val_main_v10, val_main_v9, val_main_cst]
  simp only [q_apply x0 X hX, k_apply x0 X hX, ← EReal.coe_mul, sum_coe]
  rw [ofBits_sc, ← EReal.coe_mul, z, dotp, Finset.sum_range]

/-- The reference's softplus of minus the score. -/
theorem sp0_apply (h : Fin 16) (t s : Fin 2048) :
    val_main_call0_v1_0 (F := Ideal) x0 (ix3 h t s) = ((max (-z (head X 0 h) (head X 2048 h) t s) 0 + sp (z (head X 0 h) (head X 2048 h) t s) : ℝ) : EReal) := by
  pointwise [val_main_call0_v1_0, val_main_call0_call0_v4, val_main_call0_call0_v3, val_main_call0_call0_v11, val_main_call0_call0_v1,
    val_main_call0_call0_v10, val_main_call0_call0_v9, val_main_call0_call0_v8, val_main_call0_call0_v7, val_main_call0_v0,
    val_main_call0_call0_v2, val_main_call0_call0_v0, val_main_call0_call0_cst]
  simp only [z_apply x0 X hX, ne_eq, not_true_eq_false, if_false, ← EReal.coe_neg, absf_coe, ← EReal.coe_zero, max_coe, Ideal.exp_coe,
    log1p_exp, ← EReal.coe_add]
  rw [← sp_neg]; rfl

/-- The reference's softplus of the score. -/
theorem sp1_apply (h : Fin 16) (t s : Fin 2048) :
    val_main_call1_v1_0 (F := Ideal) x0 (ix3 h t s) = ((max (z (head X 0 h) (head X 2048 h) t s) 0 + sp (z (head X 0 h) (head X 2048 h) t s) : ℝ) : EReal) := by
  pointwise [val_main_call1_v1_0, val_main_call1_call0_v4, val_main_call1_call0_v3, val_main_call1_call0_v11, val_main_call1_call0_v1,
    val_main_call1_call0_v10, val_main_call1_call0_v9, val_main_call1_call0_v8, val_main_call1_call0_v7, val_main_call1_v0, val_main_v21,
    val_main_call1_call0_v2, val_main_call1_call0_v0, val_main_call1_call0_cst]
  simp only [z_apply x0 X hX, ne_eq, not_true_eq_false, if_false, ← EReal.coe_neg, neg_neg, absf_coe, ← EReal.coe_zero, max_coe, Ideal.exp_coe,
    log1p_exp, ← EReal.coe_add]
  rfl

theorem lb_apply (h : Fin 16) (t s : Fin 2048) : val_main_v20_0 (F := Ideal) x0 (ix3 h t s) = (lb (head X 0 h) (head X 2048 h) t s : EReal) := by
  pointwise [val_main_v20_0]
  rw [sp0_apply x0 X hX, ← EReal.coe_neg, lb, neg_add, neg_max_neg, sub_eq_add_neg]

theorem lu_apply (h : Fin 16) (t s : Fin 2048) : val_main_v22_0 (F := Ideal) x0 (ix3 h t s) = (lu (head X 0 h) (head X 2048 h) t s : EReal) := by
  pointwise [val_main_v22_0]
  rw [sp1_apply x0 X hX, ← EReal.coe_neg, lu, neg_add, sub_eq_add_neg]
  conv_rhs => rw [← neg_max_neg, neg_neg]

/-- The reference's derivative of the softplus of minus the score. -/
theorem sgn_apply (h : Fin 16) (t s : Fin 2048) : val_main_v20_1 (F := Ideal) x0 (ix3 h t s) = ((1 - sg (z (head X 0 h) (head X 2048 h) t s) : ℝ) : EReal) := by
  pointwise [val_main_v20_1, val_main_call0_call0_v21, val_main_call0_call0_v20, val_main_call0_call0_v18, val_main_call0_call0_v17,
    val_main_call0_call0_cst_2, val_main_call0_call0_v16, val_main_call0_call0_v14, val_main_call0_call0_v13, val_main_call0_call0_cst_0,
    val_main_call0_v0]
  have e : ∀ r : ℝ, ¬ ((r : EReal) = ⊤) := EReal.coe_ne_top
  simp only [sp0_apply x0 X hX, z_apply x0 X hX, ofBits_top, ← EReal.coe_neg, e, if_false, ← EReal.coe_sub, Ideal.exp_coe]
  rw [← sg_neg, ← exp_sub_softplus, sp_neg]

/-- The reference's derivative of the softplus of the score. -/
theorem sg_apply (h : Fin 16) (t s : Fin 2048) : val_main_v22_1 (F := Ideal) x0 (ix3 h t s) = (sg (z (head X 0 h) (head X 2048 h) t s) : EReal) := by
  pointwise [val_main_v22_1, val_main_call1_call0_v21, val_main_call1_call0_v20, val_main_call1_call0_v18, val_main_call1_call0_v17,
    val_main_call1_call0_cst_2, val_main_call1_call0_v16, val_main_call1_call0_v14, val_main_call1_call0_v13, val_main_call1_call0_cst_0,
    val_main_call1_v0, val_main_v21]
  have e : ∀ r : ℝ, ¬ ((r : EReal) = ⊤) := EReal.coe_ne_top
  simp only [sp1_apply x0 X hX, z_apply x0 X hX, ofBits_top, ← EReal.coe_neg, neg_neg, e, if_false, ← EReal.coe_sub, Ideal.exp_coe]
  rw [← exp_sub_softplus]

omit hX
theorem mask_apply (h : Fin 16) (t s : Fin 2048) : val_main_v23_1 (F := Ideal) (ix3 h t s) = if (s : ℕ) < t then 1#1 else 0#1 := by
  pointwise [val_main_v23_1, val_main_v19, val_main_v18, val_main_v17, val_main_v16, val_main_v15, val_main_v14]
  exact slt_word _ _ (by omega) (by omega)
theorem mask'_apply (h : Fin 16) (t s : Fin 2048) : val_main_v28_1 (F := Ideal) (ix3 h t s) = if (s : ℕ) < t then 1#1 else 0#1 := by
  pointwise [val_main_v28_1, val_main_v19, val_main_v18, val_main_v17, val_main_v16, val_main_v15, val_main_v14]
  exact slt_word _ _ (by omega) (by omega)
include hX

theorem l1_apply (h : Fin 16) (t s : Fin 2048) : val_main_v23_0 (F := Ideal) x0 (ix3 h t s) = (l1 (head X 0 h) (head X 2048 h) t s : EReal) := by
  pointwise [val_main_v23_0, val_main_call2_v2, val_main_call2_v0, val_main_cst_0]
  rw [mask_apply, lu_apply x0 X hX, l1, select_ite, show id (constant (F := Ideal) S_ FTy.f32 0#32) ix0 = 0 from Ideal.ofBits_zero_f32]
  split <;> rfl

omit hX

/-- The two running sums of the reference (a window as long as the axis): along the last axis, from position `s` to the
end, and from the start to position `s`. -/
theorem window_apply (lo hi : Fin 3 → ℕ) (x : FVec Ideal S16x2048x2048 .f32) (f : ℕ → ℝ) (h : Fin 16) (t : Fin 2048)
    (hx : ∀ s : Fin 2048, x (ix3 h t s) = (f s : EReal)) (w : S16x2048x2048.ReduceWindows ![1, 1, 2048] ![1, 1, 1] ![0, 0, lo 2] hi S16x2048x2048)
    (s : Fin 2048) :
    Ideal.hostReduceWindowAdd ![1, 1, 2048] ![1, 1, 1] ![0, 0, lo 2] hi w x 0 (ix3 h t s)
      = ((∑ n ∈ Finset.range 2048, if lo 2 ≤ s + n ∧ s + n - lo 2 < 2048 then f (s + n - lo 2) else 0 : ℝ) : EReal) := by
  unfold Ideal.hostReduceWindowAdd Host.reduceWindow
  refine (foldl_add_eq_sum _).trans ?_
  rw [← Equiv.sum_comp (⟨3, ![1, 1, 2048]⟩ : Shape).rowMajor]
  simp only [Equiv.symm_apply_apply]
  refine (sum_idx3 _).trans ?_
  simp only [Fin.sum_univ_one, Fin.isValue]
  rw [Finset.sum_range, ← sum_coe]
  refine Finset.sum_congr rfl fun n _ => ?_
  by_cases hc : lo 2 ≤ s + n ∧ s + n - lo 2 < 2048
  · rw [if_pos hc, dif_pos ?_]
    · rw [← hx ⟨s + n - lo 2, hc.2⟩]
      congr 1
      funext a
      apply Fin.ext
      fin_cases a <;> simp [ix3]
    · exact fun a => match a with
        | ⟨0, _⟩ => by show 0 ≤ (h : ℕ) * 1 + 0 ∧ (h : ℕ) * 1 + 0 - 0 < 16; omega
        | ⟨1, _⟩ => by show 0 ≤ (t : ℕ) * 1 + 0 ∧ (t : ℕ) * 1 + 0 - 0 < 2048; omega
        | ⟨2, _⟩ => by show lo 2 ≤ (s : ℕ) * 1 + n ∧ (s : ℕ) * 1 + n - lo 2 < 2048; omega
  · rw [if_neg hc, dif_neg ?_]
    · rfl
    · intro ha
      have h2 : lo 2 ≤ (s : ℕ) * 1 + n ∧ (s : ℕ) * 1 + n - lo 2 < 2048 := ha 2
      omega

theorem suffix_apply (x : FVec Ideal S16x2048x2048 .f32) (f : ℕ → ℝ) (h : Fin 16) (t : Fin 2048)
    (hx : ∀ s : Fin 2048, x (ix3 h t s) = (f s : EReal)) (s : Fin 2048) :
    Host.reduceWindowAdd ![1, 1, 2048] ![1, 1, 1] ![0, 0, 0] ![0, 0, 2047] x (val_main_call3_v0 (F := Ideal))
        reduceWindows_S16x2048x2048_S16x2048x2048_w1s1p0_0_w1s1p0_0_w2048s1p0_2047 h_S_ (ix3 h t s)
      = (((∑ n ∈ Finset.range 2048, f n) - ∑ n ∈ Finset.range s, f n : ℝ) : EReal) := by
  have e : val_main_call3_v0 (F := Ideal) (Shape.Idx.first h_S_) = 0 := by
    pointwise [val_main_call3_v0, val_main_call3_cst]
  rw [← window_suffix 2048 f s s.isLt]
  refine Eq.trans ?_ (window_apply ![0, 0, 0] ![0, 0, 2047] x f h t hx reduceWindows_S16x2048x2048_S16x2048x2048_w1s1p0_0_w1s1p0_0_w2048s1p0_2047 s)
  unfold Host.reduceWindowAdd
  rw [e]; rfl

theorem prefix_apply (x : FVec Ideal S16x2048x2048 .f32) (f : ℕ → ℝ) (h : Fin 16) (t : Fin 2048)
    (hx : ∀ s : Fin 2048, x (ix3 h t s) = (f s : EReal)) (s : Fin 2048) :
    Host.reduceWindowAdd ![1, 1, 2048] ![1, 1, 1] ![0, 0, 2047] ![0, 0, 0] x (val_main_call6_v0 (F := Ideal))
        reduceWindows_S16x2048x2048_S16x2048x2048_w1s1p0_0_w1s1p0_0_w2048s1p2047_0 h_S_ (ix3 h t s)
      = ((∑ n ∈ Finset.range (s + 1), f n : ℝ) : EReal) := by
  have e : val_main_call6_v0 (F := Ideal) (Shape.Idx.first h_S_) = 0 := by
    pointwise [val_main_call6_v0, val_main_call6_cst]
  rw [← window_prefix 2048 f s s.isLt]
  refine Eq.trans ?_ (window_apply ![0, 0, 2047] ![0, 0, 0] x f h t hx reduceWindows_S16x2048x2048_S16x2048x2048_w1s1p0_0_w1s1p0_0_w2048s1p2047_0 s)
  unfold Host.reduceWindowAdd
  rw [e]; rfl

include hX

theorem au_apply (h : Fin 16) (t s : Fin 2048) : val_main_v27 (F := Ideal) x0 (ix3 h t s) = (au (head X 0 h) (head X 2048 h) t s : EReal) := by
  pointwise [val_main_v27, val_main_v26, val_main_v25]
  rw [lb_apply x0 X hX, l1_apply x0 X hX, val_main_v24, suffix_apply _ (l1 (head X 0 h) (head X 2048 h) t) h t (fun s => l1_apply x0 X hX h t s),
    ← EReal.coe_sub, ← EReal.coe_add, Ideal.exp_coe, au, lpre, lpre, Finset.sum_range_succ _ (s : ℕ), sub_sub]

theorem a_apply (h : Fin 16) (t s : Fin 2048) : val_main_v30 (F := Ideal) x0 (ix3 h t s) = (a (head X 0 h) (head X 2048 h) t s : EReal) := by
  pointwise [val_main_v30, val_main_v29, val_main_v28_0, val_main_call4_v2, val_main_call4_v0, val_main_cst_1]
  rw [mask'_apply, au_apply x0 X hX, a, select_ite, show id (constant (F := Ideal) S_ FTy.f32 0#32) ix0 = 0 from Ideal.ofBits_zero_f32]
  split <;> rfl

include hG

theorem gg_apply (h : Fin 16) (t s : Fin 2048) : val_main_v44 (F := Ideal) x0 x1 (ix3 h t s) = (gg (head X 0 h) (head X 2048 h) (head X 4096 h) (head G 0 h) t s : EReal) := by
  pointwise [val_main_v44, val_main_v43, val_main_v42, val_main_v41, val_main_v38, val_main_call5_v0, val_main_call5_cst]
  simp only [mask'_apply, au_apply x0 X hX, v_apply x0 X hX, g_apply x1 G hG, select_ite, ← EReal.coe_mul, sum_coe]
  rw [gg, a, dotp, Finset.sum_range]
  split
  · rw [mul_comm]
  · rw [zero_mul]; rfl

theorem dz_apply (h : Fin 16) (t s : Fin 2048) : val_main_v56 (F := Ideal) x0 x1 (ix3 h t s) = (dz (head X 0 h) (head X 2048 h) (head X 4096 h) (head G 0 h) t s : EReal) := by
  pointwise [val_main_v56, val_main_v55, val_main_v54, val_main_v53, val_main_cst_2, val_main_v52, val_main_v51, val_main_call9_v1,
    val_main_call9_v0, val_main_v50, val_main_v49, val_main_call8_v1, val_main_call8_v0, val_main_v48, val_main_call7_v0,
    val_main_call7_cst, val_main_v47, val_main_v45]
  simp only [mask_apply, gg_apply x0 x1 X G hX hG, sg_apply x0 X hX, sgn_apply x0 X hX, val_main_v46,
    prefix_apply _ (gg (head X 0 h) (head X 2048 h) (head X 4096 h) (head G 0 h) t) h t (fun s => gg_apply x0 x1 X G hX hG h t s), select_ite, ofBits_sc, Finset.sum_range_succ]
  by_cases hst : (s : ℕ) < t
  · simp only [dz, hst, if_true, ← EReal.coe_neg, ← EReal.coe_mul, ← EReal.coe_add, gpre]
    congr 1; ring
  · have e : gg (head X 0 h) (head X 2048 h) (head X 4096 h) (head G 0 h) t s = 0 := by rw [gg, a, if_neg hst, zero_mul]
    simp only [dz, hst, if_false, e, ← EReal.coe_zero, ← EReal.coe_neg, ← EReal.coe_mul, ← EReal.coe_add]
    congr 1; ring

theorem dq_apply (t : Fin 2048) (h : Fin 16) (d : Fin 128) :
    val_main_v60 (F := Ideal) x0 x1 (ix3 t h d) = (dq (head X 0 h) (head X 2048 h) (head X 4096 h) (head G 0 h) 2048 t d : EReal) := by
  pointwise [val_main_v60, val_main_v59]
  simp only [dz_apply x0 x1 X G hX hG, k_apply x0 X hX, ← EReal.coe_mul, sum_coe]
  rw [dq, Finset.sum_range]

theorem dk_apply (t : Fin 2048) (h : Fin 16) (d : Fin 128) :
    val_main_v58 (F := Ideal) x0 x1 (ix3 t h d) = (dk (head X 0 h) (head X 2048 h) (head X 4096 h) (head G 0 h) 2048 t d : EReal) := by
  pointwise [val_main_v58, val_main_v57]
  simp only [dz_apply x0 x1 X G hX hG, q_apply x0 X hX, ← EReal.coe_mul, sum_coe]
  rw [dk, Finset.sum_range]

theorem dv_apply (t : Fin 2048) (h : Fin 16) (d : Fin 128) :
    val_main_v40 (F := Ideal) x0 x1 (ix3 t h d) = (dv (head X 0 h) (head X 2048 h) (head G 0 h) 2048 t d : EReal) := by
  pointwise [val_main_v40, val_main_v39]
  simp only [a_apply x0 X hX, g_apply x1 G hG, ← EReal.coe_mul, sum_coe]
  rw [dv, Finset.sum_range]
  exact congrArg _ (Finset.sum_congr rfl fun _ _ => mul_comm _ _)

/-- The reference's three results, at a row and a column. -/
theorem res_q (t n : Fin 2048) :
    val_main_v67 (F := Ideal) x0 x1 (ix2 t n) = (dq (head X 0 (n / 128)) (head X 2048 (n / 128)) (head X 4096 (n / 128)) (head G 0 (n / 128)) 2048 t (n % 128) : EReal) := by
  pointwise [val_main_v67, val_main_v66, val_main_v65]
  exact dq_apply x0 x1 X G hX hG t ⟨n / 128, by omega⟩ ⟨n % 128, by omega⟩

theorem res_k (t n : Fin 2048) :
    val_main_v68 (F := Ideal) x0 x1 (ix2 t n) = (dk (head X 0 (n / 128)) (head X 2048 (n / 128)) (head X 4096 (n / 128)) (head G 0 (n / 128)) 2048 t (n % 128) : EReal) := by
  pointwise [val_main_v68, val_main_v64, val_main_v63]
  exact dk_apply x0 x1 X G hX hG t ⟨n / 128, by omega⟩ ⟨n % 128, by omega⟩

theorem res_v (t n : Fin 2048) :
    val_main_v69 (F := Ideal) x0 x1 (ix2 t n) = (dv (head X 0 (n / 128)) (head X 2048 (n / 128)) (head G 0 (n / 128)) 2048 t (n % 128) : EReal) := by
  pointwise [val_main_v69, val_main_v62, val_main_v61]
  exact dv_apply x0 x1 X G hX hG t ⟨n / 128, by omega⟩ ⟨n % 128, by omega⟩

end Cert.ReferenceIdeal.Hand
end
-- ==== Proof.Tot.lean ====
module

public import proofs.«01_k».proof.Proof.RefSide
public import proofs.«01_k».proof.Proof.Gen.KernelIdeal.Frame
public import Idealize.ShloMosaic.Lib.Pipeline.ValueKit
public import Idealize.ShloMosaic.Lib.Claim

/-! The array of row totals that the host prepares for the kernel. -/

@[expose] public section

set_option maxRecDepth 16384

noncomputable section

namespace Cert.KernelIdeal.Hand

open Idealize.ShloMosaic Idealize.ShloMosaic.TcCoe Idealize.ShloMosaic.Tactic
open Idealize.ShloMosaic.Pipeline
open Cert.KernelIdeal Cert.KernelIdeal.Gen Stick

variable (m : (ℓ : Loc nD τ sig) → Buf (Elt Ideal) ℓ)

theorem tot_read (c : Dev nD) :
    (V m c main_v24 : FVec Ideal S2048x2048 .f32) = shapeCast S2048x2048 (broadcastInDim S2048x16x128 ![0, 1, 2] bcast_S2048x16x1_S2048x16x128_0_1_2
      (broadcastInDim S2048x16x1 ![0, 1] bcast_S2048x16_S2048x16x1_0_1 (transpose S2048x16 [1, 0] (Host.reduceAdd (F := Ideal)
        (Cert.ReferenceIdeal.Read.val_main_v23_0 (F := Ideal) (m ((c : Thread nD τ).loc main_arg0))) (constant S_ .f32 0x00000000#32)
          reducesTo_S16x2048x2048_S16x2048_d2 h_S_) transposes_S16x2048_S2048x16_1_0))) shapeCasts_S2048x16x128_S2048x2048 := by
  entry_read
  rfl

/-- The host's total of a row: the sum over all keys of the masked logarithms. -/
theorem tot_apply (c : Dev nD) (X : ℕ → ℕ → ℝ) (hX : ∀ t n, m ((c : Thread nD τ).loc main_arg0) (ix2 t n) = (X t n : EReal)) (t n : Fin 2048) :
    V m c main_v24 (ix2 t n) = (lpre (head X 0 (n / 128)) (head X 2048 (n / 128)) t 2048 : EReal) := by
  rw [tot_read]
  have e := Cert.ReferenceIdeal.Hand.l1_apply (m ((c : Thread nD τ).loc main_arg0)) X hX ⟨n.val / 128, by omega⟩ t
  pointwise
  refine (Finset.sum_congr rfl fun s _ => e s).trans ?_
  rw [sum_coe, lpre, Finset.sum_range]

end Cert.KernelIdeal.Hand

end

end
-- ==== Proof.Block.lean ====
module
public import proofs.«01_k».proof.Proof.Gen.KernelIdeal.Skeleton
public import proofs.«01_k».proof.Proof.Spec
public import Idealize.ShloMosaic.Lib.Pointwise
public import Idealize.ShloMosaic.Lib.IdealHost

/-! One block of the kernel: 512 queries against 256 keys, for each of the two heads a grid point handles.

`T` is the block's first query row and `S` its first key row. Each lemma reads one value the body computes at a row
and a column and names the real number it holds. -/

@[expose] public section

set_option maxRecDepth 16384

noncomputable section

namespace Cert.KernelIdeal.Hand

open Cert.KernelIdeal Cert.KernelIdeal.Gen Idealize.ShloMosaic Stick

/-! ### Sums -/

theorem sum_three (f : Fin 256 → ℝ) (w : Fin 256 → Prop) [DecidablePred w] :
    (∑ x, (f x : EReal) * (if w x then 1 else 0) + ∑ x, ((f x : EReal) - f x) * (if w x then 1 else 0)
        + ∑ x, ((f x : EReal) - f x - ((f x : EReal) - f x)) * (if w x then 1 else 0) : EReal)
      = ((∑ x, if w x then f x else 0 : ℝ) : EReal) := by
  have e1 : ∀ x, ((f x : EReal) - f x) * (if w x then 1 else 0) = 0 := fun x => by
    rw [← EReal.coe_sub, sub_self, EReal.coe_zero, zero_mul]
  have e2 : ∀ x, ((f x : EReal) - f x - ((f x : EReal) - f x)) * (if w x then 1 else 0) = 0 := fun x => by
    rw [← EReal.coe_sub, ← EReal.coe_sub, sub_self, EReal.coe_zero, zero_mul]
  simp only [e1, e2, Finset.sum_const_zero, add_zero]
  rw [← sum_coe]
  refine Finset.sum_congr rfl fun x _ => ?_
  split
  · rw [mul_one]
  · rw [mul_zero, EReal.coe_zero]

theorem sum_upto (f : ℕ → ℝ) (S n c : ℕ) (hc : c ≤ n) :
    (∑ s ∈ Finset.range S, f s) + (∑ x : Fin n, if (x : ℕ) < c then f (S + x) else 0) = ∑ s ∈ Finset.range (S + c), f s := by
  obtain ⟨e, rfl⟩ := Nat.exists_eq_add_of_le hc
  rw [Finset.sum_range_add, ← Finset.sum_range (fun x => if x < c then f (S + x) else 0), Finset.sum_range_add,
    Finset.sum_eq_zero (s := Finset.range e), add_zero]
  · exact congrArg _ (Finset.sum_congr rfl fun x hx => if_pos (Finset.mem_range.mp hx))
  · exact fun x _ => if_neg (by omega)

theorem sum_block (f : ℕ → ℝ) (S n : ℕ) :
    (∑ s ∈ Finset.range S, f s) + (∑ x : Fin n, f (S + x)) = ∑ s ∈ Finset.range (S + n), f s := by
  rw [Finset.sum_range_add, Finset.sum_range (fun x => f (S + x))]

theorem sum_incl (f : ℕ → ℝ) (S : ℕ) (c : Fin 256) :
    (∑ s ∈ Finset.range S, f s) + (∑ x : Fin 256, if (x : ℕ) ≤ c then f (S + x) else 0) = ∑ s ∈ Finset.range (S + c + 1), f s := by
  simp only [← Nat.lt_succ_iff]
  exact sum_upto f S 256 (c + 1) (by omega)

theorem sum_strict (f : ℕ → ℝ) (S : ℕ) (c : Fin 256) :
    (∑ s ∈ Finset.range S, f s) + (∑ x : Fin 256, if (x : ℕ) < c then f (S + x) else 0) = ∑ s ∈ Finset.range (S + c), f s :=
  sum_upto f S 256 c (by omega)

/-! ### The triangular matrices and the masks -/

theorem word_one : (FloatOps.sitofp .f32 (BitVec.setWidth 32 (1#1)) : Ideal .f32) = (1 : EReal) := by
  show (((BitVec.setWidth 32 (1#1)).toInt : ℝ) : EReal) = 1
  rw [show (BitVec.setWidth 32 (1#1)).toInt = 1 by decide]; norm_num

theorem word_zero : (FloatOps.sitofp .f32 (BitVec.setWidth 32 (0#1)) : Ideal .f32) = (0 : EReal) := by
  show (((BitVec.setWidth 32 (0#1)).toInt : ℝ) : EReal) = 0
  rw [show (BitVec.setWidth 32 (0#1)).toInt = 0 by decide]; norm_num

theorem incl_apply (r c : Fin 256) : k0_pay51 (F := Ideal) (ix2 r c) = (if (r : ℕ) ≤ c then 1 else 0 : EReal) := by
  pointwise [k0_pay51]
  rw [sle_word _ _ (by omega) (by omega)]
  split
  · exact word_one
  · exact word_zero

theorem strict_apply (r c : Fin 256) : k0_pay52 (F := Ideal) (ix2 r c) = (if (r : ℕ) < c then 1 else 0 : EReal) := by
  pointwise [k0_pay52]
  rw [slt_word _ _ (by omega) (by omega)]
  split
  · exact word_one
  · exact word_zero

/-! ### Scalars -/

section Scalars

variable {q k v g : ℕ → ℕ → ℝ} {t S : ℕ}

theorem z_val {v3 : Fin 128 → EReal} {kb : Fin 128 → EReal} {s : ℕ} (hq : ∀ d, v3 d = (q t d : EReal))
    (hk : ∀ d, kb d = (k s d : EReal)) : (∑ x, v3 x * kb x) * Ideal.ofBits FTy.f32 1035273459#32 = (z q k t s : EReal) := by
  simp only [hq, hk, ofBits_sc, ← EReal.coe_mul, sum_coe]
  rw [z, dotp, Finset.sum_range]

theorem dotp_val {x y : Fin 128 → EReal} {s : ℕ} (hq : ∀ d, x d = (q t d : EReal))
    (hk : ∀ d, y d = (k s d : EReal)) : (∑ d, x d * y d) = (dotp q k t s : EReal) := by
  simp only [hq, hk, ← EReal.coe_mul, sum_coe]
  rw [dotp, Finset.sum_range]

theorem sp_val (x : ℝ) : Ideal.log (1 + Ideal.exp (0 - FloatOps.absf (F := Ideal) (φ := .f32) (x : EReal))) = (sp x : EReal) := by
  rw [absf_coe, ← EReal.coe_zero, ← EReal.coe_sub, zero_sub, Ideal.exp_coe, ← EReal.coe_one, ← EReal.coe_add, log_one_add_exp, sp]

theorem lb_val (x : ℝ) : min (x : EReal) 0 - (sp x : EReal) = ((min x 0 - sp x : ℝ) : EReal) := by
  rw [← EReal.coe_zero, min_coe, EReal.coe_sub]

theorem lu_val (x : ℝ) : min (0 - (x : EReal)) 0 - (sp x : EReal) = ((min (-x) 0 - sp x : ℝ) : EReal) := by
  rw [← EReal.coe_zero, ← EReal.coe_sub, min_coe, ← EReal.coe_sub, zero_sub]

/-- The log weight's exponent, from the row's total, the prefix before the block and the prefix inside it. -/
theorem expo_val {L tot left : EReal} {W : Fin 256 → EReal} {m : Fin 256 → EReal} {c : Fin 256}
    (hL : L = (lb q k t (S + c) : EReal)) (htot : tot = (lpre q k t 2048 : EReal)) (hleft : left = (lpre q k t S : EReal))
    (hW : ∀ x : Fin 256, W x = (l1 q k t (S + x) : EReal)) (hm : ∀ x : Fin 256, m x = if (x : ℕ) ≤ c then 1 else 0) :
    L + (tot - (left + (∑ x, W x * m x + ∑ x, (W x - W x) * m x + ∑ x, (W x - W x - (W x - W x)) * m x)))
      = ((lb q k t (S + c) + (lpre q k t 2048 - lpre q k t (S + c + 1)) : ℝ) : EReal) := by
  simp only [hL, htot, hleft, hW, hm]
  rw [sum_three (fun x => l1 q k t (S + x)) (fun x => (x : ℕ) ≤ c), ← EReal.coe_add, lpre, lpre, sum_incl, ← EReal.coe_sub, ← EReal.coe_add, lpre]

/-- The score's gradient before its mask and scale. -/
theorem dz_val {Z gleft : EReal} {W : Fin 256 → EReal} {m : Fin 256 → EReal} {c : Fin 256}
    (hZ : Z = (z q k t (S + c) : EReal)) (hgleft : gleft = (gpre q k v g t S : EReal))
    (hW : ∀ x : Fin 256, W x = (gg q k v g t (S + x) : EReal)) (hm : ∀ x : Fin 256, m x = if (x : ℕ) < c then 1 else 0) :
    W c * (1 - Ideal.div 1 (1 + Ideal.exp (0 - Z)))
        - (gleft + (∑ x, W x * m x + ∑ x, (W x - W x) * m x + ∑ x, (W x - W x - (W x - W x)) * m x)) * Ideal.div 1 (1 + Ideal.exp (0 - Z))
      = ((gg q k v g t (S + c) * (1 - sg (z q k t (S + c))) - gpre q k v g t (S + c) * sg (z q k t (S + c)) : ℝ) : EReal) := by
  have e : Ideal.div 1 (1 + Ideal.exp (0 - Z)) = (sg (z q k t (S + c)) : EReal) := by
    rw [hZ, ← EReal.coe_zero, ← EReal.coe_sub, zero_sub, Ideal.exp_coe, ← EReal.coe_one, ← EReal.coe_add, div_one_add_exp, sg]
  simp only [e, hgleft, hW, hm]
  rw [sum_three (fun x => gg q k v g t (S + x)) (fun x => (x : ℕ) < c), ← EReal.coe_add, gpre, sum_strict,
    ← EReal.coe_one, ← EReal.coe_sub, ← EReal.coe_mul, ← EReal.coe_mul, ← EReal.coe_sub, gpre]

theorem l1_of_lt {s : ℕ} (h : s < t) : l1 q k t s = lu q k t s := if_pos h
theorem a_of_lt {s : ℕ} (h : s < t) : a q k t s = au q k t s := if_pos h
theorem dz_of_lt {s : ℕ} (h : s < t) : dz q k v g t s
    = (gg q k v g t s * (1 - sg (z q k t s)) - gpre q k v g t s * sg (z q k t s)) * sc := if_pos h

end Scalars

section Steps

variable {q k v g : ℕ → ℕ → ℝ}

theorem row_val {x : EReal} {W : Fin 256 → EReal} {f : ℕ → ℝ} {S : ℕ} (hx : x = ((∑ s ∈ Finset.range S, f s : ℝ) : EReal))
    (hW : ∀ c : Fin 256, W c = (f (S + c) : EReal)) : x + ∑ c, W c = ((∑ s ∈ Finset.range (S + 256), f s : ℝ) : EReal) := by
  simp only [hx, hW, sum_coe]
  rw [← EReal.coe_add, sum_block]

theorem prod_val {n : ℕ} {x : EReal} {W Y : Fin n → EReal} {f h : ℕ → ℝ} {S : ℕ} (hx : x = ((∑ s ∈ Finset.range S, f s * h s : ℝ) : EReal))
    (hW : ∀ c : Fin n, W c = (f (S + c) : EReal)) (hY : ∀ c : Fin n, Y c = (h (S + c) : EReal)) :
    x + ∑ c, W c * Y c = ((∑ s ∈ Finset.range (S + n), f s * h s : ℝ) : EReal) := by
  simp only [hx, hW, hY, ← EReal.coe_mul, sum_coe]
  rw [← EReal.coe_add, sum_block (fun s => f s * h s)]

/-- The exponent of the attention weight. -/
def ex (q k : ℕ → ℕ → ℝ) (t s : ℕ) : ℝ := lb q k t s + (lpre q k t 2048 - lpre q k t (s + 1))

theorem select_mul {b : BitVec 1} {x w : EReal} : Scalar.select b (x * w) 0 = Scalar.select b x 0 * w := by
  unfold Scalar.select; split
  · rfl
  · rw [zero_mul]

theorem mask_val {x y : BitVec 32} {S T r c : ℕ} (hx : x = BitVec.ofNat 32 S) (hy : y = BitVec.ofNat 32 T) (hS : S + c < 2 ^ 31)
    (hT : T + r < 2 ^ 31) : IntOp.cmpi .slt (IntOp.addi x (BitVec.ofNat 32 c)) (IntOp.addi y (BitVec.ofNat 32 r))
      = if S + c < T + r then 1#1 else 0#1 := by
  rw [hx, hy, ← slt_word _ _ hS hT, BitVec.ofNat_add, BitVec.ofNat_add]; rfl

theorem l1_sel (t s : ℕ) {b : BitVec 1} {x : EReal} (hb : b = if s < t then 1#1 else 0#1) (hx : x = (lu q k t s : EReal)) :
    Scalar.select b x 0 = (l1 q k t s : EReal) := by
  rw [hb, select_ite, hx, l1]; split <;> rfl

theorem a_sel (t s : ℕ) {b : BitVec 1} {x : EReal} (hb : b = if s < t then 1#1 else 0#1) (hx : x = (ex q k t s : EReal)) :
    Scalar.select b (Ideal.exp x) 0 = (a q k t s : EReal) := by
  rw [hb, select_ite, hx, Ideal.exp_coe, a]; split <;> rfl

theorem dz_sel (t s : ℕ) {b : BitVec 1} {x : EReal} (hb : b = if s < t then 1#1 else 0#1)
    (hx : x = ((gg q k v g t s * (1 - sg (z q k t s)) - gpre q k v g t s * sg (z q k t s) : ℝ) : EReal)) :
    Scalar.select b (x * Ideal.ofBits FTy.f32 1035273459#32) 0 = (dz q k v g t s : EReal) := by
  rw [hb, select_ite, hx, ofBits_sc, ← EReal.coe_mul, dz]; split <;> rfl

end Steps

/-! ### The body's values -/

section Values

variable {q k v g : ℕ → ℕ → ℝ} {T S : ℕ}

theorem pay3_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay3 qb kb (ix2 r c) = (z q k (T + r) (S + c) : EReal) := by
  pointwise [k0_pay3]
  exact z_val (hq r) (hk c)

theorem pay4_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay4 qb kb (ix2 r c) = (sp (z q k (T + r) (S + c)) : EReal) := by
  pointwise [k0_pay4]
  rw [pay3_apply hq hk]; exact sp_val _

theorem pay5_apply (hS : S + 256 ≤ T)
    {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay5 qb kb (ix2 r c) = (l1 q k (T + r) (S + c) : EReal) := by
  pointwise [k0_pay5]
  rw [pay3_apply hq hk, pay4_apply hq hk, lu_val, l1_of_lt (by omega), lu]

theorem pay6_apply (hS : S + 256 ≤ T)
    {qb : Vec Ideal S512x128 .bf16} (hq : ∀ (r : Fin 512) (d : Fin 128), qb (ix2 r d) = (q (T + r) d : EReal))
    {tot : FVec Ideal S512x1 .f32} (htot : ∀ r : Fin 512, tot (ix2 r 0) = (lpre q k (T + r) 2048 : EReal))
    {m16 : FVec Ideal S256x256 .bf16} (h16 : ∀ r c : Fin 256, m16 (ix2 r c) = (if (r : ℕ) ≤ c then 1 else 0 : EReal))
    {left : FVec Ideal S512x1 .f32} (hleft : ∀ r : Fin 512, left (ix2 r 0) = (lpre q k (T + r) S : EReal))
    {kb : Vec Ideal S256x128 .bf16} (hk : ∀ (c : Fin 256) (d : Fin 128), kb (ix2 c d) = (k (S + c) d : EReal))
    (r : Fin 512) (c : Fin 256) : k0_pay6 qb tot m16 left kb (ix2 r c) = (a q k (T + r) (S + c) : EReal) := by
  pointwise [k0_pay6]
  rw [a_of_lt (by omega), au, ← Ideal.exp_coe]
  refine congrArg Ideal.exp (expo_val ?_ (htot r) (hleft r) (fun x => pay5_apply hS hq hk r x) (fun x => h16 x c))
  rw [pay3_apply hq hk, pay4_apply hq hk, lb_val, lb]

theorem pay7_apply {gb : Vec Ideal S512x128 .bf16} (hg : ∀ (r : Fin 512) (d : Fin 128), gb (ix2 r d) = (g (T + r) d : EReal))
    {vb : Vec Ideal S256x128 .bf16} (hv : ∀ (c : Fin 256) (d : Fin 128), vb (ix2 c d) = (v (S + c) d : EReal))
    (r : Fin 512) (c : Fin 256) : k0_pay7 gb vb (ix2 r c) = (dotp g v (T + r) (S + c) : EReal) := by
  pointwise [k0_pay7]
  exact dotp_val (hg r) (hv c)

theorem pay8_apply {ab : FVec Ideal S512x256 .f32} (ha : ∀ (r : Fin 512) (c : Fin 256), ab (ix2 r c) = (a q k (T + r) (S + c) : EReal))
    {dpb : FVec Ideal S512x256 .f32} (hdp : ∀ (r : Fin 512) (c : Fin 256), dpb (ix2 r c) = (dotp g v (T + r) (S + c) : EReal))
    (r : Fin 512) (c : Fin 256) : k0_pay8 ab dpb (ix2 r c) = (gg q k v g (T + r) (S + c) : EReal) := by
  pointwise [k0_pay8]
  rw [ha, hdp, ← EReal.coe_mul, gg]

theorem pay9_apply (hS : S + 256 ≤ T)
    {m22 : FVec Ideal S256x256 .bf16} (h22 : ∀ r c : Fin 256, m22 (ix2 r c) = (if (r : ℕ) < c then 1 else 0 : EReal))
    {gleft : FVec Ideal S512x1 .f32} (hgleft : ∀ r : Fin 512, gleft (ix2 r 0) = (gpre q k v g (T + r) S : EReal))
    {zb : FVec Ideal S512x256 .f32} (hz : ∀ (r : Fin 512) (c : Fin 256), zb (ix2 r c) = (z q k (T + r) (S + c) : EReal))
    {ab : FVec Ideal S512x256 .f32} (ha : ∀ (r : Fin 512) (c : Fin 256), ab (ix2 r c) = (a q k (T + r) (S + c) : EReal))
    {dpb : FVec Ideal S512x256 .f32} (hdp : ∀ (r : Fin 512) (c : Fin 256), dpb (ix2 r c) = (dotp g v (T + r) (S + c) : EReal))
    (r : Fin 512) (c : Fin 256) : k0_pay9 m22 gleft zb ab dpb (ix2 r c) = (dz q k v g (T + r) (S + c) : EReal) := by
  pointwise [k0_pay9]
  rw [dz_of_lt (by omega), EReal.coe_mul, ofBits_sc]
  refine congrArg (· * (sc : EReal)) ?_
  exact dz_val (W := fun x => k0_pay8 ab dpb (ix2 r x)) (m := fun x => m22 (ix2 x c)) (hz r c) (hgleft r) (fun x => pay8_apply ha hdp r x) (fun x => h22 x c)

theorem pay10_apply (hS : S + 256 ≤ T)
    {qb : Vec Ideal S512x128 .bf16} (hq : ∀ (r : Fin 512) (d : Fin 128), qb (ix2 r d) = (q (T + r) d : EReal))
    {m22 : FVec Ideal S256x256 .bf16} (h22 : ∀ r c : Fin 256, m22 (ix2 r c) = (if (r : ℕ) < c then 1 else 0 : EReal))
    {gleft : FVec Ideal S512x1 .f32} (hgleft : ∀ r : Fin 512, gleft (ix2 r 0) = (gpre q k v g (T + r) S : EReal))
    {zb : FVec Ideal S512x256 .f32} (hz : ∀ (r : Fin 512) (c : Fin 256), zb (ix2 r c) = (z q k (T + r) (S + c) : EReal))
    {ab : FVec Ideal S512x256 .f32} (ha : ∀ (r : Fin 512) (c : Fin 256), ab (ix2 r c) = (a q k (T + r) (S + c) : EReal))
    {dpb : FVec Ideal S512x256 .f32} (hdp : ∀ (r : Fin 512) (c : Fin 256), dpb (ix2 r c) = (dotp g v (T + r) (S + c) : EReal))
    {dkb : FVec Ideal S256x128 .f32} (hdk : ∀ (c : Fin 256) (d : Fin 128), dkb (ix2 c d) = (dk q k v g T (S + c) d : EReal))
    (c : Fin 256) (d : Fin 128) : k0_pay10 qb m22 gleft zb ab dpb dkb (ix2 c d) = (dk q k v g (T + 512) (S + c) d : EReal) := by
  pointwise [k0_pay10]
  exact prod_val (f := fun t => dz q k v g t (S + c)) (h := fun t => q t d) (hdk c d) (fun r => pay9_apply hS h22 hgleft hz ha hdp r c) (fun r => hq r d)

theorem pay11_apply {gb : Vec Ideal S512x128 .bf16} (hg : ∀ (r : Fin 512) (d : Fin 128), gb (ix2 r d) = (g (T + r) d : EReal))
    {ab : FVec Ideal S512x256 .f32} (ha : ∀ (r : Fin 512) (c : Fin 256), ab (ix2 r c) = (a q k (T + r) (S + c) : EReal))
    {dvb : FVec Ideal S256x128 .f32} (hdv : ∀ (c : Fin 256) (d : Fin 128), dvb (ix2 c d) = (dv q k g T (S + c) d : EReal))
    (c : Fin 256) (d : Fin 128) : k0_pay11 gb ab dvb (ix2 c d) = (dv q k g (T + 512) (S + c) d : EReal) := by
  pointwise [k0_pay11]
  exact prod_val (f := fun t => a q k t (S + c)) (h := fun t => g t d) (hdv c d) (fun r => ha r c) (fun r => hg r d)

theorem pay12_apply {left : FVec Ideal S512x1 .f32} (hleft : ∀ r : Fin 512, left (ix2 r 0) = (lpre q k (T + r) S : EReal))
    {l1b : FVec Ideal S512x256 .f32} (hl : ∀ (r : Fin 512) (c : Fin 256), l1b (ix2 r c) = (l1 q k (T + r) (S + c) : EReal))
    (r : Fin 512) : k0_pay12 left l1b (ix2 r 0) = (lpre q k (T + r) (S + 256) : EReal) := by
  pointwise [k0_pay12]
  exact row_val (hleft r) (hl r)

theorem pay13_apply {gleft : FVec Ideal S512x1 .f32} (hgleft : ∀ r : Fin 512, gleft (ix2 r 0) = (gpre q k v g (T + r) S : EReal))
    {ggb : FVec Ideal S512x256 .f32} (hgg : ∀ (r : Fin 512) (c : Fin 256), ggb (ix2 r c) = (gg q k v g (T + r) (S + c) : EReal))
    (r : Fin 512) : k0_pay13 gleft ggb (ix2 r 0) = (gpre q k v g (T + r) (S + 256) : EReal) := by
  pointwise [k0_pay13]
  exact row_val (hgleft r) (hgg r)

theorem pay14_apply {dqb : FVec Ideal S512x128 .f32} (hdq : ∀ (r : Fin 512) (d : Fin 128), dqb (ix2 r d) = (dq q k v g S (T + r) d : EReal))
    {kb : Vec Ideal S256x128 .bf16} (hk : ∀ (c : Fin 256) (d : Fin 128), kb (ix2 c d) = (k (S + c) d : EReal))
    {dzb : FVec Ideal S512x256 .bf16} (hdz : ∀ (r : Fin 512) (c : Fin 256), dzb (ix2 r c) = (dz q k v g (T + r) (S + c) : EReal))
    (r : Fin 512) (d : Fin 128) : k0_pay14 dqb kb dzb (ix2 r d) = (dq q k v g (S + 256) (T + r) d : EReal) := by
  pointwise [k0_pay14]
  exact prod_val (f := fun s => dz q k v g (T + r) s) (h := fun s => k s d) (hdq r d) (hdz r) (fun c => hk c d)

theorem pay15_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay15 qb kb (ix2 r c) = (z q k (T + r) (S + c) : EReal) := by
  pointwise [k0_pay15]
  exact z_val (hq r) (hk c)

theorem pay16_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay16 qb kb (ix2 r c) = (sp (z q k (T + r) (S + c)) : EReal) := by
  pointwise [k0_pay16]
  rw [pay15_apply hq hk]; exact sp_val _

theorem pay17_apply (hS : S + 256 ≤ T)
    {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay17 qb kb (ix2 r c) = (l1 q k (T + r) (S + c) : EReal) := by
  pointwise [k0_pay17]
  rw [pay15_apply hq hk, pay16_apply hq hk, lu_val, l1_of_lt (by omega), lu]

theorem pay18_apply (hS : S + 256 ≤ T)
    {qb : Vec Ideal S512x128 .bf16} (hq : ∀ (r : Fin 512) (d : Fin 128), qb (ix2 r d) = (q (T + r) d : EReal))
    {tot : FVec Ideal S512x1 .f32} (htot : ∀ r : Fin 512, tot (ix2 r 0) = (lpre q k (T + r) 2048 : EReal))
    {m16 : FVec Ideal S256x256 .bf16} (h16 : ∀ r c : Fin 256, m16 (ix2 r c) = (if (r : ℕ) ≤ c then 1 else 0 : EReal))
    {left : FVec Ideal S512x1 .f32} (hleft : ∀ r : Fin 512, left (ix2 r 0) = (lpre q k (T + r) S : EReal))
    {kb : Vec Ideal S256x128 .bf16} (hk : ∀ (c : Fin 256) (d : Fin 128), kb (ix2 c d) = (k (S + c) d : EReal))
    (r : Fin 512) (c : Fin 256) : k0_pay18 qb tot m16 left kb (ix2 r c) = (ex q k (T + r) (S + c) : EReal) := by
  pointwise [k0_pay18]
  refine (expo_val ?_ (htot r) (hleft r) (fun x => pay17_apply hS hq hk r x) (fun x => h16 x c))
  rw [pay15_apply hq hk, pay16_apply hq hk, lb_val, lb]

theorem pay19_apply (hS : S + 256 ≤ T)
    {exb : FVec Ideal S512x256 .f32} (hex : ∀ (r : Fin 512) (c : Fin 256), exb (ix2 r c) = (ex q k (T + r) (S + c) : EReal))
    (r : Fin 512) (c : Fin 256) : k0_pay19 exb (ix2 r c) = (a q k (T + r) (S + c) : EReal) := by
  pointwise [k0_pay19]
  rw [hex, Ideal.exp_coe, a_of_lt (by omega), au, ex]

theorem pay20_apply (hS : S + 256 ≤ T)
    {gb : Vec Ideal S512x128 .bf16} (hg : ∀ (r : Fin 512) (d : Fin 128), gb (ix2 r d) = (g (T + r) d : EReal))
    {exb : FVec Ideal S512x256 .f32} (hex : ∀ (r : Fin 512) (c : Fin 256), exb (ix2 r c) = (ex q k (T + r) (S + c) : EReal))
    {vb : Vec Ideal S256x128 .bf16} (hv : ∀ (c : Fin 256) (d : Fin 128), vb (ix2 c d) = (v (S + c) d : EReal))
    (r : Fin 512) (c : Fin 256) : k0_pay20 gb exb vb (ix2 r c) = (gg q k v g (T + r) (S + c) : EReal) := by
  pointwise [k0_pay20]
  rw [pay19_apply hS hex, dotp_val (hg r) (hv c), ← EReal.coe_mul, gg]

theorem pay21_apply (hS : S + 256 ≤ T)
    {gb : Vec Ideal S512x128 .bf16} (hg : ∀ (r : Fin 512) (d : Fin 128), gb (ix2 r d) = (g (T + r) d : EReal))
    {m22 : FVec Ideal S256x256 .bf16} (h22 : ∀ r c : Fin 256, m22 (ix2 r c) = (if (r : ℕ) < c then 1 else 0 : EReal))
    {gleft : FVec Ideal S512x1 .f32} (hgleft : ∀ r : Fin 512, gleft (ix2 r 0) = (gpre q k v g (T + r) S : EReal))
    {zb : FVec Ideal S512x256 .f32} (hz : ∀ (r : Fin 512) (c : Fin 256), zb (ix2 r c) = (z q k (T + r) (S + c) : EReal))
    {exb : FVec Ideal S512x256 .f32} (hex : ∀ (r : Fin 512) (c : Fin 256), exb (ix2 r c) = (ex q k (T + r) (S + c) : EReal))
    {vb : Vec Ideal S256x128 .bf16} (hv : ∀ (c : Fin 256) (d : Fin 128), vb (ix2 c d) = (v (S + c) d : EReal))
    (r : Fin 512) (c : Fin 256) : k0_pay21 gb m22 gleft zb exb vb (ix2 r c) = (dz q k v g (T + r) (S + c) : EReal) := by
  pointwise [k0_pay21]
  rw [dz_of_lt (by omega), EReal.coe_mul, ofBits_sc]
  refine congrArg (· * (sc : EReal)) ?_
  exact dz_val (W := fun x => k0_pay20 gb exb vb (ix2 r x)) (m := fun x => m22 (ix2 x c)) (hz r c) (hgleft r) (fun x => pay20_apply hS hg hex hv r x) (fun x => h22 x c)

theorem pay22_apply (hS : S + 256 ≤ T)
    {qb : Vec Ideal S512x128 .bf16} (hq : ∀ (r : Fin 512) (d : Fin 128), qb (ix2 r d) = (q (T + r) d : EReal))
    {gb : Vec Ideal S512x128 .bf16} (hg : ∀ (r : Fin 512) (d : Fin 128), gb (ix2 r d) = (g (T + r) d : EReal))
    {m22 : FVec Ideal S256x256 .bf16} (h22 : ∀ r c : Fin 256, m22 (ix2 r c) = (if (r : ℕ) < c then 1 else 0 : EReal))
    {gleft : FVec Ideal S512x1 .f32} (hgleft : ∀ r : Fin 512, gleft (ix2 r 0) = (gpre q k v g (T + r) S : EReal))
    {zb : FVec Ideal S512x256 .f32} (hz : ∀ (r : Fin 512) (c : Fin 256), zb (ix2 r c) = (z q k (T + r) (S + c) : EReal))
    {exb : FVec Ideal S512x256 .f32} (hex : ∀ (r : Fin 512) (c : Fin 256), exb (ix2 r c) = (ex q k (T + r) (S + c) : EReal))
    {vb : Vec Ideal S256x128 .bf16} (hv : ∀ (c : Fin 256) (d : Fin 128), vb (ix2 c d) = (v (S + c) d : EReal))
    {dkb : FVec Ideal S256x128 .f32} (hdk : ∀ (c : Fin 256) (d : Fin 128), dkb (ix2 c d) = (dk q k v g T (S + c) d : EReal))
    (c : Fin 256) (d : Fin 128) : k0_pay22 qb gb m22 gleft zb exb vb dkb (ix2 c d) = (dk q k v g (T + 512) (S + c) d : EReal) := by
  pointwise [k0_pay22]
  exact prod_val (f := fun t => dz q k v g t (S + c)) (h := fun t => q t d) (hdk c d) (fun r => pay21_apply hS hg h22 hgleft hz hex hv r c) (fun r => hq r d)

theorem pay23_apply {dvb : FVec Ideal S256x128 .f32} (hdv : ∀ (c : Fin 256) (d : Fin 128), dvb (ix2 c d) = (dv q k g T (S + c) d : EReal))
    (c : Fin 256) (d : Fin 128) : k0_pay23 (F := Ideal) dvb (ix2 c d) = (dv q k g T (S + c) d : EReal) := by
  pointwise [k0_pay23]
  exact hdv c d

theorem pay24_apply (hS : S + 256 ≤ T)
    {exb : FVec Ideal S512x256 .f32} (hex : ∀ (r : Fin 512) (c : Fin 256), exb (ix2 r c) = (ex q k (T + r) (S + c) : EReal))
    (r : Fin 512) (c : Fin 256) : k0_pay24 exb (ix2 r c) = (a q k (T + r) (S + c) : EReal) := by
  pointwise [k0_pay24]
  exact pay19_apply hS hex r c

theorem pay55_apply {gb : Vec Ideal S512x128 .bf16} (hg : ∀ (r : Fin 512) (d : Fin 128), gb (ix2 r d) = (g (T + r) d : EReal))
    {dvb : FVec Ideal S256x128 .f32} (hdv : ∀ (c : Fin 256) (d : Fin 128), dvb (ix2 c d) = (dv q k g T (S + c) d : EReal))
    {ab : FVec Ideal S512x256 .bf16} (hab : ∀ (r : Fin 512) (c : Fin 256), ab (ix2 r c) = (a q k (T + r) (S + c) : EReal))
    (c : Fin 256) (d : Fin 128) : k0_pay55 gb dvb ab (ix2 c d) = (dv q k g (T + 512) (S + c) d : EReal) := by
  pointwise [k0_pay55]
  exact prod_val (f := fun t => a q k t (S + c)) (h := fun t => g t d) (hdv c d) (fun r => hab r c) (fun r => hg r d)

theorem pay56_apply {left : FVec Ideal S512x1 .f32} (hleft : ∀ r : Fin 512, left (ix2 r 0) = (lpre q k (T + r) S : EReal))
    {l1b : FVec Ideal S512x256 .f32} (hl : ∀ (r : Fin 512) (c : Fin 256), l1b (ix2 r c) = (l1 q k (T + r) (S + c) : EReal))
    (r : Fin 512) : k0_pay56 left l1b (ix2 r 0) = (lpre q k (T + r) (S + 256) : EReal) := by
  pointwise [k0_pay56]
  exact row_val (hleft r) (hl r)

theorem pay57_apply {gleft : FVec Ideal S512x1 .f32} (hgleft : ∀ r : Fin 512, gleft (ix2 r 0) = (gpre q k v g (T + r) S : EReal))
    {ggb : FVec Ideal S512x256 .f32} (hgg : ∀ (r : Fin 512) (c : Fin 256), ggb (ix2 r c) = (gg q k v g (T + r) (S + c) : EReal))
    (r : Fin 512) : k0_pay57 gleft ggb (ix2 r 0) = (gpre q k v g (T + r) (S + 256) : EReal) := by
  pointwise [k0_pay57]
  exact row_val (hgleft r) (hgg r)

theorem pay58_apply {dqb : FVec Ideal S512x128 .f32} (hdq : ∀ (r : Fin 512) (d : Fin 128), dqb (ix2 r d) = (dq q k v g S (T + r) d : EReal))
    {kb : Vec Ideal S256x128 .bf16} (hk : ∀ (c : Fin 256) (d : Fin 128), kb (ix2 c d) = (k (S + c) d : EReal))
    {dzb : FVec Ideal S512x256 .bf16} (hdz : ∀ (r : Fin 512) (c : Fin 256), dzb (ix2 r c) = (dz q k v g (T + r) (S + c) : EReal))
    (r : Fin 512) (d : Fin 128) : k0_pay58 dqb kb dzb (ix2 r d) = (dq q k v g (S + 256) (T + r) d : EReal) := by
  pointwise [k0_pay58]
  exact prod_val (f := fun s => dz q k v g (T + r) s) (h := fun s => k s d) (hdq r d) (hdz r) (fun c => hk c d)

theorem pay63_apply {i1 : BitVec 32} (e2 : Scalar.muli i1 512#32 = BitVec.ofNat 32 T)
    {w : BitVec 32} (e1 : Scalar.muli w 256#32 = BitVec.ofNat 32 S)
    (b1 : S + 256 ≤ 4096)
    (b2 : T + 512 ≤ 4096)
    (r : Fin 512) (c : Fin 256) : k0_pay63 i1 w (ix2 r c) = if S + c < T + r then 1#1 else 0#1 := by
  pointwise [k0_pay63]
  exact mask_val e1 e2 (by omega) (by omega)

theorem pay64_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay64 qb kb (ix2 r c) = (z q k (T + r) (S + c) : EReal) := by
  pointwise [k0_pay64]
  exact z_val (hq r) (hk c)

theorem pay65_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay65 qb kb (ix2 r c) = (sp (z q k (T + r) (S + c)) : EReal) := by
  pointwise [k0_pay65]
  rw [pay64_apply hq hk]; exact sp_val _

theorem pay66_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay66 qb kb (ix2 r c) = (lb q k (T + r) (S + c) : EReal) := by
  pointwise [k0_pay66]
  rw [pay64_apply hq hk, pay65_apply hq hk, lb_val, lb]

theorem pay67_apply {i1 : BitVec 32} (e2 : Scalar.muli i1 512#32 = BitVec.ofNat 32 T)
    {w : BitVec 32} (e1 : Scalar.muli w 256#32 = BitVec.ofNat 32 S)
    (b1 : S + 256 ≤ 4096)
    (b2 : T + 512 ≤ 4096)
    {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay67 i1 qb w kb (ix2 r c) = (l1 q k (T + r) (S + c) : EReal) := by
  pointwise [k0_pay67]
  exact l1_sel _ _ (pay63_apply e2 e1 b1 b2 r c) (by rw [pay64_apply hq hk, pay65_apply hq hk, lu_val, lu])

theorem pay68_apply {i1 : BitVec 32} (e2 : Scalar.muli i1 512#32 = BitVec.ofNat 32 T)
    {w : BitVec 32} (e1 : Scalar.muli w 256#32 = BitVec.ofNat 32 S)
    (b1 : S + 256 ≤ 4096)
    (b2 : T + 512 ≤ 4096)
    {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay68 i1 qb w kb (ix2 r c) = (l1 q k (T + r) (S + c) : EReal) := by
  pointwise [k0_pay68]
  exact pay67_apply e2 e1 b1 b2 hq hk r c

theorem pay69_apply {i1 : BitVec 32} (e2 : Scalar.muli i1 512#32 = BitVec.ofNat 32 T)
    {w : BitVec 32} (e1 : Scalar.muli w 256#32 = BitVec.ofNat 32 S)
    (b1 : S + 256 ≤ 4096)
    (b2 : T + 512 ≤ 4096)
    {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay69 i1 qb w kb (ix2 r c) = (0 : EReal) := by
  pointwise [k0_pay69]
  rw [pay68_apply e2 e1 b1 b2 hq hk, pay67_apply e2 e1 b1 b2 hq hk, ← EReal.coe_sub, sub_self, EReal.coe_zero]

theorem pay70_apply {i1 : BitVec 32} (e2 : Scalar.muli i1 512#32 = BitVec.ofNat 32 T)
    {w : BitVec 32} (e1 : Scalar.muli w 256#32 = BitVec.ofNat 32 S)
    (b1 : S + 256 ≤ 4096)
    (b2 : T + 512 ≤ 4096)
    {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay70 i1 qb w kb (ix2 r c) = (0 : EReal) := by
  pointwise [k0_pay70]
  exact pay69_apply e2 e1 b1 b2 hq hk r c

theorem pay71_apply {i1 : BitVec 32} (e2 : Scalar.muli i1 512#32 = BitVec.ofNat 32 T)
    {w : BitVec 32} (e1 : Scalar.muli w 256#32 = BitVec.ofNat 32 S)
    (b1 : S + 256 ≤ 4096)
    (b2 : T + 512 ≤ 4096)
    {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay71 i1 qb w kb (ix2 r c) = (0 : EReal) := by
  pointwise [k0_pay71]
  rw [pay70_apply e2 e1 b1 b2 hq hk, pay69_apply e2 e1 b1 b2 hq hk, sub_zero]

theorem pay72_apply {i1 : BitVec 32} (e2 : Scalar.muli i1 512#32 = BitVec.ofNat 32 T)
    {w : BitVec 32} (e1 : Scalar.muli w 256#32 = BitVec.ofNat 32 S)
    (b1 : S + 256 ≤ 4096)
    (b2 : T + 512 ≤ 4096)
    {qb : Vec Ideal S512x128 .bf16} (hq : ∀ (r : Fin 512) (d : Fin 128), qb (ix2 r d) = (q (T + r) d : EReal))
    {m16 : FVec Ideal S256x256 .bf16} (h16 : ∀ r c : Fin 256, m16 (ix2 r c) = (if (r : ℕ) ≤ c then 1 else 0 : EReal))
    {kb : Vec Ideal S256x128 .bf16} (hk : ∀ (c : Fin 256) (d : Fin 128), kb (ix2 c d) = (k (S + c) d : EReal))
    (r : Fin 512) (c : Fin 256) : k0_pay72 i1 qb m16 w kb (ix2 r c) = ((∑ x : Fin 256, if (x : ℕ) ≤ c then l1 q k (T + r) (S + x) else 0 : ℝ) : EReal) := by
  pointwise [k0_pay72]
  simp only [pay68_apply e2 e1 b1 b2 hq hk, h16]
  rw [← sum_coe]
  refine Finset.sum_congr rfl fun x _ => ?_
  split
  · rw [mul_one]
  · rw [mul_zero, EReal.coe_zero]

theorem pay73_apply {tot : FVec Ideal S512x1 .f32} (htot : ∀ r : Fin 512, tot (ix2 r 0) = (lpre q k (T + r) 2048 : EReal))
    {m16 : FVec Ideal S256x256 .bf16}
    {left : FVec Ideal S512x1 .f32} (hleft : ∀ r : Fin 512, left (ix2 r 0) = (lpre q k (T + r) S : EReal))
    {mk : IVec S512x256 1} (hm : ∀ (r : Fin 512) (c : Fin 256), mk (ix2 r c) = if S + c < T + r then 1#1 else 0#1)
    {lbb : FVec Ideal S512x256 .f32} (hlb : ∀ (r : Fin 512) (c : Fin 256), lbb (ix2 r c) = (lb q k (T + r) (S + c) : EReal))
    {z1 : FVec Ideal S512x256 .bf16} (hz1 : ∀ (r : Fin 512) (c : Fin 256), z1 (ix2 r c) = (0 : EReal))
    {z2 : FVec Ideal S512x256 .bf16} (hz2 : ∀ (r : Fin 512) (c : Fin 256), z2 (ix2 r c) = (0 : EReal))
    {inb : FVec Ideal S512x256 .f32} (hin : ∀ (r : Fin 512) (c : Fin 256), inb (ix2 r c) = ((∑ x : Fin 256, if (x : ℕ) ≤ c then l1 q k (T + r) (S + x) else 0 : ℝ) : EReal))
    {c0 : FVec Ideal S512x256 .f32} (hc0 : ∀ (r : Fin 512) (c : Fin 256), c0 (ix2 r c) = (0 : EReal))
    (r : Fin 512) (c : Fin 256) : k0_pay73 tot m16 left mk lbb z1 z2 inb c0 (ix2 r c) = (a q k (T + r) (S + c) : EReal) := by
  pointwise [k0_pay73]
  refine a_sel _ _ (hm r c) ?_
  simp only [htot, hleft, hlb, hz1, hz2, hin, hc0, zero_mul, Finset.sum_const_zero, add_zero]
  rw [← EReal.coe_add, lpre, lpre, sum_incl, ← EReal.coe_sub, ← EReal.coe_add, ex, lpre, lpre]

theorem pay74_apply {tot left : FVec Ideal S512x1 .f32} {m16 : FVec Ideal S256x256 .bf16} {mk : IVec S512x256 1} {lbb inb c0 : FVec Ideal S512x256 .f32} {z1 z2 : FVec Ideal S512x256 .bf16}
    (ha : ∀ (r : Fin 512) (c : Fin 256), k0_pay73 tot m16 left mk lbb z1 z2 inb c0 (ix2 r c) = (a q k (T + r) (S + c) : EReal))
    {gb : Vec Ideal S512x128 .bf16} (hg : ∀ (r : Fin 512) (d : Fin 128), gb (ix2 r d) = (g (T + r) d : EReal))
    {vb : Vec Ideal S256x128 .bf16} (hv : ∀ (c : Fin 256) (d : Fin 128), vb (ix2 c d) = (v (S + c) d : EReal))
    (r : Fin 512) (c : Fin 256) : k0_pay74 gb tot m16 left mk lbb z1 z2 inb c0 vb (ix2 r c) = (gg q k v g (T + r) (S + c) : EReal) := by
  pointwise [k0_pay74]
  rw [ha, dotp_val (hg r) (hv c), ← EReal.coe_mul, gg]

theorem pay75_apply {tot left : FVec Ideal S512x1 .f32} {m16 : FVec Ideal S256x256 .bf16} {lbb inb c0 : FVec Ideal S512x256 .f32} {z1 z2 : FVec Ideal S512x256 .bf16}
    {gb : Vec Ideal S512x128 .bf16} {vb : Vec Ideal S256x128 .bf16}
    {mk : IVec S512x256 1} (hm : ∀ (r : Fin 512) (c : Fin 256), mk (ix2 r c) = if S + c < T + r then 1#1 else 0#1)
    (hgg : ∀ (r : Fin 512) (c : Fin 256), k0_pay74 gb tot m16 left mk lbb z1 z2 inb c0 vb (ix2 r c) = (gg q k v g (T + r) (S + c) : EReal))
    {m22 : FVec Ideal S256x256 .bf16} (h22 : ∀ r c : Fin 256, m22 (ix2 r c) = (if (r : ℕ) < c then 1 else 0 : EReal))
    {gleft : FVec Ideal S512x1 .f32} (hgleft : ∀ r : Fin 512, gleft (ix2 r 0) = (gpre q k v g (T + r) S : EReal))
    {zb : FVec Ideal S512x256 .f32} (hz : ∀ (r : Fin 512) (c : Fin 256), zb (ix2 r c) = (z q k (T + r) (S + c) : EReal))
    (r : Fin 512) (c : Fin 256) : k0_pay75 gb tot m16 m22 left gleft mk zb lbb z1 z2 inb c0 vb (ix2 r c) = (dz q k v g (T + r) (S + c) : EReal) := by
  pointwise [k0_pay75]
  exact dz_sel _ _ (hm r c) (dz_val (W := fun x => k0_pay74 gb tot m16 left mk lbb z1 z2 inb c0 vb (ix2 r x)) (m := fun x => m22 (ix2 x c)) (hz r c) (hgleft r) (fun x => hgg r x) (fun x => h22 x c))

theorem pay76_apply {qb : Vec Ideal S512x128 .bf16} (hq : ∀ (r : Fin 512) (d : Fin 128), qb (ix2 r d) = (q (T + r) d : EReal))
    {dzb : FVec Ideal S512x256 .bf16} (hdz : ∀ (r : Fin 512) (c : Fin 256), dzb (ix2 r c) = (dz q k v g (T + r) (S + c) : EReal))
    {dkb : FVec Ideal S256x128 .f32} (hdk : ∀ (c : Fin 256) (d : Fin 128), dkb (ix2 c d) = (dk q k v g T (S + c) d : EReal))
    (c : Fin 256) (d : Fin 128) : k0_pay76 qb dzb dkb (ix2 c d) = (dk q k v g (T + 512) (S + c) d : EReal) := by
  pointwise [k0_pay76]
  exact prod_val (f := fun t => dz q k v g t (S + c)) (h := fun t => q t d) (hdk c d) (fun r => hdz r c) (fun r => hq r d)

theorem pay77_apply {gb : Vec Ideal S512x128 .bf16} (hg : ∀ (r : Fin 512) (d : Fin 128), gb (ix2 r d) = (g (T + r) d : EReal))
    {ab : FVec Ideal S512x256 .f32} (ha : ∀ (r : Fin 512) (c : Fin 256), ab (ix2 r c) = (a q k (T + r) (S + c) : EReal))
    {dvb : FVec Ideal S256x128 .f32} (hdv : ∀ (c : Fin 256) (d : Fin 128), dvb (ix2 c d) = (dv q k g T (S + c) d : EReal))
    (c : Fin 256) (d : Fin 128) : k0_pay77 gb ab dvb (ix2 c d) = (dv q k g (T + 512) (S + c) d : EReal) := by
  pointwise [k0_pay77]
  exact prod_val (f := fun t => a q k t (S + c)) (h := fun t => g t d) (hdv c d) (fun r => ha r c) (fun r => hg r d)

theorem pay78_apply {left : FVec Ideal S512x1 .f32} (hleft : ∀ r : Fin 512, left (ix2 r 0) = (lpre q k (T + r) S : EReal))
    {l1b : FVec Ideal S512x256 .f32} (hl : ∀ (r : Fin 512) (c : Fin 256), l1b (ix2 r c) = (l1 q k (T + r) (S + c) : EReal))
    (r : Fin 512) : k0_pay78 left l1b (ix2 r 0) = (lpre q k (T + r) (S + 256) : EReal) := by
  pointwise [k0_pay78]
  exact row_val (hleft r) (hl r)

theorem pay79_apply {gleft : FVec Ideal S512x1 .f32} (hgleft : ∀ r : Fin 512, gleft (ix2 r 0) = (gpre q k v g (T + r) S : EReal))
    {ggb : FVec Ideal S512x256 .f32} (hgg : ∀ (r : Fin 512) (c : Fin 256), ggb (ix2 r c) = (gg q k v g (T + r) (S + c) : EReal))
    (r : Fin 512) : k0_pay79 gleft ggb (ix2 r 0) = (gpre q k v g (T + r) (S + 256) : EReal) := by
  pointwise [k0_pay79]
  exact row_val (hgleft r) (hgg r)

theorem pay80_apply {dqb : FVec Ideal S512x128 .f32} (hdq : ∀ (r : Fin 512) (d : Fin 128), dqb (ix2 r d) = (dq q k v g S (T + r) d : EReal))
    {kb : Vec Ideal S256x128 .bf16} (hk : ∀ (c : Fin 256) (d : Fin 128), kb (ix2 c d) = (k (S + c) d : EReal))
    {dzb : FVec Ideal S512x256 .bf16} (hdz : ∀ (r : Fin 512) (c : Fin 256), dzb (ix2 r c) = (dz q k v g (T + r) (S + c) : EReal))
    (r : Fin 512) (d : Fin 128) : k0_pay80 dqb kb dzb (ix2 r d) = (dq q k v g (S + 256) (T + r) d : EReal) := by
  pointwise [k0_pay80]
  exact prod_val (f := fun s => dz q k v g (T + r) s) (h := fun s => k s d) (hdq r d) (hdz r) (fun c => hk c d)

theorem pay81_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay81 qb kb (ix2 r c) = (z q k (T + r) (S + c) : EReal) := by
  pointwise [k0_pay81]
  exact z_val (hq r) (hk c)

theorem pay82_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay82 qb kb (ix2 r c) = (sp (z q k (T + r) (S + c)) : EReal) := by
  pointwise [k0_pay82]
  rw [pay81_apply hq hk]; exact sp_val _

theorem pay83_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay83 qb kb (ix2 r c) = (lb q k (T + r) (S + c) : EReal) := by
  pointwise [k0_pay83]
  rw [pay81_apply hq hk, pay82_apply hq hk, lb_val, lb]

theorem pay84_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay84 qb kb (ix2 r c) = (0 - (z q k (T + r) (S + c) : EReal) : EReal) := by
  pointwise [k0_pay84]
  rw [pay81_apply hq hk]

theorem pay86_apply {mk : IVec S512x256 1} (hm : ∀ (r : Fin 512) (c : Fin 256), mk (ix2 r c) = if S + c < T + r then 1#1 else 0#1)
    {spb : FVec Ideal S512x256 .f32} (hsp : ∀ (r : Fin 512) (c : Fin 256), spb (ix2 r c) = (sp (z q k (T + r) (S + c)) : EReal))
    {nzb : FVec Ideal S512x256 .f32} (hnz : ∀ (r : Fin 512) (c : Fin 256), nzb (ix2 r c) = (0 - (z q k (T + r) (S + c) : EReal) : EReal))
    {c0 : FVec Ideal S512x256 .f32} (hc0 : ∀ (r : Fin 512) (c : Fin 256), c0 (ix2 r c) = (0 : EReal))
    (r : Fin 512) (c : Fin 256) : k0_pay86 mk spb nzb c0 (ix2 r c) = (l1 q k (T + r) (S + c) : EReal) := by
  pointwise [k0_pay86]
  exact l1_sel _ _ (hm r c) (by rw [hnz, hsp, hc0, lu_val, lu])

theorem pay87_apply {tot : FVec Ideal S512x1 .f32} (htot : ∀ r : Fin 512, tot (ix2 r 0) = (lpre q k (T + r) 2048 : EReal))
    {m16 : FVec Ideal S256x256 .bf16} (h16 : ∀ r c : Fin 256, m16 (ix2 r c) = (if (r : ℕ) ≤ c then 1 else 0 : EReal))
    {left : FVec Ideal S512x1 .f32} (hleft : ∀ r : Fin 512, left (ix2 r 0) = (lpre q k (T + r) S : EReal))
    {mk : IVec S512x256 1} (hm : ∀ (r : Fin 512) (c : Fin 256), mk (ix2 r c) = if S + c < T + r then 1#1 else 0#1)
    {spb : FVec Ideal S512x256 .f32} (hsp : ∀ (r : Fin 512) (c : Fin 256), spb (ix2 r c) = (sp (z q k (T + r) (S + c)) : EReal))
    {lbb : FVec Ideal S512x256 .f32} (hlb : ∀ (r : Fin 512) (c : Fin 256), lbb (ix2 r c) = (lb q k (T + r) (S + c) : EReal))
    {nzb : FVec Ideal S512x256 .f32} (hnz : ∀ (r : Fin 512) (c : Fin 256), nzb (ix2 r c) = (0 - (z q k (T + r) (S + c) : EReal) : EReal))
    {c0 : FVec Ideal S512x256 .f32} (hc0 : ∀ (r : Fin 512) (c : Fin 256), c0 (ix2 r c) = (0 : EReal))
    (r : Fin 512) (c : Fin 256) : k0_pay87 tot m16 left mk spb lbb nzb c0 (ix2 r c) = (a q k (T + r) (S + c) : EReal) := by
  pointwise [k0_pay87]
  exact a_sel _ _ (hm r c) (expo_val (W := fun x => k0_pay86 mk spb nzb c0 (ix2 r x)) (m := fun x => m16 (ix2 x c)) (hlb r c) (htot r) (hleft r) (fun x => pay86_apply hm hsp hnz hc0 r x) (fun x => h16 x c))

theorem pay88_apply {tot left : FVec Ideal S512x1 .f32} {m16 : FVec Ideal S256x256 .bf16} {mk : IVec S512x256 1} {spb lbb nzb c0 : FVec Ideal S512x256 .f32}
    (ha : ∀ (r : Fin 512) (c : Fin 256), k0_pay87 tot m16 left mk spb lbb nzb c0 (ix2 r c) = (a q k (T + r) (S + c) : EReal))
    {gb : Vec Ideal S512x128 .bf16} (hg : ∀ (r : Fin 512) (d : Fin 128), gb (ix2 r d) = (g (T + r) d : EReal))
    {vb : Vec Ideal S256x128 .bf16} (hv : ∀ (c : Fin 256) (d : Fin 128), vb (ix2 c d) = (v (S + c) d : EReal))
    (r : Fin 512) (c : Fin 256) : k0_pay88 gb tot m16 left mk spb lbb nzb c0 vb (ix2 r c) = (gg q k v g (T + r) (S + c) : EReal) := by
  pointwise [k0_pay88]
  rw [ha, dotp_val (hg r) (hv c), ← EReal.coe_mul, gg]

theorem pay89_apply {tot left : FVec Ideal S512x1 .f32} {m16 : FVec Ideal S256x256 .bf16} {mk : IVec S512x256 1} {spb lbb nzb c0 : FVec Ideal S512x256 .f32}
    {gb : Vec Ideal S512x128 .bf16} {vb : Vec Ideal S256x128 .bf16}
    (hgg : ∀ (r : Fin 512) (c : Fin 256), k0_pay88 gb tot m16 left mk spb lbb nzb c0 vb (ix2 r c) = (gg q k v g (T + r) (S + c) : EReal))
    {m22 : FVec Ideal S256x256 .bf16} (h22 : ∀ r c : Fin 256, m22 (ix2 r c) = (if (r : ℕ) < c then 1 else 0 : EReal))
    {gleft : FVec Ideal S512x1 .f32} (hgleft : ∀ r : Fin 512, gleft (ix2 r 0) = (gpre q k v g (T + r) S : EReal))
    (r : Fin 512) (c : Fin 256) : k0_pay89 gb tot m16 m22 left gleft mk spb lbb nzb c0 vb (ix2 r c) = (gpre q k v g (T + r) (S + c) : EReal) := by
  pointwise [k0_pay89]
  simp only [hgg, h22, hgleft]
  rw [sum_three (fun x => gg q k v g (T + r) (S + x)) (fun x => (x : ℕ) < c), ← EReal.coe_add, gpre, sum_strict, gpre]

theorem pay90_apply {zb : FVec Ideal S512x256 .f32} (hz : ∀ (r : Fin 512) (c : Fin 256), zb (ix2 r c) = (z q k (T + r) (S + c) : EReal))
    (r : Fin 512) (c : Fin 256) : k0_pay90 zb (ix2 r c) = (1 + Ideal.exp (0 - (z q k (T + r) (S + c) : EReal)) : EReal) := by
  pointwise [k0_pay90]
  rw [hz]

theorem pay91_apply {mk : IVec S512x256 1} (hm : ∀ (r : Fin 512) (c : Fin 256), mk (ix2 r c) = if S + c < T + r then 1#1 else 0#1)
    {ggb : FVec Ideal S512x256 .f32} (hgg : ∀ (r : Fin 512) (c : Fin 256), ggb (ix2 r c) = (gg q k v g (T + r) (S + c) : EReal))
    {gpb : FVec Ideal S512x256 .f32} (hgp : ∀ (r : Fin 512) (c : Fin 256), gpb (ix2 r c) = (gpre q k v g (T + r) (S + c) : EReal))
    {den : FVec Ideal S512x256 .f32} (hden : ∀ (r : Fin 512) (c : Fin 256), den (ix2 r c) = (1 + Ideal.exp (0 - (z q k (T + r) (S + c) : EReal)) : EReal))
    {one : Ideal .f32} (hone : one = (1 : EReal))
    (r : Fin 512) (c : Fin 256) : k0_pay91 mk ggb gpb den one (ix2 r c) = (dz q k v g (T + r) (S + c) : EReal) := by
  pointwise [k0_pay91]
  refine dz_sel _ _ (hm r c) ?_
  have e : Ideal.div one (den (ix2 r c)) = (sg (z q k (T + r) (S + c)) : EReal) := by
    rw [hden, hone, ← EReal.coe_zero, ← EReal.coe_sub, zero_sub, Ideal.exp_coe, ← EReal.coe_one, ← EReal.coe_add, div_one_add_exp, sg]
  simp only [e, hgg, hgp]
  rw [← EReal.coe_one, ← EReal.coe_sub, ← EReal.coe_mul, ← EReal.coe_mul, ← EReal.coe_sub]

theorem pay92_apply {qb : Vec Ideal S512x128 .bf16} (hq : ∀ (r : Fin 512) (d : Fin 128), qb (ix2 r d) = (q (T + r) d : EReal))
    {mk : IVec S512x256 1} (hm : ∀ (r : Fin 512) (c : Fin 256), mk (ix2 r c) = if S + c < T + r then 1#1 else 0#1)
    {ggb : FVec Ideal S512x256 .f32} (hgg : ∀ (r : Fin 512) (c : Fin 256), ggb (ix2 r c) = (gg q k v g (T + r) (S + c) : EReal))
    {gpb : FVec Ideal S512x256 .f32} (hgp : ∀ (r : Fin 512) (c : Fin 256), gpb (ix2 r c) = (gpre q k v g (T + r) (S + c) : EReal))
    {den : FVec Ideal S512x256 .f32} (hden : ∀ (r : Fin 512) (c : Fin 256), den (ix2 r c) = (1 + Ideal.exp (0 - (z q k (T + r) (S + c) : EReal)) : EReal))
    {one : Ideal .f32} (hone : one = (1 : EReal))
    {dkb : FVec Ideal S256x128 .f32} (hdk : ∀ (c : Fin 256) (d : Fin 128), dkb (ix2 c d) = (dk q k v g T (S + c) d : EReal))
    (c : Fin 256) (d : Fin 128) : k0_pay92 qb mk ggb gpb den one dkb (ix2 c d) = (dk q k v g (T + 512) (S + c) d : EReal) := by
  pointwise [k0_pay92]
  exact prod_val (f := fun t => dz q k v g t (S + c)) (h := fun t => q t d) (hdk c d) (fun r => pay91_apply hm hgg hgp hden hone r c) (fun r => hq r d)

theorem pay93_apply {gb : Vec Ideal S512x128 .bf16} (hg : ∀ (r : Fin 512) (d : Fin 128), gb (ix2 r d) = (g (T + r) d : EReal))
    {ab : FVec Ideal S512x256 .f32} (ha : ∀ (r : Fin 512) (c : Fin 256), ab (ix2 r c) = (a q k (T + r) (S + c) : EReal))
    {dvb : FVec Ideal S256x128 .f32} (hdv : ∀ (c : Fin 256) (d : Fin 128), dvb (ix2 c d) = (dv q k g T (S + c) d : EReal))
    (c : Fin 256) (d : Fin 128) : k0_pay93 gb ab dvb (ix2 c d) = (dv q k g (T + 512) (S + c) d : EReal) := by
  pointwise [k0_pay93]
  exact prod_val (f := fun t => a q k t (S + c)) (h := fun t => g t d) (hdv c d) (fun r => ha r c) (fun r => hg r d)

theorem pay94_apply {left : FVec Ideal S512x1 .f32} (hleft : ∀ r : Fin 512, left (ix2 r 0) = (lpre q k (T + r) S : EReal))
    {l1b : FVec Ideal S512x256 .f32} (hl : ∀ (r : Fin 512) (c : Fin 256), l1b (ix2 r c) = (l1 q k (T + r) (S + c) : EReal))
    (r : Fin 512) : k0_pay94 left l1b (ix2 r 0) = (lpre q k (T + r) (S + 256) : EReal) := by
  pointwise [k0_pay94]
  exact row_val (hleft r) (hl r)

theorem pay95_apply {gleft : FVec Ideal S512x1 .f32} (hgleft : ∀ r : Fin 512, gleft (ix2 r 0) = (gpre q k v g (T + r) S : EReal))
    {ggb : FVec Ideal S512x256 .f32} (hgg : ∀ (r : Fin 512) (c : Fin 256), ggb (ix2 r c) = (gg q k v g (T + r) (S + c) : EReal))
    (r : Fin 512) : k0_pay95 gleft ggb (ix2 r 0) = (gpre q k v g (T + r) (S + 256) : EReal) := by
  pointwise [k0_pay95]
  exact row_val (hgleft r) (hgg r)

theorem pay96_apply {dqb : FVec Ideal S512x128 .f32} (hdq : ∀ (r : Fin 512) (d : Fin 128), dqb (ix2 r d) = (dq q k v g S (T + r) d : EReal))
    {mk : IVec S512x256 1} (hm : ∀ (r : Fin 512) (c : Fin 256), mk (ix2 r c) = if S + c < T + r then 1#1 else 0#1)
    {kb : Vec Ideal S256x128 .bf16} (hk : ∀ (c : Fin 256) (d : Fin 128), kb (ix2 c d) = (k (S + c) d : EReal))
    {ggb : FVec Ideal S512x256 .f32} (hgg : ∀ (r : Fin 512) (c : Fin 256), ggb (ix2 r c) = (gg q k v g (T + r) (S + c) : EReal))
    {gpb : FVec Ideal S512x256 .f32} (hgp : ∀ (r : Fin 512) (c : Fin 256), gpb (ix2 r c) = (gpre q k v g (T + r) (S + c) : EReal))
    {den : FVec Ideal S512x256 .f32} (hden : ∀ (r : Fin 512) (c : Fin 256), den (ix2 r c) = (1 + Ideal.exp (0 - (z q k (T + r) (S + c) : EReal)) : EReal))
    {one : Ideal .f32} (hone : one = (1 : EReal))
    (r : Fin 512) (d : Fin 128) : k0_pay96 dqb mk kb ggb gpb den one (ix2 r d) = (dq q k v g (S + 256) (T + r) d : EReal) := by
  pointwise [k0_pay96]
  exact prod_val (f := fun s => dz q k v g (T + r) s) (h := fun s => k s d) (hdq r d) (fun c => pay91_apply hm hgg hgp hden hone r c) (fun c => hk c d)

theorem pay97_apply {i1 : BitVec 32} (e2 : Scalar.muli i1 512#32 = BitVec.ofNat 32 T)
    (r : Fin 512) (c : Fin 256) : k0_pay97 i1 (ix2 r c) = BitVec.ofNat 32 (T + r) := by
  pointwise [k0_pay97]
  rw [e2, BitVec.ofNat_add]; rfl

theorem pay98_apply {rw : IVec S512x256 32} (e2 : ∀ (r : Fin 512) (c : Fin 256), rw (ix2 r c) = BitVec.ofNat 32 (T + r))
    {w1 : BitVec 32} (e1 : w1 = BitVec.ofNat 32 S)
    {cw : IVec S512x256 32} (e3 : ∀ (r : Fin 512) (c : Fin 256), cw (ix2 r c) = BitVec.ofNat 32 c)
    (b1 : S + 256 ≤ 4096)
    (b2 : T + 512 ≤ 4096)
    (r : Fin 512) (c : Fin 256) : k0_pay98 rw w1 cw (ix2 r c) = if S + c < T + r then 1#1 else 0#1 := by
  pointwise [k0_pay98]
  rw [e1, e2, e3, ← slt_word _ _ (by omega) (by omega), BitVec.ofNat_add S]; rfl

theorem pay99_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay99 qb kb (ix2 r c) = (z q k (T + r) (S + c) : EReal) := by
  pointwise [k0_pay99]
  exact z_val (hq r) (hk c)

theorem pay100_apply {rw : IVec S512x256 32} (e2 : ∀ (r : Fin 512) (c : Fin 256), rw (ix2 r c) = BitVec.ofNat 32 (T + r))
    {w1 : BitVec 32} (e1 : w1 = BitVec.ofNat 32 S)
    {cw : IVec S512x256 32} (e3 : ∀ (r : Fin 512) (c : Fin 256), cw (ix2 r c) = BitVec.ofNat 32 c)
    (b1 : S + 256 ≤ 4096)
    (b2 : T + 512 ≤ 4096)
    {qb : Vec Ideal S512x128 .bf16} (hq : ∀ (r : Fin 512) (d : Fin 128), qb (ix2 r d) = (q (T + r) d : EReal))
    {tot : FVec Ideal S512x1 .f32} (htot : ∀ r : Fin 512, tot (ix2 r 0) = (lpre q k (T + r) 2048 : EReal))
    {m16 : FVec Ideal S256x256 .bf16} (h16 : ∀ r c : Fin 256, m16 (ix2 r c) = (if (r : ℕ) ≤ c then 1 else 0 : EReal))
    {left : FVec Ideal S512x1 .f32} (hleft : ∀ r : Fin 512, left (ix2 r 0) = (lpre q k (T + r) S : EReal))
    {kb : Vec Ideal S256x128 .bf16} (hk : ∀ (c : Fin 256) (d : Fin 128), kb (ix2 c d) = (k (S + c) d : EReal))
    (r : Fin 512) (c : Fin 256) : k0_pay100 qb tot m16 left rw w1 cw kb (ix2 r c) = (a q k (T + r) (S + c) : EReal) := by
  pointwise [k0_pay100]
  simp only [select_mul, pay99_apply hq hk, sp_val, lb_val, lu_val]
  exact a_sel _ _ (pay98_apply e2 e1 e3 b1 b2 r c) (expo_val (W := fun x => Scalar.select (k0_pay98 rw w1 cw (ix2 r x)) ((min (-z q k (T + r) (S + x)) 0 - sp (z q k (T + r) (S + x)) : ℝ) : EReal) 0) (m := fun x => m16 (ix2 x c)) rfl (htot r) (hleft r) (fun x => l1_sel _ _ (pay98_apply e2 e1 e3 b1 b2 r x) rfl) (fun x => h16 x c))

theorem pay101_apply {gb : Vec Ideal S512x128 .bf16} (hg : ∀ (r : Fin 512) (d : Fin 128), gb (ix2 r d) = (g (T + r) d : EReal))
    {m22 : FVec Ideal S256x256 .bf16} (h22 : ∀ r c : Fin 256, m22 (ix2 r c) = (if (r : ℕ) < c then 1 else 0 : EReal))
    {gleft : FVec Ideal S512x1 .f32} (hgleft : ∀ r : Fin 512, gleft (ix2 r 0) = (gpre q k v g (T + r) S : EReal))
    {mk : IVec S512x256 1} (hm : ∀ (r : Fin 512) (c : Fin 256), mk (ix2 r c) = if S + c < T + r then 1#1 else 0#1)
    {zb : FVec Ideal S512x256 .f32} (hz : ∀ (r : Fin 512) (c : Fin 256), zb (ix2 r c) = (z q k (T + r) (S + c) : EReal))
    {ab : FVec Ideal S512x256 .f32} (ha : ∀ (r : Fin 512) (c : Fin 256), ab (ix2 r c) = (a q k (T + r) (S + c) : EReal))
    {vb : Vec Ideal S256x128 .bf16} (hv : ∀ (c : Fin 256) (d : Fin 128), vb (ix2 c d) = (v (S + c) d : EReal))
    (r : Fin 512) (c : Fin 256) : k0_pay101 gb m22 gleft mk zb ab vb (ix2 r c) = (dz q k v g (T + r) (S + c) : EReal) := by
  pointwise [k0_pay101]
  have e : ∀ x : Fin 256, ab (ix2 r x) * ∑ y, gb (ix2 r y) * vb (ix2 x y) = (gg q k v g (T + r) (S + x) : EReal) := fun x => by
    rw [ha, dotp_val (hg r) (hv x), ← EReal.coe_mul, gg]
  exact dz_sel _ _ (hm r c) (dz_val (W := fun x => ab (ix2 r x) * ∑ y, gb (ix2 r y) * vb (ix2 x y)) (m := fun x => m22 (ix2 x c)) (hz r c) (hgleft r) e (fun x => h22 x c))

theorem pay102_apply {qb : Vec Ideal S512x128 .bf16} (hq : ∀ (r : Fin 512) (d : Fin 128), qb (ix2 r d) = (q (T + r) d : EReal))
    {gb : Vec Ideal S512x128 .bf16} (hg : ∀ (r : Fin 512) (d : Fin 128), gb (ix2 r d) = (g (T + r) d : EReal))
    {m22 : FVec Ideal S256x256 .bf16} (h22 : ∀ r c : Fin 256, m22 (ix2 r c) = (if (r : ℕ) < c then 1 else 0 : EReal))
    {gleft : FVec Ideal S512x1 .f32} (hgleft : ∀ r : Fin 512, gleft (ix2 r 0) = (gpre q k v g (T + r) S : EReal))
    {mk : IVec S512x256 1} (hm : ∀ (r : Fin 512) (c : Fin 256), mk (ix2 r c) = if S + c < T + r then 1#1 else 0#1)
    {zb : FVec Ideal S512x256 .f32} (hz : ∀ (r : Fin 512) (c : Fin 256), zb (ix2 r c) = (z q k (T + r) (S + c) : EReal))
    {ab : FVec Ideal S512x256 .f32} (ha : ∀ (r : Fin 512) (c : Fin 256), ab (ix2 r c) = (a q k (T + r) (S + c) : EReal))
    {vb : Vec Ideal S256x128 .bf16} (hv : ∀ (c : Fin 256) (d : Fin 128), vb (ix2 c d) = (v (S + c) d : EReal))
    {dkb : FVec Ideal S256x128 .f32} (hdk : ∀ (c : Fin 256) (d : Fin 128), dkb (ix2 c d) = (dk q k v g T (S + c) d : EReal))
    (c : Fin 256) (d : Fin 128) : k0_pay102 qb gb m22 gleft mk zb ab vb dkb (ix2 c d) = (dk q k v g (T + 512) (S + c) d : EReal) := by
  pointwise [k0_pay102]
  exact prod_val (f := fun t => dz q k v g t (S + c)) (h := fun t => q t d) (hdk c d) (fun r => pay101_apply hg h22 hgleft hm hz ha hv r c) (fun r => hq r d)

theorem pay103_apply {dvb : FVec Ideal S256x128 .f32} (hdv : ∀ (c : Fin 256) (d : Fin 128), dvb (ix2 c d) = (dv q k g T (S + c) d : EReal))
    (c : Fin 256) (d : Fin 128) : k0_pay103 (F := Ideal) dvb (ix2 c d) = (dv q k g T (S + c) d : EReal) := by
  pointwise [k0_pay103]
  exact hdv c d

theorem pay104_apply {ab : FVec Ideal S512x256 .f32} (ha : ∀ (r : Fin 512) (c : Fin 256), ab (ix2 r c) = (a q k (T + r) (S + c) : EReal))
    (r : Fin 512) (c : Fin 256) : k0_pay104 ab (ix2 r c) = (a q k (T + r) (S + c) : EReal) := by
  pointwise [k0_pay104]
  exact ha r c

theorem pay105_apply {gb : Vec Ideal S512x128 .bf16} (hg : ∀ (r : Fin 512) (d : Fin 128), gb (ix2 r d) = (g (T + r) d : EReal))
    {dvb : FVec Ideal S256x128 .f32} (hdv : ∀ (c : Fin 256) (d : Fin 128), dvb (ix2 c d) = (dv q k g T (S + c) d : EReal))
    {ab : FVec Ideal S512x256 .bf16} (hab : ∀ (r : Fin 512) (c : Fin 256), ab (ix2 r c) = (a q k (T + r) (S + c) : EReal))
    (c : Fin 256) (d : Fin 128) : k0_pay105 gb dvb ab (ix2 c d) = (dv q k g (T + 512) (S + c) d : EReal) := by
  pointwise [k0_pay105]
  exact prod_val (f := fun t => a q k t (S + c)) (h := fun t => g t d) (hdv c d) (fun r => hab r c) (fun r => hg r d)

theorem pay106_apply {dqb : FVec Ideal S512x128 .f32} (hdq : ∀ (r : Fin 512) (d : Fin 128), dqb (ix2 r d) = (dq q k v g S (T + r) d : EReal))
    {kb : Vec Ideal S256x128 .bf16} (hk : ∀ (c : Fin 256) (d : Fin 128), kb (ix2 c d) = (k (S + c) d : EReal))
    {dzb : FVec Ideal S512x256 .bf16} (hdz : ∀ (r : Fin 512) (c : Fin 256), dzb (ix2 r c) = (dz q k v g (T + r) (S + c) : EReal))
    (r : Fin 512) (d : Fin 128) : k0_pay106 dqb kb dzb (ix2 r d) = (dq q k v g (S + 256) (T + r) d : EReal) := by
  pointwise [k0_pay106]
  exact prod_val (f := fun s => dz q k v g (T + r) s) (h := fun s => k s d) (hdq r d) (hdz r) (fun c => hk c d)

theorem pay107_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay107 qb kb (ix2 r c) = (z q k (T + r) (S + c) : EReal) := by
  pointwise [k0_pay107]
  exact z_val (hq r) (hk c)

theorem pay108_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay108 qb kb (ix2 r c) = (sp (z q k (T + r) (S + c)) : EReal) := by
  pointwise [k0_pay108]
  rw [pay107_apply hq hk]; exact sp_val _

theorem pay109_apply {qb : Vec Ideal S512x128 .bf16} (hq : ∀ (r : Fin 512) (d : Fin 128), qb (ix2 r d) = (q (T + r) d : EReal))
    {kb : Vec Ideal S256x128 .bf16} (hk : ∀ (c : Fin 256) (d : Fin 128), kb (ix2 c d) = (k (S + c) d : EReal))
    (r : Fin 512) (c : Fin 256) : k0_pay109 qb kb (ix2 r c) = (lb q k (T + r) (S + c) : EReal) := by
  pointwise [k0_pay109]
  rw [pay107_apply hq hk, pay108_apply hq hk, lb_val, lb]

theorem pay110_apply {qb : Vec Ideal S512x128 .bf16} (hq : ∀ (r : Fin 512) (d : Fin 128), qb (ix2 r d) = (q (T + r) d : EReal))
    {tot : FVec Ideal S512x1 .f32} (htot : ∀ r : Fin 512, tot (ix2 r 0) = (lpre q k (T + r) 2048 : EReal))
    {m16 : FVec Ideal S256x256 .bf16} (h16 : ∀ r c : Fin 256, m16 (ix2 r c) = (if (r : ℕ) ≤ c then 1 else 0 : EReal))
    {left : FVec Ideal S512x1 .f32} (hleft : ∀ r : Fin 512, left (ix2 r 0) = (lpre q k (T + r) S : EReal))
    {mk : IVec S512x256 1} (hm : ∀ (r : Fin 512) (c : Fin 256), mk (ix2 r c) = if S + c < T + r then 1#1 else 0#1)
    {kb : Vec Ideal S256x128 .bf16} (hk : ∀ (c : Fin 256) (d : Fin 128), kb (ix2 c d) = (k (S + c) d : EReal))
    (r : Fin 512) (c : Fin 256) : k0_pay110 qb tot m16 left mk kb (ix2 r c) = ((lpre q k (T + r) 2048 - lpre q k (T + r) (S + c + 1) : ℝ) : EReal) := by
  pointwise [k0_pay110]
  simp only [select_mul, pay107_apply hq hk, pay108_apply hq hk, lu_val, htot, hleft, h16]
  have e : ∀ x : Fin 256, Scalar.select (mk (ix2 r x)) ((min (-z q k (T + r) (S + x)) 0 - sp (z q k (T + r) (S + x)) : ℝ) : EReal) 0 = (l1 q k (T + r) (S + x) : EReal) :=
    fun x => l1_sel _ _ (hm r x) rfl
  simp only [e]
  rw [sum_three (fun x => l1 q k (T + r) (S + x)) (fun x => (x : ℕ) ≤ c), ← EReal.coe_add, lpre, lpre, sum_incl, ← EReal.coe_sub, lpre]

theorem pay111_apply {mk : IVec S512x256 1} (hm : ∀ (r : Fin 512) (c : Fin 256), mk (ix2 r c) = if S + c < T + r then 1#1 else 0#1)
    {lbb : FVec Ideal S512x256 .f32} (hlb : ∀ (r : Fin 512) (c : Fin 256), lbb (ix2 r c) = (lb q k (T + r) (S + c) : EReal))
    {rb : FVec Ideal S512x256 .f32} (hrest : ∀ (r : Fin 512) (c : Fin 256), rb (ix2 r c) = ((lpre q k (T + r) 2048 - lpre q k (T + r) (S + c + 1) : ℝ) : EReal))
    (r : Fin 512) (c : Fin 256) : k0_pay111 mk lbb rb (ix2 r c) = (a q k (T + r) (S + c) : EReal) := by
  pointwise [k0_pay111]
  exact a_sel _ _ (hm r c) (by rw [hlb, hrest, ← EReal.coe_add, ex])

theorem pay112_apply {gb : Vec Ideal S512x128 .bf16} (hg : ∀ (r : Fin 512) (d : Fin 128), gb (ix2 r d) = (g (T + r) d : EReal))
    {m22 : FVec Ideal S256x256 .bf16} (h22 : ∀ r c : Fin 256, m22 (ix2 r c) = (if (r : ℕ) < c then 1 else 0 : EReal))
    {gleft : FVec Ideal S512x1 .f32} (hgleft : ∀ r : Fin 512, gleft (ix2 r 0) = (gpre q k v g (T + r) S : EReal))
    {mk : IVec S512x256 1} (hm : ∀ (r : Fin 512) (c : Fin 256), mk (ix2 r c) = if S + c < T + r then 1#1 else 0#1)
    {zb : FVec Ideal S512x256 .f32} (hz : ∀ (r : Fin 512) (c : Fin 256), zb (ix2 r c) = (z q k (T + r) (S + c) : EReal))
    {lbb : FVec Ideal S512x256 .f32} (hlb : ∀ (r : Fin 512) (c : Fin 256), lbb (ix2 r c) = (lb q k (T + r) (S + c) : EReal))
    {rb : FVec Ideal S512x256 .f32} (hrest : ∀ (r : Fin 512) (c : Fin 256), rb (ix2 r c) = ((lpre q k (T + r) 2048 - lpre q k (T + r) (S + c + 1) : ℝ) : EReal))
    {vb : Vec Ideal S256x128 .bf16} (hv : ∀ (c : Fin 256) (d : Fin 128), vb (ix2 c d) = (v (S + c) d : EReal))
    (r : Fin 512) (c : Fin 256) : k0_pay112 gb m22 gleft mk zb lbb rb vb (ix2 r c) = (dz q k v g (T + r) (S + c) : EReal) := by
  pointwise [k0_pay112]
  have e : ∀ x : Fin 256, k0_pay111 mk lbb rb (ix2 r x) * ∑ y, gb (ix2 r y) * vb (ix2 x y) = (gg q k v g (T + r) (S + x) : EReal) := fun x => by
    rw [pay111_apply hm hlb hrest, dotp_val (hg r) (hv x), ← EReal.coe_mul, gg]
  exact dz_sel _ _ (hm r c) (dz_val (W := fun x => k0_pay111 mk lbb rb (ix2 r x) * ∑ y, gb (ix2 r y) * vb (ix2 x y)) (m := fun x => m22 (ix2 x c)) (hz r c) (hgleft r) e (fun x => h22 x c))

theorem pay113_apply {qb : Vec Ideal S512x128 .bf16} (hq : ∀ (r : Fin 512) (d : Fin 128), qb (ix2 r d) = (q (T + r) d : EReal))
    {gb : Vec Ideal S512x128 .bf16} (hg : ∀ (r : Fin 512) (d : Fin 128), gb (ix2 r d) = (g (T + r) d : EReal))
    {m22 : FVec Ideal S256x256 .bf16} (h22 : ∀ r c : Fin 256, m22 (ix2 r c) = (if (r : ℕ) < c then 1 else 0 : EReal))
    {gleft : FVec Ideal S512x1 .f32} (hgleft : ∀ r : Fin 512, gleft (ix2 r 0) = (gpre q k v g (T + r) S : EReal))
    {mk : IVec S512x256 1} (hm : ∀ (r : Fin 512) (c : Fin 256), mk (ix2 r c) = if S + c < T + r then 1#1 else 0#1)
    {zb : FVec Ideal S512x256 .f32} (hz : ∀ (r : Fin 512) (c : Fin 256), zb (ix2 r c) = (z q k (T + r) (S + c) : EReal))
    {lbb : FVec Ideal S512x256 .f32} (hlb : ∀ (r : Fin 512) (c : Fin 256), lbb (ix2 r c) = (lb q k (T + r) (S + c) : EReal))
    {rb : FVec Ideal S512x256 .f32} (hrest : ∀ (r : Fin 512) (c : Fin 256), rb (ix2 r c) = ((lpre q k (T + r) 2048 - lpre q k (T + r) (S + c + 1) : ℝ) : EReal))
    {vb : Vec Ideal S256x128 .bf16} (hv : ∀ (c : Fin 256) (d : Fin 128), vb (ix2 c d) = (v (S + c) d : EReal))
    {dkb : FVec Ideal S256x128 .f32} (hdk : ∀ (c : Fin 256) (d : Fin 128), dkb (ix2 c d) = (dk q k v g T (S + c) d : EReal))
    (c : Fin 256) (d : Fin 128) : k0_pay113 qb gb m22 gleft mk zb lbb rb vb dkb (ix2 c d) = (dk q k v g (T + 512) (S + c) d : EReal) := by
  pointwise [k0_pay113]
  exact prod_val (f := fun t => dz q k v g t (S + c)) (h := fun t => q t d) (hdk c d) (fun r => pay112_apply hg h22 hgleft hm hz hlb hrest hv r c) (fun r => hq r d)

theorem pay1_apply {gb : Vec Ideal S512x128 .bf16} (hg : ∀ (r : Fin 512) (d : Fin 128), gb (ix2 r d) = (g (T + r) d : EReal))
    {ab : FVec Ideal S512x256 .f32} (ha : ∀ (r : Fin 512) (c : Fin 256), ab (ix2 r c) = (a q k (T + r) (S + c) : EReal))
    {dvb : FVec Ideal S256x128 .f32} (hdv : ∀ (c : Fin 256) (d : Fin 128), dvb (ix2 c d) = (dv q k g T (S + c) d : EReal))
    (c : Fin 256) (d : Fin 128) : k0_pay1 gb ab dvb (ix2 c d) = (dv q k g (T + 512) (S + c) d : EReal) := by
  pointwise [k0_pay1]
  exact prod_val (f := fun t => a q k t (S + c)) (h := fun t => g t d) (hdv c d) (fun r => ha r c) (fun r => hg r d)

theorem pay2_apply {dqb : FVec Ideal S512x128 .f32} (hdq : ∀ (r : Fin 512) (d : Fin 128), dqb (ix2 r d) = (dq q k v g S (T + r) d : EReal))
    {kb : Vec Ideal S256x128 .bf16} (hk : ∀ (c : Fin 256) (d : Fin 128), kb (ix2 c d) = (k (S + c) d : EReal))
    {dzb : FVec Ideal S512x256 .bf16} (hdz : ∀ (r : Fin 512) (c : Fin 256), dzb (ix2 r c) = (dz q k v g (T + r) (S + c) : EReal))
    (r : Fin 512) (d : Fin 128) : k0_pay2 dqb kb dzb (ix2 r d) = (dq q k v g (S + 256) (T + r) d : EReal) := by
  pointwise [k0_pay2]
  exact prod_val (f := fun s => dz q k v g (T + r) s) (h := fun s => k s d) (hdq r d) (hdz r) (fun c => hk c d)

end Values

end Cert.KernelIdeal.Hand

end
-- ==== Proof.Mem.lean ====
module

public import proofs.«01_k».proof.Proof.Block
public import proofs.«01_k».proof.Proof.Gen.KernelIdeal.Loops
public import Idealize.ShloMosaic.Lib.WritesUnit
public import Idealize.ShloMosaic.Lib.VecWindow

/-! The two-headed blocks in memory: what a store of one head's rows leaves, and what a load of them finds. -/

@[expose] public section

set_option maxRecDepth 16384

noncomputable section

namespace Cert.KernelIdeal.Hand

open Idealize.ShloMosaic Idealize.ShloMosaic.TcCoe
open Idealize.ShloMosaic.Pipeline
open Cert.KernelIdeal Cert.KernelIdeal.Gen Stick

/-- The four real matrices of one head. -/
structure Head where
  /-- queries -/
  q : ℕ → ℕ → ℝ
  /-- keys -/
  k : ℕ → ℕ → ℝ
  /-- values -/
  v : ℕ → ℕ → ℝ
  /-- gradient of the output -/
  g : ℕ → ℕ → ℝ

/-- The partial gradient of the keys from the first `n` rows. -/
def Head.dk (A : Head) (n : ℕ) : ℕ → ℕ → ℝ := Stick.dk A.q A.k A.v A.g n
/-- The partial gradient of the values from the first `n` rows. -/
def Head.dv (A : Head) (n : ℕ) : ℕ → ℕ → ℝ := Stick.dv A.q A.k A.g n

/-- Column `d` of the first head. -/
abbrev cl (d : Fin 128) : Fin 256 := ⟨d, by omega⟩
/-- Column `d` of the second head. -/
abbrev cr (d : Fin 128) : Fin 256 := ⟨128 + d, by omega⟩

/-- Two heads side by side. -/
def Cols (X : S2048x256.Idx → EReal) (f0 f1 : ℕ → ℕ → ℝ) : Prop :=
  ∀ (s : Fin 2048) (d : Fin 128), X (ix2 s (cl d)) = (f0 s d : EReal) ∧ X (ix2 s (cr d)) = (f1 s d : EReal)

/-- The new values below row `n`, the old ones from there on. -/
def mix (n : ℕ) (f f' : ℕ → ℕ → ℝ) : ℕ → ℕ → ℝ := fun s d => if s < n then f' s d else f s d

theorem mix_zero (f f' : ℕ → ℕ → ℝ) : mix 0 f f' = f := by
  funext s d; simp [mix]

theorem mix_ge {n s : ℕ} (h : n ≤ s) (f f' : ℕ → ℕ → ℝ) (d : ℕ) : mix n f f' s d = f s d := by
  simp [mix, Nat.not_lt.mpr h]

variable {κ : Kind} {sp : Space}

theorem store0 (v : View sig κ sp S2048x256 .f32) (f : v.ty.Contents (Elt Ideal)) (L : List (View.Piece (Elt Ideal) S2048x256 .f32))
    {off : Fin 2 → ℕ} {n : ℕ} (ho : off = ![n, 0]) (inb : ∀ a, off a + S256x128.size a ≤ S2048x256.size a)
    (w : S256x128.Idx → EReal) {f0 f0' f1 : ℕ → ℕ → ℝ} (hw : ∀ (c : Fin 256) (d : Fin 128), w (ix2 c d) = (f0' (n + c) d : EReal))
    (h : Cols (v.read (Elt Ideal) (v.writes (Elt Ideal) f L)) (mix n f0 f0') f1) :
    Cols (v.read (Elt Ideal) (v.writes (Elt Ideal) f (⟨Rect.unit (s := S2048x256) off S256x128.size inb, w⟩ :: L))) (mix (n + 256) f0 f0') f1 := by
  intro s d
  constructor
  · by_cases hs : n ≤ s.val ∧ s.val < n + 256
    · rw [View.read_writes_cons_unit_of_mem v f inb w L (ix2 s (cl d)) (ix2 (⟨s - n, by omega⟩ : Fin 256) d) ho
        (Fin.forall_fin_two.mpr ⟨by show s.val = n + (s.val - n); omega, by show d.val = 0 + d.val; omega⟩), hw]
      have : n + (s.val - n) = s.val := by omega
      simp only [this, mix, if_pos hs.2]
    · rw [View.read_writes_cons_unit_of_not_mem v f inb w L (ix2 s (cl d)) ho 0
        (by show s.val < n ∨ n + 256 ≤ s.val; omega), (h s d).1]
      unfold mix
      by_cases hn : s.val < n
      · rw [if_pos hn, if_pos (by omega)]
      · rw [if_neg hn, if_neg (by omega)]
  · rw [View.read_writes_cons_unit_of_not_mem v f inb w L (ix2 s (cr d)) ho 1
        (by show 128 + d.val < 0 ∨ 0 + 128 ≤ 128 + d.val; omega), (h s d).2]

theorem store1 (v : View sig κ sp S2048x256 .f32) (f : v.ty.Contents (Elt Ideal)) (L : List (View.Piece (Elt Ideal) S2048x256 .f32))
    {off : Fin 2 → ℕ} {n : ℕ} (ho : off = ![n, 128]) (inb : ∀ a, off a + S256x128.size a ≤ S2048x256.size a)
    (w : S256x128.Idx → EReal) {f0 f1 f1' : ℕ → ℕ → ℝ} (hw : ∀ (c : Fin 256) (d : Fin 128), w (ix2 c d) = (f1' (n + c) d : EReal))
    (h : Cols (v.read (Elt Ideal) (v.writes (Elt Ideal) f L)) f0 (mix n f1 f1')) :
    Cols (v.read (Elt Ideal) (v.writes (Elt Ideal) f (⟨Rect.unit (s := S2048x256) off S256x128.size inb, w⟩ :: L))) f0 (mix (n + 256) f1 f1') := by
  intro s d
  constructor
  · rw [View.read_writes_cons_unit_of_not_mem v f inb w L (ix2 s (cl d)) ho 1
        (by show d.val < 128 ∨ 128 + 128 ≤ d.val; omega), (h s d).1]
  · by_cases hs : n ≤ s.val ∧ s.val < n + 256
    · rw [View.read_writes_cons_unit_of_mem v f inb w L (ix2 s (cr d)) (ix2 (⟨s - n, by omega⟩ : Fin 256) d) ho
        (Fin.forall_fin_two.mpr ⟨by show s.val = n + (s.val - n); omega, by show 128 + d.val = 128 + d.val; omega⟩), hw]
      have : n + (s.val - n) = s.val := by omega
      simp only [this, mix, if_pos hs.2]
    · rw [View.read_writes_cons_unit_of_not_mem v f inb w L (ix2 s (cr d)) ho 0
        (by show s.val < n ∨ n + 256 ≤ s.val; omega), (h s d).2]
      unfold mix
      by_cases hn : s.val < n
      · rw [if_pos hn, if_pos (by omega)]
      · rw [if_neg hn, if_neg (by omega)]

theorem load0 {e : EltTy} (he : Elt Ideal e = EReal) (v : View sig κ sp S2048x256 e) (f : v.ty.Contents (Elt Ideal))
    {off : Fin 2 → ℕ} {n : ℕ} (ho : off = ![n, 0]) (inb : ∀ a, off a + S256x128.size a ≤ S2048x256.size a) {f0 f1 : ℕ → ℕ → ℝ}
    (h : Cols (fun x => cast he (v.read (Elt Ideal) f x)) f0 f1) (c : Fin 256) (d : Fin 128) :
    cast he (v.readAt (Elt Ideal) (Rect.unit (s := S2048x256) off S256x128.size inb).toLoadRect f (ix2 c d)) = (f0 (n + c) d : EReal) := by
  have hb : n + 256 ≤ 2048 := by subst ho; exact inb 0
  rw [View.readAt_apply]
  have hx : ((Rect.unit (s := S2048x256) off S256x128.size inb).toLoadRect).idx (ix2 c d) = ix2 (⟨n + c, by omega⟩ : Fin 2048) (cl d) := by
    subst ho
    funext a
    refine Fin.ext ?_
    fin_cases a
    · show n + 1 * c.val = n + c.val; omega
    · show 0 + 1 * d.val = d.val; omega
  rw [hx]
  exact (h ⟨n + c, by omega⟩ d).1

theorem load1 {e : EltTy} (he : Elt Ideal e = EReal) (v : View sig κ sp S2048x256 e) (f : v.ty.Contents (Elt Ideal))
    {off : Fin 2 → ℕ} {n : ℕ} (ho : off = ![n, 128]) (inb : ∀ a, off a + S256x128.size a ≤ S2048x256.size a) {f0 f1 : ℕ → ℕ → ℝ}
    (h : Cols (fun x => cast he (v.read (Elt Ideal) f x)) f0 f1) (c : Fin 256) (d : Fin 128) :
    cast he (v.readAt (Elt Ideal) (Rect.unit (s := S2048x256) off S256x128.size inb).toLoadRect f (ix2 c d)) = (f1 (n + c) d : EReal) := by
  have hb : n + 256 ≤ 2048 := by subst ho; exact inb 0
  rw [View.readAt_apply]
  have hx : ((Rect.unit (s := S2048x256) off S256x128.size inb).toLoadRect).idx (ix2 c d) = ix2 (⟨n + c, by omega⟩ : Fin 2048) (cr d) := by
    subst ho
    funext a
    refine Fin.ext ?_
    fin_cases a
    · show n + 1 * c.val = n + c.val; omega
    · show 128 + 1 * d.val = 128 + d.val; omega
  rw [hx]
  exact (h ⟨n + c, by omega⟩ d).2

end Cert.KernelIdeal.Hand

end

end
-- ==== Proof.Trip.lean ====
module

public import proofs.«01_k».proof.Proof.Mem

/-! The loop over the unmasked key blocks: one trip, and the state after any number of trips. -/

@[expose] public section

set_option maxRecDepth 16384

noncomputable section

namespace Cert.KernelIdeal.Hand

open Idealize.ShloMosaic Idealize.ShloMosaic.TcCoe Idealize.ShloMosaic.Tactic
open Idealize.ShloMosaic.Pipeline
open Cert.KernelIdeal Cert.KernelIdeal.Gen Stick

/-- What a grid point has read before the loop: the query rows, the gradient rows, the totals and the two triangles. -/
structure Rows (A B : Head) (T : ℕ) (q0 q1 g0 g1 : Vec Ideal S512x128 .bf16) (t0 t1 : FVec Ideal S512x1 .f32)
    (le lt : FVec Ideal S256x256 .bf16) : Prop where
  q0 : ∀ (r : Fin 512) (d : Fin 128), q0 (ix2 r d) = (A.q (T + r) d : EReal)
  q1 : ∀ (r : Fin 512) (d : Fin 128), q1 (ix2 r d) = (B.q (T + r) d : EReal)
  g0 : ∀ (r : Fin 512) (d : Fin 128), g0 (ix2 r d) = (A.g (T + r) d : EReal)
  g1 : ∀ (r : Fin 512) (d : Fin 128), g1 (ix2 r d) = (B.g (T + r) d : EReal)
  t0 : ∀ r : Fin 512, t0 (ix2 r 0) = (lpre A.q A.k (T + r) 2048 : EReal)
  t1 : ∀ r : Fin 512, t1 (ix2 r 0) = (lpre B.q B.k (T + r) 2048 : EReal)
  le : ∀ r c : Fin 256, le (ix2 r c) = (if (r : ℕ) ≤ c then 1 else 0 : EReal)
  lt : ∀ r c : Fin 256, lt (ix2 r c) = (if (r : ℕ) < c then 1 else 0 : EReal)

/-- The carried value of the loop. -/
abbrev Acc := FVec Ideal S512x1 .f32 × FVec Ideal S512x1 .f32 × FVec Ideal S512x128 .f32 × FVec Ideal S512x1 .f32 × FVec Ideal S512x1 .f32 × FVec Ideal S512x128 .f32

/-- The carried value once the keys below `S` are done. -/
structure Carry (A B : Head) (T S : ℕ) (acc : Acc) : Prop where
  l0 : ∀ r : Fin 512, acc.1 (ix2 r 0) = (lpre A.q A.k (T + r) S : EReal)
  w0 : ∀ r : Fin 512, acc.2.1 (ix2 r 0) = (gpre A.q A.k A.v A.g (T + r) S : EReal)
  d0 : ∀ (r : Fin 512) (d : Fin 128), acc.2.2.1 (ix2 r d) = (dq A.q A.k A.v A.g S (T + r) d : EReal)
  l1 : ∀ r : Fin 512, acc.2.2.2.1 (ix2 r 0) = (lpre B.q B.k (T + r) S : EReal)
  w1 : ∀ r : Fin 512, acc.2.2.2.2.1 (ix2 r 0) = (gpre B.q B.k B.v B.g (T + r) S : EReal)
  d1 : ∀ (r : Fin 512) (d : Fin 128), acc.2.2.2.2.2 (ix2 r d) = (dq B.q B.k B.v B.g S (T + r) d : EReal)

/-- The gradients of the keys, with the rows below `n0` (`n1` for the second head) already brought up to date. -/
def DK (A B : Head) (T n0 n1 : ℕ) (X : S2048x256.Idx → EReal) : Prop :=
  Cols X (mix n0 (A.dk T) (A.dk (T + 512))) (mix n1 (B.dk T) (B.dk (T + 512)))

/-- The gradients of the values, likewise. -/
def DV (A B : Head) (T n0 n1 : ℕ) (X : S2048x256.Idx → EReal) : Prop :=
  Cols X (mix n0 (A.dv T) (A.dv (T + 512))) (mix n1 (B.dv T) (B.dv (T + 512)))

variable {A B : Head} {T : ℕ}
variable (𝒱 : Variants) (c : Dev nD) (bd : Option 𝒱.V) (i : grid0.Coords) (arg2 : Memref sig .tc .vmem S512x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S512x256 .f32) (harg7 : arg7.IsWhole) (arg8 : Memref sig .tc .vmem S2048x256 .f32) (harg8 : arg8.IsWhole) (arg9 : Memref sig .tc .vmem S2048x256 .f32) (harg9 : arg9.IsWhole) (arg1 : BitVec 32) (v3 : Vec Ideal S512x128 .bf16) (v4 : Vec Ideal S512x128 .bf16) (v5 : Vec Ideal S512x128 .bf16) (v6 : Vec Ideal S512x128 .bf16) (v8 : FVec Ideal S512x1 .f32) (v10 : FVec Ideal S512x1 .f32) (v16 : FVec Ideal S256x256 .bf16) (v22 : FVec Ideal S256x256 .bf16) (v23 : FVec Ideal S512x1 .f32) (v25 : FVec Ideal S512x128 .f32) (v27 : BitVec 32) (c0_i32_15 : BitVec 32) (v33 : BitVec 32)
variable (X3 : BufTy.Contents (Elt Ideal) arg3.view.ty) (X4 : BufTy.Contents (Elt Ideal) arg4.view.ty)

theorem trip_step (hR : Rows A B T v3 v4 v5 v6 v8 v10 v16 v22)
    (h3 : Cols (arg3.view.read (Elt Ideal) X3) A.k B.k) (h4 : Cols (arg4.view.read (Elt Ideal) X4) A.v B.v)
    (k : Fin (k0_t1_loop i).trips) (hS : 256 * k.val + 256 ≤ T) (acc : Acc)
    (f8 : BufTy.Contents (Elt Ideal) arg8.view.ty) (f9 : BufTy.Contents (Elt Ideal) arg9.view.ty)
    (hc : Carry A B T (256 * k.val) acc)
    (h8 : DK A B T (256 * k.val) (256 * k.val) (arg8.view.read (Elt Ideal) f8))
    (h9 : DV A B T (256 * k.val) (256 * k.val) (arg9.view.read (Elt Ideal) f9)) :
    Carry A B T (256 * k.val + 256) (tripR_k0_t1 𝒱 c bd i arg2 harg2 arg3 harg3 arg4 harg4 arg5 harg5 arg6 harg6 arg7 harg7 arg8 harg8 arg9 harg9 arg1 v3 v4 v5 v6 v8 v10 v16 v22 v23 v25 v27 c0_i32_15 v33 X3 X4 k acc f8 f9)
    ∧ DK A B T (256 * k.val + 256) (256 * k.val + 256) (arg8.view.read (Elt Ideal) (arg8.view.writes (Elt Ideal) f8 (tripL_k0_t1 𝒱 c bd i arg2 harg2 arg3 harg3 arg4 harg4 arg5 harg5 arg6 harg6 arg7 harg7 arg8 harg8 arg9 harg9 arg1 v3 v4 v5 v6 v8 v10 v16 v22 v23 v25 v27 c0_i32_15 v33 X3 X4 k acc f8 f9).1))
    ∧ DV A B T (256 * k.val + 256) (256 * k.val + 256) (arg9.view.read (Elt Ideal) (arg9.view.writes (Elt Ideal) f9 (tripL_k0_t1 𝒱 c bd i arg2 harg2 arg3 harg3 arg4 harg4 arg5 harg5 arg6 harg6 arg7 harg7 arg8 harg8 arg9 harg9 arg1 v3 v4 v5 v6 v8 v10 v16 v22 v23 v25 v27 c0_i32_15 v33 X3 X4 k acc f8 f9).2)) := by
  have e1 := k0_off1_eq i k
  have e2 := k0_off2_eq i k
  have hk0 := load0 (e := .bf16) rfl arg3.view X3 e1 (k0_off1_inb i k) h3
  have hk1 := load1 (e := .bf16) rfl arg3.view X3 e2 (k0_off2_inb i k) h3
  have hv0 := load0 (e := .bf16) rfl arg4.view X4 e1 (k0_off1_inb i k) h4
  have hv1 := load1 (e := .bf16) rfl arg4.view X4 e2 (k0_off2_inb i k) h4
  have hdk0 := load0 (e := .f32) rfl arg8.view f8 e1 (k0_off1_inb i k) h8
  have hdk1 := load1 (e := .f32) rfl arg8.view f8 e2 (k0_off2_inb i k) h8
  have hdv0 := load0 (e := .f32) rfl arg9.view f9 e1 (k0_off1_inb i k) h9
  have hdv1 := load1 (e := .f32) rfl arg9.view f9 e2 (k0_off2_inb i k) h9
  simp only [mix_ge (Nat.le_add_right _ _)] at hdk0 hdk1 hdv0 hdv1
  simp only [cast_eq] at hk0 hk1 hv0 hv1 hdk0 hdk1 hdv0 hdv1
  unfold tripR_k0_t1 tripL_k0_t1
  unfold trip_k0_t1
  dsimp only
  sl_unfold_words
  -- the first head's block
  have z0 := pay3_apply hR.q0 hk0
  have l0 := pay5_apply hS hR.q0 hk0
  have a0 := pay6_apply hS hR.q0 hR.t0 hR.le hc.l0 hk0
  have p0 := pay7_apply hR.g0 hv0
  have w0 := pay8_apply a0 p0
  have y0 := pay9_apply hS hR.lt hc.w0 z0 a0 p0
  -- the second head's block
  have z1 := pay15_apply hR.q1 hk1
  have l1 := pay17_apply hS hR.q1 hk1
  have a1 := pay18_apply hS hR.q1 hR.t1 hR.le hc.l1 hk1
  have w1 := pay20_apply hS hR.g1 a1 hv1
  have y1 := pay21_apply hS hR.g1 hR.lt hc.w1 z1 a1 hv1
  have b1 := pay24_apply hS a1
  refine ⟨⟨pay12_apply hc.l0 l0, pay13_apply hc.w0 w0, pay14_apply hc.d0 hk0 y0,
    pay56_apply hc.l1 l1, pay57_apply hc.w1 w1, pay58_apply hc.d1 hk1 y1⟩, ?_, ?_⟩
  · refine store1 _ _ _ e2 _ _ (pay22_apply hS hR.q1 hR.g1 hR.lt hc.w1 z1 a1 hv1 hdk1) ?_
    refine store0 _ _ _ e1 _ _ (pay10_apply hS hR.q0 hR.lt hc.w0 z0 a0 p0 hdk0) ?_
    exact h8
  · refine store1 _ _ _ e2 _ _ (pay55_apply hR.g1 (pay23_apply hdv1) b1) ?_
    refine store0 _ _ _ e1 _ _ (pay11_apply hR.g0 a0 hdv0) ?_
    exact h9

theorem st_step (hR : Rows A B T v3 v4 v5 v6 v8 v10 v16 v22)
    (h3 : Cols (arg3.view.read (Elt Ideal) X3) A.k B.k) (h4 : Cols (arg4.view.read (Elt Ideal) X4) A.v B.v)
    (G8 : BufTy.Contents (Elt Ideal) arg8.view.ty) (G9 : BufTy.Contents (Elt Ideal) arg9.view.ty) (init : Acc)
    (hc : Carry A B T 0 init) (h8 : DK A B T 0 0 (arg8.view.read (Elt Ideal) G8))
    (h9 : DV A B T 0 0 (arg9.view.read (Elt Ideal) G9)) (n : ℕ) (hn : n ≤ (k0_t1_loop i).trips) (hT : 256 * n ≤ T) :
    Carry A B T (256 * n) (st_k0_t1 𝒱 c bd i arg2 harg2 arg3 harg3 arg4 harg4 arg5 harg5 arg6 harg6 arg7 harg7 arg8 harg8 arg9 harg9 arg1 v3 v4 v5 v6 v8 v10 v16 v22 v23 v25 v27 c0_i32_15 v33 X3 X4 G8 G9 init n).1
    ∧ DK A B T (256 * n) (256 * n) (arg8.view.read (Elt Ideal) (arg8.view.writes (Elt Ideal) G8 (st_k0_t1 𝒱 c bd i arg2 harg2 arg3 harg3 arg4 harg4 arg5 harg5 arg6 harg6 arg7 harg7 arg8 harg8 arg9 harg9 arg1 v3 v4 v5 v6 v8 v10 v16 v22 v23 v25 v27 c0_i32_15 v33 X3 X4 G8 G9 init n).2.1))
    ∧ DV A B T (256 * n) (256 * n) (arg9.view.read (Elt Ideal) (arg9.view.writes (Elt Ideal) G9 (st_k0_t1 𝒱 c bd i arg2 harg2 arg3 harg3 arg4 harg4 arg5 harg5 arg6 harg6 arg7 harg7 arg8 harg8 arg9 harg9 arg1 v3 v4 v5 v6 v8 v10 v16 v22 v23 v25 v27 c0_i32_15 v33 X3 X4 G8 G9 init n).2.2)) := by
  induction n with
  | zero => exact ⟨hc, h8, h9⟩
  | succ n ih =>
    obtain ⟨c', h8', h9'⟩ := ih (by omega) (by omega)
    have := st_k0_t1_succ (F := Ideal) 𝒱 c bd i arg2 harg2 arg3 harg3 arg4 harg4 arg5 harg5 arg6 harg6 arg7 harg7 arg8 harg8 arg9 harg9 arg1 v3 v4 v5 v6 v8 v10 v16 v22 v23 v25 v27 c0_i32_15 v33 X3 X4 G8 G9 init ⟨n, hn⟩
    rw [this]
    dsimp only
    rw [View.writes_append, View.writes_append]
    exact trip_step 𝒱 c bd i arg2 harg2 arg3 harg3 arg4 harg4 arg5 harg5 arg6 harg6 arg7 harg7 arg8 harg8 arg9 harg9 arg1 v3 v4 v5 v6 v8 v10 v16 v22 v23 v25 v27 c0_i32_15 v33 X3 X4 hR h3 h4 ⟨n, hn⟩ (by show 256 * n + 256 ≤ T; omega) _ _ _ c' h8' h9'

end Cert.KernelIdeal.Hand

end

end
-- ==== Proof.Parts.lean ====
module

public import proofs.«01_k».proof.Proof.Trip
public import proofs.«01_k».proof.Proof.Gen.KernelIdeal.Frame

/-! What a grid point reads from its blocks, and the closed forms of its words and offsets. -/

@[expose] public section

set_option maxRecDepth 16384

noncomputable section

namespace Cert.KernelIdeal.Hand

open Idealize.ShloMosaic Idealize.ShloMosaic.TcCoe Idealize.ShloMosaic.Tactic
open Idealize.ShloMosaic.Pipeline
open Cert.KernelIdeal Cert.KernelIdeal.Gen Stick

/-- Rows of two heads side by side, 512 at a time from row `T`. -/
def Tile (X : S512x256.Idx → EReal) (T : ℕ) (f0 f1 : ℕ → ℕ → ℝ) : Prop :=
  ∀ (r : Fin 512) (d : Fin 128), X (ix2 r (cl d)) = (f0 (T + r) d : EReal) ∧ X (ix2 r (cr d)) = (f1 (T + r) d : EReal)

theorem half0 {e : EltTy} (m : Memref sig .tc .vmem S512x256 e) (h : m.IsWhole) (x : Vec Ideal S512x256 e)
    (inb : ∀ a, (![0, 0] : Fin 2 → ℕ) a + S512x128.size a ≤ S512x256.size a) (r : Fin 512) (d : Fin 128) :
    m.view.readAt (Elt Ideal) (Rect.unit (s := S512x256) ![0, 0] S512x128.size inb).toLoadRect (h.unread x) (ix2 r d) = x (ix2 r (cl d)) := by
  rw [View.readAt_apply, h.read_unread]
  congr 1
  funext a
  refine Fin.ext ?_
  fin_cases a
  · show 0 + 1 * r.val = r.val; omega
  · show 0 + 1 * d.val = d.val; omega

theorem half1 {e : EltTy} (m : Memref sig .tc .vmem S512x256 e) (h : m.IsWhole) (x : Vec Ideal S512x256 e)
    (inb : ∀ a, (![0, 128] : Fin 2 → ℕ) a + S512x128.size a ≤ S512x256.size a) (r : Fin 512) (d : Fin 128) :
    m.view.readAt (Elt Ideal) (Rect.unit (s := S512x256) ![0, 128] S512x128.size inb).toLoadRect (h.unread x) (ix2 r d) = x (ix2 r (cr d)) := by
  rw [View.readAt_apply, h.read_unread]
  congr 1
  funext a
  refine Fin.ext ?_
  fin_cases a
  · show 0 + 1 * r.val = r.val; omega
  · show 128 + 1 * d.val = 128 + d.val; omega

theorem tot0 (m : Memref sig .tc .vmem S512x256 .f32) (h : m.IsWhole) (x : Vec Ideal S512x256 .f32)
    (inb : ∀ a, (![0, 0] : Fin 2 → ℕ) a + S512x1.size a ≤ S512x256.size a) (r : Fin 512) :
    k0_pay49 (m.view.readAt (Elt Ideal) (Rect.unit (s := S512x256) ![0, 0] S512x1.size inb).toLoadRect (h.unread x)) (ix2 r 0) = x (ix2 r (cl 0)) := by
  pointwise [k0_pay49]
  rw [View.readAt_apply, h.read_unread]
  congr 1
  funext a
  refine Fin.ext ?_
  fin_cases a
  · show 0 + 1 * r.val = r.val; omega
  · rfl

theorem tot1 (m : Memref sig .tc .vmem S512x256 .f32) (h : m.IsWhole) (x : Vec Ideal S512x256 .f32)
    (inb : ∀ a, (![0, 128] : Fin 2 → ℕ) a + S512x1.size a ≤ S512x256.size a) (r : Fin 512) :
    k0_pay50 (m.view.readAt (Elt Ideal) (Rect.unit (s := S512x256) ![0, 128] S512x1.size inb).toLoadRect (h.unread x)) (ix2 r 0) = x (ix2 r (cr 0)) := by
  pointwise [k0_pay50]
  rw [View.readAt_apply, h.read_unread]
  congr 1
  funext a
  refine Fin.ext ?_
  fin_cases a
  · show 0 + 1 * r.val = r.val; omega
  · rfl

/-- The first word of the row blocks. -/
theorem word_row : ∀ i : grid0.Coords, Scalar.muli (BitVec.ofNat 32 (i 1).val) 512#32 = BitVec.ofNat 32 (512 * (i 1).val) := by decide +kernel

/-- The first key of the first masked block. -/
theorem word_key0 : ∀ i : grid0.Coords, Scalar.muli (Scalar.addi (Scalar.addi 0#32 (Scalar.muli (BitVec.ofNat 32 (i 1).val) 2#32)) 0#32) 256#32
    = BitVec.ofNat 32 (512 * (i 1).val) := by decide +kernel

/-- The first key of the second masked block. -/
theorem word_key1 : ∀ i : grid0.Coords, Scalar.muli (Scalar.addi (Scalar.addi 0#32 (Scalar.muli (BitVec.ofNat 32 (i 1).val) 2#32)) 1#32) 256#32
    = BitVec.ofNat 32 (512 * (i 1).val + 256) := by decide +kernel

theorem trips1 : ∀ i : grid0.Coords, (k0_t1_loop i).trips = 2 * (i 1).val := by decide +kernel

theorem trips2 : ∀ i : grid0.Coords, (k0_t2_loop i).trips = 0 := by decide +kernel

theorem row_lt : ∀ i : grid0.Coords, 512 * (i 1).val + 512 ≤ 2048 := by decide +kernel

theorem off50 (i : grid0.Coords) : k0_off5 i 0#32 = ![512 * (i 1).val, 0] := k0_off5_eq i 0
theorem off51 (i : grid0.Coords) : k0_off5 i 1#32 = ![512 * (i 1).val + 256, 0] := k0_off5_eq i 1
theorem off60 (i : grid0.Coords) : k0_off6 i 0#32 = ![512 * (i 1).val, 128] := k0_off6_eq i 0
theorem off61 (i : grid0.Coords) : k0_off6 i 1#32 = ![512 * (i 1).val + 256, 128] := k0_off6_eq i 1

theorem carry_init (A B : Head) (T : ℕ) :
    Carry A B T 0 (k0_pay53 (F := Ideal), k0_pay53 (F := Ideal), k0_pay54 (F := Ideal), k0_pay53 (F := Ideal), k0_pay53 (F := Ideal), k0_pay54 (F := Ideal)) := by
  have e1 : ∀ r : Fin 512, k0_pay53 (F := Ideal) (ix2 r 0) = (0 : EReal) := fun r => by
    pointwise [k0_pay53]
  have e2 : ∀ (r : Fin 512) (d : Fin 128), k0_pay54 (F := Ideal) (ix2 r d) = (0 : EReal) := fun r d => by
    pointwise [k0_pay54]
  constructor <;> intros <;> dsimp only <;> first | rw [e1] | rw [e2]
  all_goals simp [lpre, gpre, dq]

theorem zero85 (r : Fin 512) (c : Fin 256) : k0_pay85 (F := Ideal) (ix2 r c) = (0 : EReal) := by
  pointwise [k0_pay85]

theorem zero_const (r : Fin 512) (c : Fin 256) : constant (F := Ideal) S512x256 FTy.f32 0#32 (ix2 r c) = (0 : EReal) :=
  Ideal.ofBits_zero_f32

theorem one_const : FloatOps.ofBits (F := Ideal) FTy.f32 1065353216#32 = (1 : EReal) := Ideal.ofBits_one_f32

theorem key_word (r : Fin 512) (c : Fin 256) : iota Kind.tc S512x256 32 [1] iota_S512x256_d1_w32 (ix2 r c) = BitVec.ofNat 32 c := by
  pointwise

end Cert.KernelIdeal.Hand

end

end
-- ==== Proof.BodyA.lean ====
module

public import proofs.«01_k».proof.Proof.Parts
public import proofs.«01_k».proof.Proof.Gen.KernelIdeal.Frame

/-! A grid point which starts from cleared gradients. -/

@[expose] public section

set_option maxRecDepth 16384

noncomputable section

namespace Cert.KernelIdeal.Hand

open Idealize.ShloMosaic Idealize.ShloMosaic.TcCoe Idealize.ShloMosaic.Tactic
open Idealize.ShloMosaic.Pipeline
open Cert.KernelIdeal Cert.KernelIdeal.Gen Stick

theorem clear47 (m : Memref sig .tc .vmem S2048x256 .f32) (A B : Head) :
    Cols (m.view.read (Elt Ideal) (m.view.writes (Elt Ideal) m.view.junk [⟨Rect.unit (s := S2048x256) ![0, 0] S2048x256.size inb_S2048x256_S2048x256_0_0, k0_pay47 (F := Ideal)⟩]))
      (A.dk 0) (B.dk 0) := by
  have h : ∀ y : S2048x256.Idx, m.view.read (Elt Ideal) (m.view.writes (Elt Ideal) m.view.junk [⟨Rect.unit (s := S2048x256) ![0, 0] S2048x256.size inb_S2048x256_S2048x256_0_0, k0_pay47 (F := Ideal)⟩]) y = (0 : EReal) := fun y => by
    refine (View.read_writes_cons_unit_of_mem _ _ _ _ _ y y rfl
      (Fin.forall_fin_two.mpr ⟨by show (y 0).val = 0 + (y 0).val; omega, by show (y 1).val = 0 + (y 1).val; omega⟩)).trans ?_
    show Ideal.ofBits .f32 0#32 = 0
    exact Ideal.ofBits_zero_f32
  intro s d
  rw [h, h]
  simp [Head.dk, Stick.dk]

theorem clear48 (m : Memref sig .tc .vmem S2048x256 .f32) (A B : Head) :
    Cols (m.view.read (Elt Ideal) (m.view.writes (Elt Ideal) m.view.junk [⟨Rect.unit (s := S2048x256) ![0, 0] S2048x256.size inb_S2048x256_S2048x256_0_0, k0_pay48 (F := Ideal)⟩]))
      (A.dv 0) (B.dv 0) := by
  have h : ∀ y : S2048x256.Idx, m.view.read (Elt Ideal) (m.view.writes (Elt Ideal) m.view.junk [⟨Rect.unit (s := S2048x256) ![0, 0] S2048x256.size inb_S2048x256_S2048x256_0_0, k0_pay48 (F := Ideal)⟩]) y = (0 : EReal) := fun y => by
    refine (View.read_writes_cons_unit_of_mem _ _ _ _ _ y y rfl
      (Fin.forall_fin_two.mpr ⟨by show (y 0).val = 0 + (y 0).val; omega, by show (y 1).val = 0 + (y 1).val; omega⟩)).trans ?_
    show Ideal.ofBits .f32 0#32 = 0
    exact Ideal.ofBits_zero_f32
  intro s d
  rw [h, h]
  simp [Head.dv, Stick.dv]

set_option maxHeartbeats 4000000 in
theorem body_A {A B : Head} {T : ℕ} (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S512x256 .f32) (harg7 : arg7.IsWhole) (arg8 : Memref sig .tc .vmem S2048x256 .f32) (harg8 : arg8.IsWhole) (arg9 : Memref sig .tc .vmem S2048x256 .f32) (harg9 : arg9.IsWhole) (hc0 : cond0_0 i)
    (x0 : Vec Ideal S512x256 .bf16) (x1 : Vec Ideal S2048x256 .bf16) (x2 : Vec Ideal S2048x256 .bf16) (x3 : Vec Ideal S512x256 .bf16) (x4 : Vec Ideal S512x256 .f32)
    (hT : T = 512 * (i 1).val) (hx0 : Tile x0 T A.q B.q) (hx1 : Cols x1 A.k B.k) (hx2 : Cols x2 A.v B.v) (hx3 : Tile x3 T A.g B.g)
    (hx4 : Tile x4 T (fun t _ => lpre A.q A.k t 2048) (fun t _ => lpre B.q B.k t 2048))
    (hz : T = 0) :
    Tile (out0_A_5 c i arg2 harg2 arg3 harg3 arg4 harg4 arg5 harg5 arg6 harg6 arg7 harg7 arg8 harg8 arg9 harg9 hc0 x0 x1 x2 x3 x4) T (fun t d => dq A.q A.k A.v A.g (T + 512) t d) (fun t d => dq B.q B.k B.v B.g (T + 512) t d)
    ∧ DK A B T (T + 512) (T + 512) (out0_A_6 c i arg2 harg2 arg3 harg3 arg4 harg4 arg5 harg5 arg6 harg6 arg7 harg7 arg8 harg8 arg9 harg9 hc0 x0 x1 x2 x3 x4)
    ∧ DV A B T (T + 512) (T + 512) (out0_A_7 c i arg2 harg2 arg3 harg3 arg4 harg4 arg5 harg5 arg6 harg6 arg7 harg7 arg8 harg8 arg9 harg9 hc0 x0 x1 x2 x3 x4) := by
  have b2 : T + 512 ≤ 4096 := by have := row_lt i; omega
  have b1 : T + 256 ≤ 4096 := by omega
  have b1' : T + 256 + 256 ≤ 4096 := by omega
  have e50 := off50 i
  have e51 := off51 i
  have e60 := off60 i
  have e61 := off61 i
  have e2 := word_row i
  have e1 := word_key0 i
  have e1' := word_key1 i
  have ht1 : (k0_t1_loop i).trips = 2 * (i 1).val := trips1 i
  rw [← hT] at e50 e51 e60 e61 e2 e1 e1'
  have hn : 256 * (2 * (i 1).val) = T := by omega
  have h3 : Cols (arg3.view.read (Elt Ideal) (harg3.unread x1)) A.k B.k := by rw [harg3.read_unread]; exact hx1
  have h4 : Cols (arg4.view.read (Elt Ideal) (harg4.unread x2)) A.v B.v := by rw [harg4.read_unread]; exact hx2
  have h8 : DK A B T 0 0 (arg8.view.read (Elt Ideal) (arg8.view.writes (Elt Ideal) arg8.view.junk [⟨Rect.unit (s := S2048x256) ![0, 0] S2048x256.size inb_S2048x256_S2048x256_0_0, k0_pay47 (F := Ideal)⟩])) := by
    unfold DK; simp only [mix_zero]; rw [hz]; exact clear47 arg8 A B
  have h9 : DV A B T 0 0 (arg9.view.read (Elt Ideal) (arg9.view.writes (Elt Ideal) arg9.view.junk [⟨Rect.unit (s := S2048x256) ![0, 0] S2048x256.size inb_S2048x256_S2048x256_0_0, k0_pay48 (F := Ideal)⟩])) := by
    unfold DV; simp only [mix_zero]; rw [hz]; exact clear48 arg9 A B
  have hR : Rows A B T
      (arg2.view.readAt (Elt Ideal) (Rect.unit (s := S512x256) ![0, 0] S512x128.size inb_S512x256_S512x128_0_0).toLoadRect (harg2.unread x0))
      (arg2.view.readAt (Elt Ideal) (Rect.unit (s := S512x256) ![0, 128] S512x128.size inb_S512x256_S512x128_0_128).toLoadRect (harg2.unread x0))
      (arg5.view.readAt (Elt Ideal) (Rect.unit (s := S512x256) ![0, 0] S512x128.size inb_S512x256_S512x128_0_0).toLoadRect (harg5.unread x3))
      (arg5.view.readAt (Elt Ideal) (Rect.unit (s := S512x256) ![0, 128] S512x128.size inb_S512x256_S512x128_0_128).toLoadRect (harg5.unread x3))
      (k0_pay49 (arg6.view.readAt (Elt Ideal) (Rect.unit (s := S512x256) ![0, 0] S512x1.size inb_S512x256_S512x1_0_0).toLoadRect (harg6.unread x4)))
      (k0_pay50 (arg6.view.readAt (Elt Ideal) (Rect.unit (s := S512x256) ![0, 128] S512x1.size inb_S512x256_S512x1_0_128).toLoadRect (harg6.unread x4)))
      k0_pay51 k0_pay52 :=
    ⟨fun r d => (half0 arg2 harg2 x0 _ r d).trans (hx0 r d).1, fun r d => (half1 arg2 harg2 x0 _ r d).trans (hx0 r d).2,
      fun r d => (half0 arg5 harg5 x3 _ r d).trans (hx3 r d).1, fun r d => (half1 arg5 harg5 x3 _ r d).trans (hx3 r d).2,
      fun r => (tot0 arg6 harg6 x4 _ r).trans (hx4 r 0).1, fun r => (tot1 arg6 harg6 x4 _ r).trans (hx4 r 0).2,
      incl_apply, strict_apply⟩
  have hst := st_step Variants.none c none i arg2 harg2 arg3 harg3 arg4 harg4 arg5 harg5 arg6 harg6 arg7 harg7 arg8 harg8 arg9 harg9 (BitVec.ofNat 32 (i 1).val) _ _ _ _ _ _ _ _ (k0_pay53 (F := Ideal)) (k0_pay54 (F := Ideal))
    (Scalar.addi (Scalar.addi 0#32 (Scalar.muli (BitVec.ofNat 32 (i 1).val) 2#32)) 0#32) 0#32
    (Scalar.muli (Scalar.divsi (Scalar.subi (Scalar.muli (BitVec.ofNat 32 (i 1).val) 2#32) 0#32) 1#32) 1#32)
    (harg3.unread x1) (harg4.unread x2) hR h3 h4 (arg8.view.writes (Elt Ideal) arg8.view.junk [⟨Rect.unit (s := S2048x256) ![0, 0] S2048x256.size inb_S2048x256_S2048x256_0_0, k0_pay47 (F := Ideal)⟩]) (arg9.view.writes (Elt Ideal) arg9.view.junk [⟨Rect.unit (s := S2048x256) ![0, 0] S2048x256.size inb_S2048x256_S2048x256_0_0, k0_pay48 (F := Ideal)⟩])
    (k0_pay53 (F := Ideal), k0_pay53 (F := Ideal), k0_pay54 (F := Ideal), k0_pay53 (F := Ideal), k0_pay53 (F := Ideal), k0_pay54 (F := Ideal))
    (carry_init A B T) h8 h9 (2 * (i 1).val) (le_of_eq ht1.symm) (le_of_eq hn)
  rw [hn] at hst
  obtain ⟨hc, h8a, h9a⟩ := hst
  rw [← View.writes_append] at h8a h9a
  obtain ⟨hq0, hq1, hg0, hg1, htot0, htot1, hle, hlt⟩ := hR
  obtain ⟨cl0, cw0, cd0, cl1, cw1, cd1⟩ := hc
  have k00 := load0 (e := .bf16) rfl arg3.view (harg3.unread x1) e50 (k0_off5_inb i 0) h3
  have k01 := load0 (e := .bf16) rfl arg3.view (harg3.unread x1) e51 (k0_off5_inb i 1) h3
  have k10 := load1 (e := .bf16) rfl arg3.view (harg3.unread x1) e60 (k0_off6_inb i 0) h3
  have k11 := load1 (e := .bf16) rfl arg3.view (harg3.unread x1) e61 (k0_off6_inb i 1) h3
  have v00 := load0 (e := .bf16) rfl arg4.view (harg4.unread x2) e50 (k0_off5_inb i 0) h4
  have v01 := load0 (e := .bf16) rfl arg4.view (harg4.unread x2) e51 (k0_off5_inb i 1) h4
  have v10 := load1 (e := .bf16) rfl arg4.view (harg4.unread x2) e60 (k0_off6_inb i 0) h4
  have v11 := load1 (e := .bf16) rfl arg4.view (harg4.unread x2) e61 (k0_off6_inb i 1) h4
  simp only [cast_eq] at k00 k01 k10 k11 v00 v01 v10 v11
  -- the first head against the first masked block
  have m1 := pay63_apply (S := T) (T := T) e2 e1 b1 b2
  have z00 := pay64_apply hq0 k00
  have lb00 := pay66_apply hq0 k00
  have l00 := pay67_apply e2 e1 b1 b2 hq0 k00
  have p00 := pay70_apply e2 e1 b1 b2 hq0 k00
  have r00 := pay71_apply e2 e1 b1 b2 hq0 k00
  have n00 := pay72_apply e2 e1 b1 b2 hq0 hle k00
  have a00 := pay73_apply (m16 := k0_pay51) htot0 cl0 m1 lb00 p00 r00 n00 zero_const
  have g00 := pay74_apply a00 hg0 v00
  have y00 := pay75_apply m1 g00 hlt cw0 z00
  have dk00 := load0 (e := .f32) rfl arg8.view _ e50 (k0_off5_inb i 0) h8a
  have dv00 := load0 (e := .f32) rfl arg9.view _ e50 (k0_off5_inb i 0) h9a
  simp only [mix_ge (Nat.le_add_right _ _), cast_eq] at dk00 dv00
  have s8a := store0 _ _ _ e50 (k0_off5_inb i 0) _ (pay76_apply hq0 y00 dk00) h8a
  have s9a := store0 _ _ _ e50 (k0_off5_inb i 0) _ (pay77_apply hg0 a00 dv00) h9a
  have cl0' := pay78_apply cl0 l00
  have cw0' := pay79_apply cw0 g00
  have cd0' := pay80_apply cd0 k00 y00
  -- the second head against the first masked block
  have z10 := pay81_apply hq1 k10
  have s10 := pay82_apply hq1 k10
  have lb10 := pay83_apply hq1 k10
  have nz10 := pay84_apply hq1 k10
  have l10 := pay86_apply m1 s10 nz10 zero85
  have a10 := pay87_apply htot1 hle cl1 m1 s10 lb10 nz10 zero85
  have g10 := pay88_apply a10 hg1 v10
  have gp10 := pay89_apply g10 hlt cw1
  have n10 := pay90_apply z10
  have dk10 := load1 (e := .f32) rfl arg8.view _ e60 (k0_off6_inb i 0) s8a
  have dv10 := load1 (e := .f32) rfl arg9.view _ e60 (k0_off6_inb i 0) s9a
  simp only [mix_ge (Nat.le_add_right _ _), cast_eq] at dk10 dv10
  have s8b := store1 _ _ _ e60 (k0_off6_inb i 0) _ (pay92_apply hq1 m1 g10 gp10 n10 one_const dk10) s8a
  have s9b := store1 _ _ _ e60 (k0_off6_inb i 0) _ (pay93_apply hg1 a10 dv10) s9a
  have cl1' := pay94_apply cl1 l10
  have cw1' := pay95_apply cw1 g10
  have cd1' := pay96_apply cd1 m1 k10 g10 gp10 n10 one_const
  -- the first head against the second masked block
  have rw' := pay97_apply e2
  have m2 := pay98_apply rw' e1' key_word b1' b2
  have z01 := pay99_apply hq0 k01
  have a01 := pay100_apply rw' e1' key_word b1' b2 hq0 htot0 hle cl0' k01
  have y01 := pay101_apply hg0 hlt cw0' m2 z01 a01 v01
  have dk01 := load0 (e := .f32) rfl arg8.view _ e51 (k0_off5_inb i 1) s8b
  have dv01 := load0 (e := .f32) rfl arg9.view _ e51 (k0_off5_inb i 1) s9b
  simp only [mix_ge (Nat.le_add_right _ _), cast_eq] at dk01 dv01
  have s8c := store0 _ _ _ e51 (k0_off5_inb i 1) _ (pay102_apply hq0 hg0 hlt cw0' m2 z01 a01 v01 dk01) s8b
  have s9c := store0 _ _ _ e51 (k0_off5_inb i 1) _ (pay105_apply hg0 (pay103_apply dv01) (pay104_apply a01)) s9b
  have d0 := pay106_apply cd0' k01 y01
  -- the second head against the second masked block
  have z11 := pay107_apply hq1 k11
  have lb11 := pay109_apply hq1 k11
  have r11 := pay110_apply hq1 htot1 hle cl1' m2 k11
  have a11 := pay111_apply m2 lb11 r11
  have y11 := pay112_apply hg1 hlt cw1' m2 z11 lb11 r11 v11
  have dk11 := load1 (e := .f32) rfl arg8.view _ e61 (k0_off6_inb i 1) s8c
  have dv11 := load1 (e := .f32) rfl arg9.view _ e61 (k0_off6_inb i 1) s9c
  simp only [mix_ge (Nat.le_add_right _ _), cast_eq] at dk11 dv11
  have s8d := store1 _ _ _ e61 (k0_off6_inb i 1) _ (pay113_apply hq1 hg1 hlt cw1' m2 z11 lb11 r11 v11 dk11) s8c
  have s9d := store1 _ _ _ e61 (k0_off6_inb i 1) _ (pay1_apply hg1 a11 dv11) s9c
  have d1 := pay2_apply cd1' k11 y11
  unfold out0_A_5 out0_A_6 out0_A_7
  rw [View.read_writes_eq_canon VO0_6 _ _ (cover0_A_6 c i arg2 harg2 arg3 harg3 arg4 harg4 arg5 harg5 arg6 harg6 arg7 harg7 arg8 harg8 arg9 harg9 hc0 x0 x1 x2 x3 x4), ← View.read_writes_eq_canon arg8.view arg8.view.junk _ (cover0_A_6 c i arg2 harg2 arg3 harg3 arg4 harg4 arg5 harg5 arg6 harg6 arg7 harg7 arg8 harg8 arg9 harg9 hc0 x0 x1 x2 x3 x4),
    View.read_writes_eq_canon VO0_7 _ _ (cover0_A_7 c i arg2 harg2 arg3 harg3 arg4 harg4 arg5 harg5 arg6 harg6 arg7 harg7 arg8 harg8 arg9 harg9 hc0 x0 x1 x2 x3 x4), ← View.read_writes_eq_canon arg9.view arg9.view.junk _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [show Scf.trips (k0_t1_loop i).lb (k0_t1_loop i).ub (k0_t1_loop i).st = 2 * (i 1).val from ht1,
    show Scf.trips (k0_t2_loop i).lb (k0_t2_loop i).ub (k0_t2_loop i).st = 0 from trips2 i]
  simp only [st_k0_t2_zero, List.nil_append]
  refine ⟨fun r d => ⟨?_, ?_⟩, s8d, s9d⟩
  · rw [View.read_writes_cons_unit_of_not_mem _ _ _ _ _ (ix2 r (cl d)) rfl 1 (by show d.val < 128 ∨ 128 + 128 ≤ d.val; omega)]
    exact (View.read_writes_cons_unit_of_mem _ _ _ _ _ (ix2 r (cl d)) (ix2 r d) rfl
      (Fin.forall_fin_two.mpr ⟨by show r.val = 0 + r.val; omega, by show d.val = 0 + d.val; omega⟩)).trans (d0 r d)
  · exact (View.read_writes_cons_unit_of_mem _ _ _ _ _ (ix2 r (cr d)) (ix2 r d) rfl
      (Fin.forall_fin_two.mpr ⟨by show r.val = 0 + r.val; omega, by show 128 + d.val = 128 + d.val; omega⟩)).trans (d1 r d)

end Cert.KernelIdeal.Hand

end

end
-- ==== Proof.BodyB.lean ====
module

public import proofs.«01_k».proof.Proof.Parts
public import proofs.«01_k».proof.Proof.Gen.KernelIdeal.Frame

/-! A grid point which adds to what the points before it left. -/

@[expose] public section

set_option maxRecDepth 16384

noncomputable section

namespace Cert.KernelIdeal.Hand

open Idealize.ShloMosaic Idealize.ShloMosaic.TcCoe Idealize.ShloMosaic.Tactic
open Idealize.ShloMosaic.Pipeline
open Cert.KernelIdeal Cert.KernelIdeal.Gen Stick

set_option maxHeartbeats 4000000 in
theorem body_B {A B : Head} {T : ℕ} (c : Dev nD) (i : grid0.Coords) (arg2 : Memref sig .tc .vmem S512x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S512x256 .bf16) (harg5 : arg5.IsWhole) (arg6 : Memref sig .tc .vmem S512x256 .f32) (harg6 : arg6.IsWhole) (arg7 : Memref sig .tc .vmem S512x256 .f32) (harg7 : arg7.IsWhole) (arg8 : Memref sig .tc .vmem S2048x256 .f32) (harg8 : arg8.IsWhole) (arg9 : Memref sig .tc .vmem S2048x256 .f32) (harg9 : arg9.IsWhole) (hc0 : ¬cond0_0 i)
    (x0 : Vec Ideal S512x256 .bf16) (x1 : Vec Ideal S2048x256 .bf16) (x2 : Vec Ideal S2048x256 .bf16) (x3 : Vec Ideal S512x256 .bf16) (x4 : Vec Ideal S512x256 .f32) (xo6 : Vec Ideal S2048x256 .f32) (xo7 : Vec Ideal S2048x256 .f32)
    (hT : T = 512 * (i 1).val) (hx0 : Tile x0 T A.q B.q) (hx1 : Cols x1 A.k B.k) (hx2 : Cols x2 A.v B.v) (hx3 : Tile x3 T A.g B.g)
    (hx4 : Tile x4 T (fun t _ => lpre A.q A.k t 2048) (fun t _ => lpre B.q B.k t 2048))
    (h6 : Cols xo6 (A.dk T) (B.dk T)) (h7 : Cols xo7 (A.dv T) (B.dv T)) :
    Tile (out0_B_5 c i arg2 harg2 arg3 harg3 arg4 harg4 arg5 harg5 arg6 harg6 arg7 harg7 arg8 harg8 arg9 harg9 hc0 x0 x1 x2 x3 x4 xo6 xo7) T (fun t d => dq A.q A.k A.v A.g (T + 512) t d) (fun t d => dq B.q B.k B.v B.g (T + 512) t d)
    ∧ DK A B T (T + 512) (T + 512) (out0_B_6 c i arg2 harg2 arg3 harg3 arg4 harg4 arg5 harg5 arg6 harg6 arg7 harg7 arg8 harg8 arg9 harg9 hc0 x0 x1 x2 x3 x4 xo6 xo7)
    ∧ DV A B T (T + 512) (T + 512) (out0_B_7 c i arg2 harg2 arg3 harg3 arg4 harg4 arg5 harg5 arg6 harg6 arg7 harg7 arg8 harg8 arg9 harg9 hc0 x0 x1 x2 x3 x4 xo6 xo7) := by
  have b2 : T + 512 ≤ 4096 := by have := row_lt i; omega
  have b1 : T + 256 ≤ 4096 := by omega
  have b1' : T + 256 + 256 ≤ 4096 := by omega
  have e50 := off50 i
  have e51 := off51 i
  have e60 := off60 i
  have e61 := off61 i
  have e2 := word_row i
  have e1 := word_key0 i
  have e1' := word_key1 i
  have ht1 : (k0_t1_loop i).trips = 2 * (i 1).val := trips1 i
  rw [← hT] at e50 e51 e60 e61 e2 e1 e1'
  have hn : 256 * (2 * (i 1).val) = T := by omega
  have h3 : Cols (arg3.view.read (Elt Ideal) (harg3.unread x1)) A.k B.k := by rw [harg3.read_unread]; exact hx1
  have h4 : Cols (arg4.view.read (Elt Ideal) (harg4.unread x2)) A.v B.v := by rw [harg4.read_unread]; exact hx2
  have h8 : DK A B T 0 0 (arg8.view.read (Elt Ideal) (harg8.unread xo6)) := by
    rw [harg8.read_unread]; unfold DK; simp only [mix_zero]; exact h6
  have h9 : DV A B T 0 0 (arg9.view.read (Elt Ideal) (harg9.unread xo7)) := by
    rw [harg9.read_unread]; unfold DV; simp only [mix_zero]; exact h7
  have hR : Rows A B T
      (arg2.view.readAt (Elt Ideal) (Rect.unit (s := S512x256) ![0, 0] S512x128.size inb_S512x256_S512x128_0_0).toLoadRect (harg2.unread x0))
      (arg2.view.readAt (Elt Ideal) (Rect.unit (s := S512x256) ![0, 128] S512x128.size inb_S512x256_S512x128_0_128).toLoadRect (harg2.unread x0))
      (arg5.view.readAt (Elt Ideal) (Rect.unit (s := S512x256) ![0, 0] S512x128.size inb_S512x256_S512x128_0_0).toLoadRect (harg5.unread x3))
      (arg5.view.readAt (Elt Ideal) (Rect.unit (s := S512x256) ![0, 128] S512x128.size inb_S512x256_S512x128_0_128).toLoadRect (harg5.unread x3))
      (k0_pay49 (arg6.view.readAt (Elt Ideal) (Rect.unit (s := S512x256) ![0, 0] S512x1.size inb_S512x256_S512x1_0_0).toLoadRect (harg6.unread x4)))
      (k0_pay50 (arg6.view.readAt (Elt Ideal) (Rect.unit (s := S512x256) ![0, 128] S512x1.size inb_S512x256_S512x1_0_128).toLoadRect (harg6.unread x4)))
      k0_pay51 k0_pay52 :=
    ⟨fun r d => (half0 arg2 harg2 x0 _ r d).trans (hx0 r d).1, fun r d => (half1 arg2 harg2 x0 _ r d).trans (hx0 r d).2,
      fun r d => (half0 arg5 harg5 x3 _ r d).trans (hx3 r d).1, fun r d => (half1 arg5 harg5 x3 _ r d).trans (hx3 r d).2,
      fun r => (tot0 arg6 harg6 x4 _ r).trans (hx4 r 0).1, fun r => (tot1 arg6 harg6 x4 _ r).trans (hx4 r 0).2,
      incl_apply, strict_apply⟩
  have hst := st_step Variants.none c none i arg2 harg2 arg3 harg3 arg4 harg4 arg5 harg5 arg6 harg6 arg7 harg7 arg8 harg8 arg9 harg9 (BitVec.ofNat 32 (i 1).val) _ _ _ _ _ _ _ _ (k0_pay53 (F := Ideal)) (k0_pay54 (F := Ideal))
    (Scalar.addi (Scalar.addi 0#32 (Scalar.muli (BitVec.ofNat 32 (i 1).val) 2#32)) 0#32) 0#32
    (Scalar.muli (Scalar.divsi (Scalar.subi (Scalar.muli (BitVec.ofNat 32 (i 1).val) 2#32) 0#32) 1#32) 1#32)
    (harg3.unread x1) (harg4.unread x2) hR h3 h4 (harg8.unread xo6) (harg9.unread xo7)
    (k0_pay53 (F := Ideal), k0_pay53 (F := Ideal), k0_pay54 (F := Ideal), k0_pay53 (F := Ideal), k0_pay53 (F := Ideal), k0_pay54 (F := Ideal))
    (carry_init A B T) h8 h9 (2 * (i 1).val) (le_of_eq ht1.symm) (le_of_eq hn)
  rw [hn] at hst
  obtain ⟨hc, h8a, h9a⟩ := hst
  obtain ⟨hq0, hq1, hg0, hg1, htot0, htot1, hle, hlt⟩ := hR
  obtain ⟨cl0, cw0, cd0, cl1, cw1, cd1⟩ := hc
  have k00 := load0 (e := .bf16) rfl arg3.view (harg3.unread x1) e50 (k0_off5_inb i 0) h3
  have k01 := load0 (e := .bf16) rfl arg3.view (harg3.unread x1) e51 (k0_off5_inb i 1) h3
  have k10 := load1 (e := .bf16) rfl arg3.view (harg3.unread x1) e60 (k0_off6_inb i 0) h3
  have k11 := load1 (e := .bf16) rfl arg3.view (harg3.unread x1) e61 (k0_off6_inb i 1) h3
  have v00 := load0 (e := .bf16) rfl arg4.view (harg4.unread x2) e50 (k0_off5_inb i 0) h4
  have v01 := load0 (e := .bf16) rfl arg4.view (harg4.unread x2) e51 (k0_off5_inb i 1) h4
  have v10 := load1 (e := .bf16) rfl arg4.view (harg4.unread x2) e60 (k0_off6_inb i 0) h4
  have v11 := load1 (e := .bf16) rfl arg4.view (harg4.unread x2) e61 (k0_off6_inb i 1) h4
  simp only [cast_eq] at k00 k01 k10 k11 v00 v01 v10 v11
  -- the first head against the first masked block
  have m1 := pay63_apply (S := T) (T := T) e2 e1 b1 b2
  have z00 := pay64_apply hq0 k00
  have lb00 := pay66_apply hq0 k00
  have l00 := pay67_apply e2 e1 b1 b2 hq0 k00
  have p00 := pay70_apply e2 e1 b1 b2 hq0 k00
  have r00 := pay71_apply e2 e1 b1 b2 hq0 k00
  have n00 := pay72_apply e2 e1 b1 b2 hq0 hle k00
  have a00 := pay73_apply (m16 := k0_pay51) htot0 cl0 m1 lb00 p00 r00 n00 zero_const
  have g00 := pay74_apply a00 hg0 v00
  have y00 := pay75_apply m1 g00 hlt cw0 z00
  have dk00 := load0 (e := .f32) rfl arg8.view _ e50 (k0_off5_inb i 0) h8a
  have dv00 := load0 (e := .f32) rfl arg9.view _ e50 (k0_off5_inb i 0) h9a
  simp only [mix_ge (Nat.le_add_right _ _), cast_eq] at dk00 dv00
  have s8a := store0 _ _ _ e50 (k0_off5_inb i 0) _ (pay76_apply hq0 y00 dk00) h8a
  have s9a := store0 _ _ _ e50 (k0_off5_inb i 0) _ (pay77_apply hg0 a00 dv00) h9a
  have cl0' := pay78_apply cl0 l00
  have cw0' := pay79_apply cw0 g00
  have cd0' := pay80_apply cd0 k00 y00
  -- the second head against the first masked block
  have z10 := pay81_apply hq1 k10
  have s10 := pay82_apply hq1 k10
  have lb10 := pay83_apply hq1 k10
  have nz10 := pay84_apply hq1 k10
  have l10 := pay86_apply m1 s10 nz10 zero85
  have a10 := pay87_apply htot1 hle cl1 m1 s10 lb10 nz10 zero85
  have g10 := pay88_apply a10 hg1 v10
  have gp10 := pay89_apply g10 hlt cw1
  have n10 := pay90_apply z10
  have dk10 := load1 (e := .f32) rfl arg8.view _ e60 (k0_off6_inb i 0) s8a
  have dv10 := load1 (e := .f32) rfl arg9.view _ e60 (k0_off6_inb i 0) s9a
  simp only [mix_ge (Nat.le_add_right _ _), cast_eq] at dk10 dv10
  have s8b := store1 _ _ _ e60 (k0_off6_inb i 0) _ (pay92_apply hq1 m1 g10 gp10 n10 one_const dk10) s8a
  have s9b := store1 _ _ _ e60 (k0_off6_inb i 0) _ (pay93_apply hg1 a10 dv10) s9a
  have cl1' := pay94_apply cl1 l10
  have cw1' := pay95_apply cw1 g10
  have cd1' := pay96_apply cd1 m1 k10 g10 gp10 n10 one_const
  -- the first head against the second masked block
  have rw' := pay97_apply e2
  have m2 := pay98_apply rw' e1' key_word b1' b2
  have z01 := pay99_apply hq0 k01
  have a01 := pay100_apply rw' e1' key_word b1' b2 hq0 htot0 hle cl0' k01
  have y01 := pay101_apply hg0 hlt cw0' m2 z01 a01 v01
  have dk01 := load0 (e := .f32) rfl arg8.view _ e51 (k0_off5_inb i 1) s8b
  have dv01 := load0 (e := .f32) rfl arg9.view _ e51 (k0_off5_inb i 1) s9b
  simp only [mix_ge (Nat.le_add_right _ _), cast_eq] at dk01 dv01
  have s8c := store0 _ _ _ e51 (k0_off5_inb i 1) _ (pay102_apply hq0 hg0 hlt cw0' m2 z01 a01 v01 dk01) s8b
  have s9c := store0 _ _ _ e51 (k0_off5_inb i 1) _ (pay105_apply hg0 (pay103_apply dv01) (pay104_apply a01)) s9b
  have d0 := pay106_apply cd0' k01 y01
  -- the second head against the second masked block
  have z11 := pay107_apply hq1 k11
  have lb11 := pay109_apply hq1 k11
  have r11 := pay110_apply hq1 htot1 hle cl1' m2 k11
  have a11 := pay111_apply m2 lb11 r11
  have y11 := pay112_apply hg1 hlt cw1' m2 z11 lb11 r11 v11
  have dk11 := load1 (e := .f32) rfl arg8.view _ e61 (k0_off6_inb i 1) s8c
  have dv11 := load1 (e := .f32) rfl arg9.view _ e61 (k0_off6_inb i 1) s9c
  simp only [mix_ge (Nat.le_add_right _ _), cast_eq] at dk11 dv11
  have s8d := store1 _ _ _ e61 (k0_off6_inb i 1) _ (pay113_apply hq1 hg1 hlt cw1' m2 z11 lb11 r11 v11 dk11) s8c
  have s9d := store1 _ _ _ e61 (k0_off6_inb i 1) _ (pay1_apply hg1 a11 dv11) s9c
  have d1 := pay2_apply cd1' k11 y11
  unfold out0_B_5 out0_B_6 out0_B_7
  unfold kernelRun0_B
  dsimp only
  sl_unfold_words
  rw [show Scf.trips (k0_t1_loop i).lb (k0_t1_loop i).ub (k0_t1_loop i).st = 2 * (i 1).val from ht1,
    show Scf.trips (k0_t2_loop i).lb (k0_t2_loop i).ub (k0_t2_loop i).st = 0 from trips2 i]
  simp only [st_k0_t2_zero, List.nil_append]
  refine ⟨fun r d => ⟨?_, ?_⟩, s8d, s9d⟩
  · rw [View.read_writes_cons_unit_of_not_mem _ _ _ _ _ (ix2 r (cl d)) rfl 1 (by show d.val < 128 ∨ 128 + 128 ≤ d.val; omega)]
    exact (View.read_writes_cons_unit_of_mem _ _ _ _ _ (ix2 r (cl d)) (ix2 r d) rfl
      (Fin.forall_fin_two.mpr ⟨by show r.val = 0 + r.val; omega, by show d.val = 0 + d.val; omega⟩)).trans (d0 r d)
  · exact (View.read_writes_cons_unit_of_mem _ _ _ _ _ (ix2 r (cr d)) (ix2 r d) rfl
      (Fin.forall_fin_two.mpr ⟨by show r.val = 0 + r.val; omega, by show 128 + d.val = 128 + d.val; omega⟩)).trans (d1 r d)

end Cert.KernelIdeal.Hand

end

end
-- ==== Proof.Points.lean ====
module

public import proofs.«01_k».proof.Proof.Tot
public import proofs.«01_k».proof.Proof.BodyA
public import proofs.«01_k».proof.Proof.BodyB
public import proofs.«01_k».proof.Proof.Gen.KernelIdeal.Value

/-! The kernel's three results: what each grid point leaves, and the arrays after the last point. -/

@[expose] public section

set_option maxRecDepth 16384

noncomputable section

namespace Cert.KernelIdeal.Hand

open Idealize.ShloMosaic Idealize.ShloMosaic.TcCoe Idealize.ShloMosaic.Tactic
open Idealize.ShloMosaic.Pipeline
open Cert.KernelIdeal Cert.KernelIdeal.Gen Stick

/-- Head `h` of the joint projection `X` and of the incoming gradient `G`. -/
def hd (X G : ℕ → ℕ → ℝ) (h : ℕ) : Head := ⟨head X 0 h, head X 2048 h, head X 4096 h, head G 0 h⟩

/-- A query only reaches the keys before it. -/
theorem dq_full (A : Head) {n N t d : ℕ} (h : t ≤ n) (hN : n ≤ N) : dq A.q A.k A.v A.g n t d = dq A.q A.k A.v A.g N t d := by
  unfold dq
  refine Finset.sum_subset (Finset.range_mono hN) fun s _ hs => ?_
  rw [Finset.mem_range, not_lt] at hs
  rw [dz, if_neg (by omega), zero_mul]

theorem dk_late (A : Head) {n N s d : ℕ} (h : N ≤ s) (hN : n ≤ N) : A.dk n s d = A.dk N s d := by
  unfold Head.dk dk
  refine Finset.sum_subset (Finset.range_mono hN) fun t ht _ => ?_
  rw [Finset.mem_range] at ht
  rw [dz, if_neg (by omega), zero_mul]

theorem dv_late (A : Head) {n N s d : ℕ} (h : N ≤ s) (hN : n ≤ N) : A.dv n s d = A.dv N s d := by
  unfold Head.dv dv
  refine Finset.sum_subset (Finset.range_mono hN) fun t ht _ => ?_
  rw [Finset.mem_range] at ht
  rw [a, if_neg (by omega), zero_mul]

theorem mix_dk (A : Head) (T : ℕ) : mix (T + 512) (A.dk T) (A.dk (T + 512)) = A.dk (T + 512) := by
  funext s d
  unfold mix
  split
  · rfl
  · exact dk_late A (by omega) (by omega)

theorem mix_dv (A : Head) (T : ℕ) : mix (T + 512) (A.dv T) (A.dv (T + 512)) = A.dv (T + 512) := by
  funext s d
  unfold mix
  split
  · rfl
  · exact dv_late A (by omega) (by omega)

theorem row_of : ∀ t : Fin cfg0.N, (grid0.coords t 1).val = t.val % 4 :=
  (by decide +kernel : ∀ t : Fin grid0.N, (grid0.coords t 1).val = t.val % 4)

theorem index_of : ∀ t : Fin cfg0.N, win0_0.index t = ![t.val % 4, t.val / 4] ∧ win0_1.index t = ![0, 8 + t.val / 4]
    ∧ win0_2.index t = ![0, 16 + t.val / 4] ∧ win0_3.index t = ![t.val % 4, t.val / 4] ∧ win0_4.index t = ![t.val % 4, t.val / 4]
    ∧ win0_5.index t = ![t.val % 4, t.val / 4] ∧ win0_6.index t = ![0, t.val / 4] ∧ win0_7.index t = ![0, t.val / 4] :=
  (by decide +kernel : ∀ t : Fin grid0.N, win0_0.index t = ![t.val % 4, t.val / 4] ∧ win0_1.index t = ![0, 8 + t.val / 4]
    ∧ win0_2.index t = ![0, 16 + t.val / 4] ∧ win0_3.index t = ![t.val % 4, t.val / 4] ∧ win0_4.index t = ![t.val % 4, t.val / 4]
    ∧ win0_5.index t = ![t.val % 4, t.val / 4] ∧ win0_6.index t = ![0, t.val / 4] ∧ win0_7.index t = ![0, t.val / 4])

variable (m : (ℓ : Loc nD τ sig) → Buf (Elt Ideal) ℓ) (c : Dev nD) (X G : ℕ → ℕ → ℝ)

theorem read0 (t : Fin cfg0.N) (r : Fin 512) (x : Fin 256) :
    iblk m c 0 t (ix2 r x) = m ((c : Thread nD τ).loc main_arg0) (ix2 ⟨512 * (t.val % 4) + r.val, by omega⟩ ⟨256 * (t.val / 4) + x.val, by have : t.val < 32 := t.isLt; omega⟩) := by
  blk_ext [iblk, V_main_arg0, index_of t]

theorem read1 (t : Fin cfg0.N) (r : Fin 2048) (x : Fin 256) :
    iblk m c 1 t (ix2 r x) = m ((c : Thread nD τ).loc main_arg0) (ix2 r ⟨2048 + 256 * (t.val / 4) + x.val, by have : t.val < 32 := t.isLt; omega⟩) := by
  blk_ext [iblk, V_main_arg0, index_of t]

theorem read2 (t : Fin cfg0.N) (r : Fin 2048) (x : Fin 256) :
    iblk m c 2 t (ix2 r x) = m ((c : Thread nD τ).loc main_arg0) (ix2 r ⟨4096 + 256 * (t.val / 4) + x.val, by have : t.val < 32 := t.isLt; omega⟩) := by
  blk_ext [iblk, V_main_arg0, index_of t]

theorem read3 (t : Fin cfg0.N) (r : Fin 512) (x : Fin 256) :
    iblk m c 3 t (ix2 r x) = m ((c : Thread nD τ).loc main_arg1) (ix2 ⟨512 * (t.val % 4) + r.val, by omega⟩ ⟨256 * (t.val / 4) + x.val, by have : t.val < 32 := t.isLt; omega⟩) := by
  blk_ext [iblk, V_main_arg1, index_of t]

theorem read4 (t : Fin cfg0.N) (r : Fin 512) (x : Fin 256) :
    iblk m c 4 t (ix2 r x) = V m c main_v24 (ix2 ⟨512 * (t.val % 4) + r.val, by omega⟩ ⟨256 * (t.val / 4) + x.val, by have : t.val < 32 := t.isLt; omega⟩) := by
  blk_ext [iblk, index_of t]

variable (hX : ∀ t n, m ((c : Thread nD τ).loc main_arg0) (ix2 t n) = (X t n : EReal))
variable (hG : ∀ t n, m ((c : Thread nD τ).loc main_arg1) (ix2 t n) = (G t n : EReal))

include hX in
theorem tile0 (t : Fin cfg0.N) : Tile (iblk m c 0 t) (512 * (t.val % 4)) (hd X G (2 * (t.val / 4))).q (hd X G (2 * (t.val / 4) + 1)).q := by
  intro r d
  constructor
  · rw [read0, hX]
    simp only [hd, head, cl]
    congr 2; omega
  · rw [read0, hX]
    simp only [hd, head, cr]
    congr 2; omega

include hX in
theorem cols1 (t : Fin cfg0.N) : Cols (iblk m c 1 t) (hd X G (2 * (t.val / 4))).k (hd X G (2 * (t.val / 4) + 1)).k := by
  intro r d
  constructor
  · rw [read1, hX]
    simp only [hd, head, cl]
    congr 2; omega
  · rw [read1, hX]
    simp only [hd, head, cr]
    congr 2; omega

include hX in
theorem cols2 (t : Fin cfg0.N) : Cols (iblk m c 2 t) (hd X G (2 * (t.val / 4))).v (hd X G (2 * (t.val / 4) + 1)).v := by
  intro r d
  constructor
  · rw [read2, hX]
    simp only [hd, head, cl]
    congr 2; omega
  · rw [read2, hX]
    simp only [hd, head, cr]
    congr 2; omega

include hG in
theorem tile3 (t : Fin cfg0.N) : Tile (iblk m c 3 t) (512 * (t.val % 4)) (hd X G (2 * (t.val / 4))).g (hd X G (2 * (t.val / 4) + 1)).g := by
  intro r d
  constructor
  · rw [read3, hG]
    simp only [hd, head, cl]
    congr 2; omega
  · rw [read3, hG]
    simp only [hd, head, cr]
    congr 2; omega

include hX in
theorem tile4 (t : Fin cfg0.N) : Tile (iblk m c 4 t) (512 * (t.val % 4))
    (fun r _ => lpre (hd X G (2 * (t.val / 4))).q (hd X G (2 * (t.val / 4))).k r 2048)
    (fun r _ => lpre (hd X G (2 * (t.val / 4) + 1)).q (hd X G (2 * (t.val / 4) + 1)).k r 2048) := by
  intro r d
  constructor
  · rw [read4, tot_apply m c X hX]
    have e : (256 * (t.val / 4) + d.val) / 128 = 2 * (t.val / 4) := by omega
    simp only [hd, cl]
    rw [e]
  · rw [read4, tot_apply m c X hX]
    have e : (256 * (t.val / 4) + (128 + d.val)) / 128 = 2 * (t.val / 4) + 1 := by omega
    simp only [hd, cr]
    rw [e]

/-- What a grid point leaves in the three output blocks. -/
def Left (A B : Head) (T : ℕ) (o : Vec Ideal S512x256 .f32 × Vec Ideal S2048x256 .f32 × Vec Ideal S2048x256 .f32) : Prop :=
  Tile o.1 T (fun t d => dq A.q A.k A.v A.g (T + 512) t d) (fun t d => dq B.q B.k B.v B.g (T + 512) t d)
    ∧ Cols o.2.1 (A.dk (T + 512)) (B.dk (T + 512)) ∧ Cols o.2.2 (A.dv (T + 512)) (B.dv (T + 512))

theorem left_of {A B : Head} {T : ℕ} {o5 : Vec Ideal S512x256 .f32} {o6 o7 : Vec Ideal S2048x256 .f32}
    (h : Tile o5 T (fun t d => dq A.q A.k A.v A.g (T + 512) t d) (fun t d => dq B.q B.k B.v B.g (T + 512) t d)
      ∧ DK A B T (T + 512) (T + 512) o6 ∧ DV A B T (T + 512) (T + 512) o7) : Left A B T (o5, o6, o7) := by
  obtain ⟨h5, h6, h7⟩ := h
  unfold DK at h6
  unfold DV at h7
  rw [mix_dk, mix_dk] at h6
  rw [mix_dv, mix_dv] at h7
  exact ⟨h5, h6, h7⟩

include hX hG in
theorem left_point : ∀ (n : ℕ) (hn : n < cfg0.N),
    Left (hd X G (2 * (n / 4))) (hd X G (2 * (n / 4) + 1)) (512 * (n % 4)) (outsAt0 m c n hn) := by
  intro n
  induction n with
  | zero =>
    intro hn
    rw [outsAt0_A m c ⟨0, hn⟩ rfl]
    exact left_of (body_A c _ _ _ _ _ _ _ _ _ _ _ _ _ _ _ _ _ _ _ _ _ _ _ (by rw [row_of]) (tile0 m c X G hX ⟨0, hn⟩)
      (cols1 m c X G hX ⟨0, hn⟩) (cols2 m c X G hX ⟨0, hn⟩) (tile3 m c X G hG ⟨0, hn⟩) (tile4 m c X G hX ⟨0, hn⟩) rfl)
  | succ n ih =>
    intro hn
    by_cases h0 : (n + 1) % 4 = 0
    · rw [outsAt0_A m c ⟨n + 1, hn⟩ h0]
      exact left_of (body_A c _ _ _ _ _ _ _ _ _ _ _ _ _ _ _ _ _ _ _ _ _ _ _ (by rw [row_of]) (tile0 m c X G hX ⟨n + 1, hn⟩)
        (cols1 m c X G hX ⟨n + 1, hn⟩) (cols2 m c X G hX ⟨n + 1, hn⟩) (tile3 m c X G hG ⟨n + 1, hn⟩) (tile4 m c X G hX ⟨n + 1, hn⟩) (by rw [h0]))
    · rw [outsAt0_B m c ⟨n + 1, hn⟩ h0]
      have hi := ih (Nat.lt_of_succ_lt hn)
      have e1 : n / 4 = (n + 1) / 4 := by omega
      have e2 : 512 * (n % 4) + 512 = 512 * ((n + 1) % 4) := by omega
      unfold Left at hi
      rw [e2, e1] at hi
      exact left_of (body_B c _ _ _ _ _ _ _ _ _ _ _ _ _ _ _ _ _ _ _ _ _ _ _ _ _ (by rw [row_of]) (tile0 m c X G hX ⟨n + 1, hn⟩)
        (cols1 m c X G hX ⟨n + 1, hn⟩) (cols2 m c X G hX ⟨n + 1, hn⟩) (tile3 m c X G hG ⟨n + 1, hn⟩) (tile4 m c X G hX ⟨n + 1, hn⟩) hi.2.1 hi.2.2)

end Cert.KernelIdeal.Hand

end

end
-- ==== Proof.Arrays.lean ====
module

public import proofs.«01_k».proof.Proof.Points

/-! The kernel's three result arrays, at a row and a column. -/

@[expose] public section

set_option maxRecDepth 16384

noncomputable section

namespace Cert.KernelIdeal.Hand

open Idealize.ShloMosaic Idealize.ShloMosaic.TcCoe Idealize.ShloMosaic.Tactic
open Idealize.ShloMosaic.Pipeline
open Cert.KernelIdeal Cert.KernelIdeal.Gen Stick

/-- Every column of a block is in its left or in its right half. -/
theorem col_cases (x : Fin 256) : (∃ d, x = cl d) ∨ ∃ d, x = cr d := by
  by_cases h : x.val < 128
  · exact .inl ⟨⟨x.val, h⟩, Fin.ext rfl⟩
  · refine .inr ⟨⟨x.val - 128, by omega⟩, Fin.ext ?_⟩
    show x.val = 128 + (x.val - 128)
    omega

variable (m : (ℓ : Loc nD τ sig) → Buf (Elt Ideal) ℓ) (c : Dev nD) (X G : ℕ → ℕ → ℝ)
variable (hX : ∀ t n, m ((c : Thread nD τ).loc main_arg0) (ix2 t n) = (X t n : EReal))
variable (hG : ∀ t n, m ((c : Thread nD τ).loc main_arg1) (ix2 t n) = (G t n : EReal))

include hX hG

theorem arr5 : (dats m 0 c).arrAt 5 cfg0.N = fun i : S2048x2048.Idx =>
    (dq (hd X G ((i 1).val / 128)).q (hd X G ((i 1).val / 128)).k (hd X G ((i 1).val / 128)).v (hd X G ((i 1).val / 128)).g 2048 (i 0).val ((i 1).val % 128) : EReal) := by
  refine (dats m 0 c).arrAt_eq_of_covers 5 _ (by decide +kernel) fun t hf y => ?_
  have ht : t.val < 32 := t.isLt
  have hl := (left_point m c X G hX hG t.val t.isLt).1
  blk_simp [index_of t]
  rw [after0_5]
  obtain ⟨r, x, rfl⟩ : ∃ (r : Fin 512) (x : Fin 256), y = ix2 r x := ⟨y 0, y 1, by funext a; fin_cases a <;> rfl⟩
  rcases col_cases x with ⟨d, rfl⟩ | ⟨d, rfl⟩
  · rw [(hl r d).1]
    have e1 : (t.val / 4 * 256 + ((ix2 r (cl d) : S512x256.Idx) 1).val) / 128 = 2 * (t.val / 4) := by
      show (t.val / 4 * 256 + d.val) / 128 = 2 * (t.val / 4); omega
    have e2 : (t.val / 4 * 256 + ((ix2 r (cl d) : S512x256.Idx) 1).val) % 128 = d.val := by
      show (t.val / 4 * 256 + d.val) % 128 = d.val; omega
    have e3 : t.val % 4 * 512 + ((ix2 r (cl d) : S512x256.Idx) 0).val = 512 * (t.val % 4) + r.val := by
      show t.val % 4 * 512 + r.val = 512 * (t.val % 4) + r.val; omega
    rw [e1, e2, e3, ← dq_full _ (by omega) (show 512 * (t.val % 4) + 512 ≤ 2048 by omega)]
  · rw [(hl r d).2]
    have e1 : (t.val / 4 * 256 + ((ix2 r (cr d) : S512x256.Idx) 1).val) / 128 = 2 * (t.val / 4) + 1 := by
      show (t.val / 4 * 256 + (128 + d.val)) / 128 = 2 * (t.val / 4) + 1; omega
    have e2 : (t.val / 4 * 256 + ((ix2 r (cr d) : S512x256.Idx) 1).val) % 128 = d.val := by
      show (t.val / 4 * 256 + (128 + d.val)) % 128 = d.val; omega
    have e3 : t.val % 4 * 512 + ((ix2 r (cr d) : S512x256.Idx) 0).val = 512 * (t.val % 4) + r.val := by
      show t.val % 4 * 512 + r.val = 512 * (t.val % 4) + r.val; omega
    rw [e1, e2, e3, ← dq_full _ (by omega) (show 512 * (t.val % 4) + 512 ≤ 2048 by omega)]

theorem arr6 : (dats m 0 c).arrAt 6 cfg0.N = fun i : S2048x2048.Idx =>
    ((hd X G ((i 1).val / 128)).dk 2048 (i 0).val ((i 1).val % 128) : EReal) := by
  refine (dats m 0 c).arrAt_eq_of_covers 6 _ (by decide +kernel) fun t hf y => ?_
  have ht : t.val < 32 := t.isLt
  have hl := (left_point m c X G hX hG t.val t.isLt).2.1
  have h3 : 512 * (t.val % 4) + 512 = 2048 := by have := (flush0_6 t).mp hf; omega
  rw [h3] at hl
  blk_simp [index_of t]
  rw [after0_6]
  obtain ⟨r, x, rfl⟩ : ∃ (r : Fin 2048) (x : Fin 256), y = ix2 r x := ⟨y 0, y 1, by funext a; fin_cases a <;> rfl⟩
  rcases col_cases x with ⟨d, rfl⟩ | ⟨d, rfl⟩
  · rw [(hl r d).1]
    have e1 : (t.val / 4 * 256 + ((ix2 r (cl d) : S2048x256.Idx) 1).val) / 128 = 2 * (t.val / 4) := by
      show (t.val / 4 * 256 + d.val) / 128 = 2 * (t.val / 4); omega
    have e2 : (t.val / 4 * 256 + ((ix2 r (cl d) : S2048x256.Idx) 1).val) % 128 = d.val := by
      show (t.val / 4 * 256 + d.val) % 128 = d.val; omega
    rw [e1, e2]
    rfl
  · rw [(hl r d).2]
    have e1 : (t.val / 4 * 256 + ((ix2 r (cr d) : S2048x256.Idx) 1).val) / 128 = 2 * (t.val / 4) + 1 := by
      show (t.val / 4 * 256 + (128 + d.val)) / 128 = 2 * (t.val / 4) + 1; omega
    have e2 : (t.val / 4 * 256 + ((ix2 r (cr d) : S2048x256.Idx) 1).val) % 128 = d.val := by
      show (t.val / 4 * 256 + (128 + d.val)) % 128 = d.val; omega
    rw [e1, e2]
    rfl

theorem arr7 : (dats m 0 c).arrAt 7 cfg0.N = fun i : S2048x2048.Idx =>
    ((hd X G ((i 1).val / 128)).dv 2048 (i 0).val ((i 1).val % 128) : EReal) := by
  refine (dats m 0 c).arrAt_eq_of_covers 7 _ (by decide +kernel) fun t hf y => ?_
  have ht : t.val < 32 := t.isLt
  have hl := (left_point m c X G hX hG t.val t.isLt).2.2
  have h3 : 512 * (t.val % 4) + 512 = 2048 := by have := (flush0_7 t).mp hf; omega
  rw [h3] at hl
  blk_simp [index_of t]
  rw [after0_7]
  obtain ⟨r, x, rfl⟩ : ∃ (r : Fin 2048) (x : Fin 256), y = ix2 r x := ⟨y 0, y 1, by funext a; fin_cases a <;> rfl⟩
  rcases col_cases x with ⟨d, rfl⟩ | ⟨d, rfl⟩
  · rw [(hl r d).1]
    have e1 : (t.val / 4 * 256 + ((ix2 r (cl d) : S2048x256.Idx) 1).val) / 128 = 2 * (t.val / 4) := by
      show (t.val / 4 * 256 + d.val) / 128 = 2 * (t.val / 4); omega
    have e2 : (t.val / 4 * 256 + ((ix2 r (cl d) : S2048x256.Idx) 1).val) % 128 = d.val := by
      show (t.val / 4 * 256 + d.val) % 128 = d.val; omega
    rw [e1, e2]
    rfl
  · rw [(hl r d).2]
    have e1 : (t.val / 4 * 256 + ((ix2 r (cr d) : S2048x256.Idx) 1).val) / 128 = 2 * (t.val / 4) + 1 := by
      show (t.val / 4 * 256 + (128 + d.val)) / 128 = 2 * (t.val / 4) + 1; omega
    have e2 : (t.val / 4 * 256 + ((ix2 r (cr d) : S2048x256.Idx) 1).val) % 128 = d.val := by
      show (t.val / 4 * 256 + (128 + d.val)) % 128 = d.val; omega
    rw [e1, e2]
    rfl

end Cert.KernelIdeal.Hand

end

end
-- ==== Proof.lean ====
module

public import proofs.«01_k».proof.Proof.Gen.MlaAttnIdeal.Loops
public import proofs.«01_k».proof.Proof.Gen.MlaAttnIdeal.Frame
public import proofs.«01_k».proof.Proof.Gen.MlaAttnIdeal.Value
public import proofs.«01_k».proof.Proof.Gen.MlaAttn
public import proofs.«01_k».proof.Proof.Gen.MlaAttnReferenceIdeal
public import proofs.«01_k».proof.Proof.Gen.MlaAttnReferenceIdeal.Run
public import proofs.«01_k».proof.Proof.Gen.MlaAttn.Frame
public import proofs.«01_k».proof.Proof.Gen.MlaAttnReferenceIdeal.Read
public import proofs.«01_k».proof.Proof.AttnArrays
public import proofs.«01_k».proof.Proof.AttnRef
public import proofs.«01_k».proof.Proof.MlpRun
public import proofs.«01_k».proof.Proof.SbRun
public import proofs.«01_k».proof.Proof.SbDhValue
public import proofs.«01_k».proof.Proof.CaRun
public import proofs.«01_k».proof.Proof.CaDhValue
public import proofs.«01_k».proof.Proof.MlaRun
public import proofs.«01_k».proof.Proof.MlaDcqValue
public import proofs.«01_k».proof.Proof.MlaDckvValue
public import proofs.«01_k».proof.Proof.Gen.Sb
public import proofs.«01_k».proof.Proof.Gen.Sb.Frame
public import proofs.«01_k».proof.Proof.Gen.SbIdeal
public import proofs.«01_k».proof.Proof.Gen.SbIdeal.Frame
public import proofs.«01_k».proof.Proof.Gen.SbReferenceIdeal
public import proofs.«01_k».proof.Proof.Gen.SbReferenceIdeal.Run
public import proofs.«01_k».proof.Proof.Gen.SbReferenceIdeal.Read
public import proofs.«01_k».proof.Proof.Gen.SbDh
public import proofs.«01_k».proof.Proof.Gen.SbDh.Frame
public import proofs.«01_k».proof.Proof.Gen.SbDhIdeal
public import proofs.«01_k».proof.Proof.Gen.SbDhIdeal.Frame
public import proofs.«01_k».proof.Proof.Gen.SbDhReferenceIdeal
public import proofs.«01_k».proof.Proof.Gen.SbDhReferenceIdeal.Run
public import proofs.«01_k».proof.Proof.Gen.SbDhReferenceIdeal.Read
public import proofs.«01_k».proof.Proof.Gen.Ca
public import proofs.«01_k».proof.Proof.Gen.Ca.Frame
public import proofs.«01_k».proof.Proof.Gen.CaIdeal
public import proofs.«01_k».proof.Proof.Gen.CaIdeal.Frame
public import proofs.«01_k».proof.Proof.Gen.CaReferenceIdeal
public import proofs.«01_k».proof.Proof.Gen.CaReferenceIdeal.Run
public import proofs.«01_k».proof.Proof.Gen.CaReferenceIdeal.Read
public import proofs.«01_k».proof.Proof.Gen.CaDh
public import proofs.«01_k».proof.Proof.Gen.CaDh.Frame
public import proofs.«01_k».proof.Proof.Gen.CaDhIdeal
public import proofs.«01_k».proof.Proof.Gen.CaDhIdeal.Frame
public import proofs.«01_k».proof.Proof.Gen.CaDhReferenceIdeal
public import proofs.«01_k».proof.Proof.Gen.CaDhReferenceIdeal.Run
public import proofs.«01_k».proof.Proof.Gen.CaDhReferenceIdeal.Read
public import proofs.«01_k».proof.Proof.Gen.Mla
public import proofs.«01_k».proof.Proof.Gen.Mla.Frame
public import proofs.«01_k».proof.Proof.Gen.MlaIdeal
public import proofs.«01_k».proof.Proof.Gen.MlaIdeal.Frame
public import proofs.«01_k».proof.Proof.Gen.MlaReferenceIdeal
public import proofs.«01_k».proof.Proof.Gen.MlaReferenceIdeal.Run
public import proofs.«01_k».proof.Proof.Gen.MlaReferenceIdeal.Read
public import proofs.«01_k».proof.Proof.Gen.MlaDcq
public import proofs.«01_k».proof.Proof.Gen.MlaDcq.Frame
public import proofs.«01_k».proof.Proof.Gen.MlaDcqIdeal
public import proofs.«01_k».proof.Proof.Gen.MlaDcqIdeal.Frame
public import proofs.«01_k».proof.Proof.Gen.MlaDcqReferenceIdeal
public import proofs.«01_k».proof.Proof.Gen.MlaDcqReferenceIdeal.Run
public import proofs.«01_k».proof.Proof.Gen.MlaDcqReferenceIdeal.Read
public import proofs.«01_k».proof.Proof.Gen.MlaDckv
public import proofs.«01_k».proof.Proof.Gen.MlaDckv.Frame
public import proofs.«01_k».proof.Proof.Gen.MlaDckvIdeal
public import proofs.«01_k».proof.Proof.Gen.MlaDckvIdeal.Frame
public import proofs.«01_k».proof.Proof.Gen.MlaDckvReferenceIdeal
public import proofs.«01_k».proof.Proof.Gen.MlaDckvReferenceIdeal.Run
public import proofs.«01_k».proof.Proof.Gen.MlaDckvReferenceIdeal.Read
public import proofs.«01_k».proof.Proof.MlpDhValue
public import proofs.«01_k».proof.Proof.MlpOutValue
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.MlpDh
public import proofs.«01_k».proof.Proof.Gen.MlpDh.Frame
public import proofs.«01_k».proof.Proof.Gen.MlpDhIdeal
public import proofs.«01_k».proof.Proof.Gen.MlpDhIdeal.Frame
public import proofs.«01_k».proof.Proof.Gen.MlpDhIdeal.Value
public import proofs.«01_k».proof.Proof.Gen.MlpDhReferenceIdeal
public import proofs.«01_k».proof.Proof.Gen.MlpDhReferenceIdeal.Run
public import proofs.«01_k».proof.Proof.Gen.MlpDhReferenceIdeal.Read
public import proofs.«01_k».proof.Proof.Gen.MlpOut
public import proofs.«01_k».proof.Proof.Gen.MlpOut.Frame
public import proofs.«01_k».proof.Proof.Gen.MlpOutIdeal
public import proofs.«01_k».proof.Proof.Gen.MlpOutIdeal.Frame
public import proofs.«01_k».proof.Proof.Gen.MlpOutIdeal.Value
public import proofs.«01_k».proof.Proof.Gen.MlpOutReferenceIdeal
public import proofs.«01_k».proof.Proof.Gen.MlpOutReferenceIdeal.Run
public import proofs.«01_k».proof.Proof.Gen.MlpOutReferenceIdeal.Read
public import proofs.«01_k».proof.Proof.Arrays
public import Idealize.ShloMosaic.Adequacy
public import Idealize.ShloMosaic.Init

/-! The frames of the programs, and the equality of the kernels' results with their references'. -/

@[expose] public section

noncomputable section

namespace Cert.Proof

open Idealize.ShloMosaic Idealize.ShloMosaic.TcCoe Idealize.SL.Sem Cert.Kernel

/-- The reference's frame: its run leaves both arguments as they were and, the program having no semaphore, ends
    with all semaphores at zero. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The side conditions of the precondition. -/
theorem facts_pre : Cert.Pre_finite_inputs.Facts := by
  constructor <;> decide

theorem bound_eq : Ideal.ofBits .bf16 0x7F80#16 = (⊤ : EReal) := by
  simp [Ideal.ofBits, Ideal.ieee]

/-- A value whose size compares below infinity is a real number. -/
theorem real_of {x : EReal} (h : Ideal.cmp .olt (max x (-x)) (Ideal.ofBits .bf16 0x7F80#16) = 1#1) : (x.toReal : EReal) = x := by
  rw [bound_eq] at h
  refine EReal.coe_toReal ?_ ?_
  · rintro rfl
    simp [Ideal.cmp] at h
  · rintro rfl
    simp [Ideal.cmp] at h

/-- The real numbers of an array, by row and column. -/
def reals {k l : ℕ} (x : (⟨2, ![k, l]⟩ : Shape).Idx → EReal) : ℕ → ℕ → ℝ := fun t n =>
  if h : t < k ∧ n < l then (x (ix2 ⟨t, h.1⟩ ⟨n, h.2⟩)).toReal else 0

theorem eq_reals {k l : ℕ} (x : (⟨2, ![k, l]⟩ : Shape).Idx → EReal)
    (h : ∀ (t : Fin k) (n : Fin l), Ideal.cmp .olt (max (x (ix2 t n)) (-x (ix2 t n))) (Ideal.ofBits .bf16 0x7F80#16) = 1#1)
    (t : Fin k) (n : Fin l) : x (ix2 t n) = (reals x t n : EReal) := by
  unfold reals
  rw [dif_pos ⟨t.isLt, n.isLt⟩]
  exact (real_of (h t n)).symm

theorem algebraic : letI := facts_pre; letI := Cert.KernelIdeal.Gen.facts; letI := Cert.ReferenceIdeal.Gen.facts
    Cert.algebraic_KernelIdeal_ReferenceIdeal_pre_finite_inputs := by
  intro m g m' g' hp hm
  let X : Dev Cert.KernelIdeal.nD → ℕ → ℕ → ℝ := fun c => reals (m ((c.tc : Thread Cert.KernelIdeal.nD Cert.KernelIdeal.τ).loc Cert.KernelIdeal.main_arg0))
  let G : Dev Cert.KernelIdeal.nD → ℕ → ℕ → ℝ := fun c => reals (m ((c.tc : Thread Cert.KernelIdeal.nD Cert.KernelIdeal.τ).loc Cert.KernelIdeal.main_arg1))
  have hX : ∀ (c : Dev Cert.KernelIdeal.nD) (t : Fin 2048) (n : Fin 6144), m ((c.tc : Thread Cert.KernelIdeal.nD Cert.KernelIdeal.τ).loc Cert.KernelIdeal.main_arg0) (ix2 t n) = (X c t n : EReal) :=
    fun c => eq_reals _ fun t n => congrFun (hp c).1 (ix2 t n)
  have hG : ∀ (c : Dev Cert.KernelIdeal.nD) (t : Fin 2048) (n : Fin 2048), m ((c.tc : Thread Cert.KernelIdeal.nD Cert.KernelIdeal.τ).loc Cert.KernelIdeal.main_arg1) (ix2 t n) = (G c t n : EReal) :=
    fun c => eq_reals _ fun t n => congrFun (hp c).2 (ix2 t n)
  refine ⟨fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v68 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Value.run_blocks (F := Ideal) m g)
    obtain ⟨h0, h1, h2, h3, h4⟩ := h c
    refine ⟨h0.trans ?_, h1.trans ?_, h2.trans ?_, h3, h4⟩
    · rw [Cert.KernelIdeal.Hand.arr5 m c (X c) (G c) (hX c) (hG c)]
      funext i
      exact (Cert.ReferenceIdeal.Hand.res_q _ _ (X c) (G c) (hX c) (hG c) (i 0) (i 1)).symm.trans (congrArg _ (ix2_eta i))
    · rw [Cert.KernelIdeal.Hand.arr6 m c (X c) (G c) (hX c) (hG c)]
      funext i
      exact (Cert.ReferenceIdeal.Hand.res_k _ _ (X c) (G c) (hX c) (hG c) (i 0) (i 1)).symm.trans (congrArg _ (ix2_eta i))
    · rw [Cert.KernelIdeal.Hand.arr7 m c (X c) (G c) (hX c) (hG c)]
      funext i
      exact (Cert.ReferenceIdeal.Hand.res_v _ _ (X c) (G c) (hX c) (hG c) (i 0) (i 1)).symm.trans (congrArg _ (ix2_eta i))
  · refine (θ_run Cert.ReferenceIdeal.defs _ _).mono (fun r h c => ?_) (Cert.ReferenceIdeal.Value.run (F := Ideal) m' g')
    obtain ⟨h0, h1, h2, h3, h4⟩ := h c
    have e0 := (hm c).1
    have e1 := (hm c).2
    beta_reduce
    rw [← e0, ← e1]
    exact ⟨h0.trans (Cert.ReferenceIdeal.Read.val_main_v67_eq _), h1.trans (Cert.ReferenceIdeal.Read.val_main_v68_eq _),
      h2.trans (Cert.ReferenceIdeal.Read.val_main_v69_eq _), h3, h4⟩

/-! ## The feed-forward block's products -/

theorem frame_Mlp : Cert.quiescent_MlpReferenceIdeal := fun m ρ _ =>
  (θ_run Cert.MlpReferenceIdeal.defs _ _).mono (fun r h => ⟨fun c => (h c).2.2.2.2,
      Idealize.ShloMosaic.sem_eq_zero_of_no_sems (by decide) r.2⟩)
    (Cert.MlpReferenceIdeal.Value.run (F := Ideal) m ρ)

theorem frame_MlpDh : Cert.quiescent_MlpDhReferenceIdeal := fun m ρ _ =>
  (θ_run Cert.MlpDhReferenceIdeal.defs _ _).mono (fun r h => ⟨fun c => (h c).2,
      Idealize.ShloMosaic.sem_eq_zero_of_no_sems (by decide) r.2⟩)
    (Cert.MlpDhReferenceIdeal.Value.run (F := Ideal) m ρ)

theorem frame_MlpOut : Cert.quiescent_MlpOutReferenceIdeal := fun m ρ _ =>
  (θ_run Cert.MlpOutReferenceIdeal.defs _ _).mono (fun r h => ⟨fun c => (h c).2,
      Idealize.ShloMosaic.sem_eq_zero_of_no_sems (by decide) r.2⟩)
    (Cert.MlpOutReferenceIdeal.Value.run (F := Ideal) m ρ)

theorem algebraic_MlpDh : letI := Cert.MlpDhIdeal.Gen.facts; letI := Cert.MlpDhReferenceIdeal.Gen.facts
    Cert.algebraic_MlpDhIdeal_MlpDhReferenceIdeal := by
  intro m g m' g' _ hm
  refine ⟨fun c => Cert.MlpDhReferenceIdeal.Read.val_main_v6 (F := Ideal) (m ((c.tc : Thread Cert.MlpDhIdeal.nD Cert.MlpDhIdeal.τ).loc Cert.MlpDhIdeal.main_arg0)) (m ((c.tc : Thread Cert.MlpDhIdeal.nD Cert.MlpDhIdeal.τ).loc Cert.MlpDhIdeal.main_arg1)), ?_, ?_⟩
  · refine (θ_run Cert.MlpDhIdeal.defs _ _).mono (fun r h c => ?_) (Cert.MlpDhIdeal.Value.run_blocks (F := Ideal) m g)
    obtain ⟨h0, h1, h2⟩ := h c
    refine ⟨h0.trans ?_, h1, h2⟩
    rw [Cert.MlpDhIdeal.Hand.arr m c]
    exact (Cert.MlpDhReferenceIdeal.Hand.value _ _).symm
  · refine (θ_run Cert.MlpDhReferenceIdeal.defs _ _).mono (fun r h c => ?_) (Cert.MlpDhReferenceIdeal.Value.run (F := Ideal) m' g')
    obtain ⟨h0, h1, h2⟩ := h c
    have e0 := (hm c).1
    have e1 := (hm c).2
    beta_reduce
    rw [← e0, ← e1]
    exact ⟨h0.trans (Cert.MlpDhReferenceIdeal.Read.val_main_v6_eq _ _), h1, h2⟩

theorem algebraic_MlpOut : letI := Cert.MlpOutIdeal.Gen.facts; letI := Cert.MlpOutReferenceIdeal.Gen.facts
    Cert.algebraic_MlpOutIdeal_MlpOutReferenceIdeal := by
  intro m g m' g' _ hm
  refine ⟨fun c => Cert.MlpOutReferenceIdeal.Read.val_main_v3 (F := Ideal) (m ((c.tc : Thread Cert.MlpOutIdeal.nD Cert.MlpOutIdeal.τ).loc Cert.MlpOutIdeal.main_arg0)) (m ((c.tc : Thread Cert.MlpOutIdeal.nD Cert.MlpOutIdeal.τ).loc Cert.MlpOutIdeal.main_arg1)), ?_, ?_⟩
  · refine (θ_run Cert.MlpOutIdeal.defs _ _).mono (fun r h c => ?_) (Cert.MlpOutIdeal.Value.run_blocks (F := Ideal) m g)
    obtain ⟨h0, h1, h2⟩ := h c
    refine ⟨h0.trans ?_, h1, h2⟩
    rw [Cert.MlpOutIdeal.Hand.arr m c]
    exact (Cert.MlpOutReferenceIdeal.Hand.value _ _).symm
  · refine (θ_run Cert.MlpOutReferenceIdeal.defs _ _).mono (fun r h c => ?_) (Cert.MlpOutReferenceIdeal.Value.run (F := Ideal) m' g')
    obtain ⟨h0, h1, h2⟩ := h c
    have e0 := (hm c).1
    have e1 := (hm c).2
    beta_reduce
    rw [← e0, ← e1]
    exact ⟨h0.trans (Cert.MlpOutReferenceIdeal.Read.val_main_v3_eq _ _), h1, h2⟩

theorem algebraic_Mlp : letI := Cert.MlpIdeal.Gen.facts; letI := Cert.MlpReferenceIdeal.Gen.facts
    Cert.algebraic_MlpIdeal_MlpReferenceIdeal := by
  intro m g m' g' _ hm
  refine ⟨fun c => Cert.MlpReferenceIdeal.Read.val_main_v24 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)),
    fun c => Cert.MlpReferenceIdeal.Read.val_main_v25 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)),
    fun c => Cert.MlpReferenceIdeal.Read.val_main_v28 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)),
    fun c => Cert.MlpReferenceIdeal.Read.val_main_v31 (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg3)), ?_, ?_⟩
  · refine (θ_run Cert.MlpIdeal.defs _ _).mono (fun r h c => ?_) (Cert.MlpIdeal.Hand.run m g)
    obtain ⟨h0, h1, h2, h3, h4⟩ := h c
    refine ⟨h0.trans (Cert.MlpReferenceIdeal.Hand.z_eq _ _).symm, h1.trans (Cert.MlpReferenceIdeal.Hand.da_eq _ _ _ _).symm, h2.trans ?_,
      h3.trans (Cert.MlpReferenceIdeal.Hand.gout_eq _ _ _).symm, h4⟩
    refine Eq.trans ?_ (Cert.MlpReferenceIdeal.Hand.gin_eq _ _ _ _).symm
    rw [Cert.MlpReferenceIdeal.Hand.da_eq]
    rfl
  · refine (θ_run Cert.MlpReferenceIdeal.defs _ _).mono (fun r h c => ?_) (Cert.MlpReferenceIdeal.Value.run (F := Ideal) m' g')
    obtain ⟨h0, h1, h2, h3, h4⟩ := h c
    obtain ⟨e0, e1, e2, e3⟩ := hm c
    beta_reduce
    rw [← e0, ← e1, ← e2, ← e3]
    exact ⟨h0.trans (Cert.MlpReferenceIdeal.Read.val_main_v24_eq _ _), h1.trans (Cert.MlpReferenceIdeal.Read.val_main_v25_eq _ _ _ _),
      h2.trans (Cert.MlpReferenceIdeal.Read.val_main_v28_eq _ _ _ _), h3.trans (Cert.MlpReferenceIdeal.Read.val_main_v31_eq _ _ _), h4⟩

/-! ## The projections of the three mixers -/

theorem frame_Sb : Cert.quiescent_SbReferenceIdeal := fun m ρ _ =>
  (θ_run Cert.SbReferenceIdeal.defs _ _).mono (fun r h => ⟨fun c => (h c).2.2.2.2.2,
      Idealize.ShloMosaic.sem_eq_zero_of_no_sems (by decide) r.2⟩)
    (Cert.SbReferenceIdeal.Value.run (F := Ideal) m ρ)

theorem algebraic_Sb : letI := Cert.SbIdeal.Gen.facts; letI := Cert.SbReferenceIdeal.Gen.facts
    Cert.algebraic_SbIdeal_SbReferenceIdeal := by
  intro m g m' g' _ hm
  refine ⟨fun c => Cert.SbReferenceIdeal.Read.val_main_v16 (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)),
    fun c => Cert.SbReferenceIdeal.Read.val_main_v8 (F := Ideal) (m ((c.tc : Thread Cert.SbIdeal.nD Cert.SbIdeal.τ).loc Cert.SbIdeal.main_arg2)) (m ((c.tc : Thread Cert.SbIdeal.nD Cert.SbIdeal.τ).loc Cert.SbIdeal.main_arg3)),
    fun c => Cert.SbReferenceIdeal.Read.val_main_v19 (F := Ideal) (m ((c.tc : Thread Cert.SbIdeal.nD Cert.SbIdeal.τ).loc Cert.SbIdeal.main_arg3)) (m ((c.tc : Thread Cert.SbIdeal.nD Cert.SbIdeal.τ).loc Cert.SbIdeal.main_arg4)),
    fun c => Cert.SbReferenceIdeal.Read.val_main_v20 (F := Ideal) (m ((c.tc : Thread Cert.SbIdeal.nD Cert.SbIdeal.τ).loc Cert.SbIdeal.main_arg2)) (m ((c.tc : Thread Cert.SbIdeal.nD Cert.SbIdeal.τ).loc Cert.SbIdeal.main_arg4)),
    fun c => Cert.SbReferenceIdeal.Read.val_main_v23 (F := Ideal) (m ((c.tc : Thread Cert.SbIdeal.nD Cert.SbIdeal.τ).loc Cert.SbIdeal.main_arg0)) (m ((c.tc : Thread Cert.SbIdeal.nD Cert.SbIdeal.τ).loc Cert.SbIdeal.main_arg5)), ?_, ?_⟩
  · refine (θ_run Cert.SbIdeal.defs _ _).mono (fun r h c => ?_) (Cert.SbIdeal.Hand.run m g)
    obtain ⟨h0, h1, h2, h3, h4, h5⟩ := h c
    exact ⟨h0.trans (Cert.SbReferenceIdeal.Hand.v0_eq _ _).symm,
      h1.trans (Cert.SbReferenceIdeal.Hand.v2_eq _ _).symm,
      h2.trans (Cert.SbReferenceIdeal.Hand.v4_eq _ _).symm,
      h3.trans (Cert.SbReferenceIdeal.Hand.v6_eq _ _).symm,
      h4.trans (Cert.SbReferenceIdeal.Hand.v8_eq _ _).symm, h5⟩
  · refine (θ_run Cert.SbReferenceIdeal.defs _ _).mono (fun r h c => ?_) (Cert.SbReferenceIdeal.Value.run (F := Ideal) m' g')
    obtain ⟨h0, h1, h2, h3, h4, h5⟩ := h c
    obtain ⟨e0, e1, e2, e3, e4, e5⟩ := hm c
    beta_reduce
    rw [← e0, ← e1, ← e2, ← e3, ← e4, ← e5]
    exact ⟨h0.trans (Cert.SbReferenceIdeal.Read.val_main_v16_eq _ _),
      h1.trans (Cert.SbReferenceIdeal.Read.val_main_v8_eq _ _),
      h2.trans (Cert.SbReferenceIdeal.Read.val_main_v19_eq _ _),
      h3.trans (Cert.SbReferenceIdeal.Read.val_main_v20_eq _ _),
      h4.trans (Cert.SbReferenceIdeal.Read.val_main_v23_eq _ _), h5⟩

theorem frame_SbDh : Cert.quiescent_SbDhReferenceIdeal := fun m ρ _ =>
  (θ_run Cert.SbDhReferenceIdeal.defs _ _).mono (fun r h => ⟨fun c => (h c).2,
      Idealize.ShloMosaic.sem_eq_zero_of_no_sems (by decide) r.2⟩)
    (Cert.SbDhReferenceIdeal.Value.run (F := Ideal) m ρ)

theorem algebraic_SbDh : letI := Cert.SbDhIdeal.Gen.facts; letI := Cert.SbDhReferenceIdeal.Gen.facts
    Cert.algebraic_SbDhIdeal_SbDhReferenceIdeal := by
  intro m g m' g' _ hm
  refine ⟨fun c => Cert.SbDhReferenceIdeal.Read.val_main_v6 (F := Ideal) (m ((c.tc : Thread Cert.SbDhIdeal.nD Cert.SbDhIdeal.τ).loc Cert.SbDhIdeal.main_arg0)) (m ((c.tc : Thread Cert.SbDhIdeal.nD Cert.SbDhIdeal.τ).loc Cert.SbDhIdeal.main_arg1)), ?_, ?_⟩
  · refine (θ_run Cert.SbDhIdeal.defs _ _).mono (fun r h c => ?_) (Cert.SbDhIdeal.Value.run_blocks (F := Ideal) m g)
    obtain ⟨h0, h1, h2⟩ := h c
    refine ⟨h0.trans ?_, h1, h2⟩
    rw [Cert.SbDhIdeal.Hand.arr m c]
    exact (Cert.SbDhReferenceIdeal.Hand.value _ _).symm
  · refine (θ_run Cert.SbDhReferenceIdeal.defs _ _).mono (fun r h c => ?_) (Cert.SbDhReferenceIdeal.Value.run (F := Ideal) m' g')
    obtain ⟨h0, h1, h2⟩ := h c
    have e0 := (hm c).1
    have e1 := (hm c).2
    beta_reduce
    rw [← e0, ← e1]
    exact ⟨h0.trans (Cert.SbDhReferenceIdeal.Read.val_main_v6_eq _ _), h1, h2⟩

theorem frame_Ca : Cert.quiescent_CaReferenceIdeal := fun m ρ _ =>
  (θ_run Cert.CaReferenceIdeal.defs _ _).mono (fun r h => ⟨fun c => (h c).2.2.2.2.2,
      Idealize.ShloMosaic.sem_eq_zero_of_no_sems (by decide) r.2⟩)
    (Cert.CaReferenceIdeal.Value.run (F := Ideal) m ρ)

theorem algebraic_Ca : letI := Cert.CaIdeal.Gen.facts; letI := Cert.CaReferenceIdeal.Gen.facts
    Cert.algebraic_CaIdeal_CaReferenceIdeal := by
  intro m g m' g' _ hm
  refine ⟨fun c => Cert.CaReferenceIdeal.Read.val_main_v16 (F := Ideal) (m ((c.tc : Thread Cert.CaIdeal.nD Cert.CaIdeal.τ).loc Cert.CaIdeal.main_arg0)) (m ((c.tc : Thread Cert.CaIdeal.nD Cert.CaIdeal.τ).loc Cert.CaIdeal.main_arg1)),
    fun c => Cert.CaReferenceIdeal.Read.val_main_v8 (F := Ideal) (m ((c.tc : Thread Cert.CaIdeal.nD Cert.CaIdeal.τ).loc Cert.CaIdeal.main_arg2)) (m ((c.tc : Thread Cert.CaIdeal.nD Cert.CaIdeal.τ).loc Cert.CaIdeal.main_arg3)),
    fun c => Cert.CaReferenceIdeal.Read.val_main_v19 (F := Ideal) (m ((c.tc : Thread Cert.CaIdeal.nD Cert.CaIdeal.τ).loc Cert.CaIdeal.main_arg3)) (m ((c.tc : Thread Cert.CaIdeal.nD Cert.CaIdeal.τ).loc Cert.CaIdeal.main_arg4)),
    fun c => Cert.CaReferenceIdeal.Read.val_main_v20 (F := Ideal) (m ((c.tc : Thread Cert.CaIdeal.nD Cert.CaIdeal.τ).loc Cert.CaIdeal.main_arg2)) (m ((c.tc : Thread Cert.CaIdeal.nD Cert.CaIdeal.τ).loc Cert.CaIdeal.main_arg4)),
    fun c => Cert.CaReferenceIdeal.Read.val_main_v23 (F := Ideal) (m ((c.tc : Thread Cert.CaIdeal.nD Cert.CaIdeal.τ).loc Cert.CaIdeal.main_arg0)) (m ((c.tc : Thread Cert.CaIdeal.nD Cert.CaIdeal.τ).loc Cert.CaIdeal.main_arg5)), ?_, ?_⟩
  · refine (θ_run Cert.CaIdeal.defs _ _).mono (fun r h c => ?_) (Cert.CaIdeal.Hand.run m g)
    obtain ⟨h0, h1, h2, h3, h4, h5⟩ := h c
    exact ⟨h0.trans (Cert.CaReferenceIdeal.Hand.v0_eq _ _).symm,
      h1.trans (Cert.CaReferenceIdeal.Hand.v2_eq _ _).symm,
      h2.trans (Cert.CaReferenceIdeal.Hand.v4_eq _ _).symm,
      h3.trans (Cert.CaReferenceIdeal.Hand.v6_eq _ _).symm,
      h4.trans (Cert.CaReferenceIdeal.Hand.v8_eq _ _).symm, h5⟩
  · refine (θ_run Cert.CaReferenceIdeal.defs _ _).mono (fun r h c => ?_) (Cert.CaReferenceIdeal.Value.run (F := Ideal) m' g')
    obtain ⟨h0, h1, h2, h3, h4, h5⟩ := h c
    obtain ⟨e0, e1, e2, e3, e4, e5⟩ := hm c
    beta_reduce
    rw [← e0, ← e1, ← e2, ← e3, ← e4, ← e5]
    exact ⟨h0.trans (Cert.CaReferenceIdeal.Read.val_main_v16_eq _ _),
      h1.trans (Cert.CaReferenceIdeal.Read.val_main_v8_eq _ _),
      h2.trans (Cert.CaReferenceIdeal.Read.val_main_v19_eq _ _),
      h3.trans (Cert.CaReferenceIdeal.Read.val_main_v20_eq _ _),
      h4.trans (Cert.CaReferenceIdeal.Read.val_main_v23_eq _ _), h5⟩

theorem frame_CaDh : Cert.quiescent_CaDhReferenceIdeal := fun m ρ _ =>
  (θ_run Cert.CaDhReferenceIdeal.defs _ _).mono (fun r h => ⟨fun c => (h c).2,
      Idealize.ShloMosaic.sem_eq_zero_of_no_sems (by decide) r.2⟩)
    (Cert.CaDhReferenceIdeal.Value.run (F := Ideal) m ρ)

theorem algebraic_CaDh : letI := Cert.CaDhIdeal.Gen.facts; letI := Cert.CaDhReferenceIdeal.Gen.facts
    Cert.algebraic_CaDhIdeal_CaDhReferenceIdeal := by
  intro m g m' g' _ hm
  refine ⟨fun c => Cert.CaDhReferenceIdeal.Read.val_main_v6 (F := Ideal) (m ((c.tc : Thread Cert.CaDhIdeal.nD Cert.CaDhIdeal.τ).loc Cert.CaDhIdeal.main_arg0)) (m ((c.tc : Thread Cert.CaDhIdeal.nD Cert.CaDhIdeal.τ).loc Cert.CaDhIdeal.main_arg1)), ?_, ?_⟩
  · refine (θ_run Cert.CaDhIdeal.defs _ _).mono (fun r h c => ?_) (Cert.CaDhIdeal.Value.run_blocks (F := Ideal) m g)
    obtain ⟨h0, h1, h2⟩ := h c
    refine ⟨h0.trans ?_, h1, h2⟩
    rw [Cert.CaDhIdeal.Hand.arr m c]
    exact (Cert.CaDhReferenceIdeal.Hand.value _ _).symm
  · refine (θ_run Cert.CaDhReferenceIdeal.defs _ _).mono (fun r h c => ?_) (Cert.CaDhReferenceIdeal.Value.run (F := Ideal) m' g')
    obtain ⟨h0, h1, h2⟩ := h c
    have e0 := (hm c).1
    have e1 := (hm c).2
    beta_reduce
    rw [← e0, ← e1]
    exact ⟨h0.trans (Cert.CaDhReferenceIdeal.Read.val_main_v6_eq _ _), h1, h2⟩

theorem frame_Mla : Cert.quiescent_MlaReferenceIdeal := fun m ρ _ =>
  (θ_run Cert.MlaReferenceIdeal.defs _ _).mono (fun r h => ⟨fun c => (h c).2.2.2.2.2.2.2.2.2.2,
      Idealize.ShloMosaic.sem_eq_zero_of_no_sems (by decide) r.2⟩)
    (Cert.MlaReferenceIdeal.Value.run (F := Ideal) m ρ)

theorem algebraic_Mla : letI := Cert.MlaIdeal.Gen.facts; letI := Cert.MlaReferenceIdeal.Gen.facts
    Cert.algebraic_MlaIdeal_MlaReferenceIdeal := by
  intro m g m' g' _ hm
  refine ⟨fun c => Cert.MlaReferenceIdeal.Read.val_main_v3 (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg4)),
    fun c => Cert.MlaReferenceIdeal.Read.val_main_v8 (F := Ideal) (m ((c.tc : Thread Cert.MlaIdeal.nD Cert.MlaIdeal.τ).loc Cert.MlaIdeal.main_arg1)) (m ((c.tc : Thread Cert.MlaIdeal.nD Cert.MlaIdeal.τ).loc Cert.MlaIdeal.main_arg5)),
    fun c => Cert.MlaReferenceIdeal.Read.val_main_v32 (F := Ideal) (m ((c.tc : Thread Cert.MlaIdeal.nD Cert.MlaIdeal.τ).loc Cert.MlaIdeal.main_arg2)) (m ((c.tc : Thread Cert.MlaIdeal.nD Cert.MlaIdeal.τ).loc Cert.MlaIdeal.main_arg6)),
    fun c => Cert.MlaReferenceIdeal.Read.val_main_v17 (F := Ideal) (m ((c.tc : Thread Cert.MlaIdeal.nD Cert.MlaIdeal.τ).loc Cert.MlaIdeal.main_arg3)) (m ((c.tc : Thread Cert.MlaIdeal.nD Cert.MlaIdeal.τ).loc Cert.MlaIdeal.main_arg7)),
    fun c => Cert.MlaReferenceIdeal.Read.val_main_v35 (F := Ideal) (m ((c.tc : Thread Cert.MlaIdeal.nD Cert.MlaIdeal.τ).loc Cert.MlaIdeal.main_arg3)) (m ((c.tc : Thread Cert.MlaIdeal.nD Cert.MlaIdeal.τ).loc Cert.MlaIdeal.main_arg8)),
    fun c => Cert.MlaReferenceIdeal.Read.val_main_v36 (F := Ideal) (m ((c.tc : Thread Cert.MlaIdeal.nD Cert.MlaIdeal.τ).loc Cert.MlaIdeal.main_arg7)) (m ((c.tc : Thread Cert.MlaIdeal.nD Cert.MlaIdeal.τ).loc Cert.MlaIdeal.main_arg8)),
    fun c => Cert.MlaReferenceIdeal.Read.val_main_v39 (F := Ideal) (m ((c.tc : Thread Cert.MlaIdeal.nD Cert.MlaIdeal.τ).loc Cert.MlaIdeal.main_arg1)) (m ((c.tc : Thread Cert.MlaIdeal.nD Cert.MlaIdeal.τ).loc Cert.MlaIdeal.main_arg9)),
    fun c => Cert.MlaReferenceIdeal.Read.val_main_v42 (F := Ideal) (m ((c.tc : Thread Cert.MlaIdeal.nD Cert.MlaIdeal.τ).loc Cert.MlaIdeal.main_arg2)) (m ((c.tc : Thread Cert.MlaIdeal.nD Cert.MlaIdeal.τ).loc Cert.MlaIdeal.main_arg10)),
    fun c => Cert.MlaReferenceIdeal.Read.val_main_v45 (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg11)),
    fun c => Cert.MlaReferenceIdeal.Read.val_main_v31 (F := Ideal) (m ((c.tc : Thread Cert.MlaIdeal.nD Cert.MlaIdeal.τ).loc Cert.MlaIdeal.main_arg4)) (m ((c.tc : Thread Cert.MlaIdeal.nD Cert.MlaIdeal.τ).loc Cert.MlaIdeal.main_arg11)), ?_, ?_⟩
  · refine (θ_run Cert.MlaIdeal.defs _ _).mono (fun r h c => ?_) (Cert.MlaIdeal.Hand.run m g)
    obtain ⟨h0, h1, h2, h3, h4, h5, h6, h7, h8, h9, h10⟩ := h c
    exact ⟨h0.trans (Cert.MlaReferenceIdeal.Hand.v1_eq _ _).symm,
      h1.trans (Cert.MlaReferenceIdeal.Hand.v2_eq _ _).symm,
      h2.trans (Cert.MlaReferenceIdeal.Hand.v3_eq _ _).symm,
      h3.trans (Cert.MlaReferenceIdeal.Hand.v5_eq _ _).symm,
      h4.trans (Cert.MlaReferenceIdeal.Hand.v7_eq _ _).symm,
      h5.trans (Cert.MlaReferenceIdeal.Hand.v9_eq _ _).symm,
      h6.trans (Cert.MlaReferenceIdeal.Hand.v11_eq _ _).symm,
      h7.trans (Cert.MlaReferenceIdeal.Hand.v13_eq _ _).symm,
      h8.trans (Cert.MlaReferenceIdeal.Hand.v15_eq _ _).symm,
      h9.trans (Cert.MlaReferenceIdeal.Hand.v17_eq _ _).symm, h10⟩
  · refine (θ_run Cert.MlaReferenceIdeal.defs _ _).mono (fun r h c => ?_) (Cert.MlaReferenceIdeal.Value.run (F := Ideal) m' g')
    obtain ⟨h0, h1, h2, h3, h4, h5, h6, h7, h8, h9, h10⟩ := h c
    obtain ⟨e0, e1, e2, e3, e4, e5, e6, e7, e8, e9, e10, e11⟩ := hm c
    beta_reduce
    rw [← e0, ← e1, ← e2, ← e3, ← e4, ← e5, ← e6, ← e7, ← e8, ← e9, ← e10, ← e11]
    exact ⟨h0.trans (Cert.MlaReferenceIdeal.Read.val_main_v3_eq _ _),
      h1.trans (Cert.MlaReferenceIdeal.Read.val_main_v8_eq _ _),
      h2.trans (Cert.MlaReferenceIdeal.Read.val_main_v32_eq _ _),
      h3.trans (Cert.MlaReferenceIdeal.Read.val_main_v17_eq _ _),
      h4.trans (Cert.MlaReferenceIdeal.Read.val_main_v35_eq _ _),
      h5.trans (Cert.MlaReferenceIdeal.Read.val_main_v36_eq _ _),
      h6.trans (Cert.MlaReferenceIdeal.Read.val_main_v39_eq _ _),
      h7.trans (Cert.MlaReferenceIdeal.Read.val_main_v42_eq _ _),
      h8.trans (Cert.MlaReferenceIdeal.Read.val_main_v45_eq _ _),
      h9.trans (Cert.MlaReferenceIdeal.Read.val_main_v31_eq _ _), h10⟩

theorem frame_MlaDcq : Cert.quiescent_MlaDcqReferenceIdeal := fun m ρ _ =>
  (θ_run Cert.MlaDcqReferenceIdeal.defs _ _).mono (fun r h => ⟨fun c => (h c).2,
      Idealize.ShloMosaic.sem_eq_zero_of_no_sems (by decide) r.2⟩)
    (Cert.MlaDcqReferenceIdeal.Value.run (F := Ideal) m ρ)

theorem algebraic_MlaDcq : letI := Cert.MlaDcqIdeal.Gen.facts; letI := Cert.MlaDcqReferenceIdeal.Gen.facts
    Cert.algebraic_MlaDcqIdeal_MlaDcqReferenceIdeal := by
  intro m g m' g' _ hm
  refine ⟨fun c => Cert.MlaDcqReferenceIdeal.Read.val_main_v6 (F := Ideal) (m ((c.tc : Thread Cert.MlaDcqIdeal.nD Cert.MlaDcqIdeal.τ).loc Cert.MlaDcqIdeal.main_arg0)) (m ((c.tc : Thread Cert.MlaDcqIdeal.nD Cert.MlaDcqIdeal.τ).loc Cert.MlaDcqIdeal.main_arg1)), ?_, ?_⟩
  · refine (θ_run Cert.MlaDcqIdeal.defs _ _).mono (fun r h c => ?_) (Cert.MlaDcqIdeal.Value.run_blocks (F := Ideal) m g)
    obtain ⟨h0, h1, h2⟩ := h c
    refine ⟨h0.trans ?_, h1, h2⟩
    rw [Cert.MlaDcqIdeal.Hand.arr m c]
    exact (Cert.MlaDcqReferenceIdeal.Hand.value _ _).symm
  · refine (θ_run Cert.MlaDcqReferenceIdeal.defs _ _).mono (fun r h c => ?_) (Cert.MlaDcqReferenceIdeal.Value.run (F := Ideal) m' g')
    obtain ⟨h0, h1, h2⟩ := h c
    have e0 := (hm c).1
    have e1 := (hm c).2
    beta_reduce
    rw [← e0, ← e1]
    exact ⟨h0.trans (Cert.MlaDcqReferenceIdeal.Read.val_main_v6_eq _ _), h1, h2⟩

theorem frame_MlaDckv : Cert.quiescent_MlaDckvReferenceIdeal := fun m ρ _ =>
  (θ_run Cert.MlaDckvReferenceIdeal.defs _ _).mono (fun r h => ⟨fun c => (h c).2,
      Idealize.ShloMosaic.sem_eq_zero_of_no_sems (by decide) r.2⟩)
    (Cert.MlaDckvReferenceIdeal.Value.run (F := Ideal) m ρ)

theorem algebraic_MlaDckv : letI := Cert.MlaDckvIdeal.Gen.facts; letI := Cert.MlaDckvReferenceIdeal.Gen.facts
    Cert.algebraic_MlaDckvIdeal_MlaDckvReferenceIdeal := by
  intro m g m' g' _ hm
  refine ⟨fun c => Cert.MlaDckvReferenceIdeal.Read.val_main_v6 (F := Ideal) (m ((c.tc : Thread Cert.MlaDckvIdeal.nD Cert.MlaDckvIdeal.τ).loc Cert.MlaDckvIdeal.main_arg0)) (m ((c.tc : Thread Cert.MlaDckvIdeal.nD Cert.MlaDckvIdeal.τ).loc Cert.MlaDckvIdeal.main_arg1)), ?_, ?_⟩
  · refine (θ_run Cert.MlaDckvIdeal.defs _ _).mono (fun r h c => ?_) (Cert.MlaDckvIdeal.Value.run_blocks (F := Ideal) m g)
    obtain ⟨h0, h1, h2⟩ := h c
    refine ⟨h0.trans ?_, h1, h2⟩
    rw [Cert.MlaDckvIdeal.Hand.arr m c]
    exact (Cert.MlaDckvReferenceIdeal.Hand.value _ _).symm
  · refine (θ_run Cert.MlaDckvReferenceIdeal.defs _ _).mono (fun r h c => ?_) (Cert.MlaDckvReferenceIdeal.Value.run (F := Ideal) m' g')
    obtain ⟨h0, h1, h2⟩ := h c
    have e0 := (hm c).1
    have e1 := (hm c).2
    beta_reduce
    rw [← e0, ← e1]
    exact ⟨h0.trans (Cert.MlaDckvReferenceIdeal.Read.val_main_v6_eq _ _), h1, h2⟩

/-! ## The latent attention's backward pass -/

/-- The side conditions of its precondition. -/
theorem facts_heads : Cert.Pre_finite_heads.Facts := by
  constructor <;> decide

theorem frame_MlaAttn : Cert.quiescent_MlaAttnReferenceIdeal := fun m ρ _ =>
  (θ_run Cert.MlaAttnReferenceIdeal.defs _ _).mono (fun r h => ⟨fun c => (h c).2.2.2,
      Idealize.ShloMosaic.sem_eq_zero_of_no_sems (by decide) r.2⟩)
    (Cert.MlaAttnReferenceIdeal.Value.run (F := Ideal) m ρ)

theorem algebraic_MlaAttn : letI := facts_heads; letI := Cert.MlaAttnIdeal.Gen.facts; letI := Cert.MlaAttnReferenceIdeal.Gen.facts
    Cert.algebraic_MlaAttnIdeal_MlaAttnReferenceIdeal_pre_finite_heads := by
  intro m g m' g' hp hm
  let Q : Dev Cert.MlaAttnIdeal.nD → ℕ → ℕ → ℝ := fun c => reals (m ((c.tc : Thread Cert.MlaAttnIdeal.nD Cert.MlaAttnIdeal.τ).loc Cert.MlaAttnIdeal.main_arg0))
  let K : Dev Cert.MlaAttnIdeal.nD → ℕ → ℕ → ℝ := fun c => reals (m ((c.tc : Thread Cert.MlaAttnIdeal.nD Cert.MlaAttnIdeal.τ).loc Cert.MlaAttnIdeal.main_arg1))
  let W : Dev Cert.MlaAttnIdeal.nD → ℕ → ℕ → ℝ := fun c => reals (m ((c.tc : Thread Cert.MlaAttnIdeal.nD Cert.MlaAttnIdeal.τ).loc Cert.MlaAttnIdeal.main_arg2))
  let G : Dev Cert.MlaAttnIdeal.nD → ℕ → ℕ → ℝ := fun c => reals (m ((c.tc : Thread Cert.MlaAttnIdeal.nD Cert.MlaAttnIdeal.τ).loc Cert.MlaAttnIdeal.main_arg3))
  have hQ : ∀ (c : Dev Cert.MlaAttnIdeal.nD) (t : Fin 2048) (n : Fin 4096), m ((c.tc : Thread Cert.MlaAttnIdeal.nD Cert.MlaAttnIdeal.τ).loc Cert.MlaAttnIdeal.main_arg0) (ix2 t n) = (Q c t n : EReal) :=
    fun c => eq_reals _ fun t n => congrFun (hp c).1 (ix2 t n)
  have hK : ∀ (c : Dev Cert.MlaAttnIdeal.nD) (t : Fin 2048) (n : Fin 4096), m ((c.tc : Thread Cert.MlaAttnIdeal.nD Cert.MlaAttnIdeal.τ).loc Cert.MlaAttnIdeal.main_arg1) (ix2 t n) = (K c t n : EReal) :=
    fun c => eq_reals _ fun t n => congrFun (hp c).2.1 (ix2 t n)
  have hW : ∀ (c : Dev Cert.MlaAttnIdeal.nD) (t : Fin 2048) (n : Fin 4096), m ((c.tc : Thread Cert.MlaAttnIdeal.nD Cert.MlaAttnIdeal.τ).loc Cert.MlaAttnIdeal.main_arg2) (ix2 t n) = (W c t n : EReal) :=
    fun c => eq_reals _ fun t n => congrFun (hp c).2.2.1 (ix2 t n)
  have hG : ∀ (c : Dev Cert.MlaAttnIdeal.nD) (t : Fin 2048) (n : Fin 2048), m ((c.tc : Thread Cert.MlaAttnIdeal.nD Cert.MlaAttnIdeal.τ).loc Cert.MlaAttnIdeal.main_arg3) (ix2 t n) = (G c t n : EReal) :=
    fun c => eq_reals _ fun t n => congrFun (hp c).2.2.2 (ix2 t n)
  refine ⟨fun c => Cert.MlaAttnReferenceIdeal.Read.val_main_v109 (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3)),
    fun c => Cert.MlaAttnReferenceIdeal.Read.val_main_v110 (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3)),
    fun c => Cert.MlaAttnReferenceIdeal.Read.val_main_v111 (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg3)), ?_, ?_⟩
  · refine (θ_run Cert.MlaAttnIdeal.defs _ _).mono (fun r h c => ?_) (Cert.MlaAttnIdeal.Value.run_blocks (F := Ideal) m g)
    obtain ⟨h0, h1, h2, h3⟩ := h c
    refine ⟨h0.trans ?_, h1.trans ?_, h2.trans ?_, h3⟩
    · rw [Cert.MlaAttnIdeal.Hand.arr6 m c (Q c) (K c) (W c) (G c) (hQ c) (hK c) (hW c) (hG c)]
      funext i
      exact (Cert.MlaAttnReferenceIdeal.Hand.res_q (Q := Q c) (K := K c) (V := W c) (G := G c) (hQ := hQ c) (hK := hK c) (hV := hW c) (hG := hG c) (t := i 0) (n := i 1)).symm.trans (congrArg _ (ix2_eta i))
    · rw [Cert.MlaAttnIdeal.Hand.arr7 m c (Q c) (K c) (W c) (G c) (hQ c) (hK c) (hW c) (hG c)]
      funext i
      exact (Cert.MlaAttnReferenceIdeal.Hand.res_k (Q := Q c) (K := K c) (V := W c) (G := G c) (hQ := hQ c) (hK := hK c) (hV := hW c) (hG := hG c) (t := i 0) (n := i 1)).symm.trans (congrArg _ (ix2_eta i))
    · rw [Cert.MlaAttnIdeal.Hand.arr8 m c (Q c) (K c) (W c) (G c) (hQ c) (hK c) (hW c) (hG c)]
      funext i
      exact (Cert.MlaAttnReferenceIdeal.Hand.res_v (Q := Q c) (K := K c) (V := W c) (G := G c) (hQ := hQ c) (hK := hK c) (hG := hG c) (t := i 0) (n := i 1)).symm.trans (congrArg _ (ix2_eta i))
  · refine (θ_run Cert.MlaAttnReferenceIdeal.defs _ _).mono (fun r h c => ?_) (Cert.MlaAttnReferenceIdeal.Value.run (F := Ideal) m' g')
    obtain ⟨h0, h1, h2, h3⟩ := h c
    obtain ⟨e0, e1, e2, e3⟩ := hm c
    beta_reduce
    rw [← e0, ← e1, ← e2, ← e3]
    exact ⟨h0.trans (Cert.MlaAttnReferenceIdeal.Read.val_main_v109_eq _ _), h1.trans (Cert.MlaAttnReferenceIdeal.Read.val_main_v110_eq _ _),
      h2.trans (Cert.MlaAttnReferenceIdeal.Read.val_main_v111_eq _ _), h3⟩

theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.MlpDh.Gen.facts, Cert.MlpDhIdeal.Gen.facts, Cert.MlpDhReferenceIdeal.Gen.facts,
  Cert.MlpOut.Gen.facts, Cert.MlpOutIdeal.Gen.facts, Cert.MlpOutReferenceIdeal.Gen.facts,
  Cert.Sb.Gen.facts, Cert.SbIdeal.Gen.facts, Cert.SbReferenceIdeal.Gen.facts,
  Cert.SbDh.Gen.facts, Cert.SbDhIdeal.Gen.facts, Cert.SbDhReferenceIdeal.Gen.facts,
  Cert.Ca.Gen.facts, Cert.CaIdeal.Gen.facts, Cert.CaReferenceIdeal.Gen.facts,
  Cert.CaDh.Gen.facts, Cert.CaDhIdeal.Gen.facts, Cert.CaDhReferenceIdeal.Gen.facts,
  Cert.Mla.Gen.facts, Cert.MlaIdeal.Gen.facts, Cert.MlaReferenceIdeal.Gen.facts,
  Cert.MlaDcq.Gen.facts, Cert.MlaDcqIdeal.Gen.facts, Cert.MlaDcqReferenceIdeal.Gen.facts,
  Cert.MlaDckv.Gen.facts, Cert.MlaDckvIdeal.Gen.facts, Cert.MlaDckvReferenceIdeal.Gen.facts,
  Cert.MlaAttn.Gen.facts, Cert.MlaAttnIdeal.Gen.facts, Cert.MlaAttnReferenceIdeal.Gen.facts,
  facts_pre, facts_heads,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Mlp.Gen.frame m ρ, fun m ρ _ => Cert.MlpIdeal.Gen.frame m ρ, frame_Mlp,
  fun m ρ _ => Cert.MlpDh.Gen.frame m ρ, fun m ρ _ => Cert.MlpDhIdeal.Gen.frame m ρ, frame_MlpDh,
  fun m ρ _ => Cert.MlpOut.Gen.frame m ρ, fun m ρ _ => Cert.MlpOutIdeal.Gen.frame m ρ, frame_MlpOut,
  fun m ρ _ => Cert.Sb.Gen.frame m ρ, fun m ρ _ => Cert.SbIdeal.Gen.frame m ρ, frame_Sb,
  fun m ρ _ => Cert.SbDh.Gen.frame m ρ, fun m ρ _ => Cert.SbDhIdeal.Gen.frame m ρ, frame_SbDh,
  fun m ρ _ => Cert.Ca.Gen.frame m ρ, fun m ρ _ => Cert.CaIdeal.Gen.frame m ρ, frame_Ca,
  fun m ρ _ => Cert.CaDh.Gen.frame m ρ, fun m ρ _ => Cert.CaDhIdeal.Gen.frame m ρ, frame_CaDh,
  fun m ρ _ => Cert.Mla.Gen.frame m ρ, fun m ρ _ => Cert.MlaIdeal.Gen.frame m ρ, frame_Mla,
  fun m ρ _ => Cert.MlaDcq.Gen.frame m ρ, fun m ρ _ => Cert.MlaDcqIdeal.Gen.frame m ρ, frame_MlaDcq,
  fun m ρ _ => Cert.MlaDckv.Gen.frame m ρ, fun m ρ _ => Cert.MlaDckvIdeal.Gen.frame m ρ, frame_MlaDckv,
  fun m ρ _ => Cert.MlaAttn.Gen.frame m ρ, fun m ρ _ => Cert.MlaAttnIdeal.Gen.frame m ρ, fun m ρ _ => Cert.MlaAttnIdeal.Gen.frame m ρ,
  frame_MlaAttn, fun m ρ _ => frame_MlaAttn m ρ trivial,
  trivial, algebraic, trivial, algebraic_Mlp, trivial, algebraic_MlpDh, trivial, algebraic_MlpOut,
  trivial, algebraic_Sb, trivial, algebraic_SbDh, trivial, algebraic_Ca, trivial, algebraic_CaDh, trivial, algebraic_Mla, trivial, algebraic_MlaDcq, trivial, algebraic_MlaDckv,
  trivial, algebraic_MlaAttn⟩

end Cert.Proof

end
